-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_FfnOutDx (m : (ℓ : Loc Cert.FfnOutDx.nD Cert.FfnOutDx.τ Cert.FfnOutDx.sig) → Buf (Elt Bits) ℓ) : Prop :=
  True

def Pre_FfnOutDxIdeal [hPre_ffn_out_dx_finite : Cert.Pre_ffn_out_dx_finite.Facts] (m : (ℓ : Loc Cert.FfnOutDxIdeal.nD Cert.FfnOutDxIdeal.τ Cert.FfnOutDxIdeal.sig) → Buf (Elt Ideal) ℓ) : Prop :=
  ∀ c : Dev Cert.FfnOutDxIdeal.nD,
    (Cert.Pre_ffn_out_dx_finite.fn (F := Ideal) (m ((c.tc : Thread Cert.FfnOutDxIdeal.nD Cert.FfnOutDxIdeal.τ).loc Cert.FfnOutDxIdeal.main_arg0)) (m ((c.tc : Thread Cert.FfnOutDxIdeal.nD Cert.FfnOutDxIdeal.τ).loc Cert.FfnOutDxIdeal.main_arg1)) (m ((c.tc : Thread Cert.FfnOutDxIdeal.nD Cert.FfnOutDxIdeal.τ).loc Cert.FfnOutDxIdeal.main_arg2))).1 = (fun _ => 1#1)
    ∧ (Cert.Pre_ffn_out_dx_finite.fn (F := Ideal) (m ((c.tc : Thread Cert.FfnOutDxIdeal.nD Cert.FfnOutDxIdeal.τ).loc Cert.FfnOutDxIdeal.main_arg0)) (m ((c.tc : Thread Cert.FfnOutDxIdeal.nD Cert.FfnOutDxIdeal.τ).loc Cert.FfnOutDxIdeal.main_arg1)) (m ((c.tc : Thread Cert.FfnOutDxIdeal.nD Cert.FfnOutDxIdeal.τ).loc Cert.FfnOutDxIdeal.main_arg2))).2.1 = (fun _ => 1#1)
    ∧ (Cert.Pre_ffn_out_dx_finite.fn (F := Ideal) (m ((c.tc : Thread Cert.FfnOutDxIdeal.nD Cert.FfnOutDxIdeal.τ).loc Cert.FfnOutDxIdeal.main_arg0)) (m ((c.tc : Thread Cert.FfnOutDxIdeal.nD Cert.FfnOutDxIdeal.τ).loc Cert.FfnOutDxIdeal.main_arg1)) (m ((c.tc : Thread Cert.FfnOutDxIdeal.nD Cert.FfnOutDxIdeal.τ).loc Cert.FfnOutDxIdeal.main_arg2))).2.2 = (fun _ => 1#1)

def Pre_FfnOutDxIdeal_none (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDxRefIdeal_ffn_out_dx_finite [hPre_ffn_out_dx_finite : Cert.Pre_ffn_out_dx_finite.Facts] (m : (ℓ : Loc Cert.FfnOutDxRefIdeal.nD Cert.FfnOutDxRefIdeal.τ Cert.FfnOutDxRefIdeal.sig) → Buf (Elt Ideal) ℓ) : Prop :=
  ∀ c : Dev Cert.FfnOutDxRefIdeal.nD,
    (Cert.Pre_ffn_out_dx_finite.fn (F := Ideal) (m ((c.tc : Thread Cert.FfnOutDxRefIdeal.nD Cert.FfnOutDxRefIdeal.τ).loc Cert.FfnOutDxRefIdeal.main_arg0)) (m ((c.tc : Thread Cert.FfnOutDxRefIdeal.nD Cert.FfnOutDxRefIdeal.τ).loc Cert.FfnOutDxRefIdeal.main_arg1)) (m ((c.tc : Thread Cert.FfnOutDxRefIdeal.nD Cert.FfnOutDxRefIdeal.τ).loc Cert.FfnOutDxRefIdeal.main_arg2))).1 = (fun _ => 1#1)
    ∧ (Cert.Pre_ffn_out_dx_finite.fn (F := Ideal) (m ((c.tc : Thread Cert.FfnOutDxRefIdeal.nD Cert.FfnOutDxRefIdeal.τ).loc Cert.FfnOutDxRefIdeal.main_arg0)) (m ((c.tc : Thread Cert.FfnOutDxRefIdeal.nD Cert.FfnOutDxRefIdeal.τ).loc Cert.FfnOutDxRefIdeal.main_arg1)) (m ((c.tc : Thread Cert.FfnOutDxRefIdeal.nD Cert.FfnOutDxRefIdeal.τ).loc Cert.FfnOutDxRefIdeal.main_arg2))).2.1 = (fun _ => 1#1)
    ∧ (Cert.Pre_ffn_out_dx_finite.fn (F := Ideal) (m ((c.tc : Thread Cert.FfnOutDxRefIdeal.nD Cert.FfnOutDxRefIdeal.τ).loc Cert.FfnOutDxRefIdeal.main_arg0)) (m ((c.tc : Thread Cert.FfnOutDxRefIdeal.nD Cert.FfnOutDxRefIdeal.τ).loc Cert.FfnOutDxRefIdeal.main_arg1)) (m ((c.tc : Thread Cert.FfnOutDxRefIdeal.nD Cert.FfnOutDxRefIdeal.τ).loc Cert.FfnOutDxRefIdeal.main_arg2))).2.2 = (fun _ => 1#1)

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Pw1Dw (m : (ℓ : Loc Cert.Pw1Dw.nD Cert.Pw1Dw.τ Cert.Pw1Dw.sig) → Buf (Elt Bits) ℓ) : Prop :=
  True

def Pre_Pw1DwIdeal (m : (ℓ : Loc Cert.Pw1DwIdeal.nD Cert.Pw1DwIdeal.τ Cert.Pw1DwIdeal.sig) → Buf (Elt Ideal) ℓ) : Prop :=
  True

def Pre_Pw1DwRefIdeal (m : (ℓ : Loc Cert.Pw1DwRefIdeal.nD Cert.Pw1DwRefIdeal.τ Cert.Pw1DwRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_Pw1Dx (m : (ℓ : Loc Cert.Pw1Dx.nD Cert.Pw1Dx.τ Cert.Pw1Dx.sig) → Buf (Elt Bits) ℓ) : Prop :=
  True

def Pre_Pw1DxIdeal (m : (ℓ : Loc Cert.Pw1DxIdeal.nD Cert.Pw1DxIdeal.τ Cert.Pw1DxIdeal.sig) → Buf (Elt Ideal) ℓ) : Prop :=
  True

def Pre_Pw1DxRefIdeal (m : (ℓ : Loc Cert.Pw1DxRefIdeal.nD Cert.Pw1DxRefIdeal.τ Cert.Pw1DxRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Pw2 (m : (ℓ : Loc Cert.Pw2.nD Cert.Pw2.τ Cert.Pw2.sig) → Buf (Elt Bits) ℓ) : Prop :=
  True

def Pre_Pw2Ideal (m : (ℓ : Loc Cert.Pw2Ideal.nD Cert.Pw2Ideal.τ Cert.Pw2Ideal.sig) → Buf (Elt Ideal) ℓ) : Prop :=
  True

def Pre_Pw2RefIdeal (m : (ℓ : Loc Cert.Pw2RefIdeal.nD Cert.Pw2RefIdeal.τ Cert.Pw2RefIdeal.sig) → Buf (Elt Ideal) ℓ) : Prop :=
  True

def Pre_Pw1 (m : (ℓ : Loc Cert.Pw1.nD Cert.Pw1.τ Cert.Pw1.sig) → Buf (Elt Bits) ℓ) : Prop :=
  True

def Pre_Pw1Ideal (m : (ℓ : Loc Cert.Pw1Ideal.nD Cert.Pw1Ideal.τ Cert.Pw1Ideal.sig) → Buf (Elt Ideal) ℓ) : Prop :=
  True

def Pre_Pw1RefIdeal (m : (ℓ : Loc Cert.Pw1RefIdeal.nD Cert.Pw1RefIdeal.τ Cert.Pw1RefIdeal.sig) → Buf (Elt Ideal) ℓ) : Prop :=
  True

def Pre_LossTail (m : (ℓ : Loc Cert.LossTail.nD Cert.LossTail.τ Cert.LossTail.sig) → Buf (Elt Bits) ℓ) : Prop :=
  True

def Pre_LossTailIdeal (m : (ℓ : Loc Cert.LossTailIdeal.nD Cert.LossTailIdeal.τ Cert.LossTailIdeal.sig) → Buf (Elt Ideal) ℓ) : Prop :=
  True

def Pre_LossTailRefIdeal (m : (ℓ : Loc Cert.LossTailRefIdeal.nD Cert.LossTailRefIdeal.τ Cert.LossTailRefIdeal.sig) → Buf (Elt Ideal) ℓ) : Prop :=
  True

def Pre_AdamCCtx (m : (ℓ : Loc Cert.AdamCCtx.nD Cert.AdamCCtx.τ Cert.AdamCCtx.sig) → Buf (Elt Bits) ℓ) : Prop :=
  True

def Pre_AdamCCtxIdeal (m : (ℓ : Loc Cert.AdamCCtxIdeal.nD Cert.AdamCCtxIdeal.τ Cert.AdamCCtxIdeal.sig) → Buf (Elt Ideal) ℓ) : Prop :=
  True

def Pre_AdamCCtxRefIdeal (m : (ℓ : Loc Cert.AdamCCtxRefIdeal.nD Cert.AdamCCtxRefIdeal.τ Cert.AdamCCtxRefIdeal.sig) → Buf (Elt Ideal) ℓ) : Prop :=
  True

def Pre_AdamWMod (m : (ℓ : Loc Cert.AdamWMod.nD Cert.AdamWMod.τ Cert.AdamWMod.sig) → Buf (Elt Bits) ℓ) : Prop :=
  True

def Pre_AdamWModIdeal (m : (ℓ : Loc Cert.AdamWModIdeal.nD Cert.AdamWModIdeal.τ Cert.AdamWModIdeal.sig) → Buf (Elt Ideal) ℓ) : Prop :=
  True

def Pre_AdamWModRefIdeal (m : (ℓ : Loc Cert.AdamWModRefIdeal.nD Cert.AdamWModRefIdeal.τ Cert.AdamWModRefIdeal.sig) → Buf (Elt Ideal) ℓ) : Prop :=
  True

def Pre_AdamBMod (m : (ℓ : Loc Cert.AdamBMod.nD Cert.AdamBMod.τ Cert.AdamBMod.sig) → Buf (Elt Bits) ℓ) : Prop :=
  True

def Pre_AdamBModIdeal (m : (ℓ : Loc Cert.AdamBModIdeal.nD Cert.AdamBModIdeal.τ Cert.AdamBModIdeal.sig) → Buf (Elt Ideal) ℓ) : Prop :=
  True

def Pre_AdamBModRefIdeal (m : (ℓ : Loc Cert.AdamBModRefIdeal.nD Cert.AdamBModRefIdeal.τ Cert.AdamBModRefIdeal.sig) → Buf (Elt Ideal) ℓ) : Prop :=
  True

def Pre_AdamGMix (m : (ℓ : Loc Cert.AdamGMix.nD Cert.AdamGMix.τ Cert.AdamGMix.sig) → Buf (Elt Bits) ℓ) : Prop :=
  True

def Pre_AdamGMixIdeal (m : (ℓ : Loc Cert.AdamGMixIdeal.nD Cert.AdamGMixIdeal.τ Cert.AdamGMixIdeal.sig) → Buf (Elt Ideal) ℓ) : Prop :=
  True

def Pre_AdamGMixRefIdeal (m : (ℓ : Loc Cert.AdamGMixRefIdeal.nD Cert.AdamGMixRefIdeal.τ Cert.AdamGMixRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamQGain (m : (ℓ : Loc Cert.AdamQGain.nD Cert.AdamQGain.τ Cert.AdamQGain.sig) → Buf (Elt Bits) ℓ) : Prop :=
  True

def Pre_AdamQGainIdeal (m : (ℓ : Loc Cert.AdamQGainIdeal.nD Cert.AdamQGainIdeal.τ Cert.AdamQGainIdeal.sig) → Buf (Elt Ideal) ℓ) : Prop :=
  True

def Pre_AdamQGainRefIdeal (m : (ℓ : Loc Cert.AdamQGainRefIdeal.nD Cert.AdamQGainRefIdeal.τ Cert.AdamQGainRefIdeal.sig) → Buf (Elt Ideal) ℓ) : Prop :=
  True

def Pre_AdamWSp (m : (ℓ : Loc Cert.AdamWSp.nD Cert.AdamWSp.τ Cert.AdamWSp.sig) → Buf (Elt Bits) ℓ) : Prop :=
  True

def Pre_AdamWSpIdeal (m : (ℓ : Loc Cert.AdamWSpIdeal.nD Cert.AdamWSpIdeal.τ Cert.AdamWSpIdeal.sig) → Buf (Elt Ideal) ℓ) : Prop :=
  True

def Pre_AdamWSpRefIdeal (m : (ℓ : Loc Cert.AdamWSpRefIdeal.nD Cert.AdamWSpRefIdeal.τ Cert.AdamWSpRefIdeal.sig) → Buf (Elt Ideal) ℓ) : Prop :=
  True

def Pre_AdamBSp (m : (ℓ : Loc Cert.AdamBSp.nD Cert.AdamBSp.τ Cert.AdamBSp.sig) → Buf (Elt Bits) ℓ) : Prop :=
  True

def Pre_AdamBSpIdeal (m : (ℓ : Loc Cert.AdamBSpIdeal.nD Cert.AdamBSpIdeal.τ Cert.AdamBSpIdeal.sig) → Buf (Elt Ideal) ℓ) : Prop :=
  True

def Pre_AdamBSpRefIdeal (m : (ℓ : Loc Cert.AdamBSpRefIdeal.nD Cert.AdamBSpRefIdeal.τ Cert.AdamBSpRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWPw1 (m : (ℓ : Loc Cert.AdamWPw1.nD Cert.AdamWPw1.τ Cert.AdamWPw1.sig) → Buf (Elt Bits) ℓ) : Prop :=
  True

def Pre_AdamWPw1Ideal (m : (ℓ : Loc Cert.AdamWPw1Ideal.nD Cert.AdamWPw1Ideal.τ Cert.AdamWPw1Ideal.sig) → Buf (Elt Ideal) ℓ) : Prop :=
  True

def Pre_AdamWPw1RefIdeal (m : (ℓ : Loc Cert.AdamWPw1RefIdeal.nD Cert.AdamWPw1RefIdeal.τ Cert.AdamWPw1RefIdeal.sig) → Buf (Elt Ideal) ℓ) : Prop :=
  True

def Pre_AdamBPw1 (m : (ℓ : Loc Cert.AdamBPw1.nD Cert.AdamBPw1.τ Cert.AdamBPw1.sig) → Buf (Elt Bits) ℓ) : Prop :=
  True

def Pre_AdamBPw1Ideal (m : (ℓ : Loc Cert.AdamBPw1Ideal.nD Cert.AdamBPw1Ideal.τ Cert.AdamBPw1Ideal.sig) → Buf (Elt Ideal) ℓ) : Prop :=
  True

def Pre_AdamBPw1RefIdeal (m : (ℓ : Loc Cert.AdamBPw1RefIdeal.nD Cert.AdamBPw1RefIdeal.τ Cert.AdamBPw1RefIdeal.sig) → Buf (Elt Ideal) ℓ) : Prop :=
  True

def Pre_AdamWDw (m : (ℓ : Loc Cert.AdamWDw.nD Cert.AdamWDw.τ Cert.AdamWDw.sig) → Buf (Elt Bits) ℓ) : Prop :=
  True

def Pre_AdamWDwIdeal (m : (ℓ : Loc Cert.AdamWDwIdeal.nD Cert.AdamWDwIdeal.τ Cert.AdamWDwIdeal.sig) → Buf (Elt Ideal) ℓ) : Prop :=
  True

def Pre_AdamWDwRefIdeal (m : (ℓ : Loc Cert.AdamWDwRefIdeal.nD Cert.AdamWDwRefIdeal.τ Cert.AdamWDwRefIdeal.sig) → Buf (Elt Ideal) ℓ) : Prop :=
  True

def Pre_AdamBDw (m : (ℓ : Loc Cert.AdamBDw.nD Cert.AdamBDw.τ Cert.AdamBDw.sig) → Buf (Elt Bits) ℓ) : Prop :=
  True

def Pre_AdamBDwIdeal (m : (ℓ : Loc Cert.AdamBDwIdeal.nD Cert.AdamBDwIdeal.τ Cert.AdamBDwIdeal.sig) → Buf (Elt Ideal) ℓ) : Prop :=
  True

def Pre_AdamBDwRefIdeal (m : (ℓ : Loc Cert.AdamBDwRefIdeal.nD Cert.AdamBDwRefIdeal.τ Cert.AdamBDwRefIdeal.sig) → Buf (Elt Ideal) ℓ) : Prop :=
  True

def Pre_LnSilu (m : (ℓ : Loc Cert.LnSilu.nD Cert.LnSilu.τ Cert.LnSilu.sig) → Buf (Elt Bits) ℓ) : Prop :=
  True

def Pre_LnSiluIdeal (m : (ℓ : Loc Cert.LnSiluIdeal.nD Cert.LnSiluIdeal.τ Cert.LnSiluIdeal.sig) → Buf (Elt Ideal) ℓ) : Prop :=
  True

def Pre_LnSiluRefIdeal (m : (ℓ : Loc Cert.LnSiluRefIdeal.nD Cert.LnSiluRefIdeal.τ Cert.LnSiluRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1)
      ∧ r.2.mem ((c.tc : Thread Cert.FfnOutDx.nD Cert.FfnOutDx.τ).loc Cert.FfnOutDx.main_arg2) = m ((c.tc : Thread Cert.FfnOutDx.nD Cert.FfnOutDx.τ).loc Cert.FfnOutDx.main_arg2))
      ∧ r.2.sem = fun _ => 0)

def quiescent_FfnOutDxIdeal [hFfnOutDxIdeal : Cert.FfnOutDxIdeal.Facts] [hPre_ffn_out_dx_finite : Cert.Pre_ffn_out_dx_finite.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ r.2.sem = fun _ => 0)

def quiescent_FfnOutDxIdeal_pre_none [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal_none m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2))
      ∧ r.2.sem = fun _ => 0)

def quiescent_FfnOutDxRefIdeal_pre_ffn_out_dx_finite [hFfnOutDxRefIdeal : Cert.FfnOutDxRefIdeal.Facts] [hPre_ffn_out_dx_finite : Cert.Pre_ffn_out_dx_finite.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal_ffn_out_dx_finite m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2)
      ∧ r.2.mem ((c.tc : Thread Cert.FfnInDx.nD Cert.FfnInDx.τ).loc Cert.FfnInDx.main_arg3) = m ((c.tc : Thread Cert.FfnInDx.nD Cert.FfnInDx.τ).loc Cert.FfnInDx.main_arg3)
      ∧ r.2.mem ((c.tc : Thread Cert.FfnInDx.nD Cert.FfnInDx.τ).loc Cert.FfnInDx.main_arg4) = m ((c.tc : Thread Cert.FfnInDx.nD Cert.FfnInDx.τ).loc Cert.FfnInDx.main_arg4)
      ∧ r.2.mem ((c.tc : Thread Cert.FfnInDx.nD Cert.FfnInDx.τ).loc Cert.FfnInDx.main_arg5) = m ((c.tc : Thread Cert.FfnInDx.nD Cert.FfnInDx.τ).loc Cert.FfnInDx.main_arg5)
      ∧ r.2.mem ((c.tc : Thread Cert.FfnInDx.nD Cert.FfnInDx.τ).loc Cert.FfnInDx.main_arg6) = m ((c.tc : Thread Cert.FfnInDx.nD Cert.FfnInDx.τ).loc Cert.FfnInDx.main_arg6)
      ∧ r.2.mem ((c.tc : Thread Cert.FfnInDx.nD Cert.FfnInDx.τ).loc Cert.FfnInDx.main_arg7) = m ((c.tc : Thread Cert.FfnInDx.nD Cert.FfnInDx.τ).loc Cert.FfnInDx.main_arg7))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
      ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3)
      ∧ r.2.mem ((c.tc : Thread Cert.FfnInDxIdeal.nD Cert.FfnInDxIdeal.τ).loc Cert.FfnInDxIdeal.main_arg4) = m ((c.tc : Thread Cert.FfnInDxIdeal.nD Cert.FfnInDxIdeal.τ).loc Cert.FfnInDxIdeal.main_arg4)
      ∧ r.2.mem ((c.tc : Thread Cert.FfnInDxIdeal.nD Cert.FfnInDxIdeal.τ).loc Cert.FfnInDxIdeal.main_arg5) = m ((c.tc : Thread Cert.FfnInDxIdeal.nD Cert.FfnInDxIdeal.τ).loc Cert.FfnInDxIdeal.main_arg5)
      ∧ r.2.mem ((c.tc : Thread Cert.FfnInDxIdeal.nD Cert.FfnInDxIdeal.τ).loc Cert.FfnInDxIdeal.main_arg6) = m ((c.tc : Thread Cert.FfnInDxIdeal.nD Cert.FfnInDxIdeal.τ).loc Cert.FfnInDxIdeal.main_arg6)
      ∧ r.2.mem ((c.tc : Thread Cert.FfnInDxIdeal.nD Cert.FfnInDxIdeal.τ).loc Cert.FfnInDxIdeal.main_arg7) = m ((c.tc : Thread Cert.FfnInDxIdeal.nD Cert.FfnInDxIdeal.τ).loc Cert.FfnInDxIdeal.main_arg7))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2)
      ∧ r.2.mem ((c.tc : Thread Cert.FfnInDxRefIdeal.nD Cert.FfnInDxRefIdeal.τ).loc Cert.FfnInDxRefIdeal.main_arg3) = m ((c.tc : Thread Cert.FfnInDxRefIdeal.nD Cert.FfnInDxRefIdeal.τ).loc Cert.FfnInDxRefIdeal.main_arg3)
      ∧ r.2.mem ((c.tc : Thread Cert.FfnInDxRefIdeal.nD Cert.FfnInDxRefIdeal.τ).loc Cert.FfnInDxRefIdeal.main_arg4) = m ((c.tc : Thread Cert.FfnInDxRefIdeal.nD Cert.FfnInDxRefIdeal.τ).loc Cert.FfnInDxRefIdeal.main_arg4)
      ∧ r.2.mem ((c.tc : Thread Cert.FfnInDxRefIdeal.nD Cert.FfnInDxRefIdeal.τ).loc Cert.FfnInDxRefIdeal.main_arg5) = m ((c.tc : Thread Cert.FfnInDxRefIdeal.nD Cert.FfnInDxRefIdeal.τ).loc Cert.FfnInDxRefIdeal.main_arg5)
      ∧ r.2.mem ((c.tc : Thread Cert.FfnInDxRefIdeal.nD Cert.FfnInDxRefIdeal.τ).loc Cert.FfnInDxRefIdeal.main_arg6) = m ((c.tc : Thread Cert.FfnInDxRefIdeal.nD Cert.FfnInDxRefIdeal.τ).loc Cert.FfnInDxRefIdeal.main_arg6)
      ∧ r.2.mem ((c.tc : Thread Cert.FfnInDxRefIdeal.nD Cert.FfnInDxRefIdeal.τ).loc Cert.FfnInDxRefIdeal.main_arg7) = m ((c.tc : Thread Cert.FfnInDxRefIdeal.nD Cert.FfnInDxRefIdeal.τ).loc Cert.FfnInDxRefIdeal.main_arg7))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Pw1Dw [hPw1Dw : Cert.Pw1Dw.Facts] : Prop :=
  ∀ (m : (ℓ : Loc Cert.Pw1Dw.nD Cert.Pw1Dw.τ Cert.Pw1Dw.sig) → Buf (Elt Bits) ℓ) (g : Dev Cert.Pw1Dw.nD → PrngReg), Pre_Pw1Dw m →
    θ_run (Cert.Pw1Dw.defs (F := Bits)) (onTc (τ := Cert.Pw1Dw.τ) (Cert.Pw1Dw.main (F := Bits))) ⟨m, fun _ => 0, g⟩ (fun r => (∀ c : Dev Cert.Pw1Dw.nD,
      r.2.mem ((c.tc : Thread Cert.Pw1Dw.nD Cert.Pw1Dw.τ).loc Cert.Pw1Dw.main_arg0) = m ((c.tc : Thread Cert.Pw1Dw.nD Cert.Pw1Dw.τ).loc Cert.Pw1Dw.main_arg0)
      ∧ r.2.mem ((c.tc : Thread Cert.Pw1Dw.nD Cert.Pw1Dw.τ).loc Cert.Pw1Dw.main_arg1) = m ((c.tc : Thread Cert.Pw1Dw.nD Cert.Pw1Dw.τ).loc Cert.Pw1Dw.main_arg1))
      ∧ r.2.sem = fun _ => 0)

def quiescent_Pw1DwIdeal [hPw1DwIdeal : Cert.Pw1DwIdeal.Facts] : Prop :=
  ∀ (m : (ℓ : Loc Cert.Pw1DwIdeal.nD Cert.Pw1DwIdeal.τ Cert.Pw1DwIdeal.sig) → Buf (Elt Ideal) ℓ) (g : Dev Cert.Pw1DwIdeal.nD → PrngReg), Pre_Pw1DwIdeal m →
    θ_run (Cert.Pw1DwIdeal.defs (F := Ideal)) (onTc (τ := Cert.Pw1DwIdeal.τ) (Cert.Pw1DwIdeal.main (F := Ideal))) ⟨m, fun _ => 0, g⟩ (fun r => (∀ c : Dev Cert.Pw1DwIdeal.nD,
      r.2.mem ((c.tc : Thread Cert.Pw1DwIdeal.nD Cert.Pw1DwIdeal.τ).loc Cert.Pw1DwIdeal.main_arg0) = m ((c.tc : Thread Cert.Pw1DwIdeal.nD Cert.Pw1DwIdeal.τ).loc Cert.Pw1DwIdeal.main_arg0)
      ∧ r.2.mem ((c.tc : Thread Cert.Pw1DwIdeal.nD Cert.Pw1DwIdeal.τ).loc Cert.Pw1DwIdeal.main_arg1) = m ((c.tc : Thread Cert.Pw1DwIdeal.nD Cert.Pw1DwIdeal.τ).loc Cert.Pw1DwIdeal.main_arg1))
      ∧ r.2.sem = fun _ => 0)

def quiescent_Pw1DwRefIdeal [hPw1DwRefIdeal : Cert.Pw1DwRefIdeal.Facts] : Prop :=
  ∀ (m : (ℓ : Loc Cert.Pw1DwRefIdeal.nD Cert.Pw1DwRefIdeal.τ Cert.Pw1DwRefIdeal.sig) → Buf (Elt Ideal) ℓ) (g : Dev Cert.Pw1DwRefIdeal.nD → PrngReg), Pre_Pw1DwRefIdeal m →
    θ_run (Cert.Pw1DwRefIdeal.defs (F := Ideal)) (onTc (τ := Cert.Pw1DwRefIdeal.τ) (Cert.Pw1DwRefIdeal.main (F := Ideal))) ⟨m, fun _ => 0, g⟩ (fun r => (∀ c : Dev Cert.Pw1DwRefIdeal.nD,
      r.2.mem ((c.tc : Thread Cert.Pw1DwRefIdeal.nD Cert.Pw1DwRefIdeal.τ).loc Cert.Pw1DwRefIdeal.main_arg0) = m ((c.tc : Thread Cert.Pw1DwRefIdeal.nD Cert.Pw1DwRefIdeal.τ).loc Cert.Pw1DwRefIdeal.main_arg0)
      ∧ r.2.mem ((c.tc : Thread Cert.Pw1DwRefIdeal.nD Cert.Pw1DwRefIdeal.τ).loc Cert.Pw1DwRefIdeal.main_arg1) = m ((c.tc : Thread Cert.Pw1DwRefIdeal.nD Cert.Pw1DwRefIdeal.τ).loc Cert.Pw1DwRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_Pw1Dx [hPw1Dx : Cert.Pw1Dx.Facts] : Prop :=
  ∀ (m : (ℓ : Loc Cert.Pw1Dx.nD Cert.Pw1Dx.τ Cert.Pw1Dx.sig) → Buf (Elt Bits) ℓ) (g : Dev Cert.Pw1Dx.nD → PrngReg), Pre_Pw1Dx m →
    θ_run (Cert.Pw1Dx.defs (F := Bits)) (onTc (τ := Cert.Pw1Dx.τ) (Cert.Pw1Dx.main (F := Bits))) ⟨m, fun _ => 0, g⟩ (fun r => (∀ c : Dev Cert.Pw1Dx.nD,
      r.2.mem ((c.tc : Thread Cert.Pw1Dx.nD Cert.Pw1Dx.τ).loc Cert.Pw1Dx.main_arg0) = m ((c.tc : Thread Cert.Pw1Dx.nD Cert.Pw1Dx.τ).loc Cert.Pw1Dx.main_arg0)
      ∧ r.2.mem ((c.tc : Thread Cert.Pw1Dx.nD Cert.Pw1Dx.τ).loc Cert.Pw1Dx.main_arg1) = m ((c.tc : Thread Cert.Pw1Dx.nD Cert.Pw1Dx.τ).loc Cert.Pw1Dx.main_arg1)
      ∧ r.2.mem ((c.tc : Thread Cert.Pw1Dx.nD Cert.Pw1Dx.τ).loc Cert.Pw1Dx.main_arg2) = m ((c.tc : Thread Cert.Pw1Dx.nD Cert.Pw1Dx.τ).loc Cert.Pw1Dx.main_arg2)
      ∧ r.2.mem ((c.tc : Thread Cert.Pw1Dx.nD Cert.Pw1Dx.τ).loc Cert.Pw1Dx.main_arg3) = m ((c.tc : Thread Cert.Pw1Dx.nD Cert.Pw1Dx.τ).loc Cert.Pw1Dx.main_arg3)
      ∧ r.2.mem ((c.tc : Thread Cert.Pw1Dx.nD Cert.Pw1Dx.τ).loc Cert.Pw1Dx.main_arg4) = m ((c.tc : Thread Cert.Pw1Dx.nD Cert.Pw1Dx.τ).loc Cert.Pw1Dx.main_arg4)
      ∧ r.2.mem ((c.tc : Thread Cert.Pw1Dx.nD Cert.Pw1Dx.τ).loc Cert.Pw1Dx.main_arg5) = m ((c.tc : Thread Cert.Pw1Dx.nD Cert.Pw1Dx.τ).loc Cert.Pw1Dx.main_arg5)
      ∧ r.2.mem ((c.tc : Thread Cert.Pw1Dx.nD Cert.Pw1Dx.τ).loc Cert.Pw1Dx.main_arg6) = m ((c.tc : Thread Cert.Pw1Dx.nD Cert.Pw1Dx.τ).loc Cert.Pw1Dx.main_arg6)
      ∧ r.2.mem ((c.tc : Thread Cert.Pw1Dx.nD Cert.Pw1Dx.τ).loc Cert.Pw1Dx.main_arg7) = m ((c.tc : Thread Cert.Pw1Dx.nD Cert.Pw1Dx.τ).loc Cert.Pw1Dx.main_arg7))
      ∧ r.2.sem = fun _ => 0)

def quiescent_Pw1DxIdeal [hPw1DxIdeal : Cert.Pw1DxIdeal.Facts] : Prop :=
  ∀ (m : (ℓ : Loc Cert.Pw1DxIdeal.nD Cert.Pw1DxIdeal.τ Cert.Pw1DxIdeal.sig) → Buf (Elt Ideal) ℓ) (g : Dev Cert.Pw1DxIdeal.nD → PrngReg), Pre_Pw1DxIdeal m →
    θ_run (Cert.Pw1DxIdeal.defs (F := Ideal)) (onTc (τ := Cert.Pw1DxIdeal.τ) (Cert.Pw1DxIdeal.main (F := Ideal))) ⟨m, fun _ => 0, g⟩ (fun r => (∀ c : Dev Cert.Pw1DxIdeal.nD,
      r.2.mem ((c.tc : Thread Cert.Pw1DxIdeal.nD Cert.Pw1DxIdeal.τ).loc Cert.Pw1DxIdeal.main_arg0) = m ((c.tc : Thread Cert.Pw1DxIdeal.nD Cert.Pw1DxIdeal.τ).loc Cert.Pw1DxIdeal.main_arg0)
      ∧ r.2.mem ((c.tc : Thread Cert.Pw1DxIdeal.nD Cert.Pw1DxIdeal.τ).loc Cert.Pw1DxIdeal.main_arg1) = m ((c.tc : Thread Cert.Pw1DxIdeal.nD Cert.Pw1DxIdeal.τ).loc Cert.Pw1DxIdeal.main_arg1)
      ∧ r.2.mem ((c.tc : Thread Cert.Pw1DxIdeal.nD Cert.Pw1DxIdeal.τ).loc Cert.Pw1DxIdeal.main_arg2) = m ((c.tc : Thread Cert.Pw1DxIdeal.nD Cert.Pw1DxIdeal.τ).loc Cert.Pw1DxIdeal.main_arg2)
      ∧ r.2.mem ((c.tc : Thread Cert.Pw1DxIdeal.nD Cert.Pw1DxIdeal.τ).loc Cert.Pw1DxIdeal.main_arg3) = m ((c.tc : Thread Cert.Pw1DxIdeal.nD Cert.Pw1DxIdeal.τ).loc Cert.Pw1DxIdeal.main_arg3)
      ∧ r.2.mem ((c.tc : Thread Cert.Pw1DxIdeal.nD Cert.Pw1DxIdeal.τ).loc Cert.Pw1DxIdeal.main_arg4) = m ((c.tc : Thread Cert.Pw1DxIdeal.nD Cert.Pw1DxIdeal.τ).loc Cert.Pw1DxIdeal.main_arg4)
      ∧ r.2.mem ((c.tc : Thread Cert.Pw1DxIdeal.nD Cert.Pw1DxIdeal.τ).loc Cert.Pw1DxIdeal.main_arg5) = m ((c.tc : Thread Cert.Pw1DxIdeal.nD Cert.Pw1DxIdeal.τ).loc Cert.Pw1DxIdeal.main_arg5)
      ∧ r.2.mem ((c.tc : Thread Cert.Pw1DxIdeal.nD Cert.Pw1DxIdeal.τ).loc Cert.Pw1DxIdeal.main_arg6) = m ((c.tc : Thread Cert.Pw1DxIdeal.nD Cert.Pw1DxIdeal.τ).loc Cert.Pw1DxIdeal.main_arg6)
      ∧ r.2.mem ((c.tc : Thread Cert.Pw1DxIdeal.nD Cert.Pw1DxIdeal.τ).loc Cert.Pw1DxIdeal.main_arg7) = m ((c.tc : Thread Cert.Pw1DxIdeal.nD Cert.Pw1DxIdeal.τ).loc Cert.Pw1DxIdeal.main_arg7))
      ∧ r.2.sem = fun _ => 0)

def quiescent_Pw1DxRefIdeal [hPw1DxRefIdeal : Cert.Pw1DxRefIdeal.Facts] : Prop :=
  ∀ (m : (ℓ : Loc Cert.Pw1DxRefIdeal.nD Cert.Pw1DxRefIdeal.τ Cert.Pw1DxRefIdeal.sig) → Buf (Elt Ideal) ℓ) (g : Dev Cert.Pw1DxRefIdeal.nD → PrngReg), Pre_Pw1DxRefIdeal m →
    θ_run (Cert.Pw1DxRefIdeal.defs (F := Ideal)) (onTc (τ := Cert.Pw1DxRefIdeal.τ) (Cert.Pw1DxRefIdeal.main (F := Ideal))) ⟨m, fun _ => 0, g⟩ (fun r => (∀ c : Dev Cert.Pw1DxRefIdeal.nD,
      r.2.mem ((c.tc : Thread Cert.Pw1DxRefIdeal.nD Cert.Pw1DxRefIdeal.τ).loc Cert.Pw1DxRefIdeal.main_arg0) = m ((c.tc : Thread Cert.Pw1DxRefIdeal.nD Cert.Pw1DxRefIdeal.τ).loc Cert.Pw1DxRefIdeal.main_arg0)
      ∧ r.2.mem ((c.tc : Thread Cert.Pw1DxRefIdeal.nD Cert.Pw1DxRefIdeal.τ).loc Cert.Pw1DxRefIdeal.main_arg1) = m ((c.tc : Thread Cert.Pw1DxRefIdeal.nD Cert.Pw1DxRefIdeal.τ).loc Cert.Pw1DxRefIdeal.main_arg1)
      ∧ r.2.mem ((c.tc : Thread Cert.Pw1DxRefIdeal.nD Cert.Pw1DxRefIdeal.τ).loc Cert.Pw1DxRefIdeal.main_arg2) = m ((c.tc : Thread Cert.Pw1DxRefIdeal.nD Cert.Pw1DxRefIdeal.τ).loc Cert.Pw1DxRefIdeal.main_arg2)
      ∧ r.2.mem ((c.tc : Thread Cert.Pw1DxRefIdeal.nD Cert.Pw1DxRefIdeal.τ).loc Cert.Pw1DxRefIdeal.main_arg3) = m ((c.tc : Thread Cert.Pw1DxRefIdeal.nD Cert.Pw1DxRefIdeal.τ).loc Cert.Pw1DxRefIdeal.main_arg3)
      ∧ r.2.mem ((c.tc : Thread Cert.Pw1DxRefIdeal.nD Cert.Pw1DxRefIdeal.τ).loc Cert.Pw1DxRefIdeal.main_arg4) = m ((c.tc : Thread Cert.Pw1DxRefIdeal.nD Cert.Pw1DxRefIdeal.τ).loc Cert.Pw1DxRefIdeal.main_arg4)
      ∧ r.2.mem ((c.tc : Thread Cert.Pw1DxRefIdeal.nD Cert.Pw1DxRefIdeal.τ).loc Cert.Pw1DxRefIdeal.main_arg5) = m ((c.tc : Thread Cert.Pw1DxRefIdeal.nD Cert.Pw1DxRefIdeal.τ).loc Cert.Pw1DxRefIdeal.main_arg5)
      ∧ r.2.mem ((c.tc : Thread Cert.Pw1DxRefIdeal.nD Cert.Pw1DxRefIdeal.τ).loc Cert.Pw1DxRefIdeal.main_arg6) = m ((c.tc : Thread Cert.Pw1DxRefIdeal.nD Cert.Pw1DxRefIdeal.τ).loc Cert.Pw1DxRefIdeal.main_arg6)
      ∧ r.2.mem ((c.tc : Thread Cert.Pw1DxRefIdeal.nD Cert.Pw1DxRefIdeal.τ).loc Cert.Pw1DxRefIdeal.main_arg7) = m ((c.tc : Thread Cert.Pw1DxRefIdeal.nD Cert.Pw1DxRefIdeal.τ).loc Cert.Pw1DxRefIdeal.main_arg7))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5)
      ∧ r.2.mem ((c.tc : Thread Cert.FfnOut.nD Cert.FfnOut.τ).loc Cert.FfnOut.main_arg6) = m ((c.tc : Thread Cert.FfnOut.nD Cert.FfnOut.τ).loc Cert.FfnOut.main_arg6))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
      ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5)
      ∧ r.2.mem ((c.tc : Thread Cert.FfnOutRefIdeal.nD Cert.FfnOutRefIdeal.τ).loc Cert.FfnOutRefIdeal.main_arg6) = m ((c.tc : Thread Cert.FfnOutRefIdeal.nD Cert.FfnOutRefIdeal.τ).loc Cert.FfnOutRefIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_Pw2 [hPw2 : Cert.Pw2.Facts] : Prop :=
  ∀ (m : (ℓ : Loc Cert.Pw2.nD Cert.Pw2.τ Cert.Pw2.sig) → Buf (Elt Bits) ℓ) (g : Dev Cert.Pw2.nD → PrngReg), Pre_Pw2 m →
    θ_run (Cert.Pw2.defs (F := Bits)) (onTc (τ := Cert.Pw2.τ) (Cert.Pw2.main (F := Bits))) ⟨m, fun _ => 0, g⟩ (fun r => (∀ c : Dev Cert.Pw2.nD,
      r.2.mem ((c.tc : Thread Cert.Pw2.nD Cert.Pw2.τ).loc Cert.Pw2.main_arg0) = m ((c.tc : Thread Cert.Pw2.nD Cert.Pw2.τ).loc Cert.Pw2.main_arg0)
      ∧ r.2.mem ((c.tc : Thread Cert.Pw2.nD Cert.Pw2.τ).loc Cert.Pw2.main_arg1) = m ((c.tc : Thread Cert.Pw2.nD Cert.Pw2.τ).loc Cert.Pw2.main_arg1)
      ∧ r.2.mem ((c.tc : Thread Cert.Pw2.nD Cert.Pw2.τ).loc Cert.Pw2.main_arg2) = m ((c.tc : Thread Cert.Pw2.nD Cert.Pw2.τ).loc Cert.Pw2.main_arg2)
      ∧ r.2.mem ((c.tc : Thread Cert.Pw2.nD Cert.Pw2.τ).loc Cert.Pw2.main_arg3) = m ((c.tc : Thread Cert.Pw2.nD Cert.Pw2.τ).loc Cert.Pw2.main_arg3)
      ∧ r.2.mem ((c.tc : Thread Cert.Pw2.nD Cert.Pw2.τ).loc Cert.Pw2.main_arg4) = m ((c.tc : Thread Cert.Pw2.nD Cert.Pw2.τ).loc Cert.Pw2.main_arg4)
      ∧ r.2.mem ((c.tc : Thread Cert.Pw2.nD Cert.Pw2.τ).loc Cert.Pw2.main_arg5) = m ((c.tc : Thread Cert.Pw2.nD Cert.Pw2.τ).loc Cert.Pw2.main_arg5)
      ∧ r.2.mem ((c.tc : Thread Cert.Pw2.nD Cert.Pw2.τ).loc Cert.Pw2.main_arg6) = m ((c.tc : Thread Cert.Pw2.nD Cert.Pw2.τ).loc Cert.Pw2.main_arg6)
      ∧ r.2.mem ((c.tc : Thread Cert.Pw2.nD Cert.Pw2.τ).loc Cert.Pw2.main_arg7) = m ((c.tc : Thread Cert.Pw2.nD Cert.Pw2.τ).loc Cert.Pw2.main_arg7))
      ∧ r.2.sem = fun _ => 0)

def quiescent_Pw2Ideal [hPw2Ideal : Cert.Pw2Ideal.Facts] : Prop :=
  ∀ (m : (ℓ : Loc Cert.Pw2Ideal.nD Cert.Pw2Ideal.τ Cert.Pw2Ideal.sig) → Buf (Elt Ideal) ℓ) (g : Dev Cert.Pw2Ideal.nD → PrngReg), Pre_Pw2Ideal m →
    θ_run (Cert.Pw2Ideal.defs (F := Ideal)) (onTc (τ := Cert.Pw2Ideal.τ) (Cert.Pw2Ideal.main (F := Ideal))) ⟨m, fun _ => 0, g⟩ (fun r => (∀ c : Dev Cert.Pw2Ideal.nD,
      r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
      ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
      ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2)
      ∧ r.2.mem ((c.tc : Thread Cert.Pw2Ideal.nD Cert.Pw2Ideal.τ).loc Cert.Pw2Ideal.main_arg3) = m ((c.tc : Thread Cert.Pw2Ideal.nD Cert.Pw2Ideal.τ).loc Cert.Pw2Ideal.main_arg3)
      ∧ r.2.mem ((c.tc : Thread Cert.Pw2Ideal.nD Cert.Pw2Ideal.τ).loc Cert.Pw2Ideal.main_arg4) = m ((c.tc : Thread Cert.Pw2Ideal.nD Cert.Pw2Ideal.τ).loc Cert.Pw2Ideal.main_arg4)
      ∧ r.2.mem ((c.tc : Thread Cert.Pw2Ideal.nD Cert.Pw2Ideal.τ).loc Cert.Pw2Ideal.main_arg5) = m ((c.tc : Thread Cert.Pw2Ideal.nD Cert.Pw2Ideal.τ).loc Cert.Pw2Ideal.main_arg5)
      ∧ r.2.mem ((c.tc : Thread Cert.Pw2Ideal.nD Cert.Pw2Ideal.τ).loc Cert.Pw2Ideal.main_arg6) = m ((c.tc : Thread Cert.Pw2Ideal.nD Cert.Pw2Ideal.τ).loc Cert.Pw2Ideal.main_arg6)
      ∧ r.2.mem ((c.tc : Thread Cert.Pw2Ideal.nD Cert.Pw2Ideal.τ).loc Cert.Pw2Ideal.main_arg7) = m ((c.tc : Thread Cert.Pw2Ideal.nD Cert.Pw2Ideal.τ).loc Cert.Pw2Ideal.main_arg7))
      ∧ r.2.sem = fun _ => 0)

def quiescent_Pw2RefIdeal [hPw2RefIdeal : Cert.Pw2RefIdeal.Facts] : Prop :=
  ∀ (m : (ℓ : Loc Cert.Pw2RefIdeal.nD Cert.Pw2RefIdeal.τ Cert.Pw2RefIdeal.sig) → Buf (Elt Ideal) ℓ) (g : Dev Cert.Pw2RefIdeal.nD → PrngReg), Pre_Pw2RefIdeal m →
    θ_run (Cert.Pw2RefIdeal.defs (F := Ideal)) (onTc (τ := Cert.Pw2RefIdeal.τ) (Cert.Pw2RefIdeal.main (F := Ideal))) ⟨m, fun _ => 0, g⟩ (fun r => (∀ c : Dev Cert.Pw2RefIdeal.nD,
      r.2.mem ((c.tc : Thread Cert.Pw2RefIdeal.nD Cert.Pw2RefIdeal.τ).loc Cert.Pw2RefIdeal.main_arg0) = m ((c.tc : Thread Cert.Pw2RefIdeal.nD Cert.Pw2RefIdeal.τ).loc Cert.Pw2RefIdeal.main_arg0)
      ∧ r.2.mem ((c.tc : Thread Cert.Pw2RefIdeal.nD Cert.Pw2RefIdeal.τ).loc Cert.Pw2RefIdeal.main_arg1) = m ((c.tc : Thread Cert.Pw2RefIdeal.nD Cert.Pw2RefIdeal.τ).loc Cert.Pw2RefIdeal.main_arg1)
      ∧ r.2.mem ((c.tc : Thread Cert.Pw2RefIdeal.nD Cert.Pw2RefIdeal.τ).loc Cert.Pw2RefIdeal.main_arg2) = m ((c.tc : Thread Cert.Pw2RefIdeal.nD Cert.Pw2RefIdeal.τ).loc Cert.Pw2RefIdeal.main_arg2)
      ∧ r.2.mem ((c.tc : Thread Cert.Pw2RefIdeal.nD Cert.Pw2RefIdeal.τ).loc Cert.Pw2RefIdeal.main_arg3) = m ((c.tc : Thread Cert.Pw2RefIdeal.nD Cert.Pw2RefIdeal.τ).loc Cert.Pw2RefIdeal.main_arg3)
      ∧ r.2.mem ((c.tc : Thread Cert.Pw2RefIdeal.nD Cert.Pw2RefIdeal.τ).loc Cert.Pw2RefIdeal.main_arg4) = m ((c.tc : Thread Cert.Pw2RefIdeal.nD Cert.Pw2RefIdeal.τ).loc Cert.Pw2RefIdeal.main_arg4)
      ∧ r.2.mem ((c.tc : Thread Cert.Pw2RefIdeal.nD Cert.Pw2RefIdeal.τ).loc Cert.Pw2RefIdeal.main_arg5) = m ((c.tc : Thread Cert.Pw2RefIdeal.nD Cert.Pw2RefIdeal.τ).loc Cert.Pw2RefIdeal.main_arg5)
      ∧ r.2.mem ((c.tc : Thread Cert.Pw2RefIdeal.nD Cert.Pw2RefIdeal.τ).loc Cert.Pw2RefIdeal.main_arg6) = m ((c.tc : Thread Cert.Pw2RefIdeal.nD Cert.Pw2RefIdeal.τ).loc Cert.Pw2RefIdeal.main_arg6)
      ∧ r.2.mem ((c.tc : Thread Cert.Pw2RefIdeal.nD Cert.Pw2RefIdeal.τ).loc Cert.Pw2RefIdeal.main_arg7) = m ((c.tc : Thread Cert.Pw2RefIdeal.nD Cert.Pw2RefIdeal.τ).loc Cert.Pw2RefIdeal.main_arg7))
      ∧ r.2.sem = fun _ => 0)

def quiescent_Pw1 [hPw1 : Cert.Pw1.Facts] : Prop :=
  ∀ (m : (ℓ : Loc Cert.Pw1.nD Cert.Pw1.τ Cert.Pw1.sig) → Buf (Elt Bits) ℓ) (g : Dev Cert.Pw1.nD → PrngReg), Pre_Pw1 m →
    θ_run (Cert.Pw1.defs (F := Bits)) (onTc (τ := Cert.Pw1.τ) (Cert.Pw1.main (F := Bits))) ⟨m, fun _ => 0, g⟩ (fun r => (∀ c : Dev Cert.Pw1.nD,
      r.2.mem ((c.tc : Thread Cert.Pw1.nD Cert.Pw1.τ).loc Cert.Pw1.main_arg0) = m ((c.tc : Thread Cert.Pw1.nD Cert.Pw1.τ).loc Cert.Pw1.main_arg0)
      ∧ r.2.mem ((c.tc : Thread Cert.Pw1.nD Cert.Pw1.τ).loc Cert.Pw1.main_arg1) = m ((c.tc : Thread Cert.Pw1.nD Cert.Pw1.τ).loc Cert.Pw1.main_arg1)
      ∧ r.2.mem ((c.tc : Thread Cert.Pw1.nD Cert.Pw1.τ).loc Cert.Pw1.main_arg2) = m ((c.tc : Thread Cert.Pw1.nD Cert.Pw1.τ).loc Cert.Pw1.main_arg2))
      ∧ r.2.sem = fun _ => 0)

def quiescent_Pw1Ideal [hPw1Ideal : Cert.Pw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
      ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2))
      ∧ r.2.sem = fun _ => 0)

def quiescent_Pw1RefIdeal [hPw1RefIdeal : Cert.Pw1RefIdeal.Facts] : Prop :=
  ∀ (m : (ℓ : Loc Cert.Pw1RefIdeal.nD Cert.Pw1RefIdeal.τ Cert.Pw1RefIdeal.sig) → Buf (Elt Ideal) ℓ) (g : Dev Cert.Pw1RefIdeal.nD → PrngReg), Pre_Pw1RefIdeal m →
    θ_run (Cert.Pw1RefIdeal.defs (F := Ideal)) (onTc (τ := Cert.Pw1RefIdeal.τ) (Cert.Pw1RefIdeal.main (F := Ideal))) ⟨m, fun _ => 0, g⟩ (fun r => (∀ c : Dev Cert.Pw1RefIdeal.nD,
      r.2.mem ((c.tc : Thread Cert.Pw1RefIdeal.nD Cert.Pw1RefIdeal.τ).loc Cert.Pw1RefIdeal.main_arg0) = m ((c.tc : Thread Cert.Pw1RefIdeal.nD Cert.Pw1RefIdeal.τ).loc Cert.Pw1RefIdeal.main_arg0)
      ∧ r.2.mem ((c.tc : Thread Cert.Pw1RefIdeal.nD Cert.Pw1RefIdeal.τ).loc Cert.Pw1RefIdeal.main_arg1) = m ((c.tc : Thread Cert.Pw1RefIdeal.nD Cert.Pw1RefIdeal.τ).loc Cert.Pw1RefIdeal.main_arg1)
      ∧ r.2.mem ((c.tc : Thread Cert.Pw1RefIdeal.nD Cert.Pw1RefIdeal.τ).loc Cert.Pw1RefIdeal.main_arg2) = m ((c.tc : Thread Cert.Pw1RefIdeal.nD Cert.Pw1RefIdeal.τ).loc Cert.Pw1RefIdeal.main_arg2))
      ∧ r.2.sem = fun _ => 0)

def quiescent_LossTail [hLossTail : Cert.LossTail.Facts] : Prop :=
  ∀ (m : (ℓ : Loc Cert.LossTail.nD Cert.LossTail.τ Cert.LossTail.sig) → Buf (Elt Bits) ℓ) (g : Dev Cert.LossTail.nD → PrngReg), Pre_LossTail m →
    θ_run (Cert.LossTail.defs (F := Bits)) (onTc (τ := Cert.LossTail.τ) (Cert.LossTail.main (F := Bits))) ⟨m, fun _ => 0, g⟩ (fun r => (∀ c : Dev Cert.LossTail.nD,
      r.2.mem ((c.tc : Thread Cert.LossTail.nD Cert.LossTail.τ).loc Cert.LossTail.main_arg0) = m ((c.tc : Thread Cert.LossTail.nD Cert.LossTail.τ).loc Cert.LossTail.main_arg0)
      ∧ r.2.mem ((c.tc : Thread Cert.LossTail.nD Cert.LossTail.τ).loc Cert.LossTail.main_arg1) = m ((c.tc : Thread Cert.LossTail.nD Cert.LossTail.τ).loc Cert.LossTail.main_arg1)
      ∧ r.2.mem ((c.tc : Thread Cert.LossTail.nD Cert.LossTail.τ).loc Cert.LossTail.main_arg2) = m ((c.tc : Thread Cert.LossTail.nD Cert.LossTail.τ).loc Cert.LossTail.main_arg2)
      ∧ r.2.mem ((c.tc : Thread Cert.LossTail.nD Cert.LossTail.τ).loc Cert.LossTail.main_arg3) = m ((c.tc : Thread Cert.LossTail.nD Cert.LossTail.τ).loc Cert.LossTail.main_arg3)
      ∧ r.2.mem ((c.tc : Thread Cert.LossTail.nD Cert.LossTail.τ).loc Cert.LossTail.main_arg4) = m ((c.tc : Thread Cert.LossTail.nD Cert.LossTail.τ).loc Cert.LossTail.main_arg4)
      ∧ r.2.mem ((c.tc : Thread Cert.LossTail.nD Cert.LossTail.τ).loc Cert.LossTail.main_arg5) = m ((c.tc : Thread Cert.LossTail.nD Cert.LossTail.τ).loc Cert.LossTail.main_arg5))
      ∧ r.2.sem = fun _ => 0)

def quiescent_LossTailIdeal [hLossTailIdeal : Cert.LossTailIdeal.Facts] : Prop :=
  ∀ (m : (ℓ : Loc Cert.LossTailIdeal.nD Cert.LossTailIdeal.τ Cert.LossTailIdeal.sig) → Buf (Elt Ideal) ℓ) (g : Dev Cert.LossTailIdeal.nD → PrngReg), Pre_LossTailIdeal m →
    θ_run (Cert.LossTailIdeal.defs (F := Ideal)) (onTc (τ := Cert.LossTailIdeal.τ) (Cert.LossTailIdeal.main (F := Ideal))) ⟨m, fun _ => 0, g⟩ (fun r => (∀ c : Dev Cert.LossTailIdeal.nD,
      r.2.mem ((c.tc : Thread Cert.LossTailIdeal.nD Cert.LossTailIdeal.τ).loc Cert.LossTailIdeal.main_arg0) = m ((c.tc : Thread Cert.LossTailIdeal.nD Cert.LossTailIdeal.τ).loc Cert.LossTailIdeal.main_arg0)
      ∧ r.2.mem ((c.tc : Thread Cert.LossTailIdeal.nD Cert.LossTailIdeal.τ).loc Cert.LossTailIdeal.main_arg1) = m ((c.tc : Thread Cert.LossTailIdeal.nD Cert.LossTailIdeal.τ).loc Cert.LossTailIdeal.main_arg1)
      ∧ r.2.mem ((c.tc : Thread Cert.LossTailIdeal.nD Cert.LossTailIdeal.τ).loc Cert.LossTailIdeal.main_arg2) = m ((c.tc : Thread Cert.LossTailIdeal.nD Cert.LossTailIdeal.τ).loc Cert.LossTailIdeal.main_arg2)
      ∧ r.2.mem ((c.tc : Thread Cert.LossTailIdeal.nD Cert.LossTailIdeal.τ).loc Cert.LossTailIdeal.main_arg3) = m ((c.tc : Thread Cert.LossTailIdeal.nD Cert.LossTailIdeal.τ).loc Cert.LossTailIdeal.main_arg3)
      ∧ r.2.mem ((c.tc : Thread Cert.LossTailIdeal.nD Cert.LossTailIdeal.τ).loc Cert.LossTailIdeal.main_arg4) = m ((c.tc : Thread Cert.LossTailIdeal.nD Cert.LossTailIdeal.τ).loc Cert.LossTailIdeal.main_arg4)
      ∧ r.2.mem ((c.tc : Thread Cert.LossTailIdeal.nD Cert.LossTailIdeal.τ).loc Cert.LossTailIdeal.main_arg5) = m ((c.tc : Thread Cert.LossTailIdeal.nD Cert.LossTailIdeal.τ).loc Cert.LossTailIdeal.main_arg5))
      ∧ r.2.sem = fun _ => 0)

def quiescent_LossTailRefIdeal [hLossTailRefIdeal : Cert.LossTailRefIdeal.Facts] : Prop :=
  ∀ (m : (ℓ : Loc Cert.LossTailRefIdeal.nD Cert.LossTailRefIdeal.τ Cert.LossTailRefIdeal.sig) → Buf (Elt Ideal) ℓ) (g : Dev Cert.LossTailRefIdeal.nD → PrngReg), Pre_LossTailRefIdeal m →
    θ_run (Cert.LossTailRefIdeal.defs (F := Ideal)) (onTc (τ := Cert.LossTailRefIdeal.τ) (Cert.LossTailRefIdeal.main (F := Ideal))) ⟨m, fun _ => 0, g⟩ (fun r => (∀ c : Dev Cert.LossTailRefIdeal.nD,
      r.2.mem ((c.tc : Thread Cert.LossTailRefIdeal.nD Cert.LossTailRefIdeal.τ).loc Cert.LossTailRefIdeal.main_arg0) = m ((c.tc : Thread Cert.LossTailRefIdeal.nD Cert.LossTailRefIdeal.τ).loc Cert.LossTailRefIdeal.main_arg0)
      ∧ r.2.mem ((c.tc : Thread Cert.LossTailRefIdeal.nD Cert.LossTailRefIdeal.τ).loc Cert.LossTailRefIdeal.main_arg1) = m ((c.tc : Thread Cert.LossTailRefIdeal.nD Cert.LossTailRefIdeal.τ).loc Cert.LossTailRefIdeal.main_arg1)
      ∧ r.2.mem ((c.tc : Thread Cert.LossTailRefIdeal.nD Cert.LossTailRefIdeal.τ).loc Cert.LossTailRefIdeal.main_arg2) = m ((c.tc : Thread Cert.LossTailRefIdeal.nD Cert.LossTailRefIdeal.τ).loc Cert.LossTailRefIdeal.main_arg2)
      ∧ r.2.mem ((c.tc : Thread Cert.LossTailRefIdeal.nD Cert.LossTailRefIdeal.τ).loc Cert.LossTailRefIdeal.main_arg3) = m ((c.tc : Thread Cert.LossTailRefIdeal.nD Cert.LossTailRefIdeal.τ).loc Cert.LossTailRefIdeal.main_arg3)
      ∧ r.2.mem ((c.tc : Thread Cert.LossTailRefIdeal.nD Cert.LossTailRefIdeal.τ).loc Cert.LossTailRefIdeal.main_arg4) = m ((c.tc : Thread Cert.LossTailRefIdeal.nD Cert.LossTailRefIdeal.τ).loc Cert.LossTailRefIdeal.main_arg4)
      ∧ r.2.mem ((c.tc : Thread Cert.LossTailRefIdeal.nD Cert.LossTailRefIdeal.τ).loc Cert.LossTailRefIdeal.main_arg5) = m ((c.tc : Thread Cert.LossTailRefIdeal.nD Cert.LossTailRefIdeal.τ).loc Cert.LossTailRefIdeal.main_arg5))
      ∧ r.2.sem = fun _ => 0)

def quiescent_AdamCCtx [hAdamCCtx : Cert.AdamCCtx.Facts] : Prop :=
  ∀ (m : (ℓ : Loc Cert.AdamCCtx.nD Cert.AdamCCtx.τ Cert.AdamCCtx.sig) → Buf (Elt Bits) ℓ) (g : Dev Cert.AdamCCtx.nD → PrngReg), Pre_AdamCCtx m →
    θ_run (Cert.AdamCCtx.defs (F := Bits)) (onTc (τ := Cert.AdamCCtx.τ) (Cert.AdamCCtx.main (F := Bits))) ⟨m, fun _ => 0, g⟩ (fun r => (∀ c : Dev Cert.AdamCCtx.nD,
      r.2.mem ((c.tc : Thread Cert.AdamCCtx.nD Cert.AdamCCtx.τ).loc Cert.AdamCCtx.main_arg0) = m ((c.tc : Thread Cert.AdamCCtx.nD Cert.AdamCCtx.τ).loc Cert.AdamCCtx.main_arg0)
      ∧ r.2.mem ((c.tc : Thread Cert.AdamCCtx.nD Cert.AdamCCtx.τ).loc Cert.AdamCCtx.main_arg1) = m ((c.tc : Thread Cert.AdamCCtx.nD Cert.AdamCCtx.τ).loc Cert.AdamCCtx.main_arg1)
      ∧ r.2.mem ((c.tc : Thread Cert.AdamCCtx.nD Cert.AdamCCtx.τ).loc Cert.AdamCCtx.main_arg2) = m ((c.tc : Thread Cert.AdamCCtx.nD Cert.AdamCCtx.τ).loc Cert.AdamCCtx.main_arg2)
      ∧ r.2.mem ((c.tc : Thread Cert.AdamCCtx.nD Cert.AdamCCtx.τ).loc Cert.AdamCCtx.main_arg3) = m ((c.tc : Thread Cert.AdamCCtx.nD Cert.AdamCCtx.τ).loc Cert.AdamCCtx.main_arg3))
      ∧ r.2.sem = fun _ => 0)

def quiescent_AdamCCtxIdeal [hAdamCCtxIdeal : Cert.AdamCCtxIdeal.Facts] : Prop :=
  ∀ (m : (ℓ : Loc Cert.AdamCCtxIdeal.nD Cert.AdamCCtxIdeal.τ Cert.AdamCCtxIdeal.sig) → Buf (Elt Ideal) ℓ) (g : Dev Cert.AdamCCtxIdeal.nD → PrngReg), Pre_AdamCCtxIdeal m →
    θ_run (Cert.AdamCCtxIdeal.defs (F := Ideal)) (onTc (τ := Cert.AdamCCtxIdeal.τ) (Cert.AdamCCtxIdeal.main (F := Ideal))) ⟨m, fun _ => 0, g⟩ (fun r => (∀ c : Dev Cert.AdamCCtxIdeal.nD,
      r.2.mem ((c.tc : Thread Cert.AdamCCtxIdeal.nD Cert.AdamCCtxIdeal.τ).loc Cert.AdamCCtxIdeal.main_arg0) = m ((c.tc : Thread Cert.AdamCCtxIdeal.nD Cert.AdamCCtxIdeal.τ).loc Cert.AdamCCtxIdeal.main_arg0)
      ∧ r.2.mem ((c.tc : Thread Cert.AdamCCtxIdeal.nD Cert.AdamCCtxIdeal.τ).loc Cert.AdamCCtxIdeal.main_arg1) = m ((c.tc : Thread Cert.AdamCCtxIdeal.nD Cert.AdamCCtxIdeal.τ).loc Cert.AdamCCtxIdeal.main_arg1)
      ∧ r.2.mem ((c.tc : Thread Cert.AdamCCtxIdeal.nD Cert.AdamCCtxIdeal.τ).loc Cert.AdamCCtxIdeal.main_arg2) = m ((c.tc : Thread Cert.AdamCCtxIdeal.nD Cert.AdamCCtxIdeal.τ).loc Cert.AdamCCtxIdeal.main_arg2)
      ∧ r.2.mem ((c.tc : Thread Cert.AdamCCtxIdeal.nD Cert.AdamCCtxIdeal.τ).loc Cert.AdamCCtxIdeal.main_arg3) = m ((c.tc : Thread Cert.AdamCCtxIdeal.nD Cert.AdamCCtxIdeal.τ).loc Cert.AdamCCtxIdeal.main_arg3))
      ∧ r.2.sem = fun _ => 0)

def quiescent_AdamCCtxRefIdeal [hAdamCCtxRefIdeal : Cert.AdamCCtxRefIdeal.Facts] : Prop :=
  ∀ (m : (ℓ : Loc Cert.AdamCCtxRefIdeal.nD Cert.AdamCCtxRefIdeal.τ Cert.AdamCCtxRefIdeal.sig) → Buf (Elt Ideal) ℓ) (g : Dev Cert.AdamCCtxRefIdeal.nD → PrngReg), Pre_AdamCCtxRefIdeal m →
    θ_run (Cert.AdamCCtxRefIdeal.defs (F := Ideal)) (onTc (τ := Cert.AdamCCtxRefIdeal.τ) (Cert.AdamCCtxRefIdeal.main (F := Ideal))) ⟨m, fun _ => 0, g⟩ (fun r => (∀ c : Dev Cert.AdamCCtxRefIdeal.nD,
      r.2.mem ((c.tc : Thread Cert.AdamCCtxRefIdeal.nD Cert.AdamCCtxRefIdeal.τ).loc Cert.AdamCCtxRefIdeal.main_arg0) = m ((c.tc : Thread Cert.AdamCCtxRefIdeal.nD Cert.AdamCCtxRefIdeal.τ).loc Cert.AdamCCtxRefIdeal.main_arg0)
      ∧ r.2.mem ((c.tc : Thread Cert.AdamCCtxRefIdeal.nD Cert.AdamCCtxRefIdeal.τ).loc Cert.AdamCCtxRefIdeal.main_arg1) = m ((c.tc : Thread Cert.AdamCCtxRefIdeal.nD Cert.AdamCCtxRefIdeal.τ).loc Cert.AdamCCtxRefIdeal.main_arg1)
      ∧ r.2.mem ((c.tc : Thread Cert.AdamCCtxRefIdeal.nD Cert.AdamCCtxRefIdeal.τ).loc Cert.AdamCCtxRefIdeal.main_arg2) = m ((c.tc : Thread Cert.AdamCCtxRefIdeal.nD Cert.AdamCCtxRefIdeal.τ).loc Cert.AdamCCtxRefIdeal.main_arg2)
      ∧ r.2.mem ((c.tc : Thread Cert.AdamCCtxRefIdeal.nD Cert.AdamCCtxRefIdeal.τ).loc Cert.AdamCCtxRefIdeal.main_arg3) = m ((c.tc : Thread Cert.AdamCCtxRefIdeal.nD Cert.AdamCCtxRefIdeal.τ).loc Cert.AdamCCtxRefIdeal.main_arg3))
      ∧ r.2.sem = fun _ => 0)

def quiescent_AdamWMod [hAdamWMod : Cert.AdamWMod.Facts] : Prop :=
  ∀ (m : (ℓ : Loc Cert.AdamWMod.nD Cert.AdamWMod.τ Cert.AdamWMod.sig) → Buf (Elt Bits) ℓ) (g : Dev Cert.AdamWMod.nD → PrngReg), Pre_AdamWMod m →
    θ_run (Cert.AdamWMod.defs (F := Bits)) (onTc (τ := Cert.AdamWMod.τ) (Cert.AdamWMod.main (F := Bits))) ⟨m, fun _ => 0, g⟩ (fun r => (∀ c : Dev Cert.AdamWMod.nD,
      r.2.mem ((c.tc : Thread Cert.AdamWMod.nD Cert.AdamWMod.τ).loc Cert.AdamWMod.main_arg0) = m ((c.tc : Thread Cert.AdamWMod.nD Cert.AdamWMod.τ).loc Cert.AdamWMod.main_arg0)
      ∧ r.2.mem ((c.tc : Thread Cert.AdamWMod.nD Cert.AdamWMod.τ).loc Cert.AdamWMod.main_arg1) = m ((c.tc : Thread Cert.AdamWMod.nD Cert.AdamWMod.τ).loc Cert.AdamWMod.main_arg1)
      ∧ r.2.mem ((c.tc : Thread Cert.AdamWMod.nD Cert.AdamWMod.τ).loc Cert.AdamWMod.main_arg2) = m ((c.tc : Thread Cert.AdamWMod.nD Cert.AdamWMod.τ).loc Cert.AdamWMod.main_arg2)
      ∧ r.2.mem ((c.tc : Thread Cert.AdamWMod.nD Cert.AdamWMod.τ).loc Cert.AdamWMod.main_arg3) = m ((c.tc : Thread Cert.AdamWMod.nD Cert.AdamWMod.τ).loc Cert.AdamWMod.main_arg3))
      ∧ r.2.sem = fun _ => 0)

def quiescent_AdamWModIdeal [hAdamWModIdeal : Cert.AdamWModIdeal.Facts] : Prop :=
  ∀ (m : (ℓ : Loc Cert.AdamWModIdeal.nD Cert.AdamWModIdeal.τ Cert.AdamWModIdeal.sig) → Buf (Elt Ideal) ℓ) (g : Dev Cert.AdamWModIdeal.nD → PrngReg), Pre_AdamWModIdeal m →
    θ_run (Cert.AdamWModIdeal.defs (F := Ideal)) (onTc (τ := Cert.AdamWModIdeal.τ) (Cert.AdamWModIdeal.main (F := Ideal))) ⟨m, fun _ => 0, g⟩ (fun r => (∀ c : Dev Cert.AdamWModIdeal.nD,
      r.2.mem ((c.tc : Thread Cert.AdamWModIdeal.nD Cert.AdamWModIdeal.τ).loc Cert.AdamWModIdeal.main_arg0) = m ((c.tc : Thread Cert.AdamWModIdeal.nD Cert.AdamWModIdeal.τ).loc Cert.AdamWModIdeal.main_arg0)
      ∧ r.2.mem ((c.tc : Thread Cert.AdamWModIdeal.nD Cert.AdamWModIdeal.τ).loc Cert.AdamWModIdeal.main_arg1) = m ((c.tc : Thread Cert.AdamWModIdeal.nD Cert.AdamWModIdeal.τ).loc Cert.AdamWModIdeal.main_arg1)
      ∧ r.2.mem ((c.tc : Thread Cert.AdamWModIdeal.nD Cert.AdamWModIdeal.τ).loc Cert.AdamWModIdeal.main_arg2) = m ((c.tc : Thread Cert.AdamWModIdeal.nD Cert.AdamWModIdeal.τ).loc Cert.AdamWModIdeal.main_arg2)
      ∧ r.2.mem ((c.tc : Thread Cert.AdamWModIdeal.nD Cert.AdamWModIdeal.τ).loc Cert.AdamWModIdeal.main_arg3) = m ((c.tc : Thread Cert.AdamWModIdeal.nD Cert.AdamWModIdeal.τ).loc Cert.AdamWModIdeal.main_arg3))
      ∧ r.2.sem = fun _ => 0)

def quiescent_AdamWModRefIdeal [hAdamWModRefIdeal : Cert.AdamWModRefIdeal.Facts] : Prop :=
  ∀ (m : (ℓ : Loc Cert.AdamWModRefIdeal.nD Cert.AdamWModRefIdeal.τ Cert.AdamWModRefIdeal.sig) → Buf (Elt Ideal) ℓ) (g : Dev Cert.AdamWModRefIdeal.nD → PrngReg), Pre_AdamWModRefIdeal m →
    θ_run (Cert.AdamWModRefIdeal.defs (F := Ideal)) (onTc (τ := Cert.AdamWModRefIdeal.τ) (Cert.AdamWModRefIdeal.main (F := Ideal))) ⟨m, fun _ => 0, g⟩ (fun r => (∀ c : Dev Cert.AdamWModRefIdeal.nD,
      r.2.mem ((c.tc : Thread Cert.AdamWModRefIdeal.nD Cert.AdamWModRefIdeal.τ).loc Cert.AdamWModRefIdeal.main_arg0) = m ((c.tc : Thread Cert.AdamWModRefIdeal.nD Cert.AdamWModRefIdeal.τ).loc Cert.AdamWModRefIdeal.main_arg0)
      ∧ r.2.mem ((c.tc : Thread Cert.AdamWModRefIdeal.nD Cert.AdamWModRefIdeal.τ).loc Cert.AdamWModRefIdeal.main_arg1) = m ((c.tc : Thread Cert.AdamWModRefIdeal.nD Cert.AdamWModRefIdeal.τ).loc Cert.AdamWModRefIdeal.main_arg1)
      ∧ r.2.mem ((c.tc : Thread Cert.AdamWModRefIdeal.nD Cert.AdamWModRefIdeal.τ).loc Cert.AdamWModRefIdeal.main_arg2) = m ((c.tc : Thread Cert.AdamWModRefIdeal.nD Cert.AdamWModRefIdeal.τ).loc Cert.AdamWModRefIdeal.main_arg2)
      ∧ r.2.mem ((c.tc : Thread Cert.AdamWModRefIdeal.nD Cert.AdamWModRefIdeal.τ).loc Cert.AdamWModRefIdeal.main_arg3) = m ((c.tc : Thread Cert.AdamWModRefIdeal.nD Cert.AdamWModRefIdeal.τ).loc Cert.AdamWModRefIdeal.main_arg3))
      ∧ r.2.sem = fun _ => 0)

def quiescent_AdamBMod [hAdamBMod : Cert.AdamBMod.Facts] : Prop :=
  ∀ (m : (ℓ : Loc Cert.AdamBMod.nD Cert.AdamBMod.τ Cert.AdamBMod.sig) → Buf (Elt Bits) ℓ) (g : Dev Cert.AdamBMod.nD → PrngReg), Pre_AdamBMod m →
    θ_run (Cert.AdamBMod.defs (F := Bits)) (onTc (τ := Cert.AdamBMod.τ) (Cert.AdamBMod.main (F := Bits))) ⟨m, fun _ => 0, g⟩ (fun r => (∀ c : Dev Cert.AdamBMod.nD,
      r.2.mem ((c.tc : Thread Cert.AdamBMod.nD Cert.AdamBMod.τ).loc Cert.AdamBMod.main_arg0) = m ((c.tc : Thread Cert.AdamBMod.nD Cert.AdamBMod.τ).loc Cert.AdamBMod.main_arg0)
      ∧ r.2.mem ((c.tc : Thread Cert.AdamBMod.nD Cert.AdamBMod.τ).loc Cert.AdamBMod.main_arg1) = m ((c.tc : Thread Cert.AdamBMod.nD Cert.AdamBMod.τ).loc Cert.AdamBMod.main_arg1)
      ∧ r.2.mem ((c.tc : Thread Cert.AdamBMod.nD Cert.AdamBMod.τ).loc Cert.AdamBMod.main_arg2) = m ((c.tc : Thread Cert.AdamBMod.nD Cert.AdamBMod.τ).loc Cert.AdamBMod.main_arg2)
      ∧ r.2.mem ((c.tc : Thread Cert.AdamBMod.nD Cert.AdamBMod.τ).loc Cert.AdamBMod.main_arg3) = m ((c.tc : Thread Cert.AdamBMod.nD Cert.AdamBMod.τ).loc Cert.AdamBMod.main_arg3))
      ∧ r.2.sem = fun _ => 0)

def quiescent_AdamBModIdeal [hAdamBModIdeal : Cert.AdamBModIdeal.Facts] : Prop :=
  ∀ (m : (ℓ : Loc Cert.AdamBModIdeal.nD Cert.AdamBModIdeal.τ Cert.AdamBModIdeal.sig) → Buf (Elt Ideal) ℓ) (g : Dev Cert.AdamBModIdeal.nD → PrngReg), Pre_AdamBModIdeal m →
    θ_run (Cert.AdamBModIdeal.defs (F := Ideal)) (onTc (τ := Cert.AdamBModIdeal.τ) (Cert.AdamBModIdeal.main (F := Ideal))) ⟨m, fun _ => 0, g⟩ (fun r => (∀ c : Dev Cert.AdamBModIdeal.nD,
      r.2.mem ((c.tc : Thread Cert.AdamBModIdeal.nD Cert.AdamBModIdeal.τ).loc Cert.AdamBModIdeal.main_arg0) = m ((c.tc : Thread Cert.AdamBModIdeal.nD Cert.AdamBModIdeal.τ).loc Cert.AdamBModIdeal.main_arg0)
      ∧ r.2.mem ((c.tc : Thread Cert.AdamBModIdeal.nD Cert.AdamBModIdeal.τ).loc Cert.AdamBModIdeal.main_arg1) = m ((c.tc : Thread Cert.AdamBModIdeal.nD Cert.AdamBModIdeal.τ).loc Cert.AdamBModIdeal.main_arg1)
      ∧ r.2.mem ((c.tc : Thread Cert.AdamBModIdeal.nD Cert.AdamBModIdeal.τ).loc Cert.AdamBModIdeal.main_arg2) = m ((c.tc : Thread Cert.AdamBModIdeal.nD Cert.AdamBModIdeal.τ).loc Cert.AdamBModIdeal.main_arg2)
      ∧ r.2.mem ((c.tc : Thread Cert.AdamBModIdeal.nD Cert.AdamBModIdeal.τ).loc Cert.AdamBModIdeal.main_arg3) = m ((c.tc : Thread Cert.AdamBModIdeal.nD Cert.AdamBModIdeal.τ).loc Cert.AdamBModIdeal.main_arg3))
      ∧ r.2.sem = fun _ => 0)

def quiescent_AdamBModRefIdeal [hAdamBModRefIdeal : Cert.AdamBModRefIdeal.Facts] : Prop :=
  ∀ (m : (ℓ : Loc Cert.AdamBModRefIdeal.nD Cert.AdamBModRefIdeal.τ Cert.AdamBModRefIdeal.sig) → Buf (Elt Ideal) ℓ) (g : Dev Cert.AdamBModRefIdeal.nD → PrngReg), Pre_AdamBModRefIdeal m →
    θ_run (Cert.AdamBModRefIdeal.defs (F := Ideal)) (onTc (τ := Cert.AdamBModRefIdeal.τ) (Cert.AdamBModRefIdeal.main (F := Ideal))) ⟨m, fun _ => 0, g⟩ (fun r => (∀ c : Dev Cert.AdamBModRefIdeal.nD,
      r.2.mem ((c.tc : Thread Cert.AdamBModRefIdeal.nD Cert.AdamBModRefIdeal.τ).loc Cert.AdamBModRefIdeal.main_arg0) = m ((c.tc : Thread Cert.AdamBModRefIdeal.nD Cert.AdamBModRefIdeal.τ).loc Cert.AdamBModRefIdeal.main_arg0)
      ∧ r.2.mem ((c.tc : Thread Cert.AdamBModRefIdeal.nD Cert.AdamBModRefIdeal.τ).loc Cert.AdamBModRefIdeal.main_arg1) = m ((c.tc : Thread Cert.AdamBModRefIdeal.nD Cert.AdamBModRefIdeal.τ).loc Cert.AdamBModRefIdeal.main_arg1)
      ∧ r.2.mem ((c.tc : Thread Cert.AdamBModRefIdeal.nD Cert.AdamBModRefIdeal.τ).loc Cert.AdamBModRefIdeal.main_arg2) = m ((c.tc : Thread Cert.AdamBModRefIdeal.nD Cert.AdamBModRefIdeal.τ).loc Cert.AdamBModRefIdeal.main_arg2)
      ∧ r.2.mem ((c.tc : Thread Cert.AdamBModRefIdeal.nD Cert.AdamBModRefIdeal.τ).loc Cert.AdamBModRefIdeal.main_arg3) = m ((c.tc : Thread Cert.AdamBModRefIdeal.nD Cert.AdamBModRefIdeal.τ).loc Cert.AdamBModRefIdeal.main_arg3))
      ∧ r.2.sem = fun _ => 0)

def quiescent_AdamGMix [hAdamGMix : Cert.AdamGMix.Facts] : Prop :=
  ∀ (m : (ℓ : Loc Cert.AdamGMix.nD Cert.AdamGMix.τ Cert.AdamGMix.sig) → Buf (Elt Bits) ℓ) (g : Dev Cert.AdamGMix.nD → PrngReg), Pre_AdamGMix m →
    θ_run (Cert.AdamGMix.defs (F := Bits)) (onTc (τ := Cert.AdamGMix.τ) (Cert.AdamGMix.main (F := Bits))) ⟨m, fun _ => 0, g⟩ (fun r => (∀ c : Dev Cert.AdamGMix.nD,
      r.2.mem ((c.tc : Thread Cert.AdamGMix.nD Cert.AdamGMix.τ).loc Cert.AdamGMix.main_arg0) = m ((c.tc : Thread Cert.AdamGMix.nD Cert.AdamGMix.τ).loc Cert.AdamGMix.main_arg0)
      ∧ r.2.mem ((c.tc : Thread Cert.AdamGMix.nD Cert.AdamGMix.τ).loc Cert.AdamGMix.main_arg1) = m ((c.tc : Thread Cert.AdamGMix.nD Cert.AdamGMix.τ).loc Cert.AdamGMix.main_arg1)
      ∧ r.2.mem ((c.tc : Thread Cert.AdamGMix.nD Cert.AdamGMix.τ).loc Cert.AdamGMix.main_arg2) = m ((c.tc : Thread Cert.AdamGMix.nD Cert.AdamGMix.τ).loc Cert.AdamGMix.main_arg2)
      ∧ r.2.mem ((c.tc : Thread Cert.AdamGMix.nD Cert.AdamGMix.τ).loc Cert.AdamGMix.main_arg3) = m ((c.tc : Thread Cert.AdamGMix.nD Cert.AdamGMix.τ).loc Cert.AdamGMix.main_arg3))
      ∧ r.2.sem = fun _ => 0)

def quiescent_AdamGMixIdeal [hAdamGMixIdeal : Cert.AdamGMixIdeal.Facts] : Prop :=
  ∀ (m : (ℓ : Loc Cert.AdamGMixIdeal.nD Cert.AdamGMixIdeal.τ Cert.AdamGMixIdeal.sig) → Buf (Elt Ideal) ℓ) (g : Dev Cert.AdamGMixIdeal.nD → PrngReg), Pre_AdamGMixIdeal m →
    θ_run (Cert.AdamGMixIdeal.defs (F := Ideal)) (onTc (τ := Cert.AdamGMixIdeal.τ) (Cert.AdamGMixIdeal.main (F := Ideal))) ⟨m, fun _ => 0, g⟩ (fun r => (∀ c : Dev Cert.AdamGMixIdeal.nD,
      r.2.mem ((c.tc : Thread Cert.AdamGMixIdeal.nD Cert.AdamGMixIdeal.τ).loc Cert.AdamGMixIdeal.main_arg0) = m ((c.tc : Thread Cert.AdamGMixIdeal.nD Cert.AdamGMixIdeal.τ).loc Cert.AdamGMixIdeal.main_arg0)
      ∧ r.2.mem ((c.tc : Thread Cert.AdamGMixIdeal.nD Cert.AdamGMixIdeal.τ).loc Cert.AdamGMixIdeal.main_arg1) = m ((c.tc : Thread Cert.AdamGMixIdeal.nD Cert.AdamGMixIdeal.τ).loc Cert.AdamGMixIdeal.main_arg1)
      ∧ r.2.mem ((c.tc : Thread Cert.AdamGMixIdeal.nD Cert.AdamGMixIdeal.τ).loc Cert.AdamGMixIdeal.main_arg2) = m ((c.tc : Thread Cert.AdamGMixIdeal.nD Cert.AdamGMixIdeal.τ).loc Cert.AdamGMixIdeal.main_arg2)
      ∧ r.2.mem ((c.tc : Thread Cert.AdamGMixIdeal.nD Cert.AdamGMixIdeal.τ).loc Cert.AdamGMixIdeal.main_arg3) = m ((c.tc : Thread Cert.AdamGMixIdeal.nD Cert.AdamGMixIdeal.τ).loc Cert.AdamGMixIdeal.main_arg3))
      ∧ r.2.sem = fun _ => 0)

def quiescent_AdamGMixRefIdeal [hAdamGMixRefIdeal : Cert.AdamGMixRefIdeal.Facts] : Prop :=
  ∀ (m : (ℓ : Loc Cert.AdamGMixRefIdeal.nD Cert.AdamGMixRefIdeal.τ Cert.AdamGMixRefIdeal.sig) → Buf (Elt Ideal) ℓ) (g : Dev Cert.AdamGMixRefIdeal.nD → PrngReg), Pre_AdamGMixRefIdeal m →
    θ_run (Cert.AdamGMixRefIdeal.defs (F := Ideal)) (onTc (τ := Cert.AdamGMixRefIdeal.τ) (Cert.AdamGMixRefIdeal.main (F := Ideal))) ⟨m, fun _ => 0, g⟩ (fun r => (∀ c : Dev Cert.AdamGMixRefIdeal.nD,
      r.2.mem ((c.tc : Thread Cert.AdamGMixRefIdeal.nD Cert.AdamGMixRefIdeal.τ).loc Cert.AdamGMixRefIdeal.main_arg0) = m ((c.tc : Thread Cert.AdamGMixRefIdeal.nD Cert.AdamGMixRefIdeal.τ).loc Cert.AdamGMixRefIdeal.main_arg0)
      ∧ r.2.mem ((c.tc : Thread Cert.AdamGMixRefIdeal.nD Cert.AdamGMixRefIdeal.τ).loc Cert.AdamGMixRefIdeal.main_arg1) = m ((c.tc : Thread Cert.AdamGMixRefIdeal.nD Cert.AdamGMixRefIdeal.τ).loc Cert.AdamGMixRefIdeal.main_arg1)
      ∧ r.2.mem ((c.tc : Thread Cert.AdamGMixRefIdeal.nD Cert.AdamGMixRefIdeal.τ).loc Cert.AdamGMixRefIdeal.main_arg2) = m ((c.tc : Thread Cert.AdamGMixRefIdeal.nD Cert.AdamGMixRefIdeal.τ).loc Cert.AdamGMixRefIdeal.main_arg2)
      ∧ r.2.mem ((c.tc : Thread Cert.AdamGMixRefIdeal.nD Cert.AdamGMixRefIdeal.τ).loc Cert.AdamGMixRefIdeal.main_arg3) = m ((c.tc : Thread Cert.AdamGMixRefIdeal.nD Cert.AdamGMixRefIdeal.τ).loc Cert.AdamGMixRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamQGain [hAdamQGain : Cert.AdamQGain.Facts] : Prop :=
  ∀ (m : (ℓ : Loc Cert.AdamQGain.nD Cert.AdamQGain.τ Cert.AdamQGain.sig) → Buf (Elt Bits) ℓ) (g : Dev Cert.AdamQGain.nD → PrngReg), Pre_AdamQGain m →
    θ_run (Cert.AdamQGain.defs (F := Bits)) (onTc (τ := Cert.AdamQGain.τ) (Cert.AdamQGain.main (F := Bits))) ⟨m, fun _ => 0, g⟩ (fun r => (∀ c : Dev Cert.AdamQGain.nD,
      r.2.mem ((c.tc : Thread Cert.AdamQGain.nD Cert.AdamQGain.τ).loc Cert.AdamQGain.main_arg0) = m ((c.tc : Thread Cert.AdamQGain.nD Cert.AdamQGain.τ).loc Cert.AdamQGain.main_arg0)
      ∧ r.2.mem ((c.tc : Thread Cert.AdamQGain.nD Cert.AdamQGain.τ).loc Cert.AdamQGain.main_arg1) = m ((c.tc : Thread Cert.AdamQGain.nD Cert.AdamQGain.τ).loc Cert.AdamQGain.main_arg1)
      ∧ r.2.mem ((c.tc : Thread Cert.AdamQGain.nD Cert.AdamQGain.τ).loc Cert.AdamQGain.main_arg2) = m ((c.tc : Thread Cert.AdamQGain.nD Cert.AdamQGain.τ).loc Cert.AdamQGain.main_arg2)
      ∧ r.2.mem ((c.tc : Thread Cert.AdamQGain.nD Cert.AdamQGain.τ).loc Cert.AdamQGain.main_arg3) = m ((c.tc : Thread Cert.AdamQGain.nD Cert.AdamQGain.τ).loc Cert.AdamQGain.main_arg3))
      ∧ r.2.sem = fun _ => 0)

def quiescent_AdamQGainIdeal [hAdamQGainIdeal : Cert.AdamQGainIdeal.Facts] : Prop :=
  ∀ (m : (ℓ : Loc Cert.AdamQGainIdeal.nD Cert.AdamQGainIdeal.τ Cert.AdamQGainIdeal.sig) → Buf (Elt Ideal) ℓ) (g : Dev Cert.AdamQGainIdeal.nD → PrngReg), Pre_AdamQGainIdeal m →
    θ_run (Cert.AdamQGainIdeal.defs (F := Ideal)) (onTc (τ := Cert.AdamQGainIdeal.τ) (Cert.AdamQGainIdeal.main (F := Ideal))) ⟨m, fun _ => 0, g⟩ (fun r => (∀ c : Dev Cert.AdamQGainIdeal.nD,
      r.2.mem ((c.tc : Thread Cert.AdamQGainIdeal.nD Cert.AdamQGainIdeal.τ).loc Cert.AdamQGainIdeal.main_arg0) = m ((c.tc : Thread Cert.AdamQGainIdeal.nD Cert.AdamQGainIdeal.τ).loc Cert.AdamQGainIdeal.main_arg0)
      ∧ r.2.mem ((c.tc : Thread Cert.AdamQGainIdeal.nD Cert.AdamQGainIdeal.τ).loc Cert.AdamQGainIdeal.main_arg1) = m ((c.tc : Thread Cert.AdamQGainIdeal.nD Cert.AdamQGainIdeal.τ).loc Cert.AdamQGainIdeal.main_arg1)
      ∧ r.2.mem ((c.tc : Thread Cert.AdamQGainIdeal.nD Cert.AdamQGainIdeal.τ).loc Cert.AdamQGainIdeal.main_arg2) = m ((c.tc : Thread Cert.AdamQGainIdeal.nD Cert.AdamQGainIdeal.τ).loc Cert.AdamQGainIdeal.main_arg2)
      ∧ r.2.mem ((c.tc : Thread Cert.AdamQGainIdeal.nD Cert.AdamQGainIdeal.τ).loc Cert.AdamQGainIdeal.main_arg3) = m ((c.tc : Thread Cert.AdamQGainIdeal.nD Cert.AdamQGainIdeal.τ).loc Cert.AdamQGainIdeal.main_arg3))
      ∧ r.2.sem = fun _ => 0)

def quiescent_AdamQGainRefIdeal [hAdamQGainRefIdeal : Cert.AdamQGainRefIdeal.Facts] : Prop :=
  ∀ (m : (ℓ : Loc Cert.AdamQGainRefIdeal.nD Cert.AdamQGainRefIdeal.τ Cert.AdamQGainRefIdeal.sig) → Buf (Elt Ideal) ℓ) (g : Dev Cert.AdamQGainRefIdeal.nD → PrngReg), Pre_AdamQGainRefIdeal m →
    θ_run (Cert.AdamQGainRefIdeal.defs (F := Ideal)) (onTc (τ := Cert.AdamQGainRefIdeal.τ) (Cert.AdamQGainRefIdeal.main (F := Ideal))) ⟨m, fun _ => 0, g⟩ (fun r => (∀ c : Dev Cert.AdamQGainRefIdeal.nD,
      r.2.mem ((c.tc : Thread Cert.AdamQGainRefIdeal.nD Cert.AdamQGainRefIdeal.τ).loc Cert.AdamQGainRefIdeal.main_arg0) = m ((c.tc : Thread Cert.AdamQGainRefIdeal.nD Cert.AdamQGainRefIdeal.τ).loc Cert.AdamQGainRefIdeal.main_arg0)
      ∧ r.2.mem ((c.tc : Thread Cert.AdamQGainRefIdeal.nD Cert.AdamQGainRefIdeal.τ).loc Cert.AdamQGainRefIdeal.main_arg1) = m ((c.tc : Thread Cert.AdamQGainRefIdeal.nD Cert.AdamQGainRefIdeal.τ).loc Cert.AdamQGainRefIdeal.main_arg1)
      ∧ r.2.mem ((c.tc : Thread Cert.AdamQGainRefIdeal.nD Cert.AdamQGainRefIdeal.τ).loc Cert.AdamQGainRefIdeal.main_arg2) = m ((c.tc : Thread Cert.AdamQGainRefIdeal.nD Cert.AdamQGainRefIdeal.τ).loc Cert.AdamQGainRefIdeal.main_arg2)
      ∧ r.2.mem ((c.tc : Thread Cert.AdamQGainRefIdeal.nD Cert.AdamQGainRefIdeal.τ).loc Cert.AdamQGainRefIdeal.main_arg3) = m ((c.tc : Thread Cert.AdamQGainRefIdeal.nD Cert.AdamQGainRefIdeal.τ).loc Cert.AdamQGainRefIdeal.main_arg3))
      ∧ r.2.sem = fun _ => 0)

def quiescent_AdamWSp [hAdamWSp : Cert.AdamWSp.Facts] : Prop :=
  ∀ (m : (ℓ : Loc Cert.AdamWSp.nD Cert.AdamWSp.τ Cert.AdamWSp.sig) → Buf (Elt Bits) ℓ) (g : Dev Cert.AdamWSp.nD → PrngReg), Pre_AdamWSp m →
    θ_run (Cert.AdamWSp.defs (F := Bits)) (onTc (τ := Cert.AdamWSp.τ) (Cert.AdamWSp.main (F := Bits))) ⟨m, fun _ => 0, g⟩ (fun r => (∀ c : Dev Cert.AdamWSp.nD,
      r.2.mem ((c.tc : Thread Cert.AdamWSp.nD Cert.AdamWSp.τ).loc Cert.AdamWSp.main_arg0) = m ((c.tc : Thread Cert.AdamWSp.nD Cert.AdamWSp.τ).loc Cert.AdamWSp.main_arg0)
      ∧ r.2.mem ((c.tc : Thread Cert.AdamWSp.nD Cert.AdamWSp.τ).loc Cert.AdamWSp.main_arg1) = m ((c.tc : Thread Cert.AdamWSp.nD Cert.AdamWSp.τ).loc Cert.AdamWSp.main_arg1)
      ∧ r.2.mem ((c.tc : Thread Cert.AdamWSp.nD Cert.AdamWSp.τ).loc Cert.AdamWSp.main_arg2) = m ((c.tc : Thread Cert.AdamWSp.nD Cert.AdamWSp.τ).loc Cert.AdamWSp.main_arg2)
      ∧ r.2.mem ((c.tc : Thread Cert.AdamWSp.nD Cert.AdamWSp.τ).loc Cert.AdamWSp.main_arg3) = m ((c.tc : Thread Cert.AdamWSp.nD Cert.AdamWSp.τ).loc Cert.AdamWSp.main_arg3))
      ∧ r.2.sem = fun _ => 0)

def quiescent_AdamWSpIdeal [hAdamWSpIdeal : Cert.AdamWSpIdeal.Facts] : Prop :=
  ∀ (m : (ℓ : Loc Cert.AdamWSpIdeal.nD Cert.AdamWSpIdeal.τ Cert.AdamWSpIdeal.sig) → Buf (Elt Ideal) ℓ) (g : Dev Cert.AdamWSpIdeal.nD → PrngReg), Pre_AdamWSpIdeal m →
    θ_run (Cert.AdamWSpIdeal.defs (F := Ideal)) (onTc (τ := Cert.AdamWSpIdeal.τ) (Cert.AdamWSpIdeal.main (F := Ideal))) ⟨m, fun _ => 0, g⟩ (fun r => (∀ c : Dev Cert.AdamWSpIdeal.nD,
      r.2.mem ((c.tc : Thread Cert.AdamWSpIdeal.nD Cert.AdamWSpIdeal.τ).loc Cert.AdamWSpIdeal.main_arg0) = m ((c.tc : Thread Cert.AdamWSpIdeal.nD Cert.AdamWSpIdeal.τ).loc Cert.AdamWSpIdeal.main_arg0)
      ∧ r.2.mem ((c.tc : Thread Cert.AdamWSpIdeal.nD Cert.AdamWSpIdeal.τ).loc Cert.AdamWSpIdeal.main_arg1) = m ((c.tc : Thread Cert.AdamWSpIdeal.nD Cert.AdamWSpIdeal.τ).loc Cert.AdamWSpIdeal.main_arg1)
      ∧ r.2.mem ((c.tc : Thread Cert.AdamWSpIdeal.nD Cert.AdamWSpIdeal.τ).loc Cert.AdamWSpIdeal.main_arg2) = m ((c.tc : Thread Cert.AdamWSpIdeal.nD Cert.AdamWSpIdeal.τ).loc Cert.AdamWSpIdeal.main_arg2)
      ∧ r.2.mem ((c.tc : Thread Cert.AdamWSpIdeal.nD Cert.AdamWSpIdeal.τ).loc Cert.AdamWSpIdeal.main_arg3) = m ((c.tc : Thread Cert.AdamWSpIdeal.nD Cert.AdamWSpIdeal.τ).loc Cert.AdamWSpIdeal.main_arg3))
      ∧ r.2.sem = fun _ => 0)

def quiescent_AdamWSpRefIdeal [hAdamWSpRefIdeal : Cert.AdamWSpRefIdeal.Facts] : Prop :=
  ∀ (m : (ℓ : Loc Cert.AdamWSpRefIdeal.nD Cert.AdamWSpRefIdeal.τ Cert.AdamWSpRefIdeal.sig) → Buf (Elt Ideal) ℓ) (g : Dev Cert.AdamWSpRefIdeal.nD → PrngReg), Pre_AdamWSpRefIdeal m →
    θ_run (Cert.AdamWSpRefIdeal.defs (F := Ideal)) (onTc (τ := Cert.AdamWSpRefIdeal.τ) (Cert.AdamWSpRefIdeal.main (F := Ideal))) ⟨m, fun _ => 0, g⟩ (fun r => (∀ c : Dev Cert.AdamWSpRefIdeal.nD,
      r.2.mem ((c.tc : Thread Cert.AdamWSpRefIdeal.nD Cert.AdamWSpRefIdeal.τ).loc Cert.AdamWSpRefIdeal.main_arg0) = m ((c.tc : Thread Cert.AdamWSpRefIdeal.nD Cert.AdamWSpRefIdeal.τ).loc Cert.AdamWSpRefIdeal.main_arg0)
      ∧ r.2.mem ((c.tc : Thread Cert.AdamWSpRefIdeal.nD Cert.AdamWSpRefIdeal.τ).loc Cert.AdamWSpRefIdeal.main_arg1) = m ((c.tc : Thread Cert.AdamWSpRefIdeal.nD Cert.AdamWSpRefIdeal.τ).loc Cert.AdamWSpRefIdeal.main_arg1)
      ∧ r.2.mem ((c.tc : Thread Cert.AdamWSpRefIdeal.nD Cert.AdamWSpRefIdeal.τ).loc Cert.AdamWSpRefIdeal.main_arg2) = m ((c.tc : Thread Cert.AdamWSpRefIdeal.nD Cert.AdamWSpRefIdeal.τ).loc Cert.AdamWSpRefIdeal.main_arg2)
      ∧ r.2.mem ((c.tc : Thread Cert.AdamWSpRefIdeal.nD Cert.AdamWSpRefIdeal.τ).loc Cert.AdamWSpRefIdeal.main_arg3) = m ((c.tc : Thread Cert.AdamWSpRefIdeal.nD Cert.AdamWSpRefIdeal.τ).loc Cert.AdamWSpRefIdeal.main_arg3))
      ∧ r.2.sem = fun _ => 0)

def quiescent_AdamBSp [hAdamBSp : Cert.AdamBSp.Facts] : Prop :=
  ∀ (m : (ℓ : Loc Cert.AdamBSp.nD Cert.AdamBSp.τ Cert.AdamBSp.sig) → Buf (Elt Bits) ℓ) (g : Dev Cert.AdamBSp.nD → PrngReg), Pre_AdamBSp m →
    θ_run (Cert.AdamBSp.defs (F := Bits)) (onTc (τ := Cert.AdamBSp.τ) (Cert.AdamBSp.main (F := Bits))) ⟨m, fun _ => 0, g⟩ (fun r => (∀ c : Dev Cert.AdamBSp.nD,
      r.2.mem ((c.tc : Thread Cert.AdamBSp.nD Cert.AdamBSp.τ).loc Cert.AdamBSp.main_arg0) = m ((c.tc : Thread Cert.AdamBSp.nD Cert.AdamBSp.τ).loc Cert.AdamBSp.main_arg0)
      ∧ r.2.mem ((c.tc : Thread Cert.AdamBSp.nD Cert.AdamBSp.τ).loc Cert.AdamBSp.main_arg1) = m ((c.tc : Thread Cert.AdamBSp.nD Cert.AdamBSp.τ).loc Cert.AdamBSp.main_arg1)
      ∧ r.2.mem ((c.tc : Thread Cert.AdamBSp.nD Cert.AdamBSp.τ).loc Cert.AdamBSp.main_arg2) = m ((c.tc : Thread Cert.AdamBSp.nD Cert.AdamBSp.τ).loc Cert.AdamBSp.main_arg2)
      ∧ r.2.mem ((c.tc : Thread Cert.AdamBSp.nD Cert.AdamBSp.τ).loc Cert.AdamBSp.main_arg3) = m ((c.tc : Thread Cert.AdamBSp.nD Cert.AdamBSp.τ).loc Cert.AdamBSp.main_arg3))
      ∧ r.2.sem = fun _ => 0)

def quiescent_AdamBSpIdeal [hAdamBSpIdeal : Cert.AdamBSpIdeal.Facts] : Prop :=
  ∀ (m : (ℓ : Loc Cert.AdamBSpIdeal.nD Cert.AdamBSpIdeal.τ Cert.AdamBSpIdeal.sig) → Buf (Elt Ideal) ℓ) (g : Dev Cert.AdamBSpIdeal.nD → PrngReg), Pre_AdamBSpIdeal m →
    θ_run (Cert.AdamBSpIdeal.defs (F := Ideal)) (onTc (τ := Cert.AdamBSpIdeal.τ) (Cert.AdamBSpIdeal.main (F := Ideal))) ⟨m, fun _ => 0, g⟩ (fun r => (∀ c : Dev Cert.AdamBSpIdeal.nD,
      r.2.mem ((c.tc : Thread Cert.AdamBSpIdeal.nD Cert.AdamBSpIdeal.τ).loc Cert.AdamBSpIdeal.main_arg0) = m ((c.tc : Thread Cert.AdamBSpIdeal.nD Cert.AdamBSpIdeal.τ).loc Cert.AdamBSpIdeal.main_arg0)
      ∧ r.2.mem ((c.tc : Thread Cert.AdamBSpIdeal.nD Cert.AdamBSpIdeal.τ).loc Cert.AdamBSpIdeal.main_arg1) = m ((c.tc : Thread Cert.AdamBSpIdeal.nD Cert.AdamBSpIdeal.τ).loc Cert.AdamBSpIdeal.main_arg1)
      ∧ r.2.mem ((c.tc : Thread Cert.AdamBSpIdeal.nD Cert.AdamBSpIdeal.τ).loc Cert.AdamBSpIdeal.main_arg2) = m ((c.tc : Thread Cert.AdamBSpIdeal.nD Cert.AdamBSpIdeal.τ).loc Cert.AdamBSpIdeal.main_arg2)
      ∧ r.2.mem ((c.tc : Thread Cert.AdamBSpIdeal.nD Cert.AdamBSpIdeal.τ).loc Cert.AdamBSpIdeal.main_arg3) = m ((c.tc : Thread Cert.AdamBSpIdeal.nD Cert.AdamBSpIdeal.τ).loc Cert.AdamBSpIdeal.main_arg3))
      ∧ r.2.sem = fun _ => 0)

def quiescent_AdamBSpRefIdeal [hAdamBSpRefIdeal : Cert.AdamBSpRefIdeal.Facts] : Prop :=
  ∀ (m : (ℓ : Loc Cert.AdamBSpRefIdeal.nD Cert.AdamBSpRefIdeal.τ Cert.AdamBSpRefIdeal.sig) → Buf (Elt Ideal) ℓ) (g : Dev Cert.AdamBSpRefIdeal.nD → PrngReg), Pre_AdamBSpRefIdeal m →
    θ_run (Cert.AdamBSpRefIdeal.defs (F := Ideal)) (onTc (τ := Cert.AdamBSpRefIdeal.τ) (Cert.AdamBSpRefIdeal.main (F := Ideal))) ⟨m, fun _ => 0, g⟩ (fun r => (∀ c : Dev Cert.AdamBSpRefIdeal.nD,
      r.2.mem ((c.tc : Thread Cert.AdamBSpRefIdeal.nD Cert.AdamBSpRefIdeal.τ).loc Cert.AdamBSpRefIdeal.main_arg0) = m ((c.tc : Thread Cert.AdamBSpRefIdeal.nD Cert.AdamBSpRefIdeal.τ).loc Cert.AdamBSpRefIdeal.main_arg0)
      ∧ r.2.mem ((c.tc : Thread Cert.AdamBSpRefIdeal.nD Cert.AdamBSpRefIdeal.τ).loc Cert.AdamBSpRefIdeal.main_arg1) = m ((c.tc : Thread Cert.AdamBSpRefIdeal.nD Cert.AdamBSpRefIdeal.τ).loc Cert.AdamBSpRefIdeal.main_arg1)
      ∧ r.2.mem ((c.tc : Thread Cert.AdamBSpRefIdeal.nD Cert.AdamBSpRefIdeal.τ).loc Cert.AdamBSpRefIdeal.main_arg2) = m ((c.tc : Thread Cert.AdamBSpRefIdeal.nD Cert.AdamBSpRefIdeal.τ).loc Cert.AdamBSpRefIdeal.main_arg2)
      ∧ r.2.mem ((c.tc : Thread Cert.AdamBSpRefIdeal.nD Cert.AdamBSpRefIdeal.τ).loc Cert.AdamBSpRefIdeal.main_arg3) = m ((c.tc : Thread Cert.AdamBSpRefIdeal.nD Cert.AdamBSpRefIdeal.τ).loc Cert.AdamBSpRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWPw1 [hAdamWPw1 : Cert.AdamWPw1.Facts] : Prop :=
  ∀ (m : (ℓ : Loc Cert.AdamWPw1.nD Cert.AdamWPw1.τ Cert.AdamWPw1.sig) → Buf (Elt Bits) ℓ) (g : Dev Cert.AdamWPw1.nD → PrngReg), Pre_AdamWPw1 m →
    θ_run (Cert.AdamWPw1.defs (F := Bits)) (onTc (τ := Cert.AdamWPw1.τ) (Cert.AdamWPw1.main (F := Bits))) ⟨m, fun _ => 0, g⟩ (fun r => (∀ c : Dev Cert.AdamWPw1.nD,
      r.2.mem ((c.tc : Thread Cert.AdamWPw1.nD Cert.AdamWPw1.τ).loc Cert.AdamWPw1.main_arg0) = m ((c.tc : Thread Cert.AdamWPw1.nD Cert.AdamWPw1.τ).loc Cert.AdamWPw1.main_arg0)
      ∧ r.2.mem ((c.tc : Thread Cert.AdamWPw1.nD Cert.AdamWPw1.τ).loc Cert.AdamWPw1.main_arg1) = m ((c.tc : Thread Cert.AdamWPw1.nD Cert.AdamWPw1.τ).loc Cert.AdamWPw1.main_arg1)
      ∧ r.2.mem ((c.tc : Thread Cert.AdamWPw1.nD Cert.AdamWPw1.τ).loc Cert.AdamWPw1.main_arg2) = m ((c.tc : Thread Cert.AdamWPw1.nD Cert.AdamWPw1.τ).loc Cert.AdamWPw1.main_arg2)
      ∧ r.2.mem ((c.tc : Thread Cert.AdamWPw1.nD Cert.AdamWPw1.τ).loc Cert.AdamWPw1.main_arg3) = m ((c.tc : Thread Cert.AdamWPw1.nD Cert.AdamWPw1.τ).loc Cert.AdamWPw1.main_arg3))
      ∧ r.2.sem = fun _ => 0)

def quiescent_AdamWPw1Ideal [hAdamWPw1Ideal : Cert.AdamWPw1Ideal.Facts] : Prop :=
  ∀ (m : (ℓ : Loc Cert.AdamWPw1Ideal.nD Cert.AdamWPw1Ideal.τ Cert.AdamWPw1Ideal.sig) → Buf (Elt Ideal) ℓ) (g : Dev Cert.AdamWPw1Ideal.nD → PrngReg), Pre_AdamWPw1Ideal m →
    θ_run (Cert.AdamWPw1Ideal.defs (F := Ideal)) (onTc (τ := Cert.AdamWPw1Ideal.τ) (Cert.AdamWPw1Ideal.main (F := Ideal))) ⟨m, fun _ => 0, g⟩ (fun r => (∀ c : Dev Cert.AdamWPw1Ideal.nD,
      r.2.mem ((c.tc : Thread Cert.AdamWPw1Ideal.nD Cert.AdamWPw1Ideal.τ).loc Cert.AdamWPw1Ideal.main_arg0) = m ((c.tc : Thread Cert.AdamWPw1Ideal.nD Cert.AdamWPw1Ideal.τ).loc Cert.AdamWPw1Ideal.main_arg0)
      ∧ r.2.mem ((c.tc : Thread Cert.AdamWPw1Ideal.nD Cert.AdamWPw1Ideal.τ).loc Cert.AdamWPw1Ideal.main_arg1) = m ((c.tc : Thread Cert.AdamWPw1Ideal.nD Cert.AdamWPw1Ideal.τ).loc Cert.AdamWPw1Ideal.main_arg1)
      ∧ r.2.mem ((c.tc : Thread Cert.AdamWPw1Ideal.nD Cert.AdamWPw1Ideal.τ).loc Cert.AdamWPw1Ideal.main_arg2) = m ((c.tc : Thread Cert.AdamWPw1Ideal.nD Cert.AdamWPw1Ideal.τ).loc Cert.AdamWPw1Ideal.main_arg2)
      ∧ r.2.mem ((c.tc : Thread Cert.AdamWPw1Ideal.nD Cert.AdamWPw1Ideal.τ).loc Cert.AdamWPw1Ideal.main_arg3) = m ((c.tc : Thread Cert.AdamWPw1Ideal.nD Cert.AdamWPw1Ideal.τ).loc Cert.AdamWPw1Ideal.main_arg3))
      ∧ r.2.sem = fun _ => 0)

def quiescent_AdamWPw1RefIdeal [hAdamWPw1RefIdeal : Cert.AdamWPw1RefIdeal.Facts] : Prop :=
  ∀ (m : (ℓ : Loc Cert.AdamWPw1RefIdeal.nD Cert.AdamWPw1RefIdeal.τ Cert.AdamWPw1RefIdeal.sig) → Buf (Elt Ideal) ℓ) (g : Dev Cert.AdamWPw1RefIdeal.nD → PrngReg), Pre_AdamWPw1RefIdeal m →
    θ_run (Cert.AdamWPw1RefIdeal.defs (F := Ideal)) (onTc (τ := Cert.AdamWPw1RefIdeal.τ) (Cert.AdamWPw1RefIdeal.main (F := Ideal))) ⟨m, fun _ => 0, g⟩ (fun r => (∀ c : Dev Cert.AdamWPw1RefIdeal.nD,
      r.2.mem ((c.tc : Thread Cert.AdamWPw1RefIdeal.nD Cert.AdamWPw1RefIdeal.τ).loc Cert.AdamWPw1RefIdeal.main_arg0) = m ((c.tc : Thread Cert.AdamWPw1RefIdeal.nD Cert.AdamWPw1RefIdeal.τ).loc Cert.AdamWPw1RefIdeal.main_arg0)
      ∧ r.2.mem ((c.tc : Thread Cert.AdamWPw1RefIdeal.nD Cert.AdamWPw1RefIdeal.τ).loc Cert.AdamWPw1RefIdeal.main_arg1) = m ((c.tc : Thread Cert.AdamWPw1RefIdeal.nD Cert.AdamWPw1RefIdeal.τ).loc Cert.AdamWPw1RefIdeal.main_arg1)
      ∧ r.2.mem ((c.tc : Thread Cert.AdamWPw1RefIdeal.nD Cert.AdamWPw1RefIdeal.τ).loc Cert.AdamWPw1RefIdeal.main_arg2) = m ((c.tc : Thread Cert.AdamWPw1RefIdeal.nD Cert.AdamWPw1RefIdeal.τ).loc Cert.AdamWPw1RefIdeal.main_arg2)
      ∧ r.2.mem ((c.tc : Thread Cert.AdamWPw1RefIdeal.nD Cert.AdamWPw1RefIdeal.τ).loc Cert.AdamWPw1RefIdeal.main_arg3) = m ((c.tc : Thread Cert.AdamWPw1RefIdeal.nD Cert.AdamWPw1RefIdeal.τ).loc Cert.AdamWPw1RefIdeal.main_arg3))
      ∧ r.2.sem = fun _ => 0)

def quiescent_AdamBPw1 [hAdamBPw1 : Cert.AdamBPw1.Facts] : Prop :=
  ∀ (m : (ℓ : Loc Cert.AdamBPw1.nD Cert.AdamBPw1.τ Cert.AdamBPw1.sig) → Buf (Elt Bits) ℓ) (g : Dev Cert.AdamBPw1.nD → PrngReg), Pre_AdamBPw1 m →
    θ_run (Cert.AdamBPw1.defs (F := Bits)) (onTc (τ := Cert.AdamBPw1.τ) (Cert.AdamBPw1.main (F := Bits))) ⟨m, fun _ => 0, g⟩ (fun r => (∀ c : Dev Cert.AdamBPw1.nD,
      r.2.mem ((c.tc : Thread Cert.AdamBPw1.nD Cert.AdamBPw1.τ).loc Cert.AdamBPw1.main_arg0) = m ((c.tc : Thread Cert.AdamBPw1.nD Cert.AdamBPw1.τ).loc Cert.AdamBPw1.main_arg0)
      ∧ r.2.mem ((c.tc : Thread Cert.AdamBPw1.nD Cert.AdamBPw1.τ).loc Cert.AdamBPw1.main_arg1) = m ((c.tc : Thread Cert.AdamBPw1.nD Cert.AdamBPw1.τ).loc Cert.AdamBPw1.main_arg1)
      ∧ r.2.mem ((c.tc : Thread Cert.AdamBPw1.nD Cert.AdamBPw1.τ).loc Cert.AdamBPw1.main_arg2) = m ((c.tc : Thread Cert.AdamBPw1.nD Cert.AdamBPw1.τ).loc Cert.AdamBPw1.main_arg2)
      ∧ r.2.mem ((c.tc : Thread Cert.AdamBPw1.nD Cert.AdamBPw1.τ).loc Cert.AdamBPw1.main_arg3) = m ((c.tc : Thread Cert.AdamBPw1.nD Cert.AdamBPw1.τ).loc Cert.AdamBPw1.main_arg3))
      ∧ r.2.sem = fun _ => 0)

def quiescent_AdamBPw1Ideal [hAdamBPw1Ideal : Cert.AdamBPw1Ideal.Facts] : Prop :=
  ∀ (m : (ℓ : Loc Cert.AdamBPw1Ideal.nD Cert.AdamBPw1Ideal.τ Cert.AdamBPw1Ideal.sig) → Buf (Elt Ideal) ℓ) (g : Dev Cert.AdamBPw1Ideal.nD → PrngReg), Pre_AdamBPw1Ideal m →
    θ_run (Cert.AdamBPw1Ideal.defs (F := Ideal)) (onTc (τ := Cert.AdamBPw1Ideal.τ) (Cert.AdamBPw1Ideal.main (F := Ideal))) ⟨m, fun _ => 0, g⟩ (fun r => (∀ c : Dev Cert.AdamBPw1Ideal.nD,
      r.2.mem ((c.tc : Thread Cert.AdamBPw1Ideal.nD Cert.AdamBPw1Ideal.τ).loc Cert.AdamBPw1Ideal.main_arg0) = m ((c.tc : Thread Cert.AdamBPw1Ideal.nD Cert.AdamBPw1Ideal.τ).loc Cert.AdamBPw1Ideal.main_arg0)
      ∧ r.2.mem ((c.tc : Thread Cert.AdamBPw1Ideal.nD Cert.AdamBPw1Ideal.τ).loc Cert.AdamBPw1Ideal.main_arg1) = m ((c.tc : Thread Cert.AdamBPw1Ideal.nD Cert.AdamBPw1Ideal.τ).loc Cert.AdamBPw1Ideal.main_arg1)
      ∧ r.2.mem ((c.tc : Thread Cert.AdamBPw1Ideal.nD Cert.AdamBPw1Ideal.τ).loc Cert.AdamBPw1Ideal.main_arg2) = m ((c.tc : Thread Cert.AdamBPw1Ideal.nD Cert.AdamBPw1Ideal.τ).loc Cert.AdamBPw1Ideal.main_arg2)
      ∧ r.2.mem ((c.tc : Thread Cert.AdamBPw1Ideal.nD Cert.AdamBPw1Ideal.τ).loc Cert.AdamBPw1Ideal.main_arg3) = m ((c.tc : Thread Cert.AdamBPw1Ideal.nD Cert.AdamBPw1Ideal.τ).loc Cert.AdamBPw1Ideal.main_arg3))
      ∧ r.2.sem = fun _ => 0)

def quiescent_AdamBPw1RefIdeal [hAdamBPw1RefIdeal : Cert.AdamBPw1RefIdeal.Facts] : Prop :=
  ∀ (m : (ℓ : Loc Cert.AdamBPw1RefIdeal.nD Cert.AdamBPw1RefIdeal.τ Cert.AdamBPw1RefIdeal.sig) → Buf (Elt Ideal) ℓ) (g : Dev Cert.AdamBPw1RefIdeal.nD → PrngReg), Pre_AdamBPw1RefIdeal m →
    θ_run (Cert.AdamBPw1RefIdeal.defs (F := Ideal)) (onTc (τ := Cert.AdamBPw1RefIdeal.τ) (Cert.AdamBPw1RefIdeal.main (F := Ideal))) ⟨m, fun _ => 0, g⟩ (fun r => (∀ c : Dev Cert.AdamBPw1RefIdeal.nD,
      r.2.mem ((c.tc : Thread Cert.AdamBPw1RefIdeal.nD Cert.AdamBPw1RefIdeal.τ).loc Cert.AdamBPw1RefIdeal.main_arg0) = m ((c.tc : Thread Cert.AdamBPw1RefIdeal.nD Cert.AdamBPw1RefIdeal.τ).loc Cert.AdamBPw1RefIdeal.main_arg0)
      ∧ r.2.mem ((c.tc : Thread Cert.AdamBPw1RefIdeal.nD Cert.AdamBPw1RefIdeal.τ).loc Cert.AdamBPw1RefIdeal.main_arg1) = m ((c.tc : Thread Cert.AdamBPw1RefIdeal.nD Cert.AdamBPw1RefIdeal.τ).loc Cert.AdamBPw1RefIdeal.main_arg1)
      ∧ r.2.mem ((c.tc : Thread Cert.AdamBPw1RefIdeal.nD Cert.AdamBPw1RefIdeal.τ).loc Cert.AdamBPw1RefIdeal.main_arg2) = m ((c.tc : Thread Cert.AdamBPw1RefIdeal.nD Cert.AdamBPw1RefIdeal.τ).loc Cert.AdamBPw1RefIdeal.main_arg2)
      ∧ r.2.mem ((c.tc : Thread Cert.AdamBPw1RefIdeal.nD Cert.AdamBPw1RefIdeal.τ).loc Cert.AdamBPw1RefIdeal.main_arg3) = m ((c.tc : Thread Cert.AdamBPw1RefIdeal.nD Cert.AdamBPw1RefIdeal.τ).loc Cert.AdamBPw1RefIdeal.main_arg3))
      ∧ r.2.sem = fun _ => 0)

def quiescent_AdamWDw [hAdamWDw : Cert.AdamWDw.Facts] : Prop :=
  ∀ (m : (ℓ : Loc Cert.AdamWDw.nD Cert.AdamWDw.τ Cert.AdamWDw.sig) → Buf (Elt Bits) ℓ) (g : Dev Cert.AdamWDw.nD → PrngReg), Pre_AdamWDw m →
    θ_run (Cert.AdamWDw.defs (F := Bits)) (onTc (τ := Cert.AdamWDw.τ) (Cert.AdamWDw.main (F := Bits))) ⟨m, fun _ => 0, g⟩ (fun r => (∀ c : Dev Cert.AdamWDw.nD,
      r.2.mem ((c.tc : Thread Cert.AdamWDw.nD Cert.AdamWDw.τ).loc Cert.AdamWDw.main_arg0) = m ((c.tc : Thread Cert.AdamWDw.nD Cert.AdamWDw.τ).loc Cert.AdamWDw.main_arg0)
      ∧ r.2.mem ((c.tc : Thread Cert.AdamWDw.nD Cert.AdamWDw.τ).loc Cert.AdamWDw.main_arg1) = m ((c.tc : Thread Cert.AdamWDw.nD Cert.AdamWDw.τ).loc Cert.AdamWDw.main_arg1)
      ∧ r.2.mem ((c.tc : Thread Cert.AdamWDw.nD Cert.AdamWDw.τ).loc Cert.AdamWDw.main_arg2) = m ((c.tc : Thread Cert.AdamWDw.nD Cert.AdamWDw.τ).loc Cert.AdamWDw.main_arg2)
      ∧ r.2.mem ((c.tc : Thread Cert.AdamWDw.nD Cert.AdamWDw.τ).loc Cert.AdamWDw.main_arg3) = m ((c.tc : Thread Cert.AdamWDw.nD Cert.AdamWDw.τ).loc Cert.AdamWDw.main_arg3))
      ∧ r.2.sem = fun _ => 0)

def quiescent_AdamWDwIdeal [hAdamWDwIdeal : Cert.AdamWDwIdeal.Facts] : Prop :=
  ∀ (m : (ℓ : Loc Cert.AdamWDwIdeal.nD Cert.AdamWDwIdeal.τ Cert.AdamWDwIdeal.sig) → Buf (Elt Ideal) ℓ) (g : Dev Cert.AdamWDwIdeal.nD → PrngReg), Pre_AdamWDwIdeal m →
    θ_run (Cert.AdamWDwIdeal.defs (F := Ideal)) (onTc (τ := Cert.AdamWDwIdeal.τ) (Cert.AdamWDwIdeal.main (F := Ideal))) ⟨m, fun _ => 0, g⟩ (fun r => (∀ c : Dev Cert.AdamWDwIdeal.nD,
      r.2.mem ((c.tc : Thread Cert.AdamWDwIdeal.nD Cert.AdamWDwIdeal.τ).loc Cert.AdamWDwIdeal.main_arg0) = m ((c.tc : Thread Cert.AdamWDwIdeal.nD Cert.AdamWDwIdeal.τ).loc Cert.AdamWDwIdeal.main_arg0)
      ∧ r.2.mem ((c.tc : Thread Cert.AdamWDwIdeal.nD Cert.AdamWDwIdeal.τ).loc Cert.AdamWDwIdeal.main_arg1) = m ((c.tc : Thread Cert.AdamWDwIdeal.nD Cert.AdamWDwIdeal.τ).loc Cert.AdamWDwIdeal.main_arg1)
      ∧ r.2.mem ((c.tc : Thread Cert.AdamWDwIdeal.nD Cert.AdamWDwIdeal.τ).loc Cert.AdamWDwIdeal.main_arg2) = m ((c.tc : Thread Cert.AdamWDwIdeal.nD Cert.AdamWDwIdeal.τ).loc Cert.AdamWDwIdeal.main_arg2)
      ∧ r.2.mem ((c.tc : Thread Cert.AdamWDwIdeal.nD Cert.AdamWDwIdeal.τ).loc Cert.AdamWDwIdeal.main_arg3) = m ((c.tc : Thread Cert.AdamWDwIdeal.nD Cert.AdamWDwIdeal.τ).loc Cert.AdamWDwIdeal.main_arg3))
      ∧ r.2.sem = fun _ => 0)

def quiescent_AdamWDwRefIdeal [hAdamWDwRefIdeal : Cert.AdamWDwRefIdeal.Facts] : Prop :=
  ∀ (m : (ℓ : Loc Cert.AdamWDwRefIdeal.nD Cert.AdamWDwRefIdeal.τ Cert.AdamWDwRefIdeal.sig) → Buf (Elt Ideal) ℓ) (g : Dev Cert.AdamWDwRefIdeal.nD → PrngReg), Pre_AdamWDwRefIdeal m →
    θ_run (Cert.AdamWDwRefIdeal.defs (F := Ideal)) (onTc (τ := Cert.AdamWDwRefIdeal.τ) (Cert.AdamWDwRefIdeal.main (F := Ideal))) ⟨m, fun _ => 0, g⟩ (fun r => (∀ c : Dev Cert.AdamWDwRefIdeal.nD,
      r.2.mem ((c.tc : Thread Cert.AdamWDwRefIdeal.nD Cert.AdamWDwRefIdeal.τ).loc Cert.AdamWDwRefIdeal.main_arg0) = m ((c.tc : Thread Cert.AdamWDwRefIdeal.nD Cert.AdamWDwRefIdeal.τ).loc Cert.AdamWDwRefIdeal.main_arg0)
      ∧ r.2.mem ((c.tc : Thread Cert.AdamWDwRefIdeal.nD Cert.AdamWDwRefIdeal.τ).loc Cert.AdamWDwRefIdeal.main_arg1) = m ((c.tc : Thread Cert.AdamWDwRefIdeal.nD Cert.AdamWDwRefIdeal.τ).loc Cert.AdamWDwRefIdeal.main_arg1)
      ∧ r.2.mem ((c.tc : Thread Cert.AdamWDwRefIdeal.nD Cert.AdamWDwRefIdeal.τ).loc Cert.AdamWDwRefIdeal.main_arg2) = m ((c.tc : Thread Cert.AdamWDwRefIdeal.nD Cert.AdamWDwRefIdeal.τ).loc Cert.AdamWDwRefIdeal.main_arg2)
      ∧ r.2.mem ((c.tc : Thread Cert.AdamWDwRefIdeal.nD Cert.AdamWDwRefIdeal.τ).loc Cert.AdamWDwRefIdeal.main_arg3) = m ((c.tc : Thread Cert.AdamWDwRefIdeal.nD Cert.AdamWDwRefIdeal.τ).loc Cert.AdamWDwRefIdeal.main_arg3))
      ∧ r.2.sem = fun _ => 0)

def quiescent_AdamBDw [hAdamBDw : Cert.AdamBDw.Facts] : Prop :=
  ∀ (m : (ℓ : Loc Cert.AdamBDw.nD Cert.AdamBDw.τ Cert.AdamBDw.sig) → Buf (Elt Bits) ℓ) (g : Dev Cert.AdamBDw.nD → PrngReg), Pre_AdamBDw m →
    θ_run (Cert.AdamBDw.defs (F := Bits)) (onTc (τ := Cert.AdamBDw.τ) (Cert.AdamBDw.main (F := Bits))) ⟨m, fun _ => 0, g⟩ (fun r => (∀ c : Dev Cert.AdamBDw.nD,
      r.2.mem ((c.tc : Thread Cert.AdamBDw.nD Cert.AdamBDw.τ).loc Cert.AdamBDw.main_arg0) = m ((c.tc : Thread Cert.AdamBDw.nD Cert.AdamBDw.τ).loc Cert.AdamBDw.main_arg0)
      ∧ r.2.mem ((c.tc : Thread Cert.AdamBDw.nD Cert.AdamBDw.τ).loc Cert.AdamBDw.main_arg1) = m ((c.tc : Thread Cert.AdamBDw.nD Cert.AdamBDw.τ).loc Cert.AdamBDw.main_arg1)
      ∧ r.2.mem ((c.tc : Thread Cert.AdamBDw.nD Cert.AdamBDw.τ).loc Cert.AdamBDw.main_arg2) = m ((c.tc : Thread Cert.AdamBDw.nD Cert.AdamBDw.τ).loc Cert.AdamBDw.main_arg2)
      ∧ r.2.mem ((c.tc : Thread Cert.AdamBDw.nD Cert.AdamBDw.τ).loc Cert.AdamBDw.main_arg3) = m ((c.tc : Thread Cert.AdamBDw.nD Cert.AdamBDw.τ).loc Cert.AdamBDw.main_arg3))
      ∧ r.2.sem = fun _ => 0)

def quiescent_AdamBDwIdeal [hAdamBDwIdeal : Cert.AdamBDwIdeal.Facts] : Prop :=
  ∀ (m : (ℓ : Loc Cert.AdamBDwIdeal.nD Cert.AdamBDwIdeal.τ Cert.AdamBDwIdeal.sig) → Buf (Elt Ideal) ℓ) (g : Dev Cert.AdamBDwIdeal.nD → PrngReg), Pre_AdamBDwIdeal m →
    θ_run (Cert.AdamBDwIdeal.defs (F := Ideal)) (onTc (τ := Cert.AdamBDwIdeal.τ) (Cert.AdamBDwIdeal.main (F := Ideal))) ⟨m, fun _ => 0, g⟩ (fun r => (∀ c : Dev Cert.AdamBDwIdeal.nD,
      r.2.mem ((c.tc : Thread Cert.AdamBDwIdeal.nD Cert.AdamBDwIdeal.τ).loc Cert.AdamBDwIdeal.main_arg0) = m ((c.tc : Thread Cert.AdamBDwIdeal.nD Cert.AdamBDwIdeal.τ).loc Cert.AdamBDwIdeal.main_arg0)
      ∧ r.2.mem ((c.tc : Thread Cert.AdamBDwIdeal.nD Cert.AdamBDwIdeal.τ).loc Cert.AdamBDwIdeal.main_arg1) = m ((c.tc : Thread Cert.AdamBDwIdeal.nD Cert.AdamBDwIdeal.τ).loc Cert.AdamBDwIdeal.main_arg1)
      ∧ r.2.mem ((c.tc : Thread Cert.AdamBDwIdeal.nD Cert.AdamBDwIdeal.τ).loc Cert.AdamBDwIdeal.main_arg2) = m ((c.tc : Thread Cert.AdamBDwIdeal.nD Cert.AdamBDwIdeal.τ).loc Cert.AdamBDwIdeal.main_arg2)
      ∧ r.2.mem ((c.tc : Thread Cert.AdamBDwIdeal.nD Cert.AdamBDwIdeal.τ).loc Cert.AdamBDwIdeal.main_arg3) = m ((c.tc : Thread Cert.AdamBDwIdeal.nD Cert.AdamBDwIdeal.τ).loc Cert.AdamBDwIdeal.main_arg3))
      ∧ r.2.sem = fun _ => 0)

def quiescent_AdamBDwRefIdeal [hAdamBDwRefIdeal : Cert.AdamBDwRefIdeal.Facts] : Prop :=
  ∀ (m : (ℓ : Loc Cert.AdamBDwRefIdeal.nD Cert.AdamBDwRefIdeal.τ Cert.AdamBDwRefIdeal.sig) → Buf (Elt Ideal) ℓ) (g : Dev Cert.AdamBDwRefIdeal.nD → PrngReg), Pre_AdamBDwRefIdeal m →
    θ_run (Cert.AdamBDwRefIdeal.defs (F := Ideal)) (onTc (τ := Cert.AdamBDwRefIdeal.τ) (Cert.AdamBDwRefIdeal.main (F := Ideal))) ⟨m, fun _ => 0, g⟩ (fun r => (∀ c : Dev Cert.AdamBDwRefIdeal.nD,
      r.2.mem ((c.tc : Thread Cert.AdamBDwRefIdeal.nD Cert.AdamBDwRefIdeal.τ).loc Cert.AdamBDwRefIdeal.main_arg0) = m ((c.tc : Thread Cert.AdamBDwRefIdeal.nD Cert.AdamBDwRefIdeal.τ).loc Cert.AdamBDwRefIdeal.main_arg0)
      ∧ r.2.mem ((c.tc : Thread Cert.AdamBDwRefIdeal.nD Cert.AdamBDwRefIdeal.τ).loc Cert.AdamBDwRefIdeal.main_arg1) = m ((c.tc : Thread Cert.AdamBDwRefIdeal.nD Cert.AdamBDwRefIdeal.τ).loc Cert.AdamBDwRefIdeal.main_arg1)
      ∧ r.2.mem ((c.tc : Thread Cert.AdamBDwRefIdeal.nD Cert.AdamBDwRefIdeal.τ).loc Cert.AdamBDwRefIdeal.main_arg2) = m ((c.tc : Thread Cert.AdamBDwRefIdeal.nD Cert.AdamBDwRefIdeal.τ).loc Cert.AdamBDwRefIdeal.main_arg2)
      ∧ r.2.mem ((c.tc : Thread Cert.AdamBDwRefIdeal.nD Cert.AdamBDwRefIdeal.τ).loc Cert.AdamBDwRefIdeal.main_arg3) = m ((c.tc : Thread Cert.AdamBDwRefIdeal.nD Cert.AdamBDwRefIdeal.τ).loc Cert.AdamBDwRefIdeal.main_arg3))
      ∧ r.2.sem = fun _ => 0)

def quiescent_LnSilu [hLnSilu : Cert.LnSilu.Facts] : Prop :=
  ∀ (m : (ℓ : Loc Cert.LnSilu.nD Cert.LnSilu.τ Cert.LnSilu.sig) → Buf (Elt Bits) ℓ) (g : Dev Cert.LnSilu.nD → PrngReg), Pre_LnSilu m →
    θ_run (Cert.LnSilu.defs (F := Bits)) (onTc (τ := Cert.LnSilu.τ) (Cert.LnSilu.main (F := Bits))) ⟨m, fun _ => 0, g⟩ (fun r => (∀ c : Dev Cert.LnSilu.nD,
      r.2.mem ((c.tc : Thread Cert.LnSilu.nD Cert.LnSilu.τ).loc Cert.LnSilu.main_arg0) = m ((c.tc : Thread Cert.LnSilu.nD Cert.LnSilu.τ).loc Cert.LnSilu.main_arg0)
      ∧ r.2.mem ((c.tc : Thread Cert.LnSilu.nD Cert.LnSilu.τ).loc Cert.LnSilu.main_arg1) = m ((c.tc : Thread Cert.LnSilu.nD Cert.LnSilu.τ).loc Cert.LnSilu.main_arg1)
      ∧ r.2.mem ((c.tc : Thread Cert.LnSilu.nD Cert.LnSilu.τ).loc Cert.LnSilu.main_arg2) = m ((c.tc : Thread Cert.LnSilu.nD Cert.LnSilu.τ).loc Cert.LnSilu.main_arg2))
      ∧ r.2.sem = fun _ => 0)

def quiescent_LnSiluIdeal [hLnSiluIdeal : Cert.LnSiluIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg), Pre_LnSiluIdeal m →
    θ_run (Cert.LnSiluIdeal.defs (F := Ideal)) (onTc (τ := Cert.LnSiluIdeal.τ) (Cert.LnSiluIdeal.main (F := Ideal))) ⟨m, fun _ => 0, g⟩ (fun r => (∀ c : Dev Cert.LnSiluIdeal.nD,
      r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
      ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
      ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2))
      ∧ r.2.sem = fun _ => 0)

def quiescent_LnSiluRefIdeal [hLnSiluRefIdeal : Cert.LnSiluRefIdeal.Facts] : Prop :=
  ∀ (m : (ℓ : Loc Cert.LnSiluRefIdeal.nD Cert.LnSiluRefIdeal.τ Cert.LnSiluRefIdeal.sig) → Buf (Elt Ideal) ℓ) (g : Dev Cert.LnSiluRefIdeal.nD → PrngReg), Pre_LnSiluRefIdeal m →
    θ_run (Cert.LnSiluRefIdeal.defs (F := Ideal)) (onTc (τ := Cert.LnSiluRefIdeal.τ) (Cert.LnSiluRefIdeal.main (F := Ideal))) ⟨m, fun _ => 0, g⟩ (fun r => (∀ c : Dev Cert.LnSiluRefIdeal.nD,
      r.2.mem ((c.tc : Thread Cert.LnSiluRefIdeal.nD Cert.LnSiluRefIdeal.τ).loc Cert.LnSiluRefIdeal.main_arg0) = m ((c.tc : Thread Cert.LnSiluRefIdeal.nD Cert.LnSiluRefIdeal.τ).loc Cert.LnSiluRefIdeal.main_arg0)
      ∧ r.2.mem ((c.tc : Thread Cert.LnSiluRefIdeal.nD Cert.LnSiluRefIdeal.τ).loc Cert.LnSiluRefIdeal.main_arg1) = m ((c.tc : Thread Cert.LnSiluRefIdeal.nD Cert.LnSiluRefIdeal.τ).loc Cert.LnSiluRefIdeal.main_arg1)
      ∧ r.2.mem ((c.tc : Thread Cert.LnSiluRefIdeal.nD Cert.LnSiluRefIdeal.τ).loc Cert.LnSiluRefIdeal.main_arg2) = m ((c.tc : Thread Cert.LnSiluRefIdeal.nD Cert.LnSiluRefIdeal.τ).loc Cert.LnSiluRefIdeal.main_arg2))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] [hPre_ffn_out_dx_finite : Cert.Pre_ffn_out_dx_finite.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)
      ∧ m' ((c.tc : Thread Cert.FfnOutDxRefIdeal.nD Cert.FfnOutDxRefIdeal.τ).loc Cert.FfnOutDxRefIdeal.main_arg2) = m ((c.tc : Thread Cert.FfnOutDxIdeal.nD Cert.FfnOutDxIdeal.τ).loc Cert.FfnOutDxIdeal.main_arg2)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
          ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v17) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1)
          ∧ r.2.mem ((c.tc : Thread Cert.FfnOutDxRefIdeal.nD Cert.FfnOutDxRefIdeal.τ).loc Cert.FfnOutDxRefIdeal.main_arg2) = m' ((c.tc : Thread Cert.FfnOutDxRefIdeal.nD Cert.FfnOutDxRefIdeal.τ).loc Cert.FfnOutDxRefIdeal.main_arg2))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)
      ∧ m' ((c.tc : Thread Cert.FfnInDxRefIdeal.nD Cert.FfnInDxRefIdeal.τ).loc Cert.FfnInDxRefIdeal.main_arg3) = m ((c.tc : Thread Cert.FfnInDxIdeal.nD Cert.FfnInDxIdeal.τ).loc Cert.FfnInDxIdeal.main_arg3)
      ∧ m' ((c.tc : Thread Cert.FfnInDxRefIdeal.nD Cert.FfnInDxRefIdeal.τ).loc Cert.FfnInDxRefIdeal.main_arg4) = m ((c.tc : Thread Cert.FfnInDxIdeal.nD Cert.FfnInDxIdeal.τ).loc Cert.FfnInDxIdeal.main_arg4)
      ∧ m' ((c.tc : Thread Cert.FfnInDxRefIdeal.nD Cert.FfnInDxRefIdeal.τ).loc Cert.FfnInDxRefIdeal.main_arg5) = m ((c.tc : Thread Cert.FfnInDxIdeal.nD Cert.FfnInDxIdeal.τ).loc Cert.FfnInDxIdeal.main_arg5)
      ∧ m' ((c.tc : Thread Cert.FfnInDxRefIdeal.nD Cert.FfnInDxRefIdeal.τ).loc Cert.FfnInDxRefIdeal.main_arg6) = m ((c.tc : Thread Cert.FfnInDxIdeal.nD Cert.FfnInDxIdeal.τ).loc Cert.FfnInDxIdeal.main_arg6)
      ∧ m' ((c.tc : Thread Cert.FfnInDxRefIdeal.nD Cert.FfnInDxRefIdeal.τ).loc Cert.FfnInDxRefIdeal.main_arg7) = m ((c.tc : Thread Cert.FfnInDxIdeal.nD Cert.FfnInDxIdeal.τ).loc Cert.FfnInDxIdeal.main_arg7)) →
    ∃ (v0 : (c : Dev Cert.FfnInDxIdeal.nD) → Buf (Elt Ideal) ((c.tc : Thread Cert.FfnInDxIdeal.nD Cert.FfnInDxIdeal.τ).loc Cert.FfnInDxIdeal.main_v3_0)) (v1 : (c : Dev Cert.FfnInDxIdeal.nD) → Buf (Elt Ideal) ((c.tc : Thread Cert.FfnInDxIdeal.nD Cert.FfnInDxIdeal.τ).loc Cert.FfnInDxIdeal.main_v3_1)) (v2 : (c : Dev Cert.FfnInDxIdeal.nD) → Buf (Elt Ideal) ((c.tc : Thread Cert.FfnInDxIdeal.nD Cert.FfnInDxIdeal.τ).loc Cert.FfnInDxIdeal.main_v3_2)) (v3 : (c : Dev Cert.FfnInDxIdeal.nD) → Buf (Elt Ideal) ((c.tc : Thread Cert.FfnInDxIdeal.nD Cert.FfnInDxIdeal.τ).loc Cert.FfnInDxIdeal.main_v3_3)) (v4 : (c : Dev Cert.FfnInDxIdeal.nD) → Buf (Elt Ideal) ((c.tc : Thread Cert.FfnInDxIdeal.nD Cert.FfnInDxIdeal.τ).loc Cert.FfnInDxIdeal.main_v3_4)) (v5 : (c : Dev Cert.FfnInDxIdeal.nD) → Buf (Elt Ideal) ((c.tc : Thread Cert.FfnInDxIdeal.nD Cert.FfnInDxIdeal.τ).loc Cert.FfnInDxIdeal.main_v3_5)) (v6 : (c : Dev Cert.FfnInDxIdeal.nD) → Buf (Elt Ideal) ((c.tc : Thread Cert.FfnInDxIdeal.nD Cert.FfnInDxIdeal.τ).loc Cert.FfnInDxIdeal.main_v3_6)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v3_0) = v0 c
          ∧ r.2.mem ((c.tc : Thread Cert.FfnInDxIdeal.nD Cert.FfnInDxIdeal.τ).loc Cert.FfnInDxIdeal.main_v3_1) = v1 c
          ∧ r.2.mem ((c.tc : Thread Cert.FfnInDxIdeal.nD Cert.FfnInDxIdeal.τ).loc Cert.FfnInDxIdeal.main_v3_2) = v2 c
          ∧ r.2.mem ((c.tc : Thread Cert.FfnInDxIdeal.nD Cert.FfnInDxIdeal.τ).loc Cert.FfnInDxIdeal.main_v3_3) = v3 c
          ∧ r.2.mem ((c.tc : Thread Cert.FfnInDxIdeal.nD Cert.FfnInDxIdeal.τ).loc Cert.FfnInDxIdeal.main_v3_4) = v4 c
          ∧ r.2.mem ((c.tc : Thread Cert.FfnInDxIdeal.nD Cert.FfnInDxIdeal.τ).loc Cert.FfnInDxIdeal.main_v3_5) = v5 c
          ∧ r.2.mem ((c.tc : Thread Cert.FfnInDxIdeal.nD Cert.FfnInDxIdeal.τ).loc Cert.FfnInDxIdeal.main_v3_6) = v6 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
          ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3)
          ∧ r.2.mem ((c.tc : Thread Cert.FfnInDxIdeal.nD Cert.FfnInDxIdeal.τ).loc Cert.FfnInDxIdeal.main_arg4) = m ((c.tc : Thread Cert.FfnInDxIdeal.nD Cert.FfnInDxIdeal.τ).loc Cert.FfnInDxIdeal.main_arg4)
          ∧ r.2.mem ((c.tc : Thread Cert.FfnInDxIdeal.nD Cert.FfnInDxIdeal.τ).loc Cert.FfnInDxIdeal.main_arg5) = m ((c.tc : Thread Cert.FfnInDxIdeal.nD Cert.FfnInDxIdeal.τ).loc Cert.FfnInDxIdeal.main_arg5)
          ∧ r.2.mem ((c.tc : Thread Cert.FfnInDxIdeal.nD Cert.FfnInDxIdeal.τ).loc Cert.FfnInDxIdeal.main_arg6) = m ((c.tc : Thread Cert.FfnInDxIdeal.nD Cert.FfnInDxIdeal.τ).loc Cert.FfnInDxIdeal.main_arg6)
          ∧ r.2.mem ((c.tc : Thread Cert.FfnInDxIdeal.nD Cert.FfnInDxIdeal.τ).loc Cert.FfnInDxIdeal.main_arg7) = m ((c.tc : Thread Cert.FfnInDxIdeal.nD Cert.FfnInDxIdeal.τ).loc Cert.FfnInDxIdeal.main_arg7))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v64) = v0 c
          ∧ r.2.mem ((c.tc : Thread Cert.FfnInDxRefIdeal.nD Cert.FfnInDxRefIdeal.τ).loc Cert.FfnInDxRefIdeal.main_v73) = v1 c
          ∧ r.2.mem ((c.tc : Thread Cert.FfnInDxRefIdeal.nD Cert.FfnInDxRefIdeal.τ).loc Cert.FfnInDxRefIdeal.main_v39) = v2 c
          ∧ r.2.mem ((c.tc : Thread Cert.FfnInDxRefIdeal.nD Cert.FfnInDxRefIdeal.τ).loc Cert.FfnInDxRefIdeal.main_v42) = v3 c
          ∧ r.2.mem ((c.tc : Thread Cert.FfnInDxRefIdeal.nD Cert.FfnInDxRefIdeal.τ).loc Cert.FfnInDxRefIdeal.main_v47) = v4 c
          ∧ r.2.mem ((c.tc : Thread Cert.FfnInDxRefIdeal.nD Cert.FfnInDxRefIdeal.τ).loc Cert.FfnInDxRefIdeal.main_v70) = v5 c
          ∧ r.2.mem ((c.tc : Thread Cert.FfnInDxRefIdeal.nD Cert.FfnInDxRefIdeal.τ).loc Cert.FfnInDxRefIdeal.main_v72) = v6 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2)
          ∧ r.2.mem ((c.tc : Thread Cert.FfnInDxRefIdeal.nD Cert.FfnInDxRefIdeal.τ).loc Cert.FfnInDxRefIdeal.main_arg3) = m' ((c.tc : Thread Cert.FfnInDxRefIdeal.nD Cert.FfnInDxRefIdeal.τ).loc Cert.FfnInDxRefIdeal.main_arg3)
          ∧ r.2.mem ((c.tc : Thread Cert.FfnInDxRefIdeal.nD Cert.FfnInDxRefIdeal.τ).loc Cert.FfnInDxRefIdeal.main_arg4) = m' ((c.tc : Thread Cert.FfnInDxRefIdeal.nD Cert.FfnInDxRefIdeal.τ).loc Cert.FfnInDxRefIdeal.main_arg4)
          ∧ r.2.mem ((c.tc : Thread Cert.FfnInDxRefIdeal.nD Cert.FfnInDxRefIdeal.τ).loc Cert.FfnInDxRefIdeal.main_arg5) = m' ((c.tc : Thread Cert.FfnInDxRefIdeal.nD Cert.FfnInDxRefIdeal.τ).loc Cert.FfnInDxRefIdeal.main_arg5)
          ∧ r.2.mem ((c.tc : Thread Cert.FfnInDxRefIdeal.nD Cert.FfnInDxRefIdeal.τ).loc Cert.FfnInDxRefIdeal.main_arg6) = m' ((c.tc : Thread Cert.FfnInDxRefIdeal.nD Cert.FfnInDxRefIdeal.τ).loc Cert.FfnInDxRefIdeal.main_arg6)
          ∧ r.2.mem ((c.tc : Thread Cert.FfnInDxRefIdeal.nD Cert.FfnInDxRefIdeal.τ).loc Cert.FfnInDxRefIdeal.main_arg7) = m' ((c.tc : Thread Cert.FfnInDxRefIdeal.nD Cert.FfnInDxRefIdeal.τ).loc Cert.FfnInDxRefIdeal.main_arg7))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v5) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v14) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Pw1Dw_Pw1DwIdeal : Prop :=
  True

def algebraic_Pw1DwIdeal_Pw1DwRefIdeal [hPw1DwIdeal : Cert.Pw1DwIdeal.Facts] [hPw1DwRefIdeal : Cert.Pw1DwRefIdeal.Facts] : Prop :=
  ∀ (m : (ℓ : Loc Cert.Pw1DwIdeal.nD Cert.Pw1DwIdeal.τ Cert.Pw1DwIdeal.sig) → Buf (Elt Ideal) ℓ) (g : Dev Cert.Pw1DwIdeal.nD → PrngReg)
    (m' : (ℓ : Loc Cert.Pw1DwRefIdeal.nD Cert.Pw1DwRefIdeal.τ Cert.Pw1DwRefIdeal.sig) → Buf (Elt Ideal) ℓ) (g' : Dev Cert.Pw1DwRefIdeal.nD → PrngReg), Pre_Pw1DwIdeal m →
    (∀ c : Dev Cert.Pw1DwIdeal.nD,
      m' ((c.tc : Thread Cert.Pw1DwRefIdeal.nD Cert.Pw1DwRefIdeal.τ).loc Cert.Pw1DwRefIdeal.main_arg0) = m ((c.tc : Thread Cert.Pw1DwIdeal.nD Cert.Pw1DwIdeal.τ).loc Cert.Pw1DwIdeal.main_arg0)
      ∧ m' ((c.tc : Thread Cert.Pw1DwRefIdeal.nD Cert.Pw1DwRefIdeal.τ).loc Cert.Pw1DwRefIdeal.main_arg1) = m ((c.tc : Thread Cert.Pw1DwIdeal.nD Cert.Pw1DwIdeal.τ).loc Cert.Pw1DwIdeal.main_arg1)) →
    ∃ (v0 : (c : Dev Cert.Pw1DwIdeal.nD) → Buf (Elt Ideal) ((c.tc : Thread Cert.Pw1DwIdeal.nD Cert.Pw1DwIdeal.τ).loc Cert.Pw1DwIdeal.main_v0)),
      θ_run (Cert.Pw1DwIdeal.defs (F := Ideal)) (onTc (τ := Cert.Pw1DwIdeal.τ) (Cert.Pw1DwIdeal.main (F := Ideal))) ⟨m, fun _ => 0, g⟩ (fun r => ∀ c : Dev Cert.Pw1DwIdeal.nD,
          r.2.mem ((c.tc : Thread Cert.Pw1DwIdeal.nD Cert.Pw1DwIdeal.τ).loc Cert.Pw1DwIdeal.main_v0) = v0 c
          ∧ r.2.mem ((c.tc : Thread Cert.Pw1DwIdeal.nD Cert.Pw1DwIdeal.τ).loc Cert.Pw1DwIdeal.main_arg0) = m ((c.tc : Thread Cert.Pw1DwIdeal.nD Cert.Pw1DwIdeal.τ).loc Cert.Pw1DwIdeal.main_arg0)
          ∧ r.2.mem ((c.tc : Thread Cert.Pw1DwIdeal.nD Cert.Pw1DwIdeal.τ).loc Cert.Pw1DwIdeal.main_arg1) = m ((c.tc : Thread Cert.Pw1DwIdeal.nD Cert.Pw1DwIdeal.τ).loc Cert.Pw1DwIdeal.main_arg1))
      ∧ θ_run (Cert.Pw1DwRefIdeal.defs (F := Ideal)) (onTc (τ := Cert.Pw1DwRefIdeal.τ) (Cert.Pw1DwRefIdeal.main (F := Ideal))) ⟨m', fun _ => 0, g'⟩ (fun r => ∀ c : Dev Cert.Pw1DwRefIdeal.nD,
          r.2.mem ((c.tc : Thread Cert.Pw1DwRefIdeal.nD Cert.Pw1DwRefIdeal.τ).loc Cert.Pw1DwRefIdeal.main_v5) = v0 c
          ∧ r.2.mem ((c.tc : Thread Cert.Pw1DwRefIdeal.nD Cert.Pw1DwRefIdeal.τ).loc Cert.Pw1DwRefIdeal.main_arg0) = m' ((c.tc : Thread Cert.Pw1DwRefIdeal.nD Cert.Pw1DwRefIdeal.τ).loc Cert.Pw1DwRefIdeal.main_arg0)
          ∧ r.2.mem ((c.tc : Thread Cert.Pw1DwRefIdeal.nD Cert.Pw1DwRefIdeal.τ).loc Cert.Pw1DwRefIdeal.main_arg1) = m' ((c.tc : Thread Cert.Pw1DwRefIdeal.nD Cert.Pw1DwRefIdeal.τ).loc Cert.Pw1DwRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v5) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v4) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v4) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_Pw1Dx_Pw1DxIdeal : Prop :=
  True

def algebraic_Pw1DxIdeal_Pw1DxRefIdeal [hPw1DxIdeal : Cert.Pw1DxIdeal.Facts] [hPw1DxRefIdeal : Cert.Pw1DxRefIdeal.Facts] : Prop :=
  ∀ (m : (ℓ : Loc Cert.Pw1DxIdeal.nD Cert.Pw1DxIdeal.τ Cert.Pw1DxIdeal.sig) → Buf (Elt Ideal) ℓ) (g : Dev Cert.Pw1DxIdeal.nD → PrngReg)
    (m' : (ℓ : Loc Cert.Pw1DxRefIdeal.nD Cert.Pw1DxRefIdeal.τ Cert.Pw1DxRefIdeal.sig) → Buf (Elt Ideal) ℓ) (g' : Dev Cert.Pw1DxRefIdeal.nD → PrngReg), Pre_Pw1DxIdeal m →
    (∀ c : Dev Cert.Pw1DxIdeal.nD,
      m' ((c.tc : Thread Cert.Pw1DxRefIdeal.nD Cert.Pw1DxRefIdeal.τ).loc Cert.Pw1DxRefIdeal.main_arg0) = m ((c.tc : Thread Cert.Pw1DxIdeal.nD Cert.Pw1DxIdeal.τ).loc Cert.Pw1DxIdeal.main_arg0)
      ∧ m' ((c.tc : Thread Cert.Pw1DxRefIdeal.nD Cert.Pw1DxRefIdeal.τ).loc Cert.Pw1DxRefIdeal.main_arg1) = m ((c.tc : Thread Cert.Pw1DxIdeal.nD Cert.Pw1DxIdeal.τ).loc Cert.Pw1DxIdeal.main_arg1)
      ∧ m' ((c.tc : Thread Cert.Pw1DxRefIdeal.nD Cert.Pw1DxRefIdeal.τ).loc Cert.Pw1DxRefIdeal.main_arg2) = m ((c.tc : Thread Cert.Pw1DxIdeal.nD Cert.Pw1DxIdeal.τ).loc Cert.Pw1DxIdeal.main_arg2)
      ∧ m' ((c.tc : Thread Cert.Pw1DxRefIdeal.nD Cert.Pw1DxRefIdeal.τ).loc Cert.Pw1DxRefIdeal.main_arg3) = m ((c.tc : Thread Cert.Pw1DxIdeal.nD Cert.Pw1DxIdeal.τ).loc Cert.Pw1DxIdeal.main_arg3)
      ∧ m' ((c.tc : Thread Cert.Pw1DxRefIdeal.nD Cert.Pw1DxRefIdeal.τ).loc Cert.Pw1DxRefIdeal.main_arg4) = m ((c.tc : Thread Cert.Pw1DxIdeal.nD Cert.Pw1DxIdeal.τ).loc Cert.Pw1DxIdeal.main_arg4)
      ∧ m' ((c.tc : Thread Cert.Pw1DxRefIdeal.nD Cert.Pw1DxRefIdeal.τ).loc Cert.Pw1DxRefIdeal.main_arg5) = m ((c.tc : Thread Cert.Pw1DxIdeal.nD Cert.Pw1DxIdeal.τ).loc Cert.Pw1DxIdeal.main_arg5)
      ∧ m' ((c.tc : Thread Cert.Pw1DxRefIdeal.nD Cert.Pw1DxRefIdeal.τ).loc Cert.Pw1DxRefIdeal.main_arg6) = m ((c.tc : Thread Cert.Pw1DxIdeal.nD Cert.Pw1DxIdeal.τ).loc Cert.Pw1DxIdeal.main_arg6)
      ∧ m' ((c.tc : Thread Cert.Pw1DxRefIdeal.nD Cert.Pw1DxRefIdeal.τ).loc Cert.Pw1DxRefIdeal.main_arg7) = m ((c.tc : Thread Cert.Pw1DxIdeal.nD Cert.Pw1DxIdeal.τ).loc Cert.Pw1DxIdeal.main_arg7)) →
    ∃ (v0 : (c : Dev Cert.Pw1DxIdeal.nD) → Buf (Elt Ideal) ((c.tc : Thread Cert.Pw1DxIdeal.nD Cert.Pw1DxIdeal.τ).loc Cert.Pw1DxIdeal.main_v3_0)) (v1 : (c : Dev Cert.Pw1DxIdeal.nD) → Buf (Elt Ideal) ((c.tc : Thread Cert.Pw1DxIdeal.nD Cert.Pw1DxIdeal.τ).loc Cert.Pw1DxIdeal.main_v3_1)) (v2 : (c : Dev Cert.Pw1DxIdeal.nD) → Buf (Elt Ideal) ((c.tc : Thread Cert.Pw1DxIdeal.nD Cert.Pw1DxIdeal.τ).loc Cert.Pw1DxIdeal.main_v3_2)) (v3 : (c : Dev Cert.Pw1DxIdeal.nD) → Buf (Elt Ideal) ((c.tc : Thread Cert.Pw1DxIdeal.nD Cert.Pw1DxIdeal.τ).loc Cert.Pw1DxIdeal.main_v3_3)) (v4 : (c : Dev Cert.Pw1DxIdeal.nD) → Buf (Elt Ideal) ((c.tc : Thread Cert.Pw1DxIdeal.nD Cert.Pw1DxIdeal.τ).loc Cert.Pw1DxIdeal.main_v3_4)) (v5 : (c : Dev Cert.Pw1DxIdeal.nD) → Buf (Elt Ideal) ((c.tc : Thread Cert.Pw1DxIdeal.nD Cert.Pw1DxIdeal.τ).loc Cert.Pw1DxIdeal.main_v3_5)) (v6 : (c : Dev Cert.Pw1DxIdeal.nD) → Buf (Elt Ideal) ((c.tc : Thread Cert.Pw1DxIdeal.nD Cert.Pw1DxIdeal.τ).loc Cert.Pw1DxIdeal.main_v3_6)),
      θ_run (Cert.Pw1DxIdeal.defs (F := Ideal)) (onTc (τ := Cert.Pw1DxIdeal.τ) (Cert.Pw1DxIdeal.main (F := Ideal))) ⟨m, fun _ => 0, g⟩ (fun r => ∀ c : Dev Cert.Pw1DxIdeal.nD,
          r.2.mem ((c.tc : Thread Cert.Pw1DxIdeal.nD Cert.Pw1DxIdeal.τ).loc Cert.Pw1DxIdeal.main_v3_0) = v0 c
          ∧ r.2.mem ((c.tc : Thread Cert.Pw1DxIdeal.nD Cert.Pw1DxIdeal.τ).loc Cert.Pw1DxIdeal.main_v3_1) = v1 c
          ∧ r.2.mem ((c.tc : Thread Cert.Pw1DxIdeal.nD Cert.Pw1DxIdeal.τ).loc Cert.Pw1DxIdeal.main_v3_2) = v2 c
          ∧ r.2.mem ((c.tc : Thread Cert.Pw1DxIdeal.nD Cert.Pw1DxIdeal.τ).loc Cert.Pw1DxIdeal.main_v3_3) = v3 c
          ∧ r.2.mem ((c.tc : Thread Cert.Pw1DxIdeal.nD Cert.Pw1DxIdeal.τ).loc Cert.Pw1DxIdeal.main_v3_4) = v4 c
          ∧ r.2.mem ((c.tc : Thread Cert.Pw1DxIdeal.nD Cert.Pw1DxIdeal.τ).loc Cert.Pw1DxIdeal.main_v3_5) = v5 c
          ∧ r.2.mem ((c.tc : Thread Cert.Pw1DxIdeal.nD Cert.Pw1DxIdeal.τ).loc Cert.Pw1DxIdeal.main_v3_6) = v6 c
          ∧ r.2.mem ((c.tc : Thread Cert.Pw1DxIdeal.nD Cert.Pw1DxIdeal.τ).loc Cert.Pw1DxIdeal.main_arg0) = m ((c.tc : Thread Cert.Pw1DxIdeal.nD Cert.Pw1DxIdeal.τ).loc Cert.Pw1DxIdeal.main_arg0)
          ∧ r.2.mem ((c.tc : Thread Cert.Pw1DxIdeal.nD Cert.Pw1DxIdeal.τ).loc Cert.Pw1DxIdeal.main_arg1) = m ((c.tc : Thread Cert.Pw1DxIdeal.nD Cert.Pw1DxIdeal.τ).loc Cert.Pw1DxIdeal.main_arg1)
          ∧ r.2.mem ((c.tc : Thread Cert.Pw1DxIdeal.nD Cert.Pw1DxIdeal.τ).loc Cert.Pw1DxIdeal.main_arg2) = m ((c.tc : Thread Cert.Pw1DxIdeal.nD Cert.Pw1DxIdeal.τ).loc Cert.Pw1DxIdeal.main_arg2)
          ∧ r.2.mem ((c.tc : Thread Cert.Pw1DxIdeal.nD Cert.Pw1DxIdeal.τ).loc Cert.Pw1DxIdeal.main_arg3) = m ((c.tc : Thread Cert.Pw1DxIdeal.nD Cert.Pw1DxIdeal.τ).loc Cert.Pw1DxIdeal.main_arg3)
          ∧ r.2.mem ((c.tc : Thread Cert.Pw1DxIdeal.nD Cert.Pw1DxIdeal.τ).loc Cert.Pw1DxIdeal.main_arg4) = m ((c.tc : Thread Cert.Pw1DxIdeal.nD Cert.Pw1DxIdeal.τ).loc Cert.Pw1DxIdeal.main_arg4)
          ∧ r.2.mem ((c.tc : Thread Cert.Pw1DxIdeal.nD Cert.Pw1DxIdeal.τ).loc Cert.Pw1DxIdeal.main_arg5) = m ((c.tc : Thread Cert.Pw1DxIdeal.nD Cert.Pw1DxIdeal.τ).loc Cert.Pw1DxIdeal.main_arg5)
          ∧ r.2.mem ((c.tc : Thread Cert.Pw1DxIdeal.nD Cert.Pw1DxIdeal.τ).loc Cert.Pw1DxIdeal.main_arg6) = m ((c.tc : Thread Cert.Pw1DxIdeal.nD Cert.Pw1DxIdeal.τ).loc Cert.Pw1DxIdeal.main_arg6)
          ∧ r.2.mem ((c.tc : Thread Cert.Pw1DxIdeal.nD Cert.Pw1DxIdeal.τ).loc Cert.Pw1DxIdeal.main_arg7) = m ((c.tc : Thread Cert.Pw1DxIdeal.nD Cert.Pw1DxIdeal.τ).loc Cert.Pw1DxIdeal.main_arg7))
      ∧ θ_run (Cert.Pw1DxRefIdeal.defs (F := Ideal)) (onTc (τ := Cert.Pw1DxRefIdeal.τ) (Cert.Pw1DxRefIdeal.main (F := Ideal))) ⟨m', fun _ => 0, g'⟩ (fun r => ∀ c : Dev Cert.Pw1DxRefIdeal.nD,
          r.2.mem ((c.tc : Thread Cert.Pw1DxRefIdeal.nD Cert.Pw1DxRefIdeal.τ).loc Cert.Pw1DxRefIdeal.main_v57) = v0 c
          ∧ r.2.mem ((c.tc : Thread Cert.Pw1DxRefIdeal.nD Cert.Pw1DxRefIdeal.τ).loc Cert.Pw1DxRefIdeal.main_v66) = v1 c
          ∧ r.2.mem ((c.tc : Thread Cert.Pw1DxRefIdeal.nD Cert.Pw1DxRefIdeal.τ).loc Cert.Pw1DxRefIdeal.main_v32) = v2 c
          ∧ r.2.mem ((c.tc : Thread Cert.Pw1DxRefIdeal.nD Cert.Pw1DxRefIdeal.τ).loc Cert.Pw1DxRefIdeal.main_v35) = v3 c
          ∧ r.2.mem ((c.tc : Thread Cert.Pw1DxRefIdeal.nD Cert.Pw1DxRefIdeal.τ).loc Cert.Pw1DxRefIdeal.main_v40) = v4 c
          ∧ r.2.mem ((c.tc : Thread Cert.Pw1DxRefIdeal.nD Cert.Pw1DxRefIdeal.τ).loc Cert.Pw1DxRefIdeal.main_v63) = v5 c
          ∧ r.2.mem ((c.tc : Thread Cert.Pw1DxRefIdeal.nD Cert.Pw1DxRefIdeal.τ).loc Cert.Pw1DxRefIdeal.main_v65) = v6 c
          ∧ r.2.mem ((c.tc : Thread Cert.Pw1DxRefIdeal.nD Cert.Pw1DxRefIdeal.τ).loc Cert.Pw1DxRefIdeal.main_arg0) = m' ((c.tc : Thread Cert.Pw1DxRefIdeal.nD Cert.Pw1DxRefIdeal.τ).loc Cert.Pw1DxRefIdeal.main_arg0)
          ∧ r.2.mem ((c.tc : Thread Cert.Pw1DxRefIdeal.nD Cert.Pw1DxRefIdeal.τ).loc Cert.Pw1DxRefIdeal.main_arg1) = m' ((c.tc : Thread Cert.Pw1DxRefIdeal.nD Cert.Pw1DxRefIdeal.τ).loc Cert.Pw1DxRefIdeal.main_arg1)
          ∧ r.2.mem ((c.tc : Thread Cert.Pw1DxRefIdeal.nD Cert.Pw1DxRefIdeal.τ).loc Cert.Pw1DxRefIdeal.main_arg2) = m' ((c.tc : Thread Cert.Pw1DxRefIdeal.nD Cert.Pw1DxRefIdeal.τ).loc Cert.Pw1DxRefIdeal.main_arg2)
          ∧ r.2.mem ((c.tc : Thread Cert.Pw1DxRefIdeal.nD Cert.Pw1DxRefIdeal.τ).loc Cert.Pw1DxRefIdeal.main_arg3) = m' ((c.tc : Thread Cert.Pw1DxRefIdeal.nD Cert.Pw1DxRefIdeal.τ).loc Cert.Pw1DxRefIdeal.main_arg3)
          ∧ r.2.mem ((c.tc : Thread Cert.Pw1DxRefIdeal.nD Cert.Pw1DxRefIdeal.τ).loc Cert.Pw1DxRefIdeal.main_arg4) = m' ((c.tc : Thread Cert.Pw1DxRefIdeal.nD Cert.Pw1DxRefIdeal.τ).loc Cert.Pw1DxRefIdeal.main_arg4)
          ∧ r.2.mem ((c.tc : Thread Cert.Pw1DxRefIdeal.nD Cert.Pw1DxRefIdeal.τ).loc Cert.Pw1DxRefIdeal.main_arg5) = m' ((c.tc : Thread Cert.Pw1DxRefIdeal.nD Cert.Pw1DxRefIdeal.τ).loc Cert.Pw1DxRefIdeal.main_arg5)
          ∧ r.2.mem ((c.tc : Thread Cert.Pw1DxRefIdeal.nD Cert.Pw1DxRefIdeal.τ).loc Cert.Pw1DxRefIdeal.main_arg6) = m' ((c.tc : Thread Cert.Pw1DxRefIdeal.nD Cert.Pw1DxRefIdeal.τ).loc Cert.Pw1DxRefIdeal.main_arg6)
          ∧ r.2.mem ((c.tc : Thread Cert.Pw1DxRefIdeal.nD Cert.Pw1DxRefIdeal.τ).loc Cert.Pw1DxRefIdeal.main_arg7) = m' ((c.tc : Thread Cert.Pw1DxRefIdeal.nD Cert.Pw1DxRefIdeal.τ).loc Cert.Pw1DxRefIdeal.main_arg7))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v10) = v0 c
          ∧ r.2.mem ((c.tc : Thread Cert.FfnInRefIdeal.nD Cert.FfnInRefIdeal.τ).loc Cert.FfnInRefIdeal.main_v13) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)
      ∧ m' ((c.tc : Thread Cert.FfnOutRefIdeal.nD Cert.FfnOutRefIdeal.τ).loc Cert.FfnOutRefIdeal.main_arg6) = m ((c.tc : Thread Cert.FfnOutIdeal.nD Cert.FfnOutIdeal.τ).loc Cert.FfnOutIdeal.main_arg6)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)) (v2 : (c : Dev Cert.FfnOutIdeal.nD) → Buf (Elt Ideal) ((c.tc : Thread Cert.FfnOutIdeal.nD Cert.FfnOutIdeal.τ).loc Cert.FfnOutIdeal.main_v0_2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_v0_2) = v2 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
          ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_v5) = v1 c
          ∧ r.2.mem ((c.tc : Thread Cert.FfnOutRefIdeal.nD Cert.FfnOutRefIdeal.τ).loc Cert.FfnOutRefIdeal.main_v24) = v2 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5)
          ∧ r.2.mem ((c.tc : Thread Cert.FfnOutRefIdeal.nD Cert.FfnOutRefIdeal.τ).loc Cert.FfnOutRefIdeal.main_arg6) = m' ((c.tc : Thread Cert.FfnOutRefIdeal.nD Cert.FfnOutRefIdeal.τ).loc Cert.FfnOutRefIdeal.main_arg6))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_v5) = v1 c
          ∧ r.2.mem ((c.tc : Thread Cert.MixOutRefIdeal.nD Cert.MixOutRefIdeal.τ).loc Cert.MixOutRefIdeal.main_v24) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_Pw2_Pw2Ideal : Prop :=
  True

def algebraic_Pw2Ideal_Pw2RefIdeal [hPw2Ideal : Cert.Pw2Ideal.Facts] [hPw2RefIdeal : Cert.Pw2RefIdeal.Facts] : Prop :=
  ∀ (m : (ℓ : Loc Cert.Pw2Ideal.nD Cert.Pw2Ideal.τ Cert.Pw2Ideal.sig) → Buf (Elt Ideal) ℓ) (g : Dev Cert.Pw2Ideal.nD → PrngReg)
    (m' : (ℓ : Loc Cert.Pw2RefIdeal.nD Cert.Pw2RefIdeal.τ Cert.Pw2RefIdeal.sig) → Buf (Elt Ideal) ℓ) (g' : Dev Cert.Pw2RefIdeal.nD → PrngReg), Pre_Pw2Ideal m →
    (∀ c : Dev Cert.Pw2Ideal.nD,
      m' ((c.tc : Thread Cert.Pw2RefIdeal.nD Cert.Pw2RefIdeal.τ).loc Cert.Pw2RefIdeal.main_arg0) = m ((c.tc : Thread Cert.Pw2Ideal.nD Cert.Pw2Ideal.τ).loc Cert.Pw2Ideal.main_arg0)
      ∧ m' ((c.tc : Thread Cert.Pw2RefIdeal.nD Cert.Pw2RefIdeal.τ).loc Cert.Pw2RefIdeal.main_arg1) = m ((c.tc : Thread Cert.Pw2Ideal.nD Cert.Pw2Ideal.τ).loc Cert.Pw2Ideal.main_arg1)
      ∧ m' ((c.tc : Thread Cert.Pw2RefIdeal.nD Cert.Pw2RefIdeal.τ).loc Cert.Pw2RefIdeal.main_arg2) = m ((c.tc : Thread Cert.Pw2Ideal.nD Cert.Pw2Ideal.τ).loc Cert.Pw2Ideal.main_arg2)
      ∧ m' ((c.tc : Thread Cert.Pw2RefIdeal.nD Cert.Pw2RefIdeal.τ).loc Cert.Pw2RefIdeal.main_arg3) = m ((c.tc : Thread Cert.Pw2Ideal.nD Cert.Pw2Ideal.τ).loc Cert.Pw2Ideal.main_arg3)
      ∧ m' ((c.tc : Thread Cert.Pw2RefIdeal.nD Cert.Pw2RefIdeal.τ).loc Cert.Pw2RefIdeal.main_arg4) = m ((c.tc : Thread Cert.Pw2Ideal.nD Cert.Pw2Ideal.τ).loc Cert.Pw2Ideal.main_arg4)
      ∧ m' ((c.tc : Thread Cert.Pw2RefIdeal.nD Cert.Pw2RefIdeal.τ).loc Cert.Pw2RefIdeal.main_arg5) = m ((c.tc : Thread Cert.Pw2Ideal.nD Cert.Pw2Ideal.τ).loc Cert.Pw2Ideal.main_arg5)
      ∧ m' ((c.tc : Thread Cert.Pw2RefIdeal.nD Cert.Pw2RefIdeal.τ).loc Cert.Pw2RefIdeal.main_arg6) = m ((c.tc : Thread Cert.Pw2Ideal.nD Cert.Pw2Ideal.τ).loc Cert.Pw2Ideal.main_arg6)
      ∧ m' ((c.tc : Thread Cert.Pw2RefIdeal.nD Cert.Pw2RefIdeal.τ).loc Cert.Pw2RefIdeal.main_arg7) = m ((c.tc : Thread Cert.Pw2Ideal.nD Cert.Pw2Ideal.τ).loc Cert.Pw2Ideal.main_arg7)) →
    ∃ (v0 : (c : Dev Cert.Pw2Ideal.nD) → Buf (Elt Ideal) ((c.tc : Thread Cert.Pw2Ideal.nD Cert.Pw2Ideal.τ).loc Cert.Pw2Ideal.main_v0_0)) (v1 : (c : Dev Cert.Pw2Ideal.nD) → Buf (Elt Ideal) ((c.tc : Thread Cert.Pw2Ideal.nD Cert.Pw2Ideal.τ).loc Cert.Pw2Ideal.main_v0_1)) (v2 : (c : Dev Cert.Pw2Ideal.nD) → Buf (Elt Ideal) ((c.tc : Thread Cert.Pw2Ideal.nD Cert.Pw2Ideal.τ).loc Cert.Pw2Ideal.main_v0_2)),
      θ_run (Cert.Pw2Ideal.defs (F := Ideal)) (onTc (τ := Cert.Pw2Ideal.τ) (Cert.Pw2Ideal.main (F := Ideal))) ⟨m, fun _ => 0, g⟩ (fun r => ∀ c : Dev Cert.Pw2Ideal.nD,
          r.2.mem ((c.tc : Thread Cert.Pw2Ideal.nD Cert.Pw2Ideal.τ).loc Cert.Pw2Ideal.main_v0_0) = v0 c
          ∧ r.2.mem ((c.tc : Thread Cert.Pw2Ideal.nD Cert.Pw2Ideal.τ).loc Cert.Pw2Ideal.main_v0_1) = v1 c
          ∧ r.2.mem ((c.tc : Thread Cert.Pw2Ideal.nD Cert.Pw2Ideal.τ).loc Cert.Pw2Ideal.main_v0_2) = v2 c
          ∧ r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
          ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
          ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2)
          ∧ r.2.mem ((c.tc : Thread Cert.Pw2Ideal.nD Cert.Pw2Ideal.τ).loc Cert.Pw2Ideal.main_arg3) = m ((c.tc : Thread Cert.Pw2Ideal.nD Cert.Pw2Ideal.τ).loc Cert.Pw2Ideal.main_arg3)
          ∧ r.2.mem ((c.tc : Thread Cert.Pw2Ideal.nD Cert.Pw2Ideal.τ).loc Cert.Pw2Ideal.main_arg4) = m ((c.tc : Thread Cert.Pw2Ideal.nD Cert.Pw2Ideal.τ).loc Cert.Pw2Ideal.main_arg4)
          ∧ r.2.mem ((c.tc : Thread Cert.Pw2Ideal.nD Cert.Pw2Ideal.τ).loc Cert.Pw2Ideal.main_arg5) = m ((c.tc : Thread Cert.Pw2Ideal.nD Cert.Pw2Ideal.τ).loc Cert.Pw2Ideal.main_arg5)
          ∧ r.2.mem ((c.tc : Thread Cert.Pw2Ideal.nD Cert.Pw2Ideal.τ).loc Cert.Pw2Ideal.main_arg6) = m ((c.tc : Thread Cert.Pw2Ideal.nD Cert.Pw2Ideal.τ).loc Cert.Pw2Ideal.main_arg6)
          ∧ r.2.mem ((c.tc : Thread Cert.Pw2Ideal.nD Cert.Pw2Ideal.τ).loc Cert.Pw2Ideal.main_arg7) = m ((c.tc : Thread Cert.Pw2Ideal.nD Cert.Pw2Ideal.τ).loc Cert.Pw2Ideal.main_arg7))
      ∧ θ_run (Cert.Pw2RefIdeal.defs (F := Ideal)) (onTc (τ := Cert.Pw2RefIdeal.τ) (Cert.Pw2RefIdeal.main (F := Ideal))) ⟨m', fun _ => 0, g'⟩ (fun r => ∀ c : Dev Cert.Pw2RefIdeal.nD,
          r.2.mem ((c.tc : Thread Cert.Pw2RefIdeal.nD Cert.Pw2RefIdeal.τ).loc Cert.Pw2RefIdeal.main_v4) = v0 c
          ∧ r.2.mem ((c.tc : Thread Cert.Pw2RefIdeal.nD Cert.Pw2RefIdeal.τ).loc Cert.Pw2RefIdeal.main_v7) = v1 c
          ∧ r.2.mem ((c.tc : Thread Cert.Pw2RefIdeal.nD Cert.Pw2RefIdeal.τ).loc Cert.Pw2RefIdeal.main_v26) = v2 c
          ∧ r.2.mem ((c.tc : Thread Cert.Pw2RefIdeal.nD Cert.Pw2RefIdeal.τ).loc Cert.Pw2RefIdeal.main_arg0) = m' ((c.tc : Thread Cert.Pw2RefIdeal.nD Cert.Pw2RefIdeal.τ).loc Cert.Pw2RefIdeal.main_arg0)
          ∧ r.2.mem ((c.tc : Thread Cert.Pw2RefIdeal.nD Cert.Pw2RefIdeal.τ).loc Cert.Pw2RefIdeal.main_arg1) = m' ((c.tc : Thread Cert.Pw2RefIdeal.nD Cert.Pw2RefIdeal.τ).loc Cert.Pw2RefIdeal.main_arg1)
          ∧ r.2.mem ((c.tc : Thread Cert.Pw2RefIdeal.nD Cert.Pw2RefIdeal.τ).loc Cert.Pw2RefIdeal.main_arg2) = m' ((c.tc : Thread Cert.Pw2RefIdeal.nD Cert.Pw2RefIdeal.τ).loc Cert.Pw2RefIdeal.main_arg2)
          ∧ r.2.mem ((c.tc : Thread Cert.Pw2RefIdeal.nD Cert.Pw2RefIdeal.τ).loc Cert.Pw2RefIdeal.main_arg3) = m' ((c.tc : Thread Cert.Pw2RefIdeal.nD Cert.Pw2RefIdeal.τ).loc Cert.Pw2RefIdeal.main_arg3)
          ∧ r.2.mem ((c.tc : Thread Cert.Pw2RefIdeal.nD Cert.Pw2RefIdeal.τ).loc Cert.Pw2RefIdeal.main_arg4) = m' ((c.tc : Thread Cert.Pw2RefIdeal.nD Cert.Pw2RefIdeal.τ).loc Cert.Pw2RefIdeal.main_arg4)
          ∧ r.2.mem ((c.tc : Thread Cert.Pw2RefIdeal.nD Cert.Pw2RefIdeal.τ).loc Cert.Pw2RefIdeal.main_arg5) = m' ((c.tc : Thread Cert.Pw2RefIdeal.nD Cert.Pw2RefIdeal.τ).loc Cert.Pw2RefIdeal.main_arg5)
          ∧ r.2.mem ((c.tc : Thread Cert.Pw2RefIdeal.nD Cert.Pw2RefIdeal.τ).loc Cert.Pw2RefIdeal.main_arg6) = m' ((c.tc : Thread Cert.Pw2RefIdeal.nD Cert.Pw2RefIdeal.τ).loc Cert.Pw2RefIdeal.main_arg6)
          ∧ r.2.mem ((c.tc : Thread Cert.Pw2RefIdeal.nD Cert.Pw2RefIdeal.τ).loc Cert.Pw2RefIdeal.main_arg7) = m' ((c.tc : Thread Cert.Pw2RefIdeal.nD Cert.Pw2RefIdeal.τ).loc Cert.Pw2RefIdeal.main_arg7))

def preserves_Pw1_Pw1Ideal : Prop :=
  True

def algebraic_Pw1Ideal_Pw1RefIdeal [hPw1Ideal : Cert.Pw1Ideal.Facts] [hPw1RefIdeal : Cert.Pw1RefIdeal.Facts] : Prop :=
  ∀ (m : (ℓ : Loc Cert.Pw1Ideal.nD Cert.Pw1Ideal.τ Cert.Pw1Ideal.sig) → Buf (Elt Ideal) ℓ) (g : Dev Cert.Pw1Ideal.nD → PrngReg)
    (m' : (ℓ : Loc Cert.Pw1RefIdeal.nD Cert.Pw1RefIdeal.τ Cert.Pw1RefIdeal.sig) → Buf (Elt Ideal) ℓ) (g' : Dev Cert.Pw1RefIdeal.nD → PrngReg), Pre_Pw1Ideal m →
    (∀ c : Dev Cert.Pw1Ideal.nD,
      m' ((c.tc : Thread Cert.Pw1RefIdeal.nD Cert.Pw1RefIdeal.τ).loc Cert.Pw1RefIdeal.main_arg0) = m ((c.tc : Thread Cert.Pw1Ideal.nD Cert.Pw1Ideal.τ).loc Cert.Pw1Ideal.main_arg0)
      ∧ m' ((c.tc : Thread Cert.Pw1RefIdeal.nD Cert.Pw1RefIdeal.τ).loc Cert.Pw1RefIdeal.main_arg1) = m ((c.tc : Thread Cert.Pw1Ideal.nD Cert.Pw1Ideal.τ).loc Cert.Pw1Ideal.main_arg1)
      ∧ m' ((c.tc : Thread Cert.Pw1RefIdeal.nD Cert.Pw1RefIdeal.τ).loc Cert.Pw1RefIdeal.main_arg2) = m ((c.tc : Thread Cert.Pw1Ideal.nD Cert.Pw1Ideal.τ).loc Cert.Pw1Ideal.main_arg2)) →
    ∃ (v0 : (c : Dev Cert.Pw1Ideal.nD) → Buf (Elt Ideal) ((c.tc : Thread Cert.Pw1Ideal.nD Cert.Pw1Ideal.τ).loc Cert.Pw1Ideal.main_v0_0)) (v1 : (c : Dev Cert.Pw1Ideal.nD) → Buf (Elt Ideal) ((c.tc : Thread Cert.Pw1Ideal.nD Cert.Pw1Ideal.τ).loc Cert.Pw1Ideal.main_v0_1)),
      θ_run (Cert.Pw1Ideal.defs (F := Ideal)) (onTc (τ := Cert.Pw1Ideal.τ) (Cert.Pw1Ideal.main (F := Ideal))) ⟨m, fun _ => 0, g⟩ (fun r => ∀ c : Dev Cert.Pw1Ideal.nD,
          r.2.mem ((c.tc : Thread Cert.Pw1Ideal.nD Cert.Pw1Ideal.τ).loc Cert.Pw1Ideal.main_v0_0) = v0 c
          ∧ r.2.mem ((c.tc : Thread Cert.Pw1Ideal.nD Cert.Pw1Ideal.τ).loc Cert.Pw1Ideal.main_v0_1) = v1 c
          ∧ r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
          ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
          ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2))
      ∧ θ_run (Cert.Pw1RefIdeal.defs (F := Ideal)) (onTc (τ := Cert.Pw1RefIdeal.τ) (Cert.Pw1RefIdeal.main (F := Ideal))) ⟨m', fun _ => 0, g'⟩ (fun r => ∀ c : Dev Cert.Pw1RefIdeal.nD,
          r.2.mem ((c.tc : Thread Cert.Pw1RefIdeal.nD Cert.Pw1RefIdeal.τ).loc Cert.Pw1RefIdeal.main_v2) = v0 c
          ∧ r.2.mem ((c.tc : Thread Cert.Pw1RefIdeal.nD Cert.Pw1RefIdeal.τ).loc Cert.Pw1RefIdeal.main_v13) = v1 c
          ∧ r.2.mem ((c.tc : Thread Cert.Pw1RefIdeal.nD Cert.Pw1RefIdeal.τ).loc Cert.Pw1RefIdeal.main_arg0) = m' ((c.tc : Thread Cert.Pw1RefIdeal.nD Cert.Pw1RefIdeal.τ).loc Cert.Pw1RefIdeal.main_arg0)
          ∧ r.2.mem ((c.tc : Thread Cert.Pw1RefIdeal.nD Cert.Pw1RefIdeal.τ).loc Cert.Pw1RefIdeal.main_arg1) = m' ((c.tc : Thread Cert.Pw1RefIdeal.nD Cert.Pw1RefIdeal.τ).loc Cert.Pw1RefIdeal.main_arg1)
          ∧ r.2.mem ((c.tc : Thread Cert.Pw1RefIdeal.nD Cert.Pw1RefIdeal.τ).loc Cert.Pw1RefIdeal.main_arg2) = m' ((c.tc : Thread Cert.Pw1RefIdeal.nD Cert.Pw1RefIdeal.τ).loc Cert.Pw1RefIdeal.main_arg2))

def preserves_LossTail_LossTailIdeal : Prop :=
  True

def algebraic_LossTailIdeal_LossTailRefIdeal [hLossTailIdeal : Cert.LossTailIdeal.Facts] [hLossTailRefIdeal : Cert.LossTailRefIdeal.Facts] : Prop :=
  ∀ (m : (ℓ : Loc Cert.LossTailIdeal.nD Cert.LossTailIdeal.τ Cert.LossTailIdeal.sig) → Buf (Elt Ideal) ℓ) (g : Dev Cert.LossTailIdeal.nD → PrngReg)
    (m' : (ℓ : Loc Cert.LossTailRefIdeal.nD Cert.LossTailRefIdeal.τ Cert.LossTailRefIdeal.sig) → Buf (Elt Ideal) ℓ) (g' : Dev Cert.LossTailRefIdeal.nD → PrngReg), Pre_LossTailIdeal m →
    (∀ c : Dev Cert.LossTailIdeal.nD,
      m' ((c.tc : Thread Cert.LossTailRefIdeal.nD Cert.LossTailRefIdeal.τ).loc Cert.LossTailRefIdeal.main_arg0) = m ((c.tc : Thread Cert.LossTailIdeal.nD Cert.LossTailIdeal.τ).loc Cert.LossTailIdeal.main_arg0)
      ∧ m' ((c.tc : Thread Cert.LossTailRefIdeal.nD Cert.LossTailRefIdeal.τ).loc Cert.LossTailRefIdeal.main_arg1) = m ((c.tc : Thread Cert.LossTailIdeal.nD Cert.LossTailIdeal.τ).loc Cert.LossTailIdeal.main_arg1)
      ∧ m' ((c.tc : Thread Cert.LossTailRefIdeal.nD Cert.LossTailRefIdeal.τ).loc Cert.LossTailRefIdeal.main_arg2) = m ((c.tc : Thread Cert.LossTailIdeal.nD Cert.LossTailIdeal.τ).loc Cert.LossTailIdeal.main_arg2)
      ∧ m' ((c.tc : Thread Cert.LossTailRefIdeal.nD Cert.LossTailRefIdeal.τ).loc Cert.LossTailRefIdeal.main_arg3) = m ((c.tc : Thread Cert.LossTailIdeal.nD Cert.LossTailIdeal.τ).loc Cert.LossTailIdeal.main_arg3)
      ∧ m' ((c.tc : Thread Cert.LossTailRefIdeal.nD Cert.LossTailRefIdeal.τ).loc Cert.LossTailRefIdeal.main_arg4) = m ((c.tc : Thread Cert.LossTailIdeal.nD Cert.LossTailIdeal.τ).loc Cert.LossTailIdeal.main_arg4)
      ∧ m' ((c.tc : Thread Cert.LossTailRefIdeal.nD Cert.LossTailRefIdeal.τ).loc Cert.LossTailRefIdeal.main_arg5) = m ((c.tc : Thread Cert.LossTailIdeal.nD Cert.LossTailIdeal.τ).loc Cert.LossTailIdeal.main_arg5)) →
    ∃ (v0 : (c : Dev Cert.LossTailIdeal.nD) → Buf (Elt Ideal) ((c.tc : Thread Cert.LossTailIdeal.nD Cert.LossTailIdeal.τ).loc Cert.LossTailIdeal.main_v0_0)) (v1 : (c : Dev Cert.LossTailIdeal.nD) → Buf (Elt Ideal) ((c.tc : Thread Cert.LossTailIdeal.nD Cert.LossTailIdeal.τ).loc Cert.LossTailIdeal.main_v0_1)) (v2 : (c : Dev Cert.LossTailIdeal.nD) → Buf (Elt Ideal) ((c.tc : Thread Cert.LossTailIdeal.nD Cert.LossTailIdeal.τ).loc Cert.LossTailIdeal.main_v0_2)) (v3 : (c : Dev Cert.LossTailIdeal.nD) → Buf (Elt Ideal) ((c.tc : Thread Cert.LossTailIdeal.nD Cert.LossTailIdeal.τ).loc Cert.LossTailIdeal.main_v0_3)) (v4 : (c : Dev Cert.LossTailIdeal.nD) → Buf (Elt Ideal) ((c.tc : Thread Cert.LossTailIdeal.nD Cert.LossTailIdeal.τ).loc Cert.LossTailIdeal.main_v0_4)),
      θ_run (Cert.LossTailIdeal.defs (F := Ideal)) (onTc (τ := Cert.LossTailIdeal.τ) (Cert.LossTailIdeal.main (F := Ideal))) ⟨m, fun _ => 0, g⟩ (fun r => ∀ c : Dev Cert.LossTailIdeal.nD,
          r.2.mem ((c.tc : Thread Cert.LossTailIdeal.nD Cert.LossTailIdeal.τ).loc Cert.LossTailIdeal.main_v0_0) = v0 c
          ∧ r.2.mem ((c.tc : Thread Cert.LossTailIdeal.nD Cert.LossTailIdeal.τ).loc Cert.LossTailIdeal.main_v0_1) = v1 c
          ∧ r.2.mem ((c.tc : Thread Cert.LossTailIdeal.nD Cert.LossTailIdeal.τ).loc Cert.LossTailIdeal.main_v0_2) = v2 c
          ∧ r.2.mem ((c.tc : Thread Cert.LossTailIdeal.nD Cert.LossTailIdeal.τ).loc Cert.LossTailIdeal.main_v0_3) = v3 c
          ∧ r.2.mem ((c.tc : Thread Cert.LossTailIdeal.nD Cert.LossTailIdeal.τ).loc Cert.LossTailIdeal.main_v0_4) = v4 c
          ∧ r.2.mem ((c.tc : Thread Cert.LossTailIdeal.nD Cert.LossTailIdeal.τ).loc Cert.LossTailIdeal.main_arg0) = m ((c.tc : Thread Cert.LossTailIdeal.nD Cert.LossTailIdeal.τ).loc Cert.LossTailIdeal.main_arg0)
          ∧ r.2.mem ((c.tc : Thread Cert.LossTailIdeal.nD Cert.LossTailIdeal.τ).loc Cert.LossTailIdeal.main_arg1) = m ((c.tc : Thread Cert.LossTailIdeal.nD Cert.LossTailIdeal.τ).loc Cert.LossTailIdeal.main_arg1)
          ∧ r.2.mem ((c.tc : Thread Cert.LossTailIdeal.nD Cert.LossTailIdeal.τ).loc Cert.LossTailIdeal.main_arg2) = m ((c.tc : Thread Cert.LossTailIdeal.nD Cert.LossTailIdeal.τ).loc Cert.LossTailIdeal.main_arg2)
          ∧ r.2.mem ((c.tc : Thread Cert.LossTailIdeal.nD Cert.LossTailIdeal.τ).loc Cert.LossTailIdeal.main_arg3) = m ((c.tc : Thread Cert.LossTailIdeal.nD Cert.LossTailIdeal.τ).loc Cert.LossTailIdeal.main_arg3)
          ∧ r.2.mem ((c.tc : Thread Cert.LossTailIdeal.nD Cert.LossTailIdeal.τ).loc Cert.LossTailIdeal.main_arg4) = m ((c.tc : Thread Cert.LossTailIdeal.nD Cert.LossTailIdeal.τ).loc Cert.LossTailIdeal.main_arg4)
          ∧ r.2.mem ((c.tc : Thread Cert.LossTailIdeal.nD Cert.LossTailIdeal.τ).loc Cert.LossTailIdeal.main_arg5) = m ((c.tc : Thread Cert.LossTailIdeal.nD Cert.LossTailIdeal.τ).loc Cert.LossTailIdeal.main_arg5))
      ∧ θ_run (Cert.LossTailRefIdeal.defs (F := Ideal)) (onTc (τ := Cert.LossTailRefIdeal.τ) (Cert.LossTailRefIdeal.main (F := Ideal))) ⟨m', fun _ => 0, g'⟩ (fun r => ∀ c : Dev Cert.LossTailRefIdeal.nD,
          r.2.mem ((c.tc : Thread Cert.LossTailRefIdeal.nD Cert.LossTailRefIdeal.τ).loc Cert.LossTailRefIdeal.main_v57) = v0 c
          ∧ r.2.mem ((c.tc : Thread Cert.LossTailRefIdeal.nD Cert.LossTailRefIdeal.τ).loc Cert.LossTailRefIdeal.main_v41) = v1 c
          ∧ r.2.mem ((c.tc : Thread Cert.LossTailRefIdeal.nD Cert.LossTailRefIdeal.τ).loc Cert.LossTailRefIdeal.main_v30) = v2 c
          ∧ r.2.mem ((c.tc : Thread Cert.LossTailRefIdeal.nD Cert.LossTailRefIdeal.τ).loc Cert.LossTailRefIdeal.main_v63) = v3 c
          ∧ r.2.mem ((c.tc : Thread Cert.LossTailRefIdeal.nD Cert.LossTailRefIdeal.τ).loc Cert.LossTailRefIdeal.main_v62) = v4 c
          ∧ r.2.mem ((c.tc : Thread Cert.LossTailRefIdeal.nD Cert.LossTailRefIdeal.τ).loc Cert.LossTailRefIdeal.main_arg0) = m' ((c.tc : Thread Cert.LossTailRefIdeal.nD Cert.LossTailRefIdeal.τ).loc Cert.LossTailRefIdeal.main_arg0)
          ∧ r.2.mem ((c.tc : Thread Cert.LossTailRefIdeal.nD Cert.LossTailRefIdeal.τ).loc Cert.LossTailRefIdeal.main_arg1) = m' ((c.tc : Thread Cert.LossTailRefIdeal.nD Cert.LossTailRefIdeal.τ).loc Cert.LossTailRefIdeal.main_arg1)
          ∧ r.2.mem ((c.tc : Thread Cert.LossTailRefIdeal.nD Cert.LossTailRefIdeal.τ).loc Cert.LossTailRefIdeal.main_arg2) = m' ((c.tc : Thread Cert.LossTailRefIdeal.nD Cert.LossTailRefIdeal.τ).loc Cert.LossTailRefIdeal.main_arg2)
          ∧ r.2.mem ((c.tc : Thread Cert.LossTailRefIdeal.nD Cert.LossTailRefIdeal.τ).loc Cert.LossTailRefIdeal.main_arg3) = m' ((c.tc : Thread Cert.LossTailRefIdeal.nD Cert.LossTailRefIdeal.τ).loc Cert.LossTailRefIdeal.main_arg3)
          ∧ r.2.mem ((c.tc : Thread Cert.LossTailRefIdeal.nD Cert.LossTailRefIdeal.τ).loc Cert.LossTailRefIdeal.main_arg4) = m' ((c.tc : Thread Cert.LossTailRefIdeal.nD Cert.LossTailRefIdeal.τ).loc Cert.LossTailRefIdeal.main_arg4)
          ∧ r.2.mem ((c.tc : Thread Cert.LossTailRefIdeal.nD Cert.LossTailRefIdeal.τ).loc Cert.LossTailRefIdeal.main_arg5) = m' ((c.tc : Thread Cert.LossTailRefIdeal.nD Cert.LossTailRefIdeal.τ).loc Cert.LossTailRefIdeal.main_arg5))

def preserves_AdamCCtx_AdamCCtxIdeal : Prop :=
  True

def algebraic_AdamCCtxIdeal_AdamCCtxRefIdeal [hAdamCCtxIdeal : Cert.AdamCCtxIdeal.Facts] [hAdamCCtxRefIdeal : Cert.AdamCCtxRefIdeal.Facts] : Prop :=
  ∀ (m : (ℓ : Loc Cert.AdamCCtxIdeal.nD Cert.AdamCCtxIdeal.τ Cert.AdamCCtxIdeal.sig) → Buf (Elt Ideal) ℓ) (g : Dev Cert.AdamCCtxIdeal.nD → PrngReg)
    (m' : (ℓ : Loc Cert.AdamCCtxRefIdeal.nD Cert.AdamCCtxRefIdeal.τ Cert.AdamCCtxRefIdeal.sig) → Buf (Elt Ideal) ℓ) (g' : Dev Cert.AdamCCtxRefIdeal.nD → PrngReg), Pre_AdamCCtxIdeal m →
    (∀ c : Dev Cert.AdamCCtxIdeal.nD,
      m' ((c.tc : Thread Cert.AdamCCtxRefIdeal.nD Cert.AdamCCtxRefIdeal.τ).loc Cert.AdamCCtxRefIdeal.main_arg0) = m ((c.tc : Thread Cert.AdamCCtxIdeal.nD Cert.AdamCCtxIdeal.τ).loc Cert.AdamCCtxIdeal.main_arg0)
      ∧ m' ((c.tc : Thread Cert.AdamCCtxRefIdeal.nD Cert.AdamCCtxRefIdeal.τ).loc Cert.AdamCCtxRefIdeal.main_arg1) = m ((c.tc : Thread Cert.AdamCCtxIdeal.nD Cert.AdamCCtxIdeal.τ).loc Cert.AdamCCtxIdeal.main_arg1)
      ∧ m' ((c.tc : Thread Cert.AdamCCtxRefIdeal.nD Cert.AdamCCtxRefIdeal.τ).loc Cert.AdamCCtxRefIdeal.main_arg2) = m ((c.tc : Thread Cert.AdamCCtxIdeal.nD Cert.AdamCCtxIdeal.τ).loc Cert.AdamCCtxIdeal.main_arg2)
      ∧ m' ((c.tc : Thread Cert.AdamCCtxRefIdeal.nD Cert.AdamCCtxRefIdeal.τ).loc Cert.AdamCCtxRefIdeal.main_arg3) = m ((c.tc : Thread Cert.AdamCCtxIdeal.nD Cert.AdamCCtxIdeal.τ).loc Cert.AdamCCtxIdeal.main_arg3)) →
    ∃ (v0 : (c : Dev Cert.AdamCCtxIdeal.nD) → Buf (Elt Ideal) ((c.tc : Thread Cert.AdamCCtxIdeal.nD Cert.AdamCCtxIdeal.τ).loc Cert.AdamCCtxIdeal.main_v4_0)) (v1 : (c : Dev Cert.AdamCCtxIdeal.nD) → Buf (Elt Ideal) ((c.tc : Thread Cert.AdamCCtxIdeal.nD Cert.AdamCCtxIdeal.τ).loc Cert.AdamCCtxIdeal.main_v4_1)) (v2 : (c : Dev Cert.AdamCCtxIdeal.nD) → Buf (Elt Ideal) ((c.tc : Thread Cert.AdamCCtxIdeal.nD Cert.AdamCCtxIdeal.τ).loc Cert.AdamCCtxIdeal.main_v4_2)),
      θ_run (Cert.AdamCCtxIdeal.defs (F := Ideal)) (onTc (τ := Cert.AdamCCtxIdeal.τ) (Cert.AdamCCtxIdeal.main (F := Ideal))) ⟨m, fun _ => 0, g⟩ (fun r => ∀ c : Dev Cert.AdamCCtxIdeal.nD,
          r.2.mem ((c.tc : Thread Cert.AdamCCtxIdeal.nD Cert.AdamCCtxIdeal.τ).loc Cert.AdamCCtxIdeal.main_v4_0) = v0 c
          ∧ r.2.mem ((c.tc : Thread Cert.AdamCCtxIdeal.nD Cert.AdamCCtxIdeal.τ).loc Cert.AdamCCtxIdeal.main_v4_1) = v1 c
          ∧ r.2.mem ((c.tc : Thread Cert.AdamCCtxIdeal.nD Cert.AdamCCtxIdeal.τ).loc Cert.AdamCCtxIdeal.main_v4_2) = v2 c
          ∧ r.2.mem ((c.tc : Thread Cert.AdamCCtxIdeal.nD Cert.AdamCCtxIdeal.τ).loc Cert.AdamCCtxIdeal.main_arg0) = m ((c.tc : Thread Cert.AdamCCtxIdeal.nD Cert.AdamCCtxIdeal.τ).loc Cert.AdamCCtxIdeal.main_arg0)
          ∧ r.2.mem ((c.tc : Thread Cert.AdamCCtxIdeal.nD Cert.AdamCCtxIdeal.τ).loc Cert.AdamCCtxIdeal.main_arg1) = m ((c.tc : Thread Cert.AdamCCtxIdeal.nD Cert.AdamCCtxIdeal.τ).loc Cert.AdamCCtxIdeal.main_arg1)
          ∧ r.2.mem ((c.tc : Thread Cert.AdamCCtxIdeal.nD Cert.AdamCCtxIdeal.τ).loc Cert.AdamCCtxIdeal.main_arg2) = m ((c.tc : Thread Cert.AdamCCtxIdeal.nD Cert.AdamCCtxIdeal.τ).loc Cert.AdamCCtxIdeal.main_arg2)
          ∧ r.2.mem ((c.tc : Thread Cert.AdamCCtxIdeal.nD Cert.AdamCCtxIdeal.τ).loc Cert.AdamCCtxIdeal.main_arg3) = m ((c.tc : Thread Cert.AdamCCtxIdeal.nD Cert.AdamCCtxIdeal.τ).loc Cert.AdamCCtxIdeal.main_arg3))
      ∧ θ_run (Cert.AdamCCtxRefIdeal.defs (F := Ideal)) (onTc (τ := Cert.AdamCCtxRefIdeal.τ) (Cert.AdamCCtxRefIdeal.main (F := Ideal))) ⟨m', fun _ => 0, g'⟩ (fun r => ∀ c : Dev Cert.AdamCCtxRefIdeal.nD,
          r.2.mem ((c.tc : Thread Cert.AdamCCtxRefIdeal.nD Cert.AdamCCtxRefIdeal.τ).loc Cert.AdamCCtxRefIdeal.main_v24) = v0 c
          ∧ r.2.mem ((c.tc : Thread Cert.AdamCCtxRefIdeal.nD Cert.AdamCCtxRefIdeal.τ).loc Cert.AdamCCtxRefIdeal.main_v25) = v1 c
          ∧ r.2.mem ((c.tc : Thread Cert.AdamCCtxRefIdeal.nD Cert.AdamCCtxRefIdeal.τ).loc Cert.AdamCCtxRefIdeal.main_v26) = v2 c
          ∧ r.2.mem ((c.tc : Thread Cert.AdamCCtxRefIdeal.nD Cert.AdamCCtxRefIdeal.τ).loc Cert.AdamCCtxRefIdeal.main_arg0) = m' ((c.tc : Thread Cert.AdamCCtxRefIdeal.nD Cert.AdamCCtxRefIdeal.τ).loc Cert.AdamCCtxRefIdeal.main_arg0)
          ∧ r.2.mem ((c.tc : Thread Cert.AdamCCtxRefIdeal.nD Cert.AdamCCtxRefIdeal.τ).loc Cert.AdamCCtxRefIdeal.main_arg1) = m' ((c.tc : Thread Cert.AdamCCtxRefIdeal.nD Cert.AdamCCtxRefIdeal.τ).loc Cert.AdamCCtxRefIdeal.main_arg1)
          ∧ r.2.mem ((c.tc : Thread Cert.AdamCCtxRefIdeal.nD Cert.AdamCCtxRefIdeal.τ).loc Cert.AdamCCtxRefIdeal.main_arg2) = m' ((c.tc : Thread Cert.AdamCCtxRefIdeal.nD Cert.AdamCCtxRefIdeal.τ).loc Cert.AdamCCtxRefIdeal.main_arg2)
          ∧ r.2.mem ((c.tc : Thread Cert.AdamCCtxRefIdeal.nD Cert.AdamCCtxRefIdeal.τ).loc Cert.AdamCCtxRefIdeal.main_arg3) = m' ((c.tc : Thread Cert.AdamCCtxRefIdeal.nD Cert.AdamCCtxRefIdeal.τ).loc Cert.AdamCCtxRefIdeal.main_arg3))

def preserves_AdamWMod_AdamWModIdeal : Prop :=
  True

def algebraic_AdamWModIdeal_AdamWModRefIdeal [hAdamWModIdeal : Cert.AdamWModIdeal.Facts] [hAdamWModRefIdeal : Cert.AdamWModRefIdeal.Facts] : Prop :=
  ∀ (m : (ℓ : Loc Cert.AdamWModIdeal.nD Cert.AdamWModIdeal.τ Cert.AdamWModIdeal.sig) → Buf (Elt Ideal) ℓ) (g : Dev Cert.AdamWModIdeal.nD → PrngReg)
    (m' : (ℓ : Loc Cert.AdamWModRefIdeal.nD Cert.AdamWModRefIdeal.τ Cert.AdamWModRefIdeal.sig) → Buf (Elt Ideal) ℓ) (g' : Dev Cert.AdamWModRefIdeal.nD → PrngReg), Pre_AdamWModIdeal m →
    (∀ c : Dev Cert.AdamWModIdeal.nD,
      m' ((c.tc : Thread Cert.AdamWModRefIdeal.nD Cert.AdamWModRefIdeal.τ).loc Cert.AdamWModRefIdeal.main_arg0) = m ((c.tc : Thread Cert.AdamWModIdeal.nD Cert.AdamWModIdeal.τ).loc Cert.AdamWModIdeal.main_arg0)
      ∧ m' ((c.tc : Thread Cert.AdamWModRefIdeal.nD Cert.AdamWModRefIdeal.τ).loc Cert.AdamWModRefIdeal.main_arg1) = m ((c.tc : Thread Cert.AdamWModIdeal.nD Cert.AdamWModIdeal.τ).loc Cert.AdamWModIdeal.main_arg1)
      ∧ m' ((c.tc : Thread Cert.AdamWModRefIdeal.nD Cert.AdamWModRefIdeal.τ).loc Cert.AdamWModRefIdeal.main_arg2) = m ((c.tc : Thread Cert.AdamWModIdeal.nD Cert.AdamWModIdeal.τ).loc Cert.AdamWModIdeal.main_arg2)
      ∧ m' ((c.tc : Thread Cert.AdamWModRefIdeal.nD Cert.AdamWModRefIdeal.τ).loc Cert.AdamWModRefIdeal.main_arg3) = m ((c.tc : Thread Cert.AdamWModIdeal.nD Cert.AdamWModIdeal.τ).loc Cert.AdamWModIdeal.main_arg3)) →
    ∃ (v0 : (c : Dev Cert.AdamWModIdeal.nD) → Buf (Elt Ideal) ((c.tc : Thread Cert.AdamWModIdeal.nD Cert.AdamWModIdeal.τ).loc Cert.AdamWModIdeal.main_v4_0)) (v1 : (c : Dev Cert.AdamWModIdeal.nD) → Buf (Elt Ideal) ((c.tc : Thread Cert.AdamWModIdeal.nD Cert.AdamWModIdeal.τ).loc Cert.AdamWModIdeal.main_v4_1)) (v2 : (c : Dev Cert.AdamWModIdeal.nD) → Buf (Elt Ideal) ((c.tc : Thread Cert.AdamWModIdeal.nD Cert.AdamWModIdeal.τ).loc Cert.AdamWModIdeal.main_v4_2)),
      θ_run (Cert.AdamWModIdeal.defs (F := Ideal)) (onTc (τ := Cert.AdamWModIdeal.τ) (Cert.AdamWModIdeal.main (F := Ideal))) ⟨m, fun _ => 0, g⟩ (fun r => ∀ c : Dev Cert.AdamWModIdeal.nD,
          r.2.mem ((c.tc : Thread Cert.AdamWModIdeal.nD Cert.AdamWModIdeal.τ).loc Cert.AdamWModIdeal.main_v4_0) = v0 c
          ∧ r.2.mem ((c.tc : Thread Cert.AdamWModIdeal.nD Cert.AdamWModIdeal.τ).loc Cert.AdamWModIdeal.main_v4_1) = v1 c
          ∧ r.2.mem ((c.tc : Thread Cert.AdamWModIdeal.nD Cert.AdamWModIdeal.τ).loc Cert.AdamWModIdeal.main_v4_2) = v2 c
          ∧ r.2.mem ((c.tc : Thread Cert.AdamWModIdeal.nD Cert.AdamWModIdeal.τ).loc Cert.AdamWModIdeal.main_arg0) = m ((c.tc : Thread Cert.AdamWModIdeal.nD Cert.AdamWModIdeal.τ).loc Cert.AdamWModIdeal.main_arg0)
          ∧ r.2.mem ((c.tc : Thread Cert.AdamWModIdeal.nD Cert.AdamWModIdeal.τ).loc Cert.AdamWModIdeal.main_arg1) = m ((c.tc : Thread Cert.AdamWModIdeal.nD Cert.AdamWModIdeal.τ).loc Cert.AdamWModIdeal.main_arg1)
          ∧ r.2.mem ((c.tc : Thread Cert.AdamWModIdeal.nD Cert.AdamWModIdeal.τ).loc Cert.AdamWModIdeal.main_arg2) = m ((c.tc : Thread Cert.AdamWModIdeal.nD Cert.AdamWModIdeal.τ).loc Cert.AdamWModIdeal.main_arg2)
          ∧ r.2.mem ((c.tc : Thread Cert.AdamWModIdeal.nD Cert.AdamWModIdeal.τ).loc Cert.AdamWModIdeal.main_arg3) = m ((c.tc : Thread Cert.AdamWModIdeal.nD Cert.AdamWModIdeal.τ).loc Cert.AdamWModIdeal.main_arg3))
      ∧ θ_run (Cert.AdamWModRefIdeal.defs (F := Ideal)) (onTc (τ := Cert.AdamWModRefIdeal.τ) (Cert.AdamWModRefIdeal.main (F := Ideal))) ⟨m', fun _ => 0, g'⟩ (fun r => ∀ c : Dev Cert.AdamWModRefIdeal.nD,
          r.2.mem ((c.tc : Thread Cert.AdamWModRefIdeal.nD Cert.AdamWModRefIdeal.τ).loc Cert.AdamWModRefIdeal.main_v24) = v0 c
          ∧ r.2.mem ((c.tc : Thread Cert.AdamWModRefIdeal.nD Cert.AdamWModRefIdeal.τ).loc Cert.AdamWModRefIdeal.main_v25) = v1 c
          ∧ r.2.mem ((c.tc : Thread Cert.AdamWModRefIdeal.nD Cert.AdamWModRefIdeal.τ).loc Cert.AdamWModRefIdeal.main_v26) = v2 c
          ∧ r.2.mem ((c.tc : Thread Cert.AdamWModRefIdeal.nD Cert.AdamWModRefIdeal.τ).loc Cert.AdamWModRefIdeal.main_arg0) = m' ((c.tc : Thread Cert.AdamWModRefIdeal.nD Cert.AdamWModRefIdeal.τ).loc Cert.AdamWModRefIdeal.main_arg0)
          ∧ r.2.mem ((c.tc : Thread Cert.AdamWModRefIdeal.nD Cert.AdamWModRefIdeal.τ).loc Cert.AdamWModRefIdeal.main_arg1) = m' ((c.tc : Thread Cert.AdamWModRefIdeal.nD Cert.AdamWModRefIdeal.τ).loc Cert.AdamWModRefIdeal.main_arg1)
          ∧ r.2.mem ((c.tc : Thread Cert.AdamWModRefIdeal.nD Cert.AdamWModRefIdeal.τ).loc Cert.AdamWModRefIdeal.main_arg2) = m' ((c.tc : Thread Cert.AdamWModRefIdeal.nD Cert.AdamWModRefIdeal.τ).loc Cert.AdamWModRefIdeal.main_arg2)
          ∧ r.2.mem ((c.tc : Thread Cert.AdamWModRefIdeal.nD Cert.AdamWModRefIdeal.τ).loc Cert.AdamWModRefIdeal.main_arg3) = m' ((c.tc : Thread Cert.AdamWModRefIdeal.nD Cert.AdamWModRefIdeal.τ).loc Cert.AdamWModRefIdeal.main_arg3))

def preserves_AdamBMod_AdamBModIdeal : Prop :=
  True

def algebraic_AdamBModIdeal_AdamBModRefIdeal [hAdamBModIdeal : Cert.AdamBModIdeal.Facts] [hAdamBModRefIdeal : Cert.AdamBModRefIdeal.Facts] : Prop :=
  ∀ (m : (ℓ : Loc Cert.AdamBModIdeal.nD Cert.AdamBModIdeal.τ Cert.AdamBModIdeal.sig) → Buf (Elt Ideal) ℓ) (g : Dev Cert.AdamBModIdeal.nD → PrngReg)
    (m' : (ℓ : Loc Cert.AdamBModRefIdeal.nD Cert.AdamBModRefIdeal.τ Cert.AdamBModRefIdeal.sig) → Buf (Elt Ideal) ℓ) (g' : Dev Cert.AdamBModRefIdeal.nD → PrngReg), Pre_AdamBModIdeal m →
    (∀ c : Dev Cert.AdamBModIdeal.nD,
      m' ((c.tc : Thread Cert.AdamBModRefIdeal.nD Cert.AdamBModRefIdeal.τ).loc Cert.AdamBModRefIdeal.main_arg0) = m ((c.tc : Thread Cert.AdamBModIdeal.nD Cert.AdamBModIdeal.τ).loc Cert.AdamBModIdeal.main_arg0)
      ∧ m' ((c.tc : Thread Cert.AdamBModRefIdeal.nD Cert.AdamBModRefIdeal.τ).loc Cert.AdamBModRefIdeal.main_arg1) = m ((c.tc : Thread Cert.AdamBModIdeal.nD Cert.AdamBModIdeal.τ).loc Cert.AdamBModIdeal.main_arg1)
      ∧ m' ((c.tc : Thread Cert.AdamBModRefIdeal.nD Cert.AdamBModRefIdeal.τ).loc Cert.AdamBModRefIdeal.main_arg2) = m ((c.tc : Thread Cert.AdamBModIdeal.nD Cert.AdamBModIdeal.τ).loc Cert.AdamBModIdeal.main_arg2)
      ∧ m' ((c.tc : Thread Cert.AdamBModRefIdeal.nD Cert.AdamBModRefIdeal.τ).loc Cert.AdamBModRefIdeal.main_arg3) = m ((c.tc : Thread Cert.AdamBModIdeal.nD Cert.AdamBModIdeal.τ).loc Cert.AdamBModIdeal.main_arg3)) →
    ∃ (v0 : (c : Dev Cert.AdamBModIdeal.nD) → Buf (Elt Ideal) ((c.tc : Thread Cert.AdamBModIdeal.nD Cert.AdamBModIdeal.τ).loc Cert.AdamBModIdeal.main_v0_0)) (v1 : (c : Dev Cert.AdamBModIdeal.nD) → Buf (Elt Ideal) ((c.tc : Thread Cert.AdamBModIdeal.nD Cert.AdamBModIdeal.τ).loc Cert.AdamBModIdeal.main_v0_1)) (v2 : (c : Dev Cert.AdamBModIdeal.nD) → Buf (Elt Ideal) ((c.tc : Thread Cert.AdamBModIdeal.nD Cert.AdamBModIdeal.τ).loc Cert.AdamBModIdeal.main_v0_2)),
      θ_run (Cert.AdamBModIdeal.defs (F := Ideal)) (onTc (τ := Cert.AdamBModIdeal.τ) (Cert.AdamBModIdeal.main (F := Ideal))) ⟨m, fun _ => 0, g⟩ (fun r => ∀ c : Dev Cert.AdamBModIdeal.nD,
          r.2.mem ((c.tc : Thread Cert.AdamBModIdeal.nD Cert.AdamBModIdeal.τ).loc Cert.AdamBModIdeal.main_v0_0) = v0 c
          ∧ r.2.mem ((c.tc : Thread Cert.AdamBModIdeal.nD Cert.AdamBModIdeal.τ).loc Cert.AdamBModIdeal.main_v0_1) = v1 c
          ∧ r.2.mem ((c.tc : Thread Cert.AdamBModIdeal.nD Cert.AdamBModIdeal.τ).loc Cert.AdamBModIdeal.main_v0_2) = v2 c
          ∧ r.2.mem ((c.tc : Thread Cert.AdamBModIdeal.nD Cert.AdamBModIdeal.τ).loc Cert.AdamBModIdeal.main_arg0) = m ((c.tc : Thread Cert.AdamBModIdeal.nD Cert.AdamBModIdeal.τ).loc Cert.AdamBModIdeal.main_arg0)
          ∧ r.2.mem ((c.tc : Thread Cert.AdamBModIdeal.nD Cert.AdamBModIdeal.τ).loc Cert.AdamBModIdeal.main_arg1) = m ((c.tc : Thread Cert.AdamBModIdeal.nD Cert.AdamBModIdeal.τ).loc Cert.AdamBModIdeal.main_arg1)
          ∧ r.2.mem ((c.tc : Thread Cert.AdamBModIdeal.nD Cert.AdamBModIdeal.τ).loc Cert.AdamBModIdeal.main_arg2) = m ((c.tc : Thread Cert.AdamBModIdeal.nD Cert.AdamBModIdeal.τ).loc Cert.AdamBModIdeal.main_arg2)
          ∧ r.2.mem ((c.tc : Thread Cert.AdamBModIdeal.nD Cert.AdamBModIdeal.τ).loc Cert.AdamBModIdeal.main_arg3) = m ((c.tc : Thread Cert.AdamBModIdeal.nD Cert.AdamBModIdeal.τ).loc Cert.AdamBModIdeal.main_arg3))
      ∧ θ_run (Cert.AdamBModRefIdeal.defs (F := Ideal)) (onTc (τ := Cert.AdamBModRefIdeal.τ) (Cert.AdamBModRefIdeal.main (F := Ideal))) ⟨m', fun _ => 0, g'⟩ (fun r => ∀ c : Dev Cert.AdamBModRefIdeal.nD,
          r.2.mem ((c.tc : Thread Cert.AdamBModRefIdeal.nD Cert.AdamBModRefIdeal.τ).loc Cert.AdamBModRefIdeal.main_v23) = v0 c
          ∧ r.2.mem ((c.tc : Thread Cert.AdamBModRefIdeal.nD Cert.AdamBModRefIdeal.τ).loc Cert.AdamBModRefIdeal.main_v4) = v1 c
          ∧ r.2.mem ((c.tc : Thread Cert.AdamBModRefIdeal.nD Cert.AdamBModRefIdeal.τ).loc Cert.AdamBModRefIdeal.main_v10) = v2 c
          ∧ r.2.mem ((c.tc : Thread Cert.AdamBModRefIdeal.nD Cert.AdamBModRefIdeal.τ).loc Cert.AdamBModRefIdeal.main_arg0) = m' ((c.tc : Thread Cert.AdamBModRefIdeal.nD Cert.AdamBModRefIdeal.τ).loc Cert.AdamBModRefIdeal.main_arg0)
          ∧ r.2.mem ((c.tc : Thread Cert.AdamBModRefIdeal.nD Cert.AdamBModRefIdeal.τ).loc Cert.AdamBModRefIdeal.main_arg1) = m' ((c.tc : Thread Cert.AdamBModRefIdeal.nD Cert.AdamBModRefIdeal.τ).loc Cert.AdamBModRefIdeal.main_arg1)
          ∧ r.2.mem ((c.tc : Thread Cert.AdamBModRefIdeal.nD Cert.AdamBModRefIdeal.τ).loc Cert.AdamBModRefIdeal.main_arg2) = m' ((c.tc : Thread Cert.AdamBModRefIdeal.nD Cert.AdamBModRefIdeal.τ).loc Cert.AdamBModRefIdeal.main_arg2)
          ∧ r.2.mem ((c.tc : Thread Cert.AdamBModRefIdeal.nD Cert.AdamBModRefIdeal.τ).loc Cert.AdamBModRefIdeal.main_arg3) = m' ((c.tc : Thread Cert.AdamBModRefIdeal.nD Cert.AdamBModRefIdeal.τ).loc Cert.AdamBModRefIdeal.main_arg3))

def preserves_AdamGMix_AdamGMixIdeal : Prop :=
  True

def algebraic_AdamGMixIdeal_AdamGMixRefIdeal [hAdamGMixIdeal : Cert.AdamGMixIdeal.Facts] [hAdamGMixRefIdeal : Cert.AdamGMixRefIdeal.Facts] : Prop :=
  ∀ (m : (ℓ : Loc Cert.AdamGMixIdeal.nD Cert.AdamGMixIdeal.τ Cert.AdamGMixIdeal.sig) → Buf (Elt Ideal) ℓ) (g : Dev Cert.AdamGMixIdeal.nD → PrngReg)
    (m' : (ℓ : Loc Cert.AdamGMixRefIdeal.nD Cert.AdamGMixRefIdeal.τ Cert.AdamGMixRefIdeal.sig) → Buf (Elt Ideal) ℓ) (g' : Dev Cert.AdamGMixRefIdeal.nD → PrngReg), Pre_AdamGMixIdeal m →
    (∀ c : Dev Cert.AdamGMixIdeal.nD,
      m' ((c.tc : Thread Cert.AdamGMixRefIdeal.nD Cert.AdamGMixRefIdeal.τ).loc Cert.AdamGMixRefIdeal.main_arg0) = m ((c.tc : Thread Cert.AdamGMixIdeal.nD Cert.AdamGMixIdeal.τ).loc Cert.AdamGMixIdeal.main_arg0)
      ∧ m' ((c.tc : Thread Cert.AdamGMixRefIdeal.nD Cert.AdamGMixRefIdeal.τ).loc Cert.AdamGMixRefIdeal.main_arg1) = m ((c.tc : Thread Cert.AdamGMixIdeal.nD Cert.AdamGMixIdeal.τ).loc Cert.AdamGMixIdeal.main_arg1)
      ∧ m' ((c.tc : Thread Cert.AdamGMixRefIdeal.nD Cert.AdamGMixRefIdeal.τ).loc Cert.AdamGMixRefIdeal.main_arg2) = m ((c.tc : Thread Cert.AdamGMixIdeal.nD Cert.AdamGMixIdeal.τ).loc Cert.AdamGMixIdeal.main_arg2)
      ∧ m' ((c.tc : Thread Cert.AdamGMixRefIdeal.nD Cert.AdamGMixRefIdeal.τ).loc Cert.AdamGMixRefIdeal.main_arg3) = m ((c.tc : Thread Cert.AdamGMixIdeal.nD Cert.AdamGMixIdeal.τ).loc Cert.AdamGMixIdeal.main_arg3)) →
    ∃ (v0 : (c : Dev Cert.AdamGMixIdeal.nD) → Buf (Elt Ideal) ((c.tc : Thread Cert.AdamGMixIdeal.nD Cert.AdamGMixIdeal.τ).loc Cert.AdamGMixIdeal.main_v0_0)) (v1 : (c : Dev Cert.AdamGMixIdeal.nD) → Buf (Elt Ideal) ((c.tc : Thread Cert.AdamGMixIdeal.nD Cert.AdamGMixIdeal.τ).loc Cert.AdamGMixIdeal.main_v0_1)) (v2 : (c : Dev Cert.AdamGMixIdeal.nD) → Buf (Elt Ideal) ((c.tc : Thread Cert.AdamGMixIdeal.nD Cert.AdamGMixIdeal.τ).loc Cert.AdamGMixIdeal.main_v0_2)),
      θ_run (Cert.AdamGMixIdeal.defs (F := Ideal)) (onTc (τ := Cert.AdamGMixIdeal.τ) (Cert.AdamGMixIdeal.main (F := Ideal))) ⟨m, fun _ => 0, g⟩ (fun r => ∀ c : Dev Cert.AdamGMixIdeal.nD,
          r.2.mem ((c.tc : Thread Cert.AdamGMixIdeal.nD Cert.AdamGMixIdeal.τ).loc Cert.AdamGMixIdeal.main_v0_0) = v0 c
          ∧ r.2.mem ((c.tc : Thread Cert.AdamGMixIdeal.nD Cert.AdamGMixIdeal.τ).loc Cert.AdamGMixIdeal.main_v0_1) = v1 c
          ∧ r.2.mem ((c.tc : Thread Cert.AdamGMixIdeal.nD Cert.AdamGMixIdeal.τ).loc Cert.AdamGMixIdeal.main_v0_2) = v2 c
          ∧ r.2.mem ((c.tc : Thread Cert.AdamGMixIdeal.nD Cert.AdamGMixIdeal.τ).loc Cert.AdamGMixIdeal.main_arg0) = m ((c.tc : Thread Cert.AdamGMixIdeal.nD Cert.AdamGMixIdeal.τ).loc Cert.AdamGMixIdeal.main_arg0)
          ∧ r.2.mem ((c.tc : Thread Cert.AdamGMixIdeal.nD Cert.AdamGMixIdeal.τ).loc Cert.AdamGMixIdeal.main_arg1) = m ((c.tc : Thread Cert.AdamGMixIdeal.nD Cert.AdamGMixIdeal.τ).loc Cert.AdamGMixIdeal.main_arg1)
          ∧ r.2.mem ((c.tc : Thread Cert.AdamGMixIdeal.nD Cert.AdamGMixIdeal.τ).loc Cert.AdamGMixIdeal.main_arg2) = m ((c.tc : Thread Cert.AdamGMixIdeal.nD Cert.AdamGMixIdeal.τ).loc Cert.AdamGMixIdeal.main_arg2)
          ∧ r.2.mem ((c.tc : Thread Cert.AdamGMixIdeal.nD Cert.AdamGMixIdeal.τ).loc Cert.AdamGMixIdeal.main_arg3) = m ((c.tc : Thread Cert.AdamGMixIdeal.nD Cert.AdamGMixIdeal.τ).loc Cert.AdamGMixIdeal.main_arg3))
      ∧ θ_run (Cert.AdamGMixRefIdeal.defs (F := Ideal)) (onTc (τ := Cert.AdamGMixRefIdeal.τ) (Cert.AdamGMixRefIdeal.main (F := Ideal))) ⟨m', fun _ => 0, g'⟩ (fun r => ∀ c : Dev Cert.AdamGMixRefIdeal.nD,
          r.2.mem ((c.tc : Thread Cert.AdamGMixRefIdeal.nD Cert.AdamGMixRefIdeal.τ).loc Cert.AdamGMixRefIdeal.main_v23) = v0 c
          ∧ r.2.mem ((c.tc : Thread Cert.AdamGMixRefIdeal.nD Cert.AdamGMixRefIdeal.τ).loc Cert.AdamGMixRefIdeal.main_v4) = v1 c
          ∧ r.2.mem ((c.tc : Thread Cert.AdamGMixRefIdeal.nD Cert.AdamGMixRefIdeal.τ).loc Cert.AdamGMixRefIdeal.main_v10) = v2 c
          ∧ r.2.mem ((c.tc : Thread Cert.AdamGMixRefIdeal.nD Cert.AdamGMixRefIdeal.τ).loc Cert.AdamGMixRefIdeal.main_arg0) = m' ((c.tc : Thread Cert.AdamGMixRefIdeal.nD Cert.AdamGMixRefIdeal.τ).loc Cert.AdamGMixRefIdeal.main_arg0)
          ∧ r.2.mem ((c.tc : Thread Cert.AdamGMixRefIdeal.nD Cert.AdamGMixRefIdeal.τ).loc Cert.AdamGMixRefIdeal.main_arg1) = m' ((c.tc : Thread Cert.AdamGMixRefIdeal.nD Cert.AdamGMixRefIdeal.τ).loc Cert.AdamGMixRefIdeal.main_arg1)
          ∧ r.2.mem ((c.tc : Thread Cert.AdamGMixRefIdeal.nD Cert.AdamGMixRefIdeal.τ).loc Cert.AdamGMixRefIdeal.main_arg2) = m' ((c.tc : Thread Cert.AdamGMixRefIdeal.nD Cert.AdamGMixRefIdeal.τ).loc Cert.AdamGMixRefIdeal.main_arg2)
          ∧ r.2.mem ((c.tc : Thread Cert.AdamGMixRefIdeal.nD Cert.AdamGMixRefIdeal.τ).loc Cert.AdamGMixRefIdeal.main_arg3) = m' ((c.tc : Thread Cert.AdamGMixRefIdeal.nD Cert.AdamGMixRefIdeal.τ).loc Cert.AdamGMixRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v4_0)) (v1 : (c : Dev Cert.AdamFfnInIdeal.nD) → Buf (Elt Ideal) ((c.tc : Thread Cert.AdamFfnInIdeal.nD Cert.AdamFfnInIdeal.τ).loc Cert.AdamFfnInIdeal.main_v4_1)) (v2 : (c : Dev Cert.AdamFfnInIdeal.nD) → Buf (Elt Ideal) ((c.tc : Thread Cert.AdamFfnInIdeal.nD Cert.AdamFfnInIdeal.τ).loc Cert.AdamFfnInIdeal.main_v4_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v4_0) = v0 c
          ∧ r.2.mem ((c.tc : Thread Cert.AdamFfnInIdeal.nD Cert.AdamFfnInIdeal.τ).loc Cert.AdamFfnInIdeal.main_v4_1) = v1 c
          ∧ r.2.mem ((c.tc : Thread Cert.AdamFfnInIdeal.nD Cert.AdamFfnInIdeal.τ).loc Cert.AdamFfnInIdeal.main_v4_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v24) = v0 c
          ∧ r.2.mem ((c.tc : Thread Cert.AdamFfnInRefIdeal.nD Cert.AdamFfnInRefIdeal.τ).loc Cert.AdamFfnInRefIdeal.main_v25) = v1 c
          ∧ r.2.mem ((c.tc : Thread Cert.AdamFfnInRefIdeal.nD Cert.AdamFfnInRefIdeal.τ).loc Cert.AdamFfnInRefIdeal.main_v26) = v2 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v4_0)) (v1 : (c : Dev Cert.AdamFfnOutIdeal.nD) → Buf (Elt Ideal) ((c.tc : Thread Cert.AdamFfnOutIdeal.nD Cert.AdamFfnOutIdeal.τ).loc Cert.AdamFfnOutIdeal.main_v4_1)) (v2 : (c : Dev Cert.AdamFfnOutIdeal.nD) → Buf (Elt Ideal) ((c.tc : Thread Cert.AdamFfnOutIdeal.nD Cert.AdamFfnOutIdeal.τ).loc Cert.AdamFfnOutIdeal.main_v4_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v4_0) = v0 c
          ∧ r.2.mem ((c.tc : Thread Cert.AdamFfnOutIdeal.nD Cert.AdamFfnOutIdeal.τ).loc Cert.AdamFfnOutIdeal.main_v4_1) = v1 c
          ∧ r.2.mem ((c.tc : Thread Cert.AdamFfnOutIdeal.nD Cert.AdamFfnOutIdeal.τ).loc Cert.AdamFfnOutIdeal.main_v4_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v24) = v0 c
          ∧ r.2.mem ((c.tc : Thread Cert.AdamFfnOutRefIdeal.nD Cert.AdamFfnOutRefIdeal.τ).loc Cert.AdamFfnOutRefIdeal.main_v25) = v1 c
          ∧ r.2.mem ((c.tc : Thread Cert.AdamFfnOutRefIdeal.nD Cert.AdamFfnOutRefIdeal.τ).loc Cert.AdamFfnOutRefIdeal.main_v26) = v2 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v4_0)) (v1 : (c : Dev Cert.AdamWInIdeal.nD) → Buf (Elt Ideal) ((c.tc : Thread Cert.AdamWInIdeal.nD Cert.AdamWInIdeal.τ).loc Cert.AdamWInIdeal.main_v4_1)) (v2 : (c : Dev Cert.AdamWInIdeal.nD) → Buf (Elt Ideal) ((c.tc : Thread Cert.AdamWInIdeal.nD Cert.AdamWInIdeal.τ).loc Cert.AdamWInIdeal.main_v4_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v4_0) = v0 c
          ∧ r.2.mem ((c.tc : Thread Cert.AdamWInIdeal.nD Cert.AdamWInIdeal.τ).loc Cert.AdamWInIdeal.main_v4_1) = v1 c
          ∧ r.2.mem ((c.tc : Thread Cert.AdamWInIdeal.nD Cert.AdamWInIdeal.τ).loc Cert.AdamWInIdeal.main_v4_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v24) = v0 c
          ∧ r.2.mem ((c.tc : Thread Cert.AdamWInRefIdeal.nD Cert.AdamWInRefIdeal.τ).loc Cert.AdamWInRefIdeal.main_v25) = v1 c
          ∧ r.2.mem ((c.tc : Thread Cert.AdamWInRefIdeal.nD Cert.AdamWInRefIdeal.τ).loc Cert.AdamWInRefIdeal.main_v26) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamQGain_AdamQGainIdeal : Prop :=
  True

def algebraic_AdamQGainIdeal_AdamQGainRefIdeal [hAdamQGainIdeal : Cert.AdamQGainIdeal.Facts] [hAdamQGainRefIdeal : Cert.AdamQGainRefIdeal.Facts] : Prop :=
  ∀ (m : (ℓ : Loc Cert.AdamQGainIdeal.nD Cert.AdamQGainIdeal.τ Cert.AdamQGainIdeal.sig) → Buf (Elt Ideal) ℓ) (g : Dev Cert.AdamQGainIdeal.nD → PrngReg)
    (m' : (ℓ : Loc Cert.AdamQGainRefIdeal.nD Cert.AdamQGainRefIdeal.τ Cert.AdamQGainRefIdeal.sig) → Buf (Elt Ideal) ℓ) (g' : Dev Cert.AdamQGainRefIdeal.nD → PrngReg), Pre_AdamQGainIdeal m →
    (∀ c : Dev Cert.AdamQGainIdeal.nD,
      m' ((c.tc : Thread Cert.AdamQGainRefIdeal.nD Cert.AdamQGainRefIdeal.τ).loc Cert.AdamQGainRefIdeal.main_arg0) = m ((c.tc : Thread Cert.AdamQGainIdeal.nD Cert.AdamQGainIdeal.τ).loc Cert.AdamQGainIdeal.main_arg0)
      ∧ m' ((c.tc : Thread Cert.AdamQGainRefIdeal.nD Cert.AdamQGainRefIdeal.τ).loc Cert.AdamQGainRefIdeal.main_arg1) = m ((c.tc : Thread Cert.AdamQGainIdeal.nD Cert.AdamQGainIdeal.τ).loc Cert.AdamQGainIdeal.main_arg1)
      ∧ m' ((c.tc : Thread Cert.AdamQGainRefIdeal.nD Cert.AdamQGainRefIdeal.τ).loc Cert.AdamQGainRefIdeal.main_arg2) = m ((c.tc : Thread Cert.AdamQGainIdeal.nD Cert.AdamQGainIdeal.τ).loc Cert.AdamQGainIdeal.main_arg2)
      ∧ m' ((c.tc : Thread Cert.AdamQGainRefIdeal.nD Cert.AdamQGainRefIdeal.τ).loc Cert.AdamQGainRefIdeal.main_arg3) = m ((c.tc : Thread Cert.AdamQGainIdeal.nD Cert.AdamQGainIdeal.τ).loc Cert.AdamQGainIdeal.main_arg3)) →
    ∃ (v0 : (c : Dev Cert.AdamQGainIdeal.nD) → Buf (Elt Ideal) ((c.tc : Thread Cert.AdamQGainIdeal.nD Cert.AdamQGainIdeal.τ).loc Cert.AdamQGainIdeal.main_v0_0)) (v1 : (c : Dev Cert.AdamQGainIdeal.nD) → Buf (Elt Ideal) ((c.tc : Thread Cert.AdamQGainIdeal.nD Cert.AdamQGainIdeal.τ).loc Cert.AdamQGainIdeal.main_v0_1)) (v2 : (c : Dev Cert.AdamQGainIdeal.nD) → Buf (Elt Ideal) ((c.tc : Thread Cert.AdamQGainIdeal.nD Cert.AdamQGainIdeal.τ).loc Cert.AdamQGainIdeal.main_v0_2)),
      θ_run (Cert.AdamQGainIdeal.defs (F := Ideal)) (onTc (τ := Cert.AdamQGainIdeal.τ) (Cert.AdamQGainIdeal.main (F := Ideal))) ⟨m, fun _ => 0, g⟩ (fun r => ∀ c : Dev Cert.AdamQGainIdeal.nD,
          r.2.mem ((c.tc : Thread Cert.AdamQGainIdeal.nD Cert.AdamQGainIdeal.τ).loc Cert.AdamQGainIdeal.main_v0_0) = v0 c
          ∧ r.2.mem ((c.tc : Thread Cert.AdamQGainIdeal.nD Cert.AdamQGainIdeal.τ).loc Cert.AdamQGainIdeal.main_v0_1) = v1 c
          ∧ r.2.mem ((c.tc : Thread Cert.AdamQGainIdeal.nD Cert.AdamQGainIdeal.τ).loc Cert.AdamQGainIdeal.main_v0_2) = v2 c
          ∧ r.2.mem ((c.tc : Thread Cert.AdamQGainIdeal.nD Cert.AdamQGainIdeal.τ).loc Cert.AdamQGainIdeal.main_arg0) = m ((c.tc : Thread Cert.AdamQGainIdeal.nD Cert.AdamQGainIdeal.τ).loc Cert.AdamQGainIdeal.main_arg0)
          ∧ r.2.mem ((c.tc : Thread Cert.AdamQGainIdeal.nD Cert.AdamQGainIdeal.τ).loc Cert.AdamQGainIdeal.main_arg1) = m ((c.tc : Thread Cert.AdamQGainIdeal.nD Cert.AdamQGainIdeal.τ).loc Cert.AdamQGainIdeal.main_arg1)
          ∧ r.2.mem ((c.tc : Thread Cert.AdamQGainIdeal.nD Cert.AdamQGainIdeal.τ).loc Cert.AdamQGainIdeal.main_arg2) = m ((c.tc : Thread Cert.AdamQGainIdeal.nD Cert.AdamQGainIdeal.τ).loc Cert.AdamQGainIdeal.main_arg2)
          ∧ r.2.mem ((c.tc : Thread Cert.AdamQGainIdeal.nD Cert.AdamQGainIdeal.τ).loc Cert.AdamQGainIdeal.main_arg3) = m ((c.tc : Thread Cert.AdamQGainIdeal.nD Cert.AdamQGainIdeal.τ).loc Cert.AdamQGainIdeal.main_arg3))
      ∧ θ_run (Cert.AdamQGainRefIdeal.defs (F := Ideal)) (onTc (τ := Cert.AdamQGainRefIdeal.τ) (Cert.AdamQGainRefIdeal.main (F := Ideal))) ⟨m', fun _ => 0, g'⟩ (fun r => ∀ c : Dev Cert.AdamQGainRefIdeal.nD,
          r.2.mem ((c.tc : Thread Cert.AdamQGainRefIdeal.nD Cert.AdamQGainRefIdeal.τ).loc Cert.AdamQGainRefIdeal.main_v23) = v0 c
          ∧ r.2.mem ((c.tc : Thread Cert.AdamQGainRefIdeal.nD Cert.AdamQGainRefIdeal.τ).loc Cert.AdamQGainRefIdeal.main_v4) = v1 c
          ∧ r.2.mem ((c.tc : Thread Cert.AdamQGainRefIdeal.nD Cert.AdamQGainRefIdeal.τ).loc Cert.AdamQGainRefIdeal.main_v10) = v2 c
          ∧ r.2.mem ((c.tc : Thread Cert.AdamQGainRefIdeal.nD Cert.AdamQGainRefIdeal.τ).loc Cert.AdamQGainRefIdeal.main_arg0) = m' ((c.tc : Thread Cert.AdamQGainRefIdeal.nD Cert.AdamQGainRefIdeal.τ).loc Cert.AdamQGainRefIdeal.main_arg0)
          ∧ r.2.mem ((c.tc : Thread Cert.AdamQGainRefIdeal.nD Cert.AdamQGainRefIdeal.τ).loc Cert.AdamQGainRefIdeal.main_arg1) = m' ((c.tc : Thread Cert.AdamQGainRefIdeal.nD Cert.AdamQGainRefIdeal.τ).loc Cert.AdamQGainRefIdeal.main_arg1)
          ∧ r.2.mem ((c.tc : Thread Cert.AdamQGainRefIdeal.nD Cert.AdamQGainRefIdeal.τ).loc Cert.AdamQGainRefIdeal.main_arg2) = m' ((c.tc : Thread Cert.AdamQGainRefIdeal.nD Cert.AdamQGainRefIdeal.τ).loc Cert.AdamQGainRefIdeal.main_arg2)
          ∧ r.2.mem ((c.tc : Thread Cert.AdamQGainRefIdeal.nD Cert.AdamQGainRefIdeal.τ).loc Cert.AdamQGainRefIdeal.main_arg3) = m' ((c.tc : Thread Cert.AdamQGainRefIdeal.nD Cert.AdamQGainRefIdeal.τ).loc Cert.AdamQGainRefIdeal.main_arg3))

def preserves_AdamWSp_AdamWSpIdeal : Prop :=
  True

def algebraic_AdamWSpIdeal_AdamWSpRefIdeal [hAdamWSpIdeal : Cert.AdamWSpIdeal.Facts] [hAdamWSpRefIdeal : Cert.AdamWSpRefIdeal.Facts] : Prop :=
  ∀ (m : (ℓ : Loc Cert.AdamWSpIdeal.nD Cert.AdamWSpIdeal.τ Cert.AdamWSpIdeal.sig) → Buf (Elt Ideal) ℓ) (g : Dev Cert.AdamWSpIdeal.nD → PrngReg)
    (m' : (ℓ : Loc Cert.AdamWSpRefIdeal.nD Cert.AdamWSpRefIdeal.τ Cert.AdamWSpRefIdeal.sig) → Buf (Elt Ideal) ℓ) (g' : Dev Cert.AdamWSpRefIdeal.nD → PrngReg), Pre_AdamWSpIdeal m →
    (∀ c : Dev Cert.AdamWSpIdeal.nD,
      m' ((c.tc : Thread Cert.AdamWSpRefIdeal.nD Cert.AdamWSpRefIdeal.τ).loc Cert.AdamWSpRefIdeal.main_arg0) = m ((c.tc : Thread Cert.AdamWSpIdeal.nD Cert.AdamWSpIdeal.τ).loc Cert.AdamWSpIdeal.main_arg0)
      ∧ m' ((c.tc : Thread Cert.AdamWSpRefIdeal.nD Cert.AdamWSpRefIdeal.τ).loc Cert.AdamWSpRefIdeal.main_arg1) = m ((c.tc : Thread Cert.AdamWSpIdeal.nD Cert.AdamWSpIdeal.τ).loc Cert.AdamWSpIdeal.main_arg1)
      ∧ m' ((c.tc : Thread Cert.AdamWSpRefIdeal.nD Cert.AdamWSpRefIdeal.τ).loc Cert.AdamWSpRefIdeal.main_arg2) = m ((c.tc : Thread Cert.AdamWSpIdeal.nD Cert.AdamWSpIdeal.τ).loc Cert.AdamWSpIdeal.main_arg2)
      ∧ m' ((c.tc : Thread Cert.AdamWSpRefIdeal.nD Cert.AdamWSpRefIdeal.τ).loc Cert.AdamWSpRefIdeal.main_arg3) = m ((c.tc : Thread Cert.AdamWSpIdeal.nD Cert.AdamWSpIdeal.τ).loc Cert.AdamWSpIdeal.main_arg3)) →
    ∃ (v0 : (c : Dev Cert.AdamWSpIdeal.nD) → Buf (Elt Ideal) ((c.tc : Thread Cert.AdamWSpIdeal.nD Cert.AdamWSpIdeal.τ).loc Cert.AdamWSpIdeal.main_v4_0)) (v1 : (c : Dev Cert.AdamWSpIdeal.nD) → Buf (Elt Ideal) ((c.tc : Thread Cert.AdamWSpIdeal.nD Cert.AdamWSpIdeal.τ).loc Cert.AdamWSpIdeal.main_v4_1)) (v2 : (c : Dev Cert.AdamWSpIdeal.nD) → Buf (Elt Ideal) ((c.tc : Thread Cert.AdamWSpIdeal.nD Cert.AdamWSpIdeal.τ).loc Cert.AdamWSpIdeal.main_v4_2)),
      θ_run (Cert.AdamWSpIdeal.defs (F := Ideal)) (onTc (τ := Cert.AdamWSpIdeal.τ) (Cert.AdamWSpIdeal.main (F := Ideal))) ⟨m, fun _ => 0, g⟩ (fun r => ∀ c : Dev Cert.AdamWSpIdeal.nD,
          r.2.mem ((c.tc : Thread Cert.AdamWSpIdeal.nD Cert.AdamWSpIdeal.τ).loc Cert.AdamWSpIdeal.main_v4_0) = v0 c
          ∧ r.2.mem ((c.tc : Thread Cert.AdamWSpIdeal.nD Cert.AdamWSpIdeal.τ).loc Cert.AdamWSpIdeal.main_v4_1) = v1 c
          ∧ r.2.mem ((c.tc : Thread Cert.AdamWSpIdeal.nD Cert.AdamWSpIdeal.τ).loc Cert.AdamWSpIdeal.main_v4_2) = v2 c
          ∧ r.2.mem ((c.tc : Thread Cert.AdamWSpIdeal.nD Cert.AdamWSpIdeal.τ).loc Cert.AdamWSpIdeal.main_arg0) = m ((c.tc : Thread Cert.AdamWSpIdeal.nD Cert.AdamWSpIdeal.τ).loc Cert.AdamWSpIdeal.main_arg0)
          ∧ r.2.mem ((c.tc : Thread Cert.AdamWSpIdeal.nD Cert.AdamWSpIdeal.τ).loc Cert.AdamWSpIdeal.main_arg1) = m ((c.tc : Thread Cert.AdamWSpIdeal.nD Cert.AdamWSpIdeal.τ).loc Cert.AdamWSpIdeal.main_arg1)
          ∧ r.2.mem ((c.tc : Thread Cert.AdamWSpIdeal.nD Cert.AdamWSpIdeal.τ).loc Cert.AdamWSpIdeal.main_arg2) = m ((c.tc : Thread Cert.AdamWSpIdeal.nD Cert.AdamWSpIdeal.τ).loc Cert.AdamWSpIdeal.main_arg2)
          ∧ r.2.mem ((c.tc : Thread Cert.AdamWSpIdeal.nD Cert.AdamWSpIdeal.τ).loc Cert.AdamWSpIdeal.main_arg3) = m ((c.tc : Thread Cert.AdamWSpIdeal.nD Cert.AdamWSpIdeal.τ).loc Cert.AdamWSpIdeal.main_arg3))
      ∧ θ_run (Cert.AdamWSpRefIdeal.defs (F := Ideal)) (onTc (τ := Cert.AdamWSpRefIdeal.τ) (Cert.AdamWSpRefIdeal.main (F := Ideal))) ⟨m', fun _ => 0, g'⟩ (fun r => ∀ c : Dev Cert.AdamWSpRefIdeal.nD,
          r.2.mem ((c.tc : Thread Cert.AdamWSpRefIdeal.nD Cert.AdamWSpRefIdeal.τ).loc Cert.AdamWSpRefIdeal.main_v24) = v0 c
          ∧ r.2.mem ((c.tc : Thread Cert.AdamWSpRefIdeal.nD Cert.AdamWSpRefIdeal.τ).loc Cert.AdamWSpRefIdeal.main_v25) = v1 c
          ∧ r.2.mem ((c.tc : Thread Cert.AdamWSpRefIdeal.nD Cert.AdamWSpRefIdeal.τ).loc Cert.AdamWSpRefIdeal.main_v26) = v2 c
          ∧ r.2.mem ((c.tc : Thread Cert.AdamWSpRefIdeal.nD Cert.AdamWSpRefIdeal.τ).loc Cert.AdamWSpRefIdeal.main_arg0) = m' ((c.tc : Thread Cert.AdamWSpRefIdeal.nD Cert.AdamWSpRefIdeal.τ).loc Cert.AdamWSpRefIdeal.main_arg0)
          ∧ r.2.mem ((c.tc : Thread Cert.AdamWSpRefIdeal.nD Cert.AdamWSpRefIdeal.τ).loc Cert.AdamWSpRefIdeal.main_arg1) = m' ((c.tc : Thread Cert.AdamWSpRefIdeal.nD Cert.AdamWSpRefIdeal.τ).loc Cert.AdamWSpRefIdeal.main_arg1)
          ∧ r.2.mem ((c.tc : Thread Cert.AdamWSpRefIdeal.nD Cert.AdamWSpRefIdeal.τ).loc Cert.AdamWSpRefIdeal.main_arg2) = m' ((c.tc : Thread Cert.AdamWSpRefIdeal.nD Cert.AdamWSpRefIdeal.τ).loc Cert.AdamWSpRefIdeal.main_arg2)
          ∧ r.2.mem ((c.tc : Thread Cert.AdamWSpRefIdeal.nD Cert.AdamWSpRefIdeal.τ).loc Cert.AdamWSpRefIdeal.main_arg3) = m' ((c.tc : Thread Cert.AdamWSpRefIdeal.nD Cert.AdamWSpRefIdeal.τ).loc Cert.AdamWSpRefIdeal.main_arg3))

def preserves_AdamBSp_AdamBSpIdeal : Prop :=
  True

def algebraic_AdamBSpIdeal_AdamBSpRefIdeal [hAdamBSpIdeal : Cert.AdamBSpIdeal.Facts] [hAdamBSpRefIdeal : Cert.AdamBSpRefIdeal.Facts] : Prop :=
  ∀ (m : (ℓ : Loc Cert.AdamBSpIdeal.nD Cert.AdamBSpIdeal.τ Cert.AdamBSpIdeal.sig) → Buf (Elt Ideal) ℓ) (g : Dev Cert.AdamBSpIdeal.nD → PrngReg)
    (m' : (ℓ : Loc Cert.AdamBSpRefIdeal.nD Cert.AdamBSpRefIdeal.τ Cert.AdamBSpRefIdeal.sig) → Buf (Elt Ideal) ℓ) (g' : Dev Cert.AdamBSpRefIdeal.nD → PrngReg), Pre_AdamBSpIdeal m →
    (∀ c : Dev Cert.AdamBSpIdeal.nD,
      m' ((c.tc : Thread Cert.AdamBSpRefIdeal.nD Cert.AdamBSpRefIdeal.τ).loc Cert.AdamBSpRefIdeal.main_arg0) = m ((c.tc : Thread Cert.AdamBSpIdeal.nD Cert.AdamBSpIdeal.τ).loc Cert.AdamBSpIdeal.main_arg0)
      ∧ m' ((c.tc : Thread Cert.AdamBSpRefIdeal.nD Cert.AdamBSpRefIdeal.τ).loc Cert.AdamBSpRefIdeal.main_arg1) = m ((c.tc : Thread Cert.AdamBSpIdeal.nD Cert.AdamBSpIdeal.τ).loc Cert.AdamBSpIdeal.main_arg1)
      ∧ m' ((c.tc : Thread Cert.AdamBSpRefIdeal.nD Cert.AdamBSpRefIdeal.τ).loc Cert.AdamBSpRefIdeal.main_arg2) = m ((c.tc : Thread Cert.AdamBSpIdeal.nD Cert.AdamBSpIdeal.τ).loc Cert.AdamBSpIdeal.main_arg2)
      ∧ m' ((c.tc : Thread Cert.AdamBSpRefIdeal.nD Cert.AdamBSpRefIdeal.τ).loc Cert.AdamBSpRefIdeal.main_arg3) = m ((c.tc : Thread Cert.AdamBSpIdeal.nD Cert.AdamBSpIdeal.τ).loc Cert.AdamBSpIdeal.main_arg3)) →
    ∃ (v0 : (c : Dev Cert.AdamBSpIdeal.nD) → Buf (Elt Ideal) ((c.tc : Thread Cert.AdamBSpIdeal.nD Cert.AdamBSpIdeal.τ).loc Cert.AdamBSpIdeal.main_v4_0)) (v1 : (c : Dev Cert.AdamBSpIdeal.nD) → Buf (Elt Ideal) ((c.tc : Thread Cert.AdamBSpIdeal.nD Cert.AdamBSpIdeal.τ).loc Cert.AdamBSpIdeal.main_v4_1)) (v2 : (c : Dev Cert.AdamBSpIdeal.nD) → Buf (Elt Ideal) ((c.tc : Thread Cert.AdamBSpIdeal.nD Cert.AdamBSpIdeal.τ).loc Cert.AdamBSpIdeal.main_v4_2)),
      θ_run (Cert.AdamBSpIdeal.defs (F := Ideal)) (onTc (τ := Cert.AdamBSpIdeal.τ) (Cert.AdamBSpIdeal.main (F := Ideal))) ⟨m, fun _ => 0, g⟩ (fun r => ∀ c : Dev Cert.AdamBSpIdeal.nD,
          r.2.mem ((c.tc : Thread Cert.AdamBSpIdeal.nD Cert.AdamBSpIdeal.τ).loc Cert.AdamBSpIdeal.main_v4_0) = v0 c
          ∧ r.2.mem ((c.tc : Thread Cert.AdamBSpIdeal.nD Cert.AdamBSpIdeal.τ).loc Cert.AdamBSpIdeal.main_v4_1) = v1 c
          ∧ r.2.mem ((c.tc : Thread Cert.AdamBSpIdeal.nD Cert.AdamBSpIdeal.τ).loc Cert.AdamBSpIdeal.main_v4_2) = v2 c
          ∧ r.2.mem ((c.tc : Thread Cert.AdamBSpIdeal.nD Cert.AdamBSpIdeal.τ).loc Cert.AdamBSpIdeal.main_arg0) = m ((c.tc : Thread Cert.AdamBSpIdeal.nD Cert.AdamBSpIdeal.τ).loc Cert.AdamBSpIdeal.main_arg0)
          ∧ r.2.mem ((c.tc : Thread Cert.AdamBSpIdeal.nD Cert.AdamBSpIdeal.τ).loc Cert.AdamBSpIdeal.main_arg1) = m ((c.tc : Thread Cert.AdamBSpIdeal.nD Cert.AdamBSpIdeal.τ).loc Cert.AdamBSpIdeal.main_arg1)
          ∧ r.2.mem ((c.tc : Thread Cert.AdamBSpIdeal.nD Cert.AdamBSpIdeal.τ).loc Cert.AdamBSpIdeal.main_arg2) = m ((c.tc : Thread Cert.AdamBSpIdeal.nD Cert.AdamBSpIdeal.τ).loc Cert.AdamBSpIdeal.main_arg2)
          ∧ r.2.mem ((c.tc : Thread Cert.AdamBSpIdeal.nD Cert.AdamBSpIdeal.τ).loc Cert.AdamBSpIdeal.main_arg3) = m ((c.tc : Thread Cert.AdamBSpIdeal.nD Cert.AdamBSpIdeal.τ).loc Cert.AdamBSpIdeal.main_arg3))
      ∧ θ_run (Cert.AdamBSpRefIdeal.defs (F := Ideal)) (onTc (τ := Cert.AdamBSpRefIdeal.τ) (Cert.AdamBSpRefIdeal.main (F := Ideal))) ⟨m', fun _ => 0, g'⟩ (fun r => ∀ c : Dev Cert.AdamBSpRefIdeal.nD,
          r.2.mem ((c.tc : Thread Cert.AdamBSpRefIdeal.nD Cert.AdamBSpRefIdeal.τ).loc Cert.AdamBSpRefIdeal.main_v24) = v0 c
          ∧ r.2.mem ((c.tc : Thread Cert.AdamBSpRefIdeal.nD Cert.AdamBSpRefIdeal.τ).loc Cert.AdamBSpRefIdeal.main_v25) = v1 c
          ∧ r.2.mem ((c.tc : Thread Cert.AdamBSpRefIdeal.nD Cert.AdamBSpRefIdeal.τ).loc Cert.AdamBSpRefIdeal.main_v26) = v2 c
          ∧ r.2.mem ((c.tc : Thread Cert.AdamBSpRefIdeal.nD Cert.AdamBSpRefIdeal.τ).loc Cert.AdamBSpRefIdeal.main_arg0) = m' ((c.tc : Thread Cert.AdamBSpRefIdeal.nD Cert.AdamBSpRefIdeal.τ).loc Cert.AdamBSpRefIdeal.main_arg0)
          ∧ r.2.mem ((c.tc : Thread Cert.AdamBSpRefIdeal.nD Cert.AdamBSpRefIdeal.τ).loc Cert.AdamBSpRefIdeal.main_arg1) = m' ((c.tc : Thread Cert.AdamBSpRefIdeal.nD Cert.AdamBSpRefIdeal.τ).loc Cert.AdamBSpRefIdeal.main_arg1)
          ∧ r.2.mem ((c.tc : Thread Cert.AdamBSpRefIdeal.nD Cert.AdamBSpRefIdeal.τ).loc Cert.AdamBSpRefIdeal.main_arg2) = m' ((c.tc : Thread Cert.AdamBSpRefIdeal.nD Cert.AdamBSpRefIdeal.τ).loc Cert.AdamBSpRefIdeal.main_arg2)
          ∧ r.2.mem ((c.tc : Thread Cert.AdamBSpRefIdeal.nD Cert.AdamBSpRefIdeal.τ).loc Cert.AdamBSpRefIdeal.main_arg3) = m' ((c.tc : Thread Cert.AdamBSpRefIdeal.nD Cert.AdamBSpRefIdeal.τ).loc Cert.AdamBSpRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v4_0)) (v1 : (c : Dev Cert.AdamWOutIdeal.nD) → Buf (Elt Ideal) ((c.tc : Thread Cert.AdamWOutIdeal.nD Cert.AdamWOutIdeal.τ).loc Cert.AdamWOutIdeal.main_v4_1)) (v2 : (c : Dev Cert.AdamWOutIdeal.nD) → Buf (Elt Ideal) ((c.tc : Thread Cert.AdamWOutIdeal.nD Cert.AdamWOutIdeal.τ).loc Cert.AdamWOutIdeal.main_v4_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v4_0) = v0 c
          ∧ r.2.mem ((c.tc : Thread Cert.AdamWOutIdeal.nD Cert.AdamWOutIdeal.τ).loc Cert.AdamWOutIdeal.main_v4_1) = v1 c
          ∧ r.2.mem ((c.tc : Thread Cert.AdamWOutIdeal.nD Cert.AdamWOutIdeal.τ).loc Cert.AdamWOutIdeal.main_v4_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v24) = v0 c
          ∧ r.2.mem ((c.tc : Thread Cert.AdamWOutRefIdeal.nD Cert.AdamWOutRefIdeal.τ).loc Cert.AdamWOutRefIdeal.main_v25) = v1 c
          ∧ r.2.mem ((c.tc : Thread Cert.AdamWOutRefIdeal.nD Cert.AdamWOutRefIdeal.τ).loc Cert.AdamWOutRefIdeal.main_v26) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWPw1_AdamWPw1Ideal : Prop :=
  True

def algebraic_AdamWPw1Ideal_AdamWPw1RefIdeal [hAdamWPw1Ideal : Cert.AdamWPw1Ideal.Facts] [hAdamWPw1RefIdeal : Cert.AdamWPw1RefIdeal.Facts] : Prop :=
  ∀ (m : (ℓ : Loc Cert.AdamWPw1Ideal.nD Cert.AdamWPw1Ideal.τ Cert.AdamWPw1Ideal.sig) → Buf (Elt Ideal) ℓ) (g : Dev Cert.AdamWPw1Ideal.nD → PrngReg)
    (m' : (ℓ : Loc Cert.AdamWPw1RefIdeal.nD Cert.AdamWPw1RefIdeal.τ Cert.AdamWPw1RefIdeal.sig) → Buf (Elt Ideal) ℓ) (g' : Dev Cert.AdamWPw1RefIdeal.nD → PrngReg), Pre_AdamWPw1Ideal m →
    (∀ c : Dev Cert.AdamWPw1Ideal.nD,
      m' ((c.tc : Thread Cert.AdamWPw1RefIdeal.nD Cert.AdamWPw1RefIdeal.τ).loc Cert.AdamWPw1RefIdeal.main_arg0) = m ((c.tc : Thread Cert.AdamWPw1Ideal.nD Cert.AdamWPw1Ideal.τ).loc Cert.AdamWPw1Ideal.main_arg0)
      ∧ m' ((c.tc : Thread Cert.AdamWPw1RefIdeal.nD Cert.AdamWPw1RefIdeal.τ).loc Cert.AdamWPw1RefIdeal.main_arg1) = m ((c.tc : Thread Cert.AdamWPw1Ideal.nD Cert.AdamWPw1Ideal.τ).loc Cert.AdamWPw1Ideal.main_arg1)
      ∧ m' ((c.tc : Thread Cert.AdamWPw1RefIdeal.nD Cert.AdamWPw1RefIdeal.τ).loc Cert.AdamWPw1RefIdeal.main_arg2) = m ((c.tc : Thread Cert.AdamWPw1Ideal.nD Cert.AdamWPw1Ideal.τ).loc Cert.AdamWPw1Ideal.main_arg2)
      ∧ m' ((c.tc : Thread Cert.AdamWPw1RefIdeal.nD Cert.AdamWPw1RefIdeal.τ).loc Cert.AdamWPw1RefIdeal.main_arg3) = m ((c.tc : Thread Cert.AdamWPw1Ideal.nD Cert.AdamWPw1Ideal.τ).loc Cert.AdamWPw1Ideal.main_arg3)) →
    ∃ (v0 : (c : Dev Cert.AdamWPw1Ideal.nD) → Buf (Elt Ideal) ((c.tc : Thread Cert.AdamWPw1Ideal.nD Cert.AdamWPw1Ideal.τ).loc Cert.AdamWPw1Ideal.main_v4_0)) (v1 : (c : Dev Cert.AdamWPw1Ideal.nD) → Buf (Elt Ideal) ((c.tc : Thread Cert.AdamWPw1Ideal.nD Cert.AdamWPw1Ideal.τ).loc Cert.AdamWPw1Ideal.main_v4_1)) (v2 : (c : Dev Cert.AdamWPw1Ideal.nD) → Buf (Elt Ideal) ((c.tc : Thread Cert.AdamWPw1Ideal.nD Cert.AdamWPw1Ideal.τ).loc Cert.AdamWPw1Ideal.main_v4_2)),
      θ_run (Cert.AdamWPw1Ideal.defs (F := Ideal)) (onTc (τ := Cert.AdamWPw1Ideal.τ) (Cert.AdamWPw1Ideal.main (F := Ideal))) ⟨m, fun _ => 0, g⟩ (fun r => ∀ c : Dev Cert.AdamWPw1Ideal.nD,
          r.2.mem ((c.tc : Thread Cert.AdamWPw1Ideal.nD Cert.AdamWPw1Ideal.τ).loc Cert.AdamWPw1Ideal.main_v4_0) = v0 c
          ∧ r.2.mem ((c.tc : Thread Cert.AdamWPw1Ideal.nD Cert.AdamWPw1Ideal.τ).loc Cert.AdamWPw1Ideal.main_v4_1) = v1 c
          ∧ r.2.mem ((c.tc : Thread Cert.AdamWPw1Ideal.nD Cert.AdamWPw1Ideal.τ).loc Cert.AdamWPw1Ideal.main_v4_2) = v2 c
          ∧ r.2.mem ((c.tc : Thread Cert.AdamWPw1Ideal.nD Cert.AdamWPw1Ideal.τ).loc Cert.AdamWPw1Ideal.main_arg0) = m ((c.tc : Thread Cert.AdamWPw1Ideal.nD Cert.AdamWPw1Ideal.τ).loc Cert.AdamWPw1Ideal.main_arg0)
          ∧ r.2.mem ((c.tc : Thread Cert.AdamWPw1Ideal.nD Cert.AdamWPw1Ideal.τ).loc Cert.AdamWPw1Ideal.main_arg1) = m ((c.tc : Thread Cert.AdamWPw1Ideal.nD Cert.AdamWPw1Ideal.τ).loc Cert.AdamWPw1Ideal.main_arg1)
          ∧ r.2.mem ((c.tc : Thread Cert.AdamWPw1Ideal.nD Cert.AdamWPw1Ideal.τ).loc Cert.AdamWPw1Ideal.main_arg2) = m ((c.tc : Thread Cert.AdamWPw1Ideal.nD Cert.AdamWPw1Ideal.τ).loc Cert.AdamWPw1Ideal.main_arg2)
          ∧ r.2.mem ((c.tc : Thread Cert.AdamWPw1Ideal.nD Cert.AdamWPw1Ideal.τ).loc Cert.AdamWPw1Ideal.main_arg3) = m ((c.tc : Thread Cert.AdamWPw1Ideal.nD Cert.AdamWPw1Ideal.τ).loc Cert.AdamWPw1Ideal.main_arg3))
      ∧ θ_run (Cert.AdamWPw1RefIdeal.defs (F := Ideal)) (onTc (τ := Cert.AdamWPw1RefIdeal.τ) (Cert.AdamWPw1RefIdeal.main (F := Ideal))) ⟨m', fun _ => 0, g'⟩ (fun r => ∀ c : Dev Cert.AdamWPw1RefIdeal.nD,
          r.2.mem ((c.tc : Thread Cert.AdamWPw1RefIdeal.nD Cert.AdamWPw1RefIdeal.τ).loc Cert.AdamWPw1RefIdeal.main_v24) = v0 c
          ∧ r.2.mem ((c.tc : Thread Cert.AdamWPw1RefIdeal.nD Cert.AdamWPw1RefIdeal.τ).loc Cert.AdamWPw1RefIdeal.main_v25) = v1 c
          ∧ r.2.mem ((c.tc : Thread Cert.AdamWPw1RefIdeal.nD Cert.AdamWPw1RefIdeal.τ).loc Cert.AdamWPw1RefIdeal.main_v26) = v2 c
          ∧ r.2.mem ((c.tc : Thread Cert.AdamWPw1RefIdeal.nD Cert.AdamWPw1RefIdeal.τ).loc Cert.AdamWPw1RefIdeal.main_arg0) = m' ((c.tc : Thread Cert.AdamWPw1RefIdeal.nD Cert.AdamWPw1RefIdeal.τ).loc Cert.AdamWPw1RefIdeal.main_arg0)
          ∧ r.2.mem ((c.tc : Thread Cert.AdamWPw1RefIdeal.nD Cert.AdamWPw1RefIdeal.τ).loc Cert.AdamWPw1RefIdeal.main_arg1) = m' ((c.tc : Thread Cert.AdamWPw1RefIdeal.nD Cert.AdamWPw1RefIdeal.τ).loc Cert.AdamWPw1RefIdeal.main_arg1)
          ∧ r.2.mem ((c.tc : Thread Cert.AdamWPw1RefIdeal.nD Cert.AdamWPw1RefIdeal.τ).loc Cert.AdamWPw1RefIdeal.main_arg2) = m' ((c.tc : Thread Cert.AdamWPw1RefIdeal.nD Cert.AdamWPw1RefIdeal.τ).loc Cert.AdamWPw1RefIdeal.main_arg2)
          ∧ r.2.mem ((c.tc : Thread Cert.AdamWPw1RefIdeal.nD Cert.AdamWPw1RefIdeal.τ).loc Cert.AdamWPw1RefIdeal.main_arg3) = m' ((c.tc : Thread Cert.AdamWPw1RefIdeal.nD Cert.AdamWPw1RefIdeal.τ).loc Cert.AdamWPw1RefIdeal.main_arg3))

def preserves_AdamBPw1_AdamBPw1Ideal : Prop :=
  True

def algebraic_AdamBPw1Ideal_AdamBPw1RefIdeal [hAdamBPw1Ideal : Cert.AdamBPw1Ideal.Facts] [hAdamBPw1RefIdeal : Cert.AdamBPw1RefIdeal.Facts] : Prop :=
  ∀ (m : (ℓ : Loc Cert.AdamBPw1Ideal.nD Cert.AdamBPw1Ideal.τ Cert.AdamBPw1Ideal.sig) → Buf (Elt Ideal) ℓ) (g : Dev Cert.AdamBPw1Ideal.nD → PrngReg)
    (m' : (ℓ : Loc Cert.AdamBPw1RefIdeal.nD Cert.AdamBPw1RefIdeal.τ Cert.AdamBPw1RefIdeal.sig) → Buf (Elt Ideal) ℓ) (g' : Dev Cert.AdamBPw1RefIdeal.nD → PrngReg), Pre_AdamBPw1Ideal m →
    (∀ c : Dev Cert.AdamBPw1Ideal.nD,
      m' ((c.tc : Thread Cert.AdamBPw1RefIdeal.nD Cert.AdamBPw1RefIdeal.τ).loc Cert.AdamBPw1RefIdeal.main_arg0) = m ((c.tc : Thread Cert.AdamBPw1Ideal.nD Cert.AdamBPw1Ideal.τ).loc Cert.AdamBPw1Ideal.main_arg0)
      ∧ m' ((c.tc : Thread Cert.AdamBPw1RefIdeal.nD Cert.AdamBPw1RefIdeal.τ).loc Cert.AdamBPw1RefIdeal.main_arg1) = m ((c.tc : Thread Cert.AdamBPw1Ideal.nD Cert.AdamBPw1Ideal.τ).loc Cert.AdamBPw1Ideal.main_arg1)
      ∧ m' ((c.tc : Thread Cert.AdamBPw1RefIdeal.nD Cert.AdamBPw1RefIdeal.τ).loc Cert.AdamBPw1RefIdeal.main_arg2) = m ((c.tc : Thread Cert.AdamBPw1Ideal.nD Cert.AdamBPw1Ideal.τ).loc Cert.AdamBPw1Ideal.main_arg2)
      ∧ m' ((c.tc : Thread Cert.AdamBPw1RefIdeal.nD Cert.AdamBPw1RefIdeal.τ).loc Cert.AdamBPw1RefIdeal.main_arg3) = m ((c.tc : Thread Cert.AdamBPw1Ideal.nD Cert.AdamBPw1Ideal.τ).loc Cert.AdamBPw1Ideal.main_arg3)) →
    ∃ (v0 : (c : Dev Cert.AdamBPw1Ideal.nD) → Buf (Elt Ideal) ((c.tc : Thread Cert.AdamBPw1Ideal.nD Cert.AdamBPw1Ideal.τ).loc Cert.AdamBPw1Ideal.main_v0_0)) (v1 : (c : Dev Cert.AdamBPw1Ideal.nD) → Buf (Elt Ideal) ((c.tc : Thread Cert.AdamBPw1Ideal.nD Cert.AdamBPw1Ideal.τ).loc Cert.AdamBPw1Ideal.main_v0_1)) (v2 : (c : Dev Cert.AdamBPw1Ideal.nD) → Buf (Elt Ideal) ((c.tc : Thread Cert.AdamBPw1Ideal.nD Cert.AdamBPw1Ideal.τ).loc Cert.AdamBPw1Ideal.main_v0_2)),
      θ_run (Cert.AdamBPw1Ideal.defs (F := Ideal)) (onTc (τ := Cert.AdamBPw1Ideal.τ) (Cert.AdamBPw1Ideal.main (F := Ideal))) ⟨m, fun _ => 0, g⟩ (fun r => ∀ c : Dev Cert.AdamBPw1Ideal.nD,
          r.2.mem ((c.tc : Thread Cert.AdamBPw1Ideal.nD Cert.AdamBPw1Ideal.τ).loc Cert.AdamBPw1Ideal.main_v0_0) = v0 c
          ∧ r.2.mem ((c.tc : Thread Cert.AdamBPw1Ideal.nD Cert.AdamBPw1Ideal.τ).loc Cert.AdamBPw1Ideal.main_v0_1) = v1 c
          ∧ r.2.mem ((c.tc : Thread Cert.AdamBPw1Ideal.nD Cert.AdamBPw1Ideal.τ).loc Cert.AdamBPw1Ideal.main_v0_2) = v2 c
          ∧ r.2.mem ((c.tc : Thread Cert.AdamBPw1Ideal.nD Cert.AdamBPw1Ideal.τ).loc Cert.AdamBPw1Ideal.main_arg0) = m ((c.tc : Thread Cert.AdamBPw1Ideal.nD Cert.AdamBPw1Ideal.τ).loc Cert.AdamBPw1Ideal.main_arg0)
          ∧ r.2.mem ((c.tc : Thread Cert.AdamBPw1Ideal.nD Cert.AdamBPw1Ideal.τ).loc Cert.AdamBPw1Ideal.main_arg1) = m ((c.tc : Thread Cert.AdamBPw1Ideal.nD Cert.AdamBPw1Ideal.τ).loc Cert.AdamBPw1Ideal.main_arg1)
          ∧ r.2.mem ((c.tc : Thread Cert.AdamBPw1Ideal.nD Cert.AdamBPw1Ideal.τ).loc Cert.AdamBPw1Ideal.main_arg2) = m ((c.tc : Thread Cert.AdamBPw1Ideal.nD Cert.AdamBPw1Ideal.τ).loc Cert.AdamBPw1Ideal.main_arg2)
          ∧ r.2.mem ((c.tc : Thread Cert.AdamBPw1Ideal.nD Cert.AdamBPw1Ideal.τ).loc Cert.AdamBPw1Ideal.main_arg3) = m ((c.tc : Thread Cert.AdamBPw1Ideal.nD Cert.AdamBPw1Ideal.τ).loc Cert.AdamBPw1Ideal.main_arg3))
      ∧ θ_run (Cert.AdamBPw1RefIdeal.defs (F := Ideal)) (onTc (τ := Cert.AdamBPw1RefIdeal.τ) (Cert.AdamBPw1RefIdeal.main (F := Ideal))) ⟨m', fun _ => 0, g'⟩ (fun r => ∀ c : Dev Cert.AdamBPw1RefIdeal.nD,
          r.2.mem ((c.tc : Thread Cert.AdamBPw1RefIdeal.nD Cert.AdamBPw1RefIdeal.τ).loc Cert.AdamBPw1RefIdeal.main_v23) = v0 c
          ∧ r.2.mem ((c.tc : Thread Cert.AdamBPw1RefIdeal.nD Cert.AdamBPw1RefIdeal.τ).loc Cert.AdamBPw1RefIdeal.main_v4) = v1 c
          ∧ r.2.mem ((c.tc : Thread Cert.AdamBPw1RefIdeal.nD Cert.AdamBPw1RefIdeal.τ).loc Cert.AdamBPw1RefIdeal.main_v10) = v2 c
          ∧ r.2.mem ((c.tc : Thread Cert.AdamBPw1RefIdeal.nD Cert.AdamBPw1RefIdeal.τ).loc Cert.AdamBPw1RefIdeal.main_arg0) = m' ((c.tc : Thread Cert.AdamBPw1RefIdeal.nD Cert.AdamBPw1RefIdeal.τ).loc Cert.AdamBPw1RefIdeal.main_arg0)
          ∧ r.2.mem ((c.tc : Thread Cert.AdamBPw1RefIdeal.nD Cert.AdamBPw1RefIdeal.τ).loc Cert.AdamBPw1RefIdeal.main_arg1) = m' ((c.tc : Thread Cert.AdamBPw1RefIdeal.nD Cert.AdamBPw1RefIdeal.τ).loc Cert.AdamBPw1RefIdeal.main_arg1)
          ∧ r.2.mem ((c.tc : Thread Cert.AdamBPw1RefIdeal.nD Cert.AdamBPw1RefIdeal.τ).loc Cert.AdamBPw1RefIdeal.main_arg2) = m' ((c.tc : Thread Cert.AdamBPw1RefIdeal.nD Cert.AdamBPw1RefIdeal.τ).loc Cert.AdamBPw1RefIdeal.main_arg2)
          ∧ r.2.mem ((c.tc : Thread Cert.AdamBPw1RefIdeal.nD Cert.AdamBPw1RefIdeal.τ).loc Cert.AdamBPw1RefIdeal.main_arg3) = m' ((c.tc : Thread Cert.AdamBPw1RefIdeal.nD Cert.AdamBPw1RefIdeal.τ).loc Cert.AdamBPw1RefIdeal.main_arg3))

def preserves_AdamWDw_AdamWDwIdeal : Prop :=
  True

def algebraic_AdamWDwIdeal_AdamWDwRefIdeal [hAdamWDwIdeal : Cert.AdamWDwIdeal.Facts] [hAdamWDwRefIdeal : Cert.AdamWDwRefIdeal.Facts] : Prop :=
  ∀ (m : (ℓ : Loc Cert.AdamWDwIdeal.nD Cert.AdamWDwIdeal.τ Cert.AdamWDwIdeal.sig) → Buf (Elt Ideal) ℓ) (g : Dev Cert.AdamWDwIdeal.nD → PrngReg)
    (m' : (ℓ : Loc Cert.AdamWDwRefIdeal.nD Cert.AdamWDwRefIdeal.τ Cert.AdamWDwRefIdeal.sig) → Buf (Elt Ideal) ℓ) (g' : Dev Cert.AdamWDwRefIdeal.nD → PrngReg), Pre_AdamWDwIdeal m →
    (∀ c : Dev Cert.AdamWDwIdeal.nD,
      m' ((c.tc : Thread Cert.AdamWDwRefIdeal.nD Cert.AdamWDwRefIdeal.τ).loc Cert.AdamWDwRefIdeal.main_arg0) = m ((c.tc : Thread Cert.AdamWDwIdeal.nD Cert.AdamWDwIdeal.τ).loc Cert.AdamWDwIdeal.main_arg0)
      ∧ m' ((c.tc : Thread Cert.AdamWDwRefIdeal.nD Cert.AdamWDwRefIdeal.τ).loc Cert.AdamWDwRefIdeal.main_arg1) = m ((c.tc : Thread Cert.AdamWDwIdeal.nD Cert.AdamWDwIdeal.τ).loc Cert.AdamWDwIdeal.main_arg1)
      ∧ m' ((c.tc : Thread Cert.AdamWDwRefIdeal.nD Cert.AdamWDwRefIdeal.τ).loc Cert.AdamWDwRefIdeal.main_arg2) = m ((c.tc : Thread Cert.AdamWDwIdeal.nD Cert.AdamWDwIdeal.τ).loc Cert.AdamWDwIdeal.main_arg2)
      ∧ m' ((c.tc : Thread Cert.AdamWDwRefIdeal.nD Cert.AdamWDwRefIdeal.τ).loc Cert.AdamWDwRefIdeal.main_arg3) = m ((c.tc : Thread Cert.AdamWDwIdeal.nD Cert.AdamWDwIdeal.τ).loc Cert.AdamWDwIdeal.main_arg3)) →
    ∃ (v0 : (c : Dev Cert.AdamWDwIdeal.nD) → Buf (Elt Ideal) ((c.tc : Thread Cert.AdamWDwIdeal.nD Cert.AdamWDwIdeal.τ).loc Cert.AdamWDwIdeal.main_v4_0)) (v1 : (c : Dev Cert.AdamWDwIdeal.nD) → Buf (Elt Ideal) ((c.tc : Thread Cert.AdamWDwIdeal.nD Cert.AdamWDwIdeal.τ).loc Cert.AdamWDwIdeal.main_v4_1)) (v2 : (c : Dev Cert.AdamWDwIdeal.nD) → Buf (Elt Ideal) ((c.tc : Thread Cert.AdamWDwIdeal.nD Cert.AdamWDwIdeal.τ).loc Cert.AdamWDwIdeal.main_v4_2)),
      θ_run (Cert.AdamWDwIdeal.defs (F := Ideal)) (onTc (τ := Cert.AdamWDwIdeal.τ) (Cert.AdamWDwIdeal.main (F := Ideal))) ⟨m, fun _ => 0, g⟩ (fun r => ∀ c : Dev Cert.AdamWDwIdeal.nD,
          r.2.mem ((c.tc : Thread Cert.AdamWDwIdeal.nD Cert.AdamWDwIdeal.τ).loc Cert.AdamWDwIdeal.main_v4_0) = v0 c
          ∧ r.2.mem ((c.tc : Thread Cert.AdamWDwIdeal.nD Cert.AdamWDwIdeal.τ).loc Cert.AdamWDwIdeal.main_v4_1) = v1 c
          ∧ r.2.mem ((c.tc : Thread Cert.AdamWDwIdeal.nD Cert.AdamWDwIdeal.τ).loc Cert.AdamWDwIdeal.main_v4_2) = v2 c
          ∧ r.2.mem ((c.tc : Thread Cert.AdamWDwIdeal.nD Cert.AdamWDwIdeal.τ).loc Cert.AdamWDwIdeal.main_arg0) = m ((c.tc : Thread Cert.AdamWDwIdeal.nD Cert.AdamWDwIdeal.τ).loc Cert.AdamWDwIdeal.main_arg0)
          ∧ r.2.mem ((c.tc : Thread Cert.AdamWDwIdeal.nD Cert.AdamWDwIdeal.τ).loc Cert.AdamWDwIdeal.main_arg1) = m ((c.tc : Thread Cert.AdamWDwIdeal.nD Cert.AdamWDwIdeal.τ).loc Cert.AdamWDwIdeal.main_arg1)
          ∧ r.2.mem ((c.tc : Thread Cert.AdamWDwIdeal.nD Cert.AdamWDwIdeal.τ).loc Cert.AdamWDwIdeal.main_arg2) = m ((c.tc : Thread Cert.AdamWDwIdeal.nD Cert.AdamWDwIdeal.τ).loc Cert.AdamWDwIdeal.main_arg2)
          ∧ r.2.mem ((c.tc : Thread Cert.AdamWDwIdeal.nD Cert.AdamWDwIdeal.τ).loc Cert.AdamWDwIdeal.main_arg3) = m ((c.tc : Thread Cert.AdamWDwIdeal.nD Cert.AdamWDwIdeal.τ).loc Cert.AdamWDwIdeal.main_arg3))
      ∧ θ_run (Cert.AdamWDwRefIdeal.defs (F := Ideal)) (onTc (τ := Cert.AdamWDwRefIdeal.τ) (Cert.AdamWDwRefIdeal.main (F := Ideal))) ⟨m', fun _ => 0, g'⟩ (fun r => ∀ c : Dev Cert.AdamWDwRefIdeal.nD,
          r.2.mem ((c.tc : Thread Cert.AdamWDwRefIdeal.nD Cert.AdamWDwRefIdeal.τ).loc Cert.AdamWDwRefIdeal.main_v24) = v0 c
          ∧ r.2.mem ((c.tc : Thread Cert.AdamWDwRefIdeal.nD Cert.AdamWDwRefIdeal.τ).loc Cert.AdamWDwRefIdeal.main_v25) = v1 c
          ∧ r.2.mem ((c.tc : Thread Cert.AdamWDwRefIdeal.nD Cert.AdamWDwRefIdeal.τ).loc Cert.AdamWDwRefIdeal.main_v26) = v2 c
          ∧ r.2.mem ((c.tc : Thread Cert.AdamWDwRefIdeal.nD Cert.AdamWDwRefIdeal.τ).loc Cert.AdamWDwRefIdeal.main_arg0) = m' ((c.tc : Thread Cert.AdamWDwRefIdeal.nD Cert.AdamWDwRefIdeal.τ).loc Cert.AdamWDwRefIdeal.main_arg0)
          ∧ r.2.mem ((c.tc : Thread Cert.AdamWDwRefIdeal.nD Cert.AdamWDwRefIdeal.τ).loc Cert.AdamWDwRefIdeal.main_arg1) = m' ((c.tc : Thread Cert.AdamWDwRefIdeal.nD Cert.AdamWDwRefIdeal.τ).loc Cert.AdamWDwRefIdeal.main_arg1)
          ∧ r.2.mem ((c.tc : Thread Cert.AdamWDwRefIdeal.nD Cert.AdamWDwRefIdeal.τ).loc Cert.AdamWDwRefIdeal.main_arg2) = m' ((c.tc : Thread Cert.AdamWDwRefIdeal.nD Cert.AdamWDwRefIdeal.τ).loc Cert.AdamWDwRefIdeal.main_arg2)
          ∧ r.2.mem ((c.tc : Thread Cert.AdamWDwRefIdeal.nD Cert.AdamWDwRefIdeal.τ).loc Cert.AdamWDwRefIdeal.main_arg3) = m' ((c.tc : Thread Cert.AdamWDwRefIdeal.nD Cert.AdamWDwRefIdeal.τ).loc Cert.AdamWDwRefIdeal.main_arg3))

def preserves_AdamBDw_AdamBDwIdeal : Prop :=
  True

def algebraic_AdamBDwIdeal_AdamBDwRefIdeal [hAdamBDwIdeal : Cert.AdamBDwIdeal.Facts] [hAdamBDwRefIdeal : Cert.AdamBDwRefIdeal.Facts] : Prop :=
  ∀ (m : (ℓ : Loc Cert.AdamBDwIdeal.nD Cert.AdamBDwIdeal.τ Cert.AdamBDwIdeal.sig) → Buf (Elt Ideal) ℓ) (g : Dev Cert.AdamBDwIdeal.nD → PrngReg)
    (m' : (ℓ : Loc Cert.AdamBDwRefIdeal.nD Cert.AdamBDwRefIdeal.τ Cert.AdamBDwRefIdeal.sig) → Buf (Elt Ideal) ℓ) (g' : Dev Cert.AdamBDwRefIdeal.nD → PrngReg), Pre_AdamBDwIdeal m →
    (∀ c : Dev Cert.AdamBDwIdeal.nD,
      m' ((c.tc : Thread Cert.AdamBDwRefIdeal.nD Cert.AdamBDwRefIdeal.τ).loc Cert.AdamBDwRefIdeal.main_arg0) = m ((c.tc : Thread Cert.AdamBDwIdeal.nD Cert.AdamBDwIdeal.τ).loc Cert.AdamBDwIdeal.main_arg0)
      ∧ m' ((c.tc : Thread Cert.AdamBDwRefIdeal.nD Cert.AdamBDwRefIdeal.τ).loc Cert.AdamBDwRefIdeal.main_arg1) = m ((c.tc : Thread Cert.AdamBDwIdeal.nD Cert.AdamBDwIdeal.τ).loc Cert.AdamBDwIdeal.main_arg1)
      ∧ m' ((c.tc : Thread Cert.AdamBDwRefIdeal.nD Cert.AdamBDwRefIdeal.τ).loc Cert.AdamBDwRefIdeal.main_arg2) = m ((c.tc : Thread Cert.AdamBDwIdeal.nD Cert.AdamBDwIdeal.τ).loc Cert.AdamBDwIdeal.main_arg2)
      ∧ m' ((c.tc : Thread Cert.AdamBDwRefIdeal.nD Cert.AdamBDwRefIdeal.τ).loc Cert.AdamBDwRefIdeal.main_arg3) = m ((c.tc : Thread Cert.AdamBDwIdeal.nD Cert.AdamBDwIdeal.τ).loc Cert.AdamBDwIdeal.main_arg3)) →
    ∃ (v0 : (c : Dev Cert.AdamBDwIdeal.nD) → Buf (Elt Ideal) ((c.tc : Thread Cert.AdamBDwIdeal.nD Cert.AdamBDwIdeal.τ).loc Cert.AdamBDwIdeal.main_v0_0)) (v1 : (c : Dev Cert.AdamBDwIdeal.nD) → Buf (Elt Ideal) ((c.tc : Thread Cert.AdamBDwIdeal.nD Cert.AdamBDwIdeal.τ).loc Cert.AdamBDwIdeal.main_v0_1)) (v2 : (c : Dev Cert.AdamBDwIdeal.nD) → Buf (Elt Ideal) ((c.tc : Thread Cert.AdamBDwIdeal.nD Cert.AdamBDwIdeal.τ).loc Cert.AdamBDwIdeal.main_v0_2)),
      θ_run (Cert.AdamBDwIdeal.defs (F := Ideal)) (onTc (τ := Cert.AdamBDwIdeal.τ) (Cert.AdamBDwIdeal.main (F := Ideal))) ⟨m, fun _ => 0, g⟩ (fun r => ∀ c : Dev Cert.AdamBDwIdeal.nD,
          r.2.mem ((c.tc : Thread Cert.AdamBDwIdeal.nD Cert.AdamBDwIdeal.τ).loc Cert.AdamBDwIdeal.main_v0_0) = v0 c
          ∧ r.2.mem ((c.tc : Thread Cert.AdamBDwIdeal.nD Cert.AdamBDwIdeal.τ).loc Cert.AdamBDwIdeal.main_v0_1) = v1 c
          ∧ r.2.mem ((c.tc : Thread Cert.AdamBDwIdeal.nD Cert.AdamBDwIdeal.τ).loc Cert.AdamBDwIdeal.main_v0_2) = v2 c
          ∧ r.2.mem ((c.tc : Thread Cert.AdamBDwIdeal.nD Cert.AdamBDwIdeal.τ).loc Cert.AdamBDwIdeal.main_arg0) = m ((c.tc : Thread Cert.AdamBDwIdeal.nD Cert.AdamBDwIdeal.τ).loc Cert.AdamBDwIdeal.main_arg0)
          ∧ r.2.mem ((c.tc : Thread Cert.AdamBDwIdeal.nD Cert.AdamBDwIdeal.τ).loc Cert.AdamBDwIdeal.main_arg1) = m ((c.tc : Thread Cert.AdamBDwIdeal.nD Cert.AdamBDwIdeal.τ).loc Cert.AdamBDwIdeal.main_arg1)
          ∧ r.2.mem ((c.tc : Thread Cert.AdamBDwIdeal.nD Cert.AdamBDwIdeal.τ).loc Cert.AdamBDwIdeal.main_arg2) = m ((c.tc : Thread Cert.AdamBDwIdeal.nD Cert.AdamBDwIdeal.τ).loc Cert.AdamBDwIdeal.main_arg2)
          ∧ r.2.mem ((c.tc : Thread Cert.AdamBDwIdeal.nD Cert.AdamBDwIdeal.τ).loc Cert.AdamBDwIdeal.main_arg3) = m ((c.tc : Thread Cert.AdamBDwIdeal.nD Cert.AdamBDwIdeal.τ).loc Cert.AdamBDwIdeal.main_arg3))
      ∧ θ_run (Cert.AdamBDwRefIdeal.defs (F := Ideal)) (onTc (τ := Cert.AdamBDwRefIdeal.τ) (Cert.AdamBDwRefIdeal.main (F := Ideal))) ⟨m', fun _ => 0, g'⟩ (fun r => ∀ c : Dev Cert.AdamBDwRefIdeal.nD,
          r.2.mem ((c.tc : Thread Cert.AdamBDwRefIdeal.nD Cert.AdamBDwRefIdeal.τ).loc Cert.AdamBDwRefIdeal.main_v23) = v0 c
          ∧ r.2.mem ((c.tc : Thread Cert.AdamBDwRefIdeal.nD Cert.AdamBDwRefIdeal.τ).loc Cert.AdamBDwRefIdeal.main_v4) = v1 c
          ∧ r.2.mem ((c.tc : Thread Cert.AdamBDwRefIdeal.nD Cert.AdamBDwRefIdeal.τ).loc Cert.AdamBDwRefIdeal.main_v10) = v2 c
          ∧ r.2.mem ((c.tc : Thread Cert.AdamBDwRefIdeal.nD Cert.AdamBDwRefIdeal.τ).loc Cert.AdamBDwRefIdeal.main_arg0) = m' ((c.tc : Thread Cert.AdamBDwRefIdeal.nD Cert.AdamBDwRefIdeal.τ).loc Cert.AdamBDwRefIdeal.main_arg0)
          ∧ r.2.mem ((c.tc : Thread Cert.AdamBDwRefIdeal.nD Cert.AdamBDwRefIdeal.τ).loc Cert.AdamBDwRefIdeal.main_arg1) = m' ((c.tc : Thread Cert.AdamBDwRefIdeal.nD Cert.AdamBDwRefIdeal.τ).loc Cert.AdamBDwRefIdeal.main_arg1)
          ∧ r.2.mem ((c.tc : Thread Cert.AdamBDwRefIdeal.nD Cert.AdamBDwRefIdeal.τ).loc Cert.AdamBDwRefIdeal.main_arg2) = m' ((c.tc : Thread Cert.AdamBDwRefIdeal.nD Cert.AdamBDwRefIdeal.τ).loc Cert.AdamBDwRefIdeal.main_arg2)
          ∧ r.2.mem ((c.tc : Thread Cert.AdamBDwRefIdeal.nD Cert.AdamBDwRefIdeal.τ).loc Cert.AdamBDwRefIdeal.main_arg3) = m' ((c.tc : Thread Cert.AdamBDwRefIdeal.nD Cert.AdamBDwRefIdeal.τ).loc Cert.AdamBDwRefIdeal.main_arg3))

def preserves_LnSilu_LnSiluIdeal : Prop :=
  True

def algebraic_LnSiluIdeal_LnSiluRefIdeal [hLnSiluIdeal : Cert.LnSiluIdeal.Facts] [hLnSiluRefIdeal : Cert.LnSiluRefIdeal.Facts] : Prop :=
  ∀ (m : (ℓ : Loc Cert.LnSiluIdeal.nD Cert.LnSiluIdeal.τ Cert.LnSiluIdeal.sig) → Buf (Elt Ideal) ℓ) (g : Dev Cert.LnSiluIdeal.nD → PrngReg)
    (m' : (ℓ : Loc Cert.LnSiluRefIdeal.nD Cert.LnSiluRefIdeal.τ Cert.LnSiluRefIdeal.sig) → Buf (Elt Ideal) ℓ) (g' : Dev Cert.LnSiluRefIdeal.nD → PrngReg), Pre_LnSiluIdeal m →
    (∀ c : Dev Cert.LnSiluIdeal.nD,
      m' ((c.tc : Thread Cert.LnSiluRefIdeal.nD Cert.LnSiluRefIdeal.τ).loc Cert.LnSiluRefIdeal.main_arg0) = m ((c.tc : Thread Cert.LnSiluIdeal.nD Cert.LnSiluIdeal.τ).loc Cert.LnSiluIdeal.main_arg0)
      ∧ m' ((c.tc : Thread Cert.LnSiluRefIdeal.nD Cert.LnSiluRefIdeal.τ).loc Cert.LnSiluRefIdeal.main_arg1) = m ((c.tc : Thread Cert.LnSiluIdeal.nD Cert.LnSiluIdeal.τ).loc Cert.LnSiluIdeal.main_arg1)
      ∧ m' ((c.tc : Thread Cert.LnSiluRefIdeal.nD Cert.LnSiluRefIdeal.τ).loc Cert.LnSiluRefIdeal.main_arg2) = m ((c.tc : Thread Cert.LnSiluIdeal.nD Cert.LnSiluIdeal.τ).loc Cert.LnSiluIdeal.main_arg2)) →
    ∃ (v0 : (c : Dev Cert.LnSiluIdeal.nD) → Buf (Elt Ideal) ((c.tc : Thread Cert.LnSiluIdeal.nD Cert.LnSiluIdeal.τ).loc Cert.LnSiluIdeal.main_v0)),
      θ_run (Cert.LnSiluIdeal.defs (F := Ideal)) (onTc (τ := Cert.LnSiluIdeal.τ) (Cert.LnSiluIdeal.main (F := Ideal))) ⟨m, fun _ => 0, g⟩ (fun r => ∀ c : Dev Cert.LnSiluIdeal.nD,
          r.2.mem ((c.tc : Thread Cert.LnSiluIdeal.nD Cert.LnSiluIdeal.τ).loc Cert.LnSiluIdeal.main_v0) = v0 c
          ∧ r.2.mem ((c.tc : Thread Cert.LnSiluIdeal.nD Cert.LnSiluIdeal.τ).loc Cert.LnSiluIdeal.main_arg0) = m ((c.tc : Thread Cert.LnSiluIdeal.nD Cert.LnSiluIdeal.τ).loc Cert.LnSiluIdeal.main_arg0)
          ∧ r.2.mem ((c.tc : Thread Cert.LnSiluIdeal.nD Cert.LnSiluIdeal.τ).loc Cert.LnSiluIdeal.main_arg1) = m ((c.tc : Thread Cert.LnSiluIdeal.nD Cert.LnSiluIdeal.τ).loc Cert.LnSiluIdeal.main_arg1)
          ∧ r.2.mem ((c.tc : Thread Cert.LnSiluIdeal.nD Cert.LnSiluIdeal.τ).loc Cert.LnSiluIdeal.main_arg2) = m ((c.tc : Thread Cert.LnSiluIdeal.nD Cert.LnSiluIdeal.τ).loc Cert.LnSiluIdeal.main_arg2))
      ∧ θ_run (Cert.LnSiluRefIdeal.defs (F := Ideal)) (onTc (τ := Cert.LnSiluRefIdeal.τ) (Cert.LnSiluRefIdeal.main (F := Ideal))) ⟨m', fun _ => 0, g'⟩ (fun r => ∀ c : Dev Cert.LnSiluRefIdeal.nD,
          r.2.mem ((c.tc : Thread Cert.LnSiluRefIdeal.nD Cert.LnSiluRefIdeal.τ).loc Cert.LnSiluRefIdeal.main_v23) = v0 c
          ∧ r.2.mem ((c.tc : Thread Cert.LnSiluRefIdeal.nD Cert.LnSiluRefIdeal.τ).loc Cert.LnSiluRefIdeal.main_arg0) = m' ((c.tc : Thread Cert.LnSiluRefIdeal.nD Cert.LnSiluRefIdeal.τ).loc Cert.LnSiluRefIdeal.main_arg0)
          ∧ r.2.mem ((c.tc : Thread Cert.LnSiluRefIdeal.nD Cert.LnSiluRefIdeal.τ).loc Cert.LnSiluRefIdeal.main_arg1) = m' ((c.tc : Thread Cert.LnSiluRefIdeal.nD Cert.LnSiluRefIdeal.τ).loc Cert.LnSiluRefIdeal.main_arg1)
          ∧ r.2.mem ((c.tc : Thread Cert.LnSiluRefIdeal.nD Cert.LnSiluRefIdeal.τ).loc Cert.LnSiluRefIdeal.main_arg2) = m' ((c.tc : Thread Cert.LnSiluRefIdeal.nD Cert.LnSiluRefIdeal.τ).loc Cert.LnSiluRefIdeal.main_arg2))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)) →
    ∃ (v0 : (c : Dev Cert.MixNormIdeal.nD) → Buf (Elt Ideal) ((c.tc : Thread Cert.MixNormIdeal.nD Cert.MixNormIdeal.τ).loc Cert.MixNormIdeal.main_v0)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v0) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v18) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3))

def Claim : Prop :=
  ∃ (hKernel : Cert.Kernel.Facts) (hKernelIdeal : Cert.KernelIdeal.Facts) (hReferenceIdeal : Cert.ReferenceIdeal.Facts) (hFfnOutDx : Cert.FfnOutDx.Facts) (hFfnOutDxIdeal : Cert.FfnOutDxIdeal.Facts) (hFfnOutDxRefIdeal : Cert.FfnOutDxRefIdeal.Facts) (hFfnInDx : Cert.FfnInDx.Facts) (hFfnInDxIdeal : Cert.FfnInDxIdeal.Facts) (hFfnInDxRefIdeal : Cert.FfnInDxRefIdeal.Facts) (hFfnOutDw : Cert.FfnOutDw.Facts) (hFfnOutDwIdeal : Cert.FfnOutDwIdeal.Facts) (hFfnOutDwRefIdeal : Cert.FfnOutDwRefIdeal.Facts) (hFfnInDw : Cert.FfnInDw.Facts) (hFfnInDwIdeal : Cert.FfnInDwIdeal.Facts) (hFfnInDwRefIdeal : Cert.FfnInDwRefIdeal.Facts) (hProjDw : Cert.ProjDw.Facts) (hProjDwIdeal : Cert.ProjDwIdeal.Facts) (hProjDwRefIdeal : Cert.ProjDwRefIdeal.Facts) (hPw1Dw : Cert.Pw1Dw.Facts) (hPw1DwIdeal : Cert.Pw1DwIdeal.Facts) (hPw1DwRefIdeal : Cert.Pw1DwRefIdeal.Facts) (hQkvDw : Cert.QkvDw.Facts) (hQkvDwIdeal : Cert.QkvDwIdeal.Facts) (hQkvDwRefIdeal : Cert.QkvDwRefIdeal.Facts) (hQkvDx : Cert.QkvDx.Facts) (hQkvDxIdeal : Cert.QkvDxIdeal.Facts) (hQkvDxRefIdeal : Cert.QkvDxRefIdeal.Facts) (hMixOutDx : Cert.MixOutDx.Facts) (hMixOutDxIdeal : Cert.MixOutDxIdeal.Facts) (hMixOutDxRefIdeal : Cert.MixOutDxRefIdeal.Facts) (hPw1Dx : Cert.Pw1Dx.Facts) (hPw1DxIdeal : Cert.Pw1DxIdeal.Facts) (hPw1DxRefIdeal : Cert.Pw1DxRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hMixOut : Cert.MixOut.Facts) (hMixOutIdeal : Cert.MixOutIdeal.Facts) (hMixOutRefIdeal : Cert.MixOutRefIdeal.Facts) (hPw2 : Cert.Pw2.Facts) (hPw2Ideal : Cert.Pw2Ideal.Facts) (hPw2RefIdeal : Cert.Pw2RefIdeal.Facts) (hPw1 : Cert.Pw1.Facts) (hPw1Ideal : Cert.Pw1Ideal.Facts) (hPw1RefIdeal : Cert.Pw1RefIdeal.Facts) (hLossTail : Cert.LossTail.Facts) (hLossTailIdeal : Cert.LossTailIdeal.Facts) (hLossTailRefIdeal : Cert.LossTailRefIdeal.Facts) (hAdamCCtx : Cert.AdamCCtx.Facts) (hAdamCCtxIdeal : Cert.AdamCCtxIdeal.Facts) (hAdamCCtxRefIdeal : Cert.AdamCCtxRefIdeal.Facts) (hAdamWMod : Cert.AdamWMod.Facts) (hAdamWModIdeal : Cert.AdamWModIdeal.Facts) (hAdamWModRefIdeal : Cert.AdamWModRefIdeal.Facts) (hAdamBMod : Cert.AdamBMod.Facts) (hAdamBModIdeal : Cert.AdamBModIdeal.Facts) (hAdamBModRefIdeal : Cert.AdamBModRefIdeal.Facts) (hAdamGMix : Cert.AdamGMix.Facts) (hAdamGMixIdeal : Cert.AdamGMixIdeal.Facts) (hAdamGMixRefIdeal : Cert.AdamGMixRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamWIn : Cert.AdamWIn.Facts) (hAdamWInIdeal : Cert.AdamWInIdeal.Facts) (hAdamWInRefIdeal : Cert.AdamWInRefIdeal.Facts) (hAdamQGain : Cert.AdamQGain.Facts) (hAdamQGainIdeal : Cert.AdamQGainIdeal.Facts) (hAdamQGainRefIdeal : Cert.AdamQGainRefIdeal.Facts) (hAdamWSp : Cert.AdamWSp.Facts) (hAdamWSpIdeal : Cert.AdamWSpIdeal.Facts) (hAdamWSpRefIdeal : Cert.AdamWSpRefIdeal.Facts) (hAdamBSp : Cert.AdamBSp.Facts) (hAdamBSpIdeal : Cert.AdamBSpIdeal.Facts) (hAdamBSpRefIdeal : Cert.AdamBSpRefIdeal.Facts) (hAdamWOut : Cert.AdamWOut.Facts) (hAdamWOutIdeal : Cert.AdamWOutIdeal.Facts) (hAdamWOutRefIdeal : Cert.AdamWOutRefIdeal.Facts) (hAdamWPw1 : Cert.AdamWPw1.Facts) (hAdamWPw1Ideal : Cert.AdamWPw1Ideal.Facts) (hAdamWPw1RefIdeal : Cert.AdamWPw1RefIdeal.Facts) (hAdamBPw1 : Cert.AdamBPw1.Facts) (hAdamBPw1Ideal : Cert.AdamBPw1Ideal.Facts) (hAdamBPw1RefIdeal : Cert.AdamBPw1RefIdeal.Facts) (hAdamWDw : Cert.AdamWDw.Facts) (hAdamWDwIdeal : Cert.AdamWDwIdeal.Facts) (hAdamWDwRefIdeal : Cert.AdamWDwRefIdeal.Facts) (hAdamBDw : Cert.AdamBDw.Facts) (hAdamBDwIdeal : Cert.AdamBDwIdeal.Facts) (hAdamBDwRefIdeal : Cert.AdamBDwRefIdeal.Facts) (hLnSilu : Cert.LnSilu.Facts) (hLnSiluIdeal : Cert.LnSiluIdeal.Facts) (hLnSiluRefIdeal : Cert.LnSiluRefIdeal.Facts) (hMixNorm : Cert.MixNorm.Facts) (hMixNormIdeal : Cert.MixNormIdeal.Facts) (hMixNormRefIdeal : Cert.MixNormRefIdeal.Facts) (hPre_finite : Cert.Pre_finite.Facts) (hPre_ffn_out_dx_finite : Cert.Pre_ffn_out_dx_finite.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ quiescent_FfnOutDx (hFfnOutDx := hFfnOutDx)
    ∧ quiescent_FfnOutDxIdeal (hFfnOutDxIdeal := hFfnOutDxIdeal) (hPre_ffn_out_dx_finite := hPre_ffn_out_dx_finite)
    ∧ quiescent_FfnOutDxIdeal_pre_none (hFfnOutDxIdeal := hFfnOutDxIdeal)
    ∧ quiescent_FfnOutDxRefIdeal (hFfnOutDxRefIdeal := hFfnOutDxRefIdeal)
    ∧ quiescent_FfnOutDxRefIdeal_pre_ffn_out_dx_finite (hFfnOutDxRefIdeal := hFfnOutDxRefIdeal) (hPre_ffn_out_dx_finite := hPre_ffn_out_dx_finite)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Pw1Dw (hPw1Dw := hPw1Dw)
    ∧ quiescent_Pw1DwIdeal (hPw1DwIdeal := hPw1DwIdeal)
    ∧ quiescent_Pw1DwRefIdeal (hPw1DwRefIdeal := hPw1DwRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_Pw1Dx (hPw1Dx := hPw1Dx)
    ∧ quiescent_Pw1DxIdeal (hPw1DxIdeal := hPw1DxIdeal)
    ∧ quiescent_Pw1DxRefIdeal (hPw1DxRefIdeal := hPw1DxRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Pw2 (hPw2 := hPw2)
    ∧ quiescent_Pw2Ideal (hPw2Ideal := hPw2Ideal)
    ∧ quiescent_Pw2RefIdeal (hPw2RefIdeal := hPw2RefIdeal)
    ∧ quiescent_Pw1 (hPw1 := hPw1)
    ∧ quiescent_Pw1Ideal (hPw1Ideal := hPw1Ideal)
    ∧ quiescent_Pw1RefIdeal (hPw1RefIdeal := hPw1RefIdeal)
    ∧ quiescent_LossTail (hLossTail := hLossTail)
    ∧ quiescent_LossTailIdeal (hLossTailIdeal := hLossTailIdeal)
    ∧ quiescent_LossTailRefIdeal (hLossTailRefIdeal := hLossTailRefIdeal)
    ∧ quiescent_AdamCCtx (hAdamCCtx := hAdamCCtx)
    ∧ quiescent_AdamCCtxIdeal (hAdamCCtxIdeal := hAdamCCtxIdeal)
    ∧ quiescent_AdamCCtxRefIdeal (hAdamCCtxRefIdeal := hAdamCCtxRefIdeal)
    ∧ quiescent_AdamWMod (hAdamWMod := hAdamWMod)
    ∧ quiescent_AdamWModIdeal (hAdamWModIdeal := hAdamWModIdeal)
    ∧ quiescent_AdamWModRefIdeal (hAdamWModRefIdeal := hAdamWModRefIdeal)
    ∧ quiescent_AdamBMod (hAdamBMod := hAdamBMod)
    ∧ quiescent_AdamBModIdeal (hAdamBModIdeal := hAdamBModIdeal)
    ∧ quiescent_AdamBModRefIdeal (hAdamBModRefIdeal := hAdamBModRefIdeal)
    ∧ quiescent_AdamGMix (hAdamGMix := hAdamGMix)
    ∧ quiescent_AdamGMixIdeal (hAdamGMixIdeal := hAdamGMixIdeal)
    ∧ quiescent_AdamGMixRefIdeal (hAdamGMixRefIdeal := hAdamGMixRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamQGain (hAdamQGain := hAdamQGain)
    ∧ quiescent_AdamQGainIdeal (hAdamQGainIdeal := hAdamQGainIdeal)
    ∧ quiescent_AdamQGainRefIdeal (hAdamQGainRefIdeal := hAdamQGainRefIdeal)
    ∧ quiescent_AdamWSp (hAdamWSp := hAdamWSp)
    ∧ quiescent_AdamWSpIdeal (hAdamWSpIdeal := hAdamWSpIdeal)
    ∧ quiescent_AdamWSpRefIdeal (hAdamWSpRefIdeal := hAdamWSpRefIdeal)
    ∧ quiescent_AdamBSp (hAdamBSp := hAdamBSp)
    ∧ quiescent_AdamBSpIdeal (hAdamBSpIdeal := hAdamBSpIdeal)
    ∧ quiescent_AdamBSpRefIdeal (hAdamBSpRefIdeal := hAdamBSpRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWPw1 (hAdamWPw1 := hAdamWPw1)
    ∧ quiescent_AdamWPw1Ideal (hAdamWPw1Ideal := hAdamWPw1Ideal)
    ∧ quiescent_AdamWPw1RefIdeal (hAdamWPw1RefIdeal := hAdamWPw1RefIdeal)
    ∧ quiescent_AdamBPw1 (hAdamBPw1 := hAdamBPw1)
    ∧ quiescent_AdamBPw1Ideal (hAdamBPw1Ideal := hAdamBPw1Ideal)
    ∧ quiescent_AdamBPw1RefIdeal (hAdamBPw1RefIdeal := hAdamBPw1RefIdeal)
    ∧ quiescent_AdamWDw (hAdamWDw := hAdamWDw)
    ∧ quiescent_AdamWDwIdeal (hAdamWDwIdeal := hAdamWDwIdeal)
    ∧ quiescent_AdamWDwRefIdeal (hAdamWDwRefIdeal := hAdamWDwRefIdeal)
    ∧ quiescent_AdamBDw (hAdamBDw := hAdamBDw)
    ∧ quiescent_AdamBDwIdeal (hAdamBDwIdeal := hAdamBDwIdeal)
    ∧ quiescent_AdamBDwRefIdeal (hAdamBDwRefIdeal := hAdamBDwRefIdeal)
    ∧ quiescent_LnSilu (hLnSilu := hLnSilu)
    ∧ quiescent_LnSiluIdeal (hLnSiluIdeal := hLnSiluIdeal)
    ∧ quiescent_LnSiluRefIdeal (hLnSiluRefIdeal := hLnSiluRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ preserves_Kernel_KernelIdeal
    ∧ algebraic_KernelIdeal_ReferenceIdeal (hKernelIdeal := hKernelIdeal) (hReferenceIdeal := hReferenceIdeal) (hPre_finite := hPre_finite)
    ∧ preserves_FfnOutDx_FfnOutDxIdeal
    ∧ algebraic_FfnOutDxIdeal_FfnOutDxRefIdeal (hFfnOutDxIdeal := hFfnOutDxIdeal) (hFfnOutDxRefIdeal := hFfnOutDxRefIdeal) (hPre_ffn_out_dx_finite := hPre_ffn_out_dx_finite)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_ProjDw_ProjDwIdeal
    ∧ algebraic_ProjDwIdeal_ProjDwRefIdeal (hProjDwIdeal := hProjDwIdeal) (hProjDwRefIdeal := hProjDwRefIdeal)
    ∧ preserves_Pw1Dw_Pw1DwIdeal
    ∧ algebraic_Pw1DwIdeal_Pw1DwRefIdeal (hPw1DwIdeal := hPw1DwIdeal) (hPw1DwRefIdeal := hPw1DwRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_Pw1Dx_Pw1DxIdeal
    ∧ algebraic_Pw1DxIdeal_Pw1DxRefIdeal (hPw1DxIdeal := hPw1DxIdeal) (hPw1DxRefIdeal := hPw1DxRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixOut_MixOutIdeal
    ∧ algebraic_MixOutIdeal_MixOutRefIdeal (hMixOutIdeal := hMixOutIdeal) (hMixOutRefIdeal := hMixOutRefIdeal)
    ∧ preserves_Pw2_Pw2Ideal
    ∧ algebraic_Pw2Ideal_Pw2RefIdeal (hPw2Ideal := hPw2Ideal) (hPw2RefIdeal := hPw2RefIdeal)
    ∧ preserves_Pw1_Pw1Ideal
    ∧ algebraic_Pw1Ideal_Pw1RefIdeal (hPw1Ideal := hPw1Ideal) (hPw1RefIdeal := hPw1RefIdeal)
    ∧ preserves_LossTail_LossTailIdeal
    ∧ algebraic_LossTailIdeal_LossTailRefIdeal (hLossTailIdeal := hLossTailIdeal) (hLossTailRefIdeal := hLossTailRefIdeal)
    ∧ preserves_AdamCCtx_AdamCCtxIdeal
    ∧ algebraic_AdamCCtxIdeal_AdamCCtxRefIdeal (hAdamCCtxIdeal := hAdamCCtxIdeal) (hAdamCCtxRefIdeal := hAdamCCtxRefIdeal)
    ∧ preserves_AdamWMod_AdamWModIdeal
    ∧ algebraic_AdamWModIdeal_AdamWModRefIdeal (hAdamWModIdeal := hAdamWModIdeal) (hAdamWModRefIdeal := hAdamWModRefIdeal)
    ∧ preserves_AdamBMod_AdamBModIdeal
    ∧ algebraic_AdamBModIdeal_AdamBModRefIdeal (hAdamBModIdeal := hAdamBModIdeal) (hAdamBModRefIdeal := hAdamBModRefIdeal)
    ∧ preserves_AdamGMix_AdamGMixIdeal
    ∧ algebraic_AdamGMixIdeal_AdamGMixRefIdeal (hAdamGMixIdeal := hAdamGMixIdeal) (hAdamGMixRefIdeal := hAdamGMixRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamQGain_AdamQGainIdeal
    ∧ algebraic_AdamQGainIdeal_AdamQGainRefIdeal (hAdamQGainIdeal := hAdamQGainIdeal) (hAdamQGainRefIdeal := hAdamQGainRefIdeal)
    ∧ preserves_AdamWSp_AdamWSpIdeal
    ∧ algebraic_AdamWSpIdeal_AdamWSpRefIdeal (hAdamWSpIdeal := hAdamWSpIdeal) (hAdamWSpRefIdeal := hAdamWSpRefIdeal)
    ∧ preserves_AdamBSp_AdamBSpIdeal
    ∧ algebraic_AdamBSpIdeal_AdamBSpRefIdeal (hAdamBSpIdeal := hAdamBSpIdeal) (hAdamBSpRefIdeal := hAdamBSpRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWPw1_AdamWPw1Ideal
    ∧ algebraic_AdamWPw1Ideal_AdamWPw1RefIdeal (hAdamWPw1Ideal := hAdamWPw1Ideal) (hAdamWPw1RefIdeal := hAdamWPw1RefIdeal)
    ∧ preserves_AdamBPw1_AdamBPw1Ideal
    ∧ algebraic_AdamBPw1Ideal_AdamBPw1RefIdeal (hAdamBPw1Ideal := hAdamBPw1Ideal) (hAdamBPw1RefIdeal := hAdamBPw1RefIdeal)
    ∧ preserves_AdamWDw_AdamWDwIdeal
    ∧ algebraic_AdamWDwIdeal_AdamWDwRefIdeal (hAdamWDwIdeal := hAdamWDwIdeal) (hAdamWDwRefIdeal := hAdamWDwRefIdeal)
    ∧ preserves_AdamBDw_AdamBDwIdeal
    ∧ algebraic_AdamBDwIdeal_AdamBDwRefIdeal (hAdamBDwIdeal := hAdamBDwIdeal) (hAdamBDwRefIdeal := hAdamBDwRefIdeal)
    ∧ preserves_LnSilu_LnSiluIdeal
    ∧ algebraic_LnSiluIdeal_LnSiluRefIdeal (hLnSiluIdeal := hLnSiluIdeal) (hLnSiluRefIdeal := hLnSiluRefIdeal)
    ∧ preserves_MixNorm_MixNormIdeal
    ∧ algebraic_MixNormIdeal_MixNormRefIdeal (hMixNormIdeal := hMixNormIdeal) (hMixNormRefIdeal := hMixNormRefIdeal)
-- ==== Pre_ffn_out_dx_finite.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S2x4096x2816 : S_.BroadcastsInDim S2x4096x2816 (![] : Fin 0 → Fin S2x4096x2816.rank)

variable [Facts]

def fn {F : FTy → Type} [FloatOps F] (main_arg0 : FVec F S4096x1024 .bf16) (main_arg1 : FVec F S2816x1024 .bf16) (main_arg2 : FVec F S2x4096x2816 .bf16) : IVec S4096x1024 1 × IVec S2816x1024 1 × IVec S2x4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2x4096x2816 .f32 := (extf .f32 · bitsLt_bf16_f32) main_arg2
  let main_v9 : FVec F S2x4096x2816 .f32 := Host.absf main_v8
  let main_cst_1 : FVec F S_ .f32 := constant S_ .f32 0x7F800000#32
  let main_v10 : FVec F S2x4096x2816 .f32 := broadcastInDim S2x4096x2816 ![] bcast_S_S2x4096x2816 main_cst_1
  let main_v11 : IVec S2x4096x2816 1 := cmpf .olt main_v9 main_v10
  (main_v3, main_v7, main_v11)
-- ==== Pre_finite.lean ====
abbrev S4096x1024 : Shape := ⟨2, ![4096, 1024]⟩
abbrev S4x128x128 : Shape := ⟨3, ![4, 128, 128]⟩
abbrev S4x128 : Shape := ⟨2, ![4, 128]⟩
abbrev S_ : Shape := ⟨0, ![]⟩

class Facts : Prop where
  bcast_S_S4096x1024 : S_.BroadcastsInDim S4096x1024 (![] : Fin 0 → Fin S4096x1024.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S4096x1024 .f32) (main_arg1 : FVec F S4096x1024 .f32) (main_arg2 : FVec F S4x128x128 .f32) (main_arg3 : FVec F S4x128 .f32) : IVec S4096x1024 1 × IVec S4096x1024 1 × IVec S4x128x128 1 × IVec S4x128 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  (main_v2, main_v5, main_v8, main_v11)
-- ==== Kernel.lean ====
abbrev S4096x1024 : Shape := ⟨2, ![4096, 1024]⟩
abbrev S4x128x128 : Shape := ⟨3, ![4, 128, 128]⟩
abbrev S4x128 : Shape := ⟨2, ![4, 128]⟩
abbrev S128x4 : Shape := ⟨2, ![128, 4]⟩
abbrev S128x4x1 : Shape := ⟨3, ![128, 4, 1]⟩
abbrev S128x4x128 : Shape := ⟨3, ![128, 4, 128]⟩
abbrev S128x512 : Shape := ⟨2, ![128, 512]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x128x128, .f32⟩
  | .hbm, ⟨3, _⟩ => ⟨S4x128, .f32⟩
  | .hbm, ⟨4, _⟩ => ⟨S4x128x128, .bf16⟩
  | .hbm, ⟨5, _⟩ => ⟨S4x128x128, .bf16⟩
  | .hbm, ⟨6, _⟩ => ⟨S128x4, .f32⟩
  | .hbm, ⟨7, _⟩ => ⟨S128x4x1, .f32⟩
  | .hbm, ⟨8, _⟩ => ⟨S128x4x128, .f32⟩
  | .hbm, ⟨9, _⟩ => ⟨S128x512, .f32⟩
  | .hbm, ⟨10, _⟩ => ⟨S4096x1024, .bf16⟩
  | .hbm, ⟨11, _⟩ => ⟨S4x128x128, .f32⟩
  | .hbm, ⟨12, _⟩ => ⟨S128x512, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S4x128x128, .bf16⟩
  | .local _ .vmem, ⟨5, _⟩ => ⟨S4x128x128, .bf16⟩
  | .local _ .vmem, ⟨6, _⟩ => ⟨S128x512, .f32⟩
  | .local _ .vmem, ⟨7, _⟩ => ⟨S256x1024, .bf16⟩
  | .local _ .vmem, ⟨8, _⟩ => ⟨S256x1024, .bf16⟩
  | .local _ .vmem, ⟨9, _⟩ => ⟨S4x128x128, .f32⟩
  | .local _ .vmem, ⟨10, _⟩ => ⟨S128x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x1024 : Shape := ⟨2, ![4096, 1024]⟩
abbrev S4x128x128 : Shape := ⟨3, ![4, 128, 128]⟩
abbrev S4x128 : Shape := ⟨2, ![4, 128]⟩
abbrev S128x4 : Shape := ⟨2, ![128, 4]⟩
abbrev S128x4x1 : Shape := ⟨3, ![128, 4, 1]⟩
abbrev S128x4x128 : Shape := ⟨3, ![128, 4, 128]⟩
abbrev S4096x512 : Shape := ⟨2, ![4096, 512]⟩
abbrev S_ : Shape := ⟨0, ![]⟩
abbrev S32x128x4x128 : Shape := ⟨4, ![32, 128, 4, 128]⟩
abbrev S32x128x4 : Shape := ⟨3, ![32, 128, 4]⟩
abbrev S32x128x4x1 : Shape := ⟨4, ![32, 128, 4, 1]⟩
abbrev S4x32x128x128 : Shape := ⟨4, ![4, 32, 128, 128]⟩
abbrev S1x128x4x128 : Shape := ⟨4, ![1, 128, 4, 128]⟩
abbrev S128x512 : Shape := ⟨2, ![128, 512]⟩

abbrev nBuf : Space → Nat
  | .hbm => 185
  | .vmem => 0
  | .smem => 0
  | _ => 0

abbrev hbmTy0_0 (i : Nat) : BufTy := match i % 128 with
  | 0 => ⟨S4096x1024, .f32⟩
  | 1 => ⟨S4096x1024, .f32⟩
  | 2 => ⟨S4x128x128, .f32⟩
  | 3 => ⟨S4x128, .f32⟩
  | 4 => ⟨S128x4, .f32⟩
  | 5 => ⟨S128x4x1, .f32⟩
  | 6 => ⟨S128x4x128, .f32⟩
  | 7 => ⟨S4096x512, .f32⟩
  | 8 => ⟨S4096x512, .f32⟩
  | 9 => ⟨S_, .f32⟩
  | 10 => ⟨S_, .f32⟩
  | 11 => ⟨S_, .f32⟩
  | 12 => ⟨S4096x512, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S_, .f32⟩
  | 40 => ⟨S_, .f32⟩
  | 41 => ⟨S_, .f32⟩
  | 42 => ⟨S4096x512, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S32x128x4x128, .f32⟩
  | 70 => ⟨S_, .f32⟩
  | 71 => ⟨S32x128x4, .f32⟩
  | 72 => ⟨S32x128x4x1, .f32⟩
  | 73 => ⟨S_, .f32⟩
  | 74 => ⟨S32x128x4x1, .f32⟩
  | 75 => ⟨S32x128x4x1, .f32⟩
  | 76 => ⟨S32x128x4x128, .f32⟩
  | 77 => ⟨S32x128x4x128, .f32⟩
  | 78 => ⟨S32x128x4x128, .f32⟩
  | 79 => ⟨S_, .f32⟩
  | 80 => ⟨S32x128x4x128, .f32⟩
  | 81 => ⟨S32x128x4x128, .f32⟩
  | 82 => ⟨S_, .f32⟩
  | 83 => ⟨S32x128x4, .f32⟩
  | 84 => ⟨S32x128x4x1, .f32⟩
  | 85 => ⟨S_, .f32⟩
  | 86 => ⟨S32x128x4x1, .f32⟩
  | 87 => ⟨S32x128x4x1, .f32⟩
  | 88 => ⟨S32x128x4x128, .f32⟩
  | 89 => ⟨S32x128x4x128, .f32⟩
  | 90 => ⟨S_, .f32⟩
  | 91 => ⟨S32x128x4x1, .f32⟩
  | 92 => ⟨S32x128x4x1, .f32⟩
  | 93 => ⟨S32x128x4x1, .f32⟩
  | 94 => ⟨S32x128x4x1, .f32⟩
  | 95 => ⟨S_, .f32⟩
  | 96 => ⟨S32x128x4x1, .f32⟩
  | 97 => ⟨S32x128x4x1, .f32⟩
  | 98 => ⟨S32x128x4x128, .f32⟩
  | 99 => ⟨S32x128x4x128, .f32⟩
  | 100 => ⟨S4x32x128x128, .f32⟩
  | 101 => ⟨S32x128x4x128, .f32⟩
  | 102 => ⟨S1x128x4x128, .f32⟩
  | 103 => ⟨S32x128x4x128, .f32⟩
  | 104 => ⟨S32x128x4x128, .f32⟩
  | 105 => ⟨S32x128x4x128, .f32⟩
  | 106 => ⟨S32x128x4x128, .f32⟩
  | 107 => ⟨S4096x512, .f32⟩
  | 108 => ⟨S4096x512, .f32⟩
  | 109 => ⟨S32x128x4x128, .f32⟩
  | 110 => ⟨S32x128x4x128, .f32⟩
  | 111 => ⟨S32x128x4x128, .f32⟩
  | 112 => ⟨S4096x512, .f32⟩
  | 113 => ⟨S_, .f32⟩
  | 114 => ⟨S128x4x128, .f32⟩
  | 115 => ⟨S1x128x4x128, .f32⟩
  | 116 => ⟨S_, .f32⟩
  | 117 => ⟨S128x4x128, .f32⟩
  | 118 => ⟨S4x32x128x128, .f32⟩
  | 119 => ⟨S4x128x128, .f32⟩
  | 120 => ⟨S4x32x128x128, .f32⟩
  | 121 => ⟨S32x128x4x128, .f32⟩
  | 122 => ⟨S32x128x4x128, .f32⟩
  | 123 => ⟨S_, .f32⟩
  | 124 => ⟨S32x128x4, .f32⟩
  | 125 => ⟨S32x128x4x1, .f32⟩
  | 126 => ⟨S32x128x4x128, .f32⟩
  | 127 => ⟨S32x128x4x128, .f32⟩
  | _ => ⟨S4096x1024, .f32⟩

abbrev hbmTy0_1 (i : Nat) : BufTy := match i % 128 with
  | 0 => ⟨S32x128x4x1, .f32⟩
  | 1 => ⟨S32x128x4x128, .f32⟩
  | 2 => ⟨S_, .f32⟩
  | 3 => ⟨S32x128x4, .f32⟩
  | 4 => ⟨S32x128x4x1, .f32⟩
  | 5 => ⟨S_, .f32⟩
  | 6 => ⟨S32x128x4x1, .f32⟩
  | 7 => ⟨S32x128x4x1, .f32⟩
  | 8 => ⟨S_, .f32⟩
  | 9 => ⟨S32x128x4, .f32⟩
  | 10 => ⟨S32x128x4x128, .f32⟩
  | 11 => ⟨S32x128x4x128, .f32⟩
  | 12 => ⟨S32x128x4x128, .f32⟩
  | 13 => ⟨S_, .f32⟩
  | 14 => ⟨S32x128x4, .f32⟩
  | 15 => ⟨S32x128x4x1, .f32⟩
  | 16 => ⟨S32x128x4x128, .f32⟩
  | 17 => ⟨S32x128x4x1, .f32⟩
  | 18 => ⟨S_, .f32⟩
  | 19 => ⟨S32x128x4x1, .f32⟩
  | 20 => ⟨S32x128x4x1, .f32⟩
  | 21 => ⟨S_, .f32⟩
  | 22 => ⟨S32x128x4, .f32⟩
  | 23 => ⟨S32x128x4x128, .f32⟩
  | 24 => ⟨S32x128x4x128, .f32⟩
  | 25 => ⟨S4096x512, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x1024, .f32⟩
  | 55 => ⟨S4096x1024, .bf16⟩
  | 56 => ⟨S128x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_v51 : Ref sig .tc := ⟨.hbm, 72, rfl⟩
abbrev main_cst_16 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_cst_19 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_20 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_21 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_22 : Ref sig .tc := ⟨.hbm, 113, rfl⟩
abbrev main_v86 : Ref sig .tc := ⟨.hbm, 114, rfl⟩
abbrev main_v87 : Ref sig .tc := ⟨.hbm, 115, rfl⟩
abbrev main_cst_23 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_24 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_25 : Ref sig .tc := ⟨.hbm, 130, rfl⟩
abbrev main_v100 : Ref sig .tc := ⟨.hbm, 131, rfl⟩
abbrev main_v101 : Ref sig .tc := ⟨.hbm, 132, rfl⟩
abbrev main_cst_26 : Ref sig .tc := ⟨.hbm, 133, rfl⟩
abbrev main_v102 : Ref sig .tc := ⟨.hbm, 134, rfl⟩
abbrev main_v103 : Ref sig .tc := ⟨.hbm, 135, rfl⟩
abbrev main_cst_27 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_28 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_29 : Ref sig .tc := ⟨.hbm, 146, rfl⟩
abbrev main_v112 : Ref sig .tc := ⟨.hbm, 147, rfl⟩
abbrev main_v113 : Ref sig .tc := ⟨.hbm, 148, rfl⟩
abbrev main_cst_30 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_31 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_32 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_33 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_34 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩

abbrev nD : Nat := 1
abbrev τ : Topo := Topo.v7x

variable {F : FTy → Type} [FloatOps F]
-- ==== FfnOutDx.lean ====
abbrev S4096x1024 : Shape := ⟨2, ![4096, 1024]⟩
abbrev S2816x1024 : Shape := ⟨2, ![2816, 1024]⟩
abbrev S2x4096x2816 : Shape := ⟨3, ![2, 4096, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutDxRefIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S4096x1024, .f32⟩
  | .hbm, ⟨4, _⟩ => ⟨S2816x1024, .f32⟩
  | .hbm, ⟨5, _⟩ => ⟨S2x4096x2816, .f32⟩
  | .hbm, ⟨6, _⟩ => ⟨S1x4096x2816, .f32⟩
  | .hbm, ⟨7, _⟩ => ⟨S4096x2816, .f32⟩
  | .hbm, ⟨8, _⟩ => ⟨S1x4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== FfnInDx.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S2x512x2816 : Shape := ⟨3, ![2, 512, 2816]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 18
  | .vmem => 21
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnInDxRefIdeal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1x4096x2816 : Shape := ⟨3, ![1, 4096, 2816]⟩
abbrev S4096x2816 : Shape := ⟨2, ![4096, 2816]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x1024x1408, .f32⟩
  | .hbm, ⟨9, _⟩ => ⟨S1024x4x1408, .f32⟩
  | .hbm, ⟨10, _⟩ => ⟨S1024x5632, .f32⟩
  | .hbm, ⟨11, _⟩ => ⟨S2x4096x2816, .f32⟩
  | .hbm, ⟨12, _⟩ => ⟨S_, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x5632, .f32⟩
  | .hbm, ⟨46, _⟩ => ⟨S1x4096x2816, .f32⟩
  | .hbm, ⟨47, _⟩ => ⟨S4096x2816, .f32⟩
  | .hbm, ⟨48, _⟩ => ⟨S1x4096x2816, .f32⟩
  | .hbm, ⟨49, _⟩ => ⟨S4096x2816, .f32⟩
  | .hbm, ⟨50, _⟩ => ⟨S4096x5632, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== FfnOutDw.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnOutDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDw.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnInDwRefIdeal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S2x4096x2816, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S4096x2816, .f32⟩
  | .hbm, ⟨11, _⟩ => ⟨S1x4096x2816, .f32⟩
  | .hbm, ⟨12, _⟩ => ⟨S4096x2816, .f32⟩
  | .hbm, ⟨13, _⟩ => ⟨S4096x5632, .f32⟩
  | .hbm, ⟨14, _⟩ => ⟨S5632x1024, .f32⟩
  | .hbm, ⟨15, _⟩ => ⟨S1024x5632, .f32⟩
  | .hbm, ⟨16, _⟩ => ⟨S1024x4x1408, .f32⟩
  | .hbm, ⟨17, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== ProjDw.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ProjDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Pw1Dw.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Pw1DwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvDw.lean ====
abbrev S4352x1024 : Shape := ⟨2, ![4352, 1024]⟩
abbrev S4352x768 : Shape := ⟨2, ![4352, 768]⟩
abbrev S1024x768 : Shape := ⟨2, ![1024, 768]⟩
abbrev S1088x1024 : Shape := ⟨2, ![1088, 1024]⟩
abbrev S1088x768 : Shape := ⟨2, ![1088, 768]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x768, .bf16⟩
  | .hbm, ⟨2, _⟩ => ⟨S1024x768, .f32⟩
  | .local _ .vmem, ⟨0, _⟩ => ⟨S1088x1024, .bf16⟩
  | .local _ .vmem, ⟨1, _⟩ => ⟨S1088x1024, .bf16⟩
  | .local _ .vmem, ⟨2, _⟩ => ⟨S1088x768, .bf16⟩
  | .local _ .vmem, ⟨3, _⟩ => ⟨S1088x768, .bf16⟩
  | .local _ .vmem, ⟨4, _⟩ => ⟨S1024x768, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== QkvDwRefIdeal.lean ====
abbrev S4352x1024 : Shape := ⟨2, ![4352, 1024]⟩
abbrev S4352x768 : Shape := ⟨2, ![4352, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x768, .bf16⟩
  | .hbm, ⟨2, _⟩ => ⟨S4352x1024, .f32⟩
  | .hbm, ⟨3, _⟩ => ⟨S4352x768, .f32⟩
  | .hbm, ⟨4, _⟩ => ⟨S_, .f32⟩
  | .hbm, ⟨5, _⟩ => ⟨S1024x768, .f32⟩
  | .hbm, ⟨6, _⟩ => ⟨S4352x768, .f32⟩
  | .hbm, ⟨7, _⟩ => ⟨S768x1024, .f32⟩
  | .hbm, ⟨8, _⟩ => ⟨S1024x768, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvDx.lean ====
abbrev S4352x768 : Shape := ⟨2, ![4352, 768]⟩
abbrev S1024x768 : Shape := ⟨2, ![1024, 768]⟩
abbrev S4352x1024 : Shape := ⟨2, ![4352, 1024]⟩
abbrev S1088x768 : Shape := ⟨2, ![1088, 768]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x768, .bf16⟩
  | .hbm, ⟨1, _⟩ => ⟨S1024x768, .bf16⟩
  | .hbm, ⟨2, _⟩ => ⟨S4352x1024, .f32⟩
  | .local _ .vmem, ⟨0, _⟩ => ⟨S1088x768, .bf16⟩
  | .local _ .vmem, ⟨1, _⟩ => ⟨S1088x768, .bf16⟩
  | .local _ .vmem, ⟨2, _⟩ => ⟨S1024x768, .bf16⟩
  | .local _ .vmem, ⟨3, _⟩ => ⟨S1088x1024, .f32⟩
  | .local _ .vmem, ⟨4, _⟩ => ⟨S1088x1024, .f32⟩
  | _, _ => ⟨S4352x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkvDxRefIdeal.lean ====
abbrev S4352x768 : Shape := ⟨2, ![4352, 768]⟩
abbrev S1024x768 : Shape := ⟨2, ![1024, 768]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x768, .bf16⟩
  | .hbm, ⟨1, _⟩ => ⟨S1024x768, .bf16⟩
  | .hbm, ⟨2, _⟩ => ⟨S4352x768, .f32⟩
  | .hbm, ⟨3, _⟩ => ⟨S1024x768, .f32⟩
  | .hbm, ⟨4, _⟩ => ⟨S_, .f32⟩
  | .hbm, ⟨5, _⟩ => ⟨S4352x1024, .f32⟩
  | .hbm, ⟨6, _⟩ => ⟨S4352x768, .f32⟩
  | .hbm, ⟨7, _⟩ => ⟨S4352x1024, .f32⟩
  | _, _ => ⟨S4352x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixOutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Pw1Dx.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Pw1DxRefIdeal.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x2048, .f32⟩
  | .hbm, ⟨9, _⟩ => ⟨S1024x2048, .f32⟩
  | .hbm, ⟨10, _⟩ => ⟨S_, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x2048, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== FfnIn.lean ====
abbrev S4096x1024 : Shape := ⟨2, ![4096, 1024]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S2x4096x2816, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInRefIdeal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x2816, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Pw2.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Pw2RefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Pw1.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x2048, .f32⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Pw1RefIdeal.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LossTail.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossTailRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== AdamCCtx.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCCtxRefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWMod.lean ====
abbrev S2x1024x1536 : Shape := ⟨3, ![2, 1024, 1536]⟩
abbrev S2048x1536 : Shape := ⟨2, ![2048, 1536]⟩
abbrev S128x1536 : Shape := ⟨2, ![128, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWModRefIdeal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBMod.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBModRefIdeal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGMix.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGMixRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnIn.lean ====
abbrev S2x1024x1408 : Shape := ⟨3, ![2, 1024, 1408]⟩
abbrev S2048x1408 : Shape := ⟨2, ![2048, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInRefIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnOut.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWIn.lean ====
abbrev S1x1024x448 : Shape := ⟨3, ![1, 1024, 448]⟩
abbrev S1024x448 : Shape := ⟨2, ![1024, 448]⟩

abbrev nBuf : Space → Nat
  | .hbm => 11
  | .vmem => 7
  | .smem => 0
  | _ => 0

abbrev bufTy : (tb : Table) → Fin (tcTables nBuf tb) → BufTy
  | .hbm, ⟨0, _⟩ => ⟨S1x1024x448, .f32⟩
  | .hbm, ⟨1, _⟩ => ⟨S1x1024x448, .f32⟩
  | .hbm, ⟨2, _⟩ => ⟨S1x1024x448, .f32⟩
  | .hbm, ⟨3, _⟩ => ⟨S1x1024x448, .f32⟩
  | .hbm, ⟨4, _⟩ => ⟨S1024x448, .f32⟩
  | .hbm, ⟨5, _⟩ => ⟨S1024x448, .f32⟩
  | .hbm, ⟨6, _⟩ => ⟨S1024x448, .f32⟩
  | .hbm, ⟨7, _⟩ => ⟨S1024x448, .f32⟩
  | .hbm, ⟨8, _⟩ => ⟨S1024x448, .f32⟩
  | .hbm, ⟨9, _⟩ => ⟨S1024x448, .f32⟩
  | .hbm, ⟨10, _⟩ => ⟨S1024x448, .f32⟩
  | .local _ .vmem, ⟨0, _⟩ => ⟨S1024x448, .f32⟩
  | .local _ .vmem, ⟨1, _⟩ => ⟨S1024x448, .f32⟩
  | .local _ .vmem, ⟨2, _⟩ => ⟨S1024x448, .f32⟩
  | .local _ .vmem, ⟨3, _⟩ => ⟨S1024x448, .f32⟩
  | .local _ .vmem, ⟨4, _⟩ => ⟨S1024x448, .f32⟩
  | .local _ .vmem, ⟨5, _⟩ => ⟨S1024x448, .f32⟩
  | .local _ .vmem, ⟨6, _⟩ => ⟨S1024x448, .f32⟩
  | _, _ => ⟨S1x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x448 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x448 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x448 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWInRefIdeal.lean ====
abbrev S1x1024x448 : Shape := ⟨3, ![1, 1024, 448]⟩
abbrev S_ : Shape := ⟨0, ![]⟩
abbrev S1024x448 : Shape := ⟨2, ![1024, 448]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x448, .f32⟩
  | .hbm, ⟨1, _⟩ => ⟨S1x1024x448, .f32⟩
  | .hbm, ⟨2, _⟩ => ⟨S1x1024x448, .f32⟩
  | .hbm, ⟨3, _⟩ => ⟨S1x1024x448, .f32⟩
  | .hbm, ⟨4, _⟩ => ⟨S_, .f32⟩
  | .hbm, ⟨5, _⟩ => ⟨S1x1024x448, .f32⟩
  | .hbm, ⟨6, _⟩ => ⟨S1x1024x448, .f32⟩
  | .hbm, ⟨7, _⟩ => ⟨S_, .f32⟩
  | .hbm, ⟨8, _⟩ => ⟨S1x1024x448, .f32⟩
  | .hbm, ⟨9, _⟩ => ⟨S1x1024x448, .f32⟩
  | .hbm, ⟨10, _⟩ => ⟨S1x1024x448, .f32⟩
  | .hbm, ⟨11, _⟩ => ⟨S_, .f32⟩
  | .hbm, ⟨12, _⟩ => ⟨S1x1024x448, .f32⟩
  | .hbm, ⟨13, _⟩ => ⟨S1x1024x448, .f32⟩
  | .hbm, ⟨14, _⟩ => ⟨S1x1024x448, .f32⟩
  | .hbm, ⟨15, _⟩ => ⟨S_, .f32⟩
  | .hbm, ⟨16, _⟩ => ⟨S1x1024x448, .f32⟩
  | .hbm, ⟨17, _⟩ => ⟨S1x1024x448, .f32⟩
  | .hbm, ⟨18, _⟩ => ⟨S1x1024x448, .f32⟩
  | .hbm, ⟨19, _⟩ => ⟨S_, .f32⟩
  | .hbm, ⟨20, _⟩ => ⟨S1x1024x448, .f32⟩
  | .hbm, ⟨21, _⟩ => ⟨S1x1024x448, .f32⟩
  | .hbm, ⟨22, _⟩ => ⟨S_, .f32⟩
  | .hbm, ⟨23, _⟩ => ⟨S1x1024x448, .f32⟩
  | .hbm, ⟨24, _⟩ => ⟨S1x1024x448, .f32⟩
  | .hbm, ⟨25, _⟩ => ⟨S1x1024x448, .f32⟩
  | .hbm, ⟨26, _⟩ => ⟨S_, .f32⟩
  | .hbm, ⟨27, _⟩ => ⟨S1x1024x448, .f32⟩
  | .hbm, ⟨28, _⟩ => ⟨S1x1024x448, .f32⟩
  | .hbm, ⟨29, _⟩ => ⟨S1x1024x448, .f32⟩
  | .hbm, ⟨30, _⟩ => ⟨S_, .f32⟩
  | .hbm, ⟨31, _⟩ => ⟨S1x1024x448, .f32⟩
  | .hbm, ⟨32, _⟩ => ⟨S1x1024x448, .f32⟩
  | .hbm, ⟨33, _⟩ => ⟨S1x1024x448, .f32⟩
  | .hbm, ⟨34, _⟩ => ⟨S_, .f32⟩
  | .hbm, ⟨35, _⟩ => ⟨S1x1024x448, .f32⟩
  | .hbm, ⟨36, _⟩ => ⟨S1x1024x448, .f32⟩
  | .hbm, ⟨37, _⟩ => ⟨S1024x448, .f32⟩
  | .hbm, ⟨38, _⟩ => ⟨S1024x448, .f32⟩
  | .hbm, ⟨39, _⟩ => ⟨S1024x448, .f32⟩
  | _, _ => ⟨S1x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamQGain.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQGainRefIdeal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWSp.lean ====
abbrev S1x4x128x128 : Shape := ⟨4, ![1, 4, 128, 128]⟩
abbrev S512x128 : Shape := ⟨2, ![512, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWSpRefIdeal.lean ====
abbrev S1x4x128x128 : Shape := ⟨4, ![1, 4, 128, 128]⟩
abbrev S_ : Shape := ⟨0, ![]⟩
abbrev S512x128 : Shape := ⟨2, ![512, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S_, .f32⟩
  | .hbm, ⟨5, _⟩ => ⟨S1x4x128x128, .f32⟩
  | .hbm, ⟨6, _⟩ => ⟨S1x4x128x128, .f32⟩
  | .hbm, ⟨7, _⟩ => ⟨S_, .f32⟩
  | .hbm, ⟨8, _⟩ => ⟨S1x4x128x128, .f32⟩
  | .hbm, ⟨9, _⟩ => ⟨S1x4x128x128, .f32⟩
  | .hbm, ⟨10, _⟩ => ⟨S1x4x128x128, .f32⟩
  | .hbm, ⟨11, _⟩ => ⟨S_, .f32⟩
  | .hbm, ⟨12, _⟩ => ⟨S1x4x128x128, .f32⟩
  | .hbm, ⟨13, _⟩ => ⟨S1x4x128x128, .f32⟩
  | .hbm, ⟨14, _⟩ => ⟨S1x4x128x128, .f32⟩
  | .hbm, ⟨15, _⟩ => ⟨S_, .f32⟩
  | .hbm, ⟨16, _⟩ => ⟨S1x4x128x128, .f32⟩
  | .hbm, ⟨17, _⟩ => ⟨S1x4x128x128, .f32⟩
  | .hbm, ⟨18, _⟩ => ⟨S1x4x128x128, .f32⟩
  | .hbm, ⟨19, _⟩ => ⟨S_, .f32⟩
  | .hbm, ⟨20, _⟩ => ⟨S1x4x128x128, .f32⟩
  | .hbm, ⟨21, _⟩ => ⟨S1x4x128x128, .f32⟩
  | .hbm, ⟨22, _⟩ => ⟨S_, .f32⟩
  | .hbm, ⟨23, _⟩ => ⟨S1x4x128x128, .f32⟩
  | .hbm, ⟨24, _⟩ => ⟨S1x4x128x128, .f32⟩
  | .hbm, ⟨25, _⟩ => ⟨S1x4x128x128, .f32⟩
  | .hbm, ⟨26, _⟩ => ⟨S_, .f32⟩
  | .hbm, ⟨27, _⟩ => ⟨S1x4x128x128, .f32⟩
  | .hbm, ⟨28, _⟩ => ⟨S1x4x128x128, .f32⟩
  | .hbm, ⟨29, _⟩ => ⟨S1x4x128x128, .f32⟩
  | .hbm, ⟨30, _⟩ => ⟨S_, .f32⟩
  | .hbm, ⟨31, _⟩ => ⟨S1x4x128x128, .f32⟩
  | .hbm, ⟨32, _⟩ => ⟨S1x4x128x128, .f32⟩
  | .hbm, ⟨33, _⟩ => ⟨S1x4x128x128, .f32⟩
  | .hbm, ⟨34, _⟩ => ⟨S_, .f32⟩
  | .hbm, ⟨35, _⟩ => ⟨S1x4x128x128, .f32⟩
  | .hbm, ⟨36, _⟩ => ⟨S1x4x128x128, .f32⟩
  | .hbm, ⟨37, _⟩ => ⟨S512x128, .f32⟩
  | .hbm, ⟨38, _⟩ => ⟨S512x128, .f32⟩
  | .hbm, ⟨39, _⟩ => ⟨S512x128, .f32⟩
  | _, _ => ⟨S1x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBSp.lean ====
abbrev S1x4x128 : Shape := ⟨3, ![1, 4, 128]⟩
abbrev S4x128 : Shape := ⟨2, ![4, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBSpRefIdeal.lean ====
abbrev S1x4x128 : Shape := ⟨3, ![1, 4, 128]⟩
abbrev S_ : Shape := ⟨0, ![]⟩
abbrev S4x128 : Shape := ⟨2, ![4, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S_, .f32⟩
  | .hbm, ⟨5, _⟩ => ⟨S1x4x128, .f32⟩
  | .hbm, ⟨6, _⟩ => ⟨S1x4x128, .f32⟩
  | .hbm, ⟨7, _⟩ => ⟨S_, .f32⟩
  | .hbm, ⟨8, _⟩ => ⟨S1x4x128, .f32⟩
  | .hbm, ⟨9, _⟩ => ⟨S1x4x128, .f32⟩
  | .hbm, ⟨10, _⟩ => ⟨S1x4x128, .f32⟩
  | .hbm, ⟨11, _⟩ => ⟨S_, .f32⟩
  | .hbm, ⟨12, _⟩ => ⟨S1x4x128, .f32⟩
  | .hbm, ⟨13, _⟩ => ⟨S1x4x128, .f32⟩
  | .hbm, ⟨14, _⟩ => ⟨S1x4x128, .f32⟩
  | .hbm, ⟨15, _⟩ => ⟨S_, .f32⟩
  | .hbm, ⟨16, _⟩ => ⟨S1x4x128, .f32⟩
  | .hbm, ⟨17, _⟩ => ⟨S1x4x128, .f32⟩
  | .hbm, ⟨18, _⟩ => ⟨S1x4x128, .f32⟩
  | .hbm, ⟨19, _⟩ => ⟨S_, .f32⟩
  | .hbm, ⟨20, _⟩ => ⟨S1x4x128, .f32⟩
  | .hbm, ⟨21, _⟩ => ⟨S1x4x128, .f32⟩
  | .hbm, ⟨22, _⟩ => ⟨S_, .f32⟩
  | .hbm, ⟨23, _⟩ => ⟨S1x4x128, .f32⟩
  | .hbm, ⟨24, _⟩ => ⟨S1x4x128, .f32⟩
  | .hbm, ⟨25, _⟩ => ⟨S1x4x128, .f32⟩
  | .hbm, ⟨26, _⟩ => ⟨S_, .f32⟩
  | .hbm, ⟨27, _⟩ => ⟨S1x4x128, .f32⟩
  | .hbm, ⟨28, _⟩ => ⟨S1x4x128, .f32⟩
  | .hbm, ⟨29, _⟩ => ⟨S1x4x128, .f32⟩
  | .hbm, ⟨30, _⟩ => ⟨S_, .f32⟩
  | .hbm, ⟨31, _⟩ => ⟨S1x4x128, .f32⟩
  | .hbm, ⟨32, _⟩ => ⟨S1x4x128, .f32⟩
  | .hbm, ⟨33, _⟩ => ⟨S1x4x128, .f32⟩
  | .hbm, ⟨34, _⟩ => ⟨S_, .f32⟩
  | .hbm, ⟨35, _⟩ => ⟨S1x4x128, .f32⟩
  | .hbm, ⟨36, _⟩ => ⟨S1x4x128, .f32⟩
  | .hbm, ⟨37, _⟩ => ⟨S4x128, .f32⟩
  | .hbm, ⟨38, _⟩ => ⟨S4x128, .f32⟩
  | .hbm, ⟨39, _⟩ => ⟨S4x128, .f32⟩
  | _, _ => ⟨S1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWOut.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWOutRefIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWPw1.lean ====
abbrev S1x1024x512 : Shape := ⟨3, ![1, 1024, 512]⟩
abbrev S1024x512 : Shape := ⟨2, ![1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWPw1RefIdeal.lean ====
abbrev S1x1024x512 : Shape := ⟨3, ![1, 1024, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBPw1.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBPw1RefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWDw.lean ====
abbrev S1x31x256 : Shape := ⟨3, ![1, 31, 256]⟩
abbrev S31x256 : Shape := ⟨2, ![31, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S31x256, .f32⟩
  | .hbm, ⟨5, _⟩ => ⟨S31x256, .f32⟩
  | .hbm, ⟨6, _⟩ => ⟨S31x256, .f32⟩
  | .hbm, ⟨7, _⟩ => ⟨S31x256, .f32⟩
  | .hbm, ⟨8, _⟩ => ⟨S31x256, .f32⟩
  | .hbm, ⟨9, _⟩ => ⟨S31x256, .f32⟩
  | .hbm, ⟨10, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWDwRefIdeal.lean ====
abbrev S1x31x256 : Shape := ⟨3, ![1, 31, 256]⟩
abbrev S_ : Shape := ⟨0, ![]⟩
abbrev S31x256 : Shape := ⟨2, ![31, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S_, .f32⟩
  | .hbm, ⟨5, _⟩ => ⟨S1x31x256, .f32⟩
  | .hbm, ⟨6, _⟩ => ⟨S1x31x256, .f32⟩
  | .hbm, ⟨7, _⟩ => ⟨S_, .f32⟩
  | .hbm, ⟨8, _⟩ => ⟨S1x31x256, .f32⟩
  | .hbm, ⟨9, _⟩ => ⟨S1x31x256, .f32⟩
  | .hbm, ⟨10, _⟩ => ⟨S1x31x256, .f32⟩
  | .hbm, ⟨11, _⟩ => ⟨S_, .f32⟩
  | .hbm, ⟨12, _⟩ => ⟨S1x31x256, .f32⟩
  | .hbm, ⟨13, _⟩ => ⟨S1x31x256, .f32⟩
  | .hbm, ⟨14, _⟩ => ⟨S1x31x256, .f32⟩
  | .hbm, ⟨15, _⟩ => ⟨S_, .f32⟩
  | .hbm, ⟨16, _⟩ => ⟨S1x31x256, .f32⟩
  | .hbm, ⟨17, _⟩ => ⟨S1x31x256, .f32⟩
  | .hbm, ⟨18, _⟩ => ⟨S1x31x256, .f32⟩
  | .hbm, ⟨19, _⟩ => ⟨S_, .f32⟩
  | .hbm, ⟨20, _⟩ => ⟨S1x31x256, .f32⟩
  | .hbm, ⟨21, _⟩ => ⟨S1x31x256, .f32⟩
  | .hbm, ⟨22, _⟩ => ⟨S_, .f32⟩
  | .hbm, ⟨23, _⟩ => ⟨S1x31x256, .f32⟩
  | .hbm, ⟨24, _⟩ => ⟨S1x31x256, .f32⟩
  | .hbm, ⟨25, _⟩ => ⟨S1x31x256, .f32⟩
  | .hbm, ⟨26, _⟩ => ⟨S_, .f32⟩
  | .hbm, ⟨27, _⟩ => ⟨S1x31x256, .f32⟩
  | .hbm, ⟨28, _⟩ => ⟨S1x31x256, .f32⟩
  | .hbm, ⟨29, _⟩ => ⟨S1x31x256, .f32⟩
  | .hbm, ⟨30, _⟩ => ⟨S_, .f32⟩
  | .hbm, ⟨31, _⟩ => ⟨S1x31x256, .f32⟩
  | .hbm, ⟨32, _⟩ => ⟨S1x31x256, .f32⟩
  | .hbm, ⟨33, _⟩ => ⟨S1x31x256, .f32⟩
  | .hbm, ⟨34, _⟩ => ⟨S_, .f32⟩
  | .hbm, ⟨35, _⟩ => ⟨S1x31x256, .f32⟩
  | .hbm, ⟨36, _⟩ => ⟨S1x31x256, .f32⟩
  | .hbm, ⟨37, _⟩ => ⟨S31x256, .f32⟩
  | .hbm, ⟨38, _⟩ => ⟨S31x256, .f32⟩
  | .hbm, ⟨39, _⟩ => ⟨S31x256, .f32⟩
  | _, _ => ⟨S1x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBDw.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBDwRefIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== LnSilu.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnSiluRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== MixNorm.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Maths.lean ====
/-
  The spatial gating unit's gradient over the real numbers, one chunk of 128 rows at a time: what both programs'
  buffers are shown to hold. Nothing here mentions a program.
-/
module

public import Mathlib.Analysis.Real.Sqrt
public import Mathlib.Data.EReal.Inv
public import Mathlib.Analysis.Complex.Trigonometric
public import Mathlib.Tactic.NormNum
public import Mathlib.Tactic.Ring
public import Mathlib.Tactic.Linarith

@[expose] public section

noncomputable section

namespace Cert.Gating

/-- The coefficient of the cubic in the tanh form of GELU, 0.044715. -/
def A : ℝ := 8943 / 200000
/-- The float nearest to √(2/π), the outer factor of the tanh's argument. -/
def C : ℝ := 13386282 / 16777216
/-- The float nearest to one millionth, added to a variance. -/
def eps : ℝ := 8796093 / 8796093022208

theorem eps_pos : 0 < eps := by norm_num [eps]

/-- The tanh inside GELU. -/
def th (x : ℝ) : ℝ := Real.tanh (C * (x + A * (x * x * x)))
/-- GELU in its tanh form. -/
def gelu (x : ℝ) : ℝ := 1 / 2 * x * (1 + th x)
/-- Its derivative. -/
def dgelu (x : ℝ) : ℝ := 1 / 2 * (1 + th x) + 1 / 2 * x * (1 - th x * th x) * (C * (1 + 3 * A * (x * x)))

/-- The mean of 128 numbers. -/
def mean (v : Fin 128 → ℝ) : ℝ := (∑ i, v i) / 128
/-- What is left of a number when the mean is taken away. -/
def cen (v : Fin 128 → ℝ) (i : Fin 128) : ℝ := v i - mean v
/-- The variance, with the small constant added. -/
def vare (v : Fin 128 → ℝ) : ℝ := mean (fun i => cen v i * cen v i) + eps
/-- One over the standard deviation. -/
def rs (v : Fin 128 → ℝ) : ℝ := (√(vare v))⁻¹
/-- The normalised number. -/
def nrm (v : Fin 128 → ℝ) (i : Fin 128) : ℝ := cen v i * rs v
/-- The gradient of the normalisation at `v` applied to `d`, in its short form. -/
def lnb (v d : Fin 128 → ℝ) (i : Fin 128) : ℝ :=
  rs v * (d i - mean d - nrm v i * mean (fun j => d j * nrm v j))

theorem vare_pos (v : Fin 128 → ℝ) : 0 < vare v :=
  add_pos_of_nonneg_of_pos (div_nonneg (Finset.sum_nonneg fun i _ => mul_self_nonneg _) (by norm_num)) eps_pos

/-- The centred numbers sum to zero. -/
theorem sum_cen (v : Fin 128 → ℝ) : ∑ i, cen v i = 0 := by
  simp only [cen, Finset.sum_sub_distrib, mean, Finset.sum_const, Finset.card_univ, Fintype.card_fin, nsmul_eq_mul]
  push_cast
  ring

/-- The square of one over the standard deviation is one over the variance. -/
theorem rs_mul_rs (v : Fin 128 → ℝ) : rs v * rs v = 1 / vare v := by
  rw [rs, ← mul_inv, Real.mul_self_sqrt (vare_pos v).le, one_div]

/-- The two terms of the differentiated normalisation before the mean's own gradient: through the centred number … -/
def back1 (v d : Fin 128 → ℝ) (i : Fin 128) : ℝ := d i * rs v
/-- … and through the variance. -/
def back2 (v d : Fin 128 → ℝ) (i : Fin 128) : ℝ :=
  (∑ j, cen v j * d j) * (-(1 / 2) * (rs v / vare v)) / 128 * (2 * cen v i)

/-- Differentiating the normalisation step by step (through the centred number, the variance and the mean) gives the
    short form. -/
theorem back_eq_lnb (v d : Fin 128 → ℝ) (i : Fin 128) :
    back1 v d i + back2 v d i + ((∑ j, -back1 v d j) + (∑ j, -back2 v d j)) / 128 = lnb v d i := by
  have h2 : ∑ j, -back2 v d j = 0 := by
    simp only [back2, Finset.sum_neg_distrib, ← Finset.mul_sum, sum_cen, mul_zero, neg_zero]
  have h1 : ∑ j, -back1 v d j = -((∑ j, d j) * rs v) := by
    simp only [back1, Finset.sum_neg_distrib, ← Finset.sum_mul]
  have h3 : (∑ j, d j * nrm v j) = (∑ j, cen v j * d j) * rs v := by
    rw [Finset.sum_mul]; exact Finset.sum_congr rfl fun j _ => by rw [nrm]; ring
  have hr := rs_mul_rs v
  rw [h1, h2, back1, back2, lnb, mean, mean, h3, nrm, div_eq_mul_one_div (rs v), ← hr]
  ring

/-- The differentiated GELU as it comes step by step gives `dgelu`. -/
theorem back_gelu (x d : ℝ) :
    d * (1 / 2 * (1 + th x)) + C * (1 / 2 * (x * d) * ((1 + th x) * (1 - th x)))
      + A * (C * (1 / 2 * (x * d) * ((1 + th x) * (1 - th x)))) * (3 * (x * x)) = d * dgelu x := by
  rw [dgelu]; ring

/-! ## A chunk -/

/-- Column `c` of group `g` among the 512 columns of a half. -/
def col (g : Fin 4) (c : Fin 128) : Fin 512 := ⟨128 * g.val + c.val, by omega⟩
/-- The same column in the first half of 1024. -/
def colU (g : Fin 4) (c : Fin 128) : Fin 1024 := ⟨128 * g.val + c.val, by omega⟩
/-- The same column in the second half of 1024. -/
def colV (g : Fin 4) (c : Fin 128) : Fin 1024 := ⟨512 + (128 * g.val + c.val), by omega⟩

section Chunk

variable (x : Fin 128 → Fin 1024 → ℝ) (y : Fin 128 → Fin 512 → ℝ) (w : Fin 4 → Fin 128 → Fin 128 → ℝ)
  (b : Fin 4 → Fin 128 → ℝ) (g : Fin 4) (p : Fin 128)

/-- The second half of row `p` after GELU, group `g`. -/
def gv (c : Fin 128) : ℝ := gelu (x p (colV g c))
/-- The same normalised. -/
def vn (c : Fin 128) : ℝ := nrm (gv x g p) c
/-- The rows of a chunk mixed by the group's matrix. -/
def mix (c : Fin 128) : ℝ := (∑ q, w g p q * vn x g q c) + b g p
/-- The gradient at the mixed rows. -/
def dm (c : Fin 128) : ℝ := y p (col g c) * gelu (x p (colU g c))
/-- The gradient at the normalised rows. -/
def dvn (c : Fin 128) : ℝ := ∑ q, w g q p * dm x y g q c
/-- The gradient at the first half of the input. -/
def outU (c : Fin 128) : ℝ := y p (col g c) * mix x w b g p c * dgelu (x p (colU g c))
/-- The gradient at the second half of the input. -/
def outV (c : Fin 128) : ℝ := lnb (gv x g p) (dvn x y w g p) c * dgelu (x p (colV g c))
/-- The chunk's share of the gradient at the mixing matrices. -/
def dw (q : Fin 128) : ℝ := ∑ c, dm x y g p c * vn x g q c

end Chunk

/-- Row `p` of chunk `M`. -/
def row (M : Fin 32) (p : Fin 128) : Fin 4096 := ⟨128 * M.val + p.val, by omega⟩

/-- Chunk `M` of the input. -/
def chX (X : Fin 4096 → Fin 1024 → ℝ) (M : Fin 32) (p : Fin 128) (c : Fin 1024) : ℝ := X (row M p) c
/-- Chunk `M` of the second half of the incoming gradient. -/
def chY (Y : Fin 4096 → Fin 1024 → ℝ) (M : Fin 32) (p : Fin 128) (c : Fin 512) : ℝ :=
  Y (row M p) ⟨512 + c.val, by omega⟩

section Arrays

variable (X Y : Fin 4096 → Fin 1024 → ℝ) (w : Fin 4 → Fin 128 → Fin 128 → ℝ) (b : Fin 4 → Fin 128 → ℝ)

/-- The gradient at the input: the two halves, every chunk and group. -/
def gradP (r : Fin 4096) (c : Fin 1024) : ℝ :=
  let M : Fin 32 := ⟨r.val / 128, by omega⟩
  let p : Fin 128 := ⟨r.val % 128, by omega⟩
  let g : Fin 4 := ⟨c.val % 512 / 128, by omega⟩
  let l : Fin 128 := ⟨c.val % 128, by omega⟩
  if c.val < 512 then outU (chX X M) (chY Y M) w b g p l else outV (chX X M) (chY Y M) w g p l
/-- The gradient at the mixing matrices: the sum over the chunks. -/
def gradW (g : Fin 4) (p q : Fin 128) : ℝ := ∑ M, dw (chX X M) (chY Y M) g p q
/-- The gradient at the bias along the lanes: the sum over the chunks. -/
def gradB (p : Fin 128) (g : Fin 4) (c : Fin 128) : ℝ := ∑ M, dm (chX X M) (chY Y M) g p c

theorem gradP_U (M : Fin 32) (p : Fin 128) (g : Fin 4) (c : Fin 128) (r : Fin 4096) (l : Fin 1024)
    (hr : r.val = 128 * M.val + p.val) (hl : l.val = 128 * g.val + c.val) :
    gradP X Y w b r l = outU (chX X M) (chY Y M) w b g p c := by
  have e1 : (⟨r.val / 128, by omega⟩ : Fin 32) = M := Fin.ext (by show r.val / 128 = M.val; omega)
  have e2 : (⟨r.val % 128, by omega⟩ : Fin 128) = p := Fin.ext (by show r.val % 128 = p.val; omega)
  have e3 : (⟨l.val % 512 / 128, by omega⟩ : Fin 4) = g := Fin.ext (by show l.val % 512 / 128 = g.val; omega)
  have e4 : (⟨l.val % 128, by omega⟩ : Fin 128) = c := Fin.ext (by show l.val % 128 = c.val; omega)
  simp only [gradP, e1, e2, e3, e4]
  rw [if_pos (by omega)]

theorem gradP_V (M : Fin 32) (p : Fin 128) (g : Fin 4) (c : Fin 128) (r : Fin 4096) (l : Fin 1024)
    (hr : r.val = 128 * M.val + p.val) (hl : l.val = 512 + (128 * g.val + c.val)) :
    gradP X Y w b r l = outV (chX X M) (chY Y M) w g p c := by
  have e1 : (⟨r.val / 128, by omega⟩ : Fin 32) = M := Fin.ext (by show r.val / 128 = M.val; omega)
  have e2 : (⟨r.val % 128, by omega⟩ : Fin 128) = p := Fin.ext (by show r.val % 128 = p.val; omega)
  have e3 : (⟨l.val % 512 / 128, by omega⟩ : Fin 4) = g := Fin.ext (by show l.val % 512 / 128 = g.val; omega)
  have e4 : (⟨l.val % 128, by omega⟩ : Fin 128) = c := Fin.ext (by show l.val % 128 = c.val; omega)
  simp only [gradP, e1, e2, e3, e4]
  rw [if_neg (by omega)]

end Arrays

/-! ## Finite sums of real numbers among the extended reals -/

/-- A finite sum of real numbers is the same sum among the extended reals. -/
theorem coe_sum {ι : Type} [Fintype ι] (f : ι → ℝ) : ∑ i, ((f i : ℝ) : EReal) = ((∑ i, f i : ℝ) : EReal) := by
  classical
  refine Finset.induction_on Finset.univ (by simp) fun a s ha ih => ?_
  rw [Finset.sum_insert ha, Finset.sum_insert ha, ih, EReal.coe_add]

end Cert.Gating

end
-- ==== Proof.Consts.lean ====
/-
  The float words of the two programs as the real numbers they are.
-/
module

public import Idealize.ShloMosaic.PureOps.Ideal
public import proofs.«01_k».proof.Proof.Maths

@[expose] public section

noncomputable section

namespace Cert.Gating

open Idealize.ShloMosaic

/-- The word of one half. -/
theorem word_half : Ideal.ofBits .f32 0x3F000000#32 = ((1 / 2 : ℝ) : EReal) := by
  simp [Ideal.ofBits, Ideal.ieee, -EReal.coe_mul]; norm_num
/-- The word of minus one half. -/
theorem word_neg_half : Ideal.ofBits .f32 0xBF000000#32 = ((-(1 / 2) : ℝ) : EReal) := by
  simp [Ideal.ofBits, Ideal.ieee, -EReal.coe_mul]; norm_num
/-- The word of one. -/
theorem word_one : Ideal.ofBits .f32 0x3F800000#32 = ((1 : ℝ) : EReal) := by
  simp [Ideal.ofBits, Ideal.ieee, -EReal.coe_mul]; norm_num
/-- The word of two. -/
theorem word_two : Ideal.ofBits .f32 0x40000000#32 = ((2 : ℝ) : EReal) := by
  simp [Ideal.ofBits, Ideal.ieee, -EReal.coe_mul]; norm_num
/-- The word of three. -/
theorem word_three : Ideal.ofBits .f32 0x40400000#32 = ((3 : ℝ) : EReal) := by
  simp [Ideal.ofBits, Ideal.ieee, -EReal.coe_mul]; norm_num
/-- The word of 128, the length of a mean. -/
theorem word_128 : Ideal.ofBits .f32 0x43000000#32 = ((128 : ℝ) : EReal) := by
  simp [Ideal.ofBits, Ideal.ieee, -EReal.coe_mul]; norm_num
/-- The word of the small constant added to a variance. -/
theorem word_eps : Ideal.ofBits .f32 0x358637BD#32 = ((eps : ℝ) : EReal) := by
  simp [Ideal.ofBits, Ideal.ieee, -EReal.coe_mul, eps]; norm_num
/-- The word of √(2/π). -/
theorem word_C : Ideal.ofBits .f32 0x3F4C422A#32 = ((C : ℝ) : EReal) := by
  simp [Ideal.ofBits, Ideal.ieee, -EReal.coe_mul, C]; norm_num
/-- The word of 44715. -/
theorem word_num : Ideal.ofBits .f32 0x472EAB00#32 = ((44715 : ℝ) : EReal) := by
  simp [Ideal.ofBits, Ideal.ieee, -EReal.coe_mul]; norm_num
/-- The word of one million. -/
theorem word_den : Ideal.ofBits .f32 0x49742400#32 = ((1000000 : ℝ) : EReal) := by
  simp [Ideal.ofBits, Ideal.ieee, -EReal.coe_mul]; norm_num
/-- The word of infinity. -/
theorem word_inf : Ideal.ofBits .f32 0x7F800000#32 = (⊤ : EReal) := by
  simp [Ideal.ofBits, Ideal.ieee]

/-- One over the root of a variance. -/
theorem rsqrt_vare (v : Fin 128 → ℝ) : Ideal.rsqrt ((vare v : ℝ) : EReal) = ((rs v : ℝ) : EReal) := by
  rw [Ideal.rsqrt_coe, if_neg (not_lt.mpr (vare_pos v).le), if_neg (vare_pos v).ne', rs]

/-- A quotient of real numbers. -/
theorem div_real (x y : ℝ) (h : y ≠ 0) : Ideal.div (x : EReal) (y : EReal) = ((x / y : ℝ) : EReal) := by
  rw [Ideal.div_coe h, ← EReal.coe_mul, mul_one_div]

/-- The quotient the reference takes for the cubic's coefficient. -/
theorem div_A : Ideal.div (Ideal.ofBits .f32 0x472EAB00#32) (Ideal.ofBits .f32 0x49742400#32) = ((A : ℝ) : EReal) := by
  rw [word_num, word_den, div_real _ _ (by norm_num), A]; norm_num

/-- A number whose absolute value is below infinity is real. -/
theorem real_of_bit (x : Ideal .f32)
    (h : BitVec.ofBool (decide ((FloatOps.absf (F := Ideal) (φ := .f32) x : EReal) < Ideal.ofBits .f32 0x7F800000#32)) = 1#1) :
    (x : EReal) = ((EReal.toReal x : ℝ) : EReal) := by
  have h' : (FloatOps.absf (F := Ideal) (φ := .f32) x : EReal) < ⊤ := by
    rw [word_inf] at h
    by_contra hc
    rw [decide_eq_false hc] at h
    exact absurd h (by decide)
  have hm : max (x : EReal) (-x) < ⊤ := h'
  rw [max_lt_iff] at hm
  refine (EReal.coe_toReal hm.1.ne fun hb => ?_).symm
  rw [hb] at hm
  exact absurd hm.2 (by simp)

end Cert.Gating

end
-- ==== Proof.Block.lean ====
/-
  One block of 256 rows, as the kernel computes it: each stage written once for a group `g` of 128 columns and a chunk
  `m` of 128 rows, with its entries as real numbers when the block's are.
-/
module

public import proofs.«01_k».proof.Proof.Gen.KernelIdeal.Skeleton
public import proofs.«01_k».proof.Proof.Consts
public import Idealize.ShloMosaic.Lib.Pipeline.ValueKit
public import Idealize.ShloMosaic.Lib.Pointwise

@[expose] public section

set_option maxRecDepth 16384

noncomputable section

namespace Cert.Gating

open Idealize.ShloMosaic Idealize.ShloMosaic.TcCoe Idealize.SL.Sem
open Cert.KernelIdeal Cert.KernelIdeal.Gen

/-- The named coefficient of the cubic. -/
theorem named_a : Named.named (F := Ideal) κ "gelu_a" (φ := .f32) 0x3D372713#32 = ((A : ℝ) : EReal) := rfl
/-- The named triple of it. -/
theorem named_3a : Named.named (F := Ideal) κ "gelu_3a" (φ := .f32) 0x3E095D4F#32 = ((3 * A : ℝ) : EReal) := by
  show (((26829 / 200000 : ℝ)) : EReal) = _
  rw [A]; norm_num

/-- Row `p` of the block's chunk `m`. -/
def brow (m : Fin 2) (p : Fin 128) : Fin 256 := ⟨128 * m.val + p.val, by omega⟩

/-! ## The stages -/

/-- The columns of group `g`. -/
def cutCols (g : Fin 4) (v : FVec Ideal S256x512 .f32) : FVec Ideal S256x128 .f32 :=
  extractStridedSlice S256x128 ![0, 128 * g.val] v (by fin_cases g <;> decide)
/-- The tile of chunk `m` and group `g`. -/
def cutTile (m : Fin 2) (g : Fin 4) (v : FVec Ideal S256x512 .f32) : FVec Ideal S128x128 .f32 :=
  extractStridedSlice S128x128 ![128 * m.val, 128 * g.val] v (by fin_cases m <;> fin_cases g <;> decide)
/-- The rows of chunk `m`. -/
def cutRows {φ : FTy} (m : Fin 2) (v : FVec Ideal S256x128 φ) : FVec Ideal S128x128 φ :=
  extractStridedSlice S128x128 ![128 * m.val, 0] v (by fin_cases m <;> decide)
/-- The rows of chunk `m` of a column. -/
def cutRows1 (m : Fin 2) (v : FVec Ideal S256x1 .f32) : FVec Ideal S128x1 .f32 :=
  extractStridedSlice S128x1 ![128 * m.val, 0] v (by fin_cases m <;> decide)

/-- The second half after GELU, its group's mean taken away. -/
def cenB (g : Fin 4) (x : Vec Ideal S256x1024 .f32) : FVec Ideal S256x128 .f32 :=
  subf (cutCols g (k0_pay8 x)) (broadcastTo S256x128
    (divf (shapeCast S256x1 (multiReduction .add [1] S256 (cutCols g (k0_pay8 x)) 0x00000000#32 reduces_S256x128_S256
      (.inl rfl) rfl) shapeCasts_S256_S256x1) (broadcast S256x1 (Scalar.ofBits .f32 0x43000000#32)))
    broadcasts_S256x1_S256x128)
/-- One over its standard deviation. -/
def rsB (g : Fin 4) (x : Vec Ideal S256x1024 .f32) : FVec Ideal S256x1 .f32 :=
  rsqrt (addf (divf (shapeCast S256x1 (multiReduction .add [1] S256 (mulf (cenB g x) (cenB g x)) 0x00000000#32
    reduces_S256x128_S256 (.inl rfl) rfl) shapeCasts_S256_S256x1) (broadcast S256x1 (Scalar.ofBits .f32 0x43000000#32)))
    (broadcast S256x1 (Scalar.ofBits .f32 0x358637BD#32)))
/-- The normalised half. -/
def vnB (g : Fin 4) (x : Vec Ideal S256x1024 .f32) : FVec Ideal S256x128 .f32 :=
  mulf (cenB g x) (broadcastTo S256x128 (rsB g x) broadcasts_S256x1_S256x128)
/-- The chunk's rows mixed, with the bias. -/
def mixB (m : Fin 2) (g : Fin 4) (x : Vec Ideal S256x1024 .f32) (wl : Vec Ideal S1x128x128 .bf16)
    (bl : Vec Ideal S128x128 .f32) : FVec Ideal S128x128 .f32 :=
  addf (matmul dot_S128x128_S128x128_S128x128_1_0_0_1_n_n none (φ₁ := .bf16) (shapeCast S128x128 wl shapeCasts_S1x128x128_S128x128)
    (cutRows m (truncf .bf16 (vnB g x) bitsLt_bf16_f32)) (constant S128x128 .f32 0x00000000#32))
    (shapeCast S128x128 bl shapeCasts_S128x128_S128x128)
/-- The gradient at the mixed rows. -/
def dmB (m : Fin 2) (g : Fin 4) (x : Vec Ideal S256x1024 .f32) (y : Vec Ideal S256x512 .f32) : FVec Ideal S128x128 .f32 :=
  mulf (cutTile m g y) (cutTile m g (k0_pay6 x))
/-- The chunk's share of the gradient at the mixing matrix. -/
def dwB (m : Fin 2) (g : Fin 4) (x : Vec Ideal S256x1024 .f32) (y : Vec Ideal S256x512 .f32) : FVec Ideal S128x128 .f32 :=
  matmul dot_S128x128_S128x128_S128x128_1_1_0_0_n_n none (truncf .bf16 (dmB m g x y) bitsLt_bf16_f32)
    (cutRows m (truncf .bf16 (vnB g x) bitsLt_bf16_f32)) (constant S128x128 .f32 0x00000000#32)
/-- The gradient at the normalised rows. -/
def dvnB (m : Fin 2) (g : Fin 4) (x : Vec Ideal S256x1024 .f32) (y : Vec Ideal S256x512 .f32)
    (wl : Vec Ideal S1x128x128 .bf16) : FVec Ideal S128x128 .f32 :=
  matmul dot_S128x128_S128x128_S128x128_1_0_0_1_n_n none (φ₁ := .bf16) (shapeCast S128x128 wl shapeCasts_S1x128x128_S128x128)
    (truncf .bf16 (dmB m g x y) bitsLt_bf16_f32) (constant S128x128 .f32 0x00000000#32)
/-- The mean of each row of a tile, along the row. -/
def meanB (v : FVec Ideal S128x128 .f32) : FVec Ideal S128x128 .f32 :=
  broadcastTo S128x128 (divf (shapeCast S128x1 (multiReduction .add [1] S128 v 0x00000000#32 reduces_S128x128_S128
    (.inl rfl) rfl) shapeCasts_S128_S128x1) (broadcast S128x1 (Scalar.ofBits .f32 0x43000000#32)))
    broadcasts_S128x1_S128x128
/-- The normalisation's gradient applied to a tile `d`. -/
def lnbB (m : Fin 2) (g : Fin 4) (x : Vec Ideal S256x1024 .f32) (d : FVec Ideal S128x128 .f32) : FVec Ideal S128x128 .f32 :=
  mulf (broadcastTo S128x128 (cutRows1 m (rsB g x)) broadcasts_S128x1_S128x128)
    (subf (subf d (meanB d)) (mulf (cutRows m (vnB g x)) (meanB (mulf d (cutRows m (vnB g x))))))
/-- GELU's derivative at a tile `v`, from the tanh `t`. -/
def dgeluB (v t : FVec Ideal S128x128 .f32) : FVec Ideal S128x128 .f32 :=
  addf (mulf (broadcast S128x128 (Scalar.ofBits .f32 0x3F000000#32)) (addf (broadcast S128x128 (Scalar.ofBits .f32 0x3F800000#32)) t))
    (mulf (mulf (mulf (broadcast S128x128 (Scalar.ofBits .f32 0x3F000000#32)) v)
        (subf (broadcast S128x128 (Scalar.ofBits .f32 0x3F800000#32)) (mulf t t)))
      (mulf (broadcast S128x128 (Scalar.ofBits .f32 0x3F4C422A#32))
        (addf (broadcast S128x128 (Scalar.ofBits .f32 0x3F800000#32))
          (mulf (broadcast S128x128 (Named.named κ "gelu_3a" 0x3E095D4F#32)) (mulf v v)))))
/-- The tile written into the first half of the output. -/
def outUB (m : Fin 2) (g : Fin 4) (x : Vec Ideal S256x1024 .f32) (y : Vec Ideal S256x512 .f32)
    (wl : Vec Ideal S1x128x128 .bf16) (bl : Vec Ideal S128x128 .f32) : FVec Ideal S128x128 .bf16 :=
  truncf .bf16 (mulf (mulf (cutTile m g y) (mixB m g x wl bl)) (dgeluB (cutTile m g (k0_pay3 x)) (cutTile m g (k0_pay5 x))))
    bitsLt_bf16_f32
/-- The tile written into the second half of the output. -/
def outVB (m : Fin 2) (g : Fin 4) (x : Vec Ideal S256x1024 .f32) (y : Vec Ideal S256x512 .f32)
    (wl : Vec Ideal S1x128x128 .bf16) : FVec Ideal S128x128 .bf16 :=
  truncf .bf16 (mulf (lnbB m g x (dvnB m g x y wl)) (dgeluB (cutTile m g (k0_pay4 x)) (cutTile m g (k0_pay7 x))))
    bitsLt_bf16_f32

/-! ## Their entries -/

section Entries

variable {x : Vec Ideal S256x1024 .f32} {y : Vec Ideal S256x512 .f32} {wl wtl : Vec Ideal S1x128x128 .bf16}
  {bl : Vec Ideal S128x128 .f32} {X : Fin 256 → Fin 1024 → ℝ} {Y : Fin 256 → Fin 512 → ℝ}
  {W : Fin 4 → Fin 128 → Fin 128 → ℝ} {B : Fin 4 → Fin 128 → ℝ}

/-- The first half's tanh. -/
theorem pay5_apply (hx : ∀ r c, x (ix2 r c) = ((X r c : ℝ) : EReal)) (r : Fin 256) (g : Fin 4) (c : Fin 128) :
    k0_pay5 x (ix2 r (col g c)) = ((th (X r (colU g c)) : ℝ) : EReal) := by
  pointwise [k0_pay5, k0_pay3]
  simp only [hx, word_C, named_a, ← EReal.coe_mul, ← EReal.coe_add, Ideal.tanh_coe]
  rfl

/-- The second half's tanh. -/
theorem pay7_apply (hx : ∀ r c, x (ix2 r c) = ((X r c : ℝ) : EReal)) (r : Fin 256) (g : Fin 4) (c : Fin 128) :
    k0_pay7 x (ix2 r (col g c)) = ((th (X r (colV g c)) : ℝ) : EReal) := by
  pointwise [k0_pay7, k0_pay4]
  simp only [hx, word_C, named_a, ← EReal.coe_mul, ← EReal.coe_add, Ideal.tanh_coe]
  rfl

/-- The first half after GELU. -/
theorem pay6_apply (hx : ∀ r c, x (ix2 r c) = ((X r c : ℝ) : EReal)) (r : Fin 256) (g : Fin 4) (c : Fin 128) :
    k0_pay6 x (ix2 r (col g c)) = ((gelu (X r (colU g c)) : ℝ) : EReal) := by
  have h5 := pay5_apply hx r g c
  pointwise [k0_pay6, k0_pay3]
  erw [h5]
  simp only [hx, word_half, word_one, ← EReal.coe_mul, ← EReal.coe_add]
  rfl

/-- The second half after GELU. -/
theorem pay8_apply (hx : ∀ r c, x (ix2 r c) = ((X r c : ℝ) : EReal)) (r : Fin 256) (g : Fin 4) (c : Fin 128) :
    k0_pay8 x (ix2 r (col g c)) = ((gelu (X r (colV g c)) : ℝ) : EReal) := by
  have h5 := pay7_apply hx r g c
  pointwise [k0_pay8, k0_pay4]
  erw [h5]
  simp only [hx, word_half, word_one, ← EReal.coe_mul, ← EReal.coe_add]
  rfl

/-- The centred half. -/
theorem cenB_apply (hx : ∀ r c, x (ix2 r c) = ((X r c : ℝ) : EReal)) (r : Fin 256) (g : Fin 4) (c : Fin 128) :
    cenB g x (ix2 r c) = ((cen (fun c => gelu (X r (colV g c))) c : ℝ) : EReal) := by
  have h8 : ∀ c : Fin 128, k0_pay8 x (ix2 r ⟨128 * g.val + c.val, (col g c).isLt⟩) = _ := pay8_apply hx r g
  pointwise [cenB, cutCols]
  simp only [h8, word_128, coe_sum]
  rw [div_real _ _ (by norm_num), ← EReal.coe_sub]
  rfl

/-- One over the standard deviation. -/
theorem rsB_apply (hx : ∀ r c, x (ix2 r c) = ((X r c : ℝ) : EReal)) (r : Fin 256) (g : Fin 4) :
    rsB g x (ix2 r 0) = ((rs (fun c => gelu (X r (colV g c))) : ℝ) : EReal) := by
  have h := fun c => cenB_apply hx r g c
  pointwise [rsB]
  simp only [h, word_128, word_eps, ← EReal.coe_mul, coe_sum]
  rw [div_real _ _ (by norm_num), ← EReal.coe_add]
  exact rsqrt_vare _

/-- The normalised half. -/
theorem vnB_apply (hx : ∀ r c, x (ix2 r c) = ((X r c : ℝ) : EReal)) (r : Fin 256) (g : Fin 4) (c : Fin 128) :
    vnB g x (ix2 r c) = ((nrm (fun c => gelu (X r (colV g c))) c : ℝ) : EReal) := by
  have h := cenB_apply hx r g c
  have h' := rsB_apply hx r g
  pointwise [vnB]
  rw [h]
  erw [h']
  rw [← EReal.coe_mul]
  rfl

/-- The mixed rows. -/
theorem mixB_apply (hx : ∀ r c, x (ix2 r c) = ((X r c : ℝ) : EReal)) (m : Fin 2) (g : Fin 4) (p c : Fin 128)
    (hw : ∀ p q, wl (ix3 0 p q) = ((W g p q : ℝ) : EReal)) (hb : ∀ p c, bl (ix2 p c) = ((B g p : ℝ) : EReal)) :
    mixB m g x wl bl (ix2 p c) = ((mix (fun p => X (brow m p)) W B g p c : ℝ) : EReal) := by
  have h := fun q => vnB_apply hx (brow m q) g c
  pointwise [mixB, cutRows]
  erw [Finset.sum_congr rfl fun q _ => congrArg (wl (ix3 0 p q) * ·) (h q)]
  simp only [hw, hb, ← EReal.coe_mul, coe_sum, ← EReal.coe_add]
  rfl

/-- The gradient at the mixed rows. -/
theorem dmB_apply (hx : ∀ r c, x (ix2 r c) = ((X r c : ℝ) : EReal)) (hy : ∀ r c, y (ix2 r c) = ((Y r c : ℝ) : EReal))
    (m : Fin 2) (g : Fin 4) (p c : Fin 128) :
    dmB m g x y (ix2 p c) = ((dm (fun p => X (brow m p)) (fun p => Y (brow m p)) g p c : ℝ) : EReal) := by
  have h := pay6_apply hx (brow m p) g c
  pointwise [dmB, cutTile]
  rw [hy]
  erw [h]
  rw [← EReal.coe_mul]
  rfl

/-- The gradient at the normalised rows. -/
theorem dvnB_apply (hx : ∀ r c, x (ix2 r c) = ((X r c : ℝ) : EReal)) (hy : ∀ r c, y (ix2 r c) = ((Y r c : ℝ) : EReal))
    (m : Fin 2) (g : Fin 4) (p c : Fin 128) (hw : ∀ p q, wtl (ix3 0 p q) = ((W g q p : ℝ) : EReal)) :
    dvnB m g x y wtl (ix2 p c) = ((dvn (fun p => X (brow m p)) (fun p => Y (brow m p)) W g p c : ℝ) : EReal) := by
  have h := fun q => dmB_apply hx hy m g q c
  pointwise [dvnB]
  simp only [h, hw, ← EReal.coe_mul, coe_sum]
  rfl

/-- The share of the gradient at the mixing matrix. -/
theorem dwB_apply (hx : ∀ r c, x (ix2 r c) = ((X r c : ℝ) : EReal)) (hy : ∀ r c, y (ix2 r c) = ((Y r c : ℝ) : EReal))
    (m : Fin 2) (g : Fin 4) (p q : Fin 128) :
    dwB m g x y (ix2 p q) = ((dw (fun p => X (brow m p)) (fun p => Y (brow m p)) g p q : ℝ) : EReal) := by
  have h := fun c => dmB_apply hx hy m g p c
  have h' := fun c => vnB_apply hx (brow m q) g c
  pointwise [dwB, cutRows]
  erw [Finset.sum_congr rfl fun c _ => congrArg₂ (· * ·) (h c) (h' c)]
  simp only [← EReal.coe_mul, coe_sum]
  rfl

/-- The mean of a tile's row. -/
theorem meanB_apply {d : FVec Ideal S128x128 .f32} {D : Fin 128 → ℝ} (p : Fin 128) (hd : ∀ c, d (ix2 p c) = ((D c : ℝ) : EReal))
    (c : Fin 128) : meanB d (ix2 p c) = ((mean D : ℝ) : EReal) := by
  pointwise [meanB]
  simp only [hd, word_128, coe_sum]
  exact div_real _ _ (by norm_num)

/-- The normalisation's gradient. -/
theorem lnbB_apply (hx : ∀ r c, x (ix2 r c) = ((X r c : ℝ) : EReal)) (m : Fin 2) (g : Fin 4) (p : Fin 128)
    {d : FVec Ideal S128x128 .f32} {D : Fin 128 → ℝ} (hd : ∀ c, d (ix2 p c) = ((D c : ℝ) : EReal)) (c : Fin 128) :
    lnbB m g x d (ix2 p c) = ((lnb (gv (fun p => X (brow m p)) g p) D c : ℝ) : EReal) := by
  have h := fun c => vnB_apply hx (brow m p) g c
  have h' := rsB_apply hx (brow m p) g
  have h1 := meanB_apply p hd c
  have h0 : ∀ c, cutRows m (vnB g x) (ix2 p c) = ((nrm (gv (fun p => X (brow m p)) g p) c : ℝ) : EReal) := fun c => by
    pointwise [cutRows]
    exact h c
  have h2 : ∀ c, mulf d (cutRows m (vnB g x)) (ix2 p c)
      = ((D c * nrm (gv (fun p => X (brow m p)) g p) c : ℝ) : EReal) := fun c => by
    pointwise []
    rw [hd, h0, ← EReal.coe_mul]
  have h3 := meanB_apply p h2 c
  pointwise [lnbB, cutRows1]
  rw [hd, h0, h1, h3]
  erw [h']
  simp only [← EReal.coe_mul, ← EReal.coe_sub]
  rfl

/-- GELU's derivative. -/
theorem dgeluB_apply {v t : FVec Ideal S128x128 .f32} {r : ℝ} (j : S128x128.Idx) (hv : v j = ((r : ℝ) : EReal))
    (ht : t j = ((th r : ℝ) : EReal)) : dgeluB v t j = ((dgelu r : ℝ) : EReal) := by
  pointwise [dgeluB]
  simp only [hv, ht, word_half, word_one, word_C, named_3a, ← EReal.coe_mul, ← EReal.coe_add, ← EReal.coe_sub]
  rfl

/-- The tile of the first half of the output. -/
theorem outUB_apply (hx : ∀ r c, x (ix2 r c) = ((X r c : ℝ) : EReal)) (hy : ∀ r c, y (ix2 r c) = ((Y r c : ℝ) : EReal))
    (m : Fin 2) (g : Fin 4) (p c : Fin 128) (hw : ∀ p q, wl (ix3 0 p q) = ((W g p q : ℝ) : EReal))
    (hb : ∀ p c, bl (ix2 p c) = ((B g p : ℝ) : EReal)) :
    outUB m g x y wl bl (ix2 p c) = ((outU (fun p => X (brow m p)) (fun p => Y (brow m p)) W B g p c : ℝ) : EReal) := by
  have hd := dgeluB_apply (v := cutTile m g (k0_pay3 x)) (t := cutTile m g (k0_pay5 x)) (ix2 p c)
    (r := X (brow m p) (colU g c)) (by pointwise [cutTile, k0_pay3]; exact hx _ _)
    (by pointwise [cutTile]; exact pay5_apply hx (brow m p) g c)
  pointwise [outUB, cutTile]
  erw [mixB_apply hx m g p c hw hb, hd, hy (brow m p) (col g c)]
  rw [← EReal.coe_mul, ← EReal.coe_mul]
  rfl

/-- The tile of the second half of the output. -/
theorem outVB_apply (hx : ∀ r c, x (ix2 r c) = ((X r c : ℝ) : EReal)) (hy : ∀ r c, y (ix2 r c) = ((Y r c : ℝ) : EReal))
    (m : Fin 2) (g : Fin 4) (p c : Fin 128) (hw : ∀ p q, wtl (ix3 0 p q) = ((W g q p : ℝ) : EReal)) :
    outVB m g x y wtl (ix2 p c) = ((outV (fun p => X (brow m p)) (fun p => Y (brow m p)) W g p c : ℝ) : EReal) := by
  have hd := dgeluB_apply (v := cutTile m g (k0_pay4 x)) (t := cutTile m g (k0_pay7 x)) (ix2 p c)
    (r := X (brow m p) (colV g c)) (by pointwise [cutTile, k0_pay4]; exact hx _ _)
    (by pointwise [cutTile]; exact pay7_apply hx (brow m p) g c)
  have hl := lnbB_apply hx m g p (fun c => dvnB_apply hx hy m g p c hw) c
  pointwise [outVB]
  erw [hl, hd]
  rw [← EReal.coe_mul]
  rfl

end Entries

end Cert.Gating

end
-- ==== Proof.Array.lean ====
/-
  The kernel's three result arrays: block by block for the input's gradient, summed over the grid for the two weights'.
-/
module

public import proofs.«01_k».proof.Proof.Gen.KernelIdeal.Value
public import proofs.«01_k».proof.Proof.Block

@[expose] public section

set_option maxRecDepth 16384

noncomputable section

namespace Cert.Gating

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The mixing matrices as the call finds them: the argument's. -/
theorem V_w : V m c main_v0 = truncf (F := Ideal) .bf16 (m ((c : Thread nD τ).loc main_arg2)) bitsLt_bf16_f32 := by
  show StableHlo.after hostOps0 _ (Proc.devRef .tc main_v0) = _
  after_results

/-- Their transposes. -/
theorem V_wt : V m c main_v1 = transpose S4x128x128 [0, 2, 1]
    (truncf (F := Ideal) .bf16 (m ((c : Thread nD τ).loc main_arg2)) bitsLt_bf16_f32) transposes_S4x128x128_S4x128x128_0_2_1 := by
  show StableHlo.after hostOps0 _ (Proc.devRef .tc main_v1) = _
  after_results

/-- The bias spread along the lanes. -/
theorem V_b : V m c main_v5 = shapeCast S128x512 (broadcastInDim S128x4x128 ![0, 1, 2] bcast_S128x4x1_S128x4x128_0_1_2
    (broadcastInDim S128x4x1 ![0, 1] bcast_S128x4_S128x4x1_0_1
      (transpose S128x4 [1, 0] (m ((c : Thread nD τ).loc main_arg3)) transposes_S4x128_S128x4_1_0)))
    shapeCasts_S128x4x128_S128x512 := by
  show StableHlo.after hostOps0 _ (Proc.devRef .tc main_v5) = _
  after_results
  rfl

/-- Where each window's block lies at a grid point. -/
theorem idx : ∀ t : Fin cfg0.N, win0_0.index t 0 = t.val ∧ win0_0.index t 1 = 0 ∧ win0_1.index t 0 = t.val
    ∧ win0_1.index t 1 = 1 ∧ win0_2.index t 0 = 0 ∧ win0_2.index t 1 = 0 ∧ win0_2.index t 2 = 0
    ∧ win0_3.index t 0 = 0 ∧ win0_3.index t 1 = 0 ∧ win0_3.index t 2 = 0 ∧ win0_4.index t 0 = 0 ∧ win0_4.index t 1 = 0
    ∧ win0_5.index t 0 = t.val ∧ win0_5.index t 1 = 0 ∧ win0_6.index t 0 = 0 ∧ win0_6.index t 1 = 0
    ∧ win0_6.index t 2 = 0 ∧ win0_7.index t 0 = 0 ∧ win0_7.index t 1 = 0 :=
  (by decide +kernel : ∀ t : Fin grid0.N, win0_0.index t 0 = t.val ∧ win0_0.index t 1 = 0 ∧ win0_1.index t 0 = t.val
    ∧ win0_1.index t 1 = 1 ∧ win0_2.index t 0 = 0 ∧ win0_2.index t 1 = 0 ∧ win0_2.index t 2 = 0
    ∧ win0_3.index t 0 = 0 ∧ win0_3.index t 1 = 0 ∧ win0_3.index t 2 = 0 ∧ win0_4.index t 0 = 0 ∧ win0_4.index t 1 = 0
    ∧ win0_5.index t 0 = t.val ∧ win0_5.index t 1 = 0 ∧ win0_6.index t 0 = 0 ∧ win0_6.index t 1 = 0
    ∧ win0_6.index t 2 = 0 ∧ win0_7.index t 0 = 0 ∧ win0_7.index t 1 = 0)

/-- The four arguments' entries are the real numbers `X`, `Y`, `w`, `b`. -/
structure Reals (X Y : Fin 4096 → Fin 1024 → ℝ) (w : Fin 4 → Fin 128 → Fin 128 → ℝ) (b : Fin 4 → Fin 128 → ℝ) : Prop where
  x : ∀ r l, (m ((c : Thread nD τ).loc main_arg0) : S4096x1024.Idx → EReal) (ix2 r l) = ((X r l : ℝ) : EReal)
  y : ∀ r l, (m ((c : Thread nD τ).loc main_arg1) : S4096x1024.Idx → EReal) (ix2 r l) = ((Y r l : ℝ) : EReal)
  w : ∀ g p q, (m ((c : Thread nD τ).loc main_arg2) : S4x128x128.Idx → EReal) (ix3 g p q) = ((w g p q : ℝ) : EReal)
  b : ∀ g p, (m ((c : Thread nD τ).loc main_arg3) : S4x128.Idx → EReal) (ix2 g p) = ((b g p : ℝ) : EReal)

/-- Row `r` of the block at point `t`. -/
def trow (t : Fin cfg0.N) (r : Fin 256) : Fin 4096 :=
  ⟨256 * t.val + r.val, by have := t.isLt; have : cfg0.N = 16 := N_0; omega⟩
/-- Chunk `k` of the block at point `t`. -/
def tch (t : Fin cfg0.N) (k : Fin 2) : Fin 32 :=
  ⟨2 * t.val + k.val, by have := t.isLt; have : cfg0.N = 16 := N_0; omega⟩

theorem trow_brow (t : Fin cfg0.N) (k : Fin 2) (p : Fin 128) : trow t (brow k p) = row (tch t k) p :=
  Fin.ext (by simp only [trow, brow, row, tch]; omega)

section Blocks

variable {m c} {X Y : Fin 4096 → Fin 1024 → ℝ} {w : Fin 4 → Fin 128 → Fin 128 → ℝ} {b : Fin 4 → Fin 128 → ℝ}
  (H : Reals m c X Y w b)
include H

/-- The input's block at a point. -/
theorem blk_x (t : Fin cfg0.N) (r : Fin 256) (l : Fin 1024) :
    (iblk m c 0 t : S256x1024.Idx → EReal) (ix2 r l) = ((X (trow t r) l : ℝ) : EReal) := by
  rw [← H.x]
  blk_point [iblk, V, idx t, trow]

/-- The incoming gradient's. -/
theorem blk_y (t : Fin cfg0.N) (r : Fin 256) (l : Fin 512) :
    (iblk m c 1 t : S256x512.Idx → EReal) (ix2 r l) = ((Y (trow t r) ⟨512 + l.val, by omega⟩ : ℝ) : EReal) := by
  rw [← H.y]
  blk_point [iblk, V, idx t, trow]

/-- A group's mixing matrix, as loaded. -/
theorem blk_w (t : Fin cfg0.N) (g : Fin 4) (h) (p q : Fin 128) :
    View.ld (iblk m c 2 t : S4x128x128.Idx → EReal) (Rect.unit ![g.val, 0, 0] ![1, 128, 128] h) (ix3 0 p q)
      = ((w g p q : ℝ) : EReal) := by
  have e : (iblk m c 2 t : S4x128x128.Idx → EReal) (ix3 g p q) = (V m c main_v0 : S4x128x128.Idx → EReal) (ix3 g p q) := by
    blk_point [iblk, idx t]
  rw [View.ld_unit_apply_of _ _ _ _ _ (ix3 g p q) (by intro a; fin_cases a <;> simp [ix3]), e, V_w, ← H.w]
  rfl

/-- Its transpose, as loaded. -/
theorem blk_wt (t : Fin cfg0.N) (g : Fin 4) (h) (p q : Fin 128) :
    View.ld (iblk m c 3 t : S4x128x128.Idx → EReal) (Rect.unit ![g.val, 0, 0] ![1, 128, 128] h) (ix3 0 p q)
      = ((w g q p : ℝ) : EReal) := by
  have e : (iblk m c 3 t : S4x128x128.Idx → EReal) (ix3 g p q) = (V m c main_v1 : S4x128x128.Idx → EReal) (ix3 g p q) := by
    blk_point [iblk, idx t]
  rw [View.ld_unit_apply_of _ _ _ _ _ (ix3 g p q) (by intro a; fin_cases a <;> simp [ix3]), e, V_wt, ← H.w]
  pointwise []

/-- A group's bias, as loaded. -/
theorem blk_b (t : Fin cfg0.N) (g : Fin 4) (h) (p l : Fin 128) :
    View.ld (iblk m c 4 t : S128x512.Idx → EReal) (Rect.unit ![0, 128 * g.val] ![128, 128] h) (ix2 p l)
      = ((b g p : ℝ) : EReal) := by
  have e : (iblk m c 4 t : S128x512.Idx → EReal) (ix2 p (col g l)) = (V m c main_v5 : S128x512.Idx → EReal) (ix2 p (col g l)) := by
    blk_point [iblk, idx t]
  rw [View.ld_unit_apply_of _ _ _ _ _ (ix2 p (col g l)) (by intro a; fin_cases a <;> simp [ix2, col]), e, V_b, ← H.b]
  pointwise [col]

/-- A tile of the first half is the gradient there. -/
theorem tileU (t : Fin cfg0.N) (k : Fin 2) (g : Fin 4) (hw hb) (i : S128x128.Idx) (j : S256x1024.Idx)
    (h0 : (j 0).val = 128 * k.val + (i 0).val) (h1 : (j 1).val = 128 * g.val + (i 1).val) :
    outUB k g (iblk m c 0 t) (iblk m c 1 t) (View.ld (iblk m c 2 t) (Rect.unit ![g.val, 0, 0] ![1, 128, 128] hw))
      (View.ld (iblk m c 4 t) (Rect.unit ![0, 128 * g.val] ![128, 128] hb)) i
        = ((gradP X Y w b (trow t (j 0)) (j 1) : ℝ) : EReal) := by
  obtain ⟨p, l, rfl⟩ : ∃ p l, i = ix2 p l := ⟨i 0, i 1, by funext a; fin_cases a <;> rfl⟩
  replace h0 : (j 0).val = 128 * k.val + p.val := h0
  rw [gradP_U X Y w b (tch t k) p g l _ _ (by simp only [trow, tch]; omega) h1,
    outUB_apply (blk_x H t) (blk_y H t) k g _ _ (blk_w H t g hw) (blk_b H t g hb)]
  simp only [trow_brow]
  rfl

/-- A tile of the second half is the gradient there. -/
theorem tileV (t : Fin cfg0.N) (k : Fin 2) (g : Fin 4) (hw) (i : S128x128.Idx) (j : S256x1024.Idx)
    (h0 : (j 0).val = 128 * k.val + (i 0).val) (h1 : (j 1).val = 512 + (128 * g.val + (i 1).val)) :
    outVB k g (iblk m c 0 t) (iblk m c 1 t) (View.ld (iblk m c 3 t) (Rect.unit ![g.val, 0, 0] ![1, 128, 128] hw)) i
        = ((gradP X Y w b (trow t (j 0)) (j 1) : ℝ) : EReal) := by
  obtain ⟨p, l, rfl⟩ : ∃ p l, i = ix2 p l := ⟨i 0, i 1, by funext a; fin_cases a <;> rfl⟩
  replace h0 : (j 0).val = 128 * k.val + p.val := h0
  rw [gradP_V X Y w b (tch t k) p g l _ _ (by simp only [trow, tch]; omega) h1,
    outVB_apply (blk_x H t) (blk_y H t) k g _ _ (blk_wt H t g hw)]
  simp only [trow_brow]
  rfl

/-- What a grid point leaves in the input's gradient's block. -/
theorem out5 (t : Fin cfg0.N) (j : S256x1024.Idx) :
    ((outsAt0 m c t.val t.isLt).1 : S256x1024.Idx → EReal) j = ((gradP X Y w b (trow t (j 0)) (j 1) : ℝ) : EReal) := by
  by_cases ht : t.val % 16 = 0
  · rw [outsAt0_A m c t ht]; frame_out
    canon_tiles i hi
    · exact tileV H t 1 3 _ i j (by simpa using hi0) (by simpa [← add_assoc] using hi1)
    · exact tileU H t 1 3 _ _ i j (by simpa using hi0) (by simpa using hi1)
    · exact tileV H t 0 3 _ i j (by simpa using hi0) (by simpa [← add_assoc] using hi1)
    · exact tileU H t 0 3 _ _ i j (by simpa using hi0) (by simpa using hi1)
    · exact tileV H t 1 2 _ i j (by simpa using hi0) (by simpa [← add_assoc] using hi1)
    · exact tileU H t 1 2 _ _ i j (by simpa using hi0) (by simpa using hi1)
    · exact tileV H t 0 2 _ i j (by simpa using hi0) (by simpa [← add_assoc] using hi1)
    · exact tileU H t 0 2 _ _ i j (by simpa using hi0) (by simpa using hi1)
    · exact tileV H t 1 1 _ i j (by simpa using hi0) (by simpa [← add_assoc] using hi1)
    · exact tileU H t 1 1 _ _ i j (by simpa using hi0) (by simpa using hi1)
    · exact tileV H t 0 1 _ i j (by simpa using hi0) (by simpa [← add_assoc] using hi1)
    · exact tileU H t 0 1 _ _ i j (by simpa using hi0) (by simpa using hi1)
    · exact tileV H t 1 0 _ i j (by simpa using hi0) (by simpa [← add_assoc] using hi1)
    · exact tileU H t 1 0 _ _ i j (by simpa using hi0) (by simpa using hi1)
    · exact tileV H t 0 0 _ i j (by simpa using hi0) (by simpa [← add_assoc] using hi1)
    · exact tileU H t 0 0 _ _ i j (by simpa using hi0) (by simpa using hi1)
  · rw [outsAt0_B m c t ht]; frame_out
    canon_tiles i hi
    · exact tileV H t 1 3 _ i j (by simpa using hi0) (by simpa [← add_assoc] using hi1)
    · exact tileU H t 1 3 _ _ i j (by simpa using hi0) (by simpa using hi1)
    · exact tileV H t 0 3 _ i j (by simpa using hi0) (by simpa [← add_assoc] using hi1)
    · exact tileU H t 0 3 _ _ i j (by simpa using hi0) (by simpa using hi1)
    · exact tileV H t 1 2 _ i j (by simpa using hi0) (by simpa [← add_assoc] using hi1)
    · exact tileU H t 1 2 _ _ i j (by simpa using hi0) (by simpa using hi1)
    · exact tileV H t 0 2 _ i j (by simpa using hi0) (by simpa [← add_assoc] using hi1)
    · exact tileU H t 0 2 _ _ i j (by simpa using hi0) (by simpa using hi1)
    · exact tileV H t 1 1 _ i j (by simpa using hi0) (by simpa [← add_assoc] using hi1)
    · exact tileU H t 1 1 _ _ i j (by simpa using hi0) (by simpa using hi1)
    · exact tileV H t 0 1 _ i j (by simpa using hi0) (by simpa [← add_assoc] using hi1)
    · exact tileU H t 0 1 _ _ i j (by simpa using hi0) (by simpa using hi1)
    · exact tileV H t 1 0 _ i j (by simpa using hi0) (by simpa [← add_assoc] using hi1)
    · exact tileU H t 1 0 _ _ i j (by simpa using hi0) (by simpa using hi1)
    · exact tileV H t 0 0 _ i j (by simpa using hi0) (by simpa [← add_assoc] using hi1)
    · exact tileU H t 0 0 _ _ i j (by simpa using hi0) (by simpa using hi1)

/-- The input's gradient's array after the run. -/
theorem arr5 : (dats m 0 c).arrAt 5 cfg0.N
    = fun i : S4096x1024.Idx => ((gradP X Y w b (i 0) (i 1) : ℝ) : EReal) := by
  refine (dats m 0 c).arrAt_eq_of_covers 5 _ (by decide +kernel) fun t hf y => ?_
  blk_simp
  rw [after0_5]
  refine (out5 H t y).trans ?_
  congr 2 <;> apply Fin.ext <;> blk_simp [idx t, trow]
  exact congrArg (· + (y 0).val) (Nat.mul_comm 256 t.val)

end Blocks

end Cert.Gating

end
-- ==== Proof.Tiles.lean ====
/-
  What a list of tile stores, each adding to what it finds, leaves in the two weights' gradients' buffers.
-/
module

public import proofs.«01_k».proof.Proof.Block

@[expose] public section

set_option maxRecDepth 16384

noncomputable section

namespace Cert.Gating

open Idealize.ShloMosaic Idealize.ShloMosaic.TcCoe Idealize.SL.Sem
open Cert.KernelIdeal Cert.KernelIdeal.Gen

/-! ## Tiles of 128 columns -/

section Columns

variable {L : List (View.Piece (Elt Ideal) S128x512 .f32)} {p l : Fin 128} {s : EReal}

/-- Where a tile's entry lies. -/
theorem col_emb (g : Fin 4) (h) (p l : Fin 128) :
    (Rect.unit (s := S128x512) ![0, 128 * g.val] ![128, 128] h).emb (ix2 p l) = ix2 p (col g l) := by
  funext a
  apply Fin.ext
  refine (Rect.idx_unit_val _ _ h (ix2 p l) a).trans ?_
  fin_cases a <;> simp [ix2, col]

/-- A store into another tile changes nothing. -/
theorem col_keep (g : Fin 4) {g' : Fin 4} {h} {v} (hne : g ≠ g') (hs : View.canon L (ix2 p (col g' l)) = s) :
    View.canon (⟨Rect.unit (s := S128x512) ![0, 128 * g.val] ![128, 128] h, v⟩ :: L) (ix2 p (col g' l)) = s := by
  rw [View.canon_cons_of_not_mem _ _ fun hy => ?_, hs]
  obtain ⟨x, hx⟩ := (Rect.unit (s := S128x512) ![0, 128 * g.val] ![128, 128] h).exists_idx_of_mem hy
  have h1 := congrArg (fun i : S128x512.Idx => (i 1).val) hx
  have h2 : 128 * g.val + (x 1).val = 128 * g'.val + l.val := (Rect.idx_unit_val _ _ h x 1).symm.trans h1
  have h3 : (x 1).val < 128 := (x 1).isLt
  exact hne (Fin.ext (by omega))

/-- What a store adding to the tile it reads back leaves. -/
theorem col_more (g : Fin 4) {h} {M : View sig .tc .vmem S128x512 .f32} (d : FVec Ideal S128x128 .f32)
    (hs : View.canon L (ix2 p (col g l)) = s) :
    View.canon (⟨Rect.unit (s := S128x512) ![0, 128 * g.val] ![128, 128] h,
      addf (shapeCast S128x128 (M.readCov L (Rect.unit (s := S128x512) ![0, 128 * g.val] ![128, 128] h).toLoadRect)
        shapeCasts_S128x128_S128x128) d⟩ :: L) (ix2 p (col g l)) = s + d (ix2 p l) := by
  have e := View.canon_cons_emb (Rect.unit (s := S128x512) ![0, 128 * g.val] ![128, 128] h)
    (addf (shapeCast S128x128 (M.readCov L (Rect.unit (s := S128x512) ![0, 128 * g.val] ![128, 128] h).toLoadRect)
        shapeCasts_S128x128_S128x128) d) L (ix2 p l)
  rw [col_emb] at e
  rw [e, View.readCov_eq_canon', ← hs]
  pointwise []
  rfl

/-- What a store adding to the tile left before leaves. -/
theorem col_first (g : Fin 4) {h} {v : Vec Ideal S128x512 .f32} (d : FVec Ideal S128x128 .f32) :
    View.canon (⟨Rect.unit (s := S128x512) ![0, 128 * g.val] ![128, 128] h,
      addf (shapeCast S128x128 (View.ld v (Rect.unit (s := S128x512) ![0, 128 * g.val] ![128, 128] h))
        shapeCasts_S128x128_S128x128) d⟩ :: L) (ix2 p (col g l)) = v (ix2 p (col g l)) + d (ix2 p l) := by
  have e := View.canon_cons_emb (Rect.unit (s := S128x512) ![0, 128 * g.val] ![128, 128] h)
    (addf (shapeCast S128x128 (View.ld v (Rect.unit (s := S128x512) ![0, 128 * g.val] ![128, 128] h))
        shapeCasts_S128x128_S128x128) d) L (ix2 p l)
  rw [col_emb] at e
  rw [e]
  pointwise []
  rfl

/-- The whole buffer cleared. -/
theorem col_zero {g : Fin 4} {p l : Fin 128} (h) :
    View.canon (Val := Elt Ideal) (e := .f32) [⟨Rect.unit (s := S128x512) ![0, 0] ![128, 512] h, k0_pay2 (F := Ideal)⟩]
      (ix2 p (col g l)) = (0 : EReal) := by
  have he : (Rect.unit (s := S128x512) ![0, 0] ![128, 512] h).emb (ix2 p (col g l)) = ix2 p (col g l) := by
    funext a
    apply Fin.ext
    refine (Rect.idx_unit_val _ _ h (ix2 p (col g l)) a).trans ?_
    fin_cases a <;> simp
  have e := View.canon_cons_emb (Val := Elt Ideal) (e := .f32) (Rect.unit (s := S128x512) ![0, 0] ![128, 512] h) (k0_pay2 (F := Ideal)) [] (ix2 p (col g l))
  rw [he] at e
  rw [e]
  pointwise [k0_pay2]

end Columns

/-! ## Matrices of a stack of four -/

section Stack

variable {L : List (View.Piece (Elt Ideal) S4x128x128 .f32)} {p q : Fin 128} {s : EReal}

/-- Where a matrix's entry lies in the stack. -/
theorem mat_emb (g : Fin 4) (h) (p q : Fin 128) :
    (Rect.unit (s := S4x128x128) ![g.val, 0, 0] ![1, 128, 128] h).emb (ix3 0 p q) = ix3 g p q := by
  funext a
  apply Fin.ext
  refine (Rect.idx_unit_val _ _ h (ix3 0 p q) a).trans ?_
  fin_cases a <;> simp [ix3]

/-- A store into another matrix changes nothing. -/
theorem mat_keep (g : Fin 4) {g' : Fin 4} {h} {v} (hne : g ≠ g') (hs : View.canon L (ix3 g' p q) = s) :
    View.canon (⟨Rect.unit (s := S4x128x128) ![g.val, 0, 0] ![1, 128, 128] h, v⟩ :: L) (ix3 g' p q) = s := by
  rw [View.canon_cons_of_not_mem _ _ fun hy => ?_, hs]
  obtain ⟨x, hx⟩ := (Rect.unit (s := S4x128x128) ![g.val, 0, 0] ![1, 128, 128] h).exists_idx_of_mem hy
  have h1 := congrArg (fun i : S4x128x128.Idx => (i 0).val) hx
  have h2 : g.val + (x 0).val = g'.val := (Rect.idx_unit_val _ _ h x 0).symm.trans h1
  have h3 : (x 0).val < 1 := (x 0).isLt
  exact hne (Fin.ext (by omega))

/-- What a store adding to the matrix it reads back leaves. -/
theorem mat_more (g : Fin 4) {h} {M : View sig .tc .vmem S4x128x128 .f32} (d : FVec Ideal S128x128 .f32)
    (hs : View.canon L (ix3 g p q) = s) :
    View.canon (⟨Rect.unit (s := S4x128x128) ![g.val, 0, 0] ![1, 128, 128] h,
      shapeCast S1x128x128 (addf (shapeCast S128x128
        (M.readCov L (Rect.unit (s := S4x128x128) ![g.val, 0, 0] ![1, 128, 128] h).toLoadRect)
        shapeCasts_S1x128x128_S128x128) d) shapeCasts_S128x128_S1x128x128⟩ :: L) (ix3 g p q) = s + d (ix2 p q) := by
  have e := View.canon_cons_emb (Rect.unit (s := S4x128x128) ![g.val, 0, 0] ![1, 128, 128] h)
    (shapeCast S1x128x128 (addf (shapeCast S128x128
        (M.readCov L (Rect.unit (s := S4x128x128) ![g.val, 0, 0] ![1, 128, 128] h).toLoadRect)
        shapeCasts_S1x128x128_S128x128) d) shapeCasts_S128x128_S1x128x128) L (ix3 0 p q)
  rw [mat_emb] at e
  rw [e, View.readCov_eq_canon', ← hs]
  pointwise []

/-- What a store adding to the matrix left before leaves. -/
theorem mat_first (g : Fin 4) {h} {v : Vec Ideal S4x128x128 .f32} (d : FVec Ideal S128x128 .f32) :
    View.canon (⟨Rect.unit (s := S4x128x128) ![g.val, 0, 0] ![1, 128, 128] h,
      shapeCast S1x128x128 (addf (shapeCast S128x128
        (View.ld v (Rect.unit (s := S4x128x128) ![g.val, 0, 0] ![1, 128, 128] h))
        shapeCasts_S1x128x128_S128x128) d) shapeCasts_S128x128_S1x128x128⟩ :: L) (ix3 g p q)
      = v (ix3 g p q) + d (ix2 p q) := by
  have e := View.canon_cons_emb (Rect.unit (s := S4x128x128) ![g.val, 0, 0] ![1, 128, 128] h)
    (shapeCast S1x128x128 (addf (shapeCast S128x128
        (View.ld v (Rect.unit (s := S4x128x128) ![g.val, 0, 0] ![1, 128, 128] h))
        shapeCasts_S1x128x128_S128x128) d) shapeCasts_S128x128_S1x128x128) L (ix3 0 p q)
  rw [mat_emb] at e
  rw [e]
  pointwise []

/-- The whole stack cleared. -/
theorem mat_zero {g : Fin 4} {p q : Fin 128} (h) :
    View.canon (Val := Elt Ideal) (e := .f32) [⟨Rect.unit (s := S4x128x128) ![0, 0, 0] ![4, 128, 128] h, k0_pay1 (F := Ideal)⟩]
      (ix3 g p q) = (0 : EReal) := by
  have he : (Rect.unit (s := S4x128x128) ![0, 0, 0] ![4, 128, 128] h).emb (ix3 g p q) = ix3 g p q := by
    funext a
    apply Fin.ext
    refine (Rect.idx_unit_val _ _ h (ix3 g p q) a).trans ?_
    fin_cases a <;> simp
  have e := View.canon_cons_emb (Val := Elt Ideal) (e := .f32) (Rect.unit (s := S4x128x128) ![0, 0, 0] ![4, 128, 128] h) (k0_pay1 (F := Ideal)) [] (ix3 g p q)
  rw [he] at e
  rw [e]
  pointwise [k0_pay1]

end Stack

end Cert.Gating

end
-- ==== Proof.Sums.lean ====
/-
  The two weights' gradients: what each grid point adds, and the sums over the grid.
-/
module

public import proofs.«01_k».proof.Proof.Array
public import proofs.«01_k».proof.Proof.Tiles

@[expose] public section

set_option maxRecDepth 16384

noncomputable section

namespace Cert.Gating

open Idealize.ShloMosaic Idealize.ShloMosaic.TcCoe Idealize.SL.Sem
open Cert.KernelIdeal Cert.KernelIdeal.Gen

variable {m : (ℓ : Loc nD τ sig) → Buf (Elt Ideal) ℓ} {c : Dev nD}

/-- The first point clears the bias's gradient and adds its two chunks' shares. -/
theorem first7 (t : Fin cfg0.N) (ht : t.val % 16 = 0) (p l : Fin 128) (g : Fin 4) :
    ((outsAt0 m c t.val t.isLt).2.2 : S128x512.Idx → EReal) (ix2 p (col g l))
      = 0 + dmB 0 g (iblk m c 0 t) (iblk m c 1 t) (ix2 p l) + dmB 1 g (iblk m c 0 t) (iblk m c 1 t) (ix2 p l) := by
  rw [outsAt0_A m c t ht]; frame_out
  fin_cases g
  · exact col_keep 3 (by decide) (col_keep 3 (by decide) (col_keep 2 (by decide) (col_keep 2 (by decide) (col_keep 1 (by decide) (col_keep 1 (by decide) (col_more 0 (dmB 1 0 _ _) (col_more 0 (dmB 0 0 _ _) (col_zero _))))))))
  · exact col_keep 3 (by decide) (col_keep 3 (by decide) (col_keep 2 (by decide) (col_keep 2 (by decide) (col_more 1 (dmB 1 1 _ _) (col_more 1 (dmB 0 1 _ _) (col_keep 0 (by decide) (col_keep 0 (by decide) (col_zero _))))))))
  · exact col_keep 3 (by decide) (col_keep 3 (by decide) (col_more 2 (dmB 1 2 _ _) (col_more 2 (dmB 0 2 _ _) (col_keep 1 (by decide) (col_keep 1 (by decide) (col_keep 0 (by decide) (col_keep 0 (by decide) (col_zero _))))))))
  · exact col_more 3 (dmB 1 3 _ _) (col_more 3 (dmB 0 3 _ _) (col_keep 2 (by decide) (col_keep 2 (by decide) (col_keep 1 (by decide) (col_keep 1 (by decide) (col_keep 0 (by decide) (col_keep 0 (by decide) (col_zero _))))))))

/-- Every later point adds its two chunks' shares to what it finds. -/
theorem later7 (t : Fin cfg0.N) (ht : ¬ t.val % 16 = 0) (p l : Fin 128) (g : Fin 4) :
    ((outsAt0 m c t.val t.isLt).2.2 : S128x512.Idx → EReal) (ix2 p (col g l))
      = ((outsAt0 m c (t.val - 1) (by omega)).2.2 : S128x512.Idx → EReal) (ix2 p (col g l))
        + dmB 0 g (iblk m c 0 t) (iblk m c 1 t) (ix2 p l) + dmB 1 g (iblk m c 0 t) (iblk m c 1 t) (ix2 p l) := by
  rw [outsAt0_B m c t ht]; frame_out
  fin_cases g
  · exact col_keep 3 (by decide) (col_keep 3 (by decide) (col_keep 2 (by decide) (col_keep 2 (by decide) (col_keep 1 (by decide) (col_keep 1 (by decide) (col_more 0 (dmB 1 0 _ _) (col_first 0 (dmB 0 0 _ _))))))))
  · exact col_keep 3 (by decide) (col_keep 3 (by decide) (col_keep 2 (by decide) (col_keep 2 (by decide) (col_more 1 (dmB 1 1 _ _) (col_first 1 (dmB 0 1 _ _))))))
  · exact col_keep 3 (by decide) (col_keep 3 (by decide) (col_more 2 (dmB 1 2 _ _) (col_first 2 (dmB 0 2 _ _))))
  · exact col_more 3 (dmB 1 3 _ _) (col_first 3 (dmB 0 3 _ _))

/-- The first point clears the matrices' gradient and adds its two chunks' shares. -/
theorem first6 (t : Fin cfg0.N) (ht : t.val % 16 = 0) (p q : Fin 128) (g : Fin 4) :
    ((outsAt0 m c t.val t.isLt).2.1 : S4x128x128.Idx → EReal) (ix3 g p q)
      = 0 + dwB 0 g (iblk m c 0 t) (iblk m c 1 t) (ix2 p q) + dwB 1 g (iblk m c 0 t) (iblk m c 1 t) (ix2 p q) := by
  rw [outsAt0_A m c t ht]; frame_out
  fin_cases g
  · exact mat_keep 3 (by decide) (mat_keep 3 (by decide) (mat_keep 2 (by decide) (mat_keep 2 (by decide) (mat_keep 1 (by decide) (mat_keep 1 (by decide) (mat_more 0 (dwB 1 0 _ _) (mat_more 0 (dwB 0 0 _ _) (mat_zero _))))))))
  · exact mat_keep 3 (by decide) (mat_keep 3 (by decide) (mat_keep 2 (by decide) (mat_keep 2 (by decide) (mat_more 1 (dwB 1 1 _ _) (mat_more 1 (dwB 0 1 _ _) (mat_keep 0 (by decide) (mat_keep 0 (by decide) (mat_zero _))))))))
  · exact mat_keep 3 (by decide) (mat_keep 3 (by decide) (mat_more 2 (dwB 1 2 _ _) (mat_more 2 (dwB 0 2 _ _) (mat_keep 1 (by decide) (mat_keep 1 (by decide) (mat_keep 0 (by decide) (mat_keep 0 (by decide) (mat_zero _))))))))
  · exact mat_more 3 (dwB 1 3 _ _) (mat_more 3 (dwB 0 3 _ _) (mat_keep 2 (by decide) (mat_keep 2 (by decide) (mat_keep 1 (by decide) (mat_keep 1 (by decide) (mat_keep 0 (by decide) (mat_keep 0 (by decide) (mat_zero _))))))))

/-- Every later point adds its two chunks' shares to what it finds. -/
theorem later6 (t : Fin cfg0.N) (ht : ¬ t.val % 16 = 0) (p q : Fin 128) (g : Fin 4) :
    ((outsAt0 m c t.val t.isLt).2.1 : S4x128x128.Idx → EReal) (ix3 g p q)
      = ((outsAt0 m c (t.val - 1) (by omega)).2.1 : S4x128x128.Idx → EReal) (ix3 g p q)
        + dwB 0 g (iblk m c 0 t) (iblk m c 1 t) (ix2 p q) + dwB 1 g (iblk m c 0 t) (iblk m c 1 t) (ix2 p q) := by
  rw [outsAt0_B m c t ht]; frame_out
  fin_cases g
  · exact mat_keep 3 (by decide) (mat_keep 3 (by decide) (mat_keep 2 (by decide) (mat_keep 2 (by decide) (mat_keep 1 (by decide) (mat_keep 1 (by decide) (mat_more 0 (dwB 1 0 _ _) (mat_first 0 (dwB 0 0 _ _))))))))
  · exact mat_keep 3 (by decide) (mat_keep 3 (by decide) (mat_keep 2 (by decide) (mat_keep 2 (by decide) (mat_more 1 (dwB 1 1 _ _) (mat_first 1 (dwB 0 1 _ _))))))
  · exact mat_keep 3 (by decide) (mat_keep 3 (by decide) (mat_more 2 (dwB 1 2 _ _) (mat_first 2 (dwB 0 2 _ _))))
  · exact mat_more 3 (dwB 1 3 _ _) (mat_first 3 (dwB 0 3 _ _))

/-- The tile a column lies in, and its place there. -/
def grp (l : Fin 512) : Fin 4 := ⟨l.val / 128, by omega⟩
def lane (l : Fin 512) : Fin 128 := ⟨l.val % 128, by omega⟩

theorem col_grp (l : Fin 512) : col (grp l) (lane l) = l := Fin.ext (by simp only [col, grp, lane]; omega)

/-- Two chunks at every grid point are the thirty-two chunks. -/
theorem sum_chunks (f : Fin 32 → ℝ) :
    ∑ t : Fin cfg0.N, (((f (tch t 0) : ℝ) : EReal) + ((f (tch t 1) : ℝ) : EReal)) = ((∑ M, f M : ℝ) : EReal) := by
  have h : ∑ t : Fin 16, ∑ k : Fin 2, f ⟨t.val * 2 + k.val, by omega⟩ = ∑ M, f M := Fin.sum_mul_add_fin 16 2 f
  rw [← h, ← coe_sum]
  refine Finset.sum_congr rfl fun t _ => ?_
  rw [Fin.sum_univ_two, EReal.coe_add]
  congr 3 <;> exact Fin.ext (congrArg (· + _) (Nat.mul_comm 2 t.val))

section Totals

variable {X Y : Fin 4096 → Fin 1024 → ℝ} {w : Fin 4 → Fin 128 → Fin 128 → ℝ} {b : Fin 4 → Fin 128 → ℝ}
  (H : Reals m c X Y w b)
include H

/-- A chunk's share of the bias's gradient, in real numbers. -/
theorem share7 (t : Fin cfg0.N) (k : Fin 2) (g : Fin 4) (p l : Fin 128) :
    dmB k g (iblk m c 0 t) (iblk m c 1 t) (ix2 p l) = ((dm (chX X (tch t k)) (chY Y (tch t k)) g p l : ℝ) : EReal) := by
  rw [dmB_apply (blk_x H t) (blk_y H t)]
  simp only [trow_brow]
  rfl

/-- A chunk's share of the matrices' gradient, in real numbers. -/
theorem share6 (t : Fin cfg0.N) (k : Fin 2) (g : Fin 4) (p q : Fin 128) :
    dwB k g (iblk m c 0 t) (iblk m c 1 t) (ix2 p q) = ((dw (chX X (tch t k)) (chY Y (tch t k)) g p q : ℝ) : EReal) := by
  rw [dwB_apply (blk_x H t) (blk_y H t)]
  simp only [trow_brow]
  rfl

/-- The bias's gradient's array after the run. -/
theorem arr7 : (dats m 0 c).arrAt 7 cfg0.N
    = fun i : S128x512.Idx => ((gradB X Y (i 0) (grp (i 1)) (lane (i 1)) : ℝ) : EReal) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => (0 : EReal))
    (fun t j => ((dm (chX X (tch t 0)) (chY Y (tch t 0)) (grp (j 1)) (j 0) (lane (j 1)) : ℝ) : EReal)
      + ((dm (chX X (tch t 1)) (chY Y (tch t 1)) (grp (j 1)) (j 0) (lane (j 1)) : ℝ) : EReal)) ?_ ?_ (le_of_eq N_0) t0_15 rfl j, zero_add]
  · exact sum_chunks fun M => dm (chX X M) (chY Y M) (grp (j 1)) (j 0) (lane (j 1))
  · intro t ht j
    obtain ⟨p, l, rfl⟩ : ∃ p l, j = ix2 p l := ⟨j 0, j 1, by funext a; fin_cases a <;> rfl⟩
    have h := first7 (m := m) (c := c) t ht p (lane l) (grp l)
    rw [col_grp, share7 H, share7 H, add_assoc] at h
    exact h
  · intro t ht j
    obtain ⟨p, l, rfl⟩ : ∃ p l, j = ix2 p l := ⟨j 0, j 1, by funext a; fin_cases a <;> rfl⟩
    have h := later7 (m := m) (c := c) t ht p (lane l) (grp l)
    rw [col_grp, share7 H, share7 H, add_assoc] at h
    exact h

/-- The matrices' gradient's array after the run. -/
theorem arr6 : (dats m 0 c).arrAt 6 cfg0.N
    = fun i : S4x128x128.Idx => ((gradW X Y (i 0) (i 1) (i 2) : ℝ) : EReal) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => (0 : EReal))
    (fun t j => ((dw (chX X (tch t 0)) (chY Y (tch t 0)) (j 0) (j 1) (j 2) : ℝ) : EReal)
      + ((dw (chX X (tch t 1)) (chY Y (tch t 1)) (j 0) (j 1) (j 2) : ℝ) : EReal)) ?_ ?_ (le_of_eq N_0) t0_15 rfl j, zero_add]
  · exact sum_chunks fun M => dw (chX X M) (chY Y M) (j 0) (j 1) (j 2)
  · intro t ht j
    obtain ⟨g, p, q, rfl⟩ : ∃ g p q, j = ix3 g p q := ⟨j 0, j 1, j 2, by funext a; fin_cases a <;> rfl⟩
    have h := first6 (m := m) (c := c) t ht p q g
    rw [share6 H, share6 H, add_assoc] at h
    exact h
  · intro t ht j
    obtain ⟨g, p, q, rfl⟩ : ∃ g p q, j = ix3 g p q := ⟨j 0, j 1, j 2, by funext a; fin_cases a <;> rfl⟩
    have h := later6 (m := m) (c := c) t ht p q g
    rw [share6 H, share6 H, add_assoc] at h
    exact h

end Totals

end Cert.Gating

end
-- ==== Proof.Ref.lean ====
/-
  The reference's stages, one by one, in real numbers.
-/
module

public import proofs.«01_k».proof.Proof.Gen.ReferenceIdeal.Run
public import Idealize.ShloMosaic.Lib.Pointwise
public import proofs.«01_k».proof.Proof.Consts

@[expose] public section

set_option maxRecDepth 16384

noncomputable section

namespace Cert.Gating

open Idealize.ShloMosaic Idealize.ShloMosaic.TcCoe Idealize.SL.Sem Idealize.ShloMosaic.StableHlo
open Cert.ReferenceIdeal Cert.ReferenceIdeal.Gen Cert.ReferenceIdeal.Value

theorem row_of (M : Fin 32) (p : Fin 128) (h) : (⟨M.val * 128 + p.val, h⟩ : Fin 4096) = row M p :=
  Fin.ext (by simp only [row]; omega)
theorem colU_of (g : Fin 4) (c : Fin 128) (h) : (⟨g.val * 128 + c.val, h⟩ : Fin 1024) = colU g c :=
  Fin.ext (by simp only [colU]; omega)
theorem colV_of (g : Fin 4) (c : Fin 128) (h) : (⟨512 + (g.val * 128 + c.val), h⟩ : Fin 1024) = colV g c :=
  Fin.ext (by simp only [colV]; omega)
theorem row_div (M : Fin 32) (p : Fin 128) (h) : (⟨(row M p).val / 128, h⟩ : Fin 32) = M :=
  Fin.ext (by simp only [row]; omega)
theorem row_mod (M : Fin 32) (p : Fin 128) (h) : (⟨(row M p).val % 128, h⟩ : Fin 128) = p :=
  Fin.ext (by simp only [row]; omega)
theorem col_div (g : Fin 4) (c : Fin 128) (h) : (⟨(col g c).val / 128, h⟩ : Fin 4) = g :=
  Fin.ext (by simp only [col]; omega)
theorem col_mod (g : Fin 4) (c : Fin 128) (h) : (⟨(col g c).val % 128, h⟩ : Fin 128) = c :=
  Fin.ext (by simp only [col]; omega)

variable (V0 : Valuation τ sig (Elt Ideal))

/-- The four arguments' entries are the real numbers `X`, `Y`, `w`, `b`. -/
structure RefReals (X Y : Fin 4096 → Fin 1024 → ℝ) (w : Fin 4 → Fin 128 → Fin 128 → ℝ) (b : Fin 4 → Fin 128 → ℝ) : Prop where
  x : ∀ r l, (V0 (Proc.devRef .tc main_arg0) : S4096x1024.Idx → EReal) (ix2 r l) = ((X r l : ℝ) : EReal)
  y : ∀ r l, (V0 (Proc.devRef .tc main_arg1) : S4096x1024.Idx → EReal) (ix2 r l) = ((Y r l : ℝ) : EReal)
  w : ∀ g p q, (V0 (Proc.devRef .tc main_arg2) : S4x128x128.Idx → EReal) (ix3 g p q) = ((w g p q : ℝ) : EReal)
  b : ∀ g p, (V0 (Proc.devRef .tc main_arg3) : S4x128.Idx → EReal) (ix2 g p) = ((b g p : ℝ) : EReal)

variable {V0} {X Y : Fin 4096 → Fin 1024 → ℝ} {w : Fin 4 → Fin 128 → Fin 128 → ℝ} {b : Fin 4 → Fin 128 → ℝ}
  (H : RefReals V0 X Y w b)
include H

/-- The input's first half. -/
theorem v3_apply (r : Fin 4096) (l : Fin 512) :
    res_main_v3 V0 (ix2 r l) = ((X r ⟨l.val, by omega⟩ : ℝ) : EReal) := by
  rw [← H.x]
  pointwise [res_main_v3]

/-- The input's second half. -/
theorem v4_apply (r : Fin 4096) (l : Fin 512) :
    res_main_v4 V0 (ix2 r l) = ((X r ⟨512 + l.val, by omega⟩ : ℝ) : EReal) := by
  rw [← H.x]
  pointwise [res_main_v4]

/-- The first half's tanh. -/
theorem v16_apply (r : Fin 4096) (l : Fin 512) :
    res_main_v16 V0 (ix2 r l) = ((th (X r ⟨l.val, by omega⟩) : ℝ) : EReal) := by
  pointwise [res_main_v16, res_main_v5]
  simp only [v3_apply H, word_C, div_A, ← EReal.coe_mul, ← EReal.coe_add, Ideal.tanh_coe]
  rfl

/-- The second half's tanh. -/
theorem v38_apply (r : Fin 4096) (l : Fin 512) :
    res_main_v38 V0 (ix2 r l) = ((th (X r ⟨512 + l.val, by omega⟩) : ℝ) : EReal) := by
  pointwise [res_main_v38, res_main_v27]
  simp only [v4_apply H, word_C, div_A, ← EReal.coe_mul, ← EReal.coe_add, Ideal.tanh_coe]
  rfl

/-- The first half's factor of GELU. -/
theorem v25_apply (r : Fin 4096) (l : Fin 512) :
    res_main_v25 V0 (ix2 r l) = ((1 / 2 * (1 + th (X r ⟨l.val, by omega⟩)) : ℝ) : EReal) := by
  pointwise [res_main_v25]
  simp only [v16_apply H, word_half, word_one, ← EReal.coe_one, ← EReal.coe_mul, ← EReal.coe_add]

/-- The second half's factor of GELU. -/
theorem v47_apply (r : Fin 4096) (l : Fin 512) :
    res_main_v47 V0 (ix2 r l) = ((1 / 2 * (1 + th (X r ⟨512 + l.val, by omega⟩)) : ℝ) : EReal) := by
  pointwise [res_main_v47]
  simp only [v38_apply H, word_half, word_one, ← EReal.coe_one, ← EReal.coe_mul, ← EReal.coe_add]

/-- The second half after GELU. -/
theorem v49_apply (M : Fin 32) (p : Fin 128) (g : Fin 4) (c : Fin 128) :
    res_main_v49 V0 (ix4 M p g c) = ((gv (chX X M) g p c : ℝ) : EReal) := by
  pointwise [res_main_v49]
  simp only [v4_apply H, v47_apply H, row_of, colV_of, ← EReal.coe_mul]
  exact congrArg _ (by rw [gv, gelu, chX]; ring)

/-- The first half after GELU. -/
theorem v78_apply (M : Fin 32) (p : Fin 128) (g : Fin 4) (c : Fin 128) :
    res_main_v78 V0 (ix4 M p g c) = ((gelu (chX X M p (colU g c)) : ℝ) : EReal) := by
  pointwise [res_main_v78]
  simp only [v3_apply H, v25_apply H, row_of, colU_of, ← EReal.coe_mul]
  exact congrArg _ (by rw [gelu, chX]; ring)

/-- The incoming gradient. -/
theorem v82_apply (M : Fin 32) (p : Fin 128) (g : Fin 4) (c : Fin 128) :
    res_main_v82 V0 (ix4 M p g c) = ((chY Y M p (col g c) : ℝ) : EReal) := by
  pointwise [res_main_v82]
  simp only [H.y, row_of, colV_of]
  rfl

/-- The mean. -/
theorem v53_apply (M : Fin 32) (p : Fin 128) (g : Fin 4) :
    res_main_v53 V0 (ix4 M p g 0) = ((mean (gv (chX X M) g p) : ℝ) : EReal) := by
  pointwise [res_main_v53]
  simp only [v49_apply H, word_128, coe_sum]
  rw [div_real _ _ (by norm_num)]
  rfl

/-- The centred half. -/
theorem v55_apply (M : Fin 32) (p : Fin 128) (g : Fin 4) (c : Fin 128) :
    res_main_v55 V0 (ix4 M p g c) = ((cen (gv (chX X M) g p) c : ℝ) : EReal) := by
  pointwise [res_main_v55]
  rw [v49_apply H, v53_apply H, ← EReal.coe_sub]
  rfl

/-- The centred half again. -/
theorem v64_apply (M : Fin 32) (p : Fin 128) (g : Fin 4) (c : Fin 128) :
    res_main_v64 V0 (ix4 M p g c) = ((cen (gv (chX X M) g p) c : ℝ) : EReal) := v55_apply H M p g c

/-- The variance. -/
theorem v66_apply (M : Fin 32) (p : Fin 128) (g : Fin 4) :
    res_main_v66 V0 (ix4 M p g 0) = ((vare (gv (chX X M) g p) : ℝ) : EReal) := by
  pointwise [res_main_v66]
  simp only [v55_apply H, word_128, word_eps, ← EReal.coe_mul, coe_sum]
  rw [div_real _ _ (by norm_num), ← EReal.coe_add]
  rfl

/-- One over the standard deviation. -/
theorem v67_apply (M : Fin 32) (p : Fin 128) (g : Fin 4) :
    res_main_v67 V0 (ix4 M p g 0) = ((rs (gv (chX X M) g p) : ℝ) : EReal) := by
  pointwise [res_main_v67]
  rw [v66_apply H]
  exact rsqrt_vare _

/-- The normalised half. -/
theorem v72_apply (M : Fin 32) (p : Fin 128) (g : Fin 4) (c : Fin 128) :
    res_main_v72 V0 (ix4 M p g c) = ((vn (chX X M) g p c : ℝ) : EReal) := by
  pointwise [res_main_v72]
  rw [v64_apply H, v67_apply H, ← EReal.coe_mul]
  rfl

/-- The mixed rows. -/
theorem v77_apply (M : Fin 32) (p : Fin 128) (g : Fin 4) (c : Fin 128) :
    res_main_v77 V0 (ix4 M p g c) = ((mix (chX X M) w b g p c : ℝ) : EReal) := by
  pointwise [res_main_v77]
  simp only [v72_apply H, H.w, H.b, ← EReal.coe_mul, coe_sum, ← EReal.coe_add]
  simp only [mul_comm, mix]

/-- The gradient at the mixed rows. -/
theorem v83_apply (M : Fin 32) (p : Fin 128) (g : Fin 4) (c : Fin 128) :
    res_main_v83 V0 (ix4 M p g c) = ((dm (chX X M) (chY Y M) g p c : ℝ) : EReal) := by
  pointwise [res_main_v83]
  rw [v78_apply H, v82_apply H, ← EReal.coe_mul, mul_comm]
  rfl

/-- The gradient at the normalised rows. -/
theorem v92_apply (M : Fin 32) (p : Fin 128) (g : Fin 4) (c : Fin 128) :
    res_main_v92 V0 (ix4 M p g c) = ((dvn (chX X M) (chY Y M) w g p c : ℝ) : EReal) := by
  pointwise [res_main_v92, res_main_v89]
  simp only [v83_apply H, H.w, ← EReal.coe_mul, coe_sum]
  simp only [mul_comm, dvn]

/-- The normalisation's gradient through the centred number. -/
theorem v97_apply (M : Fin 32) (p : Fin 128) (g : Fin 4) (c : Fin 128) :
    res_main_v97 V0 (ix4 M p g c) = ((back1 (gv (chX X M) g p) (dvn (chX X M) (chY Y M) w g p) c : ℝ) : EReal) := by
  pointwise [res_main_v97]
  rw [v92_apply H, v67_apply H, ← EReal.coe_mul]
  rfl

/-- The normalisation's gradient through the variance. -/
theorem v106_apply (M : Fin 32) (p : Fin 128) (g : Fin 4) (c : Fin 128) :
    res_main_v106 V0 (ix4 M p g c) = ((back2 (gv (chX X M) g p) (dvn (chX X M) (chY Y M) w g p) c : ℝ) : EReal) := by
  pointwise [res_main_v106]
  rw [Fin.sum_univ_one]
  simp only [v64_apply H, v92_apply H, v55_apply H, v67_apply H, v66_apply H, word_neg_half, word_two, word_128,
    div_real _ _ (vare_pos _).ne', ← EReal.coe_mul, coe_sum]
  rw [div_real _ _ (by norm_num), ← EReal.coe_mul]
  rfl

/-- The gradient at the second half's GELU. -/
theorem v117_apply (M : Fin 32) (p : Fin 128) (g : Fin 4) (c : Fin 128) :
    res_main_v117 V0 (ix2 (row M p) (col g c)) = ((lnb (gv (chX X M) g p) (dvn (chX X M) (chY Y M) w g p) c : ℝ) : EReal) := by
  pointwise [res_main_v117]
  rw [Fin.sum_univ_one]
  simp only [row_div, row_mod, col_div, col_mod, v97_apply H, v106_apply H, word_128, ← EReal.coe_neg, coe_sum, ← EReal.coe_add]
  rw [div_real _ _ (by norm_num), ← EReal.coe_add, back_eq_lnb]

/-- The gradient at the first half's GELU. -/
theorem v85_apply (M : Fin 32) (p : Fin 128) (g : Fin 4) (c : Fin 128) :
    res_main_v85 V0 (ix2 (row M p) (col g c)) = ((chY Y M p (col g c) * mix (chX X M) w b g p c : ℝ) : EReal) := by
  pointwise [res_main_v85]
  simp only [row_div, row_mod, col_div, col_mod, v82_apply H, v77_apply H, ← EReal.coe_mul]

/-- What reaches the first half through the tanh. -/
theorem v136_apply (M : Fin 32) (p : Fin 128) (g : Fin 4) (c : Fin 128) :
    res_main_v136 V0 (ix2 (row M p) (col g c))
      = ((C * (1 / 2 * (chX X M p (colU g c) * (chY Y M p (col g c) * mix (chX X M) w b g p c))
          * ((1 + th (chX X M p (colU g c))) * (1 - th (chX X M p (colU g c))))) : ℝ) : EReal) := by
  pointwise [res_main_v136]
  simp only [v3_apply H, v16_apply H, v85_apply H, word_C, word_half, word_one, ← EReal.coe_one, ← EReal.coe_mul,
    ← EReal.coe_add, ← EReal.coe_sub]
  rfl

/-- What reaches the second half through the tanh. -/
theorem v124_apply (M : Fin 32) (p : Fin 128) (g : Fin 4) (c : Fin 128) :
    res_main_v124 V0 (ix2 (row M p) (col g c))
      = ((C * (1 / 2 * (chX X M p (colV g c) * lnb (gv (chX X M) g p) (dvn (chX X M) (chY Y M) w g p) c)
          * ((1 + th (chX X M p (colV g c))) * (1 - th (chX X M p (colV g c))))) : ℝ) : EReal) := by
  pointwise [res_main_v124]
  simp only [v4_apply H, v38_apply H, v117_apply H, word_C, word_half, word_one, ← EReal.coe_one, ← EReal.coe_mul,
    ← EReal.coe_add, ← EReal.coe_sub]
  rfl

/-! ## The three results -/

/-- The reference's gradient at the input. -/
theorem ref5 : (truncf .bf16 (concatenate S4096x1024 1 [⟨S4096x512, (addf (addf (mulf (res_main_v85 V0) (res_main_v25 V0)) (res_main_v136 V0)) (mulf (mulf (broadcastInDim S4096x512 ![] bcast_S_S4096x512 (res_main_v5 V0)) (res_main_v136 V0)) (mulf (broadcastInDim S4096x512 ![] bcast_S_S4096x512 (constant S_ .f32 0x40400000#32)) (mulf (res_main_v3 V0) (res_main_v3 V0)))))⟩, ⟨S4096x512, (addf (addf (mulf (res_main_v117 V0) (res_main_v47 V0)) (res_main_v124 V0)) (mulf (mulf (broadcastInDim S4096x512 ![] bcast_S_S4096x512 (res_main_v27 V0)) (res_main_v124 V0)) (mulf (broadcastInDim S4096x512 ![] bcast_S_S4096x512 (constant S_ .f32 0x40400000#32)) (mulf (res_main_v4 V0) (res_main_v4 V0)))))⟩] concatenates_S4096x512_S4096x512_S4096x1024_d1 : FVec Ideal S4096x1024 .f32) bitsLt_bf16_f32 : FVec Ideal S4096x1024 .bf16)
    = fun i : S4096x1024.Idx => ((gradP X Y w b (i 0) (i 1) : ℝ) : EReal) := by
  funext i
  obtain ⟨r, l, rfl⟩ : ∃ r l, i = ix2 r l := ⟨i 0, i 1, by funext a; fin_cases a <;> rfl⟩
  obtain ⟨M, p, rfl⟩ : ∃ M p, r = row M p := ⟨⟨r.val / 128, by omega⟩, ⟨r.val % 128, by omega⟩, Fin.ext (by simp only [row]; omega)⟩
  pointwise [res_main_v5, res_main_v27]
  split
  · rename_i h
    obtain ⟨g, c, rfl⟩ : ∃ g c, l = colU g c :=
      ⟨⟨l.val / 128, by omega⟩, ⟨l.val % 128, by omega⟩, Fin.ext (by simp only [colU]; omega)⟩
    have e : (⟨(colU g c).val, h⟩ : Fin 512) = col g c := rfl
    simp only [e, v85_apply H, v25_apply H, v136_apply H, v3_apply H, div_A, word_three, ← EReal.coe_mul, ← EReal.coe_add]
    rw [gradP_U X Y w b M p g c _ _ rfl rfl, outU, ← back_gelu]
    rfl
  · rename_i h
    obtain ⟨g, c, rfl⟩ : ∃ g c, l = colV g c :=
      ⟨⟨(l.val - 512) / 128, by omega⟩, ⟨l.val % 128, by omega⟩, Fin.ext (by simp only [colV]; omega)⟩
    have e (h') : (⟨(colV g c).val - 512, h'⟩ : Fin 512) = col g c := Fin.ext (by simp only [colV, col]; omega)
    simp only [e, v117_apply H, v47_apply H, v124_apply H, v4_apply H, div_A, word_three, ← EReal.coe_mul, ← EReal.coe_add]
    rw [gradP_V X Y w b M p g c _ _ rfl rfl, outV, ← back_gelu]
    rfl

/-- The reference's gradient at the mixing matrices. -/
theorem ref6 : (Host.dotGeneral (φ₁ := .f32) (φ₂ := .f32) dot_S4x32x128x128_S32x128x4x128_S4x128x128_12_03_3_1_0_2 none (res_main_v89 V0) (res_main_v72 V0) : FVec Ideal S4x128x128 .f32)
    = fun i : S4x128x128.Idx => ((gradW X Y (i 0) (i 1) (i 2) : ℝ) : EReal) := by
  funext i
  obtain ⟨g, p, q, rfl⟩ : ∃ g p q, i = ix3 g p q := ⟨i 0, i 1, i 2, by funext a; fin_cases a <;> rfl⟩
  pointwise [res_main_v89]
  simp only [v83_apply H, v72_apply H, ← EReal.coe_mul, coe_sum]
  rfl

/-- The reference's gradient at the bias. -/
theorem ref7 (i : S128x512.Idx) : (shapeCast S128x512 (Host.reduceAdd (shapeCast S1x128x4x128 (Host.reduceAdd (res_main_v83 V0) (constant S_ .f32 0x00000000#32) reducesTo_S32x128x4x128_S128x4x128_d0 h_S_) shapeCasts_S128x4x128_S1x128x4x128) (constant S_ .f32 0x00000000#32) reducesTo_S1x128x4x128_S128x4x128_d0 h_S_) shapeCasts_S128x4x128_S128x512 : FVec Ideal S128x512 .f32) i
    = ((gradB X Y (i 0) ⟨(i 1).val / 128, by have h : (i 1).val < 512 := (i 1).isLt; omega⟩ ⟨(i 1).val % 128, by omega⟩ : ℝ) : EReal) := by
  obtain ⟨p, l, rfl⟩ : ∃ p l, i = ix2 p l := ⟨i 0, i 1, by funext a; fin_cases a <;> rfl⟩
  pointwise []
  rw [Fin.sum_univ_one]
  simp only [v83_apply H, coe_sum]
  rfl

end Cert.Gating

end
-- ==== Proof.Equation.lean ====
/-
  What the precondition says of the arguments, and the equality of the two programs' results.
-/
module

public import proofs.«01_k».proof.Defs
public import proofs.«01_k».proof.Proof.Sums
public import proofs.«01_k».proof.Proof.Ref

@[expose] public section

set_option maxRecDepth 16384

noncomputable section

namespace Cert.Gating

open Idealize.ShloMosaic Idealize.ShloMosaic.TcCoe Idealize.SL.Sem

/-- The side conditions of the precondition's operations. -/
theorem pre_facts : Cert.Pre_finite.Facts := ⟨by decide, by decide, by decide⟩

section

variable [Cert.Pre_finite.Facts]

variable {a0 a1 : FVec Ideal Cert.Pre_finite.S4096x1024 .f32} {a2 : FVec Ideal Cert.Pre_finite.S4x128x128 .f32}
  {a3 : FVec Ideal Cert.Pre_finite.S4x128 .f32}

/-- The first argument is an array of real numbers … -/
theorem real0 (h : (Cert.Pre_finite.fn (F := Ideal) a0 a1 a2 a3).1 = fun _ => 1#1) (i) :
    (a0 i : EReal) = ((EReal.toReal (a0 i) : ℝ) : EReal) := by
  have h0 := congrFun h i
  revert h0
  pointwise [Cert.Pre_finite.fn]
  exact real_of_bit _
/-- … and the second … -/
theorem real1 (h : (Cert.Pre_finite.fn (F := Ideal) a0 a1 a2 a3).2.1 = fun _ => 1#1) (i) :
    (a1 i : EReal) = ((EReal.toReal (a1 i) : ℝ) : EReal) := by
  have h0 := congrFun h i
  revert h0
  pointwise [Cert.Pre_finite.fn]
  exact real_of_bit _
/-- … and the third … -/
theorem real2 (h : (Cert.Pre_finite.fn (F := Ideal) a0 a1 a2 a3).2.2.1 = fun _ => 1#1) (i) :
    (a2 i : EReal) = ((EReal.toReal (a2 i) : ℝ) : EReal) := by
  have h0 := congrFun h i
  revert h0
  pointwise [Cert.Pre_finite.fn]
  exact real_of_bit _
/-- … and the fourth. -/
theorem real3 (h : (Cert.Pre_finite.fn (F := Ideal) a0 a1 a2 a3).2.2.2 = fun _ => 1#1) (i) :
    (a3 i : EReal) = ((EReal.toReal (a3 i) : ℝ) : EReal) := by
  have h0 := congrFun h i
  revert h0
  pointwise [Cert.Pre_finite.fn]
  exact real_of_bit _

/-- The kernel's and the reference's arguments are arrays of the same real numbers. -/
theorem reals (m : (ℓ : Loc Cert.KernelIdeal.nD Cert.KernelIdeal.τ Cert.KernelIdeal.sig) → Buf (Elt Ideal) ℓ)
    (hp : Cert.Pre_KernelIdeal m) (c : Dev Cert.KernelIdeal.nD) :
    ∃ X Y w b, Reals m c X Y w b := by
  obtain ⟨h0, h1, h2, h3⟩ := hp c
  exact ⟨_, _, _, _, fun r l => real0 h0 (ix2 r l), fun r l => real1 h1 (ix2 r l), fun g p q => real2 h2 (ix3 g p q),
    fun g p => real3 h3 (ix2 g p)⟩

/-- The reference's arguments are the kernel's, so they are the same real numbers. -/
theorem refReals {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD} {X Y w b} (H : Reals m c X Y w b)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    RefReals (StableHlo.launchContents m' c) X Y w b :=
  ⟨fun r l => (congrFun e.1 (ix2 r l)).trans (H.x r l), fun r l => (congrFun e.2.1 (ix2 r l)).trans (H.y r l),
    fun g p q => (congrFun e.2.2.1 (ix3 g p q)).trans (H.w g p q), fun g p => (congrFun e.2.2.2 (ix2 g p)).trans (H.b g p)⟩

end

/-- The two programs, from the same finite arguments, end with the same gradients. -/
theorem equation [Cert.Pre_finite.Facts] : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    · obtain ⟨X, Y, w, b, H⟩ := reals m hpre c
      exact (ref5 (refReals H (hagree c))).trans (arr5 H).symm
    · obtain ⟨X, Y, w, b, H⟩ := reals m hpre c
      exact (ref6 (refReals H (hagree c))).trans (arr6 H).symm
    · obtain ⟨X, Y, w, b, H⟩ := reals m hpre c
      exact (funext fun i => ref7 (refReals H (hagree c)) i).trans (arr7 H).symm

end Cert.Gating

end
-- ==== Proof.OutDx.lean ====
/-
  The gradient of `(silu(g) * u) @ w_out` by `g` and `u`: what the kernel leaves in its result array.
-/
module

public import proofs.«01_k».proof.Proof.Gen.FfnOutDxIdeal.Value
public import proofs.«01_k».proof.Proof.Consts
public import Idealize.ShloMosaic.Lib.Pipeline.ValueKit
public import Idealize.ShloMosaic.Lib.Pointwise

@[expose] public section

set_option maxRecDepth 16384

noncomputable section

namespace Cert.OutDx

open Idealize.ShloMosaic Idealize.ShloMosaic.TcCoe Idealize.SL.Sem
open Cert.FfnOutDxIdeal Cert.FfnOutDxIdeal.Gen
open Cert.Gating (word_one div_real coe_sum)

/-- The logistic function. -/
def sg (x : ℝ) : ℝ := 1 / (1 + Real.exp (-x))

theorem sg_den (x : ℝ) : (1 + Real.exp (-x)) ≠ 0 := (add_pos one_pos (Real.exp_pos _)).ne'

/-- The gradient that reaches the product's left factor. -/
def dact (D : Fin 4096 → Fin 1024 → ℝ) (W : Fin 2816 → Fin 1024 → ℝ) (r : Fin 4096) (l : Fin 2816) : ℝ :=
  ∑ k, D r k * W l k

/-- The gradient by the gate (`h = 0`) and by the other half (`h = 1`). -/
def grad (D : Fin 4096 → Fin 1024 → ℝ) (W : Fin 2816 → Fin 1024 → ℝ) (G : Fin 2 → Fin 4096 → Fin 2816 → ℝ)
    (h : Fin 2) (r : Fin 4096) (l : Fin 2816) : ℝ :=
  if h = 0 then dact D W r l * G 1 r l * (sg (G 0 r l) * (1 + G 0 r l * (1 - sg (G 0 r l))))
  else dact D W r l * (G 0 r l * sg (G 0 r l))

variable (m : (ℓ : Loc nD τ sig) → Buf (Elt Ideal) ℓ) (c : Dev nD)

/-- The three arguments' entries are the real numbers `D`, `W`, `G`. -/
structure Reals (D : Fin 4096 → Fin 1024 → ℝ) (W : Fin 2816 → Fin 1024 → ℝ) (G : Fin 2 → Fin 4096 → Fin 2816 → ℝ) : Prop where
  d : ∀ r k, (m ((c : Thread nD τ).loc main_arg0) : S4096x1024.Idx → EReal) (ix2 r k) = ((D r k : ℝ) : EReal)
  w : ∀ l k, (m ((c : Thread nD τ).loc main_arg1) : S2816x1024.Idx → EReal) (ix2 l k) = ((W l k : ℝ) : EReal)
  g : ∀ h r l, (m ((c : Thread nD τ).loc main_arg2) : S2x4096x2816.Idx → EReal) (ix3 h r l) = ((G h r l : ℝ) : EReal)

/-- Where each window's block lies at a grid point. -/
theorem idx : ∀ t : Fin cfg0.N, win0_0.index t 0 = t.val % 4 ∧ win0_0.index t 1 = 0 ∧ win0_1.index t 0 = t.val / 4
    ∧ win0_1.index t 1 = 0 ∧ win0_2.index t 0 = 0 ∧ win0_2.index t 1 = t.val % 4 ∧ win0_2.index t 2 = t.val / 4
    ∧ win0_3.index t 0 = 0 ∧ win0_3.index t 1 = t.val % 4 ∧ win0_3.index t 2 = t.val / 4 :=
  (by decide +kernel : ∀ t : Fin grid0.N, win0_0.index t 0 = t.val % 4 ∧ win0_0.index t 1 = 0 ∧ win0_1.index t 0 = t.val / 4
    ∧ win0_1.index t 1 = 0 ∧ win0_2.index t 0 = 0 ∧ win0_2.index t 1 = t.val % 4 ∧ win0_2.index t 2 = t.val / 4
    ∧ win0_3.index t 0 = 0 ∧ win0_3.index t 1 = t.val % 4 ∧ win0_3.index t 2 = t.val / 4)

/-- Row `r` of the block at point `t`. -/
def trow (t : Fin cfg0.N) (r : Fin 1024) : Fin 4096 := ⟨1024 * (t.val % 4) + r.val, by omega⟩
/-- Column `l` of the block at point `t`. -/
def tcol (t : Fin cfg0.N) (l : Fin 1408) : Fin 2816 :=
  ⟨1408 * (t.val / 4) + l.val, by have := t.isLt; have : cfg0.N = 8 := N_0; omega⟩

section Payloads

variable {x0 : Vec Ideal S1024x1024 .bf16} {x1 : Vec Ideal S1408x1024 .bf16} {x3 x13 : Vec Ideal S1x1024x1408 .bf16}
  {D : Fin 1024 → Fin 1024 → ℝ} {W : Fin 1408 → Fin 1024 → ℝ} {G U : Fin 1024 → Fin 1408 → ℝ}
  (h0 : ∀ r k, x0 (ix2 r k) = ((D r k : ℝ) : EReal)) (h1 : ∀ l k, x1 (ix2 l k) = ((W l k : ℝ) : EReal))
  (h3 : ∀ r l, x3 (ix3 0 r l) = ((G r l : ℝ) : EReal)) (h13 : ∀ r l, x13 (ix3 0 r l) = ((U r l : ℝ) : EReal))

include h0 h1 in
/-- The product of a block. -/
theorem pay1_apply (r : Fin 1024) (l : Fin 1408) : k0_pay1 x0 x1 (ix2 r l) = ((∑ k, D r k * W l k : ℝ) : EReal) := by
  pointwise [k0_pay1]
  simp only [h0, h1, ← EReal.coe_mul, coe_sum, zero_add]

include h3 in
/-- The gate of a block. -/
theorem pay2_apply (r : Fin 1024) (l : Fin 1408) : k0_pay2 x3 (ix2 r l) = ((G r l : ℝ) : EReal) := by
  pointwise [k0_pay2]
  exact h3 r l

include h3 in
/-- Its logistic. -/
theorem pay3_apply (r : Fin 1024) (l : Fin 1408) : k0_pay3 x3 (ix2 r l) = ((sg (G r l) : ℝ) : EReal) := by
  pointwise [k0_pay3]
  rw [pay2_apply h3, ← EReal.coe_zero, ← EReal.coe_sub, zero_sub, Ideal.exp_coe, ← EReal.coe_one, ← EReal.coe_add,
    div_real _ _ (sg_den _)]
  rfl

include h0 h1 h3 h13 in
/-- The gate's gradient of a block. -/
theorem pay4_apply (r : Fin 1024) (l : Fin 1408) : k0_pay4 x0 x1 x3 x13 (ix3 0 r l)
    = (((∑ k, D r k * W l k) * U r l * (sg (G r l) * (1 + G r l * (1 - sg (G r l)))) : ℝ) : EReal) := by
  pointwise [k0_pay4]
  simp only [pay1_apply h0 h1, pay2_apply h3, pay3_apply h3, h13, ← EReal.coe_one, ← EReal.coe_mul, ← EReal.coe_sub, ← EReal.coe_add]

include h0 h1 h3 in
/-- The other half's gradient of a block. -/
theorem pay5_apply (r : Fin 1024) (l : Fin 1408) : k0_pay5 x0 x1 x3 (ix3 0 r l)
    = (((∑ k, D r k * W l k) * (G r l * sg (G r l)) : ℝ) : EReal) := by
  pointwise [k0_pay5]
  simp only [pay1_apply h0 h1, pay2_apply h3, pay3_apply h3, ← EReal.coe_mul]

end Payloads

variable {m c} {D : Fin 4096 → Fin 1024 → ℝ} {W : Fin 2816 → Fin 1024 → ℝ} {G : Fin 2 → Fin 4096 → Fin 2816 → ℝ}
  (H : Reals m c D W G)
include H

/-- The incoming gradient's block. -/
theorem blk_d (t : Fin cfg0.N) (r : Fin 1024) (k : Fin 1024) :
    (iblk m c 0 t : S1024x1024.Idx → EReal) (ix2 r k) = ((D (trow t r) k : ℝ) : EReal) := by
  rw [← H.d]
  blk_point [iblk, V, idx t, trow]

/-- The weight's block. -/
theorem blk_w (t : Fin cfg0.N) (l : Fin 1408) (k : Fin 1024) :
    (iblk m c 1 t : S1408x1024.Idx → EReal) (ix2 l k) = ((W (tcol t l) k : ℝ) : EReal) := by
  rw [← H.w]
  blk_point [iblk, V, idx t, tcol]

/-- The saved halves' block. -/
theorem blk_g (t : Fin cfg0.N) (h : Fin 2) (r : Fin 1024) (l : Fin 1408) :
    (iblk m c 2 t : S2x1024x1408.Idx → EReal) (ix3 h r l) = ((G h (trow t r) (tcol t l) : ℝ) : EReal) := by
  rw [← H.g]
  blk_point [iblk, V, idx t, trow, tcol]

/-- One half of it, as loaded. -/
theorem ld_g (t : Fin cfg0.N) (h : Fin 2) (hh) (r : Fin 1024) (l : Fin 1408) :
    View.ld (iblk m c 2 t : S2x1024x1408.Idx → EReal) (Rect.unit ![h.val, 0, 0] ![1, 1024, 1408] hh) (ix3 0 r l)
      = ((G h (trow t r) (tcol t l) : ℝ) : EReal) := by
  rw [View.ld_unit_apply_of _ _ _ _ _ (ix3 h r l) (by intro a; fin_cases a <;> simp [ix3]), blk_g H]

/-- What a grid point leaves in the result's block. -/
theorem out3 (t : Fin cfg0.N) (j : S2x1024x1408.Idx) :
    out0_3 (iblk m c 0 t) (iblk m c 1 t) (iblk m c 2 t) j
      = ((grad D W G (j 0) (trow t (j 1)) (tcol t (j 2)) : ℝ) : EReal) := by
  frame_out
  canon_tiles i hi
  · obtain ⟨z, r, l, rfl⟩ : ∃ z r l, i = ix3 z r l := ⟨i 0, i 1, i 2, by funext a; fin_cases a <;> rfl⟩
    obtain rfl : z = 0 := Subsingleton.elim _ _
    obtain rfl : j = ix3 1 r l := by
      funext a; fin_cases a
      · exact Fin.ext hi0
      · exact Fin.ext hi1
      · exact Fin.ext hi2
    exact pay5_apply (blk_d H t) (blk_w H t) (ld_g H t 0 _) r l
  · obtain ⟨z, r, l, rfl⟩ : ∃ z r l, i = ix3 z r l := ⟨i 0, i 1, i 2, by funext a; fin_cases a <;> rfl⟩
    obtain rfl : z = 0 := Subsingleton.elim _ _
    obtain rfl : j = ix3 0 r l := by
      funext a; fin_cases a
      · exact Fin.ext hi0
      · exact Fin.ext hi1
      · exact Fin.ext hi2
    exact pay4_apply (blk_d H t) (blk_w H t) (ld_g H t 0 _) (ld_g H t 1 _) r l

/-- The result array after the run. -/
theorem arr : (dats m 0 c).arrAt 3 cfg0.N
    = fun i : S2x4096x2816.Idx => ((grad D W G (i 0) (i 1) (i 2) : ℝ) : EReal) := by
  refine (dats m 0 c).arrAt_eq_of_covers 3 _ (by decide +kernel) fun t hf y => ?_
  blk_simp
  rw [after0_3]
  refine (out3 H t y).trans ?_
  congr 2 <;> apply Fin.ext <;> blk_simp [idx t, trow, tcol]
  · exact congrArg (· + (y 1).val) (Nat.mul_comm 1024 (t.val % 4))
  · exact congrArg (· + (y 2).val) (Nat.mul_comm 1408 (t.val / 4))

end Cert.OutDx

end
-- ==== Proof.OutDxRef.lean ====
/-
  The gradient of `(silu(g) * u) @ w_out` by `g` and `u`: the reference's result, and its equality with the kernel's.
-/
module

public import proofs.«01_k».proof.Defs
public import proofs.«01_k».proof.Proof.OutDx
public import proofs.«01_k».proof.Proof.Gen.FfnOutDxRefIdeal.Run

@[expose] public section

set_option maxRecDepth 16384

noncomputable section

namespace Cert.OutDx

open Idealize.ShloMosaic Idealize.ShloMosaic.TcCoe Idealize.SL.Sem
open Cert.FfnOutDxIdeal (S4096x1024 S2816x1024 S2x4096x2816)
open Cert.Gating (word_one div_real coe_sum real_of_bit)

/-- The side conditions of the precondition's operations. -/
theorem pre_facts : Cert.Pre_ffn_out_dx_finite.Facts := ⟨by decide, by decide, by decide, by decide⟩

section

variable [Cert.Pre_ffn_out_dx_finite.Facts]

variable {a0 : FVec Ideal Cert.Pre_ffn_out_dx_finite.S4096x1024 .bf16} {a1 : FVec Ideal Cert.Pre_ffn_out_dx_finite.S2816x1024 .bf16}
  {a2 : FVec Ideal Cert.Pre_ffn_out_dx_finite.S2x4096x2816 .bf16}

/-- The first argument is an array of real numbers … -/
theorem real0 (h : (Cert.Pre_ffn_out_dx_finite.fn (F := Ideal) a0 a1 a2).1 = fun _ => 1#1) (i) :
    (a0 i : EReal) = ((EReal.toReal (a0 i) : ℝ) : EReal) := by
  have h0 := congrFun h i
  revert h0
  pointwise [Cert.Pre_ffn_out_dx_finite.fn]
  exact real_of_bit _
/-- … and the second … -/
theorem real1 (h : (Cert.Pre_ffn_out_dx_finite.fn (F := Ideal) a0 a1 a2).2.1 = fun _ => 1#1) (i) :
    (a1 i : EReal) = ((EReal.toReal (a1 i) : ℝ) : EReal) := by
  have h0 := congrFun h i
  revert h0
  pointwise [Cert.Pre_ffn_out_dx_finite.fn]
  exact real_of_bit _
/-- … and the third. -/
theorem real2 (h : (Cert.Pre_ffn_out_dx_finite.fn (F := Ideal) a0 a1 a2).2.2 = fun _ => 1#1) (i) :
    (a2 i : EReal) = ((EReal.toReal (a2 i) : ℝ) : EReal) := by
  have h0 := congrFun h i
  revert h0
  pointwise [Cert.Pre_ffn_out_dx_finite.fn]
  exact real_of_bit _

/-- The kernel's arguments are arrays of real numbers. -/
theorem reals (m : (ℓ : Loc Cert.FfnOutDxIdeal.nD Cert.FfnOutDxIdeal.τ Cert.FfnOutDxIdeal.sig) → Buf (Elt Ideal) ℓ)
    (hp : Cert.Pre_FfnOutDxIdeal m) (c : Dev Cert.FfnOutDxIdeal.nD) : ∃ D W G, Reals m c D W G := by
  obtain ⟨h0, h1, h2⟩ := hp c
  exact ⟨_, _, _, fun r l => real0 h0 (ix2 r l), fun r l => real1 h1 (ix2 r l), fun g p q => real2 h2 (ix3 g p q)⟩

end

/-- The reference's logistic. -/
theorem logistic (x : ℝ) : Ideal.div 1 (1 + Ideal.exp (-(x : EReal))) = ((sg x : ℝ) : EReal) := by
  rw [← EReal.coe_neg, Ideal.exp_coe, ← EReal.coe_one, ← EReal.coe_add, div_real _ _ (sg_den _)]
  rfl

/-- The two programs, from the same finite arguments, end with the same gradients. -/
theorem equation [Cert.Pre_ffn_out_dx_finite.Facts] : Cert.algebraic_FfnOutDxIdeal_FfnOutDxRefIdeal (hFfnOutDxIdeal := Cert.FfnOutDxIdeal.Gen.facts)
    (hFfnOutDxRefIdeal := Cert.FfnOutDxRefIdeal.Gen.facts) := by
  pair_intro
  · run_from Cert.FfnOutDxIdeal.Value.run_blocks m g
  · run_from Cert.FfnOutDxRefIdeal.Value.run m' g'
    obtain ⟨D, W, G, H⟩ := reals m hpre c
    rw [arr H]
    have hd : ∀ r k, (m' ((c.tc : Thread Cert.FfnOutDxRefIdeal.nD Cert.FfnOutDxRefIdeal.τ).loc Cert.FfnOutDxRefIdeal.main_arg0)
        : S4096x1024.Idx → EReal) (ix2 r k) = ((D r k : ℝ) : EReal) :=
      fun r k => (congrFun (hagree c).1 _).trans (H.d r k)
    have hw : ∀ l k, (m' ((c.tc : Thread Cert.FfnOutDxRefIdeal.nD Cert.FfnOutDxRefIdeal.τ).loc Cert.FfnOutDxRefIdeal.main_arg1)
        : S2816x1024.Idx → EReal) (ix2 l k) = ((W l k : ℝ) : EReal) :=
      fun l k => (congrFun (hagree c).2.1 _).trans (H.w l k)
    have hg : ∀ h r l, (m' ((c.tc : Thread Cert.FfnOutDxRefIdeal.nD Cert.FfnOutDxRefIdeal.τ).loc Cert.FfnOutDxRefIdeal.main_arg2)
        : S2x4096x2816.Idx → EReal) (ix3 h r l) = ((G h r l : ℝ) : EReal) :=
      fun h r l => (congrFun (hagree c).2.2 _).trans (H.g h r l)
    have hd' := H.d
    have hw' := H.w
    funext i
    obtain ⟨h, r, l, rfl⟩ : ∃ h r l, i = ix3 h r l := ⟨i 0, i 1, i 2, by funext a; fin_cases a <;> rfl⟩
    refine Eq.trans (b := ((grad D W G h r l : ℝ) : EReal)) ?_ rfl
    pointwise []
    simp only [hd, hw, hg, hd', hw', logistic]
    simp only [← EReal.coe_one, ← EReal.coe_mul, ← EReal.coe_sub, ← EReal.coe_add, coe_sum]
    fin_cases h
    · rw [dif_pos (by decide)]
      refine congrArg Real.toEReal ?_
      show _ = dact D W r l * G 1 r l * (sg (G 0 r l) * (1 + G 0 r l * (1 - sg (G 0 r l))))
      rw [dact]
      ring
    · rw [dif_neg (by decide)]
      refine congrArg Real.toEReal ?_
      show _ = dact D W r l * (G 0 r l * sg (G 0 r l))
      rw [dact]
      ring

end Cert.OutDx

end
-- ==== Proof.Cols.lean ====
/-
  Two halves of 2816 columns as four blocks of 1408.
-/
module

public import Mathlib.Data.Fin.Basic

@[expose] public section

namespace Cert.Cols

/-- The half that block `q` of the columns lies in … -/
def hf (q : Fin 4) : Fin 2 := ⟨q.val / 2, by omega⟩
/-- … and column `l` of the block there. -/
def cl (q : Fin 4) (l : Fin 1408) : Fin 2816 := ⟨1408 * (q.val % 2) + l.val, by omega⟩

/-- A column of the two halves side by side, counted by blocks. -/
theorem halves {α : Type} (f : Fin 2 → Fin 2816 → α) (q : Fin 4) (l : Fin 1408) (h2 : ¬q.val * 1408 + l.val < 2816 → q.val * 1408 + l.val - 2816 < 2816) :
    (if h : q.val * 1408 + l.val < 2816 then f 0 ⟨q.val * 1408 + l.val, h⟩ else f 1 ⟨q.val * 1408 + l.val - 2816, h2 h⟩)
      = f (hf q) (cl q l) := by
  split
  · rename_i h
    have e0 : (0 : Fin 2) = hf q := Fin.ext (by show 0 = q.val / 2; omega)
    have e1 : (⟨q.val * 1408 + l.val, h⟩ : Fin 2816) = cl q l := Fin.ext (by show q.val * 1408 + l.val = 1408 * (q.val % 2) + l.val; omega)
    rw [← e0, ← e1]
  · rename_i h
    have e0 : (1 : Fin 2) = hf q := Fin.ext (by show 1 = q.val / 2; omega)
    have e1 : (⟨q.val * 1408 + l.val - 2816, h2 h⟩ : Fin 2816) = cl q l :=
      Fin.ext (by show q.val * 1408 + l.val - 2816 = 1408 * (q.val % 2) + l.val; omega)
    rw [← e0, ← e1]

end Cert.Cols
-- ==== Proof.InDxMaths.lean ====
/-
  The gradient of `(g * x / rms(x) * (1 + sc)) @ w_in` over the extended reals, one row at a time. Nothing here mentions a
  program.
-/
module

public import proofs.«01_k».proof.Proof.Consts
public import proofs.«01_k».proof.Proof.Cols

@[expose] public section

noncomputable section

namespace Cert.InDx

open Idealize.ShloMosaic
open Cert.Gating (eps eps_pos div_real)
open Cert.Cols

/-- The word of 1024, the length of a mean. -/
theorem word_1024 : Ideal.ofBits .f32 0x44800000#32 = ((1024 : ℝ) : EReal) := by
  simp [Ideal.ofBits, Ideal.ieee, -EReal.coe_mul]; norm_num

/-- A sum of extended reals times a finite number that is not negative. -/
theorem sum_mul_coe {n : ℕ} (f : Fin n → EReal) {r : ℝ} (hr : 0 ≤ r) : (∑ j, f j) * (r : EReal) = ∑ j, f j * (r : EReal) := by
  induction n with
  | zero => simp
  | succ n ih =>
    rw [Fin.sum_univ_succ, Fin.sum_univ_succ, ← ih,
      EReal.right_distrib_of_nonneg_of_ne_top (EReal.coe_nonneg.mpr hr) (EReal.coe_ne_top r)]

/-- A square is not negative. -/
theorem sq_nonneg (x : EReal) : 0 ≤ x * x := by
  induction x with
  | bot => simp
  | top => simp
  | coe x => exact_mod_cast mul_self_nonneg x

/-- Twice a product with half a negative number. -/
theorem twice (T : EReal) {p : ℝ} (hp : 0 < p) : T * ((-(1 / 2) * p : ℝ) : EReal) + T * ((-(1 / 2) * p : ℝ) : EReal) = -(T * (p : EReal)) := by
  have hn : (-(1 / 2) * p : ℝ) < 0 := by linarith
  induction T with
  | bot => rw [EReal.bot_mul_coe_of_neg hn, EReal.bot_mul_coe_of_pos hp]; rfl
  | top => rw [EReal.top_mul_coe_of_neg hn, EReal.top_mul_coe_of_pos hp]; rfl
  | coe T => rw [← EReal.coe_mul, ← EReal.coe_mul, ← EReal.coe_add, ← EReal.coe_neg]; congr 1; ring

section Row

variable (g sc x d h : Fin 1024 → EReal)

/-- The mean square of a row, with the small constant added. -/
def ms : EReal := Ideal.div (∑ k, x k * x k) ((1024 : ℝ) : EReal) + ((eps : ℝ) : EReal)
/-- One over its root. -/
def rs : EReal := Ideal.rsqrt (ms x)
/-- The normalised row. -/
def xn (k : Fin 1024) : EReal := x k * rs x
/-- The gradient at the scaled row. -/
def e (k : Fin 1024) : EReal := d k * (1 + sc k)
/-- The gradient at the row: what came along the residual and what came through the normalisation. -/
def dh (k : Fin 1024) : EReal :=
  h k + rs x * (e sc d k * g k - xn x k * Ideal.div (∑ j, e sc d j * g j * xn x j) ((1024 : ℝ) : EReal))

/-- The mean square is infinite or a positive real number. -/
theorem ms_cases : ms x = ⊤ ∨ ∃ μ : ℝ, 0 < μ ∧ ms x = (μ : EReal) := by
  have h0 : 0 ≤ Ideal.div (∑ k, x k * x k) ((1024 : ℝ) : EReal) := by
    rw [Ideal.div_coe (by norm_num)]
    exact mul_nonneg (Finset.sum_nonneg fun k _ => sq_nonneg (x k)) (by exact_mod_cast (by norm_num : (0 : ℝ) ≤ 1 / 1024))
  rw [ms]
  generalize Ideal.div (∑ k, x k * x k) ((1024 : ℝ) : EReal) = q at h0
  induction q with
  | bot => simp at h0
  | top => exact Or.inl rfl
  | coe q => exact Or.inr ⟨q + eps, add_pos_of_nonneg_of_pos (by exact_mod_cast h0) eps_pos, rfl⟩

/-- Differentiating the normalisation step by step, through the row itself and twice through its square, gives the short
    form. -/
theorem back_eq_dh (k : Fin 1024) :
    h k + e sc d k * g k * rs x
      + x k * Ideal.div ((∑ j, x j * (e sc d j * g j)) * (((-(1 / 2) : ℝ) : EReal) * Ideal.div (rs x) (ms x))) ((1024 : ℝ) : EReal)
      + x k * Ideal.div ((∑ j, x j * (e sc d j * g j)) * (((-(1 / 2) : ℝ) : EReal) * Ideal.div (rs x) (ms x))) ((1024 : ℝ) : EReal)
      = dh g sc x d h k := by
  rw [dh, Ideal.div_coe (by norm_num), Ideal.div_coe (by norm_num)]
  rcases ms_cases x with hm | ⟨μ, hμ, hm⟩
  · have hr : rs x = 0 := by rw [rs, hm]; rfl
    have hd : Ideal.div (rs x) (ms x) = 0 := by rw [hr, hm, Ideal.div, if_neg (by simp), zero_mul]
    rw [hd, hr]
    simp only [mul_zero, zero_mul, add_zero]
  · obtain ⟨ρ, hρ⟩ : ∃ ρ : ℝ, ρ = (√μ)⁻¹ := ⟨_, rfl⟩
    have hp : 0 < ρ := hρ ▸ inv_pos.mpr (Real.sqrt_pos.mpr hμ)
    have h2 : ρ * ρ = 1 / μ := by rw [hρ, ← mul_inv, Real.mul_self_sqrt hμ.le, one_div]
    have hr : rs x = (ρ : EReal) := by
      rw [rs, hm, Ideal.rsqrt_coe, if_neg (not_lt.mpr hμ.le), if_neg hμ.ne', hρ]
    have hd : Ideal.div (rs x) (ms x) = ((ρ * ρ * ρ : ℝ) : EReal) := by
      rw [hr, hm, div_real _ _ hμ.ne', div_eq_mul_one_div, ← h2, mul_assoc]
    have hs : (∑ j, e sc d j * g j * xn x j) = (∑ j, x j * (e sc d j * g j)) * (ρ : EReal) := by
      rw [sum_mul_coe _ hp.le]
      exact Finset.sum_congr rfl fun j _ => by rw [xn, hr, ← mul_assoc, mul_comm (e sc d j * g j)]
    rw [hs, hd, xn, hr, EReal.mul_sub_of_nonneg_of_ne_top (EReal.coe_nonneg.mpr hp.le) (EReal.coe_ne_top ρ), sub_eq_add_neg,
      ← add_assoc, mul_comm (ρ : EReal) (e sc d k * g k), add_assoc]
    refine congrArg₂ (· + ·) rfl ?_
    generalize (∑ j, x j * (e sc d j * g j)) = S
    have e1 : x k * (S * (((-(1 / 2) : ℝ) : EReal) * ((ρ * ρ * ρ : ℝ) : EReal)) * ((1 / 1024 : ℝ) : EReal))
        = x k * S * ((-(1 / 2) * (ρ * ρ * ρ * (1 / 1024)) : ℝ) : EReal) := by
      rw [show (-(1 / 2) * (ρ * ρ * ρ * (1 / 1024)) : ℝ) = -(1 / 2) * (ρ * ρ * ρ) * (1 / 1024) by ring,
        EReal.coe_mul (-(1 / 2) * (ρ * ρ * ρ)) (1 / 1024), EReal.coe_mul (-(1 / 2)) (ρ * ρ * ρ)]
      simp only [mul_assoc]
    have e2 : (ρ : EReal) * (x k * (ρ : EReal) * (S * (ρ : EReal) * ((1 / 1024 : ℝ) : EReal)))
        = x k * S * ((ρ * ρ * ρ * (1 / 1024) : ℝ) : EReal) := by
      rw [EReal.coe_mul, EReal.coe_mul, EReal.coe_mul]
      ac_rfl
    rw [e1, e2]
    exact twice _ (by positivity)

end Row

/-- The eight arguments. -/
structure Args where
  dg : Fin 2 → Fin 4096 → Fin 2816 → EReal
  w : Fin 4 → Fin 1024 → Fin 1408 → EReal
  h0 : Fin 4096 → Fin 1024 → EReal
  y : Fin 4096 → Fin 1024 → EReal
  hin : Fin 4096 → Fin 1024 → EReal
  g : Fin 1024 → EReal
  sc : Fin 1024 → EReal
  gt : Fin 1024 → EReal

namespace Args

variable (A : Args)

/-- The row that was normalised. -/
def x (r : Fin 4096) (k : Fin 1024) : EReal := A.h0 r k + A.gt k * A.y r k
/-- The gradient at the product's left factor. -/
def d (r : Fin 4096) (k : Fin 1024) : EReal := ∑ q, ∑ l, A.dg (hf q) r (cl q l) * A.w q k l
/-- The gradient at `x`. -/
def dx (r : Fin 4096) (k : Fin 1024) : EReal := dh A.g A.sc (A.x r) (A.d r) (A.hin r) k
/-- A row's parts of the sums over the rows: the gradients at the shift, the scale, the gain and the gate, and the sum of
    the gradient at `y`. -/
def pSh (k : Fin 1024) (r : Fin 4096) : EReal := A.d r k
def pSc (k : Fin 1024) (r : Fin 4096) : EReal := A.d r k * (xn (A.x r) k * A.g k)
def pG (k : Fin 1024) (r : Fin 4096) : EReal := e A.sc (A.d r) k * xn (A.x r) k
def pGt (k : Fin 1024) (r : Fin 4096) : EReal := A.dx r k * A.y r k
def pY (k : Fin 1024) (r : Fin 4096) : EReal := A.dx r k * A.gt k

end Args

end Cert.InDx

end
-- ==== Proof.InDxBlk.lean ====
/-
  The gradient of `(g * x / rms(x) * (1 + sc)) @ w_in`: what one grid point of the kernel computes.
-/
module

public import proofs.«01_k».proof.Proof.Gen.FfnInDxIdeal.Value
public import proofs.«01_k».proof.Proof.InDxMaths
public import Idealize.ShloMosaic.Lib.Pipeline.ValueKit
public import Idealize.ShloMosaic.Lib.Pointwise

@[expose] public section

set_option maxRecDepth 16384

noncomputable section

namespace Cert.InDx

open Idealize.ShloMosaic Idealize.ShloMosaic.TcCoe Idealize.SL.Sem
open Cert.FfnInDxIdeal Cert.FfnInDxIdeal.Gen
open Cert.Gating (word_eps)
open Cert.Cols

section Payloads

variable {x26 x28 x74 : Vec Ideal S512x1024 .f32} {v25 v67 : FVec Ideal S512x1024 .f32} {x29 x30 x69 v : Vec Ideal S1x1024 .f32}
  {X D H Y U : Fin 512 → Fin 1024 → EReal} {g sc gt : Fin 1024 → EReal}
  (hx : ∀ r k, x26 (ix2 r k) = X r k) (hd : ∀ r k, v25 (ix2 r k) = D r k)
  (hh : ∀ r k, x28 (ix2 r k) = H r k) (hy : ∀ r k, x74 (ix2 r k) = Y r k)
  (hu : ∀ r k, v67 (ix2 r k) = U r k)
  (hg : ∀ k, x29 (ix2 0 k) = g k) (hs : ∀ k, x30 (ix2 0 k) = sc k)
  (ht : ∀ k, x69 (ix2 0 k) = gt k)

/-- A product of a block of columns, four of which make the gradient at the left factor. -/
theorem pay7_apply {a : Fin 4 → Vec Ideal S1x512x1408 .bf16} {b : Fin 4 → Vec Ideal S1x1024x1408 .bf16}
    {A : Fin 4 → Fin 512 → Fin 1408 → EReal} {B : Fin 4 → Fin 1024 → Fin 1408 → EReal}
    (ha : ∀ q r l, a q (ix3 0 r l) = A q r l) (hb : ∀ q k l, b q (ix3 0 k l) = B q k l)
    (r : Fin 512) (k : Fin 1024) :
    k0_pay7 (a 0) (b 0) (a 1) (b 1) (a 2) (b 2) (a 3) (b 3) (ix2 r k) = (∑ q, ∑ l, A q r l * B q k l) := by
  pointwise [k0_pay7]
  simp only [ha, hb, zero_add, Fin.sum_univ_four]

include hx in
/-- The row. -/
theorem pay8_apply (r : Fin 512) (k : Fin 1024) : k0_pay8 x26 (ix2 r k) = X r k := by
  pointwise [k0_pay8]
  exact hx r k

include hx in
/-- One over its root mean square. -/
theorem pay9_apply (r : Fin 512) : k0_pay9 x26 (ix2 r 0) = rs (X r) := by
  pointwise [k0_pay9]
  simp only [pay8_apply hx, word_1024, word_eps]
  rfl

include hx in
/-- The normalised row. -/
theorem pay10_apply (r : Fin 512) (k : Fin 1024) : k0_pay10 x26 (ix2 r k) = xn (X r) k := by
  pointwise [k0_pay10]
  exact (congrArg₂ (· * ·) (pay8_apply hx r k) (pay9_apply hx r))

include hd hs in
/-- The gradient at the scaled row. -/
theorem pay11_apply (r : Fin 512) (k : Fin 1024) : k0_pay11 v25 x30 (ix2 r k) = e sc (D r) k := by
  pointwise [k0_pay11]
  exact congrArg₂ (fun p q : EReal => p * (1 + q)) (hd r k) (hs k)

include hd in
/-- The block's part of the gradient at the shift. -/
theorem pay12_apply (k : Fin 1024) : k0_pay12 v25 (ix2 0 k) = (∑ r, D r k) := by
  pointwise [k0_pay12]
  simp only [hd]

include hx hd hg in
/-- The block's part of the gradient at the scale. -/
theorem pay13_apply (k : Fin 1024) : k0_pay13 v25 x26 x29 (ix2 0 k) = (∑ r, D r k * (xn (X r) k * g k)) := by
  pointwise [k0_pay13]
  exact Finset.sum_congr rfl fun r _ => congrArg₂ (· * ·) (hd r k) (congrArg₂ (· * ·) (pay10_apply hx r k) (hg k))

include hx hd hs in
/-- The block's part of the gradient at the gain. -/
theorem pay14_apply (k : Fin 1024) : k0_pay14 v25 x26 x30 (ix2 0 k) = (∑ r, e sc (D r) k * xn (X r) k) := by
  pointwise [k0_pay14]
  exact Finset.sum_congr rfl fun r _ => congrArg₂ (· * ·) (pay11_apply hd hs r k) (pay10_apply hx r k)

include hx hd hh hg hs in
/-- The gradient at the row. -/
theorem pay15_apply (r : Fin 512) (k : Fin 1024) :
    k0_pay15 v25 x26 x28 x29 x30 (ix2 r k) = dh g sc (X r) (D r) (H r) k := by
  pointwise [k0_pay15]
  have h1 : ∀ j, k0_pay11 v25 x30 (ix2 r j) * x29 (ix2 0 j) = (e sc (D r) j * g j) := fun j =>
    (congrArg₂ (· * ·) (pay11_apply hd hs r j) (hg j))
  have h2 : ∑ j, k0_pay11 v25 x30 (ix2 r j) * x29 (ix2 0 j) * k0_pay10 x26 (ix2 r j)
      = (∑ j, e sc (D r) j * g j * xn (X r) j) := by
    exact Finset.sum_congr rfl fun j _ => congrArg₂ (· * ·) (h1 j) (pay10_apply hx r j)
  exact congrArg₂ (fun (p q : EReal) => p + q) (hh r k) (congrArg₂ (fun p q : EReal => p * q) (pay9_apply hx r)
    (congrArg₂ (fun p q : EReal => p - q) (h1 k) (congrArg₂ (fun p q : EReal => p * q) (pay10_apply hx r k)
      (congrArg₂ Ideal.div h2 word_1024))))

include hu ht in
/-- The gradient at the gated array. -/
theorem pay16_apply (r : Fin 512) (k : Fin 1024) : k0_pay16 v67 x69 (ix2 r k) = (U r k * gt k) := by
  pointwise [k0_pay16]
  exact (congrArg₂ (· * ·) (hu r k) (ht k))

include hu ht in
/-- The same as it is stored. -/
theorem pay17_apply (r : Fin 512) (k : Fin 1024) : k0_pay17 v67 x69 (ix2 r k) = (U r k * gt k) := by
  pointwise [k0_pay17]
  exact pay16_apply hu ht r k

include hu ht in
/-- The block's part of its sum. -/
theorem pay18_apply (k : Fin 1024) : k0_pay18 v67 x69 (ix2 0 k) = (∑ r, U r k * gt k) := by
  pointwise [k0_pay18]
  exact Finset.sum_congr rfl fun r _ => pay16_apply hu ht r k

include hu hy in
/-- What was kept so far and the block's part of the gradient at the gate. -/
theorem pay22_apply (k : Fin 1024) : k0_pay22 v67 x74 v (ix2 0 k) = v (ix2 0 k) + (∑ r, U r k * Y r k) := by
  pointwise [k0_pay22]
  exact congrArg (v (ix2 0 k) + ·) (Finset.sum_congr rfl fun r _ => congrArg₂ (· * ·) (hu r k) (hy r k))

end Payloads

end Cert.InDx

end
-- ==== Proof.InDx.lean ====
/-
  The gradient of `(g * x / rms(x) * (1 + sc)) @ w_in`: what the kernel leaves in its seven result arrays.
-/
module

public import proofs.«01_k».proof.Proof.InDxBlk

@[expose] public section

set_option maxRecDepth 16384

noncomputable section

namespace Cert.InDx

open Idealize.ShloMosaic Idealize.ShloMosaic.TcCoe Idealize.SL.Sem
open Cert.FfnInDxIdeal Cert.FfnInDxIdeal.Gen
open Cert.Cols

variable (m : (ℓ : Loc nD τ sig) → Buf (Elt Ideal) ℓ) (c : Dev nD)

/-- The eight arguments' entries are `A`. -/
structure Reads (A : Args) : Prop where
  dg : ∀ h r l, (m ((c : Thread nD τ).loc main_arg0) : S2x4096x2816.Idx → EReal) (ix3 h r l) = A.dg h r l
  w : ∀ q k l, (m ((c : Thread nD τ).loc main_arg1) : S4x1024x1408.Idx → EReal) (ix3 q k l) = A.w q k l
  h0 : ∀ r k, (m ((c : Thread nD τ).loc main_arg2) : S4096x1024.Idx → EReal) (ix2 r k) = A.h0 r k
  y : ∀ r k, (m ((c : Thread nD τ).loc main_arg3) : S4096x1024.Idx → EReal) (ix2 r k) = A.y r k
  hin : ∀ r k, (m ((c : Thread nD τ).loc main_arg4) : S4096x1024.Idx → EReal) (ix2 r k) = A.hin r k
  g : ∀ k, (m ((c : Thread nD τ).loc main_arg5) : S1x1024.Idx → EReal) (ix2 0 k) = A.g k
  sc : ∀ k, (m ((c : Thread nD τ).loc main_arg6) : S1x1024.Idx → EReal) (ix2 0 k) = A.sc k
  gt : ∀ k, (m ((c : Thread nD τ).loc main_arg7) : S1x1024.Idx → EReal) (ix2 0 k) = A.gt k

/-- Where the windows' blocks lie at a grid point: rows `512 t` and on, or the whole array. -/
theorem idx : ∀ t : Fin cfg0.N, win0_0.index t 0 = 0 ∧ win0_0.index t 1 = t.val ∧ win0_0.index t 2 = 0
    ∧ win0_1.index t 0 = 0 ∧ win0_1.index t 1 = 0 ∧ win0_1.index t 2 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = t.val ∧ win0_8.index t 1 = 0 ∧ win0_9.index t 0 = t.val ∧ win0_9.index t 1 = 0
    ∧ win0_10.index t 0 = 0 ∧ win0_10.index t 1 = 0 ∧ win0_11.index t 0 = 0 ∧ win0_11.index t 1 = 0
    ∧ win0_12.index t 0 = 0 ∧ win0_12.index t 1 = 0 ∧ win0_13.index t 0 = 0 ∧ win0_13.index t 1 = 0
    ∧ win0_14.index t 0 = 0 ∧ win0_14.index t 1 = 0 :=
  (by decide +kernel : ∀ t : Fin grid0.N, win0_0.index t 0 = 0 ∧ win0_0.index t 1 = t.val ∧ win0_0.index t 2 = 0
    ∧ win0_1.index t 0 = 0 ∧ win0_1.index t 1 = 0 ∧ win0_1.index t 2 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = t.val ∧ win0_8.index t 1 = 0 ∧ win0_9.index t 0 = t.val ∧ win0_9.index t 1 = 0
    ∧ win0_10.index t 0 = 0 ∧ win0_10.index t 1 = 0 ∧ win0_11.index t 0 = 0 ∧ win0_11.index t 1 = 0
    ∧ win0_12.index t 0 = 0 ∧ win0_12.index t 1 = 0 ∧ win0_13.index t 0 = 0 ∧ win0_13.index t 1 = 0
    ∧ win0_14.index t 0 = 0 ∧ win0_14.index t 1 = 0)

/-- Row `r` of the blocks at point `t`. -/
def trow (t : Fin cfg0.N) (r : Fin 512) : Fin 4096 :=
  ⟨512 * t.val + r.val, by have := t.isLt; have : cfg0.N = 8 := N_0; omega⟩

variable {m c} {A : Args} (H : Reads m c A)
include H

theorem blk_dg (t : Fin cfg0.N) (h : Fin 2) (r : Fin 512) (l : Fin 2816) :
    (iblk m c 0 t : S2x512x2816.Idx → EReal) (ix3 h r l) = A.dg h (trow t r) l := by
  rw [← H.dg]
  blk_point [iblk, V, idx t, trow]

theorem blk_w (t : Fin cfg0.N) (q : Fin 4) (k : Fin 1024) (l : Fin 1408) :
    (iblk m c 1 t : S4x1024x1408.Idx → EReal) (ix3 q k l) = A.w q k l := by
  rw [← H.w]
  blk_point [iblk, V, idx t]

/-- The row that was normalised, which the host prepares. -/
theorem blk_x (t : Fin cfg0.N) (r : Fin 512) (k : Fin 1024) :
    (iblk m c 2 t : S512x1024.Idx → EReal) (ix2 r k) = A.x (trow t r) k := by
  have h : (V m c main_v2 : S4096x1024.Idx → EReal) (ix2 (trow t r) k) = A.x (trow t r) k := by
    entry_read
    pointwise []
    exact congrArg₂ (fun p q : EReal => p + q) (H.h0 _ k) (congrArg₂ (fun p q : EReal => p * q) (H.gt k) (H.y _ k))
  rw [← h]
  blk_point [iblk, idx t, trow]

theorem blk_hin (t : Fin cfg0.N) (r : Fin 512) (k : Fin 1024) :
    (iblk m c 3 t : S512x1024.Idx → EReal) (ix2 r k) = A.hin (trow t r) k := by
  rw [← H.hin]
  blk_point [iblk, V, idx t, trow]

theorem blk_y (t : Fin cfg0.N) (r : Fin 512) (k : Fin 1024) :
    (iblk m c 4 t : S512x1024.Idx → EReal) (ix2 r k) = A.y (trow t r) k := by
  rw [← H.y]
  blk_point [iblk, V, idx t, trow]

theorem blk_g (t : Fin cfg0.N) (k : Fin 1024) : (iblk m c 5 t : S1x1024.Idx → EReal) (ix2 0 k) = A.g k := by
  rw [← H.g]
  blk_point [iblk, V, idx t]

theorem blk_sc (t : Fin cfg0.N) (k : Fin 1024) : (iblk m c 6 t : S1x1024.Idx → EReal) (ix2 0 k) = A.sc k := by
  rw [← H.sc]
  blk_point [iblk, V, idx t]

theorem blk_gt (t : Fin cfg0.N) (k : Fin 1024) : (iblk m c 7 t : S1x1024.Idx → EReal) (ix2 0 k) = A.gt k := by
  rw [← H.gt]
  blk_point [iblk, V, idx t]

omit H in
variable (m c) in
/-- The gradient at the left factor, as a grid point computes it. -/
def prod (t : Fin cfg0.N) : FVec Ideal S512x1024 .f32 :=
  k0_pay7 (View.ld (iblk m c 0 t) (Rect.unit ![0, 0, 0] ![1, 512, 1408] inb_S2x512x2816_S1x512x1408_0_0_0))
    (View.ld (iblk m c 1 t) (Rect.unit ![0, 0, 0] ![1, 1024, 1408] inb_S4x1024x1408_S1x1024x1408_0_0_0))
    (View.ld (iblk m c 0 t) (Rect.unit ![0, 0, 1408] ![1, 512, 1408] inb_S2x512x2816_S1x512x1408_0_0_1408))
    (View.ld (iblk m c 1 t) (Rect.unit ![1, 0, 0] ![1, 1024, 1408] inb_S4x1024x1408_S1x1024x1408_1_0_0))
    (View.ld (iblk m c 0 t) (Rect.unit ![1, 0, 0] ![1, 512, 1408] inb_S2x512x2816_S1x512x1408_1_0_0))
    (View.ld (iblk m c 1 t) (Rect.unit ![2, 0, 0] ![1, 1024, 1408] inb_S4x1024x1408_S1x1024x1408_2_0_0))
    (View.ld (iblk m c 0 t) (Rect.unit ![1, 0, 1408] ![1, 512, 1408] inb_S2x512x2816_S1x512x1408_1_0_1408))
    (View.ld (iblk m c 1 t) (Rect.unit ![3, 0, 0] ![1, 1024, 1408] inb_S4x1024x1408_S1x1024x1408_3_0_0))

omit H in
variable (m c) in
/-- The gradient at the row, as a grid point computes it. -/
def grad (t : Fin cfg0.N) : FVec Ideal S512x1024 .f32 :=
  k0_pay15 (prod m c t) (iblk m c 2 t) (iblk m c 3 t) (iblk m c 5 t) (iblk m c 6 t)

/-- A block of columns of the incoming gradient, as loaded. -/
theorem ld_dg (t : Fin cfg0.N) (q : Fin 4) (o : ℕ) (ho : o = 1408 * (q.val % 2)) (hh) (r : Fin 512) (l : Fin 1408) :
    View.ld (iblk m c 0 t : S2x512x2816.Idx → EReal) (Rect.unit ![(hf q).val, 0, o] ![1, 512, 1408] hh) (ix3 0 r l)
      = A.dg (hf q) (trow t r) (cl q l) := by
  subst ho
  rw [View.ld_unit_apply_of _ _ _ _ _ (ix3 (hf q) r (cl q l)) (by intro a; fin_cases a <;> simp [ix3, cl]), blk_dg H]

/-- A block of the weight, as loaded. -/
theorem ld_w (t : Fin cfg0.N) (q : Fin 4) (hh) (k : Fin 1024) (l : Fin 1408) :
    View.ld (iblk m c 1 t : S4x1024x1408.Idx → EReal) (Rect.unit ![q.val, 0, 0] ![1, 1024, 1408] hh) (ix3 0 k l)
      = A.w q k l := by
  rw [View.ld_unit_apply_of _ _ _ _ _ (ix3 q k l) (by intro a; fin_cases a <;> simp [ix3]), blk_w H]

theorem prod_apply (t : Fin cfg0.N) (r : Fin 512) (k : Fin 1024) :
    prod m c t (ix2 r k) = A.d (trow t r) k := by
  refine pay7_apply (a := ![_, _, _, _]) (b := ![_, _, _, _]) (A := fun q r l => A.dg (hf q) (trow t r) (cl q l)) (B := A.w) ?_ ?_ r k
  · intro q r l
    fin_cases q
    · exact ld_dg H t 0 0 rfl _ r l
    · exact ld_dg H t 1 1408 rfl _ r l
    · exact ld_dg H t 2 0 rfl _ r l
    · exact ld_dg H t 3 1408 rfl _ r l
  · intro q k l
    fin_cases q
    · exact ld_w H t 0 _ k l
    · exact ld_w H t 1 _ k l
    · exact ld_w H t 2 _ k l
    · exact ld_w H t 3 _ k l

theorem grad_apply (t : Fin cfg0.N) (r : Fin 512) (k : Fin 1024) :
    grad m c t (ix2 r k) = A.dx (trow t r) k :=
  pay15_apply (blk_x H t) (prod_apply H t) (blk_hin H t) (blk_g H t) (blk_sc H t) r k

omit H in
variable (m c) in
/-- What a grid point leaves in the first two results' blocks. -/
theorem outs8 (t : Fin cfg0.N) : (outsAt0 m c t.val t.isLt).1 = grad m c t := by
  by_cases h : t.val % 8 = 0
  · rw [outsAt0_A m c t h]; frame_out
    rfl
  · rw [outsAt0_B m c t h]; frame_out
    rfl
omit H in
variable (m c) in
theorem outs9 (t : Fin cfg0.N) : (outsAt0 m c t.val t.isLt).2.1 = k0_pay17 (grad m c t) (iblk m c 7 t) := by
  by_cases h : t.val % 8 = 0
  · rw [outsAt0_A m c t h]; frame_out
    rfl
  · rw [outsAt0_B m c t h]; frame_out
    rfl

/-- The gradient at the row, whole. -/
theorem arr8 : (dats m 0 c).arrAt 8 cfg0.N = fun i : S4096x1024.Idx => A.dx (i 0) (i 1) := by
  refine (dats m 0 c).arrAt_eq_of_covers 8 _ (by decide +kernel) fun t hf y => ?_
  blk_simp
  rw [after0_8, outs8]
  obtain ⟨r, k, rfl⟩ : ∃ r k, y = ix2 r k := ⟨y 0, y 1, by funext a; fin_cases a <;> rfl⟩
  refine (grad_apply H t r k).trans ?_
  congr 2 <;> apply Fin.ext <;> blk_simp [idx t, trow]
  exact congrArg (· + r.val) (Nat.mul_comm 512 t.val)

/-- The gradient at `y`, whole. -/
theorem arr9 : (dats m 0 c).arrAt 9 cfg0.N = fun i : S4096x1024.Idx => A.pY (i 1) (i 0) := by
  refine (dats m 0 c).arrAt_eq_of_covers 9 _ (by decide +kernel) fun t hf y => ?_
  blk_simp
  rw [after0_9, outs9]
  obtain ⟨r, k, rfl⟩ : ∃ r k, y = ix2 r k := ⟨y 0, y 1, by funext a; fin_cases a <;> rfl⟩
  refine (pay17_apply (grad_apply H t) (blk_gt H t) r k).trans ?_
  refine Eq.trans (b := A.pY k (trow t r)) rfl ?_
  congr 2 <;> apply Fin.ext <;> blk_simp [idx t, trow]
  exact congrArg (· + r.val) (Nat.mul_comm 512 t.val)

omit H in
/-- A row of results that each point adds its block's part to holds, after the last point, the sum over all rows. -/
theorem acc (f : (n : ℕ) → n < cfg0.N → S1x1024.Idx → EReal) (T : Fin cfg0.N → S1x1024.Idx → EReal) (p : Fin 1024 → Fin 4096 → EReal)
    (hT : ∀ t k, T t (ix2 0 k) = (∑ r, p k (trow t r)))
    (h0 : ∀ t : Fin cfg0.N, t.val % 8 = 0 → ∀ k, f t.val t.isLt (ix2 0 k) = T t (ix2 0 k))
    (hs : ∀ t : Fin cfg0.N, ¬t.val % 8 = 0 → ∀ k, f t.val t.isLt (ix2 0 k)
      = f (t.val - 1) (Nat.lt_of_le_of_lt (Nat.sub_le _ _) t.isLt) (ix2 0 k) + T t (ix2 0 k))
    (t : Fin cfg0.N) (h7 : t.val % 8 = 7) (k : Fin 1024) : f t.val t.isLt (ix2 0 k) = (∑ r, p k r) := by
  rw [Pipeline.eq_sum_fin_of_reset_step_apply_of_flush (fun n h => fun k : Fin 1024 => f n h (ix2 0 k)) 8 (fun _ => (0 : EReal))
    (fun t k => T t (ix2 0 k)) (fun t ht k => (h0 t ht k).trans (zero_add _).symm) hs t h7 k, zero_add]
  refine (Finset.sum_congr rfl fun s _ => hT _ k).trans ?_
  refine (Finset.sum_congr rfl fun s _ => Finset.sum_congr rfl fun r _ => congrArg (p k) (Fin.ext ?_)).trans
    (Fin.sum_mul_add_fin 8 512 (p k))
  have : cfg0.N = 8 := N_0
  have := t.isLt
  show 512 * (8 * (t.val / 8) + s.val) + r.val = s.val * 512 + r.val
  omega

/-- The gradient at the shift. -/
theorem arr10 : (dats m 0 c).arrAt 10 cfg0.N = fun i : S1x1024.Idx => (∑ r, A.pSh (i 1) r) := by
  refine (dats m 0 c).arrAt_eq_of_covers 10 _ (by decide +kernel) fun t hf j => ?_
  blk_simp
  rw [after0_10]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.1) (fun t => k0_pay12 (prod m c t)) A.pSh
    (fun t k => pay12_apply (prod_apply H t) k) (fun t ht k => ?_) (fun t ht k => ?_) t ((flush0_10 t).mp hf) k).trans ?_
  · rw [outsAt0_A m c t ht]; frame_out
    pointwise [k0_pay19, k0_pay2]
    rfl
  · rw [outsAt0_B m c t ht]; frame_out
    pointwise [k0_pay19]
    rfl
  · have e : ((win0_10.blk t).view.emb (ix2 0 k)) 1 = k := by
      apply Fin.ext; blk_simp [idx t]
    rw [e]

/-- The gradient at the scale. -/
theorem arr11 : (dats m 0 c).arrAt 11 cfg0.N = fun i : S1x1024.Idx => (∑ r, A.pSc (i 1) r) := by
  refine (dats m 0 c).arrAt_eq_of_covers 11 _ (by decide +kernel) fun t hf j => ?_
  blk_simp
  rw [after0_11]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.1) (fun t => k0_pay13 (prod m c t) (iblk m c 2 t) (iblk m c 5 t)) A.pSc
    (fun t k => pay13_apply (blk_x H t) (prod_apply H t) (blk_g H t) k) (fun t ht k => ?_) (fun t ht k => ?_) t ((flush0_11 t).mp hf) k).trans ?_
  · rw [outsAt0_A m c t ht]; frame_out
    pointwise [k0_pay20, k0_pay3]
    rfl
  · rw [outsAt0_B m c t ht]; frame_out
    pointwise [k0_pay20]
    rfl
  · have e : ((win0_11.blk t).view.emb (ix2 0 k)) 1 = k := by
      apply Fin.ext; blk_simp [idx t]
    rw [e]

/-- The gradient at the gain. -/
theorem arr12 : (dats m 0 c).arrAt 12 cfg0.N = fun i : S1x1024.Idx => (∑ r, A.pG (i 1) r) := by
  refine (dats m 0 c).arrAt_eq_of_covers 12 _ (by decide +kernel) fun t hf j => ?_
  blk_simp
  rw [after0_12]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.2.1) (fun t => k0_pay14 (prod m c t) (iblk m c 2 t) (iblk m c 6 t)) A.pG
    (fun t k => pay14_apply (blk_x H t) (prod_apply H t) (blk_sc H t) k) (fun t ht k => ?_) (fun t ht k => ?_) t ((flush0_12 t).mp hf) k).trans ?_
  · rw [outsAt0_A m c t ht]; frame_out
    pointwise [k0_pay21, k0_pay4]
    rfl
  · rw [outsAt0_B m c t ht]; frame_out
    pointwise [k0_pay21]
    rfl
  · have e : ((win0_12.blk t).view.emb (ix2 0 k)) 1 = k := by
      apply Fin.ext; blk_simp [idx t]
    rw [e]

/-- The gradient at the gate. -/
theorem arr13 : (dats m 0 c).arrAt 13 cfg0.N = fun i : S1x1024.Idx => (∑ r, A.pGt (i 1) r) := by
  refine (dats m 0 c).arrAt_eq_of_covers 13 _ (by decide +kernel) fun t hf j => ?_
  blk_simp
  rw [after0_13]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.2.2.1) (fun t => k0_pay22 (grad m c t) (iblk m c 4 t) (fun _ => (0 : EReal))) A.pGt
    (fun t k => (pay22_apply (blk_y H t) (grad_apply H t) k).trans (zero_add _)) (fun t ht k => ?_) (fun t ht k => ?_) t ((flush0_13 t).mp hf) k).trans ?_
  · rw [outsAt0_A m c t ht]; frame_out
    pointwise [k0_pay22, k0_pay5]
    rfl
  · rw [outsAt0_B m c t ht]; frame_out
    pointwise [k0_pay22]
    rfl
  · have e : ((win0_13.blk t).view.emb (ix2 0 k)) 1 = k := by
      apply Fin.ext; blk_simp [idx t]
    rw [e]

/-- The sum of the gradient at `y`. -/
theorem arr14 : (dats m 0 c).arrAt 14 cfg0.N = fun i : S1x1024.Idx => (∑ r, A.pY (i 1) r) := by
  refine (dats m 0 c).arrAt_eq_of_covers 14 _ (by decide +kernel) fun t hf j => ?_
  blk_simp
  rw [after0_14]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.2.2.2) (fun t => k0_pay18 (grad m c t) (iblk m c 7 t)) A.pY
    (fun t k => pay18_apply (grad_apply H t) (blk_gt H t) k) (fun t ht k => ?_) (fun t ht k => ?_) t ((flush0_14 t).mp hf) k).trans ?_
  · rw [outsAt0_A m c t ht]; frame_out
    pointwise [k0_pay1, k0_pay6]
    rfl
  · rw [outsAt0_B m c t ht]; frame_out
    pointwise [k0_pay1]
    rfl
  · have e : ((win0_14.blk t).view.emb (ix2 0 k)) 1 = k := by
      apply Fin.ext; blk_simp [idx t]
    rw [e]

end Cert.InDx

end
-- ==== Proof.InDxRef.lean ====
/-
  The gradient of `(g * x / rms(x) * (1 + sc)) @ w_in`: the reference's seven results, one operation after another.
-/
module

public import proofs.«01_k».proof.Proof.InDxMaths
public import proofs.«01_k».proof.Proof.Gen.FfnInDxRefIdeal.Run
public import Idealize.ShloMosaic.Lib.Pipeline.ValueKit
public import Idealize.ShloMosaic.Lib.Pointwise

@[expose] public section

set_option maxRecDepth 16384

noncomputable section

namespace Cert.InDx

open Idealize.ShloMosaic Idealize.ShloMosaic.TcCoe Idealize.SL.Sem
open Cert.FfnInDxRefIdeal Cert.FfnInDxRefIdeal.Gen Cert.FfnInDxRefIdeal.Value
open Cert.Gating (word_eps word_neg_half)
open Cert.Cols

section Stages

variable (a0 : FVec Ideal S2x4096x2816 .bf16) (a1 : FVec Ideal S4x1024x1408 .bf16) (a2 a3 a4 : FVec Ideal S4096x1024 .f32)
  (a5 a6 a7 : FVec Ideal S1x1024 .f32)

/-- The gated array. -/
def rY : FVec Ideal S4096x1024 .f32 :=
  addf a3 (broadcastInDim S4096x1024 ![0, 1] bcast_S1x1024_S4096x1024_0_1 (broadcastInDim S1x1024 ![] bcast_S_S1x1024 (constant S_ .f32 0x00000000#32)))
/-- The row that is normalised. -/
def rX : FVec Ideal S4096x1024 .f32 := addf a2 (mulf (broadcastInDim S4096x1024 ![0, 1] bcast_S1x1024_S4096x1024_0_1 a7) (rY a3))
/-- Its mean square, with the small constant. -/
def rM : FVec Ideal S4096x1 .f32 :=
  addf (Host.divf (broadcastInDim S4096x1 ![0] bcast_S4096_S4096x1_0
      (Host.reduceAdd (mulf (rX a2 a3 a7) (rX a2 a3 a7)) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- One over its root. -/
def rR : FVec Ideal S4096x1 .f32 := Host.rsqrt (rM a2 a3 a7)
/-- The normalised row. -/
def rN : FVec Ideal S4096x1024 .f32 := mulf (rX a2 a3 a7) (broadcastInDim S4096x1024 ![0, 1] bcast_S4096x1_S4096x1024_0_1 (rR a2 a3 a7))
/-- The gradient at the product's left factor. -/
def rD : FVec Ideal S4096x1024 .f32 :=
  Host.dotGeneral dot_S4096x5632_S1024x5632_S4096x1024_1_1_0_0_n_n none
    (concatenate S4096x5632 1 [⟨S4096x2816, (shapeCast _ (extractStridedSlice S1x4096x2816 ![0, 0, 0] (extf .f32 a0 bitsLt_bf16_f32) slices_S2x4096x2816_S1x4096x2816_0_0_0) shapeCasts_S1x4096x2816_S4096x2816)⟩,
      ⟨S4096x2816, (shapeCast _ (extractStridedSlice S1x4096x2816 ![1, 0, 0] (extf .f32 a0 bitsLt_bf16_f32) slices_S2x4096x2816_S1x4096x2816_1_0_0) shapeCasts_S1x4096x2816_S4096x2816)⟩] concatenates_S4096x2816_S4096x2816_S4096x5632_d1)
    (shapeCast _ (transpose S1024x4x1408 [1, 0, 2] (extf .f32 a1 bitsLt_bf16_f32) transposes_S4x1024x1408_S1024x4x1408_1_0_2) shapeCasts_S1024x4x1408_S1024x5632)
/-- The gradient at the scaled row. -/
def rE : FVec Ideal S4096x1024 .f32 :=
  mulf (rD a0 a1) (broadcastInDim S4096x1024 ![0, 1] bcast_S1x1024_S4096x1024_0_1
    (addf (broadcastInDim S1x1024 ![] bcast_S_S1x1024 (constant S_ .f32 0x3F800000#32)) a6))
/-- The gradient at the normalised row. -/
def rG : FVec Ideal S4096x1024 .f32 := mulf (rE a0 a1 a6) (broadcastInDim S4096x1024 ![0, 1] bcast_S1x1024_S4096x1024_0_1 a5)
/-- The gradient at the mean square, over its number of terms. -/
def rQ : FVec Ideal S4096x1 .f32 :=
  Host.divf (mulf (shapeCast _ (Host.reduceAdd (mulf (rX a2 a3 a7) (rG a0 a1 a5 a6)) (constant S_ .f32 0x00000000#32) reducesTo_S4096x1024_S4096_d1 h_S_) shapeCasts_S4096_S4096x1)
      (mulf (broadcastInDim S4096x1 ![] bcast_S_S4096x1 (constant S_ .f32 0xBF000000#32)) (Host.divf (rR a2 a3 a7) (rM a2 a3 a7))))
    (broadcastInDim S4096x1 ![] bcast_S_S4096x1 (constant S_ .f32 0x44800000#32))
/-- The same along the row. -/
def rB : FVec Ideal S4096x1024 .f32 :=
  broadcastInDim S4096x1024 ![0] bcast_S4096_S4096x1024_0
    (Host.reduceAdd (rQ a0 a1 a2 a3 a5 a6 a7) (constant S_ .f32 0x00000000#32) reducesTo_S4096x1_S4096_d1 h_S_)
/-- The gradient at the row. -/
def rO : FVec Ideal S4096x1024 .f32 :=
  addf (addf (addf a4 (mulf (rG a0 a1 a5 a6) (broadcastInDim S4096x1024 ![0, 1] bcast_S4096x1_S4096x1024_0_1 (rR a2 a3 a7))))
    (mulf (rX a2 a3 a7) (rB a0 a1 a2 a3 a5 a6 a7))) (mulf (rB a0 a1 a2 a3 a5 a6 a7) (rX a2 a3 a7))
/-- The gradient at the gated array. -/
def rGY : FVec Ideal S4096x1024 .f32 :=
  mulf (broadcastInDim S4096x1024 ![0, 1] bcast_S1x1024_S4096x1024_0_1 a7)
    (shapeCast _ (rO a0 a1 a2 a3 a4 a5 a6 a7) shapeCasts_S4096x1024_S4096x1024)

/-- The sum over the rows. -/
def rows (v : FVec Ideal S4096x1024 .f32) : FVec Ideal S1x1024 .f32 :=
  shapeCast _ (Host.reduceAdd v (constant S_ .f32 0x00000000#32) reducesTo_S4096x1024_S1024_d0 h_S_) shapeCasts_S1024_S1x1024

end Stages

/-- What the reference ends with: the seven results, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = rO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v73) = truncf .bf16 (rGY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) bitsLt_bf16_f32
      ∧ r.2.mem ((c.tc : Thread nD τ).loc main_v39) = rows (rD (m ((c.tc : Thread nD τ).loc main_arg0)) (m ((c.tc : Thread nD τ).loc main_arg1)))
      ∧ r.2.mem ((c.tc : Thread nD τ).loc main_v42) = rows (mulf (mulf (rN (m ((c.tc : Thread nD τ).loc main_arg2)) (m ((c.tc : Thread nD τ).loc main_arg3)) (m ((c.tc : Thread nD τ).loc main_arg7))) (broadcastInDim S4096x1024 ![0, 1] bcast_S1x1024_S4096x1024_0_1 (m ((c.tc : Thread nD τ).loc main_arg5)))) (rD (m ((c.tc : Thread nD τ).loc main_arg0)) (m ((c.tc : Thread nD τ).loc main_arg1))))
      ∧ r.2.mem ((c.tc : Thread nD τ).loc main_v47) = rows (mulf (rN (m ((c.tc : Thread nD τ).loc main_arg2)) (m ((c.tc : Thread nD τ).loc main_arg3)) (m ((c.tc : Thread nD τ).loc main_arg7))) (rE (m ((c.tc : Thread nD τ).loc main_arg0)) (m ((c.tc : Thread nD τ).loc main_arg1)) (m ((c.tc : Thread nD τ).loc main_arg6))))
      ∧ r.2.mem ((c.tc : Thread nD τ).loc main_v70) = rows (mulf (shapeCast _ (rO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S4096x1024_S4096x1024) (rY (m ((c.tc : Thread nD τ).loc main_arg3))))
      ∧ r.2.mem ((c.tc : Thread nD τ).loc main_v72) = rows (rGY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => h c) (run m ρ)

/-- The sum over the rows of an array. -/
theorem rows_apply {v : FVec Ideal S4096x1024 .f32} (p : Fin 1024 → Fin 4096 → EReal) (hv : ∀ r k, v (ix2 r k) = p k r) :
    rows v = fun i : S1x1024.Idx => (∑ r, p (i 1) r) := by
  funext i
  obtain ⟨z, k, rfl⟩ : ∃ z k, i = ix2 z k := ⟨i 0, i 1, by funext a; fin_cases a <;> rfl⟩
  refine Eq.trans (b := (∑ r, p k r)) ?_ rfl
  pointwise [rows]
  simp only [hv]

variable {a0 : FVec Ideal S2x4096x2816 .bf16} {a1 : FVec Ideal S4x1024x1408 .bf16} {a2 a3 a4 : FVec Ideal S4096x1024 .f32}
  {a5 a6 a7 : FVec Ideal S1x1024 .f32} {A : Args}

/-- The reference's eight arguments' entries are `A`. -/
structure RefReads (a0 : FVec Ideal S2x4096x2816 .bf16) (a1 : FVec Ideal S4x1024x1408 .bf16) (a2 a3 a4 : FVec Ideal S4096x1024 .f32)
    (a5 a6 a7 : FVec Ideal S1x1024 .f32) (A : Args) : Prop where
  dg : ∀ h r l, a0 (ix3 h r l) = A.dg h r l
  w : ∀ q k l, a1 (ix3 q k l) = A.w q k l
  h0 : ∀ r k, a2 (ix2 r k) = A.h0 r k
  y : ∀ r k, a3 (ix2 r k) = A.y r k
  hin : ∀ r k, a4 (ix2 r k) = A.hin r k
  g : ∀ k, a5 (ix2 0 k) = A.g k
  sc : ∀ k, a6 (ix2 0 k) = A.sc k
  gt : ∀ k, a7 (ix2 0 k) = A.gt k

variable (H : RefReads a0 a1 a2 a3 a4 a5 a6 a7 A)
include H

/-- The gated array, entry by entry … -/
theorem rY_apply (r : Fin 4096) (k : Fin 1024) : rY a3 (ix2 r k) = A.y r k := by
  pointwise [rY]
  simpa using H.y r k

/-- … the row … -/
theorem rX_apply (r : Fin 4096) (k : Fin 1024) : rX a2 a3 a7 (ix2 r k) = A.x r k := by
  pointwise [rX]
  exact congrArg₂ (fun p q : EReal => p + q) (H.h0 r k) (congrArg₂ (fun p q : EReal => p * q) (H.gt k) (rY_apply H r k))

/-- … its mean square … -/
theorem rM_apply (r : Fin 4096) : rM a2 a3 a7 (ix2 r 0) = ms (A.x r) := by
  pointwise [rM]
  simp only [rX_apply H, word_1024, word_eps]
  rfl

/-- … one over its root … -/
theorem rR_apply (r : Fin 4096) : rR a2 a3 a7 (ix2 r 0) = rs (A.x r) := by
  pointwise [rR]
  exact congrArg Ideal.rsqrt (rM_apply H r)

/-- … the normalised row … -/
theorem rN_apply (r : Fin 4096) (k : Fin 1024) : rN a2 a3 a7 (ix2 r k) = xn (A.x r) k := by
  pointwise [rN]
  exact (congrArg₂ (· * ·) (rX_apply H r k) (rR_apply H r))

/-- … the gradient at the left factor, a sum over 5632 columns taken in four blocks … -/
theorem rD_apply (r : Fin 4096) (k : Fin 1024) : rD a0 a1 (ix2 r k) = A.d r k := by
  pointwise [rD]
  have hw : ∀ (q : Fin 4) (l : Fin 1408) (p : Fin 4) (t : Fin 1408), p = q → t = l → a1 (ix3 p k t) = A.w q k l := by
    rintro q l _ _ rfl rfl
    exact H.w _ _ _
  have hd : ∀ (q : Fin 4) (l : Fin 1408) (h : Fin 2) (t : Fin 2816), h = hf q → t = cl q l →
      a0 (ix3 h r t) = A.dg (hf q) r (cl q l) := by
    rintro q l _ _ rfl rfl
    exact H.dg _ _ _
  have hA : A.d r k = ∑ q : Fin 4, ∑ l, A.dg (hf q) r (cl q l) * A.w q k l := rfl
  have reg : ∀ F : Fin 2816 → EReal, ∑ x, F x = (∑ l : Fin 1408, F ⟨l.val, by omega⟩) + ∑ l : Fin 1408, F ⟨1408 + l.val, by omega⟩ :=
    fun F => Fin.sum_univ_add (a := 1408) (b := 1408) F
  rw [hA, Fin.sum_univ_four, reg, reg, add_assoc (_ + _)]
  refine congrArg₂ (· + ·) (congrArg₂ (· + ·) ?_ ?_) (congrArg₂ (· + ·) ?_ ?_)
  all_goals refine Finset.sum_congr rfl fun l _ => congrArg₂ (· * ·) (hd _ l _ _ ?_ ?_) (hw _ l _ _ ?_ ?_)
  all_goals (apply Fin.ext; have := l.isLt; first | rfl | (simp only [hf, cl]; done) | (simp only [hf, cl]; omega) | (simp [hf, cl]; done) | (simp [hf, cl]; omega))

/-- … at the scaled row … -/
theorem rE_apply (r : Fin 4096) (k : Fin 1024) : rE a0 a1 a6 (ix2 r k) = e A.sc (A.d r) k := by
  pointwise [rE]
  exact congrArg₂ (fun p q : EReal => p * (1 + q)) (rD_apply H r k) (H.sc k)

/-- … at the normalised row … -/
theorem rG_apply (r : Fin 4096) (k : Fin 1024) : rG a0 a1 a5 a6 (ix2 r k) = (e A.sc (A.d r) k * A.g k) := by
  pointwise [rG]
  exact (congrArg₂ (· * ·) (rE_apply H r k) (H.g k))

/-- … at the mean square … -/
theorem rQ_apply (r : Fin 4096) : rQ a0 a1 a2 a3 a5 a6 a7 (ix2 r 0)
    = Ideal.div ((∑ j, A.x r j * (e A.sc (A.d r) j * A.g j)) * (((-(1 / 2) : ℝ) : EReal) * Ideal.div (rs (A.x r)) (ms (A.x r))))
      ((1024 : ℝ) : EReal) := by
  pointwise [rQ]
  have h1 : ∑ j, rX a2 a3 a7 (ix2 r j) * rG a0 a1 a5 a6 (ix2 r j) = (∑ j, A.x r j * (e A.sc (A.d r) j * A.g j)) := by
    simp only [rX_apply H, rG_apply H]
  exact congrArg₂ Ideal.div (congrArg₂ (fun p q : EReal => p * q) h1 (congrArg₂ (fun p q : EReal => p * q) word_neg_half
    (congrArg₂ Ideal.div (rR_apply H r) (rM_apply H r)))) word_1024

/-- … the same along the row … -/
theorem rB_apply (r : Fin 4096) (k : Fin 1024) : rB a0 a1 a2 a3 a5 a6 a7 (ix2 r k)
    = Ideal.div ((∑ j, A.x r j * (e A.sc (A.d r) j * A.g j)) * (((-(1 / 2) : ℝ) : EReal) * Ideal.div (rs (A.x r)) (ms (A.x r))))
      ((1024 : ℝ) : EReal) := by
  pointwise [rB]
  exact (Fin.sum_univ_one _).trans (rQ_apply H r)

/-- … the gradient at the row … -/
theorem rO_apply (r : Fin 4096) (k : Fin 1024) : rO a0 a1 a2 a3 a4 a5 a6 a7 (ix2 r k) = A.dx r k := by
  pointwise [rO]
  refine (congrArg₂ (fun p q : EReal => p + q) (congrArg₂ (fun p q : EReal => p + q) (congrArg₂ (fun p q : EReal => p + q) (H.hin r k)
    (congrArg₂ (fun p q : EReal => p * q) (rG_apply H r k) (rR_apply H r)))
    (congrArg₂ (fun p q : EReal => p * q) (rX_apply H r k) (rB_apply H r k)))
    (congrArg₂ (fun p q : EReal => p * q) (rB_apply H r k) (rX_apply H r k))).trans ?_
  refine Eq.trans ?_ (back_eq_dh A.g A.sc (A.x r) (A.d r) (A.hin r) k)
  exact congrArg₂ (· + ·) rfl (mul_comm _ _)

/-- … and at the gated array. -/
theorem rGY_apply (r : Fin 4096) (k : Fin 1024) : rGY a0 a1 a2 a3 a4 a5 a6 a7 (ix2 r k) = A.pY k r := by
  pointwise [rGY]
  refine (congrArg₂ (· * ·) (H.gt k) (rO_apply H r k)).trans ?_
  rw [mul_comm]
  rfl

/-- The gradient at the row, as an array … -/
theorem out0 : rO a0 a1 a2 a3 a4 a5 a6 a7 = fun i : S4096x1024.Idx => A.dx (i 0) (i 1) := by
  funext i
  obtain ⟨r, k, rfl⟩ : ∃ r k, i = ix2 r k := ⟨i 0, i 1, by funext a; fin_cases a <;> rfl⟩
  exact rO_apply H r k
/-- … and at the gated array … -/
theorem out1 : truncf .bf16 (rGY a0 a1 a2 a3 a4 a5 a6 a7) bitsLt_bf16_f32 = fun i : S4096x1024.Idx => A.pY (i 1) (i 0) := by
  funext i
  obtain ⟨r, k, rfl⟩ : ∃ r k, i = ix2 r k := ⟨i 0, i 1, by funext a; fin_cases a <;> rfl⟩
  exact rGY_apply H r k
/-- … and at the shift … -/
theorem out2 : rows (rD a0 a1) = fun i : S1x1024.Idx => (∑ r, A.pSh (i 1) r) :=
  rows_apply A.pSh fun r k => rD_apply H r k
/-- … and at the scale … -/
theorem out3 : rows (mulf (mulf (rN a2 a3 a7) (broadcastInDim S4096x1024 ![0, 1] bcast_S1x1024_S4096x1024_0_1 a5)) (rD a0 a1))
    = fun i : S1x1024.Idx => (∑ r, A.pSc (i 1) r) :=
  rows_apply A.pSc fun r k => by
    pointwise []
    refine (congrArg₂ (fun p q : EReal => p * q) (congrArg₂ (fun p q : EReal => p * q) (rN_apply H r k) (H.g k)) (rD_apply H r k)).trans ?_
    rw [mul_comm]
    rfl
/-- … and at the weight … -/
theorem out4 : rows (mulf (rN a2 a3 a7) (rE a0 a1 a6)) = fun i : S1x1024.Idx => (∑ r, A.pG (i 1) r) :=
  rows_apply A.pG fun r k => by
    pointwise []
    refine (congrArg₂ (fun p q : EReal => p * q) (rN_apply H r k) (rE_apply H r k)).trans ?_
    rw [mul_comm]
    rfl
/-- … and at the gate … -/
theorem out5 : rows (mulf (shapeCast _ (rO a0 a1 a2 a3 a4 a5 a6 a7) shapeCasts_S4096x1024_S4096x1024) (rY a3))
    = fun i : S1x1024.Idx => (∑ r, A.pGt (i 1) r) :=
  rows_apply A.pGt fun r k => by
    pointwise []
    refine (congrArg₂ (fun p q : EReal => p * q) (rO_apply H r k) (rY_apply H r k)).trans ?_
    rfl
/-- … and the sum of the gated array's. -/
theorem out6 : rows (rGY a0 a1 a2 a3 a4 a5 a6 a7) = fun i : S1x1024.Idx => (∑ r, A.pY (i 1) r) :=
  rows_apply A.pY fun r k => rGY_apply H r k

end Cert.InDx

end
-- ==== Proof.InDxEq.lean ====
/-
  The gradient of `(g * x / rms(x) * (1 + sc)) @ w_in`: kernel and reference end with the same seven arrays.
-/
module

public import proofs.«01_k».proof.Defs
public import proofs.«01_k».proof.Proof.InDx
public import proofs.«01_k».proof.Proof.InDxRef

@[expose] public section

set_option maxRecDepth 16384

noncomputable section

namespace Cert.InDx

open Idealize.ShloMosaic Idealize.ShloMosaic.TcCoe Idealize.SL.Sem
open Cert.FfnInDxIdeal

/-- The kernel's arguments, and the reference's, entry by entry. -/
theorem reads (m : (ℓ : Loc nD τ sig) → Buf (Elt Ideal) ℓ) (c : Dev nD) :
    ∃ A, Reads m c A ∧ RefReads (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) A := by
  have R : Reads m c ⟨fun h r l => (m ((c.tc : Thread nD τ).loc main_arg0) : S2x4096x2816.Idx → EReal) (ix3 h r l),
      fun q k l => (m ((c.tc : Thread nD τ).loc main_arg1) : S4x1024x1408.Idx → EReal) (ix3 q k l),
      fun r k => (m ((c.tc : Thread nD τ).loc main_arg2) : S4096x1024.Idx → EReal) (ix2 r k),
      fun r k => (m ((c.tc : Thread nD τ).loc main_arg3) : S4096x1024.Idx → EReal) (ix2 r k),
      fun r k => (m ((c.tc : Thread nD τ).loc main_arg4) : S4096x1024.Idx → EReal) (ix2 r k),
      fun k => (m ((c.tc : Thread nD τ).loc main_arg5) : S1x1024.Idx → EReal) (ix2 0 k),
      fun k => (m ((c.tc : Thread nD τ).loc main_arg6) : S1x1024.Idx → EReal) (ix2 0 k),
      fun k => (m ((c.tc : Thread nD τ).loc main_arg7) : S1x1024.Idx → EReal) (ix2 0 k)⟩ :=
    ⟨fun _ _ _ => rfl, fun _ _ _ => rfl, fun _ _ => rfl, fun _ _ => rfl, fun _ _ => rfl, fun _ => rfl, fun _ => rfl, fun _ => rfl⟩
  exact ⟨_, R, R.dg, R.w, R.h0, R.y, R.hin, R.g, R.sc, R.gt⟩

/-- The two programs, from the same arguments, end with the same gradients. -/
theorem equation : Cert.algebraic_FfnInDxIdeal_FfnInDxRefIdeal (hFfnInDxIdeal := Cert.FfnInDxIdeal.Gen.facts)
    (hFfnInDxRefIdeal := Cert.FfnInDxRefIdeal.Gen.facts) := by
  pair_intro
  · run_from Cert.FfnInDxIdeal.Value.run_blocks m g
  · run_from run_stages m' g'
    all_goals obtain ⟨A, H, R⟩ := reads m c
    · exact (out0 R).trans (arr8 H).symm
    · exact (out1 R).trans (arr9 H).symm
    · exact (out2 R).trans (arr10 H).symm
    · exact (out3 R).trans (arr11 H).symm
    · exact (out4 R).trans (arr12 H).symm
    · exact (out5 R).trans (arr13 H).symm
    · exact (out6 R).trans (arr14 H).symm

end Cert.InDx

end
-- ==== Proof.OutDw.lean ====
/-
  The gradient of `a @ w` by `w`: the kernel adds up the products of four blocks of 1024 rows.
-/
module

public import proofs.«01_k».proof.Defs
public import proofs.«01_k».proof.Proof.Gen.FfnOutDwIdeal.Value
public import proofs.«01_k».proof.Proof.Gen.FfnOutDwRefIdeal.Run
public import Idealize.ShloMosaic.Lib.Pipeline.ValueKit
public import Idealize.ShloMosaic.Lib.Pointwise

@[expose] public section

set_option maxRecDepth 16384

noncomputable section

namespace Cert.OutDw

open Idealize.ShloMosaic Idealize.ShloMosaic.TcCoe Idealize.SL.Sem

section

open Cert.FfnOutDwIdeal Cert.FfnOutDwIdeal.Gen

variable (m : (ℓ : Loc nD τ sig) → Buf (Elt Ideal) ℓ) (c : Dev nD)

/-- The left factor and the incoming gradient, as the call receives them. -/
def A (r : Fin 4096) (i : Fin 2816) : EReal := (m ((c : Thread nD τ).loc main_arg0) : S4096x2816.Idx → EReal) (ix2 r i)
def D (r : Fin 4096) (j : Fin 1024) : EReal := (m ((c : Thread nD τ).loc main_arg1) : S4096x1024.Idx → EReal) (ix2 r j)

/-- Where each window's block lies at a grid point. -/
theorem idx : ∀ t : Fin cfg0.N, win0_0.index t 0 = t.val % 4 ∧ win0_0.index t 1 = 0 ∧ win0_1.index t 0 = t.val % 4
    ∧ win0_1.index t 1 = t.val / 4 ∧ win0_2.index t 0 = 0 ∧ win0_2.index t 1 = t.val / 4 :=
  (by decide +kernel : ∀ t : Fin grid0.N, win0_0.index t 0 = t.val % 4 ∧ win0_0.index t 1 = 0 ∧ win0_1.index t 0 = t.val % 4
    ∧ win0_1.index t 1 = t.val / 4 ∧ win0_2.index t 0 = 0 ∧ win0_2.index t 1 = t.val / 4)

/-- Row `r` of the blocks at point `t`. -/
def trow (t : Fin cfg0.N) (r : Fin 1024) : Fin 4096 := ⟨1024 * (t.val % 4) + r.val, by omega⟩
/-- Column `l` of the blocks at point `t`. -/
def tcol (t : Fin cfg0.N) (l : Fin 512) : Fin 1024 :=
  ⟨512 * (t.val / 4) + l.val, by have := t.isLt; have : cfg0.N = 8 := N_0; omega⟩

theorem blk_a (t : Fin cfg0.N) (r : Fin 1024) (i : Fin 2816) :
    (iblk m c 0 t : S1024x2816.Idx → EReal) (ix2 r i) = A m c (trow t r) i := by
  rw [A]
  blk_point [iblk, V, idx t, trow]

theorem blk_d (t : Fin cfg0.N) (r : Fin 1024) (l : Fin 512) :
    (iblk m c 1 t : S1024x512.Idx → EReal) (ix2 r l) = D m c (trow t r) (tcol t l) := by
  rw [D]
  blk_point [iblk, V, idx t, trow, tcol]

/-- The product of a block of rows. -/
theorem part (t : Fin cfg0.N) (i : Fin 2816) (l : Fin 512) :
    k0_pay1 (F := Ideal) (iblk m c 0 t) (iblk m c 1 t) (ix2 i l)
      = ∑ r, A m c (trow t r) i * D m c (trow t r) (tcol t l) := by
  pointwise [k0_pay1]
  simp only [blk_a, blk_d, zero_add]

/-- The result array after the run. -/
theorem arr : (dats m 0 c).arrAt 2 cfg0.N
    = fun i : S2816x1024.Idx => ∑ r, A m c r (i 0) * D m c r (i 1) := by
  refine (dats m 0 c).arrAt_eq_of_covers 2 _ (by decide +kernel) fun t hf j => ?_
  blk_simp
  rw [after0_2, Pipeline.eq_sum_fin_of_reset_step_apply_of_flush (fun n h => outsAt0 m c n h) 4 (fun _ => (0 : EReal))
    (fun t j => k0_pay1 (F := Ideal) (iblk m c 0 t) (iblk m c 1 t) j) ?_ ?_ t ((flush0_2 t).mp hf) j, zero_add]
  · obtain ⟨i, l, rfl⟩ : ∃ i l, j = ix2 i l := ⟨j 0, j 1, by funext a; fin_cases a <;> rfl⟩
    refine (Finset.sum_congr rfl fun s _ => part m c _ i l).trans ?_
    refine Eq.trans ?_ (Fin.sum_mul_add_fin 4 1024 fun r => A m c r ((win0_2.blk t).view.emb (ix2 i l) 0) * D m c r ((win0_2.blk t).view.emb (ix2 i l) 1))
    refine Finset.sum_congr rfl fun s _ => Finset.sum_congr rfl fun r _ => ?_
    have hr : ∀ h h', trow ⟨4 * (t.val / 4) + s.val, h⟩ r = ⟨s.val * 1024 + r.val, h'⟩ := fun h h' => Fin.ext (by
      show 1024 * ((4 * (t.val / 4) + s.val) % 4) + r.val = s.val * 1024 + r.val
      omega)
    congr 2
    · exact hr _ _
    · apply Fin.ext; blk_simp [idx t]
    · exact hr _ _
    · apply Fin.ext; blk_simp [idx t]
      show 512 * ((4 * (t.val / 4) + s.val) / 4) + l.val = t.val / 4 * 512 + l.val
      omega
  · intro t ht j
    rw [outsAt0_A m c t ht (by omega)]; frame_out
    exact (zero_add _).symm
  · intro t ht j
    rw [outsAt0_B m c t ht (by omega)]; frame_out
    obtain ⟨i, l, rfl⟩ : ∃ i l, j = ix2 i l := ⟨j 0, j 1, by funext a; fin_cases a <;> rfl⟩
    pointwise [k0_pay2]

end

/-- The two programs, from the same arguments, end with the same gradient. -/
theorem equation : Cert.algebraic_FfnOutDwIdeal_FfnOutDwRefIdeal (hFfnOutDwIdeal := Cert.FfnOutDwIdeal.Gen.facts)
    (hFfnOutDwRefIdeal := Cert.FfnOutDwRefIdeal.Gen.facts) := by
  pair_intro
  · run_from Cert.FfnOutDwIdeal.Value.run_blocks m g
  · run_from Cert.FfnOutDwRefIdeal.Value.run m' g'
    rw [arr m c]
    have ha : ∀ r i, (m ((c.tc : Thread Cert.FfnOutDwIdeal.nD Cert.FfnOutDwIdeal.τ).loc Cert.FfnOutDwIdeal.main_arg0)
        : Cert.FfnOutDwIdeal.S4096x2816.Idx → EReal) (ix2 r i) = A m c r i := fun r i => rfl
    have hd : ∀ r j, (m ((c.tc : Thread Cert.FfnOutDwIdeal.nD Cert.FfnOutDwIdeal.τ).loc Cert.FfnOutDwIdeal.main_arg1)
        : Cert.FfnOutDwIdeal.S4096x1024.Idx → EReal) (ix2 r j) = D m c r j := fun r j => rfl
    funext i
    obtain ⟨i, j, rfl⟩ : ∃ p q, i = ix2 p q := ⟨i 0, i 1, by funext a; fin_cases a <;> rfl⟩
    refine Eq.trans (b := ∑ r, A m c r i * D m c r j) ?_ rfl
    pointwise []
    simp only [ha, hd]
    exact Finset.sum_congr rfl fun r _ => mul_comm _ _

end Cert.OutDw

end
-- ==== Proof.InDw.lean ====
/-
  The gradient of `x @ w_in` by `w_in`, in four blocks of 1408 columns: the kernel adds up the products of two blocks of
  2048 rows.
-/
module

public import proofs.«01_k».proof.Defs
public import proofs.«01_k».proof.Proof.Cols
public import proofs.«01_k».proof.Proof.Gen.FfnInDwIdeal.Value
public import proofs.«01_k».proof.Proof.Gen.FfnInDwRefIdeal.Run
public import Idealize.ShloMosaic.Lib.Pipeline.ValueKit
public import Idealize.ShloMosaic.Lib.Pointwise

@[expose] public section

set_option maxRecDepth 16384

noncomputable section

namespace Cert.InDw

open Idealize.ShloMosaic Idealize.ShloMosaic.TcCoe Idealize.SL.Sem
open Cert.Cols

section

open Cert.FfnInDwIdeal Cert.FfnInDwIdeal.Gen

variable (m : (ℓ : Loc nD τ sig) → Buf (Elt Ideal) ℓ) (c : Dev nD)

/-- The left factor and the incoming gradient's two halves, as the call receives them. -/
def X (r : Fin 4096) (i : Fin 1024) : EReal := (m ((c : Thread nD τ).loc main_arg0) : S4096x1024.Idx → EReal) (ix2 r i)
def D (h : Fin 2) (r : Fin 4096) (j : Fin 2816) : EReal :=
  (m ((c : Thread nD τ).loc main_arg1) : S2x4096x2816.Idx → EReal) (ix3 h r j)

/-- Where each window's block lies at a grid point. -/
theorem idx : ∀ t : Fin cfg0.N, win0_0.index t 0 = t.val % 2 ∧ win0_0.index t 1 = 0 ∧ win0_1.index t 0 = t.val / 4
    ∧ win0_1.index t 1 = t.val % 2 ∧ win0_1.index t 2 = t.val / 2 % 2 ∧ win0_2.index t 0 = t.val / 2 ∧ win0_2.index t 1 = 0
    ∧ win0_2.index t 2 = 0 :=
  (by decide +kernel : ∀ t : Fin grid0.N, win0_0.index t 0 = t.val % 2 ∧ win0_0.index t 1 = 0 ∧ win0_1.index t 0 = t.val / 4
    ∧ win0_1.index t 1 = t.val % 2 ∧ win0_1.index t 2 = t.val / 2 % 2 ∧ win0_2.index t 0 = t.val / 2 ∧ win0_2.index t 1 = 0
    ∧ win0_2.index t 2 = 0)

/-- Row `r` of the blocks at point `t`. -/
def trow (t : Fin cfg0.N) (r : Fin 2048) : Fin 4096 := ⟨2048 * (t.val % 2) + r.val, by omega⟩
/-- The block of columns at point `t`. -/
def tq (t : Fin cfg0.N) : Fin 4 := ⟨t.val / 2, by have := t.isLt; have : cfg0.N = 8 := N_0; omega⟩

theorem blk_x (t : Fin cfg0.N) (r : Fin 2048) (i : Fin 1024) :
    (iblk m c 0 t : S2048x1024.Idx → EReal) (ix2 r i) = X m c (trow t r) i := by
  rw [X]
  blk_point [iblk, V, idx t, trow]

theorem blk_d (t : Fin cfg0.N) (r : Fin 2048) (l : Fin 1408) :
    (iblk m c 1 t : S1x2048x1408.Idx → EReal) (ix3 0 r l) = D m c (hf (tq t)) (trow t r) (cl (tq t) l) := by
  rw [D]
  blk_point [iblk, V, idx t, trow, hf, cl, tq]

/-- The product of a block of rows. -/
theorem part (t : Fin cfg0.N) (i : Fin 1024) (l : Fin 1408) :
    k0_pay1 (F := Ideal) (iblk m c 0 t) (iblk m c 1 t) (ix2 i l)
      = ∑ r, X m c (trow t r) i * D m c (hf (tq t)) (trow t r) (cl (tq t) l) := by
  pointwise [k0_pay1]
  simp only [blk_x, blk_d, zero_add]

/-- The result array after the run. -/
theorem arr : (dats m 0 c).arrAt 2 cfg0.N
    = fun i : S4x1024x1408.Idx => ∑ r, X m c r (i 1) * D m c (hf (i 0)) r (cl (i 0) (i 2)) := by
  refine (dats m 0 c).arrAt_eq_of_covers 2 _ (by decide +kernel) fun t hf j => ?_
  blk_simp
  rw [after0_2, Pipeline.eq_sum_fin_of_reset_step_apply_of_flush (fun n h => outsAt0 m c n h) 2 (fun _ => (0 : EReal))
    (fun t (j : S1x1024x1408.Idx) => k0_pay1 (F := Ideal) (iblk m c 0 t) (iblk m c 1 t) (ix2 (j 1) (j 2))) ?_ ?_ t ((flush0_2 t).mp hf) j, zero_add]
  · obtain ⟨z, i, l, rfl⟩ : ∃ z i l, j = ix3 z i l := ⟨j 0, j 1, j 2, by funext a; fin_cases a <;> rfl⟩
    refine (Finset.sum_congr rfl fun s _ => part m c _ i l).trans ?_
    refine Eq.trans ?_ (Fin.sum_mul_add_fin 2 2048 fun r => X m c r ((win0_2.blk t).view.emb (ix3 z i l) 1)
      * D m c (Cert.Cols.hf ((win0_2.blk t).view.emb (ix3 z i l) 0)) r (cl ((win0_2.blk t).view.emb (ix3 z i l) 0) ((win0_2.blk t).view.emb (ix3 z i l) 2)))
    refine Finset.sum_congr rfl fun s _ => Finset.sum_congr rfl fun r _ => ?_
    have hr : ∀ h h', trow ⟨2 * (t.val / 2) + s.val, h⟩ r = ⟨s.val * 2048 + r.val, h'⟩ := fun h h' => Fin.ext (by
      show 2048 * ((2 * (t.val / 2) + s.val) % 2) + r.val = s.val * 2048 + r.val
      omega)
    have hq : ∀ h, tq ⟨2 * (t.val / 2) + s.val, h⟩ = (win0_2.blk t).view.emb (ix3 z i l) 0 := fun h => by
      apply Fin.ext; blk_simp [idx t]
      show (2 * (t.val / 2) + s.val) / 2 = _
      omega
    rw [hq]
    congr 2
    · exact hr _ _
    · apply Fin.ext; blk_simp [idx t]
    · exact hr _ _
    · congr 1
      apply Fin.ext; blk_simp [idx t]
  · intro t ht j
    rw [outsAt0_A m c t ht (by omega)]; frame_out
    obtain ⟨z, i, l, rfl⟩ : ∃ z i l, j = ix3 z i l := ⟨j 0, j 1, j 2, by funext a; fin_cases a <;> rfl⟩
    obtain rfl : z = 0 := Subsingleton.elim _ _
    rw [zero_add]
    pointwise [k0_pay2]
  · intro t ht j
    rw [outsAt0_B m c t ht (by omega)]; frame_out
    obtain ⟨z, i, l, rfl⟩ : ∃ z i l, j = ix3 z i l := ⟨j 0, j 1, j 2, by funext a; fin_cases a <;> rfl⟩
    obtain rfl : z = 0 := Subsingleton.elim _ _
    pointwise [k0_pay3]

end

/-- The two programs, from the same arguments, end with the same gradient. -/
theorem equation : Cert.algebraic_FfnInDwIdeal_FfnInDwRefIdeal (hFfnInDwIdeal := Cert.FfnInDwIdeal.Gen.facts)
    (hFfnInDwRefIdeal := Cert.FfnInDwRefIdeal.Gen.facts) := by
  pair_intro
  · run_from Cert.FfnInDwIdeal.Value.run_blocks m g
  · run_from Cert.FfnInDwRefIdeal.Value.run m' g'
    rw [arr m c]
    have ha : ∀ r i, (m ((c.tc : Thread Cert.FfnInDwIdeal.nD Cert.FfnInDwIdeal.τ).loc Cert.FfnInDwIdeal.main_arg0)
        : Cert.FfnInDwIdeal.S4096x1024.Idx → EReal) (ix2 r i) = X m c r i := fun r i => rfl
    have hd : ∀ h r j, (m ((c.tc : Thread Cert.FfnInDwIdeal.nD Cert.FfnInDwIdeal.τ).loc Cert.FfnInDwIdeal.main_arg1)
        : Cert.FfnInDwIdeal.S2x4096x2816.Idx → EReal) (ix3 h r j) = D m c h r j := fun h r j => rfl
    funext i
    obtain ⟨q, i, l, rfl⟩ : ∃ q p l, i = ix3 q p l := ⟨i 0, i 1, i 2, by funext a; fin_cases a <;> rfl⟩
    refine Eq.trans (b := ∑ r, X m c r i * D m c (hf q) r (cl q l)) ?_ rfl
    pointwise []
    simp only [ha, hd]
    exact Finset.sum_congr rfl fun r _ => (mul_comm _ _).trans
      (congrArg (X m c r i * ·) (halves (fun h j => D m c h r j) q l fun _ => by omega))

end Cert.InDw

end
-- ==== Proof.ProjDw.lean ====
/-
  The gradient of `a @ w` by `w`, a matrix of 1024 by 1024: the kernel adds up the products of four blocks of 1024 rows.
-/
module

public import proofs.«01_k».proof.Defs
public import proofs.«01_k».proof.Proof.Gen.ProjDwIdeal.Value
public import proofs.«01_k».proof.Proof.Gen.ProjDwRefIdeal.Run
public import Idealize.ShloMosaic.Lib.Pipeline.ValueKit
public import Idealize.ShloMosaic.Lib.Pointwise

@[expose] public section

set_option maxRecDepth 16384

noncomputable section

namespace Cert.ProjDwEq

open Idealize.ShloMosaic Idealize.ShloMosaic.TcCoe Idealize.SL.Sem

section

open Cert.ProjDwIdeal Cert.ProjDwIdeal.Gen

variable (m : (ℓ : Loc nD τ sig) → Buf (Elt Ideal) ℓ) (c : Dev nD)

/-- The left factor and the incoming gradient, as the call receives them. -/
def A (r : Fin 4096) (i : Fin 1024) : EReal := (m ((c : Thread nD τ).loc main_arg0) : S4096x1024.Idx → EReal) (ix2 r i)
def D (r : Fin 4096) (j : Fin 1024) : EReal := (m ((c : Thread nD τ).loc main_arg1) : S4096x1024.Idx → EReal) (ix2 r j)

/-- Where each window's block lies at a grid point. -/
theorem idx : ∀ t : Fin cfg0.N, win0_0.index t 0 = t.val % 4 ∧ win0_0.index t 1 = 0 ∧ win0_1.index t 0 = t.val % 4
    ∧ win0_1.index t 1 = t.val / 4 ∧ win0_2.index t 0 = 0 ∧ win0_2.index t 1 = t.val / 4 :=
  (by decide +kernel : ∀ t : Fin grid0.N, win0_0.index t 0 = t.val % 4 ∧ win0_0.index t 1 = 0 ∧ win0_1.index t 0 = t.val % 4
    ∧ win0_1.index t 1 = t.val / 4 ∧ win0_2.index t 0 = 0 ∧ win0_2.index t 1 = t.val / 4)

/-- Row `r` of the blocks at point `t`. -/
def trow (t : Fin cfg0.N) (r : Fin 1024) : Fin 4096 := ⟨1024 * (t.val % 4) + r.val, by omega⟩
/-- Column `l` of the blocks at point `t`. -/
def tcol (t : Fin cfg0.N) (l : Fin 1024) : Fin 1024 :=
  ⟨1024 * (t.val / 4) + l.val, by have := t.isLt; have : cfg0.N = 4 := N_0; omega⟩

theorem blk_a (t : Fin cfg0.N) (r : Fin 1024) (i : Fin 1024) :
    (iblk m c 0 t : S1024x1024.Idx → EReal) (ix2 r i) = A m c (trow t r) i := by
  rw [A]
  blk_point [iblk, V, idx t, trow]

theorem blk_d (t : Fin cfg0.N) (r : Fin 1024) (l : Fin 1024) :
    (iblk m c 1 t : S1024x1024.Idx → EReal) (ix2 r l) = D m c (trow t r) (tcol t l) := by
  rw [D]
  blk_point [iblk, V, idx t, trow, tcol]

/-- The product of a block of rows. -/
theorem part (t : Fin cfg0.N) (i : Fin 1024) (l : Fin 1024) :
    k0_pay1 (F := Ideal) (iblk m c 0 t) (iblk m c 1 t) (ix2 i l)
      = ∑ r, A m c (trow t r) i * D m c (trow t r) (tcol t l) := by
  pointwise [k0_pay1]
  simp only [blk_a, blk_d, zero_add]

/-- The result array after the run. -/
theorem arr : (dats m 0 c).arrAt 2 cfg0.N
    = fun i : S1024x1024.Idx => ∑ r, A m c r (i 0) * D m c r (i 1) := by
  refine (dats m 0 c).arrAt_eq_of_covers 2 _ (by decide +kernel) fun t hf j => ?_
  blk_simp
  rw [after0_2, Pipeline.eq_sum_fin_of_reset_step_apply_of_flush (fun n h => outsAt0 m c n h) 4 (fun _ => (0 : EReal))
    (fun t j => k0_pay1 (F := Ideal) (iblk m c 0 t) (iblk m c 1 t) j) ?_ ?_ t ((flush0_2 t).mp hf) j, zero_add]
  · obtain ⟨i, l, rfl⟩ : ∃ i l, j = ix2 i l := ⟨j 0, j 1, by funext a; fin_cases a <;> rfl⟩
    refine (Finset.sum_congr rfl fun s _ => part m c _ i l).trans ?_
    refine Eq.trans ?_ (Fin.sum_mul_add_fin 4 1024 fun r => A m c r ((win0_2.blk t).view.emb (ix2 i l) 0) * D m c r ((win0_2.blk t).view.emb (ix2 i l) 1))
    refine Finset.sum_congr rfl fun s _ => Finset.sum_congr rfl fun r _ => ?_
    have hr : ∀ h h', trow ⟨4 * (t.val / 4) + s.val, h⟩ r = ⟨s.val * 1024 + r.val, h'⟩ := fun h h' => Fin.ext (by
      show 1024 * ((4 * (t.val / 4) + s.val) % 4) + r.val = s.val * 1024 + r.val
      omega)
    congr 2
    · exact hr _ _
    · apply Fin.ext; blk_simp [idx t]
    · exact hr _ _
    · apply Fin.ext; blk_simp [idx t]
      show 1024 * ((4 * (t.val / 4) + s.val) / 4) + l.val = t.val / 4 * 1024 + l.val
      omega
  · intro t ht j
    rw [outsAt0_A m c t ht (by have := t.isLt; have : cfg0.N = 4 := N_0; omega)]; frame_out
    exact (zero_add _).symm
  · intro t ht j
    rw [outsAt0_B m c t ht (by omega)]; frame_out
    obtain ⟨i, l, rfl⟩ : ∃ i l, j = ix2 i l := ⟨j 0, j 1, by funext a; fin_cases a <;> rfl⟩
    pointwise [k0_pay2]

end

/-- The two programs, from the same arguments, end with the same gradient. -/
theorem equation : Cert.algebraic_ProjDwIdeal_ProjDwRefIdeal (hProjDwIdeal := Cert.ProjDwIdeal.Gen.facts)
    (hProjDwRefIdeal := Cert.ProjDwRefIdeal.Gen.facts) := by
  pair_intro
  · run_from Cert.ProjDwIdeal.Value.run_blocks m g
  · run_from Cert.ProjDwRefIdeal.Value.run m' g'
    rw [arr m c]
    have ha : ∀ r i, (m ((c.tc : Thread Cert.ProjDwIdeal.nD Cert.ProjDwIdeal.τ).loc Cert.ProjDwIdeal.main_arg0)
        : Cert.ProjDwIdeal.S4096x1024.Idx → EReal) (ix2 r i) = A m c r i := fun r i => rfl
    have hd : ∀ r j, (m ((c.tc : Thread Cert.ProjDwIdeal.nD Cert.ProjDwIdeal.τ).loc Cert.ProjDwIdeal.main_arg1)
        : Cert.ProjDwIdeal.S4096x1024.Idx → EReal) (ix2 r j) = D m c r j := fun r j => rfl
    funext i
    obtain ⟨i, j, rfl⟩ : ∃ p q, i = ix2 p q := ⟨i 0, i 1, by funext a; fin_cases a <;> rfl⟩
    refine Eq.trans (b := ∑ r, A m c r i * D m c r j) ?_ rfl
    pointwise []
    simp only [ha, hd]
    exact Finset.sum_congr rfl fun r _ => mul_comm _ _

end Cert.ProjDwEq

end
-- ==== Proof.Pw1Dw.lean ====
/-
  The gradient of `a @ w` by `w`, a matrix of 1024 by 2048: the kernel adds up the products of four blocks of 1024 rows.
-/
module

public import proofs.«01_k».proof.Defs
public import proofs.«01_k».proof.Proof.Gen.Pw1DwIdeal.Value
public import proofs.«01_k».proof.Proof.Gen.Pw1DwRefIdeal.Run
public import Idealize.ShloMosaic.Lib.Pipeline.ValueKit
public import Idealize.ShloMosaic.Lib.Pointwise

@[expose] public section

set_option maxRecDepth 16384

noncomputable section

namespace Cert.Pw1DwEq

open Idealize.ShloMosaic Idealize.ShloMosaic.TcCoe Idealize.SL.Sem

section

open Cert.Pw1DwIdeal Cert.Pw1DwIdeal.Gen

variable (m : (ℓ : Loc nD τ sig) → Buf (Elt Ideal) ℓ) (c : Dev nD)

/-- The left factor and the incoming gradient, as the call receives them. -/
def A (r : Fin 4096) (i : Fin 1024) : EReal := (m ((c : Thread nD τ).loc main_arg0) : S4096x1024.Idx → EReal) (ix2 r i)
def D (r : Fin 4096) (j : Fin 2048) : EReal := (m ((c : Thread nD τ).loc main_arg1) : S4096x2048.Idx → EReal) (ix2 r j)

/-- Where each window's block lies at a grid point. -/
theorem idx : ∀ t : Fin cfg0.N, win0_0.index t 0 = t.val % 4 ∧ win0_0.index t 1 = 0 ∧ win0_1.index t 0 = t.val % 4
    ∧ win0_1.index t 1 = t.val / 4 ∧ win0_2.index t 0 = 0 ∧ win0_2.index t 1 = t.val / 4 :=
  (by decide +kernel : ∀ t : Fin grid0.N, win0_0.index t 0 = t.val % 4 ∧ win0_0.index t 1 = 0 ∧ win0_1.index t 0 = t.val % 4
    ∧ win0_1.index t 1 = t.val / 4 ∧ win0_2.index t 0 = 0 ∧ win0_2.index t 1 = t.val / 4)

/-- Row `r` of the blocks at point `t`. -/
def trow (t : Fin cfg0.N) (r : Fin 1024) : Fin 4096 := ⟨1024 * (t.val % 4) + r.val, by omega⟩
/-- Column `l` of the blocks at point `t`. -/
def tcol (t : Fin cfg0.N) (l : Fin 512) : Fin 2048 :=
  ⟨512 * (t.val / 4) + l.val, by have := t.isLt; have : cfg0.N = 16 := N_0; omega⟩

theorem blk_a (t : Fin cfg0.N) (r : Fin 1024) (i : Fin 1024) :
    (iblk m c 0 t : S1024x1024.Idx → EReal) (ix2 r i) = A m c (trow t r) i := by
  rw [A]
  blk_point [iblk, V, idx t, trow]

theorem blk_d (t : Fin cfg0.N) (r : Fin 1024) (l : Fin 512) :
    (iblk m c 1 t : S1024x512.Idx → EReal) (ix2 r l) = D m c (trow t r) (tcol t l) := by
  rw [D]
  blk_point [iblk, V, idx t, trow, tcol]

/-- The product of a block of rows. -/
theorem part (t : Fin cfg0.N) (i : Fin 1024) (l : Fin 512) :
    k0_pay1 (F := Ideal) (iblk m c 0 t) (iblk m c 1 t) (ix2 i l)
      = ∑ r, A m c (trow t r) i * D m c (trow t r) (tcol t l) := by
  pointwise [k0_pay1]
  simp only [blk_a, blk_d, zero_add]

/-- The result array after the run. -/
theorem arr : (dats m 0 c).arrAt 2 cfg0.N
    = fun i : S1024x2048.Idx => ∑ r, A m c r (i 0) * D m c r (i 1) := by
  refine (dats m 0 c).arrAt_eq_of_covers 2 _ (by decide +kernel) fun t hf j => ?_
  blk_simp
  rw [after0_2, Pipeline.eq_sum_fin_of_reset_step_apply_of_flush (fun n h => outsAt0 m c n h) 4 (fun _ => (0 : EReal))
    (fun t j => k0_pay1 (F := Ideal) (iblk m c 0 t) (iblk m c 1 t) j) ?_ ?_ t ((flush0_2 t).mp hf) j, zero_add]
  · obtain ⟨i, l, rfl⟩ : ∃ i l, j = ix2 i l := ⟨j 0, j 1, by funext a; fin_cases a <;> rfl⟩
    refine (Finset.sum_congr rfl fun s _ => part m c _ i l).trans ?_
    refine Eq.trans ?_ (Fin.sum_mul_add_fin 4 1024 fun r => A m c r ((win0_2.blk t).view.emb (ix2 i l) 0) * D m c r ((win0_2.blk t).view.emb (ix2 i l) 1))
    refine Finset.sum_congr rfl fun s _ => Finset.sum_congr rfl fun r _ => ?_
    have hr : ∀ h h', trow ⟨4 * (t.val / 4) + s.val, h⟩ r = ⟨s.val * 1024 + r.val, h'⟩ := fun h h' => Fin.ext (by
      show 1024 * ((4 * (t.val / 4) + s.val) % 4) + r.val = s.val * 1024 + r.val
      omega)
    congr 2
    · exact hr _ _
    · apply Fin.ext; blk_simp [idx t]
    · exact hr _ _
    · apply Fin.ext; blk_simp [idx t]
      show 512 * ((4 * (t.val / 4) + s.val) / 4) + l.val = t.val / 4 * 512 + l.val
      omega
  · intro t ht j
    rw [outsAt0_A m c t ht (by omega)]; frame_out
    exact (zero_add _).symm
  · intro t ht j
    rw [outsAt0_B m c t ht (by omega)]; frame_out
    obtain ⟨i, l, rfl⟩ : ∃ i l, j = ix2 i l := ⟨j 0, j 1, by funext a; fin_cases a <;> rfl⟩
    pointwise [k0_pay2]

end

/-- The two programs, from the same arguments, end with the same gradient. -/
theorem equation : Cert.algebraic_Pw1DwIdeal_Pw1DwRefIdeal (hPw1DwIdeal := Cert.Pw1DwIdeal.Gen.facts)
    (hPw1DwRefIdeal := Cert.Pw1DwRefIdeal.Gen.facts) := by
  pair_intro
  · run_from Cert.Pw1DwIdeal.Value.run_blocks m g
  · run_from Cert.Pw1DwRefIdeal.Value.run m' g'
    rw [arr m c]
    have ha : ∀ r i, (m ((c.tc : Thread Cert.Pw1DwIdeal.nD Cert.Pw1DwIdeal.τ).loc Cert.Pw1DwIdeal.main_arg0)
        : Cert.Pw1DwIdeal.S4096x1024.Idx → EReal) (ix2 r i) = A m c r i := fun r i => rfl
    have hd : ∀ r j, (m ((c.tc : Thread Cert.Pw1DwIdeal.nD Cert.Pw1DwIdeal.τ).loc Cert.Pw1DwIdeal.main_arg1)
        : Cert.Pw1DwIdeal.S4096x2048.Idx → EReal) (ix2 r j) = D m c r j := fun r j => rfl
    funext i
    obtain ⟨i, j, rfl⟩ : ∃ p q, i = ix2 p q := ⟨i 0, i 1, by funext a; fin_cases a <;> rfl⟩
    refine Eq.trans (b := ∑ r, A m c r i * D m c r j) ?_ rfl
    pointwise []
    simp only [ha, hd]
    exact Finset.sum_congr rfl fun r _ => mul_comm _ _

end Cert.Pw1DwEq

end
-- ==== Proof.QkvDw.lean ====
/-
  The gradient of `a @ w` by `w`, a matrix of 1024 by 768: the kernel adds up the products of four blocks of 1088 rows.
-/
module

public import proofs.«01_k».proof.Defs
public import proofs.«01_k».proof.Proof.Gen.QkvDwIdeal.Value
public import proofs.«01_k».proof.Proof.Gen.QkvDwRefIdeal.Run
public import Idealize.ShloMosaic.Lib.Pipeline.ValueKit
public import Idealize.ShloMosaic.Lib.Pointwise

@[expose] public section

set_option maxRecDepth 16384

noncomputable section

namespace Cert.QkvDwEq

open Idealize.ShloMosaic Idealize.ShloMosaic.TcCoe Idealize.SL.Sem

section

open Cert.QkvDwIdeal Cert.QkvDwIdeal.Gen

variable (m : (ℓ : Loc nD τ sig) → Buf (Elt Ideal) ℓ) (c : Dev nD)

/-- The left factor and the incoming gradient, as the call receives them. -/
def A (r : Fin 4352) (i : Fin 1024) : EReal := (m ((c : Thread nD τ).loc main_arg0) : S4352x1024.Idx → EReal) (ix2 r i)
def D (r : Fin 4352) (j : Fin 768) : EReal := (m ((c : Thread nD τ).loc main_arg1) : S4352x768.Idx → EReal) (ix2 r j)

/-- Where each window's block lies at a grid point. -/
theorem idx : ∀ t : Fin cfg0.N, win0_0.index t 0 = t.val % 4 ∧ win0_0.index t 1 = 0 ∧ win0_1.index t 0 = t.val % 4
    ∧ win0_1.index t 1 = t.val / 4 ∧ win0_2.index t 0 = 0 ∧ win0_2.index t 1 = t.val / 4 :=
  (by decide +kernel : ∀ t : Fin grid0.N, win0_0.index t 0 = t.val % 4 ∧ win0_0.index t 1 = 0 ∧ win0_1.index t 0 = t.val % 4
    ∧ win0_1.index t 1 = t.val / 4 ∧ win0_2.index t 0 = 0 ∧ win0_2.index t 1 = t.val / 4)

/-- Row `r` of the blocks at point `t`. -/
def trow (t : Fin cfg0.N) (r : Fin 1088) : Fin 4352 := ⟨1088 * (t.val % 4) + r.val, by omega⟩
/-- Column `l` of the blocks at point `t`. -/
def tcol (t : Fin cfg0.N) (l : Fin 768) : Fin 768 :=
  ⟨768 * (t.val / 4) + l.val, by have := t.isLt; have : cfg0.N = 4 := N_0; omega⟩

theorem blk_a (t : Fin cfg0.N) (r : Fin 1088) (i : Fin 1024) :
    (iblk m c 0 t : S1088x1024.Idx → EReal) (ix2 r i) = A m c (trow t r) i := by
  rw [A]
  blk_point [iblk, V, idx t, trow]

theorem blk_d (t : Fin cfg0.N) (r : Fin 1088) (l : Fin 768) :
    (iblk m c 1 t : S1088x768.Idx → EReal) (ix2 r l) = D m c (trow t r) (tcol t l) := by
  rw [D]
  blk_point [iblk, V, idx t, trow, tcol]

/-- The product of a block of rows. -/
theorem part (t : Fin cfg0.N) (i : Fin 1024) (l : Fin 768) :
    k0_pay1 (F := Ideal) (iblk m c 0 t) (iblk m c 1 t) (ix2 i l)
      = ∑ r, A m c (trow t r) i * D m c (trow t r) (tcol t l) := by
  pointwise [k0_pay1]
  simp only [blk_a, blk_d, zero_add]

/-- The result array after the run. -/
theorem arr : (dats m 0 c).arrAt 2 cfg0.N
    = fun i : S1024x768.Idx => ∑ r, A m c r (i 0) * D m c r (i 1) := by
  refine (dats m 0 c).arrAt_eq_of_covers 2 _ (by decide +kernel) fun t hf j => ?_
  blk_simp
  rw [after0_2, Pipeline.eq_sum_fin_of_reset_step_apply_of_flush (fun n h => outsAt0 m c n h) 4 (fun _ => (0 : EReal))
    (fun t j => k0_pay1 (F := Ideal) (iblk m c 0 t) (iblk m c 1 t) j) ?_ ?_ t ((flush0_2 t).mp hf) j, zero_add]
  · obtain ⟨i, l, rfl⟩ : ∃ i l, j = ix2 i l := ⟨j 0, j 1, by funext a; fin_cases a <;> rfl⟩
    refine (Finset.sum_congr rfl fun s _ => part m c _ i l).trans ?_
    refine Eq.trans ?_ (Fin.sum_mul_add_fin 4 1088 fun r => A m c r ((win0_2.blk t).view.emb (ix2 i l) 0) * D m c r ((win0_2.blk t).view.emb (ix2 i l) 1))
    refine Finset.sum_congr rfl fun s _ => Finset.sum_congr rfl fun r _ => ?_
    have hr : ∀ h h', trow ⟨4 * (t.val / 4) + s.val, h⟩ r = ⟨s.val * 1088 + r.val, h'⟩ := fun h h' => Fin.ext (by
      show 1088 * ((4 * (t.val / 4) + s.val) % 4) + r.val = s.val * 1088 + r.val
      omega)
    congr 2
    · exact hr _ _
    · apply Fin.ext; blk_simp [idx t]
    · exact hr _ _
    · apply Fin.ext; blk_simp [idx t]
      show 768 * ((4 * (t.val / 4) + s.val) / 4) + l.val = t.val / 4 * 768 + l.val
      omega
  · intro t ht j
    rw [outsAt0_A m c t ht (by have := t.isLt; have : cfg0.N = 4 := N_0; omega)]; frame_out
    exact (zero_add _).symm
  · intro t ht j
    rw [outsAt0_B m c t ht (by omega)]; frame_out
    obtain ⟨i, l, rfl⟩ : ∃ i l, j = ix2 i l := ⟨j 0, j 1, by funext a; fin_cases a <;> rfl⟩
    pointwise [k0_pay2]

end

/-- The two programs, from the same arguments, end with the same gradient. -/
theorem equation : Cert.algebraic_QkvDwIdeal_QkvDwRefIdeal (hQkvDwIdeal := Cert.QkvDwIdeal.Gen.facts)
    (hQkvDwRefIdeal := Cert.QkvDwRefIdeal.Gen.facts) := by
  pair_intro
  · run_from Cert.QkvDwIdeal.Value.run_blocks m g
  · run_from Cert.QkvDwRefIdeal.Value.run m' g'
    rw [arr m c]
    have ha : ∀ r i, (m ((c.tc : Thread Cert.QkvDwIdeal.nD Cert.QkvDwIdeal.τ).loc Cert.QkvDwIdeal.main_arg0)
        : Cert.QkvDwIdeal.S4352x1024.Idx → EReal) (ix2 r i) = A m c r i := fun r i => rfl
    have hd : ∀ r j, (m ((c.tc : Thread Cert.QkvDwIdeal.nD Cert.QkvDwIdeal.τ).loc Cert.QkvDwIdeal.main_arg1)
        : Cert.QkvDwIdeal.S4352x768.Idx → EReal) (ix2 r j) = D m c r j := fun r j => rfl
    funext i
    obtain ⟨i, j, rfl⟩ : ∃ p q, i = ix2 p q := ⟨i 0, i 1, by funext a; fin_cases a <;> rfl⟩
    refine Eq.trans (b := ∑ r, A m c r i * D m c r j) ?_ rfl
    pointwise []
    simp only [ha, hd]
    exact Finset.sum_congr rfl fun r _ => mul_comm _ _

end Cert.QkvDwEq

end
-- ==== Proof.QkvDx.lean ====
/-
  The gradient of `x @ w` by `x`, 4352 rows of 1024: the kernel takes blocks of 1088 rows.
-/
module

public import proofs.«01_k».proof.Defs
public import proofs.«01_k».proof.Proof.Gen.QkvDxIdeal.Value
public import proofs.«01_k».proof.Proof.Gen.QkvDxRefIdeal.Run
public import Idealize.ShloMosaic.Lib.Pipeline.ValueKit
public import Idealize.ShloMosaic.Lib.Pointwise

@[expose] public section

set_option maxRecDepth 16384

noncomputable section

namespace Cert.QkvDxEq

open Idealize.ShloMosaic Idealize.ShloMosaic.TcCoe Idealize.SL.Sem

section

open Cert.QkvDxIdeal Cert.QkvDxIdeal.Gen

variable (m : (ℓ : Loc nD τ sig) → Buf (Elt Ideal) ℓ) (c : Dev nD)

/-- The incoming gradient and the weight, as the call receives them. -/
def D (r : Fin 4352) (j : Fin 768) : EReal := (m ((c : Thread nD τ).loc main_arg0) : S4352x768.Idx → EReal) (ix2 r j)
def W (i : Fin 1024) (j : Fin 768) : EReal := (m ((c : Thread nD τ).loc main_arg1) : S1024x768.Idx → EReal) (ix2 i j)

/-- Where each window's block lies at a grid point. -/
theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0)

/-- Row `r` of the blocks at point `t`. -/
def trow (t : Fin cfg0.N) (r : Fin 1088) : Fin 4352 :=
  ⟨1088 * t.val + r.val, by have := t.isLt; have : cfg0.N = 4 := N_0; omega⟩

theorem blk_d (t : Fin cfg0.N) (r : Fin 1088) (j : Fin 768) :
    (iblk m c 0 t : S1088x768.Idx → EReal) (ix2 r j) = D m c (trow t r) j := by
  rw [D]
  blk_point [iblk, V, idx t, trow]

theorem blk_w (t : Fin cfg0.N) (i : Fin 1024) (j : Fin 768) :
    (iblk m c 1 t : S1024x768.Idx → EReal) (ix2 i j) = W m c i j := by
  rw [W]
  blk_point [iblk, V, idx t]

/-- What a grid point leaves in the result's block. -/
theorem out2 (t : Fin cfg0.N) (y : S1088x1024.Idx) :
    out0_2 (iblk m c 0 t) (iblk m c 1 t) y = ∑ k, D m c (trow t (y 0)) k * W m c (y 1) k := by
  obtain ⟨r, i, rfl⟩ : ∃ r i, y = ix2 r i := ⟨y 0, y 1, by funext a; fin_cases a <;> rfl⟩
  frame_out
  pointwise [k0_pay1]
  simp only [blk_d, blk_w]

/-- The result array after the run. -/
theorem arr : (dats m 0 c).arrAt 2 cfg0.N
    = fun i : S4352x1024.Idx => ∑ k, D m c (i 0) k * W m c (i 1) k := by
  refine (dats m 0 c).arrAt_eq_of_covers 2 _ (by decide +kernel) fun t hf y => ?_
  blk_simp
  rw [after0_2]
  refine (out2 m c t y).trans (Finset.sum_congr rfl fun k _ => ?_)
  congr 2 <;> apply Fin.ext <;> blk_simp [idx t, trow]
  exact congrArg (· + (y 0).val) (Nat.mul_comm 1088 t.val)

end

/-- The two programs, from the same arguments, end with the same gradient. -/
theorem equation : Cert.algebraic_QkvDxIdeal_QkvDxRefIdeal (hQkvDxIdeal := Cert.QkvDxIdeal.Gen.facts)
    (hQkvDxRefIdeal := Cert.QkvDxRefIdeal.Gen.facts) := by
  pair_intro
  · run_from Cert.QkvDxIdeal.Value.run_blocks m g
  · run_from Cert.QkvDxRefIdeal.Value.run m' g'
    rw [arr m c]
    have hd : ∀ r j, (m ((c.tc : Thread Cert.QkvDxIdeal.nD Cert.QkvDxIdeal.τ).loc Cert.QkvDxIdeal.main_arg0)
        : Cert.QkvDxIdeal.S4352x768.Idx → EReal) (ix2 r j) = D m c r j := fun r j => rfl
    have hw : ∀ i j, (m ((c.tc : Thread Cert.QkvDxIdeal.nD Cert.QkvDxIdeal.τ).loc Cert.QkvDxIdeal.main_arg1)
        : Cert.QkvDxIdeal.S1024x768.Idx → EReal) (ix2 i j) = W m c i j := fun i j => rfl
    funext i
    obtain ⟨r, i, rfl⟩ : ∃ p q, i = ix2 p q := ⟨i 0, i 1, by funext a; fin_cases a <;> rfl⟩
    refine Eq.trans (b := ∑ k, D m c r k * W m c i k) ?_ rfl
    pointwise []
    simp only [hd, hw]

end Cert.QkvDxEq

end
-- ==== Proof.MixOutDx.lean ====
/-
  The gradient of `x @ w` by `x`, 4096 rows of 1024: the kernel takes blocks of 1024 rows.
-/
module

public import proofs.«01_k».proof.Defs
public import proofs.«01_k».proof.Proof.Gen.MixOutDxIdeal.Value
public import proofs.«01_k».proof.Proof.Gen.MixOutDxRefIdeal.Run
public import Idealize.ShloMosaic.Lib.Pipeline.ValueKit
public import Idealize.ShloMosaic.Lib.Pointwise

@[expose] public section

set_option maxRecDepth 16384

noncomputable section

namespace Cert.MixOutDxEq

open Idealize.ShloMosaic Idealize.ShloMosaic.TcCoe Idealize.SL.Sem

section

open Cert.MixOutDxIdeal Cert.MixOutDxIdeal.Gen

variable (m : (ℓ : Loc nD τ sig) → Buf (Elt Ideal) ℓ) (c : Dev nD)

/-- The incoming gradient and the weight, as the call receives them. -/
def D (r : Fin 4096) (j : Fin 1024) : EReal := (m ((c : Thread nD τ).loc main_arg0) : S4096x1024.Idx → EReal) (ix2 r j)
def W (i : Fin 1024) (j : Fin 1024) : EReal := (m ((c : Thread nD τ).loc main_arg1) : S1024x1024.Idx → EReal) (ix2 i j)

/-- Where each window's block lies at a grid point. -/
theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0)

/-- Row `r` of the blocks at point `t`. -/
def trow (t : Fin cfg0.N) (r : Fin 1024) : Fin 4096 :=
  ⟨1024 * t.val + r.val, by have := t.isLt; have : cfg0.N = 4 := N_0; omega⟩

theorem blk_d (t : Fin cfg0.N) (r : Fin 1024) (j : Fin 1024) :
    (iblk m c 0 t : S1024x1024.Idx → EReal) (ix2 r j) = D m c (trow t r) j := by
  rw [D]
  blk_point [iblk, V, idx t, trow]

theorem blk_w (t : Fin cfg0.N) (i : Fin 1024) (j : Fin 1024) :
    (iblk m c 1 t : S1024x1024.Idx → EReal) (ix2 i j) = W m c i j := by
  rw [W]
  blk_point [iblk, V, idx t]

/-- What a grid point leaves in the result's block. -/
theorem out2 (t : Fin cfg0.N) (y : S1024x1024.Idx) :
    out0_2 (iblk m c 0 t) (iblk m c 1 t) y = ∑ k, D m c (trow t (y 0)) k * W m c (y 1) k := by
  obtain ⟨r, i, rfl⟩ : ∃ r i, y = ix2 r i := ⟨y 0, y 1, by funext a; fin_cases a <;> rfl⟩
  frame_out
  pointwise [k0_pay1]
  simp only [blk_d, blk_w]

/-- The result array after the run. -/
theorem arr : (dats m 0 c).arrAt 2 cfg0.N
    = fun i : S4096x1024.Idx => ∑ k, D m c (i 0) k * W m c (i 1) k := by
  refine (dats m 0 c).arrAt_eq_of_covers 2 _ (by decide +kernel) fun t hf y => ?_
  blk_simp
  rw [after0_2]
  refine (out2 m c t y).trans (Finset.sum_congr rfl fun k _ => ?_)
  congr 2 <;> apply Fin.ext <;> blk_simp [idx t, trow]
  exact congrArg (· + (y 0).val) (Nat.mul_comm 1024 t.val)

end

/-- The two programs, from the same arguments, end with the same gradient. -/
theorem equation : Cert.algebraic_MixOutDxIdeal_MixOutDxRefIdeal (hMixOutDxIdeal := Cert.MixOutDxIdeal.Gen.facts)
    (hMixOutDxRefIdeal := Cert.MixOutDxRefIdeal.Gen.facts) := by
  pair_intro
  · run_from Cert.MixOutDxIdeal.Value.run_blocks m g
  · run_from Cert.MixOutDxRefIdeal.Value.run m' g'
    rw [arr m c]
    have hd : ∀ r j, (m ((c.tc : Thread Cert.MixOutDxIdeal.nD Cert.MixOutDxIdeal.τ).loc Cert.MixOutDxIdeal.main_arg0)
        : Cert.MixOutDxIdeal.S4096x1024.Idx → EReal) (ix2 r j) = D m c r j := fun r j => rfl
    have hw : ∀ i j, (m ((c.tc : Thread Cert.MixOutDxIdeal.nD Cert.MixOutDxIdeal.τ).loc Cert.MixOutDxIdeal.main_arg1)
        : Cert.MixOutDxIdeal.S1024x1024.Idx → EReal) (ix2 i j) = W m c i j := fun i j => rfl
    funext i
    obtain ⟨r, i, rfl⟩ : ∃ p q, i = ix2 p q := ⟨i 0, i 1, by funext a; fin_cases a <;> rfl⟩
    refine Eq.trans (b := ∑ k, D m c r k * W m c i k) ?_ rfl
    pointwise []
    simp only [hd, hw]

end Cert.MixOutDxEq

end
-- ==== Proof.Pw1DxArgs.lean ====
/-
  The gradient of `(g * x / rms(x) * (1 + sc)) @ w` for one plain weight: the arguments, and what the two programs make of them.
-/
module

public import proofs.«01_k».proof.Proof.InDxMaths

@[expose] public section

noncomputable section

namespace Cert.Pw1DxEq

open Cert.InDx (xn e dh)

/-- The eight arguments. -/
structure Args where
  dg : Fin 4096 → Fin 2048 → EReal
  w : Fin 1024 → Fin 2048 → EReal
  h0 : Fin 4096 → Fin 1024 → EReal
  y : Fin 4096 → Fin 1024 → EReal
  hin : Fin 4096 → Fin 1024 → EReal
  g : Fin 1024 → EReal
  sc : Fin 1024 → EReal
  gt : Fin 1024 → EReal

namespace Args

variable (A : Args)

/-- The row that was normalised. -/
def x (r : Fin 4096) (k : Fin 1024) : EReal := A.h0 r k + A.gt k * A.y r k
/-- The gradient at the product's left factor. -/
def d (r : Fin 4096) (k : Fin 1024) : EReal := ∑ l, A.dg r l * A.w k l
/-- The gradient at `x`. -/
def dx (r : Fin 4096) (k : Fin 1024) : EReal := dh A.g A.sc (A.x r) (A.d r) (A.hin r) k
/-- A row's parts of the sums over the rows: the gradients at the shift, the scale, the gain and the gate, and the sum of
    the gradient at `y`. -/
def pSh (k : Fin 1024) (r : Fin 4096) : EReal := A.d r k
def pSc (k : Fin 1024) (r : Fin 4096) : EReal := A.d r k * (xn (A.x r) k * A.g k)
def pG (k : Fin 1024) (r : Fin 4096) : EReal := e A.sc (A.d r) k * xn (A.x r) k
def pGt (k : Fin 1024) (r : Fin 4096) : EReal := A.dx r k * A.y r k
def pY (k : Fin 1024) (r : Fin 4096) : EReal := A.dx r k * A.gt k

end Args

end Cert.Pw1DxEq

end
-- ==== Proof.Pw1DxBlk.lean ====
/-
  The gradient of `(g * x / rms(x) * (1 + sc)) @ w` for one plain weight: what one grid point of the kernel computes.
-/
module

public import proofs.«01_k».proof.Proof.Gen.Pw1DxIdeal.Value
public import proofs.«01_k».proof.Proof.Pw1DxArgs
public import Idealize.ShloMosaic.Lib.Pipeline.ValueKit
public import Idealize.ShloMosaic.Lib.Pointwise

@[expose] public section

set_option maxRecDepth 16384

noncomputable section

namespace Cert.Pw1DxEq

open Idealize.ShloMosaic Idealize.ShloMosaic.TcCoe Idealize.SL.Sem
open Cert.Pw1DxIdeal Cert.Pw1DxIdeal.Gen
open Cert.Gating (word_eps)
open Cert.InDx (ms rs xn e dh word_1024)

section Payloads

variable {v3 : Vec Ideal S512x2048 .bf16} {v4 : Vec Ideal S1024x2048 .bf16} {v6 v8 v54 : Vec Ideal S512x1024 .f32}
  {v5 v20 v24 v36 : FVec Ideal S512x1024 .f32} {v9 v10 v49 v : Vec Ideal S1x1024 .f32}
  {A : Fin 512 → Fin 2048 → EReal} {B : Fin 1024 → Fin 2048 → EReal}
  {X D N E G H Y U : Fin 512 → Fin 1024 → EReal} {g sc gt : Fin 1024 → EReal}
  (h3 : ∀ r l, v3 (ix2 r l) = A r l) (h4 : ∀ k l, v4 (ix2 k l) = B k l)
  (hx : ∀ r k, v6 (ix2 r k) = X r k) (hd : ∀ r k, v5 (ix2 r k) = D r k)
  (hn : ∀ r k, v20 (ix2 r k) = N r k) (he : ∀ r k, v24 (ix2 r k) = E r k) (hG : ∀ r k, v36 (ix2 r k) = G r k)
  (hh : ∀ r k, v8 (ix2 r k) = H r k) (hy : ∀ r k, v54 (ix2 r k) = Y r k)
  (hu : ∀ r k, k0_pay16 v8 v36 (ix2 r k) = U r k)
  (hg : ∀ k, v9 (ix2 0 k) = g k) (hs : ∀ k, v10 (ix2 0 k) = sc k)
  (ht : ∀ k, v49 (ix2 0 k) = gt k)

include h3 h4 in
/-- The gradient at the product's left factor. -/
theorem pay9_apply (r : Fin 512) (k : Fin 1024) : k0_pay9 v3 v4 (ix2 r k) = ∑ l, A r l * B k l := by
  pointwise [k0_pay9]
  simp only [h3, h4]

include hx in
/-- The row. -/
theorem pay10_apply (r : Fin 512) (k : Fin 1024) : k0_pay10 v6 (ix2 r k) = X r k := by
  pointwise [k0_pay10]
  exact hx r k

include hx in
/-- One over its root mean square. -/
theorem pay11_apply (r : Fin 512) : k0_pay11 v6 (ix2 r 0) = rs (X r) := by
  pointwise [k0_pay11]
  simp only [pay10_apply hx, word_1024, word_eps]
  rfl

include hx in
/-- The normalised row. -/
theorem pay12_apply (r : Fin 512) (k : Fin 1024) : k0_pay12 v6 (ix2 r k) = xn (X r) k := by
  pointwise [k0_pay12]
  exact congrArg₂ (· * ·) (pay10_apply hx r k) (pay11_apply hx r)

include h3 h4 hs in
/-- The gradient at the scaled row. -/
theorem pay13_apply (r : Fin 512) (k : Fin 1024) :
    k0_pay13 v3 v4 v10 (ix2 r k) = e sc (fun k => ∑ l, A r l * B k l) k := by
  pointwise [k0_pay13]
  exact congrArg₂ (fun p q : EReal => p * (1 + q)) (pay9_apply h3 h4 r k) (hs k)

include h3 h4 hx hg hs hh in
/-- The gradient at the row: what came along the residual and what came through the normalisation. -/
theorem pay16_apply (r : Fin 512) (k : Fin 1024) :
    k0_pay16 v8 (k0_pay14 v3 v4 v6 v9 v10) (ix2 r k) = dh g sc (X r) (fun k => ∑ l, A r l * B k l) (H r) k := by
  pointwise [k0_pay16, k0_pay14]
  have h1 : ∀ j, k0_pay13 v3 v4 v10 (ix2 r j) * v9 (ix2 0 j) = (e sc (fun k => ∑ l, A r l * B k l) j * g j) := fun j =>
    congrArg₂ (· * ·) (pay13_apply h3 h4 hs r j) (hg j)
  have h2 : ∑ j, k0_pay13 v3 v4 v10 (ix2 r j) * v9 (ix2 0 j) * k0_pay12 v6 (ix2 r j)
      = (∑ j, e sc (fun k => ∑ l, A r l * B k l) j * g j * xn (X r) j) := by
    exact Finset.sum_congr rfl fun j _ => congrArg₂ (· * ·) (h1 j) (pay12_apply hx r j)
  exact congrArg₂ (fun (p q : EReal) => p + q) (hh r k) (congrArg₂ (fun p q : EReal => p * q) (pay11_apply hx r)
    (congrArg₂ (fun p q : EReal => p - q) (h1 k) (congrArg₂ (fun p q : EReal => p * q) (pay12_apply hx r k)
      (congrArg₂ Ideal.div h2 word_1024))))

include hn he in
/-- The block's part of the gradient at the gain. -/
theorem pay15_apply (k : Fin 1024) : k0_pay15 v20 v24 (ix2 0 k) = ∑ r, E r k * N r k := by
  pointwise [k0_pay15]
  simp only [hn, he]

include hu ht in
/-- The gradient at the gated array. -/
theorem pay17_apply (r : Fin 512) (k : Fin 1024) : k0_pay17 v8 v36 v49 (ix2 r k) = (U r k * gt k) := by
  pointwise [k0_pay17]
  exact congrArg₂ (· * ·) (hu r k) (ht k)

include hu ht in
/-- The same as it is stored. -/
theorem pay18_apply (r : Fin 512) (k : Fin 1024) : k0_pay18 v8 v36 v49 (ix2 r k) = (U r k * gt k) := by
  pointwise [k0_pay18]
  exact pay17_apply hu ht r k

include hu hy in
/-- The block's part of the gradient at the gate. -/
theorem pay19_apply (k : Fin 1024) : k0_pay19 v8 v36 v54 (ix2 0 k) = ∑ r, U r k * Y r k := by
  pointwise [k0_pay19]
  exact Finset.sum_congr rfl fun r _ => congrArg₂ (· * ·) (hu r k) (hy r k)

include hu ht in
/-- The block's part of the gated array's sum. -/
theorem pay20_apply (k : Fin 1024) : k0_pay20 v8 v36 v49 (ix2 0 k) = ∑ r, U r k * gt k := by
  pointwise [k0_pay20]
  exact Finset.sum_congr rfl fun r _ => pay17_apply hu ht r k

include hd in
/-- What was kept so far and the block's part of the gradient at the shift. -/
theorem pay21_apply (k : Fin 1024) : k0_pay21 v5 v (ix2 0 k) = v (ix2 0 k) + ∑ r, D r k := by
  pointwise [k0_pay21]
  simp only [hd]

include hd hn hg in
/-- What was kept so far and the block's part of the gradient at the scale. -/
theorem pay22_apply (k : Fin 1024) : k0_pay22 v5 v9 v20 v (ix2 0 k) = v (ix2 0 k) + ∑ r, D r k * (N r k * g k) := by
  pointwise [k0_pay22]
  exact congrArg (v (ix2 0 k) + ·) (Finset.sum_congr rfl fun r _ =>
    congrArg₂ (· * ·) (hd r k) (congrArg₂ (· * ·) (hn r k) (hg k)))

end Payloads

end Cert.Pw1DxEq

end
-- ==== Proof.Pw1DxArr.lean ====
/-
  The gradient of `(g * x / rms(x) * (1 + sc)) @ w` for one plain weight: what the kernel leaves in its seven result arrays.
-/
module

public import proofs.«01_k».proof.Proof.Pw1DxBlk

@[expose] public section

set_option maxRecDepth 16384

noncomputable section

namespace Cert.Pw1DxEq

open Idealize.ShloMosaic Idealize.ShloMosaic.TcCoe Idealize.SL.Sem
open Cert.Pw1DxIdeal Cert.Pw1DxIdeal.Gen
open Cert.InDx (rs xn e dh)

variable (m : (ℓ : Loc nD τ sig) → Buf (Elt Ideal) ℓ) (c : Dev nD)

/-- The eight arguments' entries are `A`. -/
structure Reads (A : Args) : Prop where
  dg : ∀ r l, (m ((c : Thread nD τ).loc main_arg0) : S4096x2048.Idx → EReal) (ix2 r l) = A.dg r l
  w : ∀ k l, (m ((c : Thread nD τ).loc main_arg1) : S1024x2048.Idx → EReal) (ix2 k l) = A.w k l
  h0 : ∀ r k, (m ((c : Thread nD τ).loc main_arg2) : S4096x1024.Idx → EReal) (ix2 r k) = A.h0 r k
  y : ∀ r k, (m ((c : Thread nD τ).loc main_arg3) : S4096x1024.Idx → EReal) (ix2 r k) = A.y r k
  hin : ∀ r k, (m ((c : Thread nD τ).loc main_arg4) : S4096x1024.Idx → EReal) (ix2 r k) = A.hin r k
  g : ∀ k, (m ((c : Thread nD τ).loc main_arg5) : S1x1024.Idx → EReal) (ix2 0 k) = A.g k
  sc : ∀ k, (m ((c : Thread nD τ).loc main_arg6) : S1x1024.Idx → EReal) (ix2 0 k) = A.sc k
  gt : ∀ k, (m ((c : Thread nD τ).loc main_arg7) : S1x1024.Idx → EReal) (ix2 0 k) = A.gt k

/-- Where the windows' blocks lie at a grid point: rows `512 t` and on, or the whole array. -/
theorem idx : ∀ t : Fin cfg0.N, win0_0.index t 0 = t.val ∧ win0_0.index t 1 = 0
    ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = t.val ∧ win0_8.index t 1 = 0 ∧ win0_9.index t 0 = t.val ∧ win0_9.index t 1 = 0
    ∧ win0_10.index t 0 = 0 ∧ win0_10.index t 1 = 0 ∧ win0_11.index t 0 = 0 ∧ win0_11.index t 1 = 0
    ∧ win0_12.index t 0 = 0 ∧ win0_12.index t 1 = 0 ∧ win0_13.index t 0 = 0 ∧ win0_13.index t 1 = 0
    ∧ win0_14.index t 0 = 0 ∧ win0_14.index t 1 = 0 :=
  (by decide +kernel : ∀ t : Fin grid0.N, win0_0.index t 0 = t.val ∧ win0_0.index t 1 = 0
    ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = t.val ∧ win0_8.index t 1 = 0 ∧ win0_9.index t 0 = t.val ∧ win0_9.index t 1 = 0
    ∧ win0_10.index t 0 = 0 ∧ win0_10.index t 1 = 0 ∧ win0_11.index t 0 = 0 ∧ win0_11.index t 1 = 0
    ∧ win0_12.index t 0 = 0 ∧ win0_12.index t 1 = 0 ∧ win0_13.index t 0 = 0 ∧ win0_13.index t 1 = 0
    ∧ win0_14.index t 0 = 0 ∧ win0_14.index t 1 = 0)

/-- Row `r` of the blocks at point `t`. -/
def trow (t : Fin cfg0.N) (r : Fin 512) : Fin 4096 :=
  ⟨512 * t.val + r.val, by have := t.isLt; have : cfg0.N = 8 := N_0; omega⟩

variable {m c} {A : Args} (H : Reads m c A)
include H

theorem blk_dg (t : Fin cfg0.N) (r : Fin 512) (l : Fin 2048) :
    (iblk m c 0 t : S512x2048.Idx → EReal) (ix2 r l) = A.dg (trow t r) l := by
  rw [← H.dg]
  blk_point [iblk, V, idx t, trow]

theorem blk_w (t : Fin cfg0.N) (k : Fin 1024) (l : Fin 2048) :
    (iblk m c 1 t : S1024x2048.Idx → EReal) (ix2 k l) = A.w k l := by
  rw [← H.w]
  blk_point [iblk, V, idx t]

/-- The row that was normalised, which the host prepares. -/
theorem blk_x (t : Fin cfg0.N) (r : Fin 512) (k : Fin 1024) :
    (iblk m c 2 t : S512x1024.Idx → EReal) (ix2 r k) = A.x (trow t r) k := by
  have h : (V m c main_v2 : S4096x1024.Idx → EReal) (ix2 (trow t r) k) = A.x (trow t r) k := by
    entry_read
    pointwise []
    exact congrArg₂ (fun p q : EReal => p + q) (H.h0 _ k) (congrArg₂ (fun p q : EReal => p * q) (H.gt k) (H.y _ k))
  rw [← h]
  blk_point [iblk, idx t, trow]

theorem blk_hin (t : Fin cfg0.N) (r : Fin 512) (k : Fin 1024) :
    (iblk m c 3 t : S512x1024.Idx → EReal) (ix2 r k) = A.hin (trow t r) k := by
  rw [← H.hin]
  blk_point [iblk, V, idx t, trow]

theorem blk_y (t : Fin cfg0.N) (r : Fin 512) (k : Fin 1024) :
    (iblk m c 4 t : S512x1024.Idx → EReal) (ix2 r k) = A.y (trow t r) k := by
  rw [← H.y]
  blk_point [iblk, V, idx t, trow]

theorem blk_g (t : Fin cfg0.N) (k : Fin 1024) : (iblk m c 5 t : S1x1024.Idx → EReal) (ix2 0 k) = A.g k := by
  rw [← H.g]
  blk_point [iblk, V, idx t]

theorem blk_sc (t : Fin cfg0.N) (k : Fin 1024) : (iblk m c 6 t : S1x1024.Idx → EReal) (ix2 0 k) = A.sc k := by
  rw [← H.sc]
  blk_point [iblk, V, idx t]

theorem blk_gt (t : Fin cfg0.N) (k : Fin 1024) : (iblk m c 7 t : S1x1024.Idx → EReal) (ix2 0 k) = A.gt k := by
  rw [← H.gt]
  blk_point [iblk, V, idx t]

omit H in
variable (m c) in
/-- The gradient at the left factor, as a grid point computes it. -/
def prod (t : Fin cfg0.N) : FVec Ideal S512x1024 .f32 := k0_pay9 (iblk m c 0 t) (iblk m c 1 t)

omit H in
variable (m c) in
/-- The gradient that comes through the normalisation. -/
def back (t : Fin cfg0.N) : FVec Ideal S512x1024 .f32 :=
  k0_pay14 (iblk m c 0 t) (iblk m c 1 t) (iblk m c 2 t) (iblk m c 5 t) (iblk m c 6 t)

theorem prod_apply (t : Fin cfg0.N) (r : Fin 512) (k : Fin 1024) : prod m c t (ix2 r k) = A.d (trow t r) k :=
  pay9_apply (blk_dg H t) (blk_w H t) r k

theorem norm_apply (t : Fin cfg0.N) (r : Fin 512) (k : Fin 1024) :
    k0_pay12 (iblk m c 2 t) (ix2 r k) = xn (A.x (trow t r)) k :=
  pay12_apply (blk_x H t) r k

theorem scaled_apply (t : Fin cfg0.N) (r : Fin 512) (k : Fin 1024) :
    k0_pay13 (iblk m c 0 t) (iblk m c 1 t) (iblk m c 6 t) (ix2 r k) = e A.sc (A.d (trow t r)) k :=
  pay13_apply (blk_dg H t) (blk_w H t) (blk_sc H t) r k

theorem grad_apply (t : Fin cfg0.N) (r : Fin 512) (k : Fin 1024) :
    k0_pay16 (iblk m c 3 t) (back m c t) (ix2 r k) = A.dx (trow t r) k :=
  pay16_apply (blk_dg H t) (blk_w H t) (blk_x H t) (blk_hin H t) (blk_g H t) (blk_sc H t) r k

omit H in
variable (m c) in
/-- What a grid point leaves in the first two results' blocks. -/
theorem outs8 (t : Fin cfg0.N) : (outsAt0 m c t.val t.isLt).1 = k0_pay16 (iblk m c 3 t) (back m c t) := by
  by_cases h : t.val % 8 = 0
  · rw [outsAt0_A m c t h]; frame_out
    rfl
  · rw [outsAt0_B m c t h]; frame_out
    rfl
omit H in
variable (m c) in
theorem outs9 (t : Fin cfg0.N) : (outsAt0 m c t.val t.isLt).2.1 = k0_pay18 (iblk m c 3 t) (back m c t) (iblk m c 7 t) := by
  by_cases h : t.val % 8 = 0
  · rw [outsAt0_A m c t h]; frame_out
    rfl
  · rw [outsAt0_B m c t h]; frame_out
    rfl

/-- The gradient at the row, whole. -/
theorem arr8 : (dats m 0 c).arrAt 8 cfg0.N = fun i : S4096x1024.Idx => A.dx (i 0) (i 1) := by
  refine (dats m 0 c).arrAt_eq_of_covers 8 _ (by decide +kernel) fun t hf y => ?_
  blk_simp
  rw [after0_8, outs8]
  obtain ⟨r, k, rfl⟩ : ∃ r k, y = ix2 r k := ⟨y 0, y 1, by funext a; fin_cases a <;> rfl⟩
  refine (grad_apply H t r k).trans ?_
  congr 2 <;> apply Fin.ext <;> blk_simp [idx t, trow]
  exact congrArg (· + r.val) (Nat.mul_comm 512 t.val)

/-- The gradient at `y`, whole. -/
theorem arr9 : (dats m 0 c).arrAt 9 cfg0.N = fun i : S4096x1024.Idx => A.pY (i 1) (i 0) := by
  refine (dats m 0 c).arrAt_eq_of_covers 9 _ (by decide +kernel) fun t hf y => ?_
  blk_simp
  rw [after0_9, outs9]
  obtain ⟨r, k, rfl⟩ : ∃ r k, y = ix2 r k := ⟨y 0, y 1, by funext a; fin_cases a <;> rfl⟩
  refine (pay18_apply (grad_apply H t) (blk_gt H t) r k).trans ?_
  refine Eq.trans (b := A.pY k (trow t r)) rfl ?_
  congr 2 <;> apply Fin.ext <;> blk_simp [idx t, trow]
  exact congrArg (· + r.val) (Nat.mul_comm 512 t.val)

omit H in
/-- A row of results that each point adds its block's part to holds, after the last point, the sum over all rows. -/
theorem acc (f : (n : ℕ) → n < cfg0.N → S1x1024.Idx → EReal) (T : Fin cfg0.N → S1x1024.Idx → EReal) (p : Fin 1024 → Fin 4096 → EReal)
    (hT : ∀ t k, T t (ix2 0 k) = (∑ r, p k (trow t r)))
    (h0 : ∀ t : Fin cfg0.N, t.val % 8 = 0 → ∀ k, f t.val t.isLt (ix2 0 k) = T t (ix2 0 k))
    (hs : ∀ t : Fin cfg0.N, ¬t.val % 8 = 0 → ∀ k, f t.val t.isLt (ix2 0 k)
      = f (t.val - 1) (Nat.lt_of_le_of_lt (Nat.sub_le _ _) t.isLt) (ix2 0 k) + T t (ix2 0 k))
    (t : Fin cfg0.N) (h7 : t.val % 8 = 7) (k : Fin 1024) : f t.val t.isLt (ix2 0 k) = (∑ r, p k r) := by
  rw [Pipeline.eq_sum_fin_of_reset_step_apply_of_flush (fun n h => fun k : Fin 1024 => f n h (ix2 0 k)) 8 (fun _ => (0 : EReal))
    (fun t k => T t (ix2 0 k)) (fun t ht k => (h0 t ht k).trans (zero_add _).symm) hs t h7 k, zero_add]
  refine (Finset.sum_congr rfl fun s _ => hT _ k).trans ?_
  refine (Finset.sum_congr rfl fun s _ => Finset.sum_congr rfl fun r _ => congrArg (p k) (Fin.ext ?_)).trans
    (Fin.sum_mul_add_fin 8 512 (p k))
  have : cfg0.N = 8 := N_0
  have := t.isLt
  show 512 * (8 * (t.val / 8) + s.val) + r.val = s.val * 512 + r.val
  omega

/-- The gradient at the shift. -/
theorem arr10 : (dats m 0 c).arrAt 10 cfg0.N = fun i : S1x1024.Idx => (∑ r, A.pSh (i 1) r) := by
  refine (dats m 0 c).arrAt_eq_of_covers 10 _ (by decide +kernel) fun t hf j => ?_
  blk_simp
  rw [after0_10]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.1) (fun t => k0_pay21 (prod m c t) (fun _ => (0 : EReal))) A.pSh
    (fun t k => (pay21_apply (prod_apply H t) k).trans (zero_add _)) (fun t ht k => ?_) (fun t ht k => ?_) t ((flush0_10 t).mp hf) k).trans ?_
  · rw [outsAt0_A m c t ht]; frame_out
    pointwise [k0_pay21, k0_pay4]
    rfl
  · rw [outsAt0_B m c t ht]; frame_out
    pointwise [k0_pay21]
    rfl
  · have e : ((win0_10.blk t).view.emb (ix2 0 k)) 1 = k := by
      apply Fin.ext; blk_simp [idx t]
    rw [e]

/-- The gradient at the scale. -/
theorem arr11 : (dats m 0 c).arrAt 11 cfg0.N = fun i : S1x1024.Idx => (∑ r, A.pSc (i 1) r) := by
  refine (dats m 0 c).arrAt_eq_of_covers 11 _ (by decide +kernel) fun t hf j => ?_
  blk_simp
  rw [after0_11]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.1) (fun t => k0_pay22 (prod m c t) (iblk m c 5 t) (k0_pay12 (iblk m c 2 t)) (fun _ => (0 : EReal))) A.pSc
    (fun t k => (pay22_apply (prod_apply H t) (norm_apply H t) (blk_g H t) k).trans (zero_add _)) (fun t ht k => ?_) (fun t ht k => ?_) t ((flush0_11 t).mp hf) k).trans ?_
  · rw [outsAt0_A m c t ht]; frame_out
    pointwise [k0_pay22, k0_pay5]
    rfl
  · rw [outsAt0_B m c t ht]; frame_out
    pointwise [k0_pay22]
    rfl
  · have e : ((win0_11.blk t).view.emb (ix2 0 k)) 1 = k := by
      apply Fin.ext; blk_simp [idx t]
    rw [e]

/-- The gradient at the gain. -/
theorem arr12 : (dats m 0 c).arrAt 12 cfg0.N = fun i : S1x1024.Idx => (∑ r, A.pG (i 1) r) := by
  refine (dats m 0 c).arrAt_eq_of_covers 12 _ (by decide +kernel) fun t hf j => ?_
  blk_simp
  rw [after0_12]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.2.1) (fun t => k0_pay15 (k0_pay12 (iblk m c 2 t)) (k0_pay13 (iblk m c 0 t) (iblk m c 1 t) (iblk m c 6 t))) A.pG
    (fun t k => pay15_apply (norm_apply H t) (scaled_apply H t) k) (fun t ht k => ?_) (fun t ht k => ?_) t ((flush0_12 t).mp hf) k).trans ?_
  · rw [outsAt0_A m c t ht]; frame_out
    pointwise [k0_pay1, k0_pay23, k0_pay6]
  · rw [outsAt0_B m c t ht]; frame_out
    pointwise [k0_pay1, k0_pay23]
  · have e : ((win0_12.blk t).view.emb (ix2 0 k)) 1 = k := by
      apply Fin.ext; blk_simp [idx t]
    rw [e]

/-- The gradient at the gate. -/
theorem arr13 : (dats m 0 c).arrAt 13 cfg0.N = fun i : S1x1024.Idx => (∑ r, A.pGt (i 1) r) := by
  refine (dats m 0 c).arrAt_eq_of_covers 13 _ (by decide +kernel) fun t hf j => ?_
  blk_simp
  rw [after0_13]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.2.2.1) (fun t => k0_pay19 (iblk m c 3 t) (back m c t) (iblk m c 4 t)) A.pGt
    (fun t k => pay19_apply (blk_y H t) (grad_apply H t) k) (fun t ht k => ?_) (fun t ht k => ?_) t ((flush0_13 t).mp hf) k).trans ?_
  · rw [outsAt0_A m c t ht]; frame_out
    pointwise [k0_pay2, k0_pay7]
    rfl
  · rw [outsAt0_B m c t ht]; frame_out
    pointwise [k0_pay2]
    rfl
  · have e : ((win0_13.blk t).view.emb (ix2 0 k)) 1 = k := by
      apply Fin.ext; blk_simp [idx t]
    rw [e]

/-- The sum of the gradient at `y`. -/
theorem arr14 : (dats m 0 c).arrAt 14 cfg0.N = fun i : S1x1024.Idx => (∑ r, A.pY (i 1) r) := by
  refine (dats m 0 c).arrAt_eq_of_covers 14 _ (by decide +kernel) fun t hf j => ?_
  blk_simp
  rw [after0_14]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.2.2.2) (fun t => k0_pay20 (iblk m c 3 t) (back m c t) (iblk m c 7 t)) A.pY
    (fun t k => pay20_apply (grad_apply H t) (blk_gt H t) k) (fun t ht k => ?_) (fun t ht k => ?_) t ((flush0_14 t).mp hf) k).trans ?_
  · rw [outsAt0_A m c t ht]; frame_out
    pointwise [k0_pay3, k0_pay8]
    rfl
  · rw [outsAt0_B m c t ht]; frame_out
    pointwise [k0_pay3]
    rfl
  · have e : ((win0_14.blk t).view.emb (ix2 0 k)) 1 = k := by
      apply Fin.ext; blk_simp [idx t]
    rw [e]

end Cert.Pw1DxEq

end
-- ==== Proof.Pw1DxRef.lean ====
/-
  The gradient of `(g * x / rms(x) * (1 + sc)) @ w` for one plain weight: the reference's seven results, one operation after another.
-/
module

public import proofs.«01_k».proof.Proof.Pw1DxArgs
public import proofs.«01_k».proof.Proof.Gen.Pw1DxRefIdeal.Run
public import Idealize.ShloMosaic.Lib.Pipeline.ValueKit
public import Idealize.ShloMosaic.Lib.Pointwise

@[expose] public section

set_option maxRecDepth 16384

noncomputable section

namespace Cert.Pw1DxEq

open Idealize.ShloMosaic Idealize.ShloMosaic.TcCoe Idealize.SL.Sem
open Cert.Pw1DxRefIdeal Cert.Pw1DxRefIdeal.Gen Cert.Pw1DxRefIdeal.Value
open Cert.Gating (word_eps word_neg_half)
open Cert.InDx (ms rs xn e dh back_eq_dh word_1024)

section Stages

variable (a0 : FVec Ideal S4096x2048 .bf16) (a1 : FVec Ideal S1024x2048 .bf16) (a2 a3 a4 : FVec Ideal S4096x1024 .f32)
  (a5 a6 a7 : FVec Ideal S1x1024 .f32)

/-- The gated array. -/
def rY : FVec Ideal S4096x1024 .f32 :=
  addf a3 (broadcastInDim S4096x1024 ![0, 1] bcast_S1x1024_S4096x1024_0_1 (broadcastInDim S1x1024 ![] bcast_S_S1x1024 (constant S_ .f32 0x00000000#32)))
/-- The row that is normalised. -/
def rX : FVec Ideal S4096x1024 .f32 := addf a2 (mulf (broadcastInDim S4096x1024 ![0, 1] bcast_S1x1024_S4096x1024_0_1 a7) (rY a3))
/-- Its mean square, with the small constant. -/
def rM : FVec Ideal S4096x1 .f32 :=
  addf (Host.divf (broadcastInDim S4096x1 ![0] bcast_S4096_S4096x1_0
      (Host.reduceAdd (mulf (rX a2 a3 a7) (rX a2 a3 a7)) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- One over its root. -/
def rR : FVec Ideal S4096x1 .f32 := Host.rsqrt (rM a2 a3 a7)
/-- The normalised row. -/
def rN : FVec Ideal S4096x1024 .f32 := mulf (rX a2 a3 a7) (broadcastInDim S4096x1024 ![0, 1] bcast_S4096x1_S4096x1024_0_1 (rR a2 a3 a7))
/-- The gradient at the product's left factor. -/
def rD : FVec Ideal S4096x1024 .f32 :=
  Host.dotGeneral dot_S4096x2048_S1024x2048_S4096x1024_1_1_0_0_n_n none (extf .f32 a0 bitsLt_bf16_f32) (extf .f32 a1 bitsLt_bf16_f32)
/-- The gradient at the scaled row. -/
def rE : FVec Ideal S4096x1024 .f32 :=
  mulf (rD a0 a1) (broadcastInDim S4096x1024 ![0, 1] bcast_S1x1024_S4096x1024_0_1
    (addf (broadcastInDim S1x1024 ![] bcast_S_S1x1024 (constant S_ .f32 0x3F800000#32)) a6))
/-- The gradient at the normalised row. -/
def rG : FVec Ideal S4096x1024 .f32 := mulf (rE a0 a1 a6) (broadcastInDim S4096x1024 ![0, 1] bcast_S1x1024_S4096x1024_0_1 a5)
/-- The gradient at the mean square, over its number of terms. -/
def rQ : FVec Ideal S4096x1 .f32 :=
  Host.divf (mulf (shapeCast _ (Host.reduceAdd (mulf (rX a2 a3 a7) (rG a0 a1 a5 a6)) (constant S_ .f32 0x00000000#32) reducesTo_S4096x1024_S4096_d1 h_S_) shapeCasts_S4096_S4096x1)
      (mulf (broadcastInDim S4096x1 ![] bcast_S_S4096x1 (constant S_ .f32 0xBF000000#32)) (Host.divf (rR a2 a3 a7) (rM a2 a3 a7))))
    (broadcastInDim S4096x1 ![] bcast_S_S4096x1 (constant S_ .f32 0x44800000#32))
/-- The same along the row. -/
def rB : FVec Ideal S4096x1024 .f32 :=
  broadcastInDim S4096x1024 ![0] bcast_S4096_S4096x1024_0
    (Host.reduceAdd (rQ a0 a1 a2 a3 a5 a6 a7) (constant S_ .f32 0x00000000#32) reducesTo_S4096x1_S4096_d1 h_S_)
/-- The gradient at the row. -/
def rO : FVec Ideal S4096x1024 .f32 :=
  addf (addf (addf a4 (mulf (rG a0 a1 a5 a6) (broadcastInDim S4096x1024 ![0, 1] bcast_S4096x1_S4096x1024_0_1 (rR a2 a3 a7))))
    (mulf (rX a2 a3 a7) (rB a0 a1 a2 a3 a5 a6 a7))) (mulf (rB a0 a1 a2 a3 a5 a6 a7) (rX a2 a3 a7))
/-- The gradient at the gated array. -/
def rGY : FVec Ideal S4096x1024 .f32 :=
  mulf (broadcastInDim S4096x1024 ![0, 1] bcast_S1x1024_S4096x1024_0_1 a7)
    (shapeCast _ (rO a0 a1 a2 a3 a4 a5 a6 a7) shapeCasts_S4096x1024_S4096x1024)

/-- The sum over the rows. -/
def rows (v : FVec Ideal S4096x1024 .f32) : FVec Ideal S1x1024 .f32 :=
  shapeCast _ (Host.reduceAdd v (constant S_ .f32 0x00000000#32) reducesTo_S4096x1024_S1024_d0 h_S_) shapeCasts_S1024_S1x1024

end Stages

/-- What the reference ends with: the seven results, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v57) = rO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v66) = truncf .bf16 (rGY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) bitsLt_bf16_f32
      ∧ r.2.mem ((c.tc : Thread nD τ).loc main_v32) = rows (rD (m ((c.tc : Thread nD τ).loc main_arg0)) (m ((c.tc : Thread nD τ).loc main_arg1)))
      ∧ r.2.mem ((c.tc : Thread nD τ).loc main_v35) = rows (mulf (mulf (rN (m ((c.tc : Thread nD τ).loc main_arg2)) (m ((c.tc : Thread nD τ).loc main_arg3)) (m ((c.tc : Thread nD τ).loc main_arg7))) (broadcastInDim S4096x1024 ![0, 1] bcast_S1x1024_S4096x1024_0_1 (m ((c.tc : Thread nD τ).loc main_arg5)))) (rD (m ((c.tc : Thread nD τ).loc main_arg0)) (m ((c.tc : Thread nD τ).loc main_arg1))))
      ∧ r.2.mem ((c.tc : Thread nD τ).loc main_v40) = rows (mulf (rN (m ((c.tc : Thread nD τ).loc main_arg2)) (m ((c.tc : Thread nD τ).loc main_arg3)) (m ((c.tc : Thread nD τ).loc main_arg7))) (rE (m ((c.tc : Thread nD τ).loc main_arg0)) (m ((c.tc : Thread nD τ).loc main_arg1)) (m ((c.tc : Thread nD τ).loc main_arg6))))
      ∧ r.2.mem ((c.tc : Thread nD τ).loc main_v63) = rows (mulf (shapeCast _ (rO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S4096x1024_S4096x1024) (rY (m ((c.tc : Thread nD τ).loc main_arg3))))
      ∧ r.2.mem ((c.tc : Thread nD τ).loc main_v65) = rows (rGY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => h c) (run m ρ)

/-- The sum over the rows of an array. -/
theorem rows_apply {v : FVec Ideal S4096x1024 .f32} (p : Fin 1024 → Fin 4096 → EReal) (hv : ∀ r k, v (ix2 r k) = p k r) :
    rows v = fun i : S1x1024.Idx => (∑ r, p (i 1) r) := by
  funext i
  obtain ⟨z, k, rfl⟩ : ∃ z k, i = ix2 z k := ⟨i 0, i 1, by funext a; fin_cases a <;> rfl⟩
  refine Eq.trans (b := (∑ r, p k r)) ?_ rfl
  pointwise [rows]
  simp only [hv]

variable {a0 : FVec Ideal S4096x2048 .bf16} {a1 : FVec Ideal S1024x2048 .bf16} {a2 a3 a4 : FVec Ideal S4096x1024 .f32}
  {a5 a6 a7 : FVec Ideal S1x1024 .f32} {A : Args}

/-- The reference's eight arguments' entries are `A`. -/
structure RefReads (a0 : FVec Ideal S4096x2048 .bf16) (a1 : FVec Ideal S1024x2048 .bf16) (a2 a3 a4 : FVec Ideal S4096x1024 .f32)
    (a5 a6 a7 : FVec Ideal S1x1024 .f32) (A : Args) : Prop where
  dg : ∀ r l, a0 (ix2 r l) = A.dg r l
  w : ∀ k l, a1 (ix2 k l) = A.w k l
  h0 : ∀ r k, a2 (ix2 r k) = A.h0 r k
  y : ∀ r k, a3 (ix2 r k) = A.y r k
  hin : ∀ r k, a4 (ix2 r k) = A.hin r k
  g : ∀ k, a5 (ix2 0 k) = A.g k
  sc : ∀ k, a6 (ix2 0 k) = A.sc k
  gt : ∀ k, a7 (ix2 0 k) = A.gt k

variable (H : RefReads a0 a1 a2 a3 a4 a5 a6 a7 A)
include H

/-- The gated array, entry by entry … -/
theorem rY_apply (r : Fin 4096) (k : Fin 1024) : rY a3 (ix2 r k) = A.y r k := by
  pointwise [rY]
  simpa using H.y r k

/-- … the row … -/
theorem rX_apply (r : Fin 4096) (k : Fin 1024) : rX a2 a3 a7 (ix2 r k) = A.x r k := by
  pointwise [rX]
  exact congrArg₂ (fun p q : EReal => p + q) (H.h0 r k) (congrArg₂ (fun p q : EReal => p * q) (H.gt k) (rY_apply H r k))

/-- … its mean square … -/
theorem rM_apply (r : Fin 4096) : rM a2 a3 a7 (ix2 r 0) = ms (A.x r) := by
  pointwise [rM]
  simp only [rX_apply H, word_1024, word_eps]
  rfl

/-- … one over its root … -/
theorem rR_apply (r : Fin 4096) : rR a2 a3 a7 (ix2 r 0) = rs (A.x r) := by
  pointwise [rR]
  exact congrArg Ideal.rsqrt (rM_apply H r)

/-- … the normalised row … -/
theorem rN_apply (r : Fin 4096) (k : Fin 1024) : rN a2 a3 a7 (ix2 r k) = xn (A.x r) k := by
  pointwise [rN]
  exact (congrArg₂ (· * ·) (rX_apply H r k) (rR_apply H r))

/-- … the gradient at the left factor … -/
theorem rD_apply (r : Fin 4096) (k : Fin 1024) : rD a0 a1 (ix2 r k) = A.d r k := by
  pointwise [rD]
  exact Finset.sum_congr rfl fun l _ => congrArg₂ (· * ·) (H.dg r l) (H.w k l)

/-- … at the scaled row … -/
theorem rE_apply (r : Fin 4096) (k : Fin 1024) : rE a0 a1 a6 (ix2 r k) = e A.sc (A.d r) k := by
  pointwise [rE]
  exact congrArg₂ (fun p q : EReal => p * (1 + q)) (rD_apply H r k) (H.sc k)

/-- … at the normalised row … -/
theorem rG_apply (r : Fin 4096) (k : Fin 1024) : rG a0 a1 a5 a6 (ix2 r k) = (e A.sc (A.d r) k * A.g k) := by
  pointwise [rG]
  exact (congrArg₂ (· * ·) (rE_apply H r k) (H.g k))

/-- … at the mean square … -/
theorem rQ_apply (r : Fin 4096) : rQ a0 a1 a2 a3 a5 a6 a7 (ix2 r 0)
    = Ideal.div ((∑ j, A.x r j * (e A.sc (A.d r) j * A.g j)) * (((-(1 / 2) : ℝ) : EReal) * Ideal.div (rs (A.x r)) (ms (A.x r))))
      ((1024 : ℝ) : EReal) := by
  pointwise [rQ]
  have h1 : ∑ j, rX a2 a3 a7 (ix2 r j) * rG a0 a1 a5 a6 (ix2 r j) = (∑ j, A.x r j * (e A.sc (A.d r) j * A.g j)) := by
    simp only [rX_apply H, rG_apply H]
  exact congrArg₂ Ideal.div (congrArg₂ (fun p q : EReal => p * q) h1 (congrArg₂ (fun p q : EReal => p * q) word_neg_half
    (congrArg₂ Ideal.div (rR_apply H r) (rM_apply H r)))) word_1024

/-- … the same along the row … -/
theorem rB_apply (r : Fin 4096) (k : Fin 1024) : rB a0 a1 a2 a3 a5 a6 a7 (ix2 r k)
    = Ideal.div ((∑ j, A.x r j * (e A.sc (A.d r) j * A.g j)) * (((-(1 / 2) : ℝ) : EReal) * Ideal.div (rs (A.x r)) (ms (A.x r))))
      ((1024 : ℝ) : EReal) := by
  pointwise [rB]
  exact (Fin.sum_univ_one _).trans (rQ_apply H r)

/-- … the gradient at the row … -/
theorem rO_apply (r : Fin 4096) (k : Fin 1024) : rO a0 a1 a2 a3 a4 a5 a6 a7 (ix2 r k) = A.dx r k := by
  pointwise [rO]
  refine (congrArg₂ (fun p q : EReal => p + q) (congrArg₂ (fun p q : EReal => p + q) (congrArg₂ (fun p q : EReal => p + q) (H.hin r k)
    (congrArg₂ (fun p q : EReal => p * q) (rG_apply H r k) (rR_apply H r)))
    (congrArg₂ (fun p q : EReal => p * q) (rX_apply H r k) (rB_apply H r k)))
    (congrArg₂ (fun p q : EReal => p * q) (rB_apply H r k) (rX_apply H r k))).trans ?_
  refine Eq.trans ?_ (back_eq_dh A.g A.sc (A.x r) (A.d r) (A.hin r) k)
  exact congrArg₂ (· + ·) rfl (mul_comm _ _)

/-- … and at the gated array. -/
theorem rGY_apply (r : Fin 4096) (k : Fin 1024) : rGY a0 a1 a2 a3 a4 a5 a6 a7 (ix2 r k) = A.pY k r := by
  pointwise [rGY]
  refine (congrArg₂ (· * ·) (H.gt k) (rO_apply H r k)).trans ?_
  rw [mul_comm]
  rfl

/-- The gradient at the row, as an array … -/
theorem out0 : rO a0 a1 a2 a3 a4 a5 a6 a7 = fun i : S4096x1024.Idx => A.dx (i 0) (i 1) := by
  funext i
  obtain ⟨r, k, rfl⟩ : ∃ r k, i = ix2 r k := ⟨i 0, i 1, by funext a; fin_cases a <;> rfl⟩
  exact rO_apply H r k
/-- … and at the gated array … -/
theorem out1 : truncf .bf16 (rGY a0 a1 a2 a3 a4 a5 a6 a7) bitsLt_bf16_f32 = fun i : S4096x1024.Idx => A.pY (i 1) (i 0) := by
  funext i
  obtain ⟨r, k, rfl⟩ : ∃ r k, i = ix2 r k := ⟨i 0, i 1, by funext a; fin_cases a <;> rfl⟩
  exact rGY_apply H r k
/-- … and at the shift … -/
theorem out2 : rows (rD a0 a1) = fun i : S1x1024.Idx => (∑ r, A.pSh (i 1) r) :=
  rows_apply A.pSh fun r k => rD_apply H r k
/-- … and at the scale … -/
theorem out3 : rows (mulf (mulf (rN a2 a3 a7) (broadcastInDim S4096x1024 ![0, 1] bcast_S1x1024_S4096x1024_0_1 a5)) (rD a0 a1))
    = fun i : S1x1024.Idx => (∑ r, A.pSc (i 1) r) :=
  rows_apply A.pSc fun r k => by
    pointwise []
    refine (congrArg₂ (fun p q : EReal => p * q) (congrArg₂ (fun p q : EReal => p * q) (rN_apply H r k) (H.g k)) (rD_apply H r k)).trans ?_
    rw [mul_comm]
    rfl
/-- … and at the weight … -/
theorem out4 : rows (mulf (rN a2 a3 a7) (rE a0 a1 a6)) = fun i : S1x1024.Idx => (∑ r, A.pG (i 1) r) :=
  rows_apply A.pG fun r k => by
    pointwise []
    refine (congrArg₂ (fun p q : EReal => p * q) (rN_apply H r k) (rE_apply H r k)).trans ?_
    rw [mul_comm]
    rfl
/-- … and at the gate … -/
theorem out5 : rows (mulf (shapeCast _ (rO a0 a1 a2 a3 a4 a5 a6 a7) shapeCasts_S4096x1024_S4096x1024) (rY a3))
    = fun i : S1x1024.Idx => (∑ r, A.pGt (i 1) r) :=
  rows_apply A.pGt fun r k => by
    pointwise []
    refine (congrArg₂ (fun p q : EReal => p * q) (rO_apply H r k) (rY_apply H r k)).trans ?_
    rfl
/-- … and the sum of the gated array's. -/
theorem out6 : rows (rGY a0 a1 a2 a3 a4 a5 a6 a7) = fun i : S1x1024.Idx => (∑ r, A.pY (i 1) r) :=
  rows_apply A.pY fun r k => rGY_apply H r k

end Cert.Pw1DxEq

end
-- ==== Proof.Pw1DxEq.lean ====
/-
  The gradient of `(g * x / rms(x) * (1 + sc)) @ w` for one plain weight: kernel and reference end with the same seven arrays.
-/
module

public import proofs.«01_k».proof.Defs
public import proofs.«01_k».proof.Proof.Pw1DxArr
public import proofs.«01_k».proof.Proof.Pw1DxRef

@[expose] public section

set_option maxRecDepth 16384

noncomputable section

namespace Cert.Pw1DxEq

open Idealize.ShloMosaic Idealize.ShloMosaic.TcCoe Idealize.SL.Sem
open Cert.Pw1DxIdeal

/-- The kernel's arguments, and the reference's, entry by entry. -/
theorem reads (m : (ℓ : Loc nD τ sig) → Buf (Elt Ideal) ℓ) (c : Dev nD) :
    ∃ A, Reads m c A ∧ RefReads (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) A := by
  have R : Reads m c ⟨fun r l => (m ((c.tc : Thread nD τ).loc main_arg0) : S4096x2048.Idx → EReal) (ix2 r l),
      fun k l => (m ((c.tc : Thread nD τ).loc main_arg1) : S1024x2048.Idx → EReal) (ix2 k l),
      fun r k => (m ((c.tc : Thread nD τ).loc main_arg2) : S4096x1024.Idx → EReal) (ix2 r k),
      fun r k => (m ((c.tc : Thread nD τ).loc main_arg3) : S4096x1024.Idx → EReal) (ix2 r k),
      fun r k => (m ((c.tc : Thread nD τ).loc main_arg4) : S4096x1024.Idx → EReal) (ix2 r k),
      fun k => (m ((c.tc : Thread nD τ).loc main_arg5) : S1x1024.Idx → EReal) (ix2 0 k),
      fun k => (m ((c.tc : Thread nD τ).loc main_arg6) : S1x1024.Idx → EReal) (ix2 0 k),
      fun k => (m ((c.tc : Thread nD τ).loc main_arg7) : S1x1024.Idx → EReal) (ix2 0 k)⟩ :=
    ⟨fun _ _ => rfl, fun _ _ => rfl, fun _ _ => rfl, fun _ _ => rfl, fun _ _ => rfl, fun _ => rfl, fun _ => rfl, fun _ => rfl⟩
  exact ⟨_, R, R.dg, R.w, R.h0, R.y, R.hin, R.g, R.sc, R.gt⟩

/-- The two programs, from the same arguments, end with the same gradients. -/
theorem equation : Cert.algebraic_Pw1DxIdeal_Pw1DxRefIdeal (hPw1DxIdeal := Cert.Pw1DxIdeal.Gen.facts)
    (hPw1DxRefIdeal := Cert.Pw1DxRefIdeal.Gen.facts) := by
  pair_intro
  · run_from Cert.Pw1DxIdeal.Value.run_blocks m g
  · run_from run_stages m' g'
    all_goals obtain ⟨A, H, R⟩ := reads m c
    · exact (out0 R).trans (arr8 H).symm
    · exact (out1 R).trans (arr9 H).symm
    · exact (out2 R).trans (arr10 H).symm
    · exact (out3 R).trans (arr11 H).symm
    · exact (out4 R).trans (arr12 H).symm
    · exact (out5 R).trans (arr13 H).symm
    · exact (out6 R).trans (arr14 H).symm

end Cert.Pw1DxEq

end
-- ==== Proof.FfnIn.lean ====
/-
  The two halves of `x @ w_in`, and `silu` of the left times the right: the kernel takes blocks of 1024 rows and 1408 columns of
  each half.
-/
module

public import proofs.«01_k».proof.Defs
public import proofs.«01_k».proof.Proof.Gen.FfnInIdeal.Value
public import proofs.«01_k».proof.Proof.Gen.FfnInRefIdeal.Run
public import Idealize.ShloMosaic.Lib.Pipeline.ValueKit
public import Idealize.ShloMosaic.Lib.Pointwise

@[expose] public section

set_option maxRecDepth 16384

noncomputable section

namespace Cert.FfnInEq

open Idealize.ShloMosaic Idealize.ShloMosaic.TcCoe Idealize.SL.Sem

/-- The logistic function on the extended reals, as the kernel and the reference compute it. -/
def sg (x : EReal) : EReal := Ideal.div 1 (1 + Ideal.exp (-x))

/-- The block of the weight, and the column in it, in which half `h` has its column `l`. -/
def bq (h : Fin 2) (l : Fin 2816) : Fin 4 := ⟨2 * h.val + l.val / 1408, by omega⟩
def bl (l : Fin 2816) : Fin 1408 := ⟨l.val % 1408, by omega⟩

/-- Half `h` of the product of `X` and the weight whose blocks of columns are `W`. -/
def prod (X : Fin 4096 → Fin 1024 → EReal) (W : Fin 4 → Fin 1024 → Fin 1408 → EReal) (h : Fin 2) (r : Fin 4096) (l : Fin 2816) : EReal :=
  ∑ k, X r k * W (bq h l) k (bl l)

/-- `silu` of the left half times the right half. -/
def act (X : Fin 4096 → Fin 1024 → EReal) (W : Fin 4 → Fin 1024 → Fin 1408 → EReal) (r : Fin 4096) (l : Fin 2816) : EReal :=
  prod X W 0 r l * sg (prod X W 0 r l) * prod X W 1 r l

section

open Cert.FfnInIdeal Cert.FfnInIdeal.Gen

variable (m : (ℓ : Loc nD τ sig) → Buf (Elt Ideal) ℓ) (c : Dev nD)

/-- The rows and the blocks of the weight, as the call receives them. -/
def X (r : Fin 4096) (k : Fin 1024) : EReal := (m ((c : Thread nD τ).loc main_arg0) : S4096x1024.Idx → EReal) (ix2 r k)
def W (q : Fin 4) (k : Fin 1024) (l : Fin 1408) : EReal := (m ((c : Thread nD τ).loc main_arg1) : S4x1024x1408.Idx → EReal) (ix3 q k l)

/-- Where each window's block lies at a grid point. -/
theorem idx : ∀ t : Fin cfg0.N, win0_0.index t 0 = t.val % 4 ∧ win0_0.index t 1 = 0 ∧ win0_1.index t 0 = t.val / 4
    ∧ win0_1.index t 1 = 0 ∧ win0_1.index t 2 = 0 ∧ win0_2.index t 0 = t.val / 4 + 2 ∧ win0_2.index t 1 = 0 ∧ win0_2.index t 2 = 0
    ∧ win0_3.index t 0 = 0 ∧ win0_3.index t 1 = t.val % 4 ∧ win0_3.index t 2 = t.val / 4
    ∧ win0_4.index t 0 = t.val % 4 ∧ win0_4.index t 1 = t.val / 4 :=
  (by decide +kernel : ∀ t : Fin grid0.N, win0_0.index t 0 = t.val % 4 ∧ win0_0.index t 1 = 0 ∧ win0_1.index t 0 = t.val / 4
    ∧ win0_1.index t 1 = 0 ∧ win0_1.index t 2 = 0 ∧ win0_2.index t 0 = t.val / 4 + 2 ∧ win0_2.index t 1 = 0 ∧ win0_2.index t 2 = 0
    ∧ win0_3.index t 0 = 0 ∧ win0_3.index t 1 = t.val % 4 ∧ win0_3.index t 2 = t.val / 4
    ∧ win0_4.index t 0 = t.val % 4 ∧ win0_4.index t 1 = t.val / 4)

/-- Row `r` of the blocks at point `t`. -/
def trow (t : Fin cfg0.N) (r : Fin 1024) : Fin 4096 := ⟨1024 * (t.val % 4) + r.val, by omega⟩
/-- Column `l` of the blocks at point `t`. -/
def tcol (t : Fin cfg0.N) (l : Fin 1408) : Fin 2816 :=
  ⟨1408 * (t.val / 4) + l.val, by have := t.isLt; have : cfg0.N = 8 := N_0; omega⟩

theorem blk_x (t : Fin cfg0.N) (r : Fin 1024) (k : Fin 1024) :
    (iblk m c 0 t : S1024x1024.Idx → EReal) (ix2 r k) = X m c (trow t r) k := by
  rw [X]
  blk_point [iblk, V, idx t, trow]

/-- The column of the weight's block at a point is the left half's … -/
theorem blk_g (t : Fin cfg0.N) (k : Fin 1024) (l : Fin 1408) :
    (iblk m c 1 t : S1x1024x1408.Idx → EReal) (ix3 0 k l) = W m c (bq 0 (tcol t l)) k (bl (tcol t l)) := by
  have e : bq 0 (tcol t l) = ⟨t.val / 4, by have := t.isLt; have : cfg0.N = 8 := N_0; omega⟩ := by
    apply Fin.ext
    show 2 * 0 + (1408 * (t.val / 4) + l.val) / 1408 = t.val / 4
    omega
  have e' : bl (tcol t l) = l := by
    apply Fin.ext
    show (1408 * (t.val / 4) + l.val) % 1408 = l.val
    omega
  rw [e, e', W]
  blk_point [iblk, V, idx t]

/-- … and the right half's. -/
theorem blk_u (t : Fin cfg0.N) (k : Fin 1024) (l : Fin 1408) :
    (iblk m c 2 t : S1x1024x1408.Idx → EReal) (ix3 0 k l) = W m c (bq 1 (tcol t l)) k (bl (tcol t l)) := by
  have e : bq 1 (tcol t l) = ⟨t.val / 4 + 2, by have := t.isLt; have : cfg0.N = 8 := N_0; omega⟩ := by
    apply Fin.ext
    show 2 * 1 + (1408 * (t.val / 4) + l.val) / 1408 = t.val / 4 + 2
    omega
  have e' : bl (tcol t l) = l := by
    apply Fin.ext
    show (1408 * (t.val / 4) + l.val) % 1408 = l.val
    omega
  rw [e, e', W]
  blk_point [iblk, V, idx t]

/-- The left half's block … -/
theorem pay1_apply (t : Fin cfg0.N) (r : Fin 1024) (l : Fin 1408) :
    k0_pay1 (iblk m c 0 t) (iblk m c 1 t) (ix2 r l) = prod (X m c) (W m c) 0 (trow t r) (tcol t l) := by
  pointwise [k0_pay1]
  exact Finset.sum_congr rfl fun k _ => congrArg₂ (fun p q : EReal => p * q) (blk_x m c t r k) (blk_g m c t k l)

/-- … the right half's … -/
theorem pay2_apply (t : Fin cfg0.N) (r : Fin 1024) (l : Fin 1408) :
    k0_pay2 (iblk m c 0 t) (iblk m c 2 t) (ix2 r l) = prod (X m c) (W m c) 1 (trow t r) (tcol t l) := by
  pointwise [k0_pay2]
  exact Finset.sum_congr rfl fun k _ => congrArg₂ (fun p q : EReal => p * q) (blk_x m c t r k) (blk_u m c t k l)

/-- … as they are stored … -/
theorem pay3_apply (t : Fin cfg0.N) (r : Fin 1024) (l : Fin 1408) :
    k0_pay3 (iblk m c 0 t) (iblk m c 1 t) (ix3 0 r l) = prod (X m c) (W m c) 0 (trow t r) (tcol t l) := by
  pointwise [k0_pay3]
  exact pay1_apply m c t r l

theorem pay4_apply (t : Fin cfg0.N) (r : Fin 1024) (l : Fin 1408) :
    k0_pay4 (iblk m c 0 t) (iblk m c 2 t) (ix3 0 r l) = prod (X m c) (W m c) 1 (trow t r) (tcol t l) := by
  pointwise [k0_pay4]
  exact pay2_apply m c t r l

/-- … and `silu` of the one times the other. -/
theorem pay5_apply (t : Fin cfg0.N) (r : Fin 1024) (l : Fin 1408) :
    k0_pay5 (iblk m c 0 t) (iblk m c 1 t) (iblk m c 2 t) (ix2 r l) = act (X m c) (W m c) (trow t r) (tcol t l) := by
  pointwise [k0_pay5]
  simp only [zero_sub]
  exact congrArg₂ (fun p q : EReal => p * Ideal.div 1 (1 + Ideal.exp (-p)) * q) (pay1_apply m c t r l) (pay2_apply m c t r l)

/-- What a grid point leaves in the first result's block. -/
theorem out3 (t : Fin cfg0.N) (j : S2x1024x1408.Idx) :
    out0_3 (iblk m c 0 t) (iblk m c 1 t) (iblk m c 2 t) j = prod (X m c) (W m c) (j 0) (trow t (j 1)) (tcol t (j 2)) := by
  frame_out
  canon_tiles i hi
  · obtain ⟨z, r, l, rfl⟩ : ∃ z r l, i = ix3 z r l := ⟨i 0, i 1, i 2, by funext a; fin_cases a <;> rfl⟩
    obtain rfl : z = 0 := Subsingleton.elim _ _
    obtain rfl : j = ix3 1 r l := by
      funext a; fin_cases a
      · exact Fin.ext hi0
      · exact Fin.ext hi1
      · exact Fin.ext hi2
    exact pay4_apply m c t r l
  · obtain ⟨z, r, l, rfl⟩ : ∃ z r l, i = ix3 z r l := ⟨i 0, i 1, i 2, by funext a; fin_cases a <;> rfl⟩
    obtain rfl : z = 0 := Subsingleton.elim _ _
    obtain rfl : j = ix3 0 r l := by
      funext a; fin_cases a
      · exact Fin.ext hi0
      · exact Fin.ext hi1
      · exact Fin.ext hi2
    exact pay3_apply m c t r l

/-- The two halves after the run … -/
theorem arr0 : (dats m 0 c).arrAt 3 cfg0.N = fun i : S2x4096x2816.Idx => prod (X m c) (W m c) (i 0) (i 1) (i 2) := by
  refine (dats m 0 c).arrAt_eq_of_covers 3 _ (by decide +kernel) fun t hf y => ?_
  blk_simp
  rw [after0_3]
  refine (out3 m c t y).trans ?_
  congr 1 <;> apply Fin.ext <;> blk_simp [idx t, trow, tcol]
  · exact congrArg (· + (y 1).val) (Nat.mul_comm 1024 (t.val % 4))
  · exact congrArg (· + (y 2).val) (Nat.mul_comm 1408 (t.val / 4))

/-- … and `silu` of the left times the right. -/
theorem arr1 : (dats m 0 c).arrAt 4 cfg0.N = fun i : S4096x2816.Idx => act (X m c) (W m c) (i 0) (i 1) := by
  refine (dats m 0 c).arrAt_eq_of_covers 4 _ (by decide +kernel) fun t hf y => ?_
  blk_simp
  rw [after0_4]
  obtain ⟨r, l, rfl⟩ : ∃ r l, y = ix2 r l := ⟨y 0, y 1, by funext a; fin_cases a <;> rfl⟩
  frame_out
  refine (pay5_apply m c t r l).trans ?_
  congr 1 <;> apply Fin.ext <;> blk_simp [idx t, trow, tcol]
  · exact congrArg (· + r.val) (Nat.mul_comm 1024 (t.val % 4))
  · exact congrArg (· + l.val) (Nat.mul_comm 1408 (t.val / 4))

end

section

open Cert.FfnInRefIdeal Cert.FfnInRefIdeal.Gen Cert.FfnInRefIdeal.Value

section Stages

variable (a0 : FVec Ideal S4096x1024 .bf16) (a1 : FVec Ideal S4x1024x1408 .bf16)

/-- The product. -/
def rP : FVec Ideal S4096x5632 .f32 :=
  Host.dotGeneral dot_S4096x1024_S1024x5632_S4096x5632_1_0_0_1_n_n none (extf .f32 a0 bitsLt_bf16_f32)
    (shapeCast _ (transpose S1024x4x1408 [1, 0, 2] (extf .f32 a1 bitsLt_bf16_f32) transposes_S4x1024x1408_S1024x4x1408_1_0_2) shapeCasts_S1024x4x1408_S1024x5632)
/-- Its halves. -/
def rG : FVec Ideal S4096x2816 .f32 := extractStridedSlice S4096x2816 ![0, 0] (rP a0 a1) slices_S4096x5632_S4096x2816_0_0
def rU : FVec Ideal S4096x2816 .f32 := extractStridedSlice S4096x2816 ![0, 2816] (rP a0 a1) slices_S4096x5632_S4096x2816_0_2816
/-- Both halves in one array. -/
def rGU : FVec Ideal S2x4096x2816 .bf16 :=
  truncf .bf16 (concatenate S2x4096x2816 0 [⟨S1x4096x2816, (broadcastInDim S1x4096x2816 ![1, 2] bcast_S4096x2816_S1x4096x2816_1_2 (rG a0 a1))⟩,
    ⟨S1x4096x2816, (broadcastInDim S1x4096x2816 ![1, 2] bcast_S4096x2816_S1x4096x2816_1_2 (rU a0 a1))⟩] concatenates_S1x4096x2816_S1x4096x2816_S2x4096x2816_d0) bitsLt_bf16_f32
/-- `silu` of the left half times the right half. -/
def rA : FVec Ideal S4096x2816 .bf16 :=
  truncf .bf16 (mulf (mulf (rG a0 a1) (Host.divf (broadcastInDim S4096x2816 ![] bcast_S_S4096x2816 (constant S_ .f32 0x3F800000#32))
    (addf (broadcastInDim S4096x2816 ![] bcast_S_S4096x2816 (constant S_ .f32 0x3F800000#32)) (Host.exp (Host.negf (rG a0 a1))))))
    (rU a0 a1)) bitsLt_bf16_f32

end Stages

/-- What the reference ends with: the two results, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = rGU (m ((c.tc : Thread nD τ).loc main_arg0)) (m ((c.tc : Thread nD τ).loc main_arg1))
      ∧ r.2.mem ((c.tc : Thread nD τ).loc main_v13) = rA (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => h c) (run m ρ)

variable {a0 : FVec Ideal S4096x1024 .bf16} {a1 : FVec Ideal S4x1024x1408 .bf16}
  {X : Fin 4096 → Fin 1024 → EReal} {W : Fin 4 → Fin 1024 → Fin 1408 → EReal}
  (h_x : ∀ r k, a0 (ix2 r k) = X r k) (h_w : ∀ q k l, a1 (ix3 q k l) = W q k l)

include h_x h_w in
/-- The reference's product, entry by entry … -/
theorem rP_apply (r : Fin 4096) (j : Fin 5632) (h : Fin 2) (l : Fin 2816) (hj : j.val = 2816 * h.val + l.val) :
    rP a0 a1 (ix2 r j) = prod X W h r l := by
  have hw : ∀ (k : Fin 1024) (p : Fin 4) (t : Fin 1408), p.val = 2 * h.val + l.val / 1408 → t.val = l.val % 1408 →
      a1 (ix3 p k t) = W (bq h l) k (bl l) := by
    intro k p t e e'
    rw [show p = bq h l from Fin.ext e, show t = bl l from Fin.ext e']
    exact h_w _ _ _
  pointwise [rP]
  refine Finset.sum_congr rfl fun k _ => congrArg₂ (fun p q : EReal => p * q) (h_x r k) (hw k _ _ ?_ ?_)
  · have := l.isLt; have := h.isLt; simp; omega
  · have := l.isLt; have := h.isLt; simp; omega

include h_x h_w in
/-- … its halves … -/
theorem rG_apply (r : Fin 4096) (l : Fin 2816) : rG a0 a1 (ix2 r l) = prod X W 0 r l := by
  pointwise [rG]
  exact rP_apply h_x h_w r _ 0 l (by simp)

include h_x h_w in
theorem rU_apply (r : Fin 4096) (l : Fin 2816) : rU a0 a1 (ix2 r l) = prod X W 1 r l := by
  pointwise [rU]
  exact rP_apply h_x h_w r _ 1 l (by simp)

include h_x h_w in
/-- … both in one array … -/
theorem rGU_apply (h : Fin 2) (r : Fin 4096) (l : Fin 2816) : rGU a0 a1 (ix3 h r l) = prod X W h r l := by
  fin_cases h
  · pointwise [rGU]
    exact rG_apply h_x h_w r l
  · pointwise [rGU]
    exact rU_apply h_x h_w r l

include h_x h_w in
/-- … and `silu` of the one times the other. -/
theorem rA_apply (r : Fin 4096) (l : Fin 2816) : rA a0 a1 (ix2 r l) = act X W r l := by
  pointwise [rA]
  exact congrArg₂ (fun p q : EReal => p * Ideal.div 1 (1 + Ideal.exp (-p)) * q) (rG_apply h_x h_w r l) (rU_apply h_x h_w r l)

end

/-- The two programs, from the same arguments, end with the same two arrays. -/
theorem equation : Cert.algebraic_FfnInIdeal_FfnInRefIdeal (hFfnInIdeal := Cert.FfnInIdeal.Gen.facts)
    (hFfnInRefIdeal := Cert.FfnInRefIdeal.Gen.facts) := by
  pair_intro
  · run_from Cert.FfnInIdeal.Value.run_blocks m g
  · run_from run_stages m' g'
    · refine Eq.trans ?_ (arr0 m c).symm
      funext i
      obtain ⟨h, r, l, rfl⟩ : ∃ h r l, i = ix3 h r l := ⟨i 0, i 1, i 2, by funext a; fin_cases a <;> rfl⟩
      exact rGU_apply (X := X m c) (W := W m c) (fun _ _ => rfl) (fun _ _ _ => rfl) h r l
    · refine Eq.trans ?_ (arr1 m c).symm
      funext i
      obtain ⟨r, l, rfl⟩ : ∃ r l, i = ix2 r l := ⟨i 0, i 1, by funext a; fin_cases a <;> rfl⟩
      exact rA_apply (X := X m c) (W := W m c) (fun _ _ => rfl) (fun _ _ _ => rfl) r l

end Cert.FfnInEq

end
-- ==== Proof.ResNorm.lean ====
/-
  A row that is normalised, scaled and shifted, over the extended reals. Nothing here mentions a program.
-/
module

public import proofs.«01_k».proof.Proof.InDxMaths

@[expose] public section

noncomputable section

namespace Cert.ResNorm

open Cert.InDx (xn)

/-- The row over its root mean square, times the gain and one plus the scale, and the shift. -/
def xf (g sc sh x : Fin 1024 → EReal) (k : Fin 1024) : EReal := xn x k * g k * (1 + sc k) + sh k

end Cert.ResNorm

end
-- ==== Proof.FfnOut.lean ====
/-
  `y = x @ w`, `h + gt * y` and that row normalised, scaled and shifted, with 2816 columns: the kernel takes blocks of 512 rows.
-/
module

public import proofs.«01_k».proof.Defs
public import proofs.«01_k».proof.Proof.ResNorm
public import proofs.«01_k».proof.Proof.Gen.FfnOutIdeal.Value
public import proofs.«01_k».proof.Proof.Gen.FfnOutRefIdeal.Run
public import Idealize.ShloMosaic.Lib.Pipeline.ValueKit
public import Idealize.ShloMosaic.Lib.Pointwise

@[expose] public section

set_option maxRecDepth 16384

noncomputable section

namespace Cert.FfnOutEq

open Idealize.ShloMosaic Idealize.ShloMosaic.TcCoe Idealize.SL.Sem
open Cert.Gating (word_eps)
open Cert.InDx (ms rs xn word_1024)
open Cert.ResNorm (xf)

section

open Cert.FfnOutIdeal Cert.FfnOutIdeal.Gen

variable (m : (ℓ : Loc nD τ sig) → Buf (Elt Ideal) ℓ) (c : Dev nD)

/-- The product's factors, the residual, and the rows of the gate, the gain, the scale and the shift, as the call
    receives them. -/
def X (r : Fin 4096) (l : Fin 2816) : EReal := (m ((c : Thread nD τ).loc main_arg0) : S4096x2816.Idx → EReal) (ix2 r l)
def W (l : Fin 2816) (k : Fin 1024) : EReal := (m ((c : Thread nD τ).loc main_arg1) : S2816x1024.Idx → EReal) (ix2 l k)
def Hd (r : Fin 4096) (k : Fin 1024) : EReal := (m ((c : Thread nD τ).loc main_arg2) : S4096x1024.Idx → EReal) (ix2 r k)
def Gt (k : Fin 1024) : EReal := (m ((c : Thread nD τ).loc main_arg3) : S1x1024.Idx → EReal) (ix2 0 k)
def G (k : Fin 1024) : EReal := (m ((c : Thread nD τ).loc main_arg4) : S1x1024.Idx → EReal) (ix2 0 k)
def Sc (k : Fin 1024) : EReal := (m ((c : Thread nD τ).loc main_arg5) : S1x1024.Idx → EReal) (ix2 0 k)
def Sh (k : Fin 1024) : EReal := (m ((c : Thread nD τ).loc main_arg6) : S1x1024.Idx → EReal) (ix2 0 k)
/-- The product. -/
def Y (r : Fin 4096) (k : Fin 1024) : EReal := ∑ l, X m c r l * W m c l k
/-- The residual and the gated product. -/
def Hn (r : Fin 4096) (k : Fin 1024) : EReal := Hd m c r k + Gt m c k * Y m c r k
/-- That row, normalised, scaled and shifted. -/
def F (r : Fin 4096) (k : Fin 1024) : EReal := xf (G m c) (Sc m c) (Sh m c) (Hn m c r) k

/-- Where each window's block lies at a grid point: rows `512 t` and on, or the whole array. -/
theorem idx : ∀ t : Fin cfg0.N, win0_0.index t 0 = t.val ∧ win0_0.index t 1 = 0
    ∧ win0_1.index t 0 = 0 ∧ win0_1.index t 1 = 0
    ∧ win0_2.index t 0 = t.val ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = t.val ∧ win0_7.index t 1 = 0
    ∧ win0_8.index t 0 = t.val ∧ win0_8.index t 1 = 0
    ∧ win0_9.index t 0 = t.val ∧ win0_9.index t 1 = 0 :=
  (by decide +kernel : ∀ t : Fin grid0.N, win0_0.index t 0 = t.val ∧ win0_0.index t 1 = 0
    ∧ win0_1.index t 0 = 0 ∧ win0_1.index t 1 = 0
    ∧ win0_2.index t 0 = t.val ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = t.val ∧ win0_7.index t 1 = 0
    ∧ win0_8.index t 0 = t.val ∧ win0_8.index t 1 = 0
    ∧ win0_9.index t 0 = t.val ∧ win0_9.index t 1 = 0)

/-- Row `r` of the blocks at point `t`. -/
def trow (t : Fin cfg0.N) (r : Fin 512) : Fin 4096 :=
  ⟨512 * t.val + r.val, by have := t.isLt; have : cfg0.N = 8 := N_0; omega⟩

theorem blk_x (t : Fin cfg0.N) (r : Fin 512) (l : Fin 2816) :
    (iblk m c 0 t : S512x2816.Idx → EReal) (ix2 r l) = X m c (trow t r) l := by
  rw [X]
  blk_point [iblk, V, idx t, trow]

theorem blk_w (t : Fin cfg0.N) (l : Fin 2816) (k : Fin 1024) :
    (iblk m c 1 t : S2816x1024.Idx → EReal) (ix2 l k) = W m c l k := by
  rw [W]
  blk_point [iblk, V, idx t]

theorem blk_h (t : Fin cfg0.N) (r : Fin 512) (k : Fin 1024) :
    (iblk m c 2 t : S512x1024.Idx → EReal) (ix2 r k) = Hd m c (trow t r) k := by
  rw [Hd]
  blk_point [iblk, V, idx t, trow]

theorem blk_gt (t : Fin cfg0.N) (k : Fin 1024) : (iblk m c 3 t : S1x1024.Idx → EReal) (ix2 0 k) = Gt m c k := by
  rw [Gt]
  blk_point [iblk, V, idx t]

theorem blk_g (t : Fin cfg0.N) (k : Fin 1024) : (iblk m c 4 t : S1x1024.Idx → EReal) (ix2 0 k) = G m c k := by
  rw [G]
  blk_point [iblk, V, idx t]

theorem blk_sc (t : Fin cfg0.N) (k : Fin 1024) : (iblk m c 5 t : S1x1024.Idx → EReal) (ix2 0 k) = Sc m c k := by
  rw [Sc]
  blk_point [iblk, V, idx t]

theorem blk_sh (t : Fin cfg0.N) (k : Fin 1024) : (iblk m c 6 t : S1x1024.Idx → EReal) (ix2 0 k) = Sh m c k := by
  rw [Sh]
  blk_point [iblk, V, idx t]

/-- A grid point's rows of the first result … -/
theorem pay_y (t : Fin cfg0.N) (r : Fin 512) (k : Fin 1024) :
    k0_pay1 (iblk m c 0 t) (iblk m c 1 t) (ix2 r k) = Y m c (trow t r) k := by
  rw [Y]
  pointwise [k0_pay1]
  simp only [blk_x, blk_w]

/-- … of the second … -/
theorem pay_h (t : Fin cfg0.N) (r : Fin 512) (k : Fin 1024) :
    k0_pay2 (iblk m c 0 t) (iblk m c 1 t) (iblk m c 2 t) (iblk m c 3 t) (ix2 r k) = Hn m c (trow t r) k := by
  pointwise [k0_pay2]
  exact congrArg₂ (fun p q : EReal => p + q) (blk_h m c t r k) (congrArg₂ (fun p q : EReal => p * q) (blk_gt m c t k) (pay_y m c t r k))

/-- … and of the third. -/
theorem pay_f (t : Fin cfg0.N) (r : Fin 512) (k : Fin 1024) :
    k0_pay3 (iblk m c 0 t) (iblk m c 1 t) (iblk m c 2 t) (iblk m c 3 t) (iblk m c 4 t) (iblk m c 5 t) (iblk m c 6 t) (ix2 r k) = F m c (trow t r) k := by
  pointwise [k0_pay3]
  have hs : ∑ j, k0_pay2 (iblk m c 0 t) (iblk m c 1 t) (iblk m c 2 t) (iblk m c 3 t) (ix2 r j) * k0_pay2 (iblk m c 0 t) (iblk m c 1 t) (iblk m c 2 t) (iblk m c 3 t) (ix2 r j)
      = ∑ j, Hn m c (trow t r) j * Hn m c (trow t r) j :=
    Finset.sum_congr rfl fun j _ => congrArg₂ (fun p q : EReal => p * q) (pay_h m c t r j) (pay_h m c t r j)
  have hr := congrArg Ideal.rsqrt (congrArg₂ (fun p q : EReal => p + q) (congrArg₂ Ideal.div hs word_1024) word_eps)
  exact congrArg₂ (fun p q : EReal => p + q) (congrArg₂ (fun p q : EReal => p * q) (congrArg₂ (fun p q : EReal => p * q)
    (congrArg₂ (fun p q : EReal => p * q) (pay_h m c t r k) hr) (blk_g m c t k))
    (congrArg (fun q : EReal => 1 + q) (blk_sc m c t k))) (blk_sh m c t k)

/-- The first result after the run: the product. -/
theorem arr0 : (dats m 0 c).arrAt 7 cfg0.N = fun i : S4096x1024.Idx => Y m c (i 0) (i 1) := by
  refine (dats m 0 c).arrAt_eq_of_covers 7 _ (by decide +kernel) fun t hf y => ?_
  blk_simp
  rw [after0_7]
  obtain ⟨r, k, rfl⟩ : ∃ r k, y = ix2 r k := ⟨y 0, y 1, by funext a; fin_cases a <;> rfl⟩
  frame_out
  refine (pay_y m c t r k).trans ?_
  congr 2 <;> apply Fin.ext <;> blk_simp [idx t, trow]
  exact congrArg (· + r.val) (Nat.mul_comm 512 t.val)

/-- The second: the residual and the gated product. -/
theorem arr1 : (dats m 0 c).arrAt 8 cfg0.N = fun i : S4096x1024.Idx => Hn m c (i 0) (i 1) := by
  refine (dats m 0 c).arrAt_eq_of_covers 8 _ (by decide +kernel) fun t hf y => ?_
  blk_simp
  rw [after0_8]
  obtain ⟨r, k, rfl⟩ : ∃ r k, y = ix2 r k := ⟨y 0, y 1, by funext a; fin_cases a <;> rfl⟩
  frame_out
  refine (pay_h m c t r k).trans ?_
  congr 2 <;> apply Fin.ext <;> blk_simp [idx t, trow]
  exact congrArg (· + r.val) (Nat.mul_comm 512 t.val)

/-- The third: that row, normalised, scaled and shifted. -/
theorem arr2 : (dats m 0 c).arrAt 9 cfg0.N = fun i : S4096x1024.Idx => F m c (i 0) (i 1) := by
  refine (dats m 0 c).arrAt_eq_of_covers 9 _ (by decide +kernel) fun t hf y => ?_
  blk_simp
  rw [after0_9]
  obtain ⟨r, k, rfl⟩ : ∃ r k, y = ix2 r k := ⟨y 0, y 1, by funext a; fin_cases a <;> rfl⟩
  frame_out
  refine (pay_f m c t r k).trans ?_
  congr 2 <;> apply Fin.ext <;> blk_simp [idx t, trow]
  exact congrArg (· + r.val) (Nat.mul_comm 512 t.val)

end

section

open Cert.FfnOutRefIdeal Cert.FfnOutRefIdeal.Gen Cert.FfnOutRefIdeal.Value

section Stages

variable (a0 : FVec Ideal S4096x2816 .bf16) (a1 : FVec Ideal S2816x1024 .bf16) (a2 : FVec Ideal S4096x1024 .f32)
  (a3 a4 a5 a6 : FVec Ideal S1x1024 .f32)

/-- The product. -/
def rY : FVec Ideal S4096x1024 .f32 :=
  Host.dotGeneral dot_S4096x2816_S2816x1024_S4096x1024_1_0_0_1_n_n none (extf .f32 a0 bitsLt_bf16_f32) (extf .f32 a1 bitsLt_bf16_f32)
/-- The residual and the gated product. -/
def rH : FVec Ideal S4096x1024 .f32 := addf a2 (mulf (broadcastInDim S4096x1024 ![0, 1] bcast_S1x1024_S4096x1024_0_1 a3) (rY a0 a1))
/-- One over its root mean square. -/
def rR : FVec Ideal S4096x1 .f32 :=
  Host.rsqrt (addf (Host.divf (broadcastInDim S4096x1 ![0] bcast_S4096_S4096x1_0
      (Host.reduceAdd (mulf (rH a0 a1 a2 a3) (rH a0 a1 a2 a3)) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32)))
/-- The row, normalised, scaled and shifted. -/
def rF : FVec Ideal S4096x1024 .f32 :=
  addf (mulf (mulf (mulf (rH a0 a1 a2 a3) (broadcastInDim S4096x1024 ![0, 1] bcast_S4096x1_S4096x1024_0_1 (rR a0 a1 a2 a3)))
      (broadcastInDim S4096x1024 ![0, 1] bcast_S1x1024_S4096x1024_0_1 a4))
    (broadcastInDim S4096x1024 ![0, 1] bcast_S1x1024_S4096x1024_0_1
      (addf (broadcastInDim S1x1024 ![] bcast_S_S1x1024 (constant S_ .f32 0x3F800000#32)) a5)))
    (broadcastInDim S4096x1024 ![0, 1] bcast_S1x1024_S4096x1024_0_1 a6)

end Stages

/-- What the reference ends with: the three results, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = rY (m ((c.tc : Thread nD τ).loc main_arg0)) (m ((c.tc : Thread nD τ).loc main_arg1))
      ∧ r.2.mem ((c.tc : Thread nD τ).loc main_v5) = rH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v24) = truncf .bf16 (rF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => h c) (run m ρ)

variable {a0 : FVec Ideal S4096x2816 .bf16} {a1 : FVec Ideal S2816x1024 .bf16} {a2 : FVec Ideal S4096x1024 .f32}
  {a3 a4 a5 a6 : FVec Ideal S1x1024 .f32}
  {X : Fin 4096 → Fin 2816 → EReal} {W : Fin 2816 → Fin 1024 → EReal} {Hd : Fin 4096 → Fin 1024 → EReal} {Gt G Sc Sh : Fin 1024 → EReal}
  (h_x : ∀ r l, a0 (ix2 r l) = X r l) (h_w : ∀ l k, a1 (ix2 l k) = W l k)
  (h_h : ∀ r k, a2 (ix2 r k) = Hd r k) (h_gt : ∀ k, a3 (ix2 0 k) = Gt k)
  (h_g : ∀ k, a4 (ix2 0 k) = G k) (h_sc : ∀ k, a5 (ix2 0 k) = Sc k) (h_sh : ∀ k, a6 (ix2 0 k) = Sh k)

include h_x h_w in
/-- The reference's product, entry by entry … -/
theorem rY_apply (r : Fin 4096) (k : Fin 1024) : rY a0 a1 (ix2 r k) = ∑ l, X r l * W l k := by
  pointwise [rY]
  exact Finset.sum_congr rfl fun l _ => congrArg₂ (fun p q : EReal => p * q) (h_x r l) (h_w l k)

include h_x h_w h_h h_gt in
/-- … the residual and the gated product … -/
theorem rH_apply (r : Fin 4096) (k : Fin 1024) : rH a0 a1 a2 a3 (ix2 r k) = Hd r k + Gt k * (∑ l, X r l * W l k) := by
  pointwise [rH]
  exact congrArg₂ (fun p q : EReal => p + q) (h_h r k) (congrArg₂ (fun p q : EReal => p * q) (h_gt k) (rY_apply h_x h_w r k))

include h_x h_w h_h h_gt in
/-- … one over its root mean square … -/
theorem rR_apply (r : Fin 4096) : rR a0 a1 a2 a3 (ix2 r 0) = rs (fun k => Hd r k + Gt k * (∑ l, X r l * W l k)) := by
  pointwise [rR]
  have hs := Finset.sum_congr (s₁ := Finset.univ) rfl fun j _ => congrArg₂ (fun p q : EReal => p * q) (rH_apply h_x h_w h_h h_gt r j) (rH_apply h_x h_w h_h h_gt r j)
  exact congrArg Ideal.rsqrt (congrArg₂ (fun p q : EReal => p + q) (congrArg₂ Ideal.div hs word_1024) word_eps)

include h_x h_w h_h h_gt h_g h_sc h_sh in
/-- … and the row, normalised, scaled and shifted. -/
theorem rF_apply (r : Fin 4096) (k : Fin 1024) :
    rF a0 a1 a2 a3 a4 a5 a6 (ix2 r k) = xf G Sc Sh (fun k => Hd r k + Gt k * (∑ l, X r l * W l k)) k := by
  pointwise [rF]
  exact congrArg₂ (fun p q : EReal => p + q) (congrArg₂ (fun p q : EReal => p * q) (congrArg₂ (fun p q : EReal => p * q)
    (congrArg₂ (fun p q : EReal => p * q) (rH_apply h_x h_w h_h h_gt r k) (rR_apply h_x h_w h_h h_gt r)) (h_g k))
    (congrArg (fun q : EReal => 1 + q) (h_sc k))) (h_sh k)

end

/-- The two programs, from the same arguments, end with the same three arrays. -/
theorem equation : Cert.algebraic_FfnOutIdeal_FfnOutRefIdeal (hFfnOutIdeal := Cert.FfnOutIdeal.Gen.facts)
    (hFfnOutRefIdeal := Cert.FfnOutRefIdeal.Gen.facts) := by
  pair_intro
  · run_from Cert.FfnOutIdeal.Value.run_blocks m g
  · run_from run_stages m' g'
    · refine Eq.trans ?_ (arr0 m c).symm
      funext i
      obtain ⟨r, k, rfl⟩ : ∃ p q, i = ix2 p q := ⟨i 0, i 1, by funext a; fin_cases a <;> rfl⟩
      exact rY_apply (X := X m c) (W := W m c) (fun _ _ => rfl) (fun _ _ => rfl) r k
    · refine Eq.trans ?_ (arr1 m c).symm
      funext i
      obtain ⟨r, k, rfl⟩ : ∃ p q, i = ix2 p q := ⟨i 0, i 1, by funext a; fin_cases a <;> rfl⟩
      exact rH_apply (X := X m c) (W := W m c) (Hd := Hd m c) (Gt := Gt m c) (fun _ _ => rfl) (fun _ _ => rfl) (fun _ _ => rfl)
        (fun _ => rfl) r k
    · refine Eq.trans ?_ (arr2 m c).symm
      funext i
      obtain ⟨r, k, rfl⟩ : ∃ p q, i = ix2 p q := ⟨i 0, i 1, by funext a; fin_cases a <;> rfl⟩
      exact rF_apply (X := X m c) (W := W m c) (Hd := Hd m c) (Gt := Gt m c) (G := G m c) (Sc := Sc m c) (Sh := Sh m c) (fun _ _ => rfl)
        (fun _ _ => rfl) (fun _ _ => rfl) (fun _ => rfl) (fun _ => rfl) (fun _ => rfl) (fun _ => rfl) r k

end Cert.FfnOutEq

end
-- ==== Proof.MixOut.lean ====
/-
  `y = x @ w`, `h + gt * y` and that row normalised, scaled and shifted, with 1024 columns: the kernel takes blocks of 1024 rows.
-/
module

public import proofs.«01_k».proof.Defs
public import proofs.«01_k».proof.Proof.ResNorm
public import proofs.«01_k».proof.Proof.Gen.MixOutIdeal.Value
public import proofs.«01_k».proof.Proof.Gen.MixOutRefIdeal.Run
public import Idealize.ShloMosaic.Lib.Pipeline.ValueKit
public import Idealize.ShloMosaic.Lib.Pointwise

@[expose] public section

set_option maxRecDepth 16384

noncomputable section

namespace Cert.MixOutEq

open Idealize.ShloMosaic Idealize.ShloMosaic.TcCoe Idealize.SL.Sem
open Cert.Gating (word_eps)
open Cert.InDx (ms rs xn word_1024)
open Cert.ResNorm (xf)

section

open Cert.MixOutIdeal Cert.MixOutIdeal.Gen

variable (m : (ℓ : Loc nD τ sig) → Buf (Elt Ideal) ℓ) (c : Dev nD)

/-- The product's factors, the residual, and the rows of the gate, the gain, the scale and the shift, as the call
    receives them. -/
def X (r : Fin 4096) (l : Fin 1024) : EReal := (m ((c : Thread nD τ).loc main_arg0) : S4096x1024.Idx → EReal) (ix2 r l)
def W (l : Fin 1024) (k : Fin 1024) : EReal := (m ((c : Thread nD τ).loc main_arg1) : S1024x1024.Idx → EReal) (ix2 l k)
def Hd (r : Fin 4096) (k : Fin 1024) : EReal := (m ((c : Thread nD τ).loc main_arg2) : S4096x1024.Idx → EReal) (ix2 r k)
def Gt (k : Fin 1024) : EReal := (m ((c : Thread nD τ).loc main_arg3) : S1x1024.Idx → EReal) (ix2 0 k)
def G (k : Fin 1024) : EReal := (m ((c : Thread nD τ).loc main_arg4) : S1x1024.Idx → EReal) (ix2 0 k)
def Sc (k : Fin 1024) : EReal := (m ((c : Thread nD τ).loc main_arg5) : S1x1024.Idx → EReal) (ix2 0 k)
def Sh (k : Fin 1024) : EReal := (m ((c : Thread nD τ).loc main_arg6) : S1x1024.Idx → EReal) (ix2 0 k)
/-- The product. -/
def Y (r : Fin 4096) (k : Fin 1024) : EReal := ∑ l, X m c r l * W m c l k
/-- The residual and the gated product. -/
def Hn (r : Fin 4096) (k : Fin 1024) : EReal := Hd m c r k + Gt m c k * Y m c r k
/-- That row, normalised, scaled and shifted. -/
def F (r : Fin 4096) (k : Fin 1024) : EReal := xf (G m c) (Sc m c) (Sh m c) (Hn m c r) k

/-- Where each window's block lies at a grid point: rows `1024 t` and on, or the whole array. -/
theorem idx : ∀ t : Fin cfg0.N, win0_0.index t 0 = t.val ∧ win0_0.index t 1 = 0
    ∧ win0_1.index t 0 = 0 ∧ win0_1.index t 1 = 0
    ∧ win0_2.index t 0 = t.val ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = t.val ∧ win0_7.index t 1 = 0
    ∧ win0_8.index t 0 = t.val ∧ win0_8.index t 1 = 0
    ∧ win0_9.index t 0 = t.val ∧ win0_9.index t 1 = 0 :=
  (by decide +kernel : ∀ t : Fin grid0.N, win0_0.index t 0 = t.val ∧ win0_0.index t 1 = 0
    ∧ win0_1.index t 0 = 0 ∧ win0_1.index t 1 = 0
    ∧ win0_2.index t 0 = t.val ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = t.val ∧ win0_7.index t 1 = 0
    ∧ win0_8.index t 0 = t.val ∧ win0_8.index t 1 = 0
    ∧ win0_9.index t 0 = t.val ∧ win0_9.index t 1 = 0)

/-- Row `r` of the blocks at point `t`. -/
def trow (t : Fin cfg0.N) (r : Fin 1024) : Fin 4096 :=
  ⟨1024 * t.val + r.val, by have := t.isLt; have : cfg0.N = 4 := N_0; omega⟩

theorem blk_x (t : Fin cfg0.N) (r : Fin 1024) (l : Fin 1024) :
    (iblk m c 0 t : S1024x1024.Idx → EReal) (ix2 r l) = X m c (trow t r) l := by
  rw [X]
  blk_point [iblk, V, idx t, trow]

theorem blk_w (t : Fin cfg0.N) (l : Fin 1024) (k : Fin 1024) :
    (iblk m c 1 t : S1024x1024.Idx → EReal) (ix2 l k) = W m c l k := by
  rw [W]
  blk_point [iblk, V, idx t]

theorem blk_h (t : Fin cfg0.N) (r : Fin 1024) (k : Fin 1024) :
    (iblk m c 2 t : S1024x1024.Idx → EReal) (ix2 r k) = Hd m c (trow t r) k := by
  rw [Hd]
  blk_point [iblk, V, idx t, trow]

theorem blk_gt (t : Fin cfg0.N) (k : Fin 1024) : (iblk m c 3 t : S1x1024.Idx → EReal) (ix2 0 k) = Gt m c k := by
  rw [Gt]
  blk_point [iblk, V, idx t]

theorem blk_g (t : Fin cfg0.N) (k : Fin 1024) : (iblk m c 4 t : S1x1024.Idx → EReal) (ix2 0 k) = G m c k := by
  rw [G]
  blk_point [iblk, V, idx t]

theorem blk_sc (t : Fin cfg0.N) (k : Fin 1024) : (iblk m c 5 t : S1x1024.Idx → EReal) (ix2 0 k) = Sc m c k := by
  rw [Sc]
  blk_point [iblk, V, idx t]

theorem blk_sh (t : Fin cfg0.N) (k : Fin 1024) : (iblk m c 6 t : S1x1024.Idx → EReal) (ix2 0 k) = Sh m c k := by
  rw [Sh]
  blk_point [iblk, V, idx t]

/-- A grid point's rows of the first result … -/
theorem pay_y (t : Fin cfg0.N) (r : Fin 1024) (k : Fin 1024) :
    k0_pay1 (iblk m c 0 t) (iblk m c 1 t) (ix2 r k) = Y m c (trow t r) k := by
  rw [Y]
  pointwise [k0_pay1]
  simp only [blk_x, blk_w]

/-- … of the second … -/
theorem pay_h (t : Fin cfg0.N) (r : Fin 1024) (k : Fin 1024) :
    k0_pay2 (iblk m c 0 t) (iblk m c 1 t) (iblk m c 2 t) (iblk m c 3 t) (ix2 r k) = Hn m c (trow t r) k := by
  pointwise [k0_pay2]
  exact congrArg₂ (fun p q : EReal => p + q) (blk_h m c t r k) (congrArg₂ (fun p q : EReal => p * q) (blk_gt m c t k) (pay_y m c t r k))

/-- … and of the third. -/
theorem pay_f (t : Fin cfg0.N) (r : Fin 1024) (k : Fin 1024) :
    k0_pay3 (iblk m c 0 t) (iblk m c 1 t) (iblk m c 2 t) (iblk m c 3 t) (iblk m c 4 t) (iblk m c 5 t) (iblk m c 6 t) (ix2 r k) = F m c (trow t r) k := by
  pointwise [k0_pay3]
  have hs : ∑ j, k0_pay2 (iblk m c 0 t) (iblk m c 1 t) (iblk m c 2 t) (iblk m c 3 t) (ix2 r j) * k0_pay2 (iblk m c 0 t) (iblk m c 1 t) (iblk m c 2 t) (iblk m c 3 t) (ix2 r j)
      = ∑ j, Hn m c (trow t r) j * Hn m c (trow t r) j :=
    Finset.sum_congr rfl fun j _ => congrArg₂ (fun p q : EReal => p * q) (pay_h m c t r j) (pay_h m c t r j)
  have hr := congrArg Ideal.rsqrt (congrArg₂ (fun p q : EReal => p + q) (congrArg₂ Ideal.div hs word_1024) word_eps)
  exact congrArg₂ (fun p q : EReal => p + q) (congrArg₂ (fun p q : EReal => p * q) (congrArg₂ (fun p q : EReal => p * q)
    (congrArg₂ (fun p q : EReal => p * q) (pay_h m c t r k) hr) (blk_g m c t k))
    (congrArg (fun q : EReal => 1 + q) (blk_sc m c t k))) (blk_sh m c t k)

/-- The first result after the run: the product. -/
theorem arr0 : (dats m 0 c).arrAt 7 cfg0.N = fun i : S4096x1024.Idx => Y m c (i 0) (i 1) := by
  refine (dats m 0 c).arrAt_eq_of_covers 7 _ (by decide +kernel) fun t hf y => ?_
  blk_simp
  rw [after0_7]
  obtain ⟨r, k, rfl⟩ : ∃ r k, y = ix2 r k := ⟨y 0, y 1, by funext a; fin_cases a <;> rfl⟩
  frame_out
  refine (pay_y m c t r k).trans ?_
  congr 2 <;> apply Fin.ext <;> blk_simp [idx t, trow]
  exact congrArg (· + r.val) (Nat.mul_comm 1024 t.val)

/-- The second: the residual and the gated product. -/
theorem arr1 : (dats m 0 c).arrAt 8 cfg0.N = fun i : S4096x1024.Idx => Hn m c (i 0) (i 1) := by
  refine (dats m 0 c).arrAt_eq_of_covers 8 _ (by decide +kernel) fun t hf y => ?_
  blk_simp
  rw [after0_8]
  obtain ⟨r, k, rfl⟩ : ∃ r k, y = ix2 r k := ⟨y 0, y 1, by funext a; fin_cases a <;> rfl⟩
  frame_out
  refine (pay_h m c t r k).trans ?_
  congr 2 <;> apply Fin.ext <;> blk_simp [idx t, trow]
  exact congrArg (· + r.val) (Nat.mul_comm 1024 t.val)

/-- The third: that row, normalised, scaled and shifted. -/
theorem arr2 : (dats m 0 c).arrAt 9 cfg0.N = fun i : S4096x1024.Idx => F m c (i 0) (i 1) := by
  refine (dats m 0 c).arrAt_eq_of_covers 9 _ (by decide +kernel) fun t hf y => ?_
  blk_simp
  rw [after0_9]
  obtain ⟨r, k, rfl⟩ : ∃ r k, y = ix2 r k := ⟨y 0, y 1, by funext a; fin_cases a <;> rfl⟩
  frame_out
  refine (pay_f m c t r k).trans ?_
  congr 2 <;> apply Fin.ext <;> blk_simp [idx t, trow]
  exact congrArg (· + r.val) (Nat.mul_comm 1024 t.val)

end

section

open Cert.MixOutRefIdeal Cert.MixOutRefIdeal.Gen Cert.MixOutRefIdeal.Value

section Stages

variable (a0 : FVec Ideal S4096x1024 .bf16) (a1 : FVec Ideal S1024x1024 .bf16) (a2 : FVec Ideal S4096x1024 .f32)
  (a3 a4 a5 a6 : FVec Ideal S1x1024 .f32)

/-- The product. -/
def rY : FVec Ideal S4096x1024 .f32 :=
  Host.dotGeneral dot_S4096x1024_S1024x1024_S4096x1024_1_0_0_1_n_n none (extf .f32 a0 bitsLt_bf16_f32) (extf .f32 a1 bitsLt_bf16_f32)
/-- The residual and the gated product. -/
def rH : FVec Ideal S4096x1024 .f32 := addf a2 (mulf (broadcastInDim S4096x1024 ![0, 1] bcast_S1x1024_S4096x1024_0_1 a3) (rY a0 a1))
/-- One over its root mean square. -/
def rR : FVec Ideal S4096x1 .f32 :=
  Host.rsqrt (addf (Host.divf (broadcastInDim S4096x1 ![0] bcast_S4096_S4096x1_0
      (Host.reduceAdd (mulf (rH a0 a1 a2 a3) (rH a0 a1 a2 a3)) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32)))
/-- The row, normalised, scaled and shifted. -/
def rF : FVec Ideal S4096x1024 .f32 :=
  addf (mulf (mulf (mulf (rH a0 a1 a2 a3) (broadcastInDim S4096x1024 ![0, 1] bcast_S4096x1_S4096x1024_0_1 (rR a0 a1 a2 a3)))
      (broadcastInDim S4096x1024 ![0, 1] bcast_S1x1024_S4096x1024_0_1 a4))
    (broadcastInDim S4096x1024 ![0, 1] bcast_S1x1024_S4096x1024_0_1
      (addf (broadcastInDim S1x1024 ![] bcast_S_S1x1024 (constant S_ .f32 0x3F800000#32)) a5)))
    (broadcastInDim S4096x1024 ![0, 1] bcast_S1x1024_S4096x1024_0_1 a6)

end Stages

/-- What the reference ends with: the three results, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = rY (m ((c.tc : Thread nD τ).loc main_arg0)) (m ((c.tc : Thread nD τ).loc main_arg1))
      ∧ r.2.mem ((c.tc : Thread nD τ).loc main_v5) = rH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v24) = truncf .bf16 (rF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => h c) (run m ρ)

variable {a0 : FVec Ideal S4096x1024 .bf16} {a1 : FVec Ideal S1024x1024 .bf16} {a2 : FVec Ideal S4096x1024 .f32}
  {a3 a4 a5 a6 : FVec Ideal S1x1024 .f32}
  {X : Fin 4096 → Fin 1024 → EReal} {W : Fin 1024 → Fin 1024 → EReal} {Hd : Fin 4096 → Fin 1024 → EReal} {Gt G Sc Sh : Fin 1024 → EReal}
  (h_x : ∀ r l, a0 (ix2 r l) = X r l) (h_w : ∀ l k, a1 (ix2 l k) = W l k)
  (h_h : ∀ r k, a2 (ix2 r k) = Hd r k) (h_gt : ∀ k, a3 (ix2 0 k) = Gt k)
  (h_g : ∀ k, a4 (ix2 0 k) = G k) (h_sc : ∀ k, a5 (ix2 0 k) = Sc k) (h_sh : ∀ k, a6 (ix2 0 k) = Sh k)

include h_x h_w in
/-- The reference's product, entry by entry … -/
theorem rY_apply (r : Fin 4096) (k : Fin 1024) : rY a0 a1 (ix2 r k) = ∑ l, X r l * W l k := by
  pointwise [rY]
  exact Finset.sum_congr rfl fun l _ => congrArg₂ (fun p q : EReal => p * q) (h_x r l) (h_w l k)

include h_x h_w h_h h_gt in
/-- … the residual and the gated product … -/
theorem rH_apply (r : Fin 4096) (k : Fin 1024) : rH a0 a1 a2 a3 (ix2 r k) = Hd r k + Gt k * (∑ l, X r l * W l k) := by
  pointwise [rH]
  exact congrArg₂ (fun p q : EReal => p + q) (h_h r k) (congrArg₂ (fun p q : EReal => p * q) (h_gt k) (rY_apply h_x h_w r k))

include h_x h_w h_h h_gt in
/-- … one over its root mean square … -/
theorem rR_apply (r : Fin 4096) : rR a0 a1 a2 a3 (ix2 r 0) = rs (fun k => Hd r k + Gt k * (∑ l, X r l * W l k)) := by
  pointwise [rR]
  have hs := Finset.sum_congr (s₁ := Finset.univ) rfl fun j _ => congrArg₂ (fun p q : EReal => p * q) (rH_apply h_x h_w h_h h_gt r j) (rH_apply h_x h_w h_h h_gt r j)
  exact congrArg Ideal.rsqrt (congrArg₂ (fun p q : EReal => p + q) (congrArg₂ Ideal.div hs word_1024) word_eps)

include h_x h_w h_h h_gt h_g h_sc h_sh in
/-- … and the row, normalised, scaled and shifted. -/
theorem rF_apply (r : Fin 4096) (k : Fin 1024) :
    rF a0 a1 a2 a3 a4 a5 a6 (ix2 r k) = xf G Sc Sh (fun k => Hd r k + Gt k * (∑ l, X r l * W l k)) k := by
  pointwise [rF]
  exact congrArg₂ (fun p q : EReal => p + q) (congrArg₂ (fun p q : EReal => p * q) (congrArg₂ (fun p q : EReal => p * q)
    (congrArg₂ (fun p q : EReal => p * q) (rH_apply h_x h_w h_h h_gt r k) (rR_apply h_x h_w h_h h_gt r)) (h_g k))
    (congrArg (fun q : EReal => 1 + q) (h_sc k))) (h_sh k)

end

/-- The two programs, from the same arguments, end with the same three arrays. -/
theorem equation : Cert.algebraic_MixOutIdeal_MixOutRefIdeal (hMixOutIdeal := Cert.MixOutIdeal.Gen.facts)
    (hMixOutRefIdeal := Cert.MixOutRefIdeal.Gen.facts) := by
  pair_intro
  · run_from Cert.MixOutIdeal.Value.run_blocks m g
  · run_from run_stages m' g'
    · refine Eq.trans ?_ (arr0 m c).symm
      funext i
      obtain ⟨r, k, rfl⟩ : ∃ p q, i = ix2 p q := ⟨i 0, i 1, by funext a; fin_cases a <;> rfl⟩
      exact rY_apply (X := X m c) (W := W m c) (fun _ _ => rfl) (fun _ _ => rfl) r k
    · refine Eq.trans ?_ (arr1 m c).symm
      funext i
      obtain ⟨r, k, rfl⟩ : ∃ p q, i = ix2 p q := ⟨i 0, i 1, by funext a; fin_cases a <;> rfl⟩
      exact rH_apply (X := X m c) (W := W m c) (Hd := Hd m c) (Gt := Gt m c) (fun _ _ => rfl) (fun _ _ => rfl) (fun _ _ => rfl)
        (fun _ => rfl) r k
    · refine Eq.trans ?_ (arr2 m c).symm
      funext i
      obtain ⟨r, k, rfl⟩ : ∃ p q, i = ix2 p q := ⟨i 0, i 1, by funext a; fin_cases a <;> rfl⟩
      exact rF_apply (X := X m c) (W := W m c) (Hd := Hd m c) (Gt := Gt m c) (G := G m c) (Sc := Sc m c) (Sh := Sh m c) (fun _ _ => rfl)
        (fun _ _ => rfl) (fun _ _ => rfl) (fun _ => rfl) (fun _ => rfl) (fun _ => rfl) (fun _ => rfl) r k

end Cert.MixOutEq

end
-- ==== Proof.Pw2.lean ====
/-
  `y = x @ w + b`, `h + gt * y` and that row normalised, scaled and shifted: the kernel takes blocks of 1024 rows.
-/
module

public import proofs.«01_k».proof.Defs
public import proofs.«01_k».proof.Proof.ResNorm
public import proofs.«01_k».proof.Proof.Gen.Pw2Ideal.Value
public import proofs.«01_k».proof.Proof.Gen.Pw2RefIdeal.Run
public import Idealize.ShloMosaic.Lib.Pipeline.ValueKit
public import Idealize.ShloMosaic.Lib.Pointwise

@[expose] public section

set_option maxRecDepth 16384

noncomputable section

namespace Cert.Pw2Eq

open Idealize.ShloMosaic Idealize.ShloMosaic.TcCoe Idealize.SL.Sem
open Cert.Gating (word_eps)
open Cert.InDx (ms rs xn word_1024)
open Cert.ResNorm (xf)

section

open Cert.Pw2Ideal Cert.Pw2Ideal.Gen

variable (m : (ℓ : Loc nD τ sig) → Buf (Elt Ideal) ℓ) (c : Dev nD)

/-- The product's factors, the residual, and the rows of the gate, the bias, the gain, the scale and the shift, as the call
    receives them. -/
def X (r : Fin 4096) (l : Fin 1024) : EReal := (m ((c : Thread nD τ).loc main_arg0) : S4096x1024.Idx → EReal) (ix2 r l)
def W (l : Fin 1024) (k : Fin 1024) : EReal := (m ((c : Thread nD τ).loc main_arg1) : S1024x1024.Idx → EReal) (ix2 l k)
def Hd (r : Fin 4096) (k : Fin 1024) : EReal := (m ((c : Thread nD τ).loc main_arg2) : S4096x1024.Idx → EReal) (ix2 r k)
def Gt (k : Fin 1024) : EReal := (m ((c : Thread nD τ).loc main_arg3) : S1x1024.Idx → EReal) (ix2 0 k)
def B (k : Fin 1024) : EReal := (m ((c : Thread nD τ).loc main_arg4) : S1x1024.Idx → EReal) (ix2 0 k)
def G (k : Fin 1024) : EReal := (m ((c : Thread nD τ).loc main_arg5) : S1x1024.Idx → EReal) (ix2 0 k)
def Sc (k : Fin 1024) : EReal := (m ((c : Thread nD τ).loc main_arg6) : S1x1024.Idx → EReal) (ix2 0 k)
def Sh (k : Fin 1024) : EReal := (m ((c : Thread nD τ).loc main_arg7) : S1x1024.Idx → EReal) (ix2 0 k)
/-- The product and its bias. -/
def Y (r : Fin 4096) (k : Fin 1024) : EReal := ∑ l, X m c r l * W m c l k + B m c k
/-- The residual and the gated product. -/
def Hn (r : Fin 4096) (k : Fin 1024) : EReal := Hd m c r k + Gt m c k * Y m c r k
/-- That row, normalised, scaled and shifted. -/
def F (r : Fin 4096) (k : Fin 1024) : EReal := xf (G m c) (Sc m c) (Sh m c) (Hn m c r) k

/-- Where each window's block lies at a grid point: rows `1024 t` and on, or the whole array. -/
theorem idx : ∀ t : Fin cfg0.N, win0_0.index t 0 = t.val ∧ win0_0.index t 1 = 0
    ∧ win0_1.index t 0 = 0 ∧ win0_1.index t 1 = 0
    ∧ win0_2.index t 0 = t.val ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = 0 ∧ win0_7.index t 1 = 0
    ∧ win0_8.index t 0 = t.val ∧ win0_8.index t 1 = 0
    ∧ win0_9.index t 0 = t.val ∧ win0_9.index t 1 = 0
    ∧ win0_10.index t 0 = t.val ∧ win0_10.index t 1 = 0 :=
  (by decide +kernel : ∀ t : Fin grid0.N, win0_0.index t 0 = t.val ∧ win0_0.index t 1 = 0
    ∧ win0_1.index t 0 = 0 ∧ win0_1.index t 1 = 0
    ∧ win0_2.index t 0 = t.val ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0
    ∧ win0_7.index t 0 = 0 ∧ win0_7.index t 1 = 0
    ∧ win0_8.index t 0 = t.val ∧ win0_8.index t 1 = 0
    ∧ win0_9.index t 0 = t.val ∧ win0_9.index t 1 = 0
    ∧ win0_10.index t 0 = t.val ∧ win0_10.index t 1 = 0)

/-- Row `r` of the blocks at point `t`. -/
def trow (t : Fin cfg0.N) (r : Fin 1024) : Fin 4096 :=
  ⟨1024 * t.val + r.val, by have := t.isLt; have : cfg0.N = 4 := N_0; omega⟩

theorem blk_x (t : Fin cfg0.N) (r : Fin 1024) (l : Fin 1024) :
    (iblk m c 0 t : S1024x1024.Idx → EReal) (ix2 r l) = X m c (trow t r) l := by
  rw [X]
  blk_point [iblk, V, idx t, trow]

theorem blk_w (t : Fin cfg0.N) (l : Fin 1024) (k : Fin 1024) :
    (iblk m c 1 t : S1024x1024.Idx → EReal) (ix2 l k) = W m c l k := by
  rw [W]
  blk_point [iblk, V, idx t]

theorem blk_h (t : Fin cfg0.N) (r : Fin 1024) (k : Fin 1024) :
    (iblk m c 2 t : S1024x1024.Idx → EReal) (ix2 r k) = Hd m c (trow t r) k := by
  rw [Hd]
  blk_point [iblk, V, idx t, trow]

theorem blk_gt (t : Fin cfg0.N) (k : Fin 1024) : (iblk m c 3 t : S1x1024.Idx → EReal) (ix2 0 k) = Gt m c k := by
  rw [Gt]
  blk_point [iblk, V, idx t]

theorem blk_b (t : Fin cfg0.N) (k : Fin 1024) : (iblk m c 4 t : S1x1024.Idx → EReal) (ix2 0 k) = B m c k := by
  rw [B]
  blk_point [iblk, V, idx t]

theorem blk_g (t : Fin cfg0.N) (k : Fin 1024) : (iblk m c 5 t : S1x1024.Idx → EReal) (ix2 0 k) = G m c k := by
  rw [G]
  blk_point [iblk, V, idx t]

theorem blk_sc (t : Fin cfg0.N) (k : Fin 1024) : (iblk m c 6 t : S1x1024.Idx → EReal) (ix2 0 k) = Sc m c k := by
  rw [Sc]
  blk_point [iblk, V, idx t]

theorem blk_sh (t : Fin cfg0.N) (k : Fin 1024) : (iblk m c 7 t : S1x1024.Idx → EReal) (ix2 0 k) = Sh m c k := by
  rw [Sh]
  blk_point [iblk, V, idx t]

/-- A grid point's rows of the first result … -/
theorem pay_y (t : Fin cfg0.N) (r : Fin 1024) (k : Fin 1024) :
    k0_pay2 (iblk m c 0 t) (iblk m c 1 t) (iblk m c 4 t) (ix2 r k) = Y m c (trow t r) k := by
  rw [Y]
  pointwise [k0_pay2]
  simp only [blk_x, blk_w, blk_b]

/-- … of the second … -/
theorem pay_h (t : Fin cfg0.N) (r : Fin 1024) (k : Fin 1024) :
    k0_pay3 (iblk m c 0 t) (iblk m c 1 t) (iblk m c 4 t) (iblk m c 2 t) (iblk m c 3 t) (ix2 r k) = Hn m c (trow t r) k := by
  pointwise [k0_pay3]
  exact congrArg₂ (fun p q : EReal => p + q) (blk_h m c t r k) (congrArg₂ (fun p q : EReal => p * q) (blk_gt m c t k) (pay_y m c t r k))

/-- … and of the third. -/
theorem pay_f (t : Fin cfg0.N) (r : Fin 1024) (k : Fin 1024) :
    k0_pay1 (k0_pay4 (iblk m c 0 t) (iblk m c 1 t) (iblk m c 4 t) (iblk m c 2 t) (iblk m c 3 t) (iblk m c 5 t) (iblk m c 6 t)) (iblk m c 7 t) (ix2 r k) = F m c (trow t r) k := by
  pointwise [k0_pay1, k0_pay4]
  have hs : ∑ j, k0_pay3 (iblk m c 0 t) (iblk m c 1 t) (iblk m c 4 t) (iblk m c 2 t) (iblk m c 3 t) (ix2 r j) * k0_pay3 (iblk m c 0 t) (iblk m c 1 t) (iblk m c 4 t) (iblk m c 2 t) (iblk m c 3 t) (ix2 r j)
      = ∑ j, Hn m c (trow t r) j * Hn m c (trow t r) j :=
    Finset.sum_congr rfl fun j _ => congrArg₂ (fun p q : EReal => p * q) (pay_h m c t r j) (pay_h m c t r j)
  have hr := congrArg Ideal.rsqrt (congrArg₂ (fun p q : EReal => p + q) (congrArg₂ Ideal.div hs word_1024) word_eps)
  exact congrArg₂ (fun p q : EReal => p + q) (congrArg₂ (fun p q : EReal => p * q) (congrArg₂ (fun p q : EReal => p * q)
    (congrArg₂ (fun p q : EReal => p * q) (pay_h m c t r k) hr) (blk_g m c t k))
    (congrArg (fun q : EReal => 1 + q) (blk_sc m c t k))) (blk_sh m c t k)

/-- The first result after the run: the product. -/
theorem arr0 : (dats m 0 c).arrAt 8 cfg0.N = fun i : S4096x1024.Idx => Y m c (i 0) (i 1) := by
  refine (dats m 0 c).arrAt_eq_of_covers 8 _ (by decide +kernel) fun t hf y => ?_
  blk_simp
  rw [after0_8]
  obtain ⟨r, k, rfl⟩ : ∃ r k, y = ix2 r k := ⟨y 0, y 1, by funext a; fin_cases a <;> rfl⟩
  frame_out
  refine (pay_y m c t r k).trans ?_
  congr 2 <;> apply Fin.ext <;> blk_simp [idx t, trow]
  exact congrArg (· + r.val) (Nat.mul_comm 1024 t.val)

/-- The second: the residual and the gated product. -/
theorem arr1 : (dats m 0 c).arrAt 9 cfg0.N = fun i : S4096x1024.Idx => Hn m c (i 0) (i 1) := by
  refine (dats m 0 c).arrAt_eq_of_covers 9 _ (by decide +kernel) fun t hf y => ?_
  blk_simp
  rw [after0_9]
  obtain ⟨r, k, rfl⟩ : ∃ r k, y = ix2 r k := ⟨y 0, y 1, by funext a; fin_cases a <;> rfl⟩
  frame_out
  refine (pay_h m c t r k).trans ?_
  congr 2 <;> apply Fin.ext <;> blk_simp [idx t, trow]
  exact congrArg (· + r.val) (Nat.mul_comm 1024 t.val)

/-- The third: that row, normalised, scaled and shifted. -/
theorem arr2 : (dats m 0 c).arrAt 10 cfg0.N = fun i : S4096x1024.Idx => F m c (i 0) (i 1) := by
  refine (dats m 0 c).arrAt_eq_of_covers 10 _ (by decide +kernel) fun t hf y => ?_
  blk_simp
  rw [after0_10]
  obtain ⟨r, k, rfl⟩ : ∃ r k, y = ix2 r k := ⟨y 0, y 1, by funext a; fin_cases a <;> rfl⟩
  frame_out
  refine (pay_f m c t r k).trans ?_
  congr 2 <;> apply Fin.ext <;> blk_simp [idx t, trow]
  exact congrArg (· + r.val) (Nat.mul_comm 1024 t.val)

end

section

open Cert.Pw2RefIdeal Cert.Pw2RefIdeal.Gen Cert.Pw2RefIdeal.Value

section Stages

variable (a0 : FVec Ideal S4096x1024 .bf16) (a1 : FVec Ideal S1024x1024 .bf16) (a2 : FVec Ideal S4096x1024 .f32)
  (a3 a4 a5 a6 a7 : FVec Ideal S1x1024 .f32)

/-- The product. -/
def rY : FVec Ideal S4096x1024 .f32 :=
  addf (Host.dotGeneral dot_S4096x1024_S1024x1024_S4096x1024_1_0_0_1_n_n none (extf .f32 a0 bitsLt_bf16_f32) (extf .f32 a1 bitsLt_bf16_f32))
    (broadcastInDim S4096x1024 ![0, 1] bcast_S1x1024_S4096x1024_0_1 a4)
/-- The residual and the gated product. -/
def rH : FVec Ideal S4096x1024 .f32 := addf a2 (mulf (broadcastInDim S4096x1024 ![0, 1] bcast_S1x1024_S4096x1024_0_1 a3) (rY a0 a1 a4))
/-- One over its root mean square. -/
def rR : FVec Ideal S4096x1 .f32 :=
  Host.rsqrt (addf (Host.divf (broadcastInDim S4096x1 ![0] bcast_S4096_S4096x1_0
      (Host.reduceAdd (mulf (rH a0 a1 a2 a3 a4) (rH a0 a1 a2 a3 a4)) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32)))
/-- The row, normalised, scaled and shifted. -/
def rF : FVec Ideal S4096x1024 .f32 :=
  addf (mulf (mulf (mulf (rH a0 a1 a2 a3 a4) (broadcastInDim S4096x1024 ![0, 1] bcast_S4096x1_S4096x1024_0_1 (rR a0 a1 a2 a3 a4)))
      (broadcastInDim S4096x1024 ![0, 1] bcast_S1x1024_S4096x1024_0_1 a5))
    (broadcastInDim S4096x1024 ![0, 1] bcast_S1x1024_S4096x1024_0_1
      (addf (broadcastInDim S1x1024 ![] bcast_S_S1x1024 (constant S_ .f32 0x3F800000#32)) a6)))
    (broadcastInDim S4096x1024 ![0, 1] bcast_S1x1024_S4096x1024_0_1 a7)

end Stages

/-- What the reference ends with: the three results, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = rY (m ((c.tc : Thread nD τ).loc main_arg0)) (m ((c.tc : Thread nD τ).loc main_arg1)) (m ((c.tc : Thread nD τ).loc main_arg4))
      ∧ r.2.mem ((c.tc : Thread nD τ).loc main_v7) = rH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = truncf .bf16 (rF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => h c) (run m ρ)

variable {a0 : FVec Ideal S4096x1024 .bf16} {a1 : FVec Ideal S1024x1024 .bf16} {a2 : FVec Ideal S4096x1024 .f32}
  {a3 a4 a5 a6 a7 : FVec Ideal S1x1024 .f32}
  {X : Fin 4096 → Fin 1024 → EReal} {W : Fin 1024 → Fin 1024 → EReal} {Hd : Fin 4096 → Fin 1024 → EReal} {Gt B G Sc Sh : Fin 1024 → EReal}
  (h_x : ∀ r l, a0 (ix2 r l) = X r l) (h_w : ∀ l k, a1 (ix2 l k) = W l k) (h_b : ∀ k, a4 (ix2 0 k) = B k)
  (h_h : ∀ r k, a2 (ix2 r k) = Hd r k) (h_gt : ∀ k, a3 (ix2 0 k) = Gt k)
  (h_g : ∀ k, a5 (ix2 0 k) = G k) (h_sc : ∀ k, a6 (ix2 0 k) = Sc k) (h_sh : ∀ k, a7 (ix2 0 k) = Sh k)

include h_x h_w h_b in
/-- The reference's product, entry by entry … -/
theorem rY_apply (r : Fin 4096) (k : Fin 1024) : rY a0 a1 a4 (ix2 r k) = ∑ l, X r l * W l k + B k := by
  pointwise [rY]
  refine congrArg₂ (fun p q : EReal => p + q) ?_ (h_b k)
  exact Finset.sum_congr rfl fun l _ => congrArg₂ (fun p q : EReal => p * q) (h_x r l) (h_w l k)

include h_x h_w h_b h_h h_gt in
/-- … the residual and the gated product … -/
theorem rH_apply (r : Fin 4096) (k : Fin 1024) : rH a0 a1 a2 a3 a4 (ix2 r k) = Hd r k + Gt k * (∑ l, X r l * W l k + B k) := by
  pointwise [rH]
  exact congrArg₂ (fun p q : EReal => p + q) (h_h r k) (congrArg₂ (fun p q : EReal => p * q) (h_gt k) (rY_apply h_x h_w h_b r k))

include h_x h_w h_b h_h h_gt in
/-- … one over its root mean square … -/
theorem rR_apply (r : Fin 4096) : rR a0 a1 a2 a3 a4 (ix2 r 0) = rs (fun k => Hd r k + Gt k * (∑ l, X r l * W l k + B k)) := by
  pointwise [rR]
  have hs := Finset.sum_congr (s₁ := Finset.univ) rfl fun j _ => congrArg₂ (fun p q : EReal => p * q) (rH_apply h_x h_w h_b h_h h_gt r j) (rH_apply h_x h_w h_b h_h h_gt r j)
  exact congrArg Ideal.rsqrt (congrArg₂ (fun p q : EReal => p + q) (congrArg₂ Ideal.div hs word_1024) word_eps)

include h_x h_w h_b h_h h_gt h_g h_sc h_sh in
/-- … and the row, normalised, scaled and shifted. -/
theorem rF_apply (r : Fin 4096) (k : Fin 1024) :
    rF a0 a1 a2 a3 a4 a5 a6 a7 (ix2 r k) = xf G Sc Sh (fun k => Hd r k + Gt k * (∑ l, X r l * W l k + B k)) k := by
  pointwise [rF]
  exact congrArg₂ (fun p q : EReal => p + q) (congrArg₂ (fun p q : EReal => p * q) (congrArg₂ (fun p q : EReal => p * q)
    (congrArg₂ (fun p q : EReal => p * q) (rH_apply h_x h_w h_b h_h h_gt r k) (rR_apply h_x h_w h_b h_h h_gt r)) (h_g k))
    (congrArg (fun q : EReal => 1 + q) (h_sc k))) (h_sh k)

end

/-- The two programs, from the same arguments, end with the same three arrays. -/
theorem equation : Cert.algebraic_Pw2Ideal_Pw2RefIdeal (hPw2Ideal := Cert.Pw2Ideal.Gen.facts)
    (hPw2RefIdeal := Cert.Pw2RefIdeal.Gen.facts) := by
  pair_intro
  · run_from Cert.Pw2Ideal.Value.run_blocks m g
  · run_from run_stages m' g'
    · refine Eq.trans ?_ (arr0 m c).symm
      funext i
      obtain ⟨r, k, rfl⟩ : ∃ p q, i = ix2 p q := ⟨i 0, i 1, by funext a; fin_cases a <;> rfl⟩
      exact rY_apply (X := X m c) (W := W m c) (B := B m c) (fun _ _ => rfl) (fun _ _ => rfl) (fun _ => rfl) r k
    · refine Eq.trans ?_ (arr1 m c).symm
      funext i
      obtain ⟨r, k, rfl⟩ : ∃ p q, i = ix2 p q := ⟨i 0, i 1, by funext a; fin_cases a <;> rfl⟩
      exact rH_apply (X := X m c) (W := W m c) (Hd := Hd m c) (Gt := Gt m c) (B := B m c) (fun _ _ => rfl) (fun _ _ => rfl) (fun _ => rfl) (fun _ _ => rfl)
        (fun _ => rfl) r k
    · refine Eq.trans ?_ (arr2 m c).symm
      funext i
      obtain ⟨r, k, rfl⟩ : ∃ p q, i = ix2 p q := ⟨i 0, i 1, by funext a; fin_cases a <;> rfl⟩
      exact rF_apply (X := X m c) (W := W m c) (Hd := Hd m c) (Gt := Gt m c) (B := B m c) (G := G m c) (Sc := Sc m c) (Sh := Sh m c) (fun _ _ => rfl)
        (fun _ _ => rfl) (fun _ => rfl) (fun _ _ => rfl) (fun _ => rfl) (fun _ => rfl) (fun _ => rfl) (fun _ => rfl) r k

end Cert.Pw2Eq

end
-- ==== Proof.Pw1.lean ====
/-
  `x @ w`, and its left half with the bias times the logistic of its right half with the bias: the kernel takes blocks of
  512 rows.
-/
module

public import proofs.«01_k».proof.Defs
public import proofs.«01_k».proof.Proof.Gen.Pw1Ideal.Value
public import proofs.«01_k».proof.Proof.Gen.Pw1RefIdeal.Run
public import Idealize.ShloMosaic.Lib.Pipeline.ValueKit
public import Idealize.ShloMosaic.Lib.Pointwise

@[expose] public section

set_option maxRecDepth 16384

noncomputable section

namespace Cert.Pw1Eq

open Idealize.ShloMosaic Idealize.ShloMosaic.TcCoe Idealize.SL.Sem

/-- The logistic function on the extended reals, as the kernel and the reference compute it. -/
def sg (x : EReal) : EReal := Ideal.div 1 (1 + Ideal.exp (-x))

/-- The left and the right half's column `k`. -/
def lf (k : Fin 1024) : Fin 2048 := ⟨k.val, by omega⟩
def rt (k : Fin 1024) : Fin 2048 := ⟨1024 + k.val, by omega⟩

section

open Cert.Pw1Ideal Cert.Pw1Ideal.Gen

variable (m : (ℓ : Loc nD τ sig) → Buf (Elt Ideal) ℓ) (c : Dev nD)

/-- The product's factors and the bias, as the call receives them. -/
def X (r : Fin 4096) (l : Fin 1024) : EReal := (m ((c : Thread nD τ).loc main_arg0) : S4096x1024.Idx → EReal) (ix2 r l)
def W (l : Fin 1024) (k : Fin 2048) : EReal := (m ((c : Thread nD τ).loc main_arg1) : S1024x2048.Idx → EReal) (ix2 l k)
def B (k : Fin 2048) : EReal := (m ((c : Thread nD τ).loc main_arg2) : S1x2048.Idx → EReal) (ix2 0 k)
/-- The product. -/
def Y (r : Fin 4096) (k : Fin 2048) : EReal := ∑ l, X m c r l * W m c l k
/-- The left half times the logistic of the right half. -/
def Z (r : Fin 4096) (k : Fin 1024) : EReal := (Y m c r (lf k) + B m c (lf k)) * sg (Y m c r (rt k) + B m c (rt k))

/-- Where each window's block lies at a grid point: rows `512 t` and on, or the whole array. -/
theorem idx : ∀ t : Fin cfg0.N, win0_0.index t 0 = t.val ∧ win0_0.index t 1 = 0 ∧ win0_1.index t 0 = 0
    ∧ win0_1.index t 1 = 0 ∧ win0_2.index t 0 = 0 ∧ win0_2.index t 1 = 0 ∧ win0_3.index t 0 = t.val
    ∧ win0_3.index t 1 = 0 ∧ win0_4.index t 0 = t.val ∧ win0_4.index t 1 = 0 :=
  (by decide +kernel : ∀ t : Fin grid0.N, win0_0.index t 0 = t.val ∧ win0_0.index t 1 = 0 ∧ win0_1.index t 0 = 0
    ∧ win0_1.index t 1 = 0 ∧ win0_2.index t 0 = 0 ∧ win0_2.index t 1 = 0 ∧ win0_3.index t 0 = t.val
    ∧ win0_3.index t 1 = 0 ∧ win0_4.index t 0 = t.val ∧ win0_4.index t 1 = 0)

/-- Row `r` of the blocks at point `t`. -/
def trow (t : Fin cfg0.N) (r : Fin 512) : Fin 4096 :=
  ⟨512 * t.val + r.val, by have := t.isLt; have : cfg0.N = 8 := N_0; omega⟩

theorem blk_x (t : Fin cfg0.N) (r : Fin 512) (l : Fin 1024) :
    (iblk m c 0 t : S512x1024.Idx → EReal) (ix2 r l) = X m c (trow t r) l := by
  rw [X]
  blk_point [iblk, V, idx t, trow]

theorem blk_w (t : Fin cfg0.N) (l : Fin 1024) (k : Fin 2048) :
    (iblk m c 1 t : S1024x2048.Idx → EReal) (ix2 l k) = W m c l k := by
  rw [W]
  blk_point [iblk, V, idx t]

theorem blk_b (t : Fin cfg0.N) (k : Fin 2048) : (iblk m c 2 t : S1x2048.Idx → EReal) (ix2 0 k) = B m c k := by
  rw [B]
  blk_point [iblk, V, idx t]

/-- A grid point's rows of the product … -/
theorem pay_y (t : Fin cfg0.N) (r : Fin 512) (k : Fin 2048) :
    k0_pay1 (iblk m c 0 t) (iblk m c 1 t) (ix2 r k) = Y m c (trow t r) k := by
  rw [Y]
  pointwise [k0_pay1]
  simp only [blk_x, blk_w]

/-- … and of the gated half. -/
theorem pay_z (t : Fin cfg0.N) (r : Fin 512) (k : Fin 1024) :
    k0_pay2 (iblk m c 0 t) (iblk m c 1 t) (iblk m c 2 t) (ix2 r k) = Z m c (trow t r) k := by
  have hy : ∀ j j' : Fin 2048, j = j' → k0_pay1 (iblk m c 0 t) (iblk m c 1 t) (ix2 r j) + (iblk m c 2 t : S1x2048.Idx → EReal) (ix2 0 j)
      = Y m c (trow t r) j' + B m c j' := by
    rintro j _ rfl
    exact congrArg₂ (fun p q : EReal => p + q) (pay_y m c t r j) (blk_b m c t j)
  pointwise [k0_pay2]
  simp only [zero_sub]
  exact congrArg₂ (fun p q : EReal => p * Ideal.div 1 (1 + Ideal.exp (-q))) (hy _ (lf k) (Fin.ext (by simp [lf]))) (hy _ (rt k) (Fin.ext (by simp [rt])))

/-- The product after the run … -/
theorem arr0 : (dats m 0 c).arrAt 3 cfg0.N = fun i : S4096x2048.Idx => Y m c (i 0) (i 1) := by
  refine (dats m 0 c).arrAt_eq_of_covers 3 _ (by decide +kernel) fun t hf y => ?_
  blk_simp
  rw [after0_3]
  obtain ⟨r, k, rfl⟩ : ∃ r k, y = ix2 r k := ⟨y 0, y 1, by funext a; fin_cases a <;> rfl⟩
  frame_out
  refine (pay_y m c t r k).trans ?_
  congr 2 <;> apply Fin.ext <;> blk_simp [idx t, trow]
  exact congrArg (· + r.val) (Nat.mul_comm 512 t.val)

/-- … and the gated half. -/
theorem arr1 : (dats m 0 c).arrAt 4 cfg0.N = fun i : S4096x1024.Idx => Z m c (i 0) (i 1) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine (pay_z m c t r k).trans ?_
  congr 2 <;> apply Fin.ext <;> blk_simp [idx t, trow]
  exact congrArg (· + r.val) (Nat.mul_comm 512 t.val)

end

section

open Cert.Pw1RefIdeal Cert.Pw1RefIdeal.Gen Cert.Pw1RefIdeal.Value

section Stages

variable (a0 : FVec Ideal S4096x1024 .bf16) (a1 : FVec Ideal S1024x2048 .bf16) (a2 : FVec Ideal S1x2048 .f32)

/-- The product. -/
def rY : FVec Ideal S4096x2048 .f32 :=
  Host.dotGeneral dot_S4096x1024_S1024x2048_S4096x2048_1_0_0_1_n_n none (extf .f32 a0 bitsLt_bf16_f32) (extf .f32 a1 bitsLt_bf16_f32)
/-- With its bias. -/
def rB : FVec Ideal S4096x2048 .f32 := addf (rY a0 a1) (broadcastInDim S4096x2048 ![0, 1] bcast_S1x2048_S4096x2048_0_1 a2)
/-- Its left half times the logistic of its right half. -/
def rZ : FVec Ideal S4096x1024 .f32 :=
  mulf (extractStridedSlice S4096x1024 ![0, 0] (rB a0 a1 a2) slices_S4096x2048_S4096x1024_0_0)
    (Host.divf (broadcastInDim S4096x1024 ![] bcast_S_S4096x1024 (constant S_ .f32 0x3F800000#32))
      (addf (broadcastInDim S4096x1024 ![] bcast_S_S4096x1024 (constant S_ .f32 0x3F800000#32))
        (Host.exp (Host.negf (extractStridedSlice S4096x1024 ![0, 1024] (rB a0 a1 a2) slices_S4096x2048_S4096x1024_0_1024)))))

end Stages

/-- What the reference ends with: the two results, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = rY (m ((c.tc : Thread nD τ).loc main_arg0)) (m ((c.tc : Thread nD τ).loc main_arg1))
      ∧ r.2.mem ((c.tc : Thread nD τ).loc main_v13) = rZ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (run m ρ)

variable {a0 : FVec Ideal S4096x1024 .bf16} {a1 : FVec Ideal S1024x2048 .bf16} {a2 : FVec Ideal S1x2048 .f32}
  {X : Fin 4096 → Fin 1024 → EReal} {W : Fin 1024 → Fin 2048 → EReal} {B : Fin 2048 → EReal}
  (h_x : ∀ r l, a0 (ix2 r l) = X r l) (h_w : ∀ l k, a1 (ix2 l k) = W l k) (h_b : ∀ k, a2 (ix2 0 k) = B k)

include h_x h_w in
/-- The reference's product, entry by entry … -/
theorem rY_apply (r : Fin 4096) (k : Fin 2048) : rY a0 a1 (ix2 r k) = ∑ l, X r l * W l k := by
  pointwise [rY]
  exact Finset.sum_congr rfl fun l _ => congrArg₂ (fun p q : EReal => p * q) (h_x r l) (h_w l k)

include h_x h_w h_b in
/-- … with its bias … -/
theorem rB_apply (r : Fin 4096) {k k' : Fin 2048} (hk : k = k') : rB a0 a1 a2 (ix2 r k) = (∑ l, X r l * W l k') + B k' := by
  subst hk
  pointwise [rB]
  exact congrArg₂ (fun p q : EReal => p + q) (rY_apply h_x h_w r k) (h_b k)

include h_x h_w h_b in
/-- … and its left half times the logistic of its right half. -/
theorem rZ_apply (r : Fin 4096) (k : Fin 1024) : rZ a0 a1 a2 (ix2 r k)
    = ((∑ l, X r l * W l (lf k)) + B (lf k)) * sg ((∑ l, X r l * W l (rt k)) + B (rt k)) := by
  pointwise [rZ]
  exact congrArg₂ (fun p q : EReal => p * Ideal.div 1 (1 + Ideal.exp (-q))) (rB_apply h_x h_w h_b r (Fin.ext (by simp [lf])))
    (rB_apply h_x h_w h_b r (Fin.ext (by simp [rt])))

end

/-- The two programs, from the same arguments, end with the same two arrays. -/
theorem equation : Cert.algebraic_Pw1Ideal_Pw1RefIdeal (hPw1Ideal := Cert.Pw1Ideal.Gen.facts)
    (hPw1RefIdeal := Cert.Pw1RefIdeal.Gen.facts) := by
  pair_intro
  · run_from Cert.Pw1Ideal.Value.run_blocks m g
  · run_from run_stages m' g'
    · refine Eq.trans ?_ (arr0 m c).symm
      funext i
      obtain ⟨r, k, rfl⟩ : ∃ p q, i = ix2 p q := ⟨i 0, i 1, by funext a; fin_cases a <;> rfl⟩
      exact rY_apply (X := X m c) (W := W m c) (fun _ _ => rfl) (fun _ _ => rfl) r k
    · refine Eq.trans ?_ (arr1 m c).symm
      funext i
      obtain ⟨r, k, rfl⟩ : ∃ p q, i = ix2 p q := ⟨i 0, i 1, by funext a; fin_cases a <;> rfl⟩
      exact rZ_apply (X := X m c) (W := W m c) (B := B m c) (fun _ _ => rfl) (fun _ _ => rfl) (fun _ => rfl) r k

end Cert.Pw1Eq

end
-- ==== Proof.LossTailArgs.lean ====
/-
  The last product with the loss: the arguments, and what the two programs make of them, over the extended reals. Nothing
  here mentions a program.
-/
module

public import proofs.«01_k».proof.Proof.InDxMaths

@[expose] public section

noncomputable section

namespace Cert.LossTailEq

open Idealize.ShloMosaic
open Cert.InDx (ms rs xn dh sum_mul_coe)

/-- The words of 1/2048 and 1/1024. -/
theorem word_2048th : Ideal.ofBits .f32 0x3A000000#32 = ((1 / 2048 : ℝ) : EReal) := by
  simp [Ideal.ofBits, Ideal.ieee, -EReal.coe_mul]; norm_num
theorem word_1024th : Ideal.ofBits .f32 0x3A800000#32 = ((1 / 1024 : ℝ) : EReal) := by
  simp [Ideal.ofBits, Ideal.ieee, -EReal.coe_mul]; norm_num

/-- The derivative of half a square over 1024: the step by step form is the short one. -/
theorem half_square (x : EReal) :
    Ideal.div (∑ _ : Fin 1, ((1 / 2 : ℝ) : EReal)) ((1024 : ℝ) : EReal) * (((2 : ℝ) : EReal) * x) = x * ((1 / 1024 : ℝ) : EReal) := by
  rw [Fin.sum_univ_one, Ideal.div_coe (by norm_num), ← mul_assoc, ← EReal.coe_mul, ← EReal.coe_mul, mul_comm]
  congr 2
  norm_num

/-- Half the sum of squares over 1024 is the sum of the squares over 2048. -/
theorem half_sum {n : ℕ} (f : Fin n → EReal) :
    ((1 / 2 : ℝ) : EReal) * ∑ r, Ideal.div (f r) ((1024 : ℝ) : EReal) = ∑ r, f r * ((1 / 2048 : ℝ) : EReal) := by
  rw [mul_comm, sum_mul_coe _ (by norm_num)]
  refine Finset.sum_congr rfl fun r _ => ?_
  rw [Ideal.div_coe (by norm_num), mul_assoc, ← EReal.coe_mul]
  congr 2
  norm_num

/-- The normalisation's gradient without a scale and with nothing from elsewhere. -/
theorem dh_plain (g x d : Fin 1024 → EReal) (k : Fin 1024) :
    dh g (fun _ => 0) x d (fun _ => 0) k
      = rs x * (d k * g k - xn x k * Ideal.div (∑ j, d j * g j * xn x j) ((1024 : ℝ) : EReal)) := by
  simp only [dh, Cert.InDx.e, add_zero, mul_one, zero_add]

/-- The six arguments. -/
structure Args where
  a : Fin 4096 → Fin 2816 → EReal
  w : Fin 2816 → Fin 1024 → EReal
  h0 : Fin 4096 → Fin 1024 → EReal
  gt : Fin 1024 → EReal
  tgt : Fin 4096 → Fin 1024 → EReal
  g : Fin 1024 → EReal

namespace Args

variable (A : Args)

/-- The product. -/
def y (r : Fin 4096) (k : Fin 1024) : EReal := ∑ l, A.a r l * A.w l k
/-- The row that is normalised. -/
def x (r : Fin 4096) (k : Fin 1024) : EReal := A.h0 r k + A.gt k * A.y r k
/-- The error. -/
def err (r : Fin 4096) (k : Fin 1024) : EReal := xn (A.x r) k * A.g k - A.tgt r k
/-- The loss's gradient at the output. -/
def d (r : Fin 4096) (k : Fin 1024) : EReal := A.err r k * ((1 / 1024 : ℝ) : EReal)
/-- The gradient at `x`. -/
def dx (r : Fin 4096) (k : Fin 1024) : EReal := dh A.g (fun _ => 0) (A.x r) (A.d r) (fun _ => 0) k
/-- A row's parts of the sums over the rows: the loss, the gradients at the gain and the gate; and the gradient at `y`. -/
def pL (k : Fin 1024) (r : Fin 4096) : EReal := A.err r k * A.err r k * ((1 / 2048 : ℝ) : EReal)
def pG (k : Fin 1024) (r : Fin 4096) : EReal := A.d r k * xn (A.x r) k
def pGt (k : Fin 1024) (r : Fin 4096) : EReal := A.dx r k * A.y r k
def pY (k : Fin 1024) (r : Fin 4096) : EReal := A.dx r k * A.gt k

end Args

end Cert.LossTailEq

end
-- ==== Proof.LossTailArr.lean ====
/-
  The last product with the loss: what the kernel leaves in its five result arrays.
-/
module

public import proofs.«01_k».proof.Proof.Gen.LossTailIdeal.Value
public import proofs.«01_k».proof.Proof.LossTailArgs
public import Idealize.ShloMosaic.Lib.Pipeline.ValueKit
public import Idealize.ShloMosaic.Lib.Pointwise

@[expose] public section

set_option maxRecDepth 16384

noncomputable section

namespace Cert.LossTailEq

open Idealize.ShloMosaic Idealize.ShloMosaic.TcCoe Idealize.SL.Sem
open Cert.LossTailIdeal Cert.LossTailIdeal.Gen
open Cert.Gating (word_eps)
open Cert.InDx (ms rs xn dh word_1024 sum_mul_coe)

variable (m : (ℓ : Loc nD τ sig) → Buf (Elt Ideal) ℓ) (c : Dev nD)

/-- The six arguments' entries are `A`. -/
structure Reads (A : Args) : Prop where
  a : ∀ r l, (m ((c : Thread nD τ).loc main_arg0) : S4096x2816.Idx → EReal) (ix2 r l) = A.a r l
  w : ∀ l k, (m ((c : Thread nD τ).loc main_arg1) : S2816x1024.Idx → EReal) (ix2 l k) = A.w l k
  h0 : ∀ r k, (m ((c : Thread nD τ).loc main_arg2) : S4096x1024.Idx → EReal) (ix2 r k) = A.h0 r k
  gt : ∀ k, (m ((c : Thread nD τ).loc main_arg3) : S1x1024.Idx → EReal) (ix2 0 k) = A.gt k
  tgt : ∀ r k, (m ((c : Thread nD τ).loc main_arg4) : S4096x1024.Idx → EReal) (ix2 r k) = A.tgt r k
  g : ∀ k, (m ((c : Thread nD τ).loc main_arg5) : S1x1024.Idx → EReal) (ix2 0 k) = A.g k

/-- Where each window's block lies at a grid point: rows `512 t` and on, or the whole array. -/
theorem idx : ∀ t : Fin cfg0.N, win0_0.index t 0 = t.val ∧ win0_0.index t 1 = 0 ∧ win0_1.index t 0 = 0 ∧ win0_1.index t 1 = 0 ∧ win0_2.index t 0 = t.val ∧ win0_2.index t 1 = 0 ∧ win0_3.index t 0 = 0 ∧ win0_3.index t 1 = 0
    ∧ win0_4.index t 0 = t.val
    ∧ win0_4.index t 1 = 0 ∧ win0_5.index t 0 = 0 ∧ win0_5.index t 1 = 0 ∧ win0_6.index t 0 = t.val ∧ win0_6.index t 1 = 0 ∧ win0_7.index t 0 = 0 ∧ win0_7.index t 1 = 0
    ∧ win0_8.index t 0 = 0
    ∧ win0_8.index t 1 = 0 ∧ win0_9.index t 0 = t.val ∧ win0_9.index t 1 = 0 ∧ win0_10.index t 0 = 0 ∧ win0_10.index t 1 = 0 :=
  (by decide +kernel : ∀ t : Fin grid0.N, win0_0.index t 0 = t.val ∧ win0_0.index t 1 = 0 ∧ win0_1.index t 0 = 0 ∧ win0_1.index t 1 = 0 ∧ win0_2.index t 0 = t.val ∧ win0_2.index t 1 = 0 ∧ win0_3.index t 0 = 0 ∧ win0_3.index t 1 = 0
    ∧ win0_4.index t 0 = t.val
    ∧ win0_4.index t 1 = 0 ∧ win0_5.index t 0 = 0 ∧ win0_5.index t 1 = 0 ∧ win0_6.index t 0 = t.val ∧ win0_6.index t 1 = 0 ∧ win0_7.index t 0 = 0 ∧ win0_7.index t 1 = 0
    ∧ win0_8.index t 0 = 0
    ∧ win0_8.index t 1 = 0 ∧ win0_9.index t 0 = t.val ∧ win0_9.index t 1 = 0 ∧ win0_10.index t 0 = 0 ∧ win0_10.index t 1 = 0)

/-- Row `r` of the blocks at point `t`. -/
def trow (t : Fin cfg0.N) (r : Fin 512) : Fin 4096 :=
  ⟨512 * t.val + r.val, by have := t.isLt; have : cfg0.N = 8 := N_0; omega⟩

variable {m c} {A : Args} (H : Reads m c A)
include H

theorem blk_a (t : Fin cfg0.N) (r : Fin 512) (l : Fin 2816) : (iblk m c 0 t : S512x2816.Idx → EReal) (ix2 r l) = A.a (trow t r) l := by
  rw [← H.a]
  blk_point [iblk, V, idx t, trow]

theorem blk_w (t : Fin cfg0.N) (l : Fin 2816) (k : Fin 1024) : (iblk m c 1 t : S2816x1024.Idx → EReal) (ix2 l k) = A.w l k := by
  rw [← H.w]
  blk_point [iblk, V, idx t]

theorem blk_h0 (t : Fin cfg0.N) (r : Fin 512) (k : Fin 1024) : (iblk m c 2 t : S512x1024.Idx → EReal) (ix2 r k) = A.h0 (trow t r) k := by
  rw [← H.h0]
  blk_point [iblk, V, idx t, trow]

theorem blk_gt (t : Fin cfg0.N) (k : Fin 1024) : (iblk m c 3 t : S1x1024.Idx → EReal) (ix2 0 k) = A.gt k := by
  rw [← H.gt]
  blk_point [iblk, V, idx t]

theorem blk_tgt (t : Fin cfg0.N) (r : Fin 512) (k : Fin 1024) : (iblk m c 4 t : S512x1024.Idx → EReal) (ix2 r k) = A.tgt (trow t r) k := by
  rw [← H.tgt]
  blk_point [iblk, V, idx t, trow]

theorem blk_g (t : Fin cfg0.N) (k : Fin 1024) : (iblk m c 5 t : S1x1024.Idx → EReal) (ix2 0 k) = A.g k := by
  rw [← H.g]
  blk_point [iblk, V, idx t]

/-- A grid point's rows of the product … -/
theorem pay1_apply (t : Fin cfg0.N) (r : Fin 512) (k : Fin 1024) :
    k0_pay1 (iblk m c 0 t) (iblk m c 1 t) (ix2 r k) = A.y (trow t r) k := by
  pointwise [k0_pay1]
  exact Finset.sum_congr rfl fun l _ => congrArg₂ (fun p q : EReal => p * q) (blk_a H t r l) (blk_w H t l k)

/-- … of the row that is normalised … -/
theorem pay2_apply (t : Fin cfg0.N) (r : Fin 512) (k : Fin 1024) :
    k0_pay2 (iblk m c 0 t) (iblk m c 1 t) (iblk m c 2 t) (iblk m c 3 t) (ix2 r k) = A.x (trow t r) k := by
  pointwise [k0_pay2]
  exact congrArg₂ (fun p q : EReal => p + q) (blk_h0 H t r k) (congrArg₂ (fun p q : EReal => p * q) (blk_gt H t k) (pay1_apply H t r k))

/-- … one over its root mean square … -/
theorem pay6_apply (t : Fin cfg0.N) (r : Fin 512) :
    k0_pay6 (iblk m c 0 t) (iblk m c 1 t) (iblk m c 2 t) (iblk m c 3 t) (ix2 r 0) = rs (A.x (trow t r)) := by
  pointwise [k0_pay6]
  have hs := Finset.sum_congr (s₁ := Finset.univ) rfl fun j _ => congrArg₂ (fun p q : EReal => p * q) (pay2_apply H t r j) (pay2_apply H t r j)
  exact congrArg Ideal.rsqrt (congrArg₂ (fun p q : EReal => p + q) (congrArg₂ Ideal.div hs word_1024) word_eps)

/-- … the normalised row … -/
theorem pay7_apply (t : Fin cfg0.N) (r : Fin 512) (k : Fin 1024) :
    k0_pay7 (iblk m c 0 t) (iblk m c 1 t) (iblk m c 2 t) (iblk m c 3 t) (ix2 r k) = xn (A.x (trow t r)) k := by
  pointwise [k0_pay7]
  exact congrArg₂ (fun p q : EReal => p * q) (pay2_apply H t r k) (pay6_apply H t r)

/-- … the error … -/
theorem pay8_apply (t : Fin cfg0.N) (r : Fin 512) (k : Fin 1024) :
    k0_pay8 (iblk m c 0 t) (iblk m c 1 t) (iblk m c 2 t) (iblk m c 3 t) (iblk m c 5 t) (iblk m c 4 t) (ix2 r k) = A.err (trow t r) k := by
  pointwise [k0_pay8]
  exact congrArg₂ (fun p q : EReal => p - q) (congrArg₂ (fun p q : EReal => p * q) (pay7_apply H t r k) (blk_g H t k)) (blk_tgt H t r k)

/-- … the gradient at the output … -/
theorem pay10_apply (t : Fin cfg0.N) (r : Fin 512) (k : Fin 1024) :
    k0_pay10 (k0_pay8 (iblk m c 0 t) (iblk m c 1 t) (iblk m c 2 t) (iblk m c 3 t) (iblk m c 5 t) (iblk m c 4 t)) (ix2 r k) = A.d (trow t r) k := by
  pointwise [k0_pay10]
  exact congrArg₂ (fun p q : EReal => p * q) (pay8_apply H t r k) word_1024th

/-- … and at the row that was normalised … -/
theorem pay12_apply (t : Fin cfg0.N) (r : Fin 512) (k : Fin 1024) :
    k0_pay12 (iblk m c 5 t) (k0_pay6 (iblk m c 0 t) (iblk m c 1 t) (iblk m c 2 t) (iblk m c 3 t)) (k0_pay7 (iblk m c 0 t) (iblk m c 1 t) (iblk m c 2 t) (iblk m c 3 t)) (k0_pay8 (iblk m c 0 t) (iblk m c 1 t) (iblk m c 2 t) (iblk m c 3 t) (iblk m c 5 t) (iblk m c 4 t)) (ix2 r k) = A.dx (trow t r) k := by
  pointwise [k0_pay12]
  have h1 : ∀ j, k0_pay10 (k0_pay8 (iblk m c 0 t) (iblk m c 1 t) (iblk m c 2 t) (iblk m c 3 t) (iblk m c 5 t) (iblk m c 4 t)) (ix2 r j) * (iblk m c 5 t : S1x1024.Idx → EReal) (ix2 0 j)
      = A.d (trow t r) j * A.g j := fun j => congrArg₂ (fun p q : EReal => p * q) (pay10_apply H t r j) (blk_g H t j)
  have h2 := Finset.sum_congr (s₁ := Finset.univ) rfl fun j _ => congrArg₂ (fun p q : EReal => p * q) (h1 j) (pay7_apply H t r j)
  exact (congrArg₂ (fun p q : EReal => p * q) (pay6_apply H t r) (congrArg₂ (fun p q : EReal => p - q) (h1 k)
    (congrArg₂ (fun p q : EReal => p * q) (pay7_apply H t r k) (congrArg₂ Ideal.div h2 word_1024)))).trans
    (dh_plain A.g (A.x (trow t r)) (A.d (trow t r)) k).symm

/-- … and at the product. -/
theorem pay13_apply (t : Fin cfg0.N) (r : Fin 512) (k : Fin 1024) :
    k0_pay13 (iblk m c 5 t) (k0_pay6 (iblk m c 0 t) (iblk m c 1 t) (iblk m c 2 t) (iblk m c 3 t)) (k0_pay7 (iblk m c 0 t) (iblk m c 1 t) (iblk m c 2 t) (iblk m c 3 t)) (k0_pay8 (iblk m c 0 t) (iblk m c 1 t) (iblk m c 2 t) (iblk m c 3 t) (iblk m c 5 t) (iblk m c 4 t)) (iblk m c 3 t) (ix2 r k) = A.pY k (trow t r) := by
  pointwise [k0_pay13]
  exact congrArg₂ (fun p q : EReal => p * q) (pay12_apply H t r k) (blk_gt H t k)

/-- What was kept so far of the loss, and the block's part. -/
theorem pay9_apply (t : Fin cfg0.N) (v : FVec Ideal S1x1024 .f32) (k : Fin 1024) :
    k0_pay9 (iblk m c 0 t) (iblk m c 1 t) (iblk m c 2 t) (iblk m c 3 t) (iblk m c 5 t) (iblk m c 4 t) v (ix2 0 k) = v (ix2 0 k) + ∑ r, A.pL k (trow t r) := by
  pointwise [k0_pay9]
  refine congrArg (fun q : EReal => v (ix2 0 k) + q) ?_
  have hs := Finset.sum_congr (s₁ := Finset.univ) rfl fun r _ => congrArg₂ (fun p q : EReal => p * q) (pay8_apply H t r k) (pay8_apply H t r k)
  exact (congrArg₂ (fun p q : EReal => p * q) hs word_2048th).trans (sum_mul_coe _ (by norm_num))

/-- The same of the gradient at the gain. -/
theorem pay11_apply (t : Fin cfg0.N) (v : FVec Ideal S1x1024 .f32) (k : Fin 1024) :
    k0_pay11 (k0_pay7 (iblk m c 0 t) (iblk m c 1 t) (iblk m c 2 t) (iblk m c 3 t)) (k0_pay8 (iblk m c 0 t) (iblk m c 1 t) (iblk m c 2 t) (iblk m c 3 t) (iblk m c 5 t) (iblk m c 4 t)) v (ix2 0 k) = v (ix2 0 k) + ∑ r, A.pG k (trow t r) := by
  pointwise [k0_pay11]
  refine congrArg (fun q : EReal => v (ix2 0 k) + q) ?_
  exact Finset.sum_congr rfl fun r _ => congrArg₂ (fun p q : EReal => p * q) (pay10_apply H t r k) (pay7_apply H t r k)

/-- The same of the gradient at the gate. -/
theorem pay14_apply (t : Fin cfg0.N) (v : FVec Ideal S1x1024 .f32) (k : Fin 1024) :
    k0_pay14 (k0_pay1 (iblk m c 0 t) (iblk m c 1 t)) (iblk m c 5 t) (k0_pay6 (iblk m c 0 t) (iblk m c 1 t) (iblk m c 2 t) (iblk m c 3 t)) (k0_pay7 (iblk m c 0 t) (iblk m c 1 t) (iblk m c 2 t) (iblk m c 3 t)) (k0_pay8 (iblk m c 0 t) (iblk m c 1 t) (iblk m c 2 t) (iblk m c 3 t) (iblk m c 5 t) (iblk m c 4 t)) v (ix2 0 k)
      = v (ix2 0 k) + ∑ r, A.pGt k (trow t r) := by
  pointwise [k0_pay14]
  refine congrArg (fun q : EReal => v (ix2 0 k) + q) ?_
  exact Finset.sum_congr rfl fun r _ => congrArg₂ (fun p q : EReal => p * q) (pay12_apply H t r k) (pay1_apply H t r k)

omit H in
variable (m c) in
/-- What a grid point leaves in the blocks of the two results that are cut into rows. -/
theorem outs6 (t : Fin cfg0.N) : (outsAt0 m c t.val t.isLt).1 = k0_pay12 (iblk m c 5 t) (k0_pay6 (iblk m c 0 t) (iblk m c 1 t) (iblk m c 2 t) (iblk m c 3 t)) (k0_pay7 (iblk m c 0 t) (iblk m c 1 t) (iblk m c 2 t) (iblk m c 3 t)) (k0_pay8 (iblk m c 0 t) (iblk m c 1 t) (iblk m c 2 t) (iblk m c 3 t) (iblk m c 5 t) (iblk m c 4 t)) := by
  by_cases h : t.val % 8 = 0
  · rw [outsAt0_A m c t h]; frame_out
  · rw [outsAt0_B m c t h]; frame_out
omit H in
variable (m c) in
theorem outs9 (t : Fin cfg0.N) : (outsAt0 m c t.val t.isLt).2.2.2.1 = k0_pay13 (iblk m c 5 t) (k0_pay6 (iblk m c 0 t) (iblk m c 1 t) (iblk m c 2 t) (iblk m c 3 t)) (k0_pay7 (iblk m c 0 t) (iblk m c 1 t) (iblk m c 2 t) (iblk m c 3 t)) (k0_pay8 (iblk m c 0 t) (iblk m c 1 t) (iblk m c 2 t) (iblk m c 3 t) (iblk m c 5 t) (iblk m c 4 t)) (iblk m c 3 t) := by
  by_cases h : t.val % 8 = 0
  · rw [outsAt0_A m c t h]; frame_out
  · rw [outsAt0_B m c t h]; frame_out

/-- The gradient at the row, whole. -/
theorem arr6 : (dats m 0 c).arrAt 6 cfg0.N = fun i : S4096x1024.Idx => A.dx (i 0) (i 1) := by
  refine (dats m 0 c).arrAt_eq_of_covers 6 _ (by decide +kernel) fun t hf y => ?_
  blk_simp
  rw [after0_6, outs6]
  obtain ⟨r, k, rfl⟩ : ∃ r k, y = ix2 r k := ⟨y 0, y 1, by funext a; fin_cases a <;> rfl⟩
  refine (pay12_apply H t r k).trans ?_
  congr 2 <;> apply Fin.ext <;> blk_simp [idx t, trow]
  exact congrArg (· + r.val) (Nat.mul_comm 512 t.val)

/-- The gradient at the product, whole. -/
theorem arr9 : (dats m 0 c).arrAt 9 cfg0.N = fun i : S4096x1024.Idx => A.pY (i 1) (i 0) := by
  refine (dats m 0 c).arrAt_eq_of_covers 9 _ (by decide +kernel) fun t hf y => ?_
  blk_simp
  rw [after0_9, outs9]
  obtain ⟨r, k, rfl⟩ : ∃ r k, y = ix2 r k := ⟨y 0, y 1, by funext a; fin_cases a <;> rfl⟩
  refine (pay13_apply H t r k).trans ?_
  congr 2 <;> apply Fin.ext <;> blk_simp [idx t, trow]
  exact congrArg (· + r.val) (Nat.mul_comm 512 t.val)

omit H in
/-- A row of results that each point adds its block's part to holds, after the last point, the sum over all rows. -/
theorem acc (f : (n : ℕ) → n < cfg0.N → S1x1024.Idx → EReal) (T : Fin cfg0.N → S1x1024.Idx → EReal) (p : Fin 1024 → Fin 4096 → EReal)
    (hT : ∀ t k, T t (ix2 0 k) = (∑ r, p k (trow t r)))
    (h0 : ∀ t : Fin cfg0.N, t.val % 8 = 0 → ∀ k, f t.val t.isLt (ix2 0 k) = T t (ix2 0 k))
    (hs : ∀ t : Fin cfg0.N, ¬t.val % 8 = 0 → ∀ k, f t.val t.isLt (ix2 0 k)
      = f (t.val - 1) (Nat.lt_of_le_of_lt (Nat.sub_le _ _) t.isLt) (ix2 0 k) + T t (ix2 0 k))
    (t : Fin cfg0.N) (h7 : t.val % 8 = 7) (k : Fin 1024) : f t.val t.isLt (ix2 0 k) = (∑ r, p k r) := by
  rw [Pipeline.eq_sum_fin_of_reset_step_apply_of_flush (fun n h => fun k : Fin 1024 => f n h (ix2 0 k)) 8 (fun _ => (0 : EReal))
    (fun t k => T t (ix2 0 k)) (fun t ht k => (h0 t ht k).trans (zero_add _).symm) hs t h7 k, zero_add]
  refine (Finset.sum_congr rfl fun s _ => hT _ k).trans ?_
  refine (Finset.sum_congr rfl fun s _ => Finset.sum_congr rfl fun r _ => congrArg (p k) (Fin.ext ?_)).trans
    (Fin.sum_mul_add_fin 8 512 (p k))
  have : cfg0.N = 8 := N_0
  have := t.isLt
  show 512 * (8 * (t.val / 8) + s.val) + r.val = s.val * 512 + r.val
  omega

/-- The gradient at the gain. -/
theorem arr7 : (dats m 0 c).arrAt 7 cfg0.N = fun i : S1x1024.Idx => (∑ r, A.pG (i 1) r) := by
  refine (dats m 0 c).arrAt_eq_of_covers 7 _ (by decide +kernel) fun t hf j => ?_
  blk_simp
  rw [after0_7]
  obtain ⟨z, k, rfl⟩ : ∃ z k, j = ix2 z k := ⟨j 0, j 1, by funext a; fin_cases a <;> rfl⟩
  obtain rfl : z = 0 := Subsingleton.elim _ _
  refine (acc (fun n h => (outsAt0 m c n h).2.1) (fun t => k0_pay11 (k0_pay7 (iblk m c 0 t) (iblk m c 1 t) (iblk m c 2 t) (iblk m c 3 t)) (k0_pay8 (iblk m c 0 t) (iblk m c 1 t) (iblk m c 2 t) (iblk m c 3 t) (iblk m c 5 t) (iblk m c 4 t)) (fun _ => (0 : EReal))) A.pG
    (fun t k => (pay11_apply H t _ k).trans (zero_add _)) (fun t ht k => ?_) (fun t ht k => ?_) t ((flush0_7 t).mp hf) k).trans ?_
  · rw [outsAt0_A m c t ht]; frame_out
    refine (pay11_apply H t _ k).trans (Eq.trans ?_ (pay11_apply H t _ k).symm)
    refine congrArg (fun q : EReal => q + ∑ r, A.pG k (trow t r)) ?_
    pointwise [k0_pay3]
  · rw [outsAt0_B m c t ht]; frame_out
    refine (pay11_apply H t _ k).trans ?_
    exact congrArg (fun q : EReal => _ + q) ((pay11_apply H t _ k).trans (zero_add _)).symm
  · have e : ((win0_7.blk t).view.emb (ix2 0 k)) 1 = k := by
      apply Fin.ext; blk_simp [idx t]
    rw [e]

/-- The loss, lane by lane. -/
theorem arr8 : (dats m 0 c).arrAt 8 cfg0.N = fun i : S1x1024.Idx => (∑ r, A.pL (i 1) r) := by
  refine (dats m 0 c).arrAt_eq_of_covers 8 _ (by decide +kernel) fun t hf j => ?_
  blk_simp
  rw [after0_8]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.1) (fun t => k0_pay9 (iblk m c 0 t) (iblk m c 1 t) (iblk m c 2 t) (iblk m c 3 t) (iblk m c 5 t) (iblk m c 4 t) (fun _ => (0 : EReal))) A.pL
    (fun t k => (pay9_apply H t _ k).trans (zero_add _)) (fun t ht k => ?_) (fun t ht k => ?_) t ((flush0_8 t).mp hf) k).trans ?_
  · rw [outsAt0_A m c t ht]; frame_out
    refine (pay9_apply H t _ k).trans (Eq.trans ?_ (pay9_apply H t _ k).symm)
    refine congrArg (fun q : EReal => q + ∑ r, A.pL k (trow t r)) ?_
    pointwise [k0_pay4]
  · rw [outsAt0_B m c t ht]; frame_out
    refine (pay9_apply H t _ k).trans ?_
    exact congrArg (fun q : EReal => _ + q) ((pay9_apply H t _ k).trans (zero_add _)).symm
  · have e : ((win0_8.blk t).view.emb (ix2 0 k)) 1 = k := by
      apply Fin.ext; blk_simp [idx t]
    rw [e]

/-- The gradient at the gate. -/
theorem arr10 : (dats m 0 c).arrAt 10 cfg0.N = fun i : S1x1024.Idx => (∑ r, A.pGt (i 1) r) := by
  refine (dats m 0 c).arrAt_eq_of_covers 10 _ (by decide +kernel) fun t hf j => ?_
  blk_simp
  rw [after0_10]
  obtain ⟨z, k, rfl⟩ : ∃ z k, j = ix2 z k := ⟨j 0, j 1, by funext a; fin_cases a <;> rfl⟩
  obtain rfl : z = 0 := Subsingleton.elim _ _
  refine (acc (fun n h => (outsAt0 m c n h).2.2.2.2) (fun t => k0_pay14 (k0_pay1 (iblk m c 0 t) (iblk m c 1 t)) (iblk m c 5 t) (k0_pay6 (iblk m c 0 t) (iblk m c 1 t) (iblk m c 2 t) (iblk m c 3 t)) (k0_pay7 (iblk m c 0 t) (iblk m c 1 t) (iblk m c 2 t) (iblk m c 3 t)) (k0_pay8 (iblk m c 0 t) (iblk m c 1 t) (iblk m c 2 t) (iblk m c 3 t) (iblk m c 5 t) (iblk m c 4 t)) (fun _ => (0 : EReal))) A.pGt
    (fun t k => (pay14_apply H t _ k).trans (zero_add _)) (fun t ht k => ?_) (fun t ht k => ?_) t ((flush0_10 t).mp hf) k).trans ?_
  · rw [outsAt0_A m c t ht]; frame_out
    refine (pay14_apply H t _ k).trans (Eq.trans ?_ (pay14_apply H t _ k).symm)
    refine congrArg (fun q : EReal => q + ∑ r, A.pGt k (trow t r)) ?_
    pointwise [k0_pay5]
  · rw [outsAt0_B m c t ht]; frame_out
    refine (pay14_apply H t _ k).trans ?_
    exact congrArg (fun q : EReal => _ + q) ((pay14_apply H t _ k).trans (zero_add _)).symm
  · have e : ((win0_10.blk t).view.emb (ix2 0 k)) 1 = k := by
      apply Fin.ext; blk_simp [idx t]
    rw [e]

end Cert.LossTailEq

end
-- ==== Proof.LossTailRef.lean ====
/-
  The last product with the loss: the reference's five results, one operation after another.
-/
module

public import proofs.«01_k».proof.Proof.LossTailArgs
public import proofs.«01_k».proof.Proof.Gen.LossTailRefIdeal.Run
public import Idealize.ShloMosaic.Lib.Pipeline.ValueKit
public import Idealize.ShloMosaic.Lib.Pointwise

@[expose] public section

set_option maxRecDepth 16384

noncomputable section

namespace Cert.LossTailEq

open Idealize.ShloMosaic Idealize.ShloMosaic.TcCoe Idealize.SL.Sem
open Cert.LossTailRefIdeal Cert.LossTailRefIdeal.Gen Cert.LossTailRefIdeal.Value
open Cert.Gating (word_eps word_neg_half word_half word_two)
open Cert.InDx (ms rs xn dh back_eq_dh word_1024)

section Stages

variable (a0 : FVec Ideal S4096x2816 .bf16) (a1 : FVec Ideal S2816x1024 .bf16) (a2 : FVec Ideal S4096x1024 .f32)
  (a3 : FVec Ideal S1x1024 .f32) (a4 : FVec Ideal S4096x1024 .f32) (a5 : FVec Ideal S1x1024 .f32)

/-- The product. -/
def rY : FVec Ideal S4096x1024 .f32 :=
  Host.dotGeneral dot_S4096x2816_S2816x1024_S4096x1024_1_0_0_1_n_n none (extf .f32 a0 bitsLt_bf16_f32) (extf .f32 a1 bitsLt_bf16_f32)
/-- The row that is normalised. -/
def rX : FVec Ideal S4096x1024 .f32 := addf a2 (mulf (broadcastInDim S4096x1024 ![0, 1] bcast_S1x1024_S4096x1024_0_1 a3) (rY a0 a1))
/-- Its mean square, with the small constant. -/
def rM : FVec Ideal S4096x1 .f32 :=
  addf (Host.divf (broadcastInDim S4096x1 ![0] bcast_S4096_S4096x1_0
      (Host.reduceAdd (mulf (rX a0 a1 a2 a3) (rX a0 a1 a2 a3)) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- One over its root. -/
def rR : FVec Ideal S4096x1 .f32 := Host.rsqrt (rM a0 a1 a2 a3)
/-- The normalised row. -/
def rN : FVec Ideal S4096x1024 .f32 := mulf (rX a0 a1 a2 a3) (broadcastInDim S4096x1024 ![0, 1] bcast_S4096x1_S4096x1024_0_1 (rR a0 a1 a2 a3))
/-- The error. -/
def rErr : FVec Ideal S4096x1024 .f32 := subf (mulf (rN a0 a1 a2 a3) (broadcastInDim S4096x1024 ![0, 1] bcast_S1x1024_S4096x1024_0_1 a5)) a4
/-- The loss, lane by lane. -/
def rL : FVec Ideal S1x1024 .f32 :=
  mulf (broadcastInDim S1x1024 ![] bcast_S_S1x1024 (constant S_ .f32 0x3F000000#32))
    (broadcastInDim S1x1024 ![1] bcast_S1024_S1x1024_1 (Host.reduceAdd (Host.divf (mulf (rErr a0 a1 a2 a3 a4 a5) (rErr a0 a1 a2 a3 a4 a5))
      (broadcastInDim S4096x1024 ![] bcast_S_S4096x1024 (constant S_ .f32 0x44800000#32))) (constant S_ .f32 0x00000000#32) reducesTo_S4096x1024_S1024_d0 h_S_))
/-- The gradient at the output. -/
def rD : FVec Ideal S4096x1024 .f32 :=
  mulf (Host.divf (broadcastInDim S4096x1024 ![1] bcast_S1024_S4096x1024_1 (Host.reduceAdd
      (mulf (broadcastInDim S1x1024 ![] bcast_S_S1x1024 (constant S_ .f32 0x3F000000#32))
        (broadcastInDim S1x1024 ![] bcast_S_S1x1024 (constant S_ .f32 0x3F800000#32))) (constant S_ .f32 0x00000000#32) reducesTo_S1x1024_S1024_d0 h_S_))
      (broadcastInDim S4096x1024 ![] bcast_S_S4096x1024 (constant S_ .f32 0x44800000#32)))
    (mulf (broadcastInDim S4096x1024 ![] bcast_S_S4096x1024 (constant S_ .f32 0x40000000#32)) (rErr a0 a1 a2 a3 a4 a5))
/-- The gradient at the normalised row. -/
def rG : FVec Ideal S4096x1024 .f32 := mulf (rD a0 a1 a2 a3 a4 a5) (broadcastInDim S4096x1024 ![0, 1] bcast_S1x1024_S4096x1024_0_1 a5)
/-- The gradient at the mean square, over its number of terms. -/
def rQ : FVec Ideal S4096x1 .f32 :=
  Host.divf (mulf (shapeCast _ (Host.reduceAdd (mulf (rX a0 a1 a2 a3) (rG a0 a1 a2 a3 a4 a5)) (constant S_ .f32 0x00000000#32) reducesTo_S4096x1024_S4096_d1 h_S_) shapeCasts_S4096_S4096x1)
      (mulf (broadcastInDim S4096x1 ![] bcast_S_S4096x1 (constant S_ .f32 0xBF000000#32)) (Host.divf (rR a0 a1 a2 a3) (rM a0 a1 a2 a3))))
    (broadcastInDim S4096x1 ![] bcast_S_S4096x1 (constant S_ .f32 0x44800000#32))
/-- The same along the row. -/
def rB : FVec Ideal S4096x1024 .f32 :=
  broadcastInDim S4096x1024 ![0] bcast_S4096_S4096x1024_0
    (Host.reduceAdd (rQ a0 a1 a2 a3 a4 a5) (constant S_ .f32 0x00000000#32) reducesTo_S4096x1_S4096_d1 h_S_)
/-- The gradient at the row. -/
def rO : FVec Ideal S4096x1024 .f32 :=
  addf (addf (mulf (rG a0 a1 a2 a3 a4 a5) (broadcastInDim S4096x1024 ![0, 1] bcast_S4096x1_S4096x1024_0_1 (rR a0 a1 a2 a3)))
    (mulf (rX a0 a1 a2 a3) (rB a0 a1 a2 a3 a4 a5))) (mulf (rB a0 a1 a2 a3 a4 a5) (rX a0 a1 a2 a3))
/-- The gradient at the product. -/
def rGY : FVec Ideal S4096x1024 .f32 := mulf (broadcastInDim S4096x1024 ![0, 1] bcast_S1x1024_S4096x1024_0_1 a3) (rO a0 a1 a2 a3 a4 a5)

/-- The sum over the rows. -/
def rows (v : FVec Ideal S4096x1024 .f32) : FVec Ideal S1x1024 .f32 :=
  shapeCast _ (Host.reduceAdd v (constant S_ .f32 0x00000000#32) reducesTo_S4096x1024_S1024_d0 h_S_) shapeCasts_S1024_S1x1024

end Stages

/-- What the reference ends with: the five results, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v57) = rO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v41) = rows (mulf (rN (m ((c.tc : Thread nD τ).loc main_arg0)) (m ((c.tc : Thread nD τ).loc main_arg1)) (m ((c.tc : Thread nD τ).loc main_arg2)) (m ((c.tc : Thread nD τ).loc main_arg3))) (rD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_v30) = rL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v63) = truncf .bf16 (rGY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) bitsLt_bf16_f32
      ∧ r.2.mem ((c.tc : Thread nD τ).loc main_v62) = rows (mulf (rO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (rY (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => h c) (run m ρ)

/-- The sum over the rows of an array. -/
theorem rows_apply {v : FVec Ideal S4096x1024 .f32} (p : Fin 1024 → Fin 4096 → EReal) (hv : ∀ r k, v (ix2 r k) = p k r) :
    rows v = fun i : S1x1024.Idx => (∑ r, p (i 1) r) := by
  funext i
  obtain ⟨z, k, rfl⟩ : ∃ z k, i = ix2 z k := ⟨i 0, i 1, by funext a; fin_cases a <;> rfl⟩
  refine Eq.trans (b := (∑ r, p k r)) ?_ rfl
  pointwise [rows]
  simp only [hv]

variable {a0 : FVec Ideal S4096x2816 .bf16} {a1 : FVec Ideal S2816x1024 .bf16} {a2 : FVec Ideal S4096x1024 .f32}
  {a3 : FVec Ideal S1x1024 .f32} {a4 : FVec Ideal S4096x1024 .f32} {a5 : FVec Ideal S1x1024 .f32} {A : Args}

/-- The reference's six arguments' entries are `A`. -/
structure RefReads (a0 : FVec Ideal S4096x2816 .bf16) (a1 : FVec Ideal S2816x1024 .bf16) (a2 : FVec Ideal S4096x1024 .f32)
    (a3 : FVec Ideal S1x1024 .f32) (a4 : FVec Ideal S4096x1024 .f32) (a5 : FVec Ideal S1x1024 .f32) (A : Args) : Prop where
  a : ∀ r l, a0 (ix2 r l) = A.a r l
  w : ∀ l k, a1 (ix2 l k) = A.w l k
  h0 : ∀ r k, a2 (ix2 r k) = A.h0 r k
  gt : ∀ k, a3 (ix2 0 k) = A.gt k
  tgt : ∀ r k, a4 (ix2 r k) = A.tgt r k
  g : ∀ k, a5 (ix2 0 k) = A.g k

variable (H : RefReads a0 a1 a2 a3 a4 a5 A)
include H

/-- The product, entry by entry … -/
theorem rY_apply (r : Fin 4096) (k : Fin 1024) : rY a0 a1 (ix2 r k) = A.y r k := by
  pointwise [rY]
  exact Finset.sum_congr rfl fun l _ => congrArg₂ (· * ·) (H.a r l) (H.w l k)

/-- … the row … -/
theorem rX_apply (r : Fin 4096) (k : Fin 1024) : rX a0 a1 a2 a3 (ix2 r k) = A.x r k := by
  pointwise [rX]
  exact congrArg₂ (fun p q : EReal => p + q) (H.h0 r k) (congrArg₂ (fun p q : EReal => p * q) (H.gt k) (rY_apply H r k))

/-- … its mean square … -/
theorem rM_apply (r : Fin 4096) : rM a0 a1 a2 a3 (ix2 r 0) = ms (A.x r) := by
  pointwise [rM]
  simp only [rX_apply H, word_1024, word_eps]
  rfl

/-- … one over its root … -/
theorem rR_apply (r : Fin 4096) : rR a0 a1 a2 a3 (ix2 r 0) = rs (A.x r) := by
  pointwise [rR]
  exact congrArg Ideal.rsqrt (rM_apply H r)

/-- … the normalised row … -/
theorem rN_apply (r : Fin 4096) (k : Fin 1024) : rN a0 a1 a2 a3 (ix2 r k) = xn (A.x r) k := by
  pointwise [rN]
  exact (congrArg₂ (· * ·) (rX_apply H r k) (rR_apply H r))

/-- … the error … -/
theorem rErr_apply (r : Fin 4096) (k : Fin 1024) : rErr a0 a1 a2 a3 a4 a5 (ix2 r k) = A.err r k := by
  pointwise [rErr]
  exact congrArg₂ (fun p q : EReal => p - q) (congrArg₂ (fun p q : EReal => p * q) (rN_apply H r k) (H.g k)) (H.tgt r k)

/-- … the gradient at the output … -/
theorem rD_apply (r : Fin 4096) (k : Fin 1024) : rD a0 a1 a2 a3 a4 a5 (ix2 r k) = A.d r k := by
  pointwise [rD]
  simp only [rErr_apply H, word_1024, word_half, word_two]
  exact half_square _

/-- … at the normalised row … -/
theorem rG_apply (r : Fin 4096) (k : Fin 1024) : rG a0 a1 a2 a3 a4 a5 (ix2 r k) = A.d r k * A.g k := by
  pointwise [rG]
  exact (congrArg₂ (· * ·) (rD_apply H r k) (H.g k))

/-- … at the mean square … -/
theorem rQ_apply (r : Fin 4096) : rQ a0 a1 a2 a3 a4 a5 (ix2 r 0)
    = Ideal.div ((∑ j, A.x r j * (A.d r j * A.g j)) * (((-(1 / 2) : ℝ) : EReal) * Ideal.div (rs (A.x r)) (ms (A.x r))))
      ((1024 : ℝ) : EReal) := by
  pointwise [rQ]
  have h1 : ∑ j, rX a0 a1 a2 a3 (ix2 r j) * rG a0 a1 a2 a3 a4 a5 (ix2 r j) = (∑ j, A.x r j * (A.d r j * A.g j)) := by
    simp only [rX_apply H, rG_apply H]
  exact congrArg₂ Ideal.div (congrArg₂ (fun p q : EReal => p * q) h1 (congrArg₂ (fun p q : EReal => p * q) word_neg_half
    (congrArg₂ Ideal.div (rR_apply H r) (rM_apply H r)))) word_1024

/-- … the same along the row … -/
theorem rB_apply (r : Fin 4096) (k : Fin 1024) : rB a0 a1 a2 a3 a4 a5 (ix2 r k)
    = Ideal.div ((∑ j, A.x r j * (A.d r j * A.g j)) * (((-(1 / 2) : ℝ) : EReal) * Ideal.div (rs (A.x r)) (ms (A.x r))))
      ((1024 : ℝ) : EReal) := by
  pointwise [rB]
  exact (Fin.sum_univ_one _).trans (rQ_apply H r)

/-- … the gradient at the row … -/
theorem rO_apply (r : Fin 4096) (k : Fin 1024) : rO a0 a1 a2 a3 a4 a5 (ix2 r k) = A.dx r k := by
  pointwise [rO]
  refine (congrArg₂ (fun p q : EReal => p + q) (congrArg₂ (fun p q : EReal => p + q)
    (congrArg₂ (fun p q : EReal => p * q) (rG_apply H r k) (rR_apply H r))
    (congrArg₂ (fun p q : EReal => p * q) (rX_apply H r k) (rB_apply H r k)))
    (congrArg₂ (fun p q : EReal => p * q) (rB_apply H r k) (rX_apply H r k))).trans ?_
  have hb := back_eq_dh A.g (fun _ => 0) (A.x r) (A.d r) (fun _ => 0) k
  simp only [Cert.InDx.e, add_zero, mul_one, zero_add] at hb
  refine Eq.trans ?_ hb
  exact congrArg₂ (· + ·) rfl (mul_comm _ _)

/-- … and at the product. -/
theorem rGY_apply (r : Fin 4096) (k : Fin 1024) : rGY a0 a1 a2 a3 a4 a5 (ix2 r k) = A.pY k r := by
  pointwise [rGY]
  refine (congrArg₂ (· * ·) (H.gt k) (rO_apply H r k)).trans ?_
  rw [mul_comm]
  rfl

/-- The gradient at the row, as an array … -/
theorem out0 : rO a0 a1 a2 a3 a4 a5 = fun i : S4096x1024.Idx => A.dx (i 0) (i 1) := by
  funext i
  obtain ⟨r, k, rfl⟩ : ∃ r k, i = ix2 r k := ⟨i 0, i 1, by funext a; fin_cases a <;> rfl⟩
  exact rO_apply H r k
/-- … and at the gain … -/
theorem out1 : rows (mulf (rN a0 a1 a2 a3) (rD a0 a1 a2 a3 a4 a5)) = fun i : S1x1024.Idx => (∑ r, A.pG (i 1) r) :=
  rows_apply A.pG fun r k => by
    pointwise []
    refine (congrArg₂ (fun p q : EReal => p * q) (rN_apply H r k) (rD_apply H r k)).trans ?_
    rw [mul_comm]
    rfl
/-- … the loss, lane by lane … -/
theorem out2 : rL a0 a1 a2 a3 a4 a5 = fun i : S1x1024.Idx => (∑ r, A.pL (i 1) r) := by
  funext i
  obtain ⟨z, k, rfl⟩ : ∃ z k, i = ix2 z k := ⟨i 0, i 1, by funext a; fin_cases a <;> rfl⟩
  refine Eq.trans (b := (∑ r, A.pL k r)) ?_ rfl
  pointwise [rL]
  simp only [rErr_apply H, word_1024, word_half]
  exact half_sum _
/-- … the gradient at the product … -/
theorem out3 : truncf .bf16 (rGY a0 a1 a2 a3 a4 a5) bitsLt_bf16_f32 = fun i : S4096x1024.Idx => A.pY (i 1) (i 0) := by
  funext i
  obtain ⟨r, k, rfl⟩ : ∃ r k, i = ix2 r k := ⟨i 0, i 1, by funext a; fin_cases a <;> rfl⟩
  exact rGY_apply H r k
/-- … and at the gate. -/
theorem out4 : rows (mulf (rO a0 a1 a2 a3 a4 a5) (rY a0 a1)) = fun i : S1x1024.Idx => (∑ r, A.pGt (i 1) r) :=
  rows_apply A.pGt fun r k => by
    pointwise []
    exact congrArg₂ (fun p q : EReal => p * q) (rO_apply H r k) (rY_apply H r k)

end Cert.LossTailEq

end
-- ==== Proof.LossTail.lean ====
/-
  The last product with the loss: kernel and reference end with the same five arrays.
-/
module

public import proofs.«01_k».proof.Defs
public import proofs.«01_k».proof.Proof.LossTailArr
public import proofs.«01_k».proof.Proof.LossTailRef

@[expose] public section

set_option maxRecDepth 16384

noncomputable section

namespace Cert.LossTailEq

open Idealize.ShloMosaic Idealize.ShloMosaic.TcCoe Idealize.SL.Sem
open Cert.LossTailIdeal

/-- The kernel's arguments, and the reference's, entry by entry. -/
theorem reads (m : (ℓ : Loc nD τ sig) → Buf (Elt Ideal) ℓ) (c : Dev nD) :
    ∃ A, Reads m c A ∧ RefReads (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) A := by
  have R : Reads m c ⟨fun r k => (m ((c.tc : Thread nD τ).loc main_arg0) : S4096x2816.Idx → EReal) (ix2 r k),
      fun r k => (m ((c.tc : Thread nD τ).loc main_arg1) : S2816x1024.Idx → EReal) (ix2 r k),
      fun r k => (m ((c.tc : Thread nD τ).loc main_arg2) : S4096x1024.Idx → EReal) (ix2 r k),
      fun k => (m ((c.tc : Thread nD τ).loc main_arg3) : S1x1024.Idx → EReal) (ix2 0 k),
      fun r k => (m ((c.tc : Thread nD τ).loc main_arg4) : S4096x1024.Idx → EReal) (ix2 r k),
      fun k => (m ((c.tc : Thread nD τ).loc main_arg5) : S1x1024.Idx → EReal) (ix2 0 k)⟩ :=
    ⟨fun _ _ => rfl, fun _ _ => rfl, fun _ _ => rfl, fun _ => rfl, fun _ _ => rfl, fun _ => rfl⟩
  exact ⟨_, R, R.a, R.w, R.h0, R.gt, R.tgt, R.g⟩

/-- The two programs, from the same arguments, end with the same gradients and the same loss. -/
theorem equation : Cert.algebraic_LossTailIdeal_LossTailRefIdeal (hLossTailIdeal := Cert.LossTailIdeal.Gen.facts)
    (hLossTailRefIdeal := Cert.LossTailRefIdeal.Gen.facts) := by
  pair_intro
  · run_from Cert.LossTailIdeal.Value.run_blocks m g
  · run_from run_stages m' g'
    all_goals obtain ⟨A, H, R⟩ := reads m c
    · exact (out0 R).trans (arr6 H).symm
    · exact (out1 R).trans (arr7 H).symm
    · exact (out2 R).trans (arr8 H).symm
    · exact (out3 R).trans (arr9 H).symm
    · exact (out4 R).trans (arr10 H).symm

end Cert.LossTailEq

end
-- ==== Proof.AdamMaths.lean ====
/-
  One step of AdamW at one entry, over the extended reals: the two moments, and the change of the weight. The constants are
  the programs' own words. Nothing here mentions a program.
-/
module

public import Idealize.ShloMosaic.Lib.Pipeline.ValueKit
public import Idealize.ShloMosaic.Lib.Pointwise

@[expose] public section

noncomputable section

namespace Cert.Adam

open Idealize.ShloMosaic

/-- The first moment, from the gradient and the moment before it. -/
def newM (g m : EReal) : EReal := Ideal.ofBits .f32 0x3F666666#32 * m + Ideal.ofBits .f32 0x3DCCCCCD#32 * g

/-- The second moment. -/
def newV (g v : EReal) : EReal := Ideal.ofBits .f32 0x3F7FBE77#32 * v + Ideal.ofBits .f32 0x3A83126F#32 * (g * g)

/-- The change of the weight. -/
def newD (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

end Cert.Adam

end
-- ==== Proof.AdamCCtx.lean ====
/-
  The optimiser's step for a weight of shape 1024: the kernel takes the whole array.
-/
module

public import proofs.«01_k».proof.Defs
public import proofs.«01_k».proof.Proof.AdamMaths
public import proofs.«01_k».proof.Proof.Gen.AdamCCtxIdeal.Value
public import proofs.«01_k».proof.Proof.Gen.AdamCCtxRefIdeal.Run

@[expose] public section

set_option maxRecDepth 16384

noncomputable section

namespace Cert.AdamCCtxEq

open Idealize.ShloMosaic Idealize.ShloMosaic.TcCoe Idealize.SL.Sem
open Cert.Adam (newM newV newD)

section

open Cert.AdamCCtxIdeal Cert.AdamCCtxIdeal.Gen

variable (m : (ℓ : Loc nD τ sig) → Buf (Elt Ideal) ℓ) (c : Dev nD)

/-- The weight, the gradient and the two moments, as rows of their last axis. -/
def argW : S1x1024.Idx → EReal := shapeCast S1x1024 (m ((c : Thread nD τ).loc main_arg0) : S1024.Idx → EReal) shapeCasts_S1024_S1x1024
def argG : S1x1024.Idx → EReal := shapeCast S1x1024 (m ((c : Thread nD τ).loc main_arg1) : S1024.Idx → EReal) shapeCasts_S1024_S1x1024
def argM : S1x1024.Idx → EReal := shapeCast S1x1024 (m ((c : Thread nD τ).loc main_arg2) : S1024.Idx → EReal) shapeCasts_S1024_S1x1024
def argV : S1x1024.Idx → EReal := shapeCast S1x1024 (m ((c : Thread nD τ).loc main_arg3) : S1024.Idx → EReal) shapeCasts_S1024_S1x1024

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 1) : Fin 1 := r

theorem entry_w : V m c main_v0 = argW m c := by
  entry_read
  rfl
theorem blk_w (t : Fin cfg0.N) (r : Fin 1) (k : Fin 1024) :
    (iblk m c 0 t : S1x1024.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 1) (k : Fin 1024) :
    (iblk m c 1 t : S1x1024.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 1) (k : Fin 1024) :
    (iblk m c 2 t : S1x1024.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 1) (k : Fin 1024) :
    (iblk m c 3 t : S1x1024.Idx → EReal) (ix2 r k) = argV m c (ix2 (trow t r) k) := by
  rw [← entry_v]
  blk_point [iblk, idx t, trow]

/-- The change of the weight, whole. -/
theorem arr4 : (dats m 0 c).arrAt 4 cfg0.N = fun i : S1x1024.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S1x1024.Idx => newD (argW m c i) (argG m c i) (argM m c i) (argV m c i)) hi.symm

/-- The first moment, whole. -/
theorem arr5 : (dats m 0 c).arrAt 5 cfg0.N = fun i : S1x1024.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S1x1024.Idx => newM (argG m c i) (argM m c i)) hi.symm

/-- The second moment, whole. -/
theorem arr6 : (dats m 0 c).arrAt 6 cfg0.N = fun i : S1x1024.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S1x1024.Idx => newV (argG m c i) (argV m c i)) hi.symm

end

/-- The two programs, from the same arguments, end with the same change and the same moments. -/
theorem equation : Cert.algebraic_AdamCCtxIdeal_AdamCCtxRefIdeal (hAdamCCtxIdeal := Cert.AdamCCtxIdeal.Gen.facts)
    (hAdamCCtxRefIdeal := Cert.AdamCCtxRefIdeal.Gen.facts) := by
  pair_intro
  · run_from Cert.AdamCCtxIdeal.Value.run_blocks m g
  · run_from Cert.AdamCCtxRefIdeal.Value.run m' g'
    · refine Eq.trans ?_ (arr4 m c).symm
      rfl
    · refine Eq.trans ?_ (arr5 m c).symm
      rfl
    · refine Eq.trans ?_ (arr6 m c).symm
      rfl

end Cert.AdamCCtxEq

end
-- ==== Proof.AdamWMod.lean ====
/-
  The optimiser's step for a weight of shape 2 x 1024 x 1536: the kernel takes blocks of 128 rows.
-/
module

public import proofs.«01_k».proof.Defs
public import proofs.«01_k».proof.Proof.AdamMaths
public import proofs.«01_k».proof.Proof.Gen.AdamWModIdeal.Value
public import proofs.«01_k».proof.Proof.Gen.AdamWModRefIdeal.Run

@[expose] public section

set_option maxRecDepth 16384

noncomputable section

namespace Cert.AdamWModEq

open Idealize.ShloMosaic Idealize.ShloMosaic.TcCoe Idealize.SL.Sem
open Cert.Adam (newM newV newD)

section

open Cert.AdamWModIdeal Cert.AdamWModIdeal.Gen

variable (m : (ℓ : Loc nD τ sig) → Buf (Elt Ideal) ℓ) (c : Dev nD)

/-- The weight, the gradient and the two moments, as rows of their last axis. -/
def argW : S2048x1536.Idx → EReal := shapeCast S2048x1536 (m ((c : Thread nD τ).loc main_arg0) : S2x1024x1536.Idx → EReal) shapeCasts_S2x1024x1536_S2048x1536
def argG : S2048x1536.Idx → EReal := shapeCast S2048x1536 (m ((c : Thread nD τ).loc main_arg1) : S2x1024x1536.Idx → EReal) shapeCasts_S2x1024x1536_S2048x1536
def argM : S2048x1536.Idx → EReal := shapeCast S2048x1536 (m ((c : Thread nD τ).loc main_arg2) : S2x1024x1536.Idx → EReal) shapeCasts_S2x1024x1536_S2048x1536
def argV : S2048x1536.Idx → EReal := shapeCast S2048x1536 (m ((c : Thread nD τ).loc main_arg3) : S2x1024x1536.Idx → EReal) shapeCasts_S2x1024x1536_S2048x1536

/-- Where each window's block lies at a grid point: rows `128 t` and on. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (t : Fin cfg0.N) (r : Fin 128) : Fin 2048 :=
  ⟨128 * t.val + r.val, by have := t.isLt; have : cfg0.N = 16 := N_0; omega⟩

theorem entry_w : V m c main_v0 = argW m c := by
  entry_read
  rfl
theorem blk_w (t : Fin cfg0.N) (r : Fin 128) (k : Fin 1536) :
    (iblk m c 0 t : S128x1536.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 128) (k : Fin 1536) :
    (iblk m c 1 t : S128x1536.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 128) (k : Fin 1536) :
    (iblk m c 2 t : S128x1536.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 128) (k : Fin 1536) :
    (iblk m c 3 t : S128x1536.Idx → EReal) (ix2 r k) = argV m c (ix2 (trow t r) k) := by
  rw [← entry_v]
  blk_point [iblk, idx t, trow]

/-- The change of the weight, whole. -/
theorem arr4 : (dats m 0 c).arrAt 4 cfg0.N = fun i : S2048x1536.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      · exact congrArg (· + r.val) (Nat.mul_comm 128 t.val).symm
      · rfl
    exact congrArg (fun i : S2048x1536.Idx => newD (argW m c i) (argG m c i) (argM m c i) (argV m c i)) hi.symm

/-- The first moment, whole. -/
theorem arr5 : (dats m 0 c).arrAt 5 cfg0.N = fun i : S2048x1536.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      · exact congrArg (· + r.val) (Nat.mul_comm 128 t.val).symm
      · rfl
    exact congrArg (fun i : S2048x1536.Idx => newM (argG m c i) (argM m c i)) hi.symm

/-- The second moment, whole. -/
theorem arr6 : (dats m 0 c).arrAt 6 cfg0.N = fun i : S2048x1536.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      · exact congrArg (· + r.val) (Nat.mul_comm 128 t.val).symm
      · rfl
    exact congrArg (fun i : S2048x1536.Idx => newV (argG m c i) (argV m c i)) hi.symm

end

/-- The two programs, from the same arguments, end with the same change and the same moments. -/
theorem equation : Cert.algebraic_AdamWModIdeal_AdamWModRefIdeal (hAdamWModIdeal := Cert.AdamWModIdeal.Gen.facts)
    (hAdamWModRefIdeal := Cert.AdamWModRefIdeal.Gen.facts) := by
  pair_intro
  · run_from Cert.AdamWModIdeal.Value.run_blocks m g
  · run_from Cert.AdamWModRefIdeal.Value.run m' g'
    · refine Eq.trans ?_ (arr4 m c).symm
      rfl
    · refine Eq.trans ?_ (arr5 m c).symm
      rfl
    · refine Eq.trans ?_ (arr6 m c).symm
      rfl

end Cert.AdamWModEq

end
-- ==== Proof.AdamBMod.lean ====
/-
  The optimiser's step for a weight of shape 2 x 6144: the kernel takes the whole array.
-/
module

public import proofs.«01_k».proof.Defs
public import proofs.«01_k».proof.Proof.AdamMaths
public import proofs.«01_k».proof.Proof.Gen.AdamBModIdeal.Value
public import proofs.«01_k».proof.Proof.Gen.AdamBModRefIdeal.Run

@[expose] public section

set_option maxRecDepth 16384

noncomputable section

namespace Cert.AdamBModEq

open Idealize.ShloMosaic Idealize.ShloMosaic.TcCoe Idealize.SL.Sem
open Cert.Adam (newM newV newD)

section

open Cert.AdamBModIdeal Cert.AdamBModIdeal.Gen

variable (m : (ℓ : Loc nD τ sig) → Buf (Elt Ideal) ℓ) (c : Dev nD)

/-- The weight, the gradient and the two moments. -/
def argW : S2x6144.Idx → EReal := (m ((c : Thread nD τ).loc main_arg0) : S2x6144.Idx → EReal)
def argG : S2x6144.Idx → EReal := (m ((c : Thread nD τ).loc main_arg1) : S2x6144.Idx → EReal)
def argM : S2x6144.Idx → EReal := (m ((c : Thread nD τ).loc main_arg2) : S2x6144.Idx → EReal)
def argV : S2x6144.Idx → EReal := (m ((c : Thread nD τ).loc main_arg3) : S2x6144.Idx → EReal)

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 2) : Fin 2 := r

theorem blk_w (t : Fin cfg0.N) (r : Fin 2) (k : Fin 6144) :
    (iblk m c 0 t : S2x6144.Idx → EReal) (ix2 r k) = argW m c (ix2 (trow t r) k) := by
  rw [argW]
  blk_point [iblk, V, idx t, trow]

theorem blk_g (t : Fin cfg0.N) (r : Fin 2) (k : Fin 6144) :
    (iblk m c 1 t : S2x6144.Idx → EReal) (ix2 r k) = argG m c (ix2 (trow t r) k) := by
  rw [argG]
  blk_point [iblk, V, idx t, trow]

theorem blk_m (t : Fin cfg0.N) (r : Fin 2) (k : Fin 6144) :
    (iblk m c 2 t : S2x6144.Idx → EReal) (ix2 r k) = argM m c (ix2 (trow t r) k) := by
  rw [argM]
  blk_point [iblk, V, idx t, trow]

theorem blk_v (t : Fin cfg0.N) (r : Fin 2) (k : Fin 6144) :
    (iblk m c 3 t : S2x6144.Idx → EReal) (ix2 r k) = argV m c (ix2 (trow t r) k) := by
  rw [argV]
  blk_point [iblk, V, idx t, trow]

/-- The change of the weight, whole. -/
theorem arr4 : (dats m 0 c).arrAt 4 cfg0.N = fun i : S2x6144.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S2x6144.Idx => newD (argW m c i) (argG m c i) (argM m c i) (argV m c i)) hi.symm

/-- The first moment, whole. -/
theorem arr5 : (dats m 0 c).arrAt 5 cfg0.N = fun i : S2x6144.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S2x6144.Idx => newM (argG m c i) (argM m c i)) hi.symm

/-- The second moment, whole. -/
theorem arr6 : (dats m 0 c).arrAt 6 cfg0.N = fun i : S2x6144.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S2x6144.Idx => newV (argG m c i) (argV m c i)) hi.symm

end

/-- The two programs, from the same arguments, end with the same change and the same moments. -/
theorem equation : Cert.algebraic_AdamBModIdeal_AdamBModRefIdeal (hAdamBModIdeal := Cert.AdamBModIdeal.Gen.facts)
    (hAdamBModRefIdeal := Cert.AdamBModRefIdeal.Gen.facts) := by
  pair_intro
  · run_from Cert.AdamBModIdeal.Value.run_blocks m g
  · run_from Cert.AdamBModRefIdeal.Value.run m' g'
    · refine Eq.trans ?_ (arr4 m c).symm
      rfl
    · refine Eq.trans ?_ (arr5 m c).symm
      rfl
    · refine Eq.trans ?_ (arr6 m c).symm
      rfl

end Cert.AdamBModEq

end
-- ==== Proof.AdamGMix.lean ====
/-
  The optimiser's step for a weight of shape 2 x 1024: the kernel takes the whole array.
-/
module

public import proofs.«01_k».proof.Defs
public import proofs.«01_k».proof.Proof.AdamMaths
public import proofs.«01_k».proof.Proof.Gen.AdamGMixIdeal.Value
public import proofs.«01_k».proof.Proof.Gen.AdamGMixRefIdeal.Run

@[expose] public section

set_option maxRecDepth 16384

noncomputable section

namespace Cert.AdamGMixEq

open Idealize.ShloMosaic Idealize.ShloMosaic.TcCoe Idealize.SL.Sem
open Cert.Adam (newM newV newD)

section

open Cert.AdamGMixIdeal Cert.AdamGMixIdeal.Gen

variable (m : (ℓ : Loc nD τ sig) → Buf (Elt Ideal) ℓ) (c : Dev nD)

/-- The weight, the gradient and the two moments. -/
def argW : S2x1024.Idx → EReal := (m ((c : Thread nD τ).loc main_arg0) : S2x1024.Idx → EReal)
def argG : S2x1024.Idx → EReal := (m ((c : Thread nD τ).loc main_arg1) : S2x1024.Idx → EReal)
def argM : S2x1024.Idx → EReal := (m ((c : Thread nD τ).loc main_arg2) : S2x1024.Idx → EReal)
def argV : S2x1024.Idx → EReal := (m ((c : Thread nD τ).loc main_arg3) : S2x1024.Idx → EReal)

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 2) : Fin 2 := r

theorem blk_w (t : Fin cfg0.N) (r : Fin 2) (k : Fin 1024) :
    (iblk m c 0 t : S2x1024.Idx → EReal) (ix2 r k) = argW m c (ix2 (trow t r) k) := by
  rw [argW]
  blk_point [iblk, V, idx t, trow]

theorem blk_g (t : Fin cfg0.N) (r : Fin 2) (k : Fin 1024) :
    (iblk m c 1 t : S2x1024.Idx → EReal) (ix2 r k) = argG m c (ix2 (trow t r) k) := by
  rw [argG]
  blk_point [iblk, V, idx t, trow]

theorem blk_m (t : Fin cfg0.N) (r : Fin 2) (k : Fin 1024) :
    (iblk m c 2 t : S2x1024.Idx → EReal) (ix2 r k) = argM m c (ix2 (trow t r) k) := by
  rw [argM]
  blk_point [iblk, V, idx t, trow]

theorem blk_v (t : Fin cfg0.N) (r : Fin 2) (k : Fin 1024) :
    (iblk m c 3 t : S2x1024.Idx → EReal) (ix2 r k) = argV m c (ix2 (trow t r) k) := by
  rw [argV]
  blk_point [iblk, V, idx t, trow]

/-- The change of the weight, whole. -/
theorem arr4 : (dats m 0 c).arrAt 4 cfg0.N = fun i : S2x1024.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S2x1024.Idx => newD (argW m c i) (argG m c i) (argM m c i) (argV m c i)) hi.symm

/-- The first moment, whole. -/
theorem arr5 : (dats m 0 c).arrAt 5 cfg0.N = fun i : S2x1024.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S2x1024.Idx => newM (argG m c i) (argM m c i)) hi.symm

/-- The second moment, whole. -/
theorem arr6 : (dats m 0 c).arrAt 6 cfg0.N = fun i : S2x1024.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S2x1024.Idx => newV (argG m c i) (argV m c i)) hi.symm

end

/-- The two programs, from the same arguments, end with the same change and the same moments. -/
theorem equation : Cert.algebraic_AdamGMixIdeal_AdamGMixRefIdeal (hAdamGMixIdeal := Cert.AdamGMixIdeal.Gen.facts)
    (hAdamGMixRefIdeal := Cert.AdamGMixRefIdeal.Gen.facts) := by
  pair_intro
  · run_from Cert.AdamGMixIdeal.Value.run_blocks m g
  · run_from Cert.AdamGMixRefIdeal.Value.run m' g'
    · refine Eq.trans ?_ (arr4 m c).symm
      rfl
    · refine Eq.trans ?_ (arr5 m c).symm
      rfl
    · refine Eq.trans ?_ (arr6 m c).symm
      rfl

end Cert.AdamGMixEq

end
-- ==== Proof.AdamFfnIn.lean ====
/-
  The optimiser's step for a weight of shape 2 x 1024 x 1408: the kernel takes blocks of 128 rows.
-/
module

public import proofs.«01_k».proof.Defs
public import proofs.«01_k».proof.Proof.AdamMaths
public import proofs.«01_k».proof.Proof.Gen.AdamFfnInIdeal.Value
public import proofs.«01_k».proof.Proof.Gen.AdamFfnInRefIdeal.Run

@[expose] public section

set_option maxRecDepth 16384

noncomputable section

namespace Cert.AdamFfnInEq

open Idealize.ShloMosaic Idealize.ShloMosaic.TcCoe Idealize.SL.Sem
open Cert.Adam (newM newV newD)

section

open Cert.AdamFfnInIdeal Cert.AdamFfnInIdeal.Gen

variable (m : (ℓ : Loc nD τ sig) → Buf (Elt Ideal) ℓ) (c : Dev nD)

/-- The weight, the gradient and the two moments, as rows of their last axis. -/
def argW : S2048x1408.Idx → EReal := shapeCast S2048x1408 (m ((c : Thread nD τ).loc main_arg0) : S2x1024x1408.Idx → EReal) shapeCasts_S2x1024x1408_S2048x1408
def argG : S2048x1408.Idx → EReal := shapeCast S2048x1408 (m ((c : Thread nD τ).loc main_arg1) : S2x1024x1408.Idx → EReal) shapeCasts_S2x1024x1408_S2048x1408
def argM : S2048x1408.Idx → EReal := shapeCast S2048x1408 (m ((c : Thread nD τ).loc main_arg2) : S2x1024x1408.Idx → EReal) shapeCasts_S2x1024x1408_S2048x1408
def argV : S2048x1408.Idx → EReal := shapeCast S2048x1408 (m ((c : Thread nD τ).loc main_arg3) : S2x1024x1408.Idx → EReal) shapeCasts_S2x1024x1408_S2048x1408

/-- Where each window's block lies at a grid point: rows `128 t` and on. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (t : Fin cfg0.N) (r : Fin 128) : Fin 2048 :=
  ⟨128 * t.val + r.val, by have := t.isLt; have : cfg0.N = 16 := N_0; omega⟩

theorem entry_w : V m c main_v0 = argW m c := by
  entry_read
  rfl
theorem blk_w (t : Fin cfg0.N) (r : Fin 128) (k : Fin 1408) :
    (iblk m c 0 t : S128x1408.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 128) (k : Fin 1408) :
    (iblk m c 1 t : S128x1408.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 128) (k : Fin 1408) :
    (iblk m c 2 t : S128x1408.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 128) (k : Fin 1408) :
    (iblk m c 3 t : S128x1408.Idx → EReal) (ix2 r k) = argV m c (ix2 (trow t r) k) := by
  rw [← entry_v]
  blk_point [iblk, idx t, trow]

/-- The change of the weight, whole. -/
theorem arr4 : (dats m 0 c).arrAt 4 cfg0.N = fun i : S2048x1408.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      · exact congrArg (· + r.val) (Nat.mul_comm 128 t.val).symm
      · rfl
    exact congrArg (fun i : S2048x1408.Idx => newD (argW m c i) (argG m c i) (argM m c i) (argV m c i)) hi.symm

/-- The first moment, whole. -/
theorem arr5 : (dats m 0 c).arrAt 5 cfg0.N = fun i : S2048x1408.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      · exact congrArg (· + r.val) (Nat.mul_comm 128 t.val).symm
      · rfl
    exact congrArg (fun i : S2048x1408.Idx => newM (argG m c i) (argM m c i)) hi.symm

/-- The second moment, whole. -/
theorem arr6 : (dats m 0 c).arrAt 6 cfg0.N = fun i : S2048x1408.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      · exact congrArg (· + r.val) (Nat.mul_comm 128 t.val).symm
      · rfl
    exact congrArg (fun i : S2048x1408.Idx => newV (argG m c i) (argV m c i)) hi.symm

end

/-- The two programs, from the same arguments, end with the same change and the same moments. -/
theorem equation : Cert.algebraic_AdamFfnInIdeal_AdamFfnInRefIdeal (hAdamFfnInIdeal := Cert.AdamFfnInIdeal.Gen.facts)
    (hAdamFfnInRefIdeal := Cert.AdamFfnInRefIdeal.Gen.facts) := by
  pair_intro
  · run_from Cert.AdamFfnInIdeal.Value.run_blocks m g
  · run_from Cert.AdamFfnInRefIdeal.Value.run m' g'
    · refine Eq.trans ?_ (arr4 m c).symm
      rfl
    · refine Eq.trans ?_ (arr5 m c).symm
      rfl
    · refine Eq.trans ?_ (arr6 m c).symm
      rfl

end Cert.AdamFfnInEq

end
-- ==== Proof.AdamFfnOut.lean ====
/-
  The optimiser's step for a weight of shape 2 x 704 x 1024: the kernel takes blocks of 176 rows.
-/
module

public import proofs.«01_k».proof.Defs
public import proofs.«01_k».proof.Proof.AdamMaths
public import proofs.«01_k».proof.Proof.Gen.AdamFfnOutIdeal.Value
public import proofs.«01_k».proof.Proof.Gen.AdamFfnOutRefIdeal.Run

@[expose] public section

set_option maxRecDepth 16384

noncomputable section

namespace Cert.AdamFfnOutEq

open Idealize.ShloMosaic Idealize.ShloMosaic.TcCoe Idealize.SL.Sem
open Cert.Adam (newM newV newD)

section

open Cert.AdamFfnOutIdeal Cert.AdamFfnOutIdeal.Gen

variable (m : (ℓ : Loc nD τ sig) → Buf (Elt Ideal) ℓ) (c : Dev nD)

/-- The weight, the gradient and the two moments, as rows of their last axis. -/
def argW : S1408x1024.Idx → EReal := shapeCast S1408x1024 (m ((c : Thread nD τ).loc main_arg0) : S2x704x1024.Idx → EReal) shapeCasts_S2x704x1024_S1408x1024
def argG : S1408x1024.Idx → EReal := shapeCast S1408x1024 (m ((c : Thread nD τ).loc main_arg1) : S2x704x1024.Idx → EReal) shapeCasts_S2x704x1024_S1408x1024
def argM : S1408x1024.Idx → EReal := shapeCast S1408x1024 (m ((c : Thread nD τ).loc main_arg2) : S2x704x1024.Idx → EReal) shapeCasts_S2x704x1024_S1408x1024
def argV : S1408x1024.Idx → EReal := shapeCast S1408x1024 (m ((c : Thread nD τ).loc main_arg3) : S2x704x1024.Idx → EReal) shapeCasts_S2x704x1024_S1408x1024

/-- Where each window's block lies at a grid point: rows `176 t` and on. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (t : Fin cfg0.N) (r : Fin 176) : Fin 1408 :=
  ⟨176 * t.val + r.val, by have := t.isLt; have : cfg0.N = 8 := N_0; omega⟩

theorem entry_w : V m c main_v0 = argW m c := by
  entry_read
  rfl
theorem blk_w (t : Fin cfg0.N) (r : Fin 176) (k : Fin 1024) :
    (iblk m c 0 t : S176x1024.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 176) (k : Fin 1024) :
    (iblk m c 1 t : S176x1024.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 176) (k : Fin 1024) :
    (iblk m c 2 t : S176x1024.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 176) (k : Fin 1024) :
    (iblk m c 3 t : S176x1024.Idx → EReal) (ix2 r k) = argV m c (ix2 (trow t r) k) := by
  rw [← entry_v]
  blk_point [iblk, idx t, trow]

/-- The change of the weight, whole. -/
theorem arr4 : (dats m 0 c).arrAt 4 cfg0.N = fun i : S1408x1024.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      · exact congrArg (· + r.val) (Nat.mul_comm 176 t.val).symm
      · rfl
    exact congrArg (fun i : S1408x1024.Idx => newD (argW m c i) (argG m c i) (argM m c i) (argV m c i)) hi.symm

/-- The first moment, whole. -/
theorem arr5 : (dats m 0 c).arrAt 5 cfg0.N = fun i : S1408x1024.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      · exact congrArg (· + r.val) (Nat.mul_comm 176 t.val).symm
      · rfl
    exact congrArg (fun i : S1408x1024.Idx => newM (argG m c i) (argM m c i)) hi.symm

/-- The second moment, whole. -/
theorem arr6 : (dats m 0 c).arrAt 6 cfg0.N = fun i : S1408x1024.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      · exact congrArg (· + r.val) (Nat.mul_comm 176 t.val).symm
      · rfl
    exact congrArg (fun i : S1408x1024.Idx => newV (argG m c i) (argV m c i)) hi.symm

end

/-- The two programs, from the same arguments, end with the same change and the same moments. -/
theorem equation : Cert.algebraic_AdamFfnOutIdeal_AdamFfnOutRefIdeal (hAdamFfnOutIdeal := Cert.AdamFfnOutIdeal.Gen.facts)
    (hAdamFfnOutRefIdeal := Cert.AdamFfnOutRefIdeal.Gen.facts) := by
  pair_intro
  · run_from Cert.AdamFfnOutIdeal.Value.run_blocks m g
  · run_from Cert.AdamFfnOutRefIdeal.Value.run m' g'
    · refine Eq.trans ?_ (arr4 m c).symm
      rfl
    · refine Eq.trans ?_ (arr5 m c).symm
      rfl
    · refine Eq.trans ?_ (arr6 m c).symm
      rfl

end Cert.AdamFfnOutEq

end
-- ==== Proof.AdamWIn.lean ====
/-
  The optimiser's step for a weight of shape 1 x 1024 x 448: the kernel takes the whole array.
-/
module

public import proofs.«01_k».proof.Defs
public import proofs.«01_k».proof.Proof.AdamMaths
public import proofs.«01_k».proof.Proof.Gen.AdamWInIdeal.Value
public import proofs.«01_k».proof.Proof.Gen.AdamWInRefIdeal.Run

@[expose] public section

set_option maxRecDepth 16384

noncomputable section

namespace Cert.AdamWInEq

open Idealize.ShloMosaic Idealize.ShloMosaic.TcCoe Idealize.SL.Sem
open Cert.Adam (newM newV newD)

section

open Cert.AdamWInIdeal Cert.AdamWInIdeal.Gen

variable (m : (ℓ : Loc nD τ sig) → Buf (Elt Ideal) ℓ) (c : Dev nD)

/-- The weight, the gradient and the two moments, as rows of their last axis. -/
def argW : S1024x448.Idx → EReal := shapeCast S1024x448 (m ((c : Thread nD τ).loc main_arg0) : S1x1024x448.Idx → EReal) shapeCasts_S1x1024x448_S1024x448
def argG : S1024x448.Idx → EReal := shapeCast S1024x448 (m ((c : Thread nD τ).loc main_arg1) : S1x1024x448.Idx → EReal) shapeCasts_S1x1024x448_S1024x448
def argM : S1024x448.Idx → EReal := shapeCast S1024x448 (m ((c : Thread nD τ).loc main_arg2) : S1x1024x448.Idx → EReal) shapeCasts_S1x1024x448_S1024x448
def argV : S1024x448.Idx → EReal := shapeCast S1024x448 (m ((c : Thread nD τ).loc main_arg3) : S1x1024x448.Idx → EReal) shapeCasts_S1x1024x448_S1024x448

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 1024) : Fin 1024 := r

theorem entry_w : V m c main_v0 = argW m c := by
  entry_read
  rfl
theorem blk_w (t : Fin cfg0.N) (r : Fin 1024) (k : Fin 448) :
    (iblk m c 0 t : S1024x448.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 1024) (k : Fin 448) :
    (iblk m c 1 t : S1024x448.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 1024) (k : Fin 448) :
    (iblk m c 2 t : S1024x448.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 1024) (k : Fin 448) :
    (iblk m c 3 t : S1024x448.Idx → EReal) (ix2 r k) = argV m c (ix2 (trow t r) k) := by
  rw [← entry_v]
  blk_point [iblk, idx t, trow]

/-- The change of the weight, whole. -/
theorem arr4 : (dats m 0 c).arrAt 4 cfg0.N = fun i : S1024x448.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S1024x448.Idx => newD (argW m c i) (argG m c i) (argM m c i) (argV m c i)) hi.symm

/-- The first moment, whole. -/
theorem arr5 : (dats m 0 c).arrAt 5 cfg0.N = fun i : S1024x448.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S1024x448.Idx => newM (argG m c i) (argM m c i)) hi.symm

/-- The second moment, whole. -/
theorem arr6 : (dats m 0 c).arrAt 6 cfg0.N = fun i : S1024x448.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S1024x448.Idx => newV (argG m c i) (argV m c i)) hi.symm

end

/-- The two programs, from the same arguments, end with the same change and the same moments. -/
theorem equation : Cert.algebraic_AdamWInIdeal_AdamWInRefIdeal (hAdamWInIdeal := Cert.AdamWInIdeal.Gen.facts)
    (hAdamWInRefIdeal := Cert.AdamWInRefIdeal.Gen.facts) := by
  pair_intro
  · run_from Cert.AdamWInIdeal.Value.run_blocks m g
  · run_from Cert.AdamWInRefIdeal.Value.run m' g'
    · refine Eq.trans ?_ (arr4 m c).symm
      rfl
    · refine Eq.trans ?_ (arr5 m c).symm
      rfl
    · refine Eq.trans ?_ (arr6 m c).symm
      rfl

end Cert.AdamWInEq

end
-- ==== Proof.AdamQGain.lean ====
/-
  The optimiser's step for a weight of shape 1 x 64: the kernel takes the whole array.
-/
module

public import proofs.«01_k».proof.Defs
public import proofs.«01_k».proof.Proof.AdamMaths
public import proofs.«01_k».proof.Proof.Gen.AdamQGainIdeal.Value
public import proofs.«01_k».proof.Proof.Gen.AdamQGainRefIdeal.Run

@[expose] public section

set_option maxRecDepth 16384

noncomputable section

namespace Cert.AdamQGainEq

open Idealize.ShloMosaic Idealize.ShloMosaic.TcCoe Idealize.SL.Sem
open Cert.Adam (newM newV newD)

section

open Cert.AdamQGainIdeal Cert.AdamQGainIdeal.Gen

variable (m : (ℓ : Loc nD τ sig) → Buf (Elt Ideal) ℓ) (c : Dev nD)

/-- The weight, the gradient and the two moments. -/
def argW : S1x64.Idx → EReal := (m ((c : Thread nD τ).loc main_arg0) : S1x64.Idx → EReal)
def argG : S1x64.Idx → EReal := (m ((c : Thread nD τ).loc main_arg1) : S1x64.Idx → EReal)
def argM : S1x64.Idx → EReal := (m ((c : Thread nD τ).loc main_arg2) : S1x64.Idx → EReal)
def argV : S1x64.Idx → EReal := (m ((c : Thread nD τ).loc main_arg3) : S1x64.Idx → EReal)

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 1) : Fin 1 := r

theorem blk_w (t : Fin cfg0.N) (r : Fin 1) (k : Fin 64) :
    (iblk m c 0 t : S1x64.Idx → EReal) (ix2 r k) = argW m c (ix2 (trow t r) k) := by
  rw [argW]
  blk_point [iblk, V, idx t, trow]

theorem blk_g (t : Fin cfg0.N) (r : Fin 1) (k : Fin 64) :
    (iblk m c 1 t : S1x64.Idx → EReal) (ix2 r k) = argG m c (ix2 (trow t r) k) := by
  rw [argG]
  blk_point [iblk, V, idx t, trow]

theorem blk_m (t : Fin cfg0.N) (r : Fin 1) (k : Fin 64) :
    (iblk m c 2 t : S1x64.Idx → EReal) (ix2 r k) = argM m c (ix2 (trow t r) k) := by
  rw [argM]
  blk_point [iblk, V, idx t, trow]

theorem blk_v (t : Fin cfg0.N) (r : Fin 1) (k : Fin 64) :
    (iblk m c 3 t : S1x64.Idx → EReal) (ix2 r k) = argV m c (ix2 (trow t r) k) := by
  rw [argV]
  blk_point [iblk, V, idx t, trow]

/-- The change of the weight, whole. -/
theorem arr4 : (dats m 0 c).arrAt 4 cfg0.N = fun i : S1x64.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S1x64.Idx => newD (argW m c i) (argG m c i) (argM m c i) (argV m c i)) hi.symm

/-- The first moment, whole. -/
theorem arr5 : (dats m 0 c).arrAt 5 cfg0.N = fun i : S1x64.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S1x64.Idx => newM (argG m c i) (argM m c i)) hi.symm

/-- The second moment, whole. -/
theorem arr6 : (dats m 0 c).arrAt 6 cfg0.N = fun i : S1x64.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S1x64.Idx => newV (argG m c i) (argV m c i)) hi.symm

end

/-- The two programs, from the same arguments, end with the same change and the same moments. -/
theorem equation : Cert.algebraic_AdamQGainIdeal_AdamQGainRefIdeal (hAdamQGainIdeal := Cert.AdamQGainIdeal.Gen.facts)
    (hAdamQGainRefIdeal := Cert.AdamQGainRefIdeal.Gen.facts) := by
  pair_intro
  · run_from Cert.AdamQGainIdeal.Value.run_blocks m g
  · run_from Cert.AdamQGainRefIdeal.Value.run m' g'
    · refine Eq.trans ?_ (arr4 m c).symm
      rfl
    · refine Eq.trans ?_ (arr5 m c).symm
      rfl
    · refine Eq.trans ?_ (arr6 m c).symm
      rfl

end Cert.AdamQGainEq

end
-- ==== Proof.AdamWSp.lean ====
/-
  The optimiser's step for a weight of shape 1 x 4 x 128 x 128: the kernel takes the whole array.
-/
module

public import proofs.«01_k».proof.Defs
public import proofs.«01_k».proof.Proof.AdamMaths
public import proofs.«01_k».proof.Proof.Gen.AdamWSpIdeal.Value
public import proofs.«01_k».proof.Proof.Gen.AdamWSpRefIdeal.Run

@[expose] public section

set_option maxRecDepth 16384

noncomputable section

namespace Cert.AdamWSpEq

open Idealize.ShloMosaic Idealize.ShloMosaic.TcCoe Idealize.SL.Sem
open Cert.Adam (newM newV newD)

section

open Cert.AdamWSpIdeal Cert.AdamWSpIdeal.Gen

variable (m : (ℓ : Loc nD τ sig) → Buf (Elt Ideal) ℓ) (c : Dev nD)

/-- The weight, the gradient and the two moments, as rows of their last axis. -/
def argW : S512x128.Idx → EReal := shapeCast S512x128 (m ((c : Thread nD τ).loc main_arg0) : S1x4x128x128.Idx → EReal) shapeCasts_S1x4x128x128_S512x128
def argG : S512x128.Idx → EReal := shapeCast S512x128 (m ((c : Thread nD τ).loc main_arg1) : S1x4x128x128.Idx → EReal) shapeCasts_S1x4x128x128_S512x128
def argM : S512x128.Idx → EReal := shapeCast S512x128 (m ((c : Thread nD τ).loc main_arg2) : S1x4x128x128.Idx → EReal) shapeCasts_S1x4x128x128_S512x128
def argV : S512x128.Idx → EReal := shapeCast S512x128 (m ((c : Thread nD τ).loc main_arg3) : S1x4x128x128.Idx → EReal) shapeCasts_S1x4x128x128_S512x128

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 512) : Fin 512 := r

theorem entry_w : V m c main_v0 = argW m c := by
  entry_read
  rfl
theorem blk_w (t : Fin cfg0.N) (r : Fin 512) (k : Fin 128) :
    (iblk m c 0 t : S512x128.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 512) (k : Fin 128) :
    (iblk m c 1 t : S512x128.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 512) (k : Fin 128) :
    (iblk m c 2 t : S512x128.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 512) (k : Fin 128) :
    (iblk m c 3 t : S512x128.Idx → EReal) (ix2 r k) = argV m c (ix2 (trow t r) k) := by
  rw [← entry_v]
  blk_point [iblk, idx t, trow]

/-- The change of the weight, whole. -/
theorem arr4 : (dats m 0 c).arrAt 4 cfg0.N = fun i : S512x128.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S512x128.Idx => newD (argW m c i) (argG m c i) (argM m c i) (argV m c i)) hi.symm

/-- The first moment, whole. -/
theorem arr5 : (dats m 0 c).arrAt 5 cfg0.N = fun i : S512x128.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S512x128.Idx => newM (argG m c i) (argM m c i)) hi.symm

/-- The second moment, whole. -/
theorem arr6 : (dats m 0 c).arrAt 6 cfg0.N = fun i : S512x128.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S512x128.Idx => newV (argG m c i) (argV m c i)) hi.symm

end

/-- The two programs, from the same arguments, end with the same change and the same moments. -/
theorem equation : Cert.algebraic_AdamWSpIdeal_AdamWSpRefIdeal (hAdamWSpIdeal := Cert.AdamWSpIdeal.Gen.facts)
    (hAdamWSpRefIdeal := Cert.AdamWSpRefIdeal.Gen.facts) := by
  pair_intro
  · run_from Cert.AdamWSpIdeal.Value.run_blocks m g
  · run_from Cert.AdamWSpRefIdeal.Value.run m' g'
    · refine Eq.trans ?_ (arr4 m c).symm
      rfl
    · refine Eq.trans ?_ (arr5 m c).symm
      rfl
    · refine Eq.trans ?_ (arr6 m c).symm
      rfl

end Cert.AdamWSpEq

end
-- ==== Proof.AdamBSp.lean ====
/-
  The optimiser's step for a weight of shape 1 x 4 x 128: the kernel takes the whole array.
-/
module

public import proofs.«01_k».proof.Defs
public import proofs.«01_k».proof.Proof.AdamMaths
public import proofs.«01_k».proof.Proof.Gen.AdamBSpIdeal.Value
public import proofs.«01_k».proof.Proof.Gen.AdamBSpRefIdeal.Run

@[expose] public section

set_option maxRecDepth 16384

noncomputable section

namespace Cert.AdamBSpEq

open Idealize.ShloMosaic Idealize.ShloMosaic.TcCoe Idealize.SL.Sem
open Cert.Adam (newM newV newD)

section

open Cert.AdamBSpIdeal Cert.AdamBSpIdeal.Gen

variable (m : (ℓ : Loc nD τ sig) → Buf (Elt Ideal) ℓ) (c : Dev nD)

/-- The weight, the gradient and the two moments, as rows of their last axis. -/
def argW : S4x128.Idx → EReal := shapeCast S4x128 (m ((c : Thread nD τ).loc main_arg0) : S1x4x128.Idx → EReal) shapeCasts_S1x4x128_S4x128
def argG : S4x128.Idx → EReal := shapeCast S4x128 (m ((c : Thread nD τ).loc main_arg1) : S1x4x128.Idx → EReal) shapeCasts_S1x4x128_S4x128
def argM : S4x128.Idx → EReal := shapeCast S4x128 (m ((c : Thread nD τ).loc main_arg2) : S1x4x128.Idx → EReal) shapeCasts_S1x4x128_S4x128
def argV : S4x128.Idx → EReal := shapeCast S4x128 (m ((c : Thread nD τ).loc main_arg3) : S1x4x128.Idx → EReal) shapeCasts_S1x4x128_S4x128

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 4) : Fin 4 := r

theorem entry_w : V m c main_v0 = argW m c := by
  entry_read
  rfl
theorem blk_w (t : Fin cfg0.N) (r : Fin 4) (k : Fin 128) :
    (iblk m c 0 t : S4x128.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 4) (k : Fin 128) :
    (iblk m c 1 t : S4x128.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 4) (k : Fin 128) :
    (iblk m c 2 t : S4x128.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 4) (k : Fin 128) :
    (iblk m c 3 t : S4x128.Idx → EReal) (ix2 r k) = argV m c (ix2 (trow t r) k) := by
  rw [← entry_v]
  blk_point [iblk, idx t, trow]

/-- The change of the weight, whole. -/
theorem arr4 : (dats m 0 c).arrAt 4 cfg0.N = fun i : S4x128.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S4x128.Idx => newD (argW m c i) (argG m c i) (argM m c i) (argV m c i)) hi.symm

/-- The first moment, whole. -/
theorem arr5 : (dats m 0 c).arrAt 5 cfg0.N = fun i : S4x128.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S4x128.Idx => newM (argG m c i) (argM m c i)) hi.symm

/-- The second moment, whole. -/
theorem arr6 : (dats m 0 c).arrAt 6 cfg0.N = fun i : S4x128.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S4x128.Idx => newV (argG m c i) (argV m c i)) hi.symm

end

/-- The two programs, from the same arguments, end with the same change and the same moments. -/
theorem equation : Cert.algebraic_AdamBSpIdeal_AdamBSpRefIdeal (hAdamBSpIdeal := Cert.AdamBSpIdeal.Gen.facts)
    (hAdamBSpRefIdeal := Cert.AdamBSpRefIdeal.Gen.facts) := by
  pair_intro
  · run_from Cert.AdamBSpIdeal.Value.run_blocks m g
  · run_from Cert.AdamBSpRefIdeal.Value.run m' g'
    · refine Eq.trans ?_ (arr4 m c).symm
      rfl
    · refine Eq.trans ?_ (arr5 m c).symm
      rfl
    · refine Eq.trans ?_ (arr6 m c).symm
      rfl

end Cert.AdamBSpEq

end
-- ==== Proof.AdamWOut.lean ====
/-
  The optimiser's step for a weight of shape 1 x 256 x 1024: the kernel takes the whole array.
-/
module

public import proofs.«01_k».proof.Defs
public import proofs.«01_k».proof.Proof.AdamMaths
public import proofs.«01_k».proof.Proof.Gen.AdamWOutIdeal.Value
public import proofs.«01_k».proof.Proof.Gen.AdamWOutRefIdeal.Run

@[expose] public section

set_option maxRecDepth 16384

noncomputable section

namespace Cert.AdamWOutEq

open Idealize.ShloMosaic Idealize.ShloMosaic.TcCoe Idealize.SL.Sem
open Cert.Adam (newM newV newD)

section

open Cert.AdamWOutIdeal Cert.AdamWOutIdeal.Gen

variable (m : (ℓ : Loc nD τ sig) → Buf (Elt Ideal) ℓ) (c : Dev nD)

/-- The weight, the gradient and the two moments, as rows of their last axis. -/
def argW : S256x1024.Idx → EReal := shapeCast S256x1024 (m ((c : Thread nD τ).loc main_arg0) : S1x256x1024.Idx → EReal) shapeCasts_S1x256x1024_S256x1024
def argG : S256x1024.Idx → EReal := shapeCast S256x1024 (m ((c : Thread nD τ).loc main_arg1) : S1x256x1024.Idx → EReal) shapeCasts_S1x256x1024_S256x1024
def argM : S256x1024.Idx → EReal := shapeCast S256x1024 (m ((c : Thread nD τ).loc main_arg2) : S1x256x1024.Idx → EReal) shapeCasts_S1x256x1024_S256x1024
def argV : S256x1024.Idx → EReal := shapeCast S256x1024 (m ((c : Thread nD τ).loc main_arg3) : S1x256x1024.Idx → EReal) shapeCasts_S1x256x1024_S256x1024

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 256) : Fin 256 := r

theorem entry_w : V m c main_v0 = argW m c := by
  entry_read
  rfl
theorem blk_w (t : Fin cfg0.N) (r : Fin 256) (k : Fin 1024) :
    (iblk m c 0 t : S256x1024.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 256) (k : Fin 1024) :
    (iblk m c 1 t : S256x1024.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 256) (k : Fin 1024) :
    (iblk m c 2 t : S256x1024.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 256) (k : Fin 1024) :
    (iblk m c 3 t : S256x1024.Idx → EReal) (ix2 r k) = argV m c (ix2 (trow t r) k) := by
  rw [← entry_v]
  blk_point [iblk, idx t, trow]

/-- The change of the weight, whole. -/
theorem arr4 : (dats m 0 c).arrAt 4 cfg0.N = fun i : S256x1024.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S256x1024.Idx => newD (argW m c i) (argG m c i) (argM m c i) (argV m c i)) hi.symm

/-- The first moment, whole. -/
theorem arr5 : (dats m 0 c).arrAt 5 cfg0.N = fun i : S256x1024.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S256x1024.Idx => newM (argG m c i) (argM m c i)) hi.symm

/-- The second moment, whole. -/
theorem arr6 : (dats m 0 c).arrAt 6 cfg0.N = fun i : S256x1024.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S256x1024.Idx => newV (argG m c i) (argV m c i)) hi.symm

end

/-- The two programs, from the same arguments, end with the same change and the same moments. -/
theorem equation : Cert.algebraic_AdamWOutIdeal_AdamWOutRefIdeal (hAdamWOutIdeal := Cert.AdamWOutIdeal.Gen.facts)
    (hAdamWOutRefIdeal := Cert.AdamWOutRefIdeal.Gen.facts) := by
  pair_intro
  · run_from Cert.AdamWOutIdeal.Value.run_blocks m g
  · run_from Cert.AdamWOutRefIdeal.Value.run m' g'
    · refine Eq.trans ?_ (arr4 m c).symm
      rfl
    · refine Eq.trans ?_ (arr5 m c).symm
      rfl
    · refine Eq.trans ?_ (arr6 m c).symm
      rfl

end Cert.AdamWOutEq

end
-- ==== Proof.AdamWPw1.lean ====
/-
  The optimiser's step for a weight of shape 1 x 1024 x 512: the kernel takes the whole array.
-/
module

public import proofs.«01_k».proof.Defs
public import proofs.«01_k».proof.Proof.AdamMaths
public import proofs.«01_k».proof.Proof.Gen.AdamWPw1Ideal.Value
public import proofs.«01_k».proof.Proof.Gen.AdamWPw1RefIdeal.Run

@[expose] public section

set_option maxRecDepth 16384

noncomputable section

namespace Cert.AdamWPw1Eq

open Idealize.ShloMosaic Idealize.ShloMosaic.TcCoe Idealize.SL.Sem
open Cert.Adam (newM newV newD)

section

open Cert.AdamWPw1Ideal Cert.AdamWPw1Ideal.Gen

variable (m : (ℓ : Loc nD τ sig) → Buf (Elt Ideal) ℓ) (c : Dev nD)

/-- The weight, the gradient and the two moments, as rows of their last axis. -/
def argW : S1024x512.Idx → EReal := shapeCast S1024x512 (m ((c : Thread nD τ).loc main_arg0) : S1x1024x512.Idx → EReal) shapeCasts_S1x1024x512_S1024x512
def argG : S1024x512.Idx → EReal := shapeCast S1024x512 (m ((c : Thread nD τ).loc main_arg1) : S1x1024x512.Idx → EReal) shapeCasts_S1x1024x512_S1024x512
def argM : S1024x512.Idx → EReal := shapeCast S1024x512 (m ((c : Thread nD τ).loc main_arg2) : S1x1024x512.Idx → EReal) shapeCasts_S1x1024x512_S1024x512
def argV : S1024x512.Idx → EReal := shapeCast S1024x512 (m ((c : Thread nD τ).loc main_arg3) : S1x1024x512.Idx → EReal) shapeCasts_S1x1024x512_S1024x512

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 1024) : Fin 1024 := r

theorem entry_w : V m c main_v0 = argW m c := by
  entry_read
  rfl
theorem blk_w (t : Fin cfg0.N) (r : Fin 1024) (k : Fin 512) :
    (iblk m c 0 t : S1024x512.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 1024) (k : Fin 512) :
    (iblk m c 1 t : S1024x512.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 1024) (k : Fin 512) :
    (iblk m c 2 t : S1024x512.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 1024) (k : Fin 512) :
    (iblk m c 3 t : S1024x512.Idx → EReal) (ix2 r k) = argV m c (ix2 (trow t r) k) := by
  rw [← entry_v]
  blk_point [iblk, idx t, trow]

/-- The change of the weight, whole. -/
theorem arr4 : (dats m 0 c).arrAt 4 cfg0.N = fun i : S1024x512.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S1024x512.Idx => newD (argW m c i) (argG m c i) (argM m c i) (argV m c i)) hi.symm

/-- The first moment, whole. -/
theorem arr5 : (dats m 0 c).arrAt 5 cfg0.N = fun i : S1024x512.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S1024x512.Idx => newM (argG m c i) (argM m c i)) hi.symm

/-- The second moment, whole. -/
theorem arr6 : (dats m 0 c).arrAt 6 cfg0.N = fun i : S1024x512.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S1024x512.Idx => newV (argG m c i) (argV m c i)) hi.symm

end

/-- The two programs, from the same arguments, end with the same change and the same moments. -/
theorem equation : Cert.algebraic_AdamWPw1Ideal_AdamWPw1RefIdeal (hAdamWPw1Ideal := Cert.AdamWPw1Ideal.Gen.facts)
    (hAdamWPw1RefIdeal := Cert.AdamWPw1RefIdeal.Gen.facts) := by
  pair_intro
  · run_from Cert.AdamWPw1Ideal.Value.run_blocks m g
  · run_from Cert.AdamWPw1RefIdeal.Value.run m' g'
    · refine Eq.trans ?_ (arr4 m c).symm
      rfl
    · refine Eq.trans ?_ (arr5 m c).symm
      rfl
    · refine Eq.trans ?_ (arr6 m c).symm
      rfl

end Cert.AdamWPw1Eq

end
-- ==== Proof.AdamBPw1.lean ====
/-
  The optimiser's step for a weight of shape 1 x 512: the kernel takes the whole array.
-/
module

public import proofs.«01_k».proof.Defs
public import proofs.«01_k».proof.Proof.AdamMaths
public import proofs.«01_k».proof.Proof.Gen.AdamBPw1Ideal.Value
public import proofs.«01_k».proof.Proof.Gen.AdamBPw1RefIdeal.Run

@[expose] public section

set_option maxRecDepth 16384

noncomputable section

namespace Cert.AdamBPw1Eq

open Idealize.ShloMosaic Idealize.ShloMosaic.TcCoe Idealize.SL.Sem
open Cert.Adam (newM newV newD)

section

open Cert.AdamBPw1Ideal Cert.AdamBPw1Ideal.Gen

variable (m : (ℓ : Loc nD τ sig) → Buf (Elt Ideal) ℓ) (c : Dev nD)

/-- The weight, the gradient and the two moments. -/
def argW : S1x512.Idx → EReal := (m ((c : Thread nD τ).loc main_arg0) : S1x512.Idx → EReal)
def argG : S1x512.Idx → EReal := (m ((c : Thread nD τ).loc main_arg1) : S1x512.Idx → EReal)
def argM : S1x512.Idx → EReal := (m ((c : Thread nD τ).loc main_arg2) : S1x512.Idx → EReal)
def argV : S1x512.Idx → EReal := (m ((c : Thread nD τ).loc main_arg3) : S1x512.Idx → EReal)

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 1) : Fin 1 := r

theorem blk_w (t : Fin cfg0.N) (r : Fin 1) (k : Fin 512) :
    (iblk m c 0 t : S1x512.Idx → EReal) (ix2 r k) = argW m c (ix2 (trow t r) k) := by
  rw [argW]
  blk_point [iblk, V, idx t, trow]

theorem blk_g (t : Fin cfg0.N) (r : Fin 1) (k : Fin 512) :
    (iblk m c 1 t : S1x512.Idx → EReal) (ix2 r k) = argG m c (ix2 (trow t r) k) := by
  rw [argG]
  blk_point [iblk, V, idx t, trow]

theorem blk_m (t : Fin cfg0.N) (r : Fin 1) (k : Fin 512) :
    (iblk m c 2 t : S1x512.Idx → EReal) (ix2 r k) = argM m c (ix2 (trow t r) k) := by
  rw [argM]
  blk_point [iblk, V, idx t, trow]

theorem blk_v (t : Fin cfg0.N) (r : Fin 1) (k : Fin 512) :
    (iblk m c 3 t : S1x512.Idx → EReal) (ix2 r k) = argV m c (ix2 (trow t r) k) := by
  rw [argV]
  blk_point [iblk, V, idx t, trow]

/-- The change of the weight, whole. -/
theorem arr4 : (dats m 0 c).arrAt 4 cfg0.N = fun i : S1x512.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S1x512.Idx => newD (argW m c i) (argG m c i) (argM m c i) (argV m c i)) hi.symm

/-- The first moment, whole. -/
theorem arr5 : (dats m 0 c).arrAt 5 cfg0.N = fun i : S1x512.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S1x512.Idx => newM (argG m c i) (argM m c i)) hi.symm

/-- The second moment, whole. -/
theorem arr6 : (dats m 0 c).arrAt 6 cfg0.N = fun i : S1x512.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S1x512.Idx => newV (argG m c i) (argV m c i)) hi.symm

end

/-- The two programs, from the same arguments, end with the same change and the same moments. -/
theorem equation : Cert.algebraic_AdamBPw1Ideal_AdamBPw1RefIdeal (hAdamBPw1Ideal := Cert.AdamBPw1Ideal.Gen.facts)
    (hAdamBPw1RefIdeal := Cert.AdamBPw1RefIdeal.Gen.facts) := by
  pair_intro
  · run_from Cert.AdamBPw1Ideal.Value.run_blocks m g
  · run_from Cert.AdamBPw1RefIdeal.Value.run m' g'
    · refine Eq.trans ?_ (arr4 m c).symm
      rfl
    · refine Eq.trans ?_ (arr5 m c).symm
      rfl
    · refine Eq.trans ?_ (arr6 m c).symm
      rfl

end Cert.AdamBPw1Eq

end
-- ==== Proof.AdamWDw.lean ====
/-
  The optimiser's step for a weight of shape 1 x 31 x 256: the kernel takes the whole array.
-/
module

public import proofs.«01_k».proof.Defs
public import proofs.«01_k».proof.Proof.AdamMaths
public import proofs.«01_k».proof.Proof.Gen.AdamWDwIdeal.Value
public import proofs.«01_k».proof.Proof.Gen.AdamWDwRefIdeal.Run

@[expose] public section

set_option maxRecDepth 16384

noncomputable section

namespace Cert.AdamWDwEq

open Idealize.ShloMosaic Idealize.ShloMosaic.TcCoe Idealize.SL.Sem
open Cert.Adam (newM newV newD)

section

open Cert.AdamWDwIdeal Cert.AdamWDwIdeal.Gen

variable (m : (ℓ : Loc nD τ sig) → Buf (Elt Ideal) ℓ) (c : Dev nD)

/-- The weight, the gradient and the two moments, as rows of their last axis. -/
def argW : S31x256.Idx → EReal := shapeCast S31x256 (m ((c : Thread nD τ).loc main_arg0) : S1x31x256.Idx → EReal) shapeCasts_S1x31x256_S31x256
def argG : S31x256.Idx → EReal := shapeCast S31x256 (m ((c : Thread nD τ).loc main_arg1) : S1x31x256.Idx → EReal) shapeCasts_S1x31x256_S31x256
def argM : S31x256.Idx → EReal := shapeCast S31x256 (m ((c : Thread nD τ).loc main_arg2) : S1x31x256.Idx → EReal) shapeCasts_S1x31x256_S31x256
def argV : S31x256.Idx → EReal := shapeCast S31x256 (m ((c : Thread nD τ).loc main_arg3) : S1x31x256.Idx → EReal) shapeCasts_S1x31x256_S31x256

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 31) : Fin 31 := r

theorem entry_w : V m c main_v0 = argW m c := by
  entry_read
  rfl
theorem blk_w (t : Fin cfg0.N) (r : Fin 31) (k : Fin 256) :
    (iblk m c 0 t : S31x256.Idx → EReal) (ix2 r k) = argW m c (ix2 (trow t r) k) := by
  rw [← entry_w]
  blk_point [iblk, idx t, trow]

theorem entry_g : V m c main_v1 = argG m c := by
  entry_read
  rfl
theorem blk_g (t : Fin cfg0.N) (r : Fin 31) (k : Fin 256) :
    (iblk m c 1 t : S31x256.Idx → EReal) (ix2 r k) = argG m c (ix2 (trow t r) k) := by
  rw [← entry_g]
  blk_point [iblk, idx t, trow]

theorem entry_m : V m c main_v2 = argM m c := by
  entry_read
  rfl
theorem blk_m (t : Fin cfg0.N) (r : Fin 31) (k : Fin 256) :
    (iblk m c 2 t : S31x256.Idx → EReal) (ix2 r k) = argM m c (ix2 (trow t r) k) := by
  rw [← entry_m]
  blk_point [iblk, idx t, trow]

theorem entry_v : V m c main_v3 = argV m c := by
  entry_read
  rfl
theorem blk_v (t : Fin cfg0.N) (r : Fin 31) (k : Fin 256) :
    (iblk m c 3 t : S31x256.Idx → EReal) (ix2 r k) = argV m c (ix2 (trow t r) k) := by
  rw [← entry_v]
  blk_point [iblk, idx t, trow]

/-- The change of the weight, whole. -/
theorem arr4 : (dats m 0 c).arrAt 4 cfg0.N = fun i : S31x256.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3, k0_pay4]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S31x256.Idx => newD (argW m c i) (argG m c i) (argM m c i) (argV m c i)) hi.symm

/-- The first moment, whole. -/
theorem arr5 : (dats m 0 c).arrAt 5 cfg0.N = fun i : S31x256.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3, k0_pay4]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S31x256.Idx => newM (argG m c i) (argM m c i)) hi.symm

/-- The second moment, whole. -/
theorem arr6 : (dats m 0 c).arrAt 6 cfg0.N = fun i : S31x256.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3, k0_pay4]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S31x256.Idx => newV (argG m c i) (argV m c i)) hi.symm

end

/-- The two programs, from the same arguments, end with the same change and the same moments. -/
theorem equation : Cert.algebraic_AdamWDwIdeal_AdamWDwRefIdeal (hAdamWDwIdeal := Cert.AdamWDwIdeal.Gen.facts)
    (hAdamWDwRefIdeal := Cert.AdamWDwRefIdeal.Gen.facts) := by
  pair_intro
  · run_from Cert.AdamWDwIdeal.Value.run_blocks m g
  · run_from Cert.AdamWDwRefIdeal.Value.run m' g'
    · refine Eq.trans ?_ (arr4 m c).symm
      rfl
    · refine Eq.trans ?_ (arr5 m c).symm
      rfl
    · refine Eq.trans ?_ (arr6 m c).symm
      rfl

end Cert.AdamWDwEq

end
-- ==== Proof.AdamBDw.lean ====
/-
  The optimiser's step for a weight of shape 1 x 256: the kernel takes the whole array.
-/
module

public import proofs.«01_k».proof.Defs
public import proofs.«01_k».proof.Proof.AdamMaths
public import proofs.«01_k».proof.Proof.Gen.AdamBDwIdeal.Value
public import proofs.«01_k».proof.Proof.Gen.AdamBDwRefIdeal.Run

@[expose] public section

set_option maxRecDepth 16384

noncomputable section

namespace Cert.AdamBDwEq

open Idealize.ShloMosaic Idealize.ShloMosaic.TcCoe Idealize.SL.Sem
open Cert.Adam (newM newV newD)

section

open Cert.AdamBDwIdeal Cert.AdamBDwIdeal.Gen

variable (m : (ℓ : Loc nD τ sig) → Buf (Elt Ideal) ℓ) (c : Dev nD)

/-- The weight, the gradient and the two moments. -/
def argW : S1x256.Idx → EReal := (m ((c : Thread nD τ).loc main_arg0) : S1x256.Idx → EReal)
def argG : S1x256.Idx → EReal := (m ((c : Thread nD τ).loc main_arg1) : S1x256.Idx → EReal)
def argM : S1x256.Idx → EReal := (m ((c : Thread nD τ).loc main_arg2) : S1x256.Idx → EReal)
def argV : S1x256.Idx → EReal := (m ((c : Thread nD τ).loc main_arg3) : S1x256.Idx → EReal)

/-- Where each window's block lies at a grid point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0
    ∧ win0_3.index t 0 = t.val
    ∧ win0_3.index t 1 = 0 ∧ win0_4.index t 0 = t.val ∧ win0_4.index t 1 = 0
    ∧ win0_5.index t 0 = t.val
    ∧ win0_5.index t 1 = 0 ∧ win0_6.index t 0 = t.val ∧ win0_6.index t 1 = 0)

/-- Row `r` of the blocks at point `t`. -/
def trow (_ : Fin cfg0.N) (r : Fin 1) : Fin 1 := r

theorem blk_w (t : Fin cfg0.N) (r : Fin 1) (k : Fin 256) :
    (iblk m c 0 t : S1x256.Idx → EReal) (ix2 r k) = argW m c (ix2 (trow t r) k) := by
  rw [argW]
  blk_point [iblk, V, idx t, trow]

theorem blk_g (t : Fin cfg0.N) (r : Fin 1) (k : Fin 256) :
    (iblk m c 1 t : S1x256.Idx → EReal) (ix2 r k) = argG m c (ix2 (trow t r) k) := by
  rw [argG]
  blk_point [iblk, V, idx t, trow]

theorem blk_m (t : Fin cfg0.N) (r : Fin 1) (k : Fin 256) :
    (iblk m c 2 t : S1x256.Idx → EReal) (ix2 r k) = argM m c (ix2 (trow t r) k) := by
  rw [argM]
  blk_point [iblk, V, idx t, trow]

theorem blk_v (t : Fin cfg0.N) (r : Fin 1) (k : Fin 256) :
    (iblk m c 3 t : S1x256.Idx → EReal) (ix2 r k) = argV m c (ix2 (trow t r) k) := by
  rw [argV]
  blk_point [iblk, V, idx t, trow]

/-- The change of the weight, whole. -/
theorem arr4 : (dats m 0 c).arrAt 4 cfg0.N = fun i : S1x256.Idx => newD (argW m c i) (argG m c i) (argM m c i) (argV m c i) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine Eq.trans (b := newD (argW m c (ix2 (trow t r) k)) (argG m c (ix2 (trow t r) k)) (argM m c (ix2 (trow t r) k)) (argV m c (ix2 (trow t r) k))) ?_ ?_
  · pointwise [k0_pay1, k0_pay2, k0_pay3]
    simp only [blk_w, blk_g, blk_m, blk_v]
    rfl
  · have hi : (win0_4.blk t).view.emb (ix2 r k) = ix2 (trow t r) k := by
      funext a; fin_cases a <;> apply Fin.ext <;> blk_simp [idx t, trow]
      all_goals rfl
    exact congrArg (fun i : S1x256.Idx => newD (argW m c i) (argG m c i) (argM m c i) (argV m c i)) hi.symm

/-- The first moment, whole. -/
theorem arr5 : (dats m 0 c).arrAt 5 cfg0.N = fun i : S1x256.Idx => newM (argG m c i) (argM m c i) := by
  refine (dats m 0 c).arrAt_eq_of_covers 5 _ (by decide +kernel) fun t hf y => ?_
  blk_simp
  rw [after0_5]
  obtain ⟨r, k, rfl⟩ : ∃ r k, y = ix2 r k := ⟨y 0, y 1, by funext a; fin_cases a <;> rfl⟩
  frame_out
  refine Eq.trans (b := newM (argG m c (ix2 (trow t r) k)) (argM m c (ix2 (trow t r) k))) ?_ ?_
  · pointwise [k0_pay1, k0_pay2, k0_pay3]
    simp only [blk_g, blk_m]
    rfl
  · have hi : (win0_5.blk t).view.emb (ix2 r k) = ix2 (trow t r) k := by
      funext a; fin_cases a <;> apply Fin.ext <;> blk_simp [idx t, trow]
      all_goals rfl
    exact congrArg (fun i : S1x256.Idx => newM (argG m c i) (argM m c i)) hi.symm

/-- The second moment, whole. -/
theorem arr6 : (dats m 0 c).arrAt 6 cfg0.N = fun i : S1x256.Idx => newV (argG m c i) (argV m c i) := by
  refine (dats m 0 c).arrAt_eq_of_covers 6 _ (by decide +kernel) fun t hf y => ?_
  blk_simp
  rw [after0_6]
  obtain ⟨r, k, rfl⟩ : ∃ r k, y = ix2 r k := ⟨y 0, y 1, by funext a; fin_cases a <;> rfl⟩
  frame_out
  refine Eq.trans (b := newV (argG m c (ix2 (trow t r) k)) (argV m c (ix2 (trow t r) k))) ?_ ?_
  · pointwise [k0_pay1, k0_pay2, k0_pay3]
    simp only [blk_g, blk_v]
    rfl
  · have hi : (win0_6.blk t).view.emb (ix2 r k) = ix2 (trow t r) k := by
      funext a; fin_cases a <;> apply Fin.ext <;> blk_simp [idx t, trow]
      all_goals rfl
    exact congrArg (fun i : S1x256.Idx => newV (argG m c i) (argV m c i)) hi.symm

end

/-- The two programs, from the same arguments, end with the same change and the same moments. -/
theorem equation : Cert.algebraic_AdamBDwIdeal_AdamBDwRefIdeal (hAdamBDwIdeal := Cert.AdamBDwIdeal.Gen.facts)
    (hAdamBDwRefIdeal := Cert.AdamBDwRefIdeal.Gen.facts) := by
  pair_intro
  · run_from Cert.AdamBDwIdeal.Value.run_blocks m g
  · run_from Cert.AdamBDwRefIdeal.Value.run m' g'
    · refine Eq.trans ?_ (arr4 m c).symm
      rfl
    · refine Eq.trans ?_ (arr5 m c).symm
      rfl
    · refine Eq.trans ?_ (arr6 m c).symm
      rfl

end Cert.AdamBDwEq

end
-- ==== Proof.LnMaths.lean ====
/-
  A row less its mean, over its deviation, with a gain and a shift, and the gate of that, over the extended reals. Nothing
  here mentions a program.
-/
module

public import Idealize.ShloMosaic.Lib.Pipeline.ValueKit
public import Idealize.ShloMosaic.Lib.Pointwise

@[expose] public section

noncomputable section

namespace Cert.Ln

open Idealize.ShloMosaic

/-- A row's mean. -/
def mean (x : Fin 1024 → EReal) : EReal := Ideal.div (∑ j, x j) (Ideal.ofBits .f32 0x44800000#32)
/-- The row less its mean. -/
def ctr (x : Fin 1024 → EReal) (k : Fin 1024) : EReal := x k - mean x
/-- One over its deviation. -/
def rs (x : Fin 1024 → EReal) : EReal := Ideal.rsqrt (mean (fun j => ctr x j * ctr x j) + Ideal.ofBits .f32 0x358637BD#32)
/-- The normalised row, with its gain and shift. -/
def ln (g b x : Fin 1024 → EReal) (k : Fin 1024) : EReal := ctr x k * rs x * g k + b k
/-- The logistic function. -/
def sg (y : EReal) : EReal := Ideal.div 1 (1 + Ideal.exp (-y))
/-- The normalised row times its own gate. -/
def act (g b x : Fin 1024 → EReal) (k : Fin 1024) : EReal := ln g b x k * sg (ln g b x k)

end Cert.Ln

end
-- ==== Proof.LnSilu.lean ====
/-
  `silu(layer_norm(x) * g + b)`: the kernel takes blocks of 256 rows.
-/
module

public import proofs.«01_k».proof.Defs
public import proofs.«01_k».proof.Proof.LnMaths
public import proofs.«01_k».proof.Proof.Gen.LnSiluIdeal.Value
public import proofs.«01_k».proof.Proof.Gen.LnSiluRefIdeal.Run
public import Idealize.ShloMosaic.Lib.Pipeline.ValueKit
public import Idealize.ShloMosaic.Lib.Pointwise

@[expose] public section

set_option maxRecDepth 16384

noncomputable section

namespace Cert.LnSiluEq

open Idealize.ShloMosaic Idealize.ShloMosaic.TcCoe Idealize.SL.Sem
open Cert.Ln (mean ctr rs ln sg act)

section

open Cert.LnSiluIdeal Cert.LnSiluIdeal.Gen

variable (m : (ℓ : Loc nD τ sig) → Buf (Elt Ideal) ℓ) (c : Dev nD)

/-- The array, and the rows of the gain and the shift. -/
def X (r : Fin 4096) (k : Fin 1024) : EReal := (m ((c : Thread nD τ).loc main_arg0) : S4096x1024.Idx → EReal) (ix2 r k)
def G (k : Fin 1024) : EReal := (m ((c : Thread nD τ).loc main_arg1) : S1x1024.Idx → EReal) (ix2 0 k)
def B (k : Fin 1024) : EReal := (m ((c : Thread nD τ).loc main_arg2) : S1x1024.Idx → EReal) (ix2 0 k)

/-- Where each window's block lies at a grid point: rows `256 t` and on, or the whole row of weights. -/
theorem idx : ∀ t : Fin cfg0.N, win0_0.index t 0 = t.val ∧ win0_0.index t 1 = 0 ∧ win0_1.index t 0 = 0 ∧ win0_1.index t 1 = 0 ∧ win0_2.index t 0 = 0 ∧ win0_2.index t 1 = 0
    ∧ win0_3.index t 0 = t.val
    ∧ win0_3.index t 1 = 0 :=
  (by decide +kernel : ∀ t : Fin grid0.N, win0_0.index t 0 = t.val ∧ win0_0.index t 1 = 0 ∧ win0_1.index t 0 = 0 ∧ win0_1.index t 1 = 0 ∧ win0_2.index t 0 = 0 ∧ win0_2.index t 1 = 0
    ∧ win0_3.index t 0 = t.val
    ∧ win0_3.index t 1 = 0)

/-- Row `r` of the blocks at point `t`. -/
def trow (t : Fin cfg0.N) (r : Fin 256) : Fin 4096 :=
  ⟨256 * t.val + r.val, by have := t.isLt; have : cfg0.N = 16 := N_0; omega⟩

theorem blk_x (t : Fin cfg0.N) (r : Fin 256) (k : Fin 1024) : (iblk m c 0 t : S256x1024.Idx → EReal) (ix2 r k) = X m c (trow t r) k := by
  rw [X]
  blk_point [iblk, V, idx t, trow]

theorem blk_g (t : Fin cfg0.N) (k : Fin 1024) : (iblk m c 1 t : S1x1024.Idx → EReal) (ix2 0 k) = G m c k := by
  rw [G]
  blk_point [iblk, V, idx t]

theorem blk_b (t : Fin cfg0.N) (k : Fin 1024) : (iblk m c 2 t : S1x1024.Idx → EReal) (ix2 0 k) = B m c k := by
  rw [B]
  blk_point [iblk, V, idx t]

/-- A grid point's rows. -/
theorem pay (t : Fin cfg0.N) (r : Fin 256) (k : Fin 1024) :
    k0_pay1 (iblk m c 0 t) (iblk m c 1 t) (iblk m c 2 t) (ix2 r k) = act (G m c) (B m c) (X m c (trow t r)) k := by
  pointwise [k0_pay1]
  simp only [blk_x, blk_g, blk_b, zero_sub]
  rfl

/-- The array after the run. -/
theorem arr : (dats m 0 c).arrAt 3 cfg0.N = fun i : S4096x1024.Idx => act (G m c) (B m c) (X m c (i 0)) (i 1) := by
  refine (dats m 0 c).arrAt_eq_of_covers 3 _ (by decide +kernel) fun t hf y => ?_
  blk_simp
  rw [after0_3]
  obtain ⟨r, k, rfl⟩ : ∃ r k, y = ix2 r k := ⟨y 0, y 1, by funext a; fin_cases a <;> rfl⟩
  frame_out
  refine (pay m c t r k).trans ?_
  congr 2 <;> apply Fin.ext <;> blk_simp [idx t, trow]
  exact congrArg (· + r.val) (Nat.mul_comm 256 t.val)

end

section

open Cert.LnSiluRefIdeal Cert.LnSiluRefIdeal.Gen Cert.LnSiluRefIdeal.Value

section Stages

variable (a0 : FVec Ideal S4096x1024 .f32) (a1 a2 : FVec Ideal S1x1024 .f32)

/-- The row less its mean. -/
def rC : FVec Ideal S4096x1024 .f32 := subf a0 (broadcastInDim S4096x1024 ![0, 1] bcast_S4096x1_S4096x1024_0_1 (Host.divf (broadcastInDim S4096x1 ![0] bcast_S4096_S4096x1_0 (Host.reduceAdd a0 (constant S_ .f32 0x00000000#32) reducesTo_S4096x1024_S4096_d1 h_S_)) (broadcastInDim S4096x1 ![] bcast_S_S4096x1 (constant S_ .f32 0x44800000#32))))
/-- One over its deviation. -/
def rR : FVec Ideal S4096x1 .f32 := Host.rsqrt (addf (Host.divf (broadcastInDim S4096x1 ![0] bcast_S4096_S4096x1_0 (Host.reduceAdd (mulf (rC a0) (rC a0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))
/-- The normalised row, with its gain and shift. -/
def rY : FVec Ideal S4096x1024 .f32 := addf (mulf (mulf (rC a0) (broadcastInDim S4096x1024 ![0, 1] bcast_S4096x1_S4096x1024_0_1 (rR a0))) (broadcastInDim S4096x1024 ![0, 1] bcast_S1x1024_S4096x1024_0_1 a1)) (broadcastInDim S4096x1024 ![0, 1] bcast_S1x1024_S4096x1024_0_1 a2)
/-- Its gate. -/
def rS : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (negf (rY a0 a1 a2))))

end Stages

/-- What the reference ends with, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = truncf .bf16 (mulf (rY (m ((c.tc : Thread nD τ).loc main_arg0)) (m ((c.tc : Thread nD τ).loc main_arg1)) (m ((c.tc : Thread nD τ).loc main_arg2))) (rS (m ((c.tc : Thread nD τ).loc main_arg0)) (m ((c.tc : Thread nD τ).loc main_arg1)) (m ((c.tc : Thread nD τ).loc main_arg2)))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (run m ρ)

variable {a0 : FVec Ideal S4096x1024 .f32} {a1 a2 : FVec Ideal S1x1024 .f32}
variable {x : Fin 4096 → Fin 1024 → EReal} {g b : Fin 1024 → EReal}
variable (hx : ∀ r k, a0 (ix2 r k) = x r k) (hg : ∀ k, a1 (ix2 0 k) = g k) (hb : ∀ k, a2 (ix2 0 k) = b k)

include hx in
/-- The row less its mean, entry by entry … -/
theorem rC_apply (r : Fin 4096) (k : Fin 1024) : rC a0 (ix2 r k) = ctr (x r) k := by
  pointwise [rC]
  simp only [hx]
  rfl

include hx in
/-- … one over its deviation … -/
theorem rR_apply (r : Fin 4096) : rR a0 (ix2 r 0) = rs (x r) := by
  pointwise [rR]
  simp only [rC_apply hx]
  rfl

include hx hg hb in
/-- … the normalised row … -/
theorem rY_apply (r : Fin 4096) (k : Fin 1024) : rY a0 a1 a2 (ix2 r k) = ln g b (x r) k := by
  pointwise [rY]
  exact congrArg₂ (fun p q : EReal => p + q) (congrArg₂ (fun p q : EReal => p * q) (congrArg₂ (fun p q : EReal => p * q)
    (rC_apply hx r k) (rR_apply hx r)) (hg k)) (hb k)

include hx hg hb in
/-- … and the gated one. -/
theorem out_apply (r : Fin 4096) (k : Fin 1024) :
    truncf .bf16 (mulf (rY a0 a1 a2) (rS a0 a1 a2)) bitsLt_bf16_f32 (ix2 r k) = act g b (x r) k := by
  pointwise [rS]
  simp only [rY_apply hx hg hb]
  rfl

end

/-- The two programs, from the same arguments, end with the same array. -/
theorem equation : Cert.algebraic_LnSiluIdeal_LnSiluRefIdeal (hLnSiluIdeal := Cert.LnSiluIdeal.Gen.facts)
    (hLnSiluRefIdeal := Cert.LnSiluRefIdeal.Gen.facts) := by
  pair_intro
  · run_from Cert.LnSiluIdeal.Value.run_blocks m g
  · run_from run_stages m' g'
    refine Eq.trans ?_ (arr m c).symm
    funext i
    obtain ⟨r, k, rfl⟩ : ∃ r k, i = ix2 r k := ⟨i 0, i 1, by funext a; fin_cases a <;> rfl⟩
    exact out_apply (x := X m c) (g := G m c) (b := B m c) (fun _ _ => rfl) (fun _ => rfl) (fun _ => rfl) r k

end Cert.LnSiluEq

end
-- ==== Proof.MixNorm.lean ====
/-
  `rms_norm(x) * g * (1 + sc) + sh`: the kernel takes blocks of 256 rows.
-/
module

public import proofs.«01_k».proof.Defs
public import proofs.«01_k».proof.Proof.ResNorm
public import proofs.«01_k».proof.Proof.Gen.MixNormIdeal.Value
public import proofs.«01_k».proof.Proof.Gen.MixNormRefIdeal.Run
public import Idealize.ShloMosaic.Lib.Pipeline.ValueKit
public import Idealize.ShloMosaic.Lib.Pointwise

@[expose] public section

set_option maxRecDepth 16384

noncomputable section

namespace Cert.MixNormEq

open Idealize.ShloMosaic Idealize.ShloMosaic.TcCoe Idealize.SL.Sem
open Cert.Gating (word_eps)
open Cert.InDx (ms rs xn word_1024)
open Cert.ResNorm (xf)

section

open Cert.MixNormIdeal Cert.MixNormIdeal.Gen

variable (m : (ℓ : Loc nD τ sig) → Buf (Elt Ideal) ℓ) (c : Dev nD)

/-- The array, and the rows of the gain, the scale and the shift. -/
def X (r : Fin 4096) (k : Fin 1024) : EReal := (m ((c : Thread nD τ).loc main_arg0) : S4096x1024.Idx → EReal) (ix2 r k)
def G (k : Fin 1024) : EReal := (m ((c : Thread nD τ).loc main_arg1) : S1x1024.Idx → EReal) (ix2 0 k)
def Sc (k : Fin 1024) : EReal := (m ((c : Thread nD τ).loc main_arg2) : S1x1024.Idx → EReal) (ix2 0 k)
def Sh (k : Fin 1024) : EReal := (m ((c : Thread nD τ).loc main_arg3) : S1x1024.Idx → EReal) (ix2 0 k)

/-- Where each window's block lies at a grid point: rows `256 t` and on, or the whole row of weights. -/
theorem idx : ∀ t : Fin cfg0.N, win0_0.index t 0 = t.val ∧ win0_0.index t 1 = 0 ∧ win0_1.index t 0 = 0 ∧ win0_1.index t 1 = 0 ∧ win0_2.index t 0 = 0 ∧ win0_2.index t 1 = 0
    ∧ win0_3.index t 0 = 0
    ∧ win0_3.index t 1 = 0 ∧ win0_4.index t 0 = t.val ∧ win0_4.index t 1 = 0 :=
  (by decide +kernel : ∀ t : Fin grid0.N, win0_0.index t 0 = t.val ∧ win0_0.index t 1 = 0 ∧ win0_1.index t 0 = 0 ∧ win0_1.index t 1 = 0 ∧ win0_2.index t 0 = 0 ∧ win0_2.index t 1 = 0
    ∧ win0_3.index t 0 = 0
    ∧ win0_3.index t 1 = 0 ∧ win0_4.index t 0 = t.val ∧ win0_4.index t 1 = 0)

/-- Row `r` of the blocks at point `t`. -/
def trow (t : Fin cfg0.N) (r : Fin 256) : Fin 4096 :=
  ⟨256 * t.val + r.val, by have := t.isLt; have : cfg0.N = 16 := N_0; omega⟩

theorem blk_x (t : Fin cfg0.N) (r : Fin 256) (k : Fin 1024) : (iblk m c 0 t : S256x1024.Idx → EReal) (ix2 r k) = X m c (trow t r) k := by
  rw [X]
  blk_point [iblk, V, idx t, trow]

theorem blk_g (t : Fin cfg0.N) (k : Fin 1024) : (iblk m c 1 t : S1x1024.Idx → EReal) (ix2 0 k) = G m c k := by
  rw [G]
  blk_point [iblk, V, idx t]

theorem blk_sc (t : Fin cfg0.N) (k : Fin 1024) : (iblk m c 2 t : S1x1024.Idx → EReal) (ix2 0 k) = Sc m c k := by
  rw [Sc]
  blk_point [iblk, V, idx t]

theorem blk_sh (t : Fin cfg0.N) (k : Fin 1024) : (iblk m c 3 t : S1x1024.Idx → EReal) (ix2 0 k) = Sh m c k := by
  rw [Sh]
  blk_point [iblk, V, idx t]

/-- A grid point's rows. -/
theorem pay (t : Fin cfg0.N) (r : Fin 256) (k : Fin 1024) :
    k0_pay1 (iblk m c 0 t) (iblk m c 1 t) (iblk m c 2 t) (iblk m c 3 t) (ix2 r k) = xf (G m c) (Sc m c) (Sh m c) (X m c (trow t r)) k := by
  pointwise [k0_pay1]
  simp only [blk_x, blk_g, blk_sc, blk_sh, word_1024, word_eps]
  rfl

/-- The array after the run. -/
theorem arr : (dats m 0 c).arrAt 4 cfg0.N = fun i : S4096x1024.Idx => xf (G m c) (Sc m c) (Sh m c) (X m c (i 0)) (i 1) := by
  refine (dats m 0 c).arrAt_eq_of_covers 4 _ (by decide +kernel) fun t hf y => ?_
  blk_simp
  rw [after0_4]
  obtain ⟨r, k, rfl⟩ : ∃ r k, y = ix2 r k := ⟨y 0, y 1, by funext a; fin_cases a <;> rfl⟩
  frame_out
  refine (pay m c t r k).trans ?_
  congr 2 <;> apply Fin.ext <;> blk_simp [idx t, trow]
  exact congrArg (· + r.val) (Nat.mul_comm 256 t.val)

end

section

open Cert.MixNormRefIdeal Cert.MixNormRefIdeal.Gen Cert.MixNormRefIdeal.Value

section Stages

variable (a0 : FVec Ideal S4096x1024 .f32) (a1 a2 a3 : FVec Ideal S1x1024 .f32)

/-- One over the row's root mean square. -/
def rR : FVec Ideal S4096x1 .f32 := Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))
/-- The row, normalised, scaled and shifted. -/
def rF : FVec Ideal S4096x1024 .f32 :=
  addf (mulf (mulf (mulf a0 (broadcastInDim S4096x1024 ![0, 1] bcast_S4096x1_S4096x1024_0_1 (rR a0))) (broadcastInDim S4096x1024 ![0, 1] bcast_S1x1024_S4096x1024_0_1 a1))
    (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)

end Stages

/-- What the reference ends with, by name, and its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = truncf .bf16 (rF (m ((c.tc : Thread nD τ).loc main_arg0)) (m ((c.tc : Thread nD τ).loc main_arg1)) (m ((c.tc : Thread nD τ).loc main_arg2)) (m ((c.tc : Thread nD τ).loc main_arg3))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (run m ρ)

variable {a0 : FVec Ideal S4096x1024 .f32} {a1 a2 a3 : FVec Ideal S1x1024 .f32}
variable {x : Fin 4096 → Fin 1024 → EReal} {g sc sh : Fin 1024 → EReal}
variable (hx : ∀ r k, a0 (ix2 r k) = x r k) (hg : ∀ k, a1 (ix2 0 k) = g k) (hsc : ∀ k, a2 (ix2 0 k) = sc k) (hsh : ∀ k, a3 (ix2 0 k) = sh k)

include hx in
/-- One over the root mean square, row by row … -/
theorem rR_apply (r : Fin 4096) : rR a0 (ix2 r 0) = rs (x r) := by
  pointwise [rR]
  simp only [hx, word_1024, word_eps]
  rfl

include hx hg hsc hsh in
/-- … and the result. -/
theorem out_apply (r : Fin 4096) (k : Fin 1024) : truncf .bf16 (rF a0 a1 a2 a3) bitsLt_bf16_f32 (ix2 r k) = xf g sc sh (x r) k := by
  pointwise [rF]
  simp only [hx, hg, hsc, hsh, rR_apply hx]
  rfl

end

/-- The two programs, from the same arguments, end with the same array. -/
theorem equation : Cert.algebraic_MixNormIdeal_MixNormRefIdeal (hMixNormIdeal := Cert.MixNormIdeal.Gen.facts)
    (hMixNormRefIdeal := Cert.MixNormRefIdeal.Gen.facts) := by
  pair_intro
  · run_from Cert.MixNormIdeal.Value.run_blocks m g
  · run_from run_stages m' g'
    refine Eq.trans ?_ (arr m c).symm
    funext i
    obtain ⟨r, k, rfl⟩ : ∃ r k, i = ix2 r k := ⟨i 0, i 1, by funext a; fin_cases a <;> rfl⟩
    exact out_apply (x := X m c) (g := G m c) (sc := Sc m c) (sh := Sh m c) (fun _ _ => rfl) (fun _ => rfl) (fun _ => rfl) (fun _ => rfl) r k

end Cert.MixNormEq

end
-- ==== Proof.lean ====
/-
  The certificate of the backward calls: the frames of the programs, the named constants' sites,
  and the equality of the kernels' and the references' results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.FfnOutDx
public import proofs.«01_k».proof.Proof.Gen.FfnOutDx.Skeleton
public import proofs.«01_k».proof.Proof.Gen.FfnOutDx.Launch
public import proofs.«01_k».proof.Proof.Gen.FfnOutDx.Points
public import proofs.«01_k».proof.Proof.Gen.FfnOutDx.Frame
public import proofs.«01_k».proof.Proof.Gen.FfnOutDxIdeal
public import proofs.«01_k».proof.Proof.Gen.FfnOutDxIdeal.Skeleton
public import proofs.«01_k».proof.Proof.Gen.FfnOutDxIdeal.Launch
public import proofs.«01_k».proof.Proof.Gen.FfnOutDxIdeal.Points
public import proofs.«01_k».proof.Proof.Gen.FfnOutDxIdeal.Frame
public import proofs.«01_k».proof.Proof.Gen.FfnOutDxIdeal.Value
public import proofs.«01_k».proof.Proof.Gen.FfnOutDxRefIdeal
public import proofs.«01_k».proof.Proof.Gen.FfnOutDxRefIdeal.Run
public import proofs.«01_k».proof.Proof.Gen.FfnInDx
public import proofs.«01_k».proof.Proof.Gen.FfnInDx.Skeleton
public import proofs.«01_k».proof.Proof.Gen.FfnInDx.Launch
public import proofs.«01_k».proof.Proof.Gen.FfnInDx.Points
public import proofs.«01_k».proof.Proof.Gen.FfnInDx.Frame
public import proofs.«01_k».proof.Proof.Gen.FfnInDxIdeal
public import proofs.«01_k».proof.Proof.Gen.FfnInDxIdeal.Skeleton
public import proofs.«01_k».proof.Proof.Gen.FfnInDxIdeal.Launch
public import proofs.«01_k».proof.Proof.Gen.FfnInDxIdeal.Points
public import proofs.«01_k».proof.Proof.Gen.FfnInDxIdeal.Frame
public import proofs.«01_k».proof.Proof.Gen.FfnInDxIdeal.Value
public import proofs.«01_k».proof.Proof.Gen.FfnInDxRefIdeal
public import proofs.«01_k».proof.Proof.Gen.FfnInDxRefIdeal.Run
public import proofs.«01_k».proof.Proof.Gen.FfnOutDw
public import proofs.«01_k».proof.Proof.Gen.FfnOutDw.Skeleton
public import proofs.«01_k».proof.Proof.Gen.FfnOutDw.Launch
public import proofs.«01_k».proof.Proof.Gen.FfnOutDw.Points
public import proofs.«01_k».proof.Proof.Gen.FfnOutDw.Frame
public import proofs.«01_k».proof.Proof.Gen.FfnOutDwIdeal
public import proofs.«01_k».proof.Proof.Gen.FfnOutDwIdeal.Skeleton
public import proofs.«01_k».proof.Proof.Gen.FfnOutDwIdeal.Launch
public import proofs.«01_k».proof.Proof.Gen.FfnOutDwIdeal.Points
public import proofs.«01_k».proof.Proof.Gen.FfnOutDwIdeal.Frame
public import proofs.«01_k».proof.Proof.Gen.FfnOutDwIdeal.Value
public import proofs.«01_k».proof.Proof.Gen.FfnOutDwRefIdeal
public import proofs.«01_k».proof.Proof.Gen.FfnOutDwRefIdeal.Run
public import proofs.«01_k».proof.Proof.Gen.FfnInDw
public import proofs.«01_k».proof.Proof.Gen.FfnInDw.Skeleton
public import proofs.«01_k».proof.Proof.Gen.FfnInDw.Launch
public import proofs.«01_k».proof.Proof.Gen.FfnInDw.Points
public import proofs.«01_k».proof.Proof.Gen.FfnInDw.Frame
public import proofs.«01_k».proof.Proof.Gen.FfnInDwIdeal
public import proofs.«01_k».proof.Proof.Gen.FfnInDwIdeal.Skeleton
public import proofs.«01_k».proof.Proof.Gen.FfnInDwIdeal.Launch
public import proofs.«01_k».proof.Proof.Gen.FfnInDwIdeal.Points
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.Pw1Dw
public import proofs.«01_k».proof.Proof.Gen.Pw1Dw.Skeleton
public import proofs.«01_k».proof.Proof.Gen.Pw1Dw.Launch
public import proofs.«01_k».proof.Proof.Gen.Pw1Dw.Points
public import proofs.«01_k».proof.Proof.Gen.Pw1Dw.Frame
public import proofs.«01_k».proof.Proof.Gen.Pw1DwIdeal
public import proofs.«01_k».proof.Proof.Gen.Pw1DwIdeal.Skeleton
public import proofs.«01_k».proof.Proof.Gen.Pw1DwIdeal.Launch
public import proofs.«01_k».proof.Proof.Gen.Pw1DwIdeal.Points
public import proofs.«01_k».proof.Proof.Gen.Pw1DwIdeal.Frame
public import proofs.«01_k».proof.Proof.Gen.Pw1DwIdeal.Value
public import proofs.«01_k».proof.Proof.Gen.Pw1DwRefIdeal
public import proofs.«01_k».proof.Proof.Gen.Pw1DwRefIdeal.Run
public import proofs.«01_k».proof.Proof.Gen.QkvDw
public import proofs.«01_k».proof.Proof.Gen.QkvDw.Skeleton
public import proofs.«01_k».proof.Proof.Gen.QkvDw.Launch
public import proofs.«01_k».proof.Proof.Gen.QkvDw.Points
public import proofs.«01_k».proof.Proof.Gen.QkvDw.Frame
public import proofs.«01_k».proof.Proof.Gen.QkvDwIdeal
public import proofs.«01_k».proof.Proof.Gen.QkvDwIdeal.Skeleton
public import proofs.«01_k».proof.Proof.Gen.QkvDwIdeal.Launch
public import proofs.«01_k».proof.Proof.Gen.QkvDwIdeal.Points
public import proofs.«01_k».proof.Proof.Gen.QkvDwIdeal.Frame
public import proofs.«01_k».proof.Proof.Gen.QkvDwIdeal.Value
public import proofs.«01_k».proof.Proof.Gen.QkvDwRefIdeal
public import proofs.«01_k».proof.Proof.Gen.QkvDwRefIdeal.Run
public import proofs.«01_k».proof.Proof.Gen.QkvDx
public import proofs.«01_k».proof.Proof.Gen.QkvDx.Skeleton
public import proofs.«01_k».proof.Proof.Gen.QkvDx.Launch
public import proofs.«01_k».proof.Proof.Gen.QkvDx.Points
public import proofs.«01_k».proof.Proof.Gen.QkvDx.Frame
public import proofs.«01_k».proof.Proof.Gen.QkvDxIdeal
public import proofs.«01_k».proof.Proof.Gen.QkvDxIdeal.Skeleton
public import proofs.«01_k».proof.Proof.Gen.QkvDxIdeal.Launch
public import proofs.«01_k».proof.Proof.Gen.QkvDxIdeal.Points
public import proofs.«01_k».proof.Proof.Gen.QkvDxIdeal.Frame
public import proofs.«01_k».proof.Proof.Gen.QkvDxIdeal.Value
public import proofs.«01_k».proof.Proof.Gen.QkvDxRefIdeal
public import proofs.«01_k».proof.Proof.Gen.QkvDxRefIdeal.Run
public import proofs.«01_k».proof.Proof.Gen.MixOutDx
public import proofs.«01_k».proof.Proof.Gen.MixOutDx.Skeleton
public import proofs.«01_k».proof.Proof.Gen.MixOutDx.Launch
public import proofs.«01_k».proof.Proof.Gen.MixOutDx.Points
public import proofs.«01_k».proof.Proof.Gen.MixOutDx.Frame
public import proofs.«01_k».proof.Proof.Gen.MixOutDxIdeal
public import proofs.«01_k».proof.Proof.Gen.MixOutDxIdeal.Skeleton
public import proofs.«01_k».proof.Proof.Gen.MixOutDxIdeal.Launch
public import proofs.«01_k».proof.Proof.Gen.MixOutDxIdeal.Points
public import proofs.«01_k».proof.Proof.Gen.MixOutDxIdeal.Frame
public import proofs.«01_k».proof.Proof.Gen.MixOutDxIdeal.Value
public import proofs.«01_k».proof.Proof.Gen.MixOutDxRefIdeal
public import proofs.«01_k».proof.Proof.Gen.MixOutDxRefIdeal.Run
public import proofs.«01_k».proof.Proof.Gen.Pw1Dx
public import proofs.«01_k».proof.Proof.Gen.Pw1Dx.Skeleton
public import proofs.«01_k».proof.Proof.Gen.Pw1Dx.Launch
public import proofs.«01_k».proof.Proof.Gen.Pw1Dx.Points
public import proofs.«01_k».proof.Proof.Gen.Pw1Dx.Frame
public import proofs.«01_k».proof.Proof.Gen.Pw1DxIdeal
public import proofs.«01_k».proof.Proof.Gen.Pw1DxIdeal.Skeleton
public import proofs.«01_k».proof.Proof.Gen.Pw1DxIdeal.Launch
public import proofs.«01_k».proof.Proof.Gen.Pw1DxIdeal.Points
public import proofs.«01_k».proof.Proof.Gen.Pw1DxIdeal.Frame
public import proofs.«01_k».proof.Proof.Gen.Pw1DxIdeal.Value
public import proofs.«01_k».proof.Proof.Gen.Pw1DxRefIdeal
public import proofs.«01_k».proof.Proof.Gen.Pw1DxRefIdeal.Run
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.Pw2
public import proofs.«01_k».proof.Proof.Gen.Pw2.Skeleton
public import proofs.«01_k».proof.Proof.Gen.Pw2.Launch
public import proofs.«01_k».proof.Proof.Gen.Pw2.Points
public import proofs.«01_k».proof.Proof.Gen.Pw2.Frame
public import proofs.«01_k».proof.Proof.Gen.Pw2Ideal
public import proofs.«01_k».proof.Proof.Gen.Pw2Ideal.Skeleton
public import proofs.«01_k».proof.Proof.Gen.Pw2Ideal.Launch
public import proofs.«01_k».proof.Proof.Gen.Pw2Ideal.Points
public import proofs.«01_k».proof.Proof.Gen.Pw2Ideal.Frame
public import proofs.«01_k».proof.Proof.Gen.Pw2Ideal.Value
public import proofs.«01_k».proof.Proof.Gen.Pw2RefIdeal
public import proofs.«01_k».proof.Proof.Gen.Pw2RefIdeal.Run
public import proofs.«01_k».proof.Proof.Gen.Pw1
public import proofs.«01_k».proof.Proof.Gen.Pw1.Skeleton
public import proofs.«01_k».proof.Proof.Gen.Pw1.Launch
public import proofs.«01_k».proof.Proof.Gen.Pw1.Points
public import proofs.«01_k».proof.Proof.Gen.Pw1.Frame
public import proofs.«01_k».proof.Proof.Gen.Pw1Ideal
public import proofs.«01_k».proof.Proof.Gen.Pw1Ideal.Skeleton
public import proofs.«01_k».proof.Proof.Gen.Pw1Ideal.Launch
public import proofs.«01_k».proof.Proof.Gen.Pw1Ideal.Points
public import proofs.«01_k».proof.Proof.Gen.Pw1Ideal.Frame
public import proofs.«01_k».proof.Proof.Gen.Pw1Ideal.Value
public import proofs.«01_k».proof.Proof.Gen.Pw1RefIdeal
public import proofs.«01_k».proof.Proof.Gen.Pw1RefIdeal.Run
public import proofs.«01_k».proof.Proof.Gen.LossTail
public import proofs.«01_k».proof.Proof.Gen.LossTail.Skeleton
public import proofs.«01_k».proof.Proof.Gen.LossTail.Launch
public import proofs.«01_k».proof.Proof.Gen.LossTail.Points
public import proofs.«01_k».proof.Proof.Gen.LossTail.Frame
public import proofs.«01_k».proof.Proof.Gen.LossTailIdeal
public import proofs.«01_k».proof.Proof.Gen.LossTailIdeal.Skeleton
public import proofs.«01_k».proof.Proof.Gen.LossTailIdeal.Launch
public import proofs.«01_k».proof.Proof.Gen.LossTailIdeal.Points
public import proofs.«01_k».proof.Proof.Gen.LossTailIdeal.Frame
public import proofs.«01_k».proof.Proof.Gen.LossTailIdeal.Value
public import proofs.«01_k».proof.Proof.Gen.LossTailRefIdeal
public import proofs.«01_k».proof.Proof.Gen.LossTailRefIdeal.Run
public import proofs.«01_k».proof.Proof.Gen.AdamCCtx
public import proofs.«01_k».proof.Proof.Gen.AdamCCtx.Skeleton
public import proofs.«01_k».proof.Proof.Gen.AdamCCtx.Launch
public import proofs.«01_k».proof.Proof.Gen.AdamCCtx.Points
public import proofs.«01_k».proof.Proof.Gen.AdamCCtx.Frame
public import proofs.«01_k».proof.Proof.Gen.AdamCCtxIdeal
public import proofs.«01_k».proof.Proof.Gen.AdamCCtxIdeal.Skeleton
public import proofs.«01_k».proof.Proof.Gen.AdamCCtxIdeal.Launch
public import proofs.«01_k».proof.Proof.Gen.AdamCCtxIdeal.Points
public import proofs.«01_k».proof.Proof.Gen.AdamCCtxIdeal.Frame
public import proofs.«01_k».proof.Proof.Gen.AdamCCtxIdeal.Value
public import proofs.«01_k».proof.Proof.Gen.AdamCCtxRefIdeal
public import proofs.«01_k».proof.Proof.Gen.AdamCCtxRefIdeal.Run
public import proofs.«01_k».proof.Proof.Gen.AdamWMod
public import proofs.«01_k».proof.Proof.Gen.AdamWMod.Skeleton
public import proofs.«01_k».proof.Proof.Gen.AdamWMod.Launch
public import proofs.«01_k».proof.Proof.Gen.AdamWMod.Points
public import proofs.«01_k».proof.Proof.Gen.AdamWMod.Frame
public import proofs.«01_k».proof.Proof.Gen.AdamWModIdeal
public import proofs.«01_k».proof.Proof.Gen.AdamWModIdeal.Skeleton
public import proofs.«01_k».proof.Proof.Gen.AdamWModIdeal.Launch
public import proofs.«01_k».proof.Proof.Gen.AdamWModIdeal.Points
public import proofs.«01_k».proof.Proof.Gen.AdamWModIdeal.Frame
public import proofs.«01_k».proof.Proof.Gen.AdamWModIdeal.Value
public import proofs.«01_k».proof.Proof.Gen.AdamWModRefIdeal
public import proofs.«01_k».proof.Proof.Gen.AdamWModRefIdeal.Run
public import proofs.«01_k».proof.Proof.Gen.AdamBMod
public import proofs.«01_k».proof.Proof.Gen.AdamBMod.Skeleton
public import proofs.«01_k».proof.Proof.Gen.AdamBMod.Launch
public import proofs.«01_k».proof.Proof.Gen.AdamBMod.Points
public import proofs.«01_k».proof.Proof.Gen.AdamBMod.Frame
public import proofs.«01_k».proof.Proof.Gen.AdamBModIdeal
public import proofs.«01_k».proof.Proof.Gen.AdamBModIdeal.Skeleton
public import proofs.«01_k».proof.Proof.Gen.AdamBModIdeal.Launch
public import proofs.«01_k».proof.Proof.Gen.AdamBModIdeal.Points
public import proofs.«01_k».proof.Proof.Gen.AdamBModIdeal.Frame
public import proofs.«01_k».proof.Proof.Gen.AdamBModIdeal.Value
public import proofs.«01_k».proof.Proof.Gen.AdamBModRefIdeal
public import proofs.«01_k».proof.Proof.Gen.AdamBModRefIdeal.Run
public import proofs.«01_k».proof.Proof.Gen.AdamGMix
public import proofs.«01_k».proof.Proof.Gen.AdamGMix.Skeleton
public import proofs.«01_k».proof.Proof.Gen.AdamGMix.Launch
public import proofs.«01_k».proof.Proof.Gen.AdamGMix.Points
public import proofs.«01_k».proof.Proof.Gen.AdamGMix.Frame
public import proofs.«01_k».proof.Proof.Gen.AdamGMixIdeal
public import proofs.«01_k».proof.Proof.Gen.AdamGMixIdeal.Skeleton
public import proofs.«01_k».proof.Proof.Gen.AdamGMixIdeal.Launch
public import proofs.«01_k».proof.Proof.Gen.AdamGMixIdeal.Points
public import proofs.«01_k».proof.Proof.Gen.AdamGMixIdeal.Frame
public import proofs.«01_k».proof.Proof.Gen.AdamGMixIdeal.Value
public import proofs.«01_k».proof.Proof.Gen.AdamGMixRefIdeal
public import proofs.«01_k».proof.Proof.Gen.AdamGMixRefIdeal.Run
public import proofs.«01_k».proof.Proof.Gen.AdamFfnIn
public import proofs.«01_k».proof.Proof.Gen.AdamFfnIn.Skeleton
public import proofs.«01_k».proof.Proof.Gen.AdamFfnIn.Launch
public import proofs.«01_k».proof.Proof.Gen.AdamFfnIn.Points
public import proofs.«01_k».proof.Proof.Gen.AdamFfnIn.Frame
public import proofs.«01_k».proof.Proof.Gen.AdamFfnInIdeal
public import proofs.«01_k».proof.Proof.Gen.AdamFfnInIdeal.Skeleton
public import proofs.«01_k».proof.Proof.Gen.AdamFfnInIdeal.Launch
public import proofs.«01_k».proof.Proof.Gen.AdamFfnInIdeal.Points
public import proofs.«01_k».proof.Proof.Gen.AdamFfnInIdeal.Frame
public import proofs.«01_k».proof.Proof.Gen.AdamFfnInIdeal.Value
public import proofs.«01_k».proof.Proof.Gen.AdamFfnInRefIdeal
public import proofs.«01_k».proof.Proof.Gen.AdamFfnInRefIdeal.Run
public import proofs.«01_k».proof.Proof.Gen.AdamFfnOut
public import proofs.«01_k».proof.Proof.Gen.AdamFfnOut.Skeleton
public import proofs.«01_k».proof.Proof.Gen.AdamFfnOut.Launch
public import proofs.«01_k».proof.Proof.Gen.AdamFfnOut.Points
public import proofs.«01_k».proof.Proof.Gen.AdamFfnOut.Frame
public import proofs.«01_k».proof.Proof.Gen.AdamFfnOutIdeal
public import proofs.«01_k».proof.Proof.Gen.AdamFfnOutIdeal.Skeleton
public import proofs.«01_k».proof.Proof.Gen.AdamFfnOutIdeal.Launch
public import proofs.«01_k».proof.Proof.Gen.AdamFfnOutIdeal.Points
public import proofs.«01_k».proof.Proof.Gen.AdamFfnOutIdeal.Frame
public import proofs.«01_k».proof.Proof.Gen.AdamFfnOutIdeal.Value
public import proofs.«01_k».proof.Proof.Gen.AdamFfnOutRefIdeal
public import proofs.«01_k».proof.Proof.Gen.AdamFfnOutRefIdeal.Run
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInIdeal.Value
public import proofs.«01_k».proof.Proof.Gen.AdamWInRefIdeal
public import proofs.«01_k».proof.Proof.Gen.AdamWInRefIdeal.Run
public import proofs.«01_k».proof.Proof.Gen.AdamQGain
public import proofs.«01_k».proof.Proof.Gen.AdamQGain.Skeleton
public import proofs.«01_k».proof.Proof.Gen.AdamQGain.Launch
public import proofs.«01_k».proof.Proof.Gen.AdamQGain.Points
public import proofs.«01_k».proof.Proof.Gen.AdamQGain.Frame
public import proofs.«01_k».proof.Proof.Gen.AdamQGainIdeal
public import proofs.«01_k».proof.Proof.Gen.AdamQGainIdeal.Skeleton
public import proofs.«01_k».proof.Proof.Gen.AdamQGainIdeal.Launch
public import proofs.«01_k».proof.Proof.Gen.AdamQGainIdeal.Points
public import proofs.«01_k».proof.Proof.Gen.AdamQGainIdeal.Frame
public import proofs.«01_k».proof.Proof.Gen.AdamQGainIdeal.Value
public import proofs.«01_k».proof.Proof.Gen.AdamQGainRefIdeal
public import proofs.«01_k».proof.Proof.Gen.AdamQGainRefIdeal.Run
public import proofs.«01_k».proof.Proof.Gen.AdamWSp
public import proofs.«01_k».proof.Proof.Gen.AdamWSp.Skeleton
public import proofs.«01_k».proof.Proof.Gen.AdamWSp.Launch
public import proofs.«01_k».proof.Proof.Gen.AdamWSp.Points
public import proofs.«01_k».proof.Proof.Gen.AdamWSp.Frame
public import proofs.«01_k».proof.Proof.Gen.AdamWSpIdeal
public import proofs.«01_k».proof.Proof.Gen.AdamWSpIdeal.Skeleton
public import proofs.«01_k».proof.Proof.Gen.AdamWSpIdeal.Launch
public import proofs.«01_k».proof.Proof.Gen.AdamWSpIdeal.Points
public import proofs.«01_k».proof.Proof.Gen.AdamWSpIdeal.Frame
public import proofs.«01_k».proof.Proof.Gen.AdamWSpIdeal.Value
public import proofs.«01_k».proof.Proof.Gen.AdamWSpRefIdeal
public import proofs.«01_k».proof.Proof.Gen.AdamWSpRefIdeal.Run
public import proofs.«01_k».proof.Proof.Gen.AdamBSp
public import proofs.«01_k».proof.Proof.Gen.AdamBSp.Skeleton
public import proofs.«01_k».proof.Proof.Gen.AdamBSp.Launch
public import proofs.«01_k».proof.Proof.Gen.AdamBSp.Points
public import proofs.«01_k».proof.Proof.Gen.AdamBSp.Frame
public import proofs.«01_k».proof.Proof.Gen.AdamBSpIdeal
public import proofs.«01_k».proof.Proof.Gen.AdamBSpIdeal.Skeleton
public import proofs.«01_k».proof.Proof.Gen.AdamBSpIdeal.Launch
public import proofs.«01_k».proof.Proof.Gen.AdamBSpIdeal.Points
public import proofs.«01_k».proof.Proof.Gen.AdamBSpIdeal.Frame
public import proofs.«01_k».proof.Proof.Gen.AdamBSpIdeal.Value
public import proofs.«01_k».proof.Proof.Gen.AdamBSpRefIdeal
public import proofs.«01_k».proof.Proof.Gen.AdamBSpRefIdeal.Run
public import proofs.«01_k».proof.Proof.Gen.AdamWOut
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOutIdeal
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutIdeal.Value
public import proofs.«01_k».proof.Proof.Gen.AdamWOutRefIdeal
public import proofs.«01_k».proof.Proof.Gen.AdamWOutRefIdeal.Run
public import proofs.«01_k».proof.Proof.Gen.AdamWPw1
public import proofs.«01_k».proof.Proof.Gen.AdamWPw1.Skeleton
public import proofs.«01_k».proof.Proof.Gen.AdamWPw1.Launch
public import proofs.«01_k».proof.Proof.Gen.AdamWPw1.Points
public import proofs.«01_k».proof.Proof.Gen.AdamWPw1.Frame
public import proofs.«01_k».proof.Proof.Gen.AdamWPw1Ideal
public import proofs.«01_k».proof.Proof.Gen.AdamWPw1Ideal.Skeleton
public import proofs.«01_k».proof.Proof.Gen.AdamWPw1Ideal.Launch
public import proofs.«01_k».proof.Proof.Gen.AdamWPw1Ideal.Points
public import proofs.«01_k».proof.Proof.Gen.AdamWPw1Ideal.Frame
public import proofs.«01_k».proof.Proof.Gen.AdamWPw1Ideal.Value
public import proofs.«01_k».proof.Proof.Gen.AdamWPw1RefIdeal
public import proofs.«01_k».proof.Proof.Gen.AdamWPw1RefIdeal.Run
public import proofs.«01_k».proof.Proof.Gen.AdamBPw1
public import proofs.«01_k».proof.Proof.Gen.AdamBPw1.Skeleton
public import proofs.«01_k».proof.Proof.Gen.AdamBPw1.Launch
public import proofs.«01_k».proof.Proof.Gen.AdamBPw1.Points
public import proofs.«01_k».proof.Proof.Gen.AdamBPw1.Frame
public import proofs.«01_k».proof.Proof.Gen.AdamBPw1Ideal
public import proofs.«01_k».proof.Proof.Gen.AdamBPw1Ideal.Skeleton
public import proofs.«01_k».proof.Proof.Gen.AdamBPw1Ideal.Launch
public import proofs.«01_k».proof.Proof.Gen.AdamBPw1Ideal.Points
public import proofs.«01_k».proof.Proof.Gen.AdamBPw1Ideal.Frame
public import proofs.«01_k».proof.Proof.Gen.AdamBPw1Ideal.Value
public import proofs.«01_k».proof.Proof.Gen.AdamBPw1RefIdeal
public import proofs.«01_k».proof.Proof.Gen.AdamBPw1RefIdeal.Run
public import proofs.«01_k».proof.Proof.Gen.AdamWDw
public import proofs.«01_k».proof.Proof.Gen.AdamWDw.Skeleton
public import proofs.«01_k».proof.Proof.Gen.AdamWDw.Launch
public import proofs.«01_k».proof.Proof.Gen.AdamWDw.Points
public import proofs.«01_k».proof.Proof.Gen.AdamWDw.Frame
public import proofs.«01_k».proof.Proof.Gen.AdamWDwIdeal
public import proofs.«01_k».proof.Proof.Gen.AdamWDwIdeal.Skeleton
public import proofs.«01_k».proof.Proof.Gen.AdamWDwIdeal.Launch
public import proofs.«01_k».proof.Proof.Gen.AdamWDwIdeal.Points
public import proofs.«01_k».proof.Proof.Gen.AdamWDwIdeal.Frame
public import proofs.«01_k».proof.Proof.Gen.AdamWDwIdeal.Value
public import proofs.«01_k».proof.Proof.Gen.AdamWDwRefIdeal
public import proofs.«01_k».proof.Proof.Gen.AdamWDwRefIdeal.Run
public import proofs.«01_k».proof.Proof.Gen.AdamBDw
public import proofs.«01_k».proof.Proof.Gen.AdamBDw.Skeleton
public import proofs.«01_k».proof.Proof.Gen.AdamBDw.Launch
public import proofs.«01_k».proof.Proof.Gen.AdamBDw.Points
public import proofs.«01_k».proof.Proof.Gen.AdamBDw.Frame
public import proofs.«01_k».proof.Proof.Gen.AdamBDwIdeal
public import proofs.«01_k».proof.Proof.Gen.AdamBDwIdeal.Skeleton
public import proofs.«01_k».proof.Proof.Gen.AdamBDwIdeal.Launch
public import proofs.«01_k».proof.Proof.Gen.AdamBDwIdeal.Points
public import proofs.«01_k».proof.Proof.Gen.AdamBDwIdeal.Frame
public import proofs.«01_k».proof.Proof.Gen.AdamBDwIdeal.Value
public import proofs.«01_k».proof.Proof.Gen.AdamBDwRefIdeal
public import proofs.«01_k».proof.Proof.Gen.AdamBDwRefIdeal.Run
public import proofs.«01_k».proof.Proof.Gen.LnSilu
public import proofs.«01_k».proof.Proof.Gen.LnSilu.Skeleton
public import proofs.«01_k».proof.Proof.Gen.LnSilu.Launch
public import proofs.«01_k».proof.Proof.Gen.LnSilu.Points
public import proofs.«01_k».proof.Proof.Gen.LnSilu.Frame
public import proofs.«01_k».proof.Proof.Gen.LnSiluIdeal
public import proofs.«01_k».proof.Proof.Gen.LnSiluIdeal.Skeleton
public import proofs.«01_k».proof.Proof.Gen.LnSiluIdeal.Launch
public import proofs.«01_k».proof.Proof.Gen.LnSiluIdeal.Points
public import proofs.«01_k».proof.Proof.Gen.LnSiluIdeal.Frame
public import proofs.«01_k».proof.Proof.Gen.LnSiluIdeal.Value
public import proofs.«01_k».proof.Proof.Gen.LnSiluRefIdeal
public import proofs.«01_k».proof.Proof.Gen.LnSiluRefIdeal.Run
public import proofs.«01_k».proof.Proof.Gen.MixNorm
public import proofs.«01_k».proof.Proof.Gen.MixNorm.Skeleton
public import proofs.«01_k».proof.Proof.Gen.MixNorm.Launch
public import proofs.«01_k».proof.Proof.Gen.MixNorm.Points
public import proofs.«01_k».proof.Proof.Gen.MixNorm.Frame
public import proofs.«01_k».proof.Proof.Gen.MixNormIdeal
public import proofs.«01_k».proof.Proof.Gen.MixNormIdeal.Skeleton
public import proofs.«01_k».proof.Proof.Gen.MixNormIdeal.Launch
public import proofs.«01_k».proof.Proof.Gen.MixNormIdeal.Points
public import proofs.«01_k».proof.Proof.Gen.MixNormIdeal.Frame
public import proofs.«01_k».proof.Proof.Gen.MixNormIdeal.Value
public import proofs.«01_k».proof.Proof.Gen.MixNormRefIdeal
public import proofs.«01_k».proof.Proof.Gen.MixNormRefIdeal.Run
public import proofs.«01_k».proof.Proof.Equation
public import proofs.«01_k».proof.Proof.OutDxRef
public import proofs.«01_k».proof.Proof.InDxEq
public import proofs.«01_k».proof.Proof.OutDw
public import proofs.«01_k».proof.Proof.InDw
public import proofs.«01_k».proof.Proof.ProjDw
public import proofs.«01_k».proof.Proof.Pw1Dw
public import proofs.«01_k».proof.Proof.QkvDw
public import proofs.«01_k».proof.Proof.QkvDx
public import proofs.«01_k».proof.Proof.MixOutDx
public import proofs.«01_k».proof.Proof.Pw1DxEq
public import proofs.«01_k».proof.Proof.FfnIn
public import proofs.«01_k».proof.Proof.FfnOut
public import proofs.«01_k».proof.Proof.MixOut
public import proofs.«01_k».proof.Proof.Pw2
public import proofs.«01_k».proof.Proof.Pw1
public import proofs.«01_k».proof.Proof.LossTail
public import proofs.«01_k».proof.Proof.AdamCCtx
public import proofs.«01_k».proof.Proof.AdamWMod
public import proofs.«01_k».proof.Proof.AdamBMod
public import proofs.«01_k».proof.Proof.AdamGMix
public import proofs.«01_k».proof.Proof.AdamFfnIn
public import proofs.«01_k».proof.Proof.AdamFfnOut
public import proofs.«01_k».proof.Proof.AdamWIn
public import proofs.«01_k».proof.Proof.AdamQGain
public import proofs.«01_k».proof.Proof.AdamWSp
public import proofs.«01_k».proof.Proof.AdamBSp
public import proofs.«01_k».proof.Proof.AdamWOut
public import proofs.«01_k».proof.Proof.AdamWPw1
public import proofs.«01_k».proof.Proof.AdamBPw1
public import proofs.«01_k».proof.Proof.AdamWDw
public import proofs.«01_k».proof.Proof.AdamBDw
public import proofs.«01_k».proof.Proof.LnSilu
public import proofs.«01_k».proof.Proof.MixNorm
public import Idealize.ShloMosaic.Adequacy
public import Idealize.ShloMosaic.Init

@[expose] public section

noncomputable section

namespace Cert.Proof

open Idealize.ShloMosaic Idealize.SL.Sem Cert.Kernel

/-- The reference runs, keeps its arguments, and has no semaphore at all. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩) (Cert.ReferenceIdeal.Value.run m g)

/-- So does the reference of `FfnOutDx`. -/
theorem ffnOutDx_reference_frame : Cert.quiescent_FfnOutDxRefIdeal (hFfnOutDxRefIdeal := Cert.FfnOutDxRefIdeal.Gen.facts) := fun m g _ =>
  (θ_run Cert.FfnOutDxRefIdeal.defs _ _).mono
    (fun r h => ⟨fun c => (h c).2, sem_eq_zero_of_no_sems (by decide) r.2⟩) (Cert.FfnOutDxRefIdeal.Value.run m g)

/-- So does the reference of `FfnInDx`. -/
theorem ffnInDx_reference_frame : Cert.quiescent_FfnInDxRefIdeal (hFfnInDxRefIdeal := Cert.FfnInDxRefIdeal.Gen.facts) := fun m g _ =>
  (θ_run Cert.FfnInDxRefIdeal.defs _ _).mono
    (fun r h => ⟨fun c => (h c).2.2.2.2.2.2.2, sem_eq_zero_of_no_sems (by decide) r.2⟩) (Cert.FfnInDxRefIdeal.Value.run m g)

/-- So does the reference of `FfnOutDw`. -/
theorem ffnOutDw_reference_frame : Cert.quiescent_FfnOutDwRefIdeal (hFfnOutDwRefIdeal := Cert.FfnOutDwRefIdeal.Gen.facts) := fun m g _ =>
  (θ_run Cert.FfnOutDwRefIdeal.defs _ _).mono
    (fun r h => ⟨fun c => (h c).2, sem_eq_zero_of_no_sems (by decide) r.2⟩) (Cert.FfnOutDwRefIdeal.Value.run m g)

/-- So does the reference of `FfnInDw`. -/
theorem ffnInDw_reference_frame : Cert.quiescent_FfnInDwRefIdeal (hFfnInDwRefIdeal := Cert.FfnInDwRefIdeal.Gen.facts) := fun m g _ =>
  (θ_run Cert.FfnInDwRefIdeal.defs _ _).mono
    (fun r h => ⟨fun c => (h c).2, sem_eq_zero_of_no_sems (by decide) r.2⟩) (Cert.FfnInDwRefIdeal.Value.run m g)

/-- So does the reference of `ProjDw`. -/
theorem projDw_reference_frame : Cert.quiescent_ProjDwRefIdeal (hProjDwRefIdeal := Cert.ProjDwRefIdeal.Gen.facts) := fun m g _ =>
  (θ_run Cert.ProjDwRefIdeal.defs _ _).mono
    (fun r h => ⟨fun c => (h c).2, sem_eq_zero_of_no_sems (by decide) r.2⟩) (Cert.ProjDwRefIdeal.Value.run m g)

/-- So does the reference of `Pw1Dw`. -/
theorem pw1Dw_reference_frame : Cert.quiescent_Pw1DwRefIdeal (hPw1DwRefIdeal := Cert.Pw1DwRefIdeal.Gen.facts) := fun m g _ =>
  (θ_run Cert.Pw1DwRefIdeal.defs _ _).mono
    (fun r h => ⟨fun c => (h c).2, sem_eq_zero_of_no_sems (by decide) r.2⟩) (Cert.Pw1DwRefIdeal.Value.run m g)

/-- So does the reference of `QkvDw`. -/
theorem qkvDw_reference_frame : Cert.quiescent_QkvDwRefIdeal (hQkvDwRefIdeal := Cert.QkvDwRefIdeal.Gen.facts) := fun m g _ =>
  (θ_run Cert.QkvDwRefIdeal.defs _ _).mono
    (fun r h => ⟨fun c => (h c).2, sem_eq_zero_of_no_sems (by decide) r.2⟩) (Cert.QkvDwRefIdeal.Value.run m g)

/-- So does the reference of `QkvDx`. -/
theorem qkvDx_reference_frame : Cert.quiescent_QkvDxRefIdeal (hQkvDxRefIdeal := Cert.QkvDxRefIdeal.Gen.facts) := fun m g _ =>
  (θ_run Cert.QkvDxRefIdeal.defs _ _).mono
    (fun r h => ⟨fun c => (h c).2, sem_eq_zero_of_no_sems (by decide) r.2⟩) (Cert.QkvDxRefIdeal.Value.run m g)

/-- So does the reference of `MixOutDx`. -/
theorem mixOutDx_reference_frame : Cert.quiescent_MixOutDxRefIdeal (hMixOutDxRefIdeal := Cert.MixOutDxRefIdeal.Gen.facts) := fun m g _ =>
  (θ_run Cert.MixOutDxRefIdeal.defs _ _).mono
    (fun r h => ⟨fun c => (h c).2, sem_eq_zero_of_no_sems (by decide) r.2⟩) (Cert.MixOutDxRefIdeal.Value.run m g)

/-- So does the reference of `Pw1Dx`. -/
theorem pw1Dx_reference_frame : Cert.quiescent_Pw1DxRefIdeal (hPw1DxRefIdeal := Cert.Pw1DxRefIdeal.Gen.facts) := fun m g _ =>
  (θ_run Cert.Pw1DxRefIdeal.defs _ _).mono
    (fun r h => ⟨fun c => (h c).2.2.2.2.2.2.2, sem_eq_zero_of_no_sems (by decide) r.2⟩) (Cert.Pw1DxRefIdeal.Value.run m g)

/-- So does the reference of `FfnIn`. -/
theorem ffnIn_reference_frame : Cert.quiescent_FfnInRefIdeal (hFfnInRefIdeal := Cert.FfnInRefIdeal.Gen.facts) := fun m g _ =>
  (θ_run Cert.FfnInRefIdeal.defs _ _).mono
    (fun r h => ⟨fun c => (h c).2.2, sem_eq_zero_of_no_sems (by decide) r.2⟩) (Cert.FfnInRefIdeal.Value.run m g)

/-- So does the reference of `FfnOut`. -/
theorem ffnOut_reference_frame : Cert.quiescent_FfnOutRefIdeal (hFfnOutRefIdeal := Cert.FfnOutRefIdeal.Gen.facts) := fun m g _ =>
  (θ_run Cert.FfnOutRefIdeal.defs _ _).mono
    (fun r h => ⟨fun c => (h c).2.2.2, sem_eq_zero_of_no_sems (by decide) r.2⟩) (Cert.FfnOutRefIdeal.Value.run m g)

/-- So does the reference of `MixOut`. -/
theorem mixOut_reference_frame : Cert.quiescent_MixOutRefIdeal (hMixOutRefIdeal := Cert.MixOutRefIdeal.Gen.facts) := fun m g _ =>
  (θ_run Cert.MixOutRefIdeal.defs _ _).mono
    (fun r h => ⟨fun c => (h c).2.2.2, sem_eq_zero_of_no_sems (by decide) r.2⟩) (Cert.MixOutRefIdeal.Value.run m g)

/-- So does the reference of `Pw2`. -/
theorem pw2_reference_frame : Cert.quiescent_Pw2RefIdeal (hPw2RefIdeal := Cert.Pw2RefIdeal.Gen.facts) := fun m g _ =>
  (θ_run Cert.Pw2RefIdeal.defs _ _).mono
    (fun r h => ⟨fun c => (h c).2.2.2, sem_eq_zero_of_no_sems (by decide) r.2⟩) (Cert.Pw2RefIdeal.Value.run m g)

/-- So does the reference of `Pw1`. -/
theorem pw1_reference_frame : Cert.quiescent_Pw1RefIdeal (hPw1RefIdeal := Cert.Pw1RefIdeal.Gen.facts) := fun m g _ =>
  (θ_run Cert.Pw1RefIdeal.defs _ _).mono
    (fun r h => ⟨fun c => (h c).2.2, sem_eq_zero_of_no_sems (by decide) r.2⟩) (Cert.Pw1RefIdeal.Value.run m g)

/-- So does the reference of `LossTail`. -/
theorem lossTail_reference_frame : Cert.quiescent_LossTailRefIdeal (hLossTailRefIdeal := Cert.LossTailRefIdeal.Gen.facts) := fun m g _ =>
  (θ_run Cert.LossTailRefIdeal.defs _ _).mono
    (fun r h => ⟨fun c => (h c).2.2.2.2.2, sem_eq_zero_of_no_sems (by decide) r.2⟩) (Cert.LossTailRefIdeal.Value.run m g)

/-- So does the reference of `AdamCCtx`. -/
theorem adamCCtx_reference_frame : Cert.quiescent_AdamCCtxRefIdeal (hAdamCCtxRefIdeal := Cert.AdamCCtxRefIdeal.Gen.facts) := fun m g _ =>
  (θ_run Cert.AdamCCtxRefIdeal.defs _ _).mono
    (fun r h => ⟨fun c => (h c).2.2.2, sem_eq_zero_of_no_sems (by decide) r.2⟩) (Cert.AdamCCtxRefIdeal.Value.run m g)

/-- So does the reference of `AdamWMod`. -/
theorem adamWMod_reference_frame : Cert.quiescent_AdamWModRefIdeal (hAdamWModRefIdeal := Cert.AdamWModRefIdeal.Gen.facts) := fun m g _ =>
  (θ_run Cert.AdamWModRefIdeal.defs _ _).mono
    (fun r h => ⟨fun c => (h c).2.2.2, sem_eq_zero_of_no_sems (by decide) r.2⟩) (Cert.AdamWModRefIdeal.Value.run m g)

/-- So does the reference of `AdamBMod`. -/
theorem adamBMod_reference_frame : Cert.quiescent_AdamBModRefIdeal (hAdamBModRefIdeal := Cert.AdamBModRefIdeal.Gen.facts) := fun m g _ =>
  (θ_run Cert.AdamBModRefIdeal.defs _ _).mono
    (fun r h => ⟨fun c => (h c).2.2.2, sem_eq_zero_of_no_sems (by decide) r.2⟩) (Cert.AdamBModRefIdeal.Value.run m g)

/-- So does the reference of `AdamGMix`. -/
theorem adamGMix_reference_frame : Cert.quiescent_AdamGMixRefIdeal (hAdamGMixRefIdeal := Cert.AdamGMixRefIdeal.Gen.facts) := fun m g _ =>
  (θ_run Cert.AdamGMixRefIdeal.defs _ _).mono
    (fun r h => ⟨fun c => (h c).2.2.2, sem_eq_zero_of_no_sems (by decide) r.2⟩) (Cert.AdamGMixRefIdeal.Value.run m g)

/-- So does the reference of `AdamFfnIn`. -/
theorem adamFfnIn_reference_frame : Cert.quiescent_AdamFfnInRefIdeal (hAdamFfnInRefIdeal := Cert.AdamFfnInRefIdeal.Gen.facts) := fun m g _ =>
  (θ_run Cert.AdamFfnInRefIdeal.defs _ _).mono
    (fun r h => ⟨fun c => (h c).2.2.2, sem_eq_zero_of_no_sems (by decide) r.2⟩) (Cert.AdamFfnInRefIdeal.Value.run m g)

/-- So does the reference of `AdamFfnOut`. -/
theorem adamFfnOut_reference_frame : Cert.quiescent_AdamFfnOutRefIdeal (hAdamFfnOutRefIdeal := Cert.AdamFfnOutRefIdeal.Gen.facts) := fun m g _ =>
  (θ_run Cert.AdamFfnOutRefIdeal.defs _ _).mono
    (fun r h => ⟨fun c => (h c).2.2.2, sem_eq_zero_of_no_sems (by decide) r.2⟩) (Cert.AdamFfnOutRefIdeal.Value.run m g)

/-- So does the reference of `AdamWIn`. -/
theorem adamWIn_reference_frame : Cert.quiescent_AdamWInRefIdeal (hAdamWInRefIdeal := Cert.AdamWInRefIdeal.Gen.facts) := fun m g _ =>
  (θ_run Cert.AdamWInRefIdeal.defs _ _).mono
    (fun r h => ⟨fun c => (h c).2.2.2, sem_eq_zero_of_no_sems (by decide) r.2⟩) (Cert.AdamWInRefIdeal.Value.run m g)

/-- So does the reference of `AdamQGain`. -/
theorem adamQGain_reference_frame : Cert.quiescent_AdamQGainRefIdeal (hAdamQGainRefIdeal := Cert.AdamQGainRefIdeal.Gen.facts) := fun m g _ =>
  (θ_run Cert.AdamQGainRefIdeal.defs _ _).mono
    (fun r h => ⟨fun c => (h c).2.2.2, sem_eq_zero_of_no_sems (by decide) r.2⟩) (Cert.AdamQGainRefIdeal.Value.run m g)

/-- So does the reference of `AdamWSp`. -/
theorem adamWSp_reference_frame : Cert.quiescent_AdamWSpRefIdeal (hAdamWSpRefIdeal := Cert.AdamWSpRefIdeal.Gen.facts) := fun m g _ =>
  (θ_run Cert.AdamWSpRefIdeal.defs _ _).mono
    (fun r h => ⟨fun c => (h c).2.2.2, sem_eq_zero_of_no_sems (by decide) r.2⟩) (Cert.AdamWSpRefIdeal.Value.run m g)

/-- So does the reference of `AdamBSp`. -/
theorem adamBSp_reference_frame : Cert.quiescent_AdamBSpRefIdeal (hAdamBSpRefIdeal := Cert.AdamBSpRefIdeal.Gen.facts) := fun m g _ =>
  (θ_run Cert.AdamBSpRefIdeal.defs _ _).mono
    (fun r h => ⟨fun c => (h c).2.2.2, sem_eq_zero_of_no_sems (by decide) r.2⟩) (Cert.AdamBSpRefIdeal.Value.run m g)

/-- So does the reference of `AdamWOut`. -/
theorem adamWOut_reference_frame : Cert.quiescent_AdamWOutRefIdeal (hAdamWOutRefIdeal := Cert.AdamWOutRefIdeal.Gen.facts) := fun m g _ =>
  (θ_run Cert.AdamWOutRefIdeal.defs _ _).mono
    (fun r h => ⟨fun c => (h c).2.2.2, sem_eq_zero_of_no_sems (by decide) r.2⟩) (Cert.AdamWOutRefIdeal.Value.run m g)

/-- So does the reference of `AdamWPw1`. -/
theorem adamWPw1_reference_frame : Cert.quiescent_AdamWPw1RefIdeal (hAdamWPw1RefIdeal := Cert.AdamWPw1RefIdeal.Gen.facts) := fun m g _ =>
  (θ_run Cert.AdamWPw1RefIdeal.defs _ _).mono
    (fun r h => ⟨fun c => (h c).2.2.2, sem_eq_zero_of_no_sems (by decide) r.2⟩) (Cert.AdamWPw1RefIdeal.Value.run m g)

/-- So does the reference of `AdamBPw1`. -/
theorem adamBPw1_reference_frame : Cert.quiescent_AdamBPw1RefIdeal (hAdamBPw1RefIdeal := Cert.AdamBPw1RefIdeal.Gen.facts) := fun m g _ =>
  (θ_run Cert.AdamBPw1RefIdeal.defs _ _).mono
    (fun r h => ⟨fun c => (h c).2.2.2, sem_eq_zero_of_no_sems (by decide) r.2⟩) (Cert.AdamBPw1RefIdeal.Value.run m g)

/-- So does the reference of `AdamWDw`. -/
theorem adamWDw_reference_frame : Cert.quiescent_AdamWDwRefIdeal (hAdamWDwRefIdeal := Cert.AdamWDwRefIdeal.Gen.facts) := fun m g _ =>
  (θ_run Cert.AdamWDwRefIdeal.defs _ _).mono
    (fun r h => ⟨fun c => (h c).2.2.2, sem_eq_zero_of_no_sems (by decide) r.2⟩) (Cert.AdamWDwRefIdeal.Value.run m g)

/-- So does the reference of `AdamBDw`. -/
theorem adamBDw_reference_frame : Cert.quiescent_AdamBDwRefIdeal (hAdamBDwRefIdeal := Cert.AdamBDwRefIdeal.Gen.facts) := fun m g _ =>
  (θ_run Cert.AdamBDwRefIdeal.defs _ _).mono
    (fun r h => ⟨fun c => (h c).2.2.2, sem_eq_zero_of_no_sems (by decide) r.2⟩) (Cert.AdamBDwRefIdeal.Value.run m g)

/-- So does the reference of `LnSilu`. -/
theorem lnSilu_reference_frame : Cert.quiescent_LnSiluRefIdeal (hLnSiluRefIdeal := Cert.LnSiluRefIdeal.Gen.facts) := fun m g _ =>
  (θ_run Cert.LnSiluRefIdeal.defs _ _).mono
    (fun r h => ⟨fun c => (h c).2, sem_eq_zero_of_no_sems (by decide) r.2⟩) (Cert.LnSiluRefIdeal.Value.run m g)

/-- So does the reference of `MixNorm`. -/
theorem mixNorm_reference_frame : Cert.quiescent_MixNormRefIdeal (hMixNormRefIdeal := Cert.MixNormRefIdeal.Gen.facts) := fun m g _ =>
  (θ_run Cert.MixNormRefIdeal.defs _ _).mono
    (fun r h => ⟨fun c => (h c).2, sem_eq_zero_of_no_sems (by decide) r.2⟩) (Cert.MixNormRefIdeal.Value.run m g)

/-- Everything claimed. -/
theorem claim : Cert.Claim :=
  ⟨Cert.Kernel.Gen.facts, Cert.KernelIdeal.Gen.facts, Cert.ReferenceIdeal.Gen.facts,
    Cert.FfnOutDx.Gen.facts, Cert.FfnOutDxIdeal.Gen.facts, Cert.FfnOutDxRefIdeal.Gen.facts,
    Cert.FfnInDx.Gen.facts, Cert.FfnInDxIdeal.Gen.facts, Cert.FfnInDxRefIdeal.Gen.facts,
    Cert.FfnOutDw.Gen.facts, Cert.FfnOutDwIdeal.Gen.facts, Cert.FfnOutDwRefIdeal.Gen.facts,
    Cert.FfnInDw.Gen.facts, Cert.FfnInDwIdeal.Gen.facts, Cert.FfnInDwRefIdeal.Gen.facts,
    Cert.ProjDw.Gen.facts, Cert.ProjDwIdeal.Gen.facts, Cert.ProjDwRefIdeal.Gen.facts,
    Cert.Pw1Dw.Gen.facts, Cert.Pw1DwIdeal.Gen.facts, Cert.Pw1DwRefIdeal.Gen.facts,
    Cert.QkvDw.Gen.facts, Cert.QkvDwIdeal.Gen.facts, Cert.QkvDwRefIdeal.Gen.facts,
    Cert.QkvDx.Gen.facts, Cert.QkvDxIdeal.Gen.facts, Cert.QkvDxRefIdeal.Gen.facts,
    Cert.MixOutDx.Gen.facts, Cert.MixOutDxIdeal.Gen.facts, Cert.MixOutDxRefIdeal.Gen.facts,
    Cert.Pw1Dx.Gen.facts, Cert.Pw1DxIdeal.Gen.facts, Cert.Pw1DxRefIdeal.Gen.facts,
    Cert.FfnIn.Gen.facts, Cert.FfnInIdeal.Gen.facts, Cert.FfnInRefIdeal.Gen.facts,
    Cert.FfnOut.Gen.facts, Cert.FfnOutIdeal.Gen.facts, Cert.FfnOutRefIdeal.Gen.facts,
    Cert.MixOut.Gen.facts, Cert.MixOutIdeal.Gen.facts, Cert.MixOutRefIdeal.Gen.facts,
    Cert.Pw2.Gen.facts, Cert.Pw2Ideal.Gen.facts, Cert.Pw2RefIdeal.Gen.facts,
    Cert.Pw1.Gen.facts, Cert.Pw1Ideal.Gen.facts, Cert.Pw1RefIdeal.Gen.facts,
    Cert.LossTail.Gen.facts, Cert.LossTailIdeal.Gen.facts, Cert.LossTailRefIdeal.Gen.facts,
    Cert.AdamCCtx.Gen.facts, Cert.AdamCCtxIdeal.Gen.facts, Cert.AdamCCtxRefIdeal.Gen.facts,
    Cert.AdamWMod.Gen.facts, Cert.AdamWModIdeal.Gen.facts, Cert.AdamWModRefIdeal.Gen.facts,
    Cert.AdamBMod.Gen.facts, Cert.AdamBModIdeal.Gen.facts, Cert.AdamBModRefIdeal.Gen.facts,
    Cert.AdamGMix.Gen.facts, Cert.AdamGMixIdeal.Gen.facts, Cert.AdamGMixRefIdeal.Gen.facts,
    Cert.AdamFfnIn.Gen.facts, Cert.AdamFfnInIdeal.Gen.facts, Cert.AdamFfnInRefIdeal.Gen.facts,
    Cert.AdamFfnOut.Gen.facts, Cert.AdamFfnOutIdeal.Gen.facts, Cert.AdamFfnOutRefIdeal.Gen.facts,
    Cert.AdamWIn.Gen.facts, Cert.AdamWInIdeal.Gen.facts, Cert.AdamWInRefIdeal.Gen.facts,
    Cert.AdamQGain.Gen.facts, Cert.AdamQGainIdeal.Gen.facts, Cert.AdamQGainRefIdeal.Gen.facts,
    Cert.AdamWSp.Gen.facts, Cert.AdamWSpIdeal.Gen.facts, Cert.AdamWSpRefIdeal.Gen.facts,
    Cert.AdamBSp.Gen.facts, Cert.AdamBSpIdeal.Gen.facts, Cert.AdamBSpRefIdeal.Gen.facts,
    Cert.AdamWOut.Gen.facts, Cert.AdamWOutIdeal.Gen.facts, Cert.AdamWOutRefIdeal.Gen.facts,
    Cert.AdamWPw1.Gen.facts, Cert.AdamWPw1Ideal.Gen.facts, Cert.AdamWPw1RefIdeal.Gen.facts,
    Cert.AdamBPw1.Gen.facts, Cert.AdamBPw1Ideal.Gen.facts, Cert.AdamBPw1RefIdeal.Gen.facts,
    Cert.AdamWDw.Gen.facts, Cert.AdamWDwIdeal.Gen.facts, Cert.AdamWDwRefIdeal.Gen.facts,
    Cert.AdamBDw.Gen.facts, Cert.AdamBDwIdeal.Gen.facts, Cert.AdamBDwRefIdeal.Gen.facts,
    Cert.LnSilu.Gen.facts, Cert.LnSiluIdeal.Gen.facts, Cert.LnSiluRefIdeal.Gen.facts,
    Cert.MixNorm.Gen.facts, Cert.MixNormIdeal.Gen.facts, Cert.MixNormRefIdeal.Gen.facts,
    Cert.Gating.pre_facts, Cert.OutDx.pre_facts,
    fun m ρ _ => Cert.Kernel.Gen.frame m ρ,
    fun m ρ _ => Cert.KernelIdeal.Gen.frame m ρ,
    fun m ρ _ => Cert.KernelIdeal.Gen.frame m ρ,
    reference_frame,
    fun m g _ => reference_frame m g trivial,
    fun m ρ _ => Cert.FfnOutDx.Gen.frame m ρ,
    fun m ρ _ => Cert.FfnOutDxIdeal.Gen.frame m ρ,
    fun m ρ _ => Cert.FfnOutDxIdeal.Gen.frame m ρ,
    ffnOutDx_reference_frame,
    fun m g _ => ffnOutDx_reference_frame m g trivial,
    fun m ρ _ => Cert.FfnInDx.Gen.frame m ρ,
    fun m ρ _ => Cert.FfnInDxIdeal.Gen.frame m ρ,
    ffnInDx_reference_frame,
    fun m ρ _ => Cert.FfnOutDw.Gen.frame m ρ,
    fun m ρ _ => Cert.FfnOutDwIdeal.Gen.frame m ρ,
    ffnOutDw_reference_frame,
    fun m ρ _ => Cert.FfnInDw.Gen.frame m ρ,
    fun m ρ _ => Cert.FfnInDwIdeal.Gen.frame m ρ,
    ffnInDw_reference_frame,
    fun m ρ _ => Cert.ProjDw.Gen.frame m ρ,
    fun m ρ _ => Cert.ProjDwIdeal.Gen.frame m ρ,
    projDw_reference_frame,
    fun m ρ _ => Cert.Pw1Dw.Gen.frame m ρ,
    fun m ρ _ => Cert.Pw1DwIdeal.Gen.frame m ρ,
    pw1Dw_reference_frame,
    fun m ρ _ => Cert.QkvDw.Gen.frame m ρ,
    fun m ρ _ => Cert.QkvDwIdeal.Gen.frame m ρ,
    qkvDw_reference_frame,
    fun m ρ _ => Cert.QkvDx.Gen.frame m ρ,
    fun m ρ _ => Cert.QkvDxIdeal.Gen.frame m ρ,
    qkvDx_reference_frame,
    fun m ρ _ => Cert.MixOutDx.Gen.frame m ρ,
    fun m ρ _ => Cert.MixOutDxIdeal.Gen.frame m ρ,
    mixOutDx_reference_frame,
    fun m ρ _ => Cert.Pw1Dx.Gen.frame m ρ,
    fun m ρ _ => Cert.Pw1DxIdeal.Gen.frame m ρ,
    pw1Dx_reference_frame,
    fun m ρ _ => Cert.FfnIn.Gen.frame m ρ,
    fun m ρ _ => Cert.FfnInIdeal.Gen.frame m ρ,
    ffnIn_reference_frame,
    fun m ρ _ => Cert.FfnOut.Gen.frame m ρ,
    fun m ρ _ => Cert.FfnOutIdeal.Gen.frame m ρ,
    ffnOut_reference_frame,
    fun m ρ _ => Cert.MixOut.Gen.frame m ρ,
    fun m ρ _ => Cert.MixOutIdeal.Gen.frame m ρ,
    mixOut_reference_frame,
    fun m ρ _ => Cert.Pw2.Gen.frame m ρ,
    fun m ρ _ => Cert.Pw2Ideal.Gen.frame m ρ,
    pw2_reference_frame,
    fun m ρ _ => Cert.Pw1.Gen.frame m ρ,
    fun m ρ _ => Cert.Pw1Ideal.Gen.frame m ρ,
    pw1_reference_frame,
    fun m ρ _ => Cert.LossTail.Gen.frame m ρ,
    fun m ρ _ => Cert.LossTailIdeal.Gen.frame m ρ,
    lossTail_reference_frame,
    fun m ρ _ => Cert.AdamCCtx.Gen.frame m ρ,
    fun m ρ _ => Cert.AdamCCtxIdeal.Gen.frame m ρ,
    adamCCtx_reference_frame,
    fun m ρ _ => Cert.AdamWMod.Gen.frame m ρ,
    fun m ρ _ => Cert.AdamWModIdeal.Gen.frame m ρ,
    adamWMod_reference_frame,
    fun m ρ _ => Cert.AdamBMod.Gen.frame m ρ,
    fun m ρ _ => Cert.AdamBModIdeal.Gen.frame m ρ,
    adamBMod_reference_frame,
    fun m ρ _ => Cert.AdamGMix.Gen.frame m ρ,
    fun m ρ _ => Cert.AdamGMixIdeal.Gen.frame m ρ,
    adamGMix_reference_frame,
    fun m ρ _ => Cert.AdamFfnIn.Gen.frame m ρ,
    fun m ρ _ => Cert.AdamFfnInIdeal.Gen.frame m ρ,
    adamFfnIn_reference_frame,
    fun m ρ _ => Cert.AdamFfnOut.Gen.frame m ρ,
    fun m ρ _ => Cert.AdamFfnOutIdeal.Gen.frame m ρ,
    adamFfnOut_reference_frame,
    fun m ρ _ => Cert.AdamWIn.Gen.frame m ρ,
    fun m ρ _ => Cert.AdamWInIdeal.Gen.frame m ρ,
    adamWIn_reference_frame,
    fun m ρ _ => Cert.AdamQGain.Gen.frame m ρ,
    fun m ρ _ => Cert.AdamQGainIdeal.Gen.frame m ρ,
    adamQGain_reference_frame,
    fun m ρ _ => Cert.AdamWSp.Gen.frame m ρ,
    fun m ρ _ => Cert.AdamWSpIdeal.Gen.frame m ρ,
    adamWSp_reference_frame,
    fun m ρ _ => Cert.AdamBSp.Gen.frame m ρ,
    fun m ρ _ => Cert.AdamBSpIdeal.Gen.frame m ρ,
    adamBSp_reference_frame,
    fun m ρ _ => Cert.AdamWOut.Gen.frame m ρ,
    fun m ρ _ => Cert.AdamWOutIdeal.Gen.frame m ρ,
    adamWOut_reference_frame,
    fun m ρ _ => Cert.AdamWPw1.Gen.frame m ρ,
    fun m ρ _ => Cert.AdamWPw1Ideal.Gen.frame m ρ,
    adamWPw1_reference_frame,
    fun m ρ _ => Cert.AdamBPw1.Gen.frame m ρ,
    fun m ρ _ => Cert.AdamBPw1Ideal.Gen.frame m ρ,
    adamBPw1_reference_frame,
    fun m ρ _ => Cert.AdamWDw.Gen.frame m ρ,
    fun m ρ _ => Cert.AdamWDwIdeal.Gen.frame m ρ,
    adamWDw_reference_frame,
    fun m ρ _ => Cert.AdamBDw.Gen.frame m ρ,
    fun m ρ _ => Cert.AdamBDwIdeal.Gen.frame m ρ,
    adamBDw_reference_frame,
    fun m ρ _ => Cert.LnSilu.Gen.frame m ρ,
    fun m ρ _ => Cert.LnSiluIdeal.Gen.frame m ρ,
    lnSilu_reference_frame,
    fun m ρ _ => Cert.MixNorm.Gen.frame m ρ,
    fun m ρ _ => Cert.MixNormIdeal.Gen.frame m ρ,
    mixNorm_reference_frame,
    ⟨IdealRules.named_const.statement Cert.KernelIdeal.κ "gelu_a" .f32 _ _ rfl,
      IdealRules.named_const.statement Cert.KernelIdeal.κ "gelu_3a" .f32 _ _ rfl⟩,
    (haveI := Cert.Gating.pre_facts; Cert.Gating.equation),
    trivial,
    (haveI := Cert.OutDx.pre_facts; Cert.OutDx.equation),
    trivial,
    Cert.InDx.equation,
    trivial,
    Cert.OutDw.equation,
    trivial,
    Cert.InDw.equation,
    trivial,
    Cert.ProjDwEq.equation,
    trivial,
    Cert.Pw1DwEq.equation,
    trivial,
    Cert.QkvDwEq.equation,
    trivial,
    Cert.QkvDxEq.equation,
    trivial,
    Cert.MixOutDxEq.equation,
    trivial,
    Cert.Pw1DxEq.equation,
    trivial,
    Cert.FfnInEq.equation,
    trivial,
    Cert.FfnOutEq.equation,
    trivial,
    Cert.MixOutEq.equation,
    trivial,
    Cert.Pw2Eq.equation,
    trivial,
    Cert.Pw1Eq.equation,
    trivial,
    Cert.LossTailEq.equation,
    trivial,
    Cert.AdamCCtxEq.equation,
    trivial,
    Cert.AdamWModEq.equation,
    trivial,
    Cert.AdamBModEq.equation,
    trivial,
    Cert.AdamGMixEq.equation,
    trivial,
    Cert.AdamFfnInEq.equation,
    trivial,
    Cert.AdamFfnOutEq.equation,
    trivial,
    Cert.AdamWInEq.equation,
    trivial,
    Cert.AdamQGainEq.equation,
    trivial,
    Cert.AdamWSpEq.equation,
    trivial,
    Cert.AdamBSpEq.equation,
    trivial,
    Cert.AdamWOutEq.equation,
    trivial,
    Cert.AdamWPw1Eq.equation,
    trivial,
    Cert.AdamBPw1Eq.equation,
    trivial,
    Cert.AdamWDwEq.equation,
    trivial,
    Cert.AdamBDwEq.equation,
    trivial,
    Cert.LnSiluEq.equation,
    trivial,
    Cert.MixNormEq.equation⟩

end Cert.Proof

end
